-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_InAbDx (m : (ℓ : Loc Cert.InAbDx.nD Cert.InAbDx.τ Cert.InAbDx.sig) → Buf (Elt Bits) ℓ) : Prop :=
  True

def Pre_InAbDxIdeal (m : (ℓ : Loc Cert.InAbDxIdeal.nD Cert.InAbDxIdeal.τ Cert.InAbDxIdeal.sig) → Buf (Elt Ideal) ℓ) : Prop :=
  True

def Pre_InAbDxRefIdeal (m : (ℓ : Loc Cert.InAbDxRefIdeal.nD Cert.InAbDxRefIdeal.τ Cert.InAbDxRefIdeal.sig) → Buf (Elt Ideal) ℓ) : Prop :=
  True

def Pre_InAbDw (m : (ℓ : Loc Cert.InAbDw.nD Cert.InAbDw.τ Cert.InAbDw.sig) → Buf (Elt Bits) ℓ) : Prop :=
  True

def Pre_InAbDwIdeal (m : (ℓ : Loc Cert.InAbDwIdeal.nD Cert.InAbDwIdeal.τ Cert.InAbDwIdeal.sig) → Buf (Elt Ideal) ℓ) : Prop :=
  True

def Pre_InAbDwRefIdeal (m : (ℓ : Loc Cert.InAbDwRefIdeal.nD Cert.InAbDwRefIdeal.τ Cert.InAbDwRefIdeal.sig) → Buf (Elt Ideal) ℓ) : Prop :=
  True

def Pre_InCd (m : (ℓ : Loc Cert.InCd.nD Cert.InCd.τ Cert.InCd.sig) → Buf (Elt Bits) ℓ) : Prop :=
  True

def Pre_InCdIdeal (m : (ℓ : Loc Cert.InCdIdeal.nD Cert.InCdIdeal.τ Cert.InCdIdeal.sig) → Buf (Elt Ideal) ℓ) : Prop :=
  True

def Pre_InCdRefIdeal (m : (ℓ : Loc Cert.InCdRefIdeal.nD Cert.InCdRefIdeal.τ Cert.InCdRefIdeal.sig) → Buf (Elt Ideal) ℓ) : Prop :=
  True

def Pre_InCdDx (m : (ℓ : Loc Cert.InCdDx.nD Cert.InCdDx.τ Cert.InCdDx.sig) → Buf (Elt Bits) ℓ) : Prop :=
  True

def Pre_InCdDxIdeal (m : (ℓ : Loc Cert.InCdDxIdeal.nD Cert.InCdDxIdeal.τ Cert.InCdDxIdeal.sig) → Buf (Elt Ideal) ℓ) : Prop :=
  True

def Pre_InCdDxRefIdeal (m : (ℓ : Loc Cert.InCdDxRefIdeal.nD Cert.InCdDxRefIdeal.τ Cert.InCdDxRefIdeal.sig) → Buf (Elt Ideal) ℓ) : Prop :=
  True

def Pre_InCdDw (m : (ℓ : Loc Cert.InCdDw.nD Cert.InCdDw.τ Cert.InCdDw.sig) → Buf (Elt Bits) ℓ) : Prop :=
  True

def Pre_InCdDwIdeal (m : (ℓ : Loc Cert.InCdDwIdeal.nD Cert.InCdDwIdeal.τ Cert.InCdDwIdeal.sig) → Buf (Elt Ideal) ℓ) : Prop :=
  True

def Pre_InCdDwRefIdeal (m : (ℓ : Loc Cert.InCdDwRefIdeal.nD Cert.InCdDwRefIdeal.τ Cert.InCdDwRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_OutAbDx (m : (ℓ : Loc Cert.OutAbDx.nD Cert.OutAbDx.τ Cert.OutAbDx.sig) → Buf (Elt Bits) ℓ) : Prop :=
  True

def Pre_OutAbDxIdeal (m : (ℓ : Loc Cert.OutAbDxIdeal.nD Cert.OutAbDxIdeal.τ Cert.OutAbDxIdeal.sig) → Buf (Elt Ideal) ℓ) : Prop :=
  True

def Pre_OutAbDxRefIdeal (m : (ℓ : Loc Cert.OutAbDxRefIdeal.nD Cert.OutAbDxRefIdeal.τ Cert.OutAbDxRefIdeal.sig) → Buf (Elt Ideal) ℓ) : Prop :=
  True

def Pre_OutAbDw (m : (ℓ : Loc Cert.OutAbDw.nD Cert.OutAbDw.τ Cert.OutAbDw.sig) → Buf (Elt Bits) ℓ) : Prop :=
  True

def Pre_OutAbDwIdeal (m : (ℓ : Loc Cert.OutAbDwIdeal.nD Cert.OutAbDwIdeal.τ Cert.OutAbDwIdeal.sig) → Buf (Elt Ideal) ℓ) : Prop :=
  True

def Pre_OutAbDwRefIdeal (m : (ℓ : Loc Cert.OutAbDwRefIdeal.nD Cert.OutAbDwRefIdeal.τ Cert.OutAbDwRefIdeal.sig) → Buf (Elt Ideal) ℓ) : Prop :=
  True

def Pre_OutCd (m : (ℓ : Loc Cert.OutCd.nD Cert.OutCd.τ Cert.OutCd.sig) → Buf (Elt Bits) ℓ) : Prop :=
  True

def Pre_OutCdIdeal (m : (ℓ : Loc Cert.OutCdIdeal.nD Cert.OutCdIdeal.τ Cert.OutCdIdeal.sig) → Buf (Elt Ideal) ℓ) : Prop :=
  True

def Pre_OutCdRefIdeal (m : (ℓ : Loc Cert.OutCdRefIdeal.nD Cert.OutCdRefIdeal.τ Cert.OutCdRefIdeal.sig) → Buf (Elt Ideal) ℓ) : Prop :=
  True

def Pre_OutCdDx (m : (ℓ : Loc Cert.OutCdDx.nD Cert.OutCdDx.τ Cert.OutCdDx.sig) → Buf (Elt Bits) ℓ) : Prop :=
  True

def Pre_OutCdDxIdeal (m : (ℓ : Loc Cert.OutCdDxIdeal.nD Cert.OutCdDxIdeal.τ Cert.OutCdDxIdeal.sig) → Buf (Elt Ideal) ℓ) : Prop :=
  True

def Pre_OutCdDxRefIdeal (m : (ℓ : Loc Cert.OutCdDxRefIdeal.nD Cert.OutCdDxRefIdeal.τ Cert.OutCdDxRefIdeal.sig) → Buf (Elt Ideal) ℓ) : Prop :=
  True

def Pre_OutCdDw (m : (ℓ : Loc Cert.OutCdDw.nD Cert.OutCdDw.τ Cert.OutCdDw.sig) → Buf (Elt Bits) ℓ) : Prop :=
  True

def Pre_OutCdDwIdeal (m : (ℓ : Loc Cert.OutCdDwIdeal.nD Cert.OutCdDwIdeal.τ Cert.OutCdDwIdeal.sig) → Buf (Elt Ideal) ℓ) : Prop :=
  True

def Pre_OutCdDwRefIdeal (m : (ℓ : Loc Cert.OutCdDwRefIdeal.nD Cert.OutCdDwRefIdeal.τ Cert.OutCdDwRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_XqDx (m : (ℓ : Loc Cert.XqDx.nD Cert.XqDx.τ Cert.XqDx.sig) → Buf (Elt Bits) ℓ) : Prop :=
  True

def Pre_XqDxIdeal (m : (ℓ : Loc Cert.XqDxIdeal.nD Cert.XqDxIdeal.τ Cert.XqDxIdeal.sig) → Buf (Elt Ideal) ℓ) : Prop :=
  True

def Pre_XqDxRefIdeal (m : (ℓ : Loc Cert.XqDxRefIdeal.nD Cert.XqDxRefIdeal.τ Cert.XqDxRefIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwRefIdeal (m : (ℓ : Loc Cert.XqDwRefIdeal.nD Cert.XqDwRefIdeal.τ Cert.XqDwRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_XoDx (m : (ℓ : Loc Cert.XoDx.nD Cert.XoDx.τ Cert.XoDx.sig) → Buf (Elt Bits) ℓ) : Prop :=
  True

def Pre_XoDxIdeal (m : (ℓ : Loc Cert.XoDxIdeal.nD Cert.XoDxIdeal.τ Cert.XoDxIdeal.sig) → Buf (Elt Ideal) ℓ) : Prop :=
  True

def Pre_XoDxRefIdeal (m : (ℓ : Loc Cert.XoDxRefIdeal.nD Cert.XoDxRefIdeal.τ Cert.XoDxRefIdeal.sig) → Buf (Elt Ideal) ℓ) : Prop :=
  True

def Pre_XoDw (m : (ℓ : Loc Cert.XoDw.nD Cert.XoDw.τ Cert.XoDw.sig) → Buf (Elt Bits) ℓ) : Prop :=
  True

def Pre_XoDwIdeal (m : (ℓ : Loc Cert.XoDwIdeal.nD Cert.XoDwIdeal.τ Cert.XoDwIdeal.sig) → Buf (Elt Ideal) ℓ) : Prop :=
  True

def Pre_XoDwRefIdeal (m : (ℓ : Loc Cert.XoDwRefIdeal.nD Cert.XoDwRefIdeal.τ Cert.XoDwRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxRefIdeal (m : (ℓ : Loc Cert.PoolDxRefIdeal.nD Cert.PoolDxRefIdeal.τ Cert.PoolDxRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_XkvDx (m : (ℓ : Loc Cert.XkvDx.nD Cert.XkvDx.τ Cert.XkvDx.sig) → Buf (Elt Bits) ℓ) : Prop :=
  True

def Pre_XkvDxIdeal (m : (ℓ : Loc Cert.XkvDxIdeal.nD Cert.XkvDxIdeal.τ Cert.XkvDxIdeal.sig) → Buf (Elt Ideal) ℓ) : Prop :=
  True

def Pre_XkvDxRefIdeal (m : (ℓ : Loc Cert.XkvDxRefIdeal.nD Cert.XkvDxRefIdeal.τ Cert.XkvDxRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_RmsDx (m : (ℓ : Loc Cert.RmsDx.nD Cert.RmsDx.τ Cert.RmsDx.sig) → Buf (Elt Bits) ℓ) : Prop :=
  True

def Pre_RmsDxIdeal (m : (ℓ : Loc Cert.RmsDxIdeal.nD Cert.RmsDxIdeal.τ Cert.RmsDxIdeal.sig) → Buf (Elt Ideal) ℓ) : Prop :=
  True

def Pre_RmsDxRefIdeal (m : (ℓ : Loc Cert.RmsDxRefIdeal.nD Cert.RmsDxRefIdeal.τ Cert.RmsDxRefIdeal.sig) → Buf (Elt Ideal) ℓ) : Prop :=
  True

def Pre_MemNormDg (m : (ℓ : Loc Cert.MemNormDg.nD Cert.MemNormDg.τ Cert.MemNormDg.sig) → Buf (Elt Bits) ℓ) : Prop :=
  True

def Pre_MemNormDgIdeal (m : (ℓ : Loc Cert.MemNormDgIdeal.nD Cert.MemNormDgIdeal.τ Cert.MemNormDgIdeal.sig) → Buf (Elt Ideal) ℓ) : Prop :=
  True

def Pre_MemNormDgRefIdeal (m : (ℓ : Loc Cert.MemNormDgRefIdeal.nD Cert.MemNormDgRefIdeal.τ Cert.MemNormDgRefIdeal.sig) → Buf (Elt Ideal) ℓ) : Prop :=
  True

def Pre_GateAb (m : (ℓ : Loc Cert.GateAb.nD Cert.GateAb.τ Cert.GateAb.sig) → Buf (Elt Bits) ℓ) : Prop :=
  True

def Pre_GateAbIdeal (m : (ℓ : Loc Cert.GateAbIdeal.nD Cert.GateAbIdeal.τ Cert.GateAbIdeal.sig) → Buf (Elt Ideal) ℓ) : Prop :=
  True

def Pre_GateAbRefIdeal (m : (ℓ : Loc Cert.GateAbRefIdeal.nD Cert.GateAbRefIdeal.τ Cert.GateAbRefIdeal.sig) → Buf (Elt Ideal) ℓ) : Prop :=
  True

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateRefIdeal (m : (ℓ : Loc Cert.GluGateRefIdeal.nD Cert.GluGateRefIdeal.τ Cert.GluGateRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_Bbar (m : (ℓ : Loc Cert.Bbar.nD Cert.Bbar.τ Cert.Bbar.sig) → Buf (Elt Bits) ℓ) : Prop :=
  True

def Pre_BbarIdeal (m : (ℓ : Loc Cert.BbarIdeal.nD Cert.BbarIdeal.τ Cert.BbarIdeal.sig) → Buf (Elt Ideal) ℓ) : Prop :=
  True

def Pre_BbarRefIdeal (m : (ℓ : Loc Cert.BbarRefIdeal.nD Cert.BbarRefIdeal.τ Cert.BbarRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_UDx (m : (ℓ : Loc Cert.UDx.nD Cert.UDx.τ Cert.UDx.sig) → Buf (Elt Bits) ℓ) : Prop :=
  True

def Pre_UDxIdeal (m : (ℓ : Loc Cert.UDxIdeal.nD Cert.UDxIdeal.τ Cert.UDxIdeal.sig) → Buf (Elt Ideal) ℓ) : Prop :=
  True

def Pre_UDxRefIdeal (m : (ℓ : Loc Cert.UDxRefIdeal.nD Cert.UDxRefIdeal.τ Cert.UDxRefIdeal.sig) → Buf (Elt Ideal) ℓ) : Prop :=
  True

def Pre_UDw (m : (ℓ : Loc Cert.UDw.nD Cert.UDw.τ Cert.UDw.sig) → Buf (Elt Bits) ℓ) : Prop :=
  True

def Pre_UDwIdeal (m : (ℓ : Loc Cert.UDwIdeal.nD Cert.UDwIdeal.τ Cert.UDwIdeal.sig) → Buf (Elt Ideal) ℓ) : Prop :=
  True

def Pre_UDwRefIdeal (m : (ℓ : Loc Cert.UDwRefIdeal.nD Cert.UDwRefIdeal.τ Cert.UDwRefIdeal.sig) → Buf (Elt Ideal) ℓ) : Prop :=
  True

def Pre_YDx (m : (ℓ : Loc Cert.YDx.nD Cert.YDx.τ Cert.YDx.sig) → Buf (Elt Bits) ℓ) : Prop :=
  True

def Pre_YDxIdeal (m : (ℓ : Loc Cert.YDxIdeal.nD Cert.YDxIdeal.τ Cert.YDxIdeal.sig) → Buf (Elt Ideal) ℓ) : Prop :=
  True

def Pre_YDxRefIdeal (m : (ℓ : Loc Cert.YDxRefIdeal.nD Cert.YDxRefIdeal.τ Cert.YDxRefIdeal.sig) → Buf (Elt Ideal) ℓ) : Prop :=
  True

def Pre_YDw (m : (ℓ : Loc Cert.YDw.nD Cert.YDw.τ Cert.YDw.sig) → Buf (Elt Bits) ℓ) : Prop :=
  True

def Pre_YDwIdeal (m : (ℓ : Loc Cert.YDwIdeal.nD Cert.YDwIdeal.τ Cert.YDwIdeal.sig) → Buf (Elt Ideal) ℓ) : Prop :=
  True

def Pre_YDwRefIdeal (m : (ℓ : Loc Cert.YDwRefIdeal.nD Cert.YDwRefIdeal.τ Cert.YDwRefIdeal.sig) → Buf (Elt Ideal) ℓ) : Prop :=
  True

def Pre_U (m : (ℓ : Loc Cert.U.nD Cert.U.τ Cert.U.sig) → Buf (Elt Bits) ℓ) : Prop :=
  True

def Pre_UIdeal (m : (ℓ : Loc Cert.UIdeal.nD Cert.UIdeal.τ Cert.UIdeal.sig) → Buf (Elt Ideal) ℓ) : Prop :=
  True

def Pre_URefIdeal (m : (ℓ : Loc Cert.URefIdeal.nD Cert.URefIdeal.τ Cert.URefIdeal.sig) → Buf (Elt Ideal) ℓ) : Prop :=
  True

def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_YRefIdeal (m : (ℓ : Loc Cert.YRefIdeal.nD Cert.YRefIdeal.τ Cert.YRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_GateAbFwd (m : (ℓ : Loc Cert.GateAbFwd.nD Cert.GateAbFwd.τ Cert.GateAbFwd.sig) → Buf (Elt Bits) ℓ) : Prop :=
  True

def Pre_GateAbFwdIdeal (m : (ℓ : Loc Cert.GateAbFwdIdeal.nD Cert.GateAbFwdIdeal.τ Cert.GateAbFwdIdeal.sig) → Buf (Elt Ideal) ℓ) : Prop :=
  True

def Pre_GateAbFwdRefIdeal (m : (ℓ : Loc Cert.GateAbFwdRefIdeal.nD Cert.GateAbFwdRefIdeal.τ Cert.GateAbFwdRefIdeal.sig) → Buf (Elt Ideal) ℓ) : Prop :=
  True

def Pre_GluGateFwd (m : (ℓ : Loc Cert.GluGateFwd.nD Cert.GluGateFwd.τ Cert.GluGateFwd.sig) → Buf (Elt Bits) ℓ) : Prop :=
  True

def Pre_GluGateFwdIdeal (m : (ℓ : Loc Cert.GluGateFwdIdeal.nD Cert.GluGateFwdIdeal.τ Cert.GluGateFwdIdeal.sig) → Buf (Elt Ideal) ℓ) : Prop :=
  True

def Pre_GluGateFwdRefIdeal (m : (ℓ : Loc Cert.GluGateFwdRefIdeal.nD Cert.GluGateFwdRefIdeal.τ Cert.GluGateFwdRefIdeal.sig) → Buf (Elt Ideal) ℓ) : Prop :=
  True

def Pre_GeluFwd (m : (ℓ : Loc Cert.GeluFwd.nD Cert.GeluFwd.τ Cert.GeluFwd.sig) → Buf (Elt Bits) ℓ) : Prop :=
  True

def Pre_GeluFwdIdeal (m : (ℓ : Loc Cert.GeluFwdIdeal.nD Cert.GeluFwdIdeal.τ Cert.GeluFwdIdeal.sig) → Buf (Elt Ideal) ℓ) : Prop :=
  True

def Pre_GeluFwdRefIdeal (m : (ℓ : Loc Cert.GeluFwdRefIdeal.nD Cert.GeluFwdRefIdeal.τ Cert.GeluFwdRefIdeal.sig) → Buf (Elt Ideal) ℓ) : Prop :=
  True

def Pre_BbarFwd (m : (ℓ : Loc Cert.BbarFwd.nD Cert.BbarFwd.τ Cert.BbarFwd.sig) → Buf (Elt Bits) ℓ) : Prop :=
  True

def Pre_BbarFwdIdeal (m : (ℓ : Loc Cert.BbarFwdIdeal.nD Cert.BbarFwdIdeal.τ Cert.BbarFwdIdeal.sig) → Buf (Elt Ideal) ℓ) : Prop :=
  True

def Pre_BbarFwdRefIdeal (m : (ℓ : Loc Cert.BbarFwdRefIdeal.nD Cert.BbarFwdRefIdeal.τ Cert.BbarFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_SguSides (m : (ℓ : Loc Cert.SguSides.nD Cert.SguSides.τ Cert.SguSides.sig) → Buf (Elt Bits) ℓ) : Prop :=
  True

def Pre_SguSidesIdeal (m : (ℓ : Loc Cert.SguSidesIdeal.nD Cert.SguSidesIdeal.τ Cert.SguSidesIdeal.sig) → Buf (Elt Ideal) ℓ) : Prop :=
  True

def Pre_SguSidesRefIdeal (m : (ℓ : Loc Cert.SguSidesRefIdeal.nD Cert.SguSidesRefIdeal.τ Cert.SguSidesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1))
      ∧ r.2.sem = fun _ => 0)

def quiescent_InAbDx [hInAbDx : Cert.InAbDx.Facts] : Prop :=
  ∀ (m : (ℓ : Loc Cert.InAbDx.nD Cert.InAbDx.τ Cert.InAbDx.sig) → Buf (Elt Bits) ℓ) (g : Dev Cert.InAbDx.nD → PrngReg), Pre_InAbDx m →
    θ_run (Cert.InAbDx.defs (F := Bits)) (onTc (τ := Cert.InAbDx.τ) (Cert.InAbDx.main (F := Bits))) ⟨m, fun _ => 0, g⟩ (fun r => (∀ c : Dev Cert.InAbDx.nD,
      r.2.mem ((c.tc : Thread Cert.InAbDx.nD Cert.InAbDx.τ).loc Cert.InAbDx.main_arg0) = m ((c.tc : Thread Cert.InAbDx.nD Cert.InAbDx.τ).loc Cert.InAbDx.main_arg0)
      ∧ r.2.mem ((c.tc : Thread Cert.InAbDx.nD Cert.InAbDx.τ).loc Cert.InAbDx.main_arg1) = m ((c.tc : Thread Cert.InAbDx.nD Cert.InAbDx.τ).loc Cert.InAbDx.main_arg1))
      ∧ r.2.sem = fun _ => 0)

def quiescent_InAbDxIdeal [hInAbDxIdeal : Cert.InAbDxIdeal.Facts] : Prop :=
  ∀ (m : (ℓ : Loc Cert.InAbDxIdeal.nD Cert.InAbDxIdeal.τ Cert.InAbDxIdeal.sig) → Buf (Elt Ideal) ℓ) (g : Dev Cert.InAbDxIdeal.nD → PrngReg), Pre_InAbDxIdeal m →
    θ_run (Cert.InAbDxIdeal.defs (F := Ideal)) (onTc (τ := Cert.InAbDxIdeal.τ) (Cert.InAbDxIdeal.main (F := Ideal))) ⟨m, fun _ => 0, g⟩ (fun r => (∀ c : Dev Cert.InAbDxIdeal.nD,
      r.2.mem ((c.tc : Thread Cert.InAbDxIdeal.nD Cert.InAbDxIdeal.τ).loc Cert.InAbDxIdeal.main_arg0) = m ((c.tc : Thread Cert.InAbDxIdeal.nD Cert.InAbDxIdeal.τ).loc Cert.InAbDxIdeal.main_arg0)
      ∧ r.2.mem ((c.tc : Thread Cert.InAbDxIdeal.nD Cert.InAbDxIdeal.τ).loc Cert.InAbDxIdeal.main_arg1) = m ((c.tc : Thread Cert.InAbDxIdeal.nD Cert.InAbDxIdeal.τ).loc Cert.InAbDxIdeal.main_arg1))
      ∧ r.2.sem = fun _ => 0)

def quiescent_InAbDxRefIdeal [hInAbDxRefIdeal : Cert.InAbDxRefIdeal.Facts] : Prop :=
  ∀ (m : (ℓ : Loc Cert.InAbDxRefIdeal.nD Cert.InAbDxRefIdeal.τ Cert.InAbDxRefIdeal.sig) → Buf (Elt Ideal) ℓ) (g : Dev Cert.InAbDxRefIdeal.nD → PrngReg), Pre_InAbDxRefIdeal m →
    θ_run (Cert.InAbDxRefIdeal.defs (F := Ideal)) (onTc (τ := Cert.InAbDxRefIdeal.τ) (Cert.InAbDxRefIdeal.main (F := Ideal))) ⟨m, fun _ => 0, g⟩ (fun r => (∀ c : Dev Cert.InAbDxRefIdeal.nD,
      r.2.mem ((c.tc : Thread Cert.InAbDxRefIdeal.nD Cert.InAbDxRefIdeal.τ).loc Cert.InAbDxRefIdeal.main_arg0) = m ((c.tc : Thread Cert.InAbDxRefIdeal.nD Cert.InAbDxRefIdeal.τ).loc Cert.InAbDxRefIdeal.main_arg0)
      ∧ r.2.mem ((c.tc : Thread Cert.InAbDxRefIdeal.nD Cert.InAbDxRefIdeal.τ).loc Cert.InAbDxRefIdeal.main_arg1) = m ((c.tc : Thread Cert.InAbDxRefIdeal.nD Cert.InAbDxRefIdeal.τ).loc Cert.InAbDxRefIdeal.main_arg1))
      ∧ r.2.sem = fun _ => 0)

def quiescent_InAbDw [hInAbDw : Cert.InAbDw.Facts] : Prop :=
  ∀ (m : (ℓ : Loc Cert.InAbDw.nD Cert.InAbDw.τ Cert.InAbDw.sig) → Buf (Elt Bits) ℓ) (g : Dev Cert.InAbDw.nD → PrngReg), Pre_InAbDw m →
    θ_run (Cert.InAbDw.defs (F := Bits)) (onTc (τ := Cert.InAbDw.τ) (Cert.InAbDw.main (F := Bits))) ⟨m, fun _ => 0, g⟩ (fun r => (∀ c : Dev Cert.InAbDw.nD,
      r.2.mem ((c.tc : Thread Cert.InAbDw.nD Cert.InAbDw.τ).loc Cert.InAbDw.main_arg0) = m ((c.tc : Thread Cert.InAbDw.nD Cert.InAbDw.τ).loc Cert.InAbDw.main_arg0)
      ∧ r.2.mem ((c.tc : Thread Cert.InAbDw.nD Cert.InAbDw.τ).loc Cert.InAbDw.main_arg1) = m ((c.tc : Thread Cert.InAbDw.nD Cert.InAbDw.τ).loc Cert.InAbDw.main_arg1))
      ∧ r.2.sem = fun _ => 0)

def quiescent_InAbDwIdeal [hInAbDwIdeal : Cert.InAbDwIdeal.Facts] : Prop :=
  ∀ (m : (ℓ : Loc Cert.InAbDwIdeal.nD Cert.InAbDwIdeal.τ Cert.InAbDwIdeal.sig) → Buf (Elt Ideal) ℓ) (g : Dev Cert.InAbDwIdeal.nD → PrngReg), Pre_InAbDwIdeal m →
    θ_run (Cert.InAbDwIdeal.defs (F := Ideal)) (onTc (τ := Cert.InAbDwIdeal.τ) (Cert.InAbDwIdeal.main (F := Ideal))) ⟨m, fun _ => 0, g⟩ (fun r => (∀ c : Dev Cert.InAbDwIdeal.nD,
      r.2.mem ((c.tc : Thread Cert.InAbDwIdeal.nD Cert.InAbDwIdeal.τ).loc Cert.InAbDwIdeal.main_arg0) = m ((c.tc : Thread Cert.InAbDwIdeal.nD Cert.InAbDwIdeal.τ).loc Cert.InAbDwIdeal.main_arg0)
      ∧ r.2.mem ((c.tc : Thread Cert.InAbDwIdeal.nD Cert.InAbDwIdeal.τ).loc Cert.InAbDwIdeal.main_arg1) = m ((c.tc : Thread Cert.InAbDwIdeal.nD Cert.InAbDwIdeal.τ).loc Cert.InAbDwIdeal.main_arg1))
      ∧ r.2.sem = fun _ => 0)

def quiescent_InAbDwRefIdeal [hInAbDwRefIdeal : Cert.InAbDwRefIdeal.Facts] : Prop :=
  ∀ (m : (ℓ : Loc Cert.InAbDwRefIdeal.nD Cert.InAbDwRefIdeal.τ Cert.InAbDwRefIdeal.sig) → Buf (Elt Ideal) ℓ) (g : Dev Cert.InAbDwRefIdeal.nD → PrngReg), Pre_InAbDwRefIdeal m →
    θ_run (Cert.InAbDwRefIdeal.defs (F := Ideal)) (onTc (τ := Cert.InAbDwRefIdeal.τ) (Cert.InAbDwRefIdeal.main (F := Ideal))) ⟨m, fun _ => 0, g⟩ (fun r => (∀ c : Dev Cert.InAbDwRefIdeal.nD,
      r.2.mem ((c.tc : Thread Cert.InAbDwRefIdeal.nD Cert.InAbDwRefIdeal.τ).loc Cert.InAbDwRefIdeal.main_arg0) = m ((c.tc : Thread Cert.InAbDwRefIdeal.nD Cert.InAbDwRefIdeal.τ).loc Cert.InAbDwRefIdeal.main_arg0)
      ∧ r.2.mem ((c.tc : Thread Cert.InAbDwRefIdeal.nD Cert.InAbDwRefIdeal.τ).loc Cert.InAbDwRefIdeal.main_arg1) = m ((c.tc : Thread Cert.InAbDwRefIdeal.nD Cert.InAbDwRefIdeal.τ).loc Cert.InAbDwRefIdeal.main_arg1))
      ∧ r.2.sem = fun _ => 0)

def quiescent_InCd [hInCd : Cert.InCd.Facts] : Prop :=
  ∀ (m : (ℓ : Loc Cert.InCd.nD Cert.InCd.τ Cert.InCd.sig) → Buf (Elt Bits) ℓ) (g : Dev Cert.InCd.nD → PrngReg), Pre_InCd m →
    θ_run (Cert.InCd.defs (F := Bits)) (onTc (τ := Cert.InCd.τ) (Cert.InCd.main (F := Bits))) ⟨m, fun _ => 0, g⟩ (fun r => (∀ c : Dev Cert.InCd.nD,
      r.2.mem ((c.tc : Thread Cert.InCd.nD Cert.InCd.τ).loc Cert.InCd.main_arg0) = m ((c.tc : Thread Cert.InCd.nD Cert.InCd.τ).loc Cert.InCd.main_arg0)
      ∧ r.2.mem ((c.tc : Thread Cert.InCd.nD Cert.InCd.τ).loc Cert.InCd.main_arg1) = m ((c.tc : Thread Cert.InCd.nD Cert.InCd.τ).loc Cert.InCd.main_arg1))
      ∧ r.2.sem = fun _ => 0)

def quiescent_InCdIdeal [hInCdIdeal : Cert.InCdIdeal.Facts] : Prop :=
  ∀ (m : (ℓ : Loc Cert.InCdIdeal.nD Cert.InCdIdeal.τ Cert.InCdIdeal.sig) → Buf (Elt Ideal) ℓ) (g : Dev Cert.InCdIdeal.nD → PrngReg), Pre_InCdIdeal m →
    θ_run (Cert.InCdIdeal.defs (F := Ideal)) (onTc (τ := Cert.InCdIdeal.τ) (Cert.InCdIdeal.main (F := Ideal))) ⟨m, fun _ => 0, g⟩ (fun r => (∀ c : Dev Cert.InCdIdeal.nD,
      r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
      ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1))
      ∧ r.2.sem = fun _ => 0)

def quiescent_InCdRefIdeal [hInCdRefIdeal : Cert.InCdRefIdeal.Facts] : Prop :=
  ∀ (m : (ℓ : Loc Cert.InCdRefIdeal.nD Cert.InCdRefIdeal.τ Cert.InCdRefIdeal.sig) → Buf (Elt Ideal) ℓ) (g : Dev Cert.InCdRefIdeal.nD → PrngReg), Pre_InCdRefIdeal m →
    θ_run (Cert.InCdRefIdeal.defs (F := Ideal)) (onTc (τ := Cert.InCdRefIdeal.τ) (Cert.InCdRefIdeal.main (F := Ideal))) ⟨m, fun _ => 0, g⟩ (fun r => (∀ c : Dev Cert.InCdRefIdeal.nD,
      r.2.mem ((c.tc : Thread Cert.InCdRefIdeal.nD Cert.InCdRefIdeal.τ).loc Cert.InCdRefIdeal.main_arg0) = m ((c.tc : Thread Cert.InCdRefIdeal.nD Cert.InCdRefIdeal.τ).loc Cert.InCdRefIdeal.main_arg0)
      ∧ r.2.mem ((c.tc : Thread Cert.InCdRefIdeal.nD Cert.InCdRefIdeal.τ).loc Cert.InCdRefIdeal.main_arg1) = m ((c.tc : Thread Cert.InCdRefIdeal.nD Cert.InCdRefIdeal.τ).loc Cert.InCdRefIdeal.main_arg1))
      ∧ r.2.sem = fun _ => 0)

def quiescent_InCdDx [hInCdDx : Cert.InCdDx.Facts] : Prop :=
  ∀ (m : (ℓ : Loc Cert.InCdDx.nD Cert.InCdDx.τ Cert.InCdDx.sig) → Buf (Elt Bits) ℓ) (g : Dev Cert.InCdDx.nD → PrngReg), Pre_InCdDx m →
    θ_run (Cert.InCdDx.defs (F := Bits)) (onTc (τ := Cert.InCdDx.τ) (Cert.InCdDx.main (F := Bits))) ⟨m, fun _ => 0, g⟩ (fun r => (∀ c : Dev Cert.InCdDx.nD,
      r.2.mem ((c.tc : Thread Cert.InCdDx.nD Cert.InCdDx.τ).loc Cert.InCdDx.main_arg0) = m ((c.tc : Thread Cert.InCdDx.nD Cert.InCdDx.τ).loc Cert.InCdDx.main_arg0)
      ∧ r.2.mem ((c.tc : Thread Cert.InCdDx.nD Cert.InCdDx.τ).loc Cert.InCdDx.main_arg1) = m ((c.tc : Thread Cert.InCdDx.nD Cert.InCdDx.τ).loc Cert.InCdDx.main_arg1))
      ∧ r.2.sem = fun _ => 0)

def quiescent_InCdDxIdeal [hInCdDxIdeal : Cert.InCdDxIdeal.Facts] : Prop :=
  ∀ (m : (ℓ : Loc Cert.InCdDxIdeal.nD Cert.InCdDxIdeal.τ Cert.InCdDxIdeal.sig) → Buf (Elt Ideal) ℓ) (g : Dev Cert.InCdDxIdeal.nD → PrngReg), Pre_InCdDxIdeal m →
    θ_run (Cert.InCdDxIdeal.defs (F := Ideal)) (onTc (τ := Cert.InCdDxIdeal.τ) (Cert.InCdDxIdeal.main (F := Ideal))) ⟨m, fun _ => 0, g⟩ (fun r => (∀ c : Dev Cert.InCdDxIdeal.nD,
      r.2.mem ((c.tc : Thread Cert.InCdDxIdeal.nD Cert.InCdDxIdeal.τ).loc Cert.InCdDxIdeal.main_arg0) = m ((c.tc : Thread Cert.InCdDxIdeal.nD Cert.InCdDxIdeal.τ).loc Cert.InCdDxIdeal.main_arg0)
      ∧ r.2.mem ((c.tc : Thread Cert.InCdDxIdeal.nD Cert.InCdDxIdeal.τ).loc Cert.InCdDxIdeal.main_arg1) = m ((c.tc : Thread Cert.InCdDxIdeal.nD Cert.InCdDxIdeal.τ).loc Cert.InCdDxIdeal.main_arg1))
      ∧ r.2.sem = fun _ => 0)

def quiescent_InCdDxRefIdeal [hInCdDxRefIdeal : Cert.InCdDxRefIdeal.Facts] : Prop :=
  ∀ (m : (ℓ : Loc Cert.InCdDxRefIdeal.nD Cert.InCdDxRefIdeal.τ Cert.InCdDxRefIdeal.sig) → Buf (Elt Ideal) ℓ) (g : Dev Cert.InCdDxRefIdeal.nD → PrngReg), Pre_InCdDxRefIdeal m →
    θ_run (Cert.InCdDxRefIdeal.defs (F := Ideal)) (onTc (τ := Cert.InCdDxRefIdeal.τ) (Cert.InCdDxRefIdeal.main (F := Ideal))) ⟨m, fun _ => 0, g⟩ (fun r => (∀ c : Dev Cert.InCdDxRefIdeal.nD,
      r.2.mem ((c.tc : Thread Cert.InCdDxRefIdeal.nD Cert.InCdDxRefIdeal.τ).loc Cert.InCdDxRefIdeal.main_arg0) = m ((c.tc : Thread Cert.InCdDxRefIdeal.nD Cert.InCdDxRefIdeal.τ).loc Cert.InCdDxRefIdeal.main_arg0)
      ∧ r.2.mem ((c.tc : Thread Cert.InCdDxRefIdeal.nD Cert.InCdDxRefIdeal.τ).loc Cert.InCdDxRefIdeal.main_arg1) = m ((c.tc : Thread Cert.InCdDxRefIdeal.nD Cert.InCdDxRefIdeal.τ).loc Cert.InCdDxRefIdeal.main_arg1))
      ∧ r.2.sem = fun _ => 0)

def quiescent_InCdDw [hInCdDw : Cert.InCdDw.Facts] : Prop :=
  ∀ (m : (ℓ : Loc Cert.InCdDw.nD Cert.InCdDw.τ Cert.InCdDw.sig) → Buf (Elt Bits) ℓ) (g : Dev Cert.InCdDw.nD → PrngReg), Pre_InCdDw m →
    θ_run (Cert.InCdDw.defs (F := Bits)) (onTc (τ := Cert.InCdDw.τ) (Cert.InCdDw.main (F := Bits))) ⟨m, fun _ => 0, g⟩ (fun r => (∀ c : Dev Cert.InCdDw.nD,
      r.2.mem ((c.tc : Thread Cert.InCdDw.nD Cert.InCdDw.τ).loc Cert.InCdDw.main_arg0) = m ((c.tc : Thread Cert.InCdDw.nD Cert.InCdDw.τ).loc Cert.InCdDw.main_arg0)
      ∧ r.2.mem ((c.tc : Thread Cert.InCdDw.nD Cert.InCdDw.τ).loc Cert.InCdDw.main_arg1) = m ((c.tc : Thread Cert.InCdDw.nD Cert.InCdDw.τ).loc Cert.InCdDw.main_arg1))
      ∧ r.2.sem = fun _ => 0)

def quiescent_InCdDwIdeal [hInCdDwIdeal : Cert.InCdDwIdeal.Facts] : Prop :=
  ∀ (m : (ℓ : Loc Cert.InCdDwIdeal.nD Cert.InCdDwIdeal.τ Cert.InCdDwIdeal.sig) → Buf (Elt Ideal) ℓ) (g : Dev Cert.InCdDwIdeal.nD → PrngReg), Pre_InCdDwIdeal m →
    θ_run (Cert.InCdDwIdeal.defs (F := Ideal)) (onTc (τ := Cert.InCdDwIdeal.τ) (Cert.InCdDwIdeal.main (F := Ideal))) ⟨m, fun _ => 0, g⟩ (fun r => (∀ c : Dev Cert.InCdDwIdeal.nD,
      r.2.mem ((c.tc : Thread Cert.InCdDwIdeal.nD Cert.InCdDwIdeal.τ).loc Cert.InCdDwIdeal.main_arg0) = m ((c.tc : Thread Cert.InCdDwIdeal.nD Cert.InCdDwIdeal.τ).loc Cert.InCdDwIdeal.main_arg0)
      ∧ r.2.mem ((c.tc : Thread Cert.InCdDwIdeal.nD Cert.InCdDwIdeal.τ).loc Cert.InCdDwIdeal.main_arg1) = m ((c.tc : Thread Cert.InCdDwIdeal.nD Cert.InCdDwIdeal.τ).loc Cert.InCdDwIdeal.main_arg1))
      ∧ r.2.sem = fun _ => 0)

def quiescent_InCdDwRefIdeal [hInCdDwRefIdeal : Cert.InCdDwRefIdeal.Facts] : Prop :=
  ∀ (m : (ℓ : Loc Cert.InCdDwRefIdeal.nD Cert.InCdDwRefIdeal.τ Cert.InCdDwRefIdeal.sig) → Buf (Elt Ideal) ℓ) (g : Dev Cert.InCdDwRefIdeal.nD → PrngReg), Pre_InCdDwRefIdeal m →
    θ_run (Cert.InCdDwRefIdeal.defs (F := Ideal)) (onTc (τ := Cert.InCdDwRefIdeal.τ) (Cert.InCdDwRefIdeal.main (F := Ideal))) ⟨m, fun _ => 0, g⟩ (fun r => (∀ c : Dev Cert.InCdDwRefIdeal.nD,
      r.2.mem ((c.tc : Thread Cert.InCdDwRefIdeal.nD Cert.InCdDwRefIdeal.τ).loc Cert.InCdDwRefIdeal.main_arg0) = m ((c.tc : Thread Cert.InCdDwRefIdeal.nD Cert.InCdDwRefIdeal.τ).loc Cert.InCdDwRefIdeal.main_arg0)
      ∧ r.2.mem ((c.tc : Thread Cert.InCdDwRefIdeal.nD Cert.InCdDwRefIdeal.τ).loc Cert.InCdDwRefIdeal.main_arg1) = m ((c.tc : Thread Cert.InCdDwRefIdeal.nD Cert.InCdDwRefIdeal.τ).loc Cert.InCdDwRefIdeal.main_arg1))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2))
      ∧ r.2.sem = fun _ => 0)

def quiescent_OutAbDx [hOutAbDx : Cert.OutAbDx.Facts] : Prop :=
  ∀ (m : (ℓ : Loc Cert.OutAbDx.nD Cert.OutAbDx.τ Cert.OutAbDx.sig) → Buf (Elt Bits) ℓ) (g : Dev Cert.OutAbDx.nD → PrngReg), Pre_OutAbDx m →
    θ_run (Cert.OutAbDx.defs (F := Bits)) (onTc (τ := Cert.OutAbDx.τ) (Cert.OutAbDx.main (F := Bits))) ⟨m, fun _ => 0, g⟩ (fun r => (∀ c : Dev Cert.OutAbDx.nD,
      r.2.mem ((c.tc : Thread Cert.OutAbDx.nD Cert.OutAbDx.τ).loc Cert.OutAbDx.main_arg0) = m ((c.tc : Thread Cert.OutAbDx.nD Cert.OutAbDx.τ).loc Cert.OutAbDx.main_arg0)
      ∧ r.2.mem ((c.tc : Thread Cert.OutAbDx.nD Cert.OutAbDx.τ).loc Cert.OutAbDx.main_arg1) = m ((c.tc : Thread Cert.OutAbDx.nD Cert.OutAbDx.τ).loc Cert.OutAbDx.main_arg1))
      ∧ r.2.sem = fun _ => 0)

def quiescent_OutAbDxIdeal [hOutAbDxIdeal : Cert.OutAbDxIdeal.Facts] : Prop :=
  ∀ (m : (ℓ : Loc Cert.OutAbDxIdeal.nD Cert.OutAbDxIdeal.τ Cert.OutAbDxIdeal.sig) → Buf (Elt Ideal) ℓ) (g : Dev Cert.OutAbDxIdeal.nD → PrngReg), Pre_OutAbDxIdeal m →
    θ_run (Cert.OutAbDxIdeal.defs (F := Ideal)) (onTc (τ := Cert.OutAbDxIdeal.τ) (Cert.OutAbDxIdeal.main (F := Ideal))) ⟨m, fun _ => 0, g⟩ (fun r => (∀ c : Dev Cert.OutAbDxIdeal.nD,
      r.2.mem ((c.tc : Thread Cert.OutAbDxIdeal.nD Cert.OutAbDxIdeal.τ).loc Cert.OutAbDxIdeal.main_arg0) = m ((c.tc : Thread Cert.OutAbDxIdeal.nD Cert.OutAbDxIdeal.τ).loc Cert.OutAbDxIdeal.main_arg0)
      ∧ r.2.mem ((c.tc : Thread Cert.OutAbDxIdeal.nD Cert.OutAbDxIdeal.τ).loc Cert.OutAbDxIdeal.main_arg1) = m ((c.tc : Thread Cert.OutAbDxIdeal.nD Cert.OutAbDxIdeal.τ).loc Cert.OutAbDxIdeal.main_arg1))
      ∧ r.2.sem = fun _ => 0)

def quiescent_OutAbDxRefIdeal [hOutAbDxRefIdeal : Cert.OutAbDxRefIdeal.Facts] : Prop :=
  ∀ (m : (ℓ : Loc Cert.OutAbDxRefIdeal.nD Cert.OutAbDxRefIdeal.τ Cert.OutAbDxRefIdeal.sig) → Buf (Elt Ideal) ℓ) (g : Dev Cert.OutAbDxRefIdeal.nD → PrngReg), Pre_OutAbDxRefIdeal m →
    θ_run (Cert.OutAbDxRefIdeal.defs (F := Ideal)) (onTc (τ := Cert.OutAbDxRefIdeal.τ) (Cert.OutAbDxRefIdeal.main (F := Ideal))) ⟨m, fun _ => 0, g⟩ (fun r => (∀ c : Dev Cert.OutAbDxRefIdeal.nD,
      r.2.mem ((c.tc : Thread Cert.OutAbDxRefIdeal.nD Cert.OutAbDxRefIdeal.τ).loc Cert.OutAbDxRefIdeal.main_arg0) = m ((c.tc : Thread Cert.OutAbDxRefIdeal.nD Cert.OutAbDxRefIdeal.τ).loc Cert.OutAbDxRefIdeal.main_arg0)
      ∧ r.2.mem ((c.tc : Thread Cert.OutAbDxRefIdeal.nD Cert.OutAbDxRefIdeal.τ).loc Cert.OutAbDxRefIdeal.main_arg1) = m ((c.tc : Thread Cert.OutAbDxRefIdeal.nD Cert.OutAbDxRefIdeal.τ).loc Cert.OutAbDxRefIdeal.main_arg1))
      ∧ r.2.sem = fun _ => 0)

def quiescent_OutAbDw [hOutAbDw : Cert.OutAbDw.Facts] : Prop :=
  ∀ (m : (ℓ : Loc Cert.OutAbDw.nD Cert.OutAbDw.τ Cert.OutAbDw.sig) → Buf (Elt Bits) ℓ) (g : Dev Cert.OutAbDw.nD → PrngReg), Pre_OutAbDw m →
    θ_run (Cert.OutAbDw.defs (F := Bits)) (onTc (τ := Cert.OutAbDw.τ) (Cert.OutAbDw.main (F := Bits))) ⟨m, fun _ => 0, g⟩ (fun r => (∀ c : Dev Cert.OutAbDw.nD,
      r.2.mem ((c.tc : Thread Cert.OutAbDw.nD Cert.OutAbDw.τ).loc Cert.OutAbDw.main_arg0) = m ((c.tc : Thread Cert.OutAbDw.nD Cert.OutAbDw.τ).loc Cert.OutAbDw.main_arg0)
      ∧ r.2.mem ((c.tc : Thread Cert.OutAbDw.nD Cert.OutAbDw.τ).loc Cert.OutAbDw.main_arg1) = m ((c.tc : Thread Cert.OutAbDw.nD Cert.OutAbDw.τ).loc Cert.OutAbDw.main_arg1))
      ∧ r.2.sem = fun _ => 0)

def quiescent_OutAbDwIdeal [hOutAbDwIdeal : Cert.OutAbDwIdeal.Facts] : Prop :=
  ∀ (m : (ℓ : Loc Cert.OutAbDwIdeal.nD Cert.OutAbDwIdeal.τ Cert.OutAbDwIdeal.sig) → Buf (Elt Ideal) ℓ) (g : Dev Cert.OutAbDwIdeal.nD → PrngReg), Pre_OutAbDwIdeal m →
    θ_run (Cert.OutAbDwIdeal.defs (F := Ideal)) (onTc (τ := Cert.OutAbDwIdeal.τ) (Cert.OutAbDwIdeal.main (F := Ideal))) ⟨m, fun _ => 0, g⟩ (fun r => (∀ c : Dev Cert.OutAbDwIdeal.nD,
      r.2.mem ((c.tc : Thread Cert.OutAbDwIdeal.nD Cert.OutAbDwIdeal.τ).loc Cert.OutAbDwIdeal.main_arg0) = m ((c.tc : Thread Cert.OutAbDwIdeal.nD Cert.OutAbDwIdeal.τ).loc Cert.OutAbDwIdeal.main_arg0)
      ∧ r.2.mem ((c.tc : Thread Cert.OutAbDwIdeal.nD Cert.OutAbDwIdeal.τ).loc Cert.OutAbDwIdeal.main_arg1) = m ((c.tc : Thread Cert.OutAbDwIdeal.nD Cert.OutAbDwIdeal.τ).loc Cert.OutAbDwIdeal.main_arg1))
      ∧ r.2.sem = fun _ => 0)

def quiescent_OutAbDwRefIdeal [hOutAbDwRefIdeal : Cert.OutAbDwRefIdeal.Facts] : Prop :=
  ∀ (m : (ℓ : Loc Cert.OutAbDwRefIdeal.nD Cert.OutAbDwRefIdeal.τ Cert.OutAbDwRefIdeal.sig) → Buf (Elt Ideal) ℓ) (g : Dev Cert.OutAbDwRefIdeal.nD → PrngReg), Pre_OutAbDwRefIdeal m →
    θ_run (Cert.OutAbDwRefIdeal.defs (F := Ideal)) (onTc (τ := Cert.OutAbDwRefIdeal.τ) (Cert.OutAbDwRefIdeal.main (F := Ideal))) ⟨m, fun _ => 0, g⟩ (fun r => (∀ c : Dev Cert.OutAbDwRefIdeal.nD,
      r.2.mem ((c.tc : Thread Cert.OutAbDwRefIdeal.nD Cert.OutAbDwRefIdeal.τ).loc Cert.OutAbDwRefIdeal.main_arg0) = m ((c.tc : Thread Cert.OutAbDwRefIdeal.nD Cert.OutAbDwRefIdeal.τ).loc Cert.OutAbDwRefIdeal.main_arg0)
      ∧ r.2.mem ((c.tc : Thread Cert.OutAbDwRefIdeal.nD Cert.OutAbDwRefIdeal.τ).loc Cert.OutAbDwRefIdeal.main_arg1) = m ((c.tc : Thread Cert.OutAbDwRefIdeal.nD Cert.OutAbDwRefIdeal.τ).loc Cert.OutAbDwRefIdeal.main_arg1))
      ∧ r.2.sem = fun _ => 0)

def quiescent_OutCd [hOutCd : Cert.OutCd.Facts] : Prop :=
  ∀ (m : (ℓ : Loc Cert.OutCd.nD Cert.OutCd.τ Cert.OutCd.sig) → Buf (Elt Bits) ℓ) (g : Dev Cert.OutCd.nD → PrngReg), Pre_OutCd m →
    θ_run (Cert.OutCd.defs (F := Bits)) (onTc (τ := Cert.OutCd.τ) (Cert.OutCd.main (F := Bits))) ⟨m, fun _ => 0, g⟩ (fun r => (∀ c : Dev Cert.OutCd.nD,
      r.2.mem ((c.tc : Thread Cert.OutCd.nD Cert.OutCd.τ).loc Cert.OutCd.main_arg0) = m ((c.tc : Thread Cert.OutCd.nD Cert.OutCd.τ).loc Cert.OutCd.main_arg0)
      ∧ r.2.mem ((c.tc : Thread Cert.OutCd.nD Cert.OutCd.τ).loc Cert.OutCd.main_arg1) = m ((c.tc : Thread Cert.OutCd.nD Cert.OutCd.τ).loc Cert.OutCd.main_arg1)
      ∧ r.2.mem ((c.tc : Thread Cert.OutCd.nD Cert.OutCd.τ).loc Cert.OutCd.main_arg2) = m ((c.tc : Thread Cert.OutCd.nD Cert.OutCd.τ).loc Cert.OutCd.main_arg2))
      ∧ r.2.sem = fun _ => 0)

def quiescent_OutCdIdeal [hOutCdIdeal : Cert.OutCdIdeal.Facts] : Prop :=
  ∀ (m : (ℓ : Loc Cert.OutCdIdeal.nD Cert.OutCdIdeal.τ Cert.OutCdIdeal.sig) → Buf (Elt Ideal) ℓ) (g : Dev Cert.OutCdIdeal.nD → PrngReg), Pre_OutCdIdeal m →
    θ_run (Cert.OutCdIdeal.defs (F := Ideal)) (onTc (τ := Cert.OutCdIdeal.τ) (Cert.OutCdIdeal.main (F := Ideal))) ⟨m, fun _ => 0, g⟩ (fun r => (∀ c : Dev Cert.OutCdIdeal.nD,
      r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
      ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
      ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2))
      ∧ r.2.sem = fun _ => 0)

def quiescent_OutCdRefIdeal [hOutCdRefIdeal : Cert.OutCdRefIdeal.Facts] : Prop :=
  ∀ (m : (ℓ : Loc Cert.OutCdRefIdeal.nD Cert.OutCdRefIdeal.τ Cert.OutCdRefIdeal.sig) → Buf (Elt Ideal) ℓ) (g : Dev Cert.OutCdRefIdeal.nD → PrngReg), Pre_OutCdRefIdeal m →
    θ_run (Cert.OutCdRefIdeal.defs (F := Ideal)) (onTc (τ := Cert.OutCdRefIdeal.τ) (Cert.OutCdRefIdeal.main (F := Ideal))) ⟨m, fun _ => 0, g⟩ (fun r => (∀ c : Dev Cert.OutCdRefIdeal.nD,
      r.2.mem ((c.tc : Thread Cert.OutCdRefIdeal.nD Cert.OutCdRefIdeal.τ).loc Cert.OutCdRefIdeal.main_arg0) = m ((c.tc : Thread Cert.OutCdRefIdeal.nD Cert.OutCdRefIdeal.τ).loc Cert.OutCdRefIdeal.main_arg0)
      ∧ r.2.mem ((c.tc : Thread Cert.OutCdRefIdeal.nD Cert.OutCdRefIdeal.τ).loc Cert.OutCdRefIdeal.main_arg1) = m ((c.tc : Thread Cert.OutCdRefIdeal.nD Cert.OutCdRefIdeal.τ).loc Cert.OutCdRefIdeal.main_arg1)
      ∧ r.2.mem ((c.tc : Thread Cert.OutCdRefIdeal.nD Cert.OutCdRefIdeal.τ).loc Cert.OutCdRefIdeal.main_arg2) = m ((c.tc : Thread Cert.OutCdRefIdeal.nD Cert.OutCdRefIdeal.τ).loc Cert.OutCdRefIdeal.main_arg2))
      ∧ r.2.sem = fun _ => 0)

def quiescent_OutCdDx [hOutCdDx : Cert.OutCdDx.Facts] : Prop :=
  ∀ (m : (ℓ : Loc Cert.OutCdDx.nD Cert.OutCdDx.τ Cert.OutCdDx.sig) → Buf (Elt Bits) ℓ) (g : Dev Cert.OutCdDx.nD → PrngReg), Pre_OutCdDx m →
    θ_run (Cert.OutCdDx.defs (F := Bits)) (onTc (τ := Cert.OutCdDx.τ) (Cert.OutCdDx.main (F := Bits))) ⟨m, fun _ => 0, g⟩ (fun r => (∀ c : Dev Cert.OutCdDx.nD,
      r.2.mem ((c.tc : Thread Cert.OutCdDx.nD Cert.OutCdDx.τ).loc Cert.OutCdDx.main_arg0) = m ((c.tc : Thread Cert.OutCdDx.nD Cert.OutCdDx.τ).loc Cert.OutCdDx.main_arg0)
      ∧ r.2.mem ((c.tc : Thread Cert.OutCdDx.nD Cert.OutCdDx.τ).loc Cert.OutCdDx.main_arg1) = m ((c.tc : Thread Cert.OutCdDx.nD Cert.OutCdDx.τ).loc Cert.OutCdDx.main_arg1))
      ∧ r.2.sem = fun _ => 0)

def quiescent_OutCdDxIdeal [hOutCdDxIdeal : Cert.OutCdDxIdeal.Facts] : Prop :=
  ∀ (m : (ℓ : Loc Cert.OutCdDxIdeal.nD Cert.OutCdDxIdeal.τ Cert.OutCdDxIdeal.sig) → Buf (Elt Ideal) ℓ) (g : Dev Cert.OutCdDxIdeal.nD → PrngReg), Pre_OutCdDxIdeal m →
    θ_run (Cert.OutCdDxIdeal.defs (F := Ideal)) (onTc (τ := Cert.OutCdDxIdeal.τ) (Cert.OutCdDxIdeal.main (F := Ideal))) ⟨m, fun _ => 0, g⟩ (fun r => (∀ c : Dev Cert.OutCdDxIdeal.nD,
      r.2.mem ((c.tc : Thread Cert.OutCdDxIdeal.nD Cert.OutCdDxIdeal.τ).loc Cert.OutCdDxIdeal.main_arg0) = m ((c.tc : Thread Cert.OutCdDxIdeal.nD Cert.OutCdDxIdeal.τ).loc Cert.OutCdDxIdeal.main_arg0)
      ∧ r.2.mem ((c.tc : Thread Cert.OutCdDxIdeal.nD Cert.OutCdDxIdeal.τ).loc Cert.OutCdDxIdeal.main_arg1) = m ((c.tc : Thread Cert.OutCdDxIdeal.nD Cert.OutCdDxIdeal.τ).loc Cert.OutCdDxIdeal.main_arg1))
      ∧ r.2.sem = fun _ => 0)

def quiescent_OutCdDxRefIdeal [hOutCdDxRefIdeal : Cert.OutCdDxRefIdeal.Facts] : Prop :=
  ∀ (m : (ℓ : Loc Cert.OutCdDxRefIdeal.nD Cert.OutCdDxRefIdeal.τ Cert.OutCdDxRefIdeal.sig) → Buf (Elt Ideal) ℓ) (g : Dev Cert.OutCdDxRefIdeal.nD → PrngReg), Pre_OutCdDxRefIdeal m →
    θ_run (Cert.OutCdDxRefIdeal.defs (F := Ideal)) (onTc (τ := Cert.OutCdDxRefIdeal.τ) (Cert.OutCdDxRefIdeal.main (F := Ideal))) ⟨m, fun _ => 0, g⟩ (fun r => (∀ c : Dev Cert.OutCdDxRefIdeal.nD,
      r.2.mem ((c.tc : Thread Cert.OutCdDxRefIdeal.nD Cert.OutCdDxRefIdeal.τ).loc Cert.OutCdDxRefIdeal.main_arg0) = m ((c.tc : Thread Cert.OutCdDxRefIdeal.nD Cert.OutCdDxRefIdeal.τ).loc Cert.OutCdDxRefIdeal.main_arg0)
      ∧ r.2.mem ((c.tc : Thread Cert.OutCdDxRefIdeal.nD Cert.OutCdDxRefIdeal.τ).loc Cert.OutCdDxRefIdeal.main_arg1) = m ((c.tc : Thread Cert.OutCdDxRefIdeal.nD Cert.OutCdDxRefIdeal.τ).loc Cert.OutCdDxRefIdeal.main_arg1))
      ∧ r.2.sem = fun _ => 0)

def quiescent_OutCdDw [hOutCdDw : Cert.OutCdDw.Facts] : Prop :=
  ∀ (m : (ℓ : Loc Cert.OutCdDw.nD Cert.OutCdDw.τ Cert.OutCdDw.sig) → Buf (Elt Bits) ℓ) (g : Dev Cert.OutCdDw.nD → PrngReg), Pre_OutCdDw m →
    θ_run (Cert.OutCdDw.defs (F := Bits)) (onTc (τ := Cert.OutCdDw.τ) (Cert.OutCdDw.main (F := Bits))) ⟨m, fun _ => 0, g⟩ (fun r => (∀ c : Dev Cert.OutCdDw.nD,
      r.2.mem ((c.tc : Thread Cert.OutCdDw.nD Cert.OutCdDw.τ).loc Cert.OutCdDw.main_arg0) = m ((c.tc : Thread Cert.OutCdDw.nD Cert.OutCdDw.τ).loc Cert.OutCdDw.main_arg0)
      ∧ r.2.mem ((c.tc : Thread Cert.OutCdDw.nD Cert.OutCdDw.τ).loc Cert.OutCdDw.main_arg1) = m ((c.tc : Thread Cert.OutCdDw.nD Cert.OutCdDw.τ).loc Cert.OutCdDw.main_arg1))
      ∧ r.2.sem = fun _ => 0)

def quiescent_OutCdDwIdeal [hOutCdDwIdeal : Cert.OutCdDwIdeal.Facts] : Prop :=
  ∀ (m : (ℓ : Loc Cert.OutCdDwIdeal.nD Cert.OutCdDwIdeal.τ Cert.OutCdDwIdeal.sig) → Buf (Elt Ideal) ℓ) (g : Dev Cert.OutCdDwIdeal.nD → PrngReg), Pre_OutCdDwIdeal m →
    θ_run (Cert.OutCdDwIdeal.defs (F := Ideal)) (onTc (τ := Cert.OutCdDwIdeal.τ) (Cert.OutCdDwIdeal.main (F := Ideal))) ⟨m, fun _ => 0, g⟩ (fun r => (∀ c : Dev Cert.OutCdDwIdeal.nD,
      r.2.mem ((c.tc : Thread Cert.OutCdDwIdeal.nD Cert.OutCdDwIdeal.τ).loc Cert.OutCdDwIdeal.main_arg0) = m ((c.tc : Thread Cert.OutCdDwIdeal.nD Cert.OutCdDwIdeal.τ).loc Cert.OutCdDwIdeal.main_arg0)
      ∧ r.2.mem ((c.tc : Thread Cert.OutCdDwIdeal.nD Cert.OutCdDwIdeal.τ).loc Cert.OutCdDwIdeal.main_arg1) = m ((c.tc : Thread Cert.OutCdDwIdeal.nD Cert.OutCdDwIdeal.τ).loc Cert.OutCdDwIdeal.main_arg1))
      ∧ r.2.sem = fun _ => 0)

def quiescent_OutCdDwRefIdeal [hOutCdDwRefIdeal : Cert.OutCdDwRefIdeal.Facts] : Prop :=
  ∀ (m : (ℓ : Loc Cert.OutCdDwRefIdeal.nD Cert.OutCdDwRefIdeal.τ Cert.OutCdDwRefIdeal.sig) → Buf (Elt Ideal) ℓ) (g : Dev Cert.OutCdDwRefIdeal.nD → PrngReg), Pre_OutCdDwRefIdeal m →
    θ_run (Cert.OutCdDwRefIdeal.defs (F := Ideal)) (onTc (τ := Cert.OutCdDwRefIdeal.τ) (Cert.OutCdDwRefIdeal.main (F := Ideal))) ⟨m, fun _ => 0, g⟩ (fun r => (∀ c : Dev Cert.OutCdDwRefIdeal.nD,
      r.2.mem ((c.tc : Thread Cert.OutCdDwRefIdeal.nD Cert.OutCdDwRefIdeal.τ).loc Cert.OutCdDwRefIdeal.main_arg0) = m ((c.tc : Thread Cert.OutCdDwRefIdeal.nD Cert.OutCdDwRefIdeal.τ).loc Cert.OutCdDwRefIdeal.main_arg0)
      ∧ r.2.mem ((c.tc : Thread Cert.OutCdDwRefIdeal.nD Cert.OutCdDwRefIdeal.τ).loc Cert.OutCdDwRefIdeal.main_arg1) = m ((c.tc : Thread Cert.OutCdDwRefIdeal.nD Cert.OutCdDwRefIdeal.τ).loc Cert.OutCdDwRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_XqDx [hXqDx : Cert.XqDx.Facts] : Prop :=
  ∀ (m : (ℓ : Loc Cert.XqDx.nD Cert.XqDx.τ Cert.XqDx.sig) → Buf (Elt Bits) ℓ) (g : Dev Cert.XqDx.nD → PrngReg), Pre_XqDx m →
    θ_run (Cert.XqDx.defs (F := Bits)) (onTc (τ := Cert.XqDx.τ) (Cert.XqDx.main (F := Bits))) ⟨m, fun _ => 0, g⟩ (fun r => (∀ c : Dev Cert.XqDx.nD,
      r.2.mem ((c.tc : Thread Cert.XqDx.nD Cert.XqDx.τ).loc Cert.XqDx.main_arg0) = m ((c.tc : Thread Cert.XqDx.nD Cert.XqDx.τ).loc Cert.XqDx.main_arg0)
      ∧ r.2.mem ((c.tc : Thread Cert.XqDx.nD Cert.XqDx.τ).loc Cert.XqDx.main_arg1) = m ((c.tc : Thread Cert.XqDx.nD Cert.XqDx.τ).loc Cert.XqDx.main_arg1))
      ∧ r.2.sem = fun _ => 0)

def quiescent_XqDxIdeal [hXqDxIdeal : Cert.XqDxIdeal.Facts] : Prop :=
  ∀ (m : (ℓ : Loc Cert.XqDxIdeal.nD Cert.XqDxIdeal.τ Cert.XqDxIdeal.sig) → Buf (Elt Ideal) ℓ) (g : Dev Cert.XqDxIdeal.nD → PrngReg), Pre_XqDxIdeal m →
    θ_run (Cert.XqDxIdeal.defs (F := Ideal)) (onTc (τ := Cert.XqDxIdeal.τ) (Cert.XqDxIdeal.main (F := Ideal))) ⟨m, fun _ => 0, g⟩ (fun r => (∀ c : Dev Cert.XqDxIdeal.nD,
      r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
      ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1))
      ∧ r.2.sem = fun _ => 0)

def quiescent_XqDxRefIdeal [hXqDxRefIdeal : Cert.XqDxRefIdeal.Facts] : Prop :=
  ∀ (m : (ℓ : Loc Cert.XqDxRefIdeal.nD Cert.XqDxRefIdeal.τ Cert.XqDxRefIdeal.sig) → Buf (Elt Ideal) ℓ) (g : Dev Cert.XqDxRefIdeal.nD → PrngReg), Pre_XqDxRefIdeal m →
    θ_run (Cert.XqDxRefIdeal.defs (F := Ideal)) (onTc (τ := Cert.XqDxRefIdeal.τ) (Cert.XqDxRefIdeal.main (F := Ideal))) ⟨m, fun _ => 0, g⟩ (fun r => (∀ c : Dev Cert.XqDxRefIdeal.nD,
      r.2.mem ((c.tc : Thread Cert.XqDxRefIdeal.nD Cert.XqDxRefIdeal.τ).loc Cert.XqDxRefIdeal.main_arg0) = m ((c.tc : Thread Cert.XqDxRefIdeal.nD Cert.XqDxRefIdeal.τ).loc Cert.XqDxRefIdeal.main_arg0)
      ∧ r.2.mem ((c.tc : Thread Cert.XqDxRefIdeal.nD Cert.XqDxRefIdeal.τ).loc Cert.XqDxRefIdeal.main_arg1) = m ((c.tc : Thread Cert.XqDxRefIdeal.nD Cert.XqDxRefIdeal.τ).loc Cert.XqDxRefIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwRefIdeal [hXqDwRefIdeal : Cert.XqDwRefIdeal.Facts] : Prop :=
  ∀ (m : (ℓ : Loc Cert.XqDwRefIdeal.nD Cert.XqDwRefIdeal.τ Cert.XqDwRefIdeal.sig) → Buf (Elt Ideal) ℓ) (g : Dev Cert.XqDwRefIdeal.nD → PrngReg), Pre_XqDwRefIdeal m →
    θ_run (Cert.XqDwRefIdeal.defs (F := Ideal)) (onTc (τ := Cert.XqDwRefIdeal.τ) (Cert.XqDwRefIdeal.main (F := Ideal))) ⟨m, fun _ => 0, g⟩ (fun r => (∀ c : Dev Cert.XqDwRefIdeal.nD,
      r.2.mem ((c.tc : Thread Cert.XqDwRefIdeal.nD Cert.XqDwRefIdeal.τ).loc Cert.XqDwRefIdeal.main_arg0) = m ((c.tc : Thread Cert.XqDwRefIdeal.nD Cert.XqDwRefIdeal.τ).loc Cert.XqDwRefIdeal.main_arg0)
      ∧ r.2.mem ((c.tc : Thread Cert.XqDwRefIdeal.nD Cert.XqDwRefIdeal.τ).loc Cert.XqDwRefIdeal.main_arg1) = m ((c.tc : Thread Cert.XqDwRefIdeal.nD Cert.XqDwRefIdeal.τ).loc Cert.XqDwRefIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_XoDx [hXoDx : Cert.XoDx.Facts] : Prop :=
  ∀ (m : (ℓ : Loc Cert.XoDx.nD Cert.XoDx.τ Cert.XoDx.sig) → Buf (Elt Bits) ℓ) (g : Dev Cert.XoDx.nD → PrngReg), Pre_XoDx m →
    θ_run (Cert.XoDx.defs (F := Bits)) (onTc (τ := Cert.XoDx.τ) (Cert.XoDx.main (F := Bits))) ⟨m, fun _ => 0, g⟩ (fun r => (∀ c : Dev Cert.XoDx.nD,
      r.2.mem ((c.tc : Thread Cert.XoDx.nD Cert.XoDx.τ).loc Cert.XoDx.main_arg0) = m ((c.tc : Thread Cert.XoDx.nD Cert.XoDx.τ).loc Cert.XoDx.main_arg0)
      ∧ r.2.mem ((c.tc : Thread Cert.XoDx.nD Cert.XoDx.τ).loc Cert.XoDx.main_arg1) = m ((c.tc : Thread Cert.XoDx.nD Cert.XoDx.τ).loc Cert.XoDx.main_arg1))
      ∧ r.2.sem = fun _ => 0)

def quiescent_XoDxIdeal [hXoDxIdeal : Cert.XoDxIdeal.Facts] : Prop :=
  ∀ (m : (ℓ : Loc Cert.XoDxIdeal.nD Cert.XoDxIdeal.τ Cert.XoDxIdeal.sig) → Buf (Elt Ideal) ℓ) (g : Dev Cert.XoDxIdeal.nD → PrngReg), Pre_XoDxIdeal m →
    θ_run (Cert.XoDxIdeal.defs (F := Ideal)) (onTc (τ := Cert.XoDxIdeal.τ) (Cert.XoDxIdeal.main (F := Ideal))) ⟨m, fun _ => 0, g⟩ (fun r => (∀ c : Dev Cert.XoDxIdeal.nD,
      r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
      ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ r.2.sem = fun _ => 0)

def quiescent_XoDxRefIdeal [hXoDxRefIdeal : Cert.XoDxRefIdeal.Facts] : Prop :=
  ∀ (m : (ℓ : Loc Cert.XoDxRefIdeal.nD Cert.XoDxRefIdeal.τ Cert.XoDxRefIdeal.sig) → Buf (Elt Ideal) ℓ) (g : Dev Cert.XoDxRefIdeal.nD → PrngReg), Pre_XoDxRefIdeal m →
    θ_run (Cert.XoDxRefIdeal.defs (F := Ideal)) (onTc (τ := Cert.XoDxRefIdeal.τ) (Cert.XoDxRefIdeal.main (F := Ideal))) ⟨m, fun _ => 0, g⟩ (fun r => (∀ c : Dev Cert.XoDxRefIdeal.nD,
      r.2.mem ((c.tc : Thread Cert.XoDxRefIdeal.nD Cert.XoDxRefIdeal.τ).loc Cert.XoDxRefIdeal.main_arg0) = m ((c.tc : Thread Cert.XoDxRefIdeal.nD Cert.XoDxRefIdeal.τ).loc Cert.XoDxRefIdeal.main_arg0)
      ∧ r.2.mem ((c.tc : Thread Cert.XoDxRefIdeal.nD Cert.XoDxRefIdeal.τ).loc Cert.XoDxRefIdeal.main_arg1) = m ((c.tc : Thread Cert.XoDxRefIdeal.nD Cert.XoDxRefIdeal.τ).loc Cert.XoDxRefIdeal.main_arg1))
      ∧ r.2.sem = fun _ => 0)

def quiescent_XoDw [hXoDw : Cert.XoDw.Facts] : Prop :=
  ∀ (m : (ℓ : Loc Cert.XoDw.nD Cert.XoDw.τ Cert.XoDw.sig) → Buf (Elt Bits) ℓ) (g : Dev Cert.XoDw.nD → PrngReg), Pre_XoDw m →
    θ_run (Cert.XoDw.defs (F := Bits)) (onTc (τ := Cert.XoDw.τ) (Cert.XoDw.main (F := Bits))) ⟨m, fun _ => 0, g⟩ (fun r => (∀ c : Dev Cert.XoDw.nD,
      r.2.mem ((c.tc : Thread Cert.XoDw.nD Cert.XoDw.τ).loc Cert.XoDw.main_arg0) = m ((c.tc : Thread Cert.XoDw.nD Cert.XoDw.τ).loc Cert.XoDw.main_arg0)
      ∧ r.2.mem ((c.tc : Thread Cert.XoDw.nD Cert.XoDw.τ).loc Cert.XoDw.main_arg1) = m ((c.tc : Thread Cert.XoDw.nD Cert.XoDw.τ).loc Cert.XoDw.main_arg1))
      ∧ r.2.sem = fun _ => 0)

def quiescent_XoDwIdeal [hXoDwIdeal : Cert.XoDwIdeal.Facts] : Prop :=
  ∀ (m : (ℓ : Loc Cert.XoDwIdeal.nD Cert.XoDwIdeal.τ Cert.XoDwIdeal.sig) → Buf (Elt Ideal) ℓ) (g : Dev Cert.XoDwIdeal.nD → PrngReg), Pre_XoDwIdeal m →
    θ_run (Cert.XoDwIdeal.defs (F := Ideal)) (onTc (τ := Cert.XoDwIdeal.τ) (Cert.XoDwIdeal.main (F := Ideal))) ⟨m, fun _ => 0, g⟩ (fun r => (∀ c : Dev Cert.XoDwIdeal.nD,
      r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
      ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ r.2.sem = fun _ => 0)

def quiescent_XoDwRefIdeal [hXoDwRefIdeal : Cert.XoDwRefIdeal.Facts] : Prop :=
  ∀ (m : (ℓ : Loc Cert.XoDwRefIdeal.nD Cert.XoDwRefIdeal.τ Cert.XoDwRefIdeal.sig) → Buf (Elt Ideal) ℓ) (g : Dev Cert.XoDwRefIdeal.nD → PrngReg), Pre_XoDwRefIdeal m →
    θ_run (Cert.XoDwRefIdeal.defs (F := Ideal)) (onTc (τ := Cert.XoDwRefIdeal.τ) (Cert.XoDwRefIdeal.main (F := Ideal))) ⟨m, fun _ => 0, g⟩ (fun r => (∀ c : Dev Cert.XoDwRefIdeal.nD,
      r.2.mem ((c.tc : Thread Cert.XoDwRefIdeal.nD Cert.XoDwRefIdeal.τ).loc Cert.XoDwRefIdeal.main_arg0) = m ((c.tc : Thread Cert.XoDwRefIdeal.nD Cert.XoDwRefIdeal.τ).loc Cert.XoDwRefIdeal.main_arg0)
      ∧ r.2.mem ((c.tc : Thread Cert.XoDwRefIdeal.nD Cert.XoDwRefIdeal.τ).loc Cert.XoDwRefIdeal.main_arg1) = m ((c.tc : Thread Cert.XoDwRefIdeal.nD Cert.XoDwRefIdeal.τ).loc Cert.XoDwRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ r.2.sem = fun _ => 0)

def quiescent_PoolDxRefIdeal [hPoolDxRefIdeal : Cert.PoolDxRefIdeal.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_XkvDx [hXkvDx : Cert.XkvDx.Facts] : Prop :=
  ∀ (m : (ℓ : Loc Cert.XkvDx.nD Cert.XkvDx.τ Cert.XkvDx.sig) → Buf (Elt Bits) ℓ) (g : Dev Cert.XkvDx.nD → PrngReg), Pre_XkvDx m →
    θ_run (Cert.XkvDx.defs (F := Bits)) (onTc (τ := Cert.XkvDx.τ) (Cert.XkvDx.main (F := Bits))) ⟨m, fun _ => 0, g⟩ (fun r => (∀ c : Dev Cert.XkvDx.nD,
      r.2.mem ((c.tc : Thread Cert.XkvDx.nD Cert.XkvDx.τ).loc Cert.XkvDx.main_arg0) = m ((c.tc : Thread Cert.XkvDx.nD Cert.XkvDx.τ).loc Cert.XkvDx.main_arg0)
      ∧ r.2.mem ((c.tc : Thread Cert.XkvDx.nD Cert.XkvDx.τ).loc Cert.XkvDx.main_arg1) = m ((c.tc : Thread Cert.XkvDx.nD Cert.XkvDx.τ).loc Cert.XkvDx.main_arg1)
      ∧ r.2.mem ((c.tc : Thread Cert.XkvDx.nD Cert.XkvDx.τ).loc Cert.XkvDx.main_arg2) = m ((c.tc : Thread Cert.XkvDx.nD Cert.XkvDx.τ).loc Cert.XkvDx.main_arg2))
      ∧ r.2.sem = fun _ => 0)

def quiescent_XkvDxIdeal [hXkvDxIdeal : Cert.XkvDxIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg), Pre_XkvDxIdeal m →
    θ_run (Cert.XkvDxIdeal.defs (F := Ideal)) (onTc (τ := Cert.XkvDxIdeal.τ) (Cert.XkvDxIdeal.main (F := Ideal))) ⟨m, fun _ => 0, g⟩ (fun r => (∀ c : Dev Cert.XkvDxIdeal.nD,
      r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
      ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1)
      ∧ r.2.mem ((c.tc : Thread Cert.XkvDxIdeal.nD Cert.XkvDxIdeal.τ).loc Cert.XkvDxIdeal.main_arg2) = m ((c.tc : Thread Cert.XkvDxIdeal.nD Cert.XkvDxIdeal.τ).loc Cert.XkvDxIdeal.main_arg2))
      ∧ r.2.sem = fun _ => 0)

def quiescent_XkvDxRefIdeal [hXkvDxRefIdeal : Cert.XkvDxRefIdeal.Facts] : Prop :=
  ∀ (m : (ℓ : Loc Cert.XkvDxRefIdeal.nD Cert.XkvDxRefIdeal.τ Cert.XkvDxRefIdeal.sig) → Buf (Elt Ideal) ℓ) (g : Dev Cert.XkvDxRefIdeal.nD → PrngReg), Pre_XkvDxRefIdeal m →
    θ_run (Cert.XkvDxRefIdeal.defs (F := Ideal)) (onTc (τ := Cert.XkvDxRefIdeal.τ) (Cert.XkvDxRefIdeal.main (F := Ideal))) ⟨m, fun _ => 0, g⟩ (fun r => (∀ c : Dev Cert.XkvDxRefIdeal.nD,
      r.2.mem ((c.tc : Thread Cert.XkvDxRefIdeal.nD Cert.XkvDxRefIdeal.τ).loc Cert.XkvDxRefIdeal.main_arg0) = m ((c.tc : Thread Cert.XkvDxRefIdeal.nD Cert.XkvDxRefIdeal.τ).loc Cert.XkvDxRefIdeal.main_arg0)
      ∧ r.2.mem ((c.tc : Thread Cert.XkvDxRefIdeal.nD Cert.XkvDxRefIdeal.τ).loc Cert.XkvDxRefIdeal.main_arg1) = m ((c.tc : Thread Cert.XkvDxRefIdeal.nD Cert.XkvDxRefIdeal.τ).loc Cert.XkvDxRefIdeal.main_arg1)
      ∧ r.2.mem ((c.tc : Thread Cert.XkvDxRefIdeal.nD Cert.XkvDxRefIdeal.τ).loc Cert.XkvDxRefIdeal.main_arg2) = m ((c.tc : Thread Cert.XkvDxRefIdeal.nD Cert.XkvDxRefIdeal.τ).loc Cert.XkvDxRefIdeal.main_arg2))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_RmsDx [hRmsDx : Cert.RmsDx.Facts] : Prop :=
  ∀ (m : (ℓ : Loc Cert.RmsDx.nD Cert.RmsDx.τ Cert.RmsDx.sig) → Buf (Elt Bits) ℓ) (g : Dev Cert.RmsDx.nD → PrngReg), Pre_RmsDx m →
    θ_run (Cert.RmsDx.defs (F := Bits)) (onTc (τ := Cert.RmsDx.τ) (Cert.RmsDx.main (F := Bits))) ⟨m, fun _ => 0, g⟩ (fun r => (∀ c : Dev Cert.RmsDx.nD,
      r.2.mem ((c.tc : Thread Cert.RmsDx.nD Cert.RmsDx.τ).loc Cert.RmsDx.main_arg0) = m ((c.tc : Thread Cert.RmsDx.nD Cert.RmsDx.τ).loc Cert.RmsDx.main_arg0)
      ∧ r.2.mem ((c.tc : Thread Cert.RmsDx.nD Cert.RmsDx.τ).loc Cert.RmsDx.main_arg1) = m ((c.tc : Thread Cert.RmsDx.nD Cert.RmsDx.τ).loc Cert.RmsDx.main_arg1)
      ∧ r.2.mem ((c.tc : Thread Cert.RmsDx.nD Cert.RmsDx.τ).loc Cert.RmsDx.main_arg2) = m ((c.tc : Thread Cert.RmsDx.nD Cert.RmsDx.τ).loc Cert.RmsDx.main_arg2)
      ∧ r.2.mem ((c.tc : Thread Cert.RmsDx.nD Cert.RmsDx.τ).loc Cert.RmsDx.main_arg3) = m ((c.tc : Thread Cert.RmsDx.nD Cert.RmsDx.τ).loc Cert.RmsDx.main_arg3))
      ∧ r.2.sem = fun _ => 0)

def quiescent_RmsDxIdeal [hRmsDxIdeal : Cert.RmsDxIdeal.Facts] : Prop :=
  ∀ (m : (ℓ : Loc Cert.RmsDxIdeal.nD Cert.RmsDxIdeal.τ Cert.RmsDxIdeal.sig) → Buf (Elt Ideal) ℓ) (g : Dev Cert.RmsDxIdeal.nD → PrngReg), Pre_RmsDxIdeal m →
    θ_run (Cert.RmsDxIdeal.defs (F := Ideal)) (onTc (τ := Cert.RmsDxIdeal.τ) (Cert.RmsDxIdeal.main (F := Ideal))) ⟨m, fun _ => 0, g⟩ (fun r => (∀ c : Dev Cert.RmsDxIdeal.nD,
      r.2.mem ((c.tc : Thread Cert.RmsDxIdeal.nD Cert.RmsDxIdeal.τ).loc Cert.RmsDxIdeal.main_arg0) = m ((c.tc : Thread Cert.RmsDxIdeal.nD Cert.RmsDxIdeal.τ).loc Cert.RmsDxIdeal.main_arg0)
      ∧ r.2.mem ((c.tc : Thread Cert.RmsDxIdeal.nD Cert.RmsDxIdeal.τ).loc Cert.RmsDxIdeal.main_arg1) = m ((c.tc : Thread Cert.RmsDxIdeal.nD Cert.RmsDxIdeal.τ).loc Cert.RmsDxIdeal.main_arg1)
      ∧ r.2.mem ((c.tc : Thread Cert.RmsDxIdeal.nD Cert.RmsDxIdeal.τ).loc Cert.RmsDxIdeal.main_arg2) = m ((c.tc : Thread Cert.RmsDxIdeal.nD Cert.RmsDxIdeal.τ).loc Cert.RmsDxIdeal.main_arg2)
      ∧ r.2.mem ((c.tc : Thread Cert.RmsDxIdeal.nD Cert.RmsDxIdeal.τ).loc Cert.RmsDxIdeal.main_arg3) = m ((c.tc : Thread Cert.RmsDxIdeal.nD Cert.RmsDxIdeal.τ).loc Cert.RmsDxIdeal.main_arg3))
      ∧ r.2.sem = fun _ => 0)

def quiescent_RmsDxRefIdeal [hRmsDxRefIdeal : Cert.RmsDxRefIdeal.Facts] : Prop :=
  ∀ (m : (ℓ : Loc Cert.RmsDxRefIdeal.nD Cert.RmsDxRefIdeal.τ Cert.RmsDxRefIdeal.sig) → Buf (Elt Ideal) ℓ) (g : Dev Cert.RmsDxRefIdeal.nD → PrngReg), Pre_RmsDxRefIdeal m →
    θ_run (Cert.RmsDxRefIdeal.defs (F := Ideal)) (onTc (τ := Cert.RmsDxRefIdeal.τ) (Cert.RmsDxRefIdeal.main (F := Ideal))) ⟨m, fun _ => 0, g⟩ (fun r => (∀ c : Dev Cert.RmsDxRefIdeal.nD,
      r.2.mem ((c.tc : Thread Cert.RmsDxRefIdeal.nD Cert.RmsDxRefIdeal.τ).loc Cert.RmsDxRefIdeal.main_arg0) = m ((c.tc : Thread Cert.RmsDxRefIdeal.nD Cert.RmsDxRefIdeal.τ).loc Cert.RmsDxRefIdeal.main_arg0)
      ∧ r.2.mem ((c.tc : Thread Cert.RmsDxRefIdeal.nD Cert.RmsDxRefIdeal.τ).loc Cert.RmsDxRefIdeal.main_arg1) = m ((c.tc : Thread Cert.RmsDxRefIdeal.nD Cert.RmsDxRefIdeal.τ).loc Cert.RmsDxRefIdeal.main_arg1)
      ∧ r.2.mem ((c.tc : Thread Cert.RmsDxRefIdeal.nD Cert.RmsDxRefIdeal.τ).loc Cert.RmsDxRefIdeal.main_arg2) = m ((c.tc : Thread Cert.RmsDxRefIdeal.nD Cert.RmsDxRefIdeal.τ).loc Cert.RmsDxRefIdeal.main_arg2)
      ∧ r.2.mem ((c.tc : Thread Cert.RmsDxRefIdeal.nD Cert.RmsDxRefIdeal.τ).loc Cert.RmsDxRefIdeal.main_arg3) = m ((c.tc : Thread Cert.RmsDxRefIdeal.nD Cert.RmsDxRefIdeal.τ).loc Cert.RmsDxRefIdeal.main_arg3))
      ∧ r.2.sem = fun _ => 0)

def quiescent_MemNormDg [hMemNormDg : Cert.MemNormDg.Facts] : Prop :=
  ∀ (m : (ℓ : Loc Cert.MemNormDg.nD Cert.MemNormDg.τ Cert.MemNormDg.sig) → Buf (Elt Bits) ℓ) (g : Dev Cert.MemNormDg.nD → PrngReg), Pre_MemNormDg m →
    θ_run (Cert.MemNormDg.defs (F := Bits)) (onTc (τ := Cert.MemNormDg.τ) (Cert.MemNormDg.main (F := Bits))) ⟨m, fun _ => 0, g⟩ (fun r => (∀ c : Dev Cert.MemNormDg.nD,
      r.2.mem ((c.tc : Thread Cert.MemNormDg.nD Cert.MemNormDg.τ).loc Cert.MemNormDg.main_arg0) = m ((c.tc : Thread Cert.MemNormDg.nD Cert.MemNormDg.τ).loc Cert.MemNormDg.main_arg0)
      ∧ r.2.mem ((c.tc : Thread Cert.MemNormDg.nD Cert.MemNormDg.τ).loc Cert.MemNormDg.main_arg1) = m ((c.tc : Thread Cert.MemNormDg.nD Cert.MemNormDg.τ).loc Cert.MemNormDg.main_arg1)
      ∧ r.2.mem ((c.tc : Thread Cert.MemNormDg.nD Cert.MemNormDg.τ).loc Cert.MemNormDg.main_arg2) = m ((c.tc : Thread Cert.MemNormDg.nD Cert.MemNormDg.τ).loc Cert.MemNormDg.main_arg2))
      ∧ r.2.sem = fun _ => 0)

def quiescent_MemNormDgIdeal [hMemNormDgIdeal : Cert.MemNormDgIdeal.Facts] : Prop :=
  ∀ (m : (ℓ : Loc Cert.MemNormDgIdeal.nD Cert.MemNormDgIdeal.τ Cert.MemNormDgIdeal.sig) → Buf (Elt Ideal) ℓ) (g : Dev Cert.MemNormDgIdeal.nD → PrngReg), Pre_MemNormDgIdeal m →
    θ_run (Cert.MemNormDgIdeal.defs (F := Ideal)) (onTc (τ := Cert.MemNormDgIdeal.τ) (Cert.MemNormDgIdeal.main (F := Ideal))) ⟨m, fun _ => 0, g⟩ (fun r => (∀ c : Dev Cert.MemNormDgIdeal.nD,
      r.2.mem ((c.tc : Thread Cert.MemNormDgIdeal.nD Cert.MemNormDgIdeal.τ).loc Cert.MemNormDgIdeal.main_arg0) = m ((c.tc : Thread Cert.MemNormDgIdeal.nD Cert.MemNormDgIdeal.τ).loc Cert.MemNormDgIdeal.main_arg0)
      ∧ r.2.mem ((c.tc : Thread Cert.MemNormDgIdeal.nD Cert.MemNormDgIdeal.τ).loc Cert.MemNormDgIdeal.main_arg1) = m ((c.tc : Thread Cert.MemNormDgIdeal.nD Cert.MemNormDgIdeal.τ).loc Cert.MemNormDgIdeal.main_arg1)
      ∧ r.2.mem ((c.tc : Thread Cert.MemNormDgIdeal.nD Cert.MemNormDgIdeal.τ).loc Cert.MemNormDgIdeal.main_arg2) = m ((c.tc : Thread Cert.MemNormDgIdeal.nD Cert.MemNormDgIdeal.τ).loc Cert.MemNormDgIdeal.main_arg2))
      ∧ r.2.sem = fun _ => 0)

def quiescent_MemNormDgRefIdeal [hMemNormDgRefIdeal : Cert.MemNormDgRefIdeal.Facts] : Prop :=
  ∀ (m : (ℓ : Loc Cert.MemNormDgRefIdeal.nD Cert.MemNormDgRefIdeal.τ Cert.MemNormDgRefIdeal.sig) → Buf (Elt Ideal) ℓ) (g : Dev Cert.MemNormDgRefIdeal.nD → PrngReg), Pre_MemNormDgRefIdeal m →
    θ_run (Cert.MemNormDgRefIdeal.defs (F := Ideal)) (onTc (τ := Cert.MemNormDgRefIdeal.τ) (Cert.MemNormDgRefIdeal.main (F := Ideal))) ⟨m, fun _ => 0, g⟩ (fun r => (∀ c : Dev Cert.MemNormDgRefIdeal.nD,
      r.2.mem ((c.tc : Thread Cert.MemNormDgRefIdeal.nD Cert.MemNormDgRefIdeal.τ).loc Cert.MemNormDgRefIdeal.main_arg0) = m ((c.tc : Thread Cert.MemNormDgRefIdeal.nD Cert.MemNormDgRefIdeal.τ).loc Cert.MemNormDgRefIdeal.main_arg0)
      ∧ r.2.mem ((c.tc : Thread Cert.MemNormDgRefIdeal.nD Cert.MemNormDgRefIdeal.τ).loc Cert.MemNormDgRefIdeal.main_arg1) = m ((c.tc : Thread Cert.MemNormDgRefIdeal.nD Cert.MemNormDgRefIdeal.τ).loc Cert.MemNormDgRefIdeal.main_arg1)
      ∧ r.2.mem ((c.tc : Thread Cert.MemNormDgRefIdeal.nD Cert.MemNormDgRefIdeal.τ).loc Cert.MemNormDgRefIdeal.main_arg2) = m ((c.tc : Thread Cert.MemNormDgRefIdeal.nD Cert.MemNormDgRefIdeal.τ).loc Cert.MemNormDgRefIdeal.main_arg2))
      ∧ r.2.sem = fun _ => 0)

def quiescent_GateAb [hGateAb : Cert.GateAb.Facts] : Prop :=
  ∀ (m : (ℓ : Loc Cert.GateAb.nD Cert.GateAb.τ Cert.GateAb.sig) → Buf (Elt Bits) ℓ) (g : Dev Cert.GateAb.nD → PrngReg), Pre_GateAb m →
    θ_run (Cert.GateAb.defs (F := Bits)) (onTc (τ := Cert.GateAb.τ) (Cert.GateAb.main (F := Bits))) ⟨m, fun _ => 0, g⟩ (fun r => (∀ c : Dev Cert.GateAb.nD,
      r.2.mem ((c.tc : Thread Cert.GateAb.nD Cert.GateAb.τ).loc Cert.GateAb.main_arg0) = m ((c.tc : Thread Cert.GateAb.nD Cert.GateAb.τ).loc Cert.GateAb.main_arg0)
      ∧ r.2.mem ((c.tc : Thread Cert.GateAb.nD Cert.GateAb.τ).loc Cert.GateAb.main_arg1) = m ((c.tc : Thread Cert.GateAb.nD Cert.GateAb.τ).loc Cert.GateAb.main_arg1)
      ∧ r.2.mem ((c.tc : Thread Cert.GateAb.nD Cert.GateAb.τ).loc Cert.GateAb.main_arg2) = m ((c.tc : Thread Cert.GateAb.nD Cert.GateAb.τ).loc Cert.GateAb.main_arg2)
      ∧ r.2.mem ((c.tc : Thread Cert.GateAb.nD Cert.GateAb.τ).loc Cert.GateAb.main_arg3) = m ((c.tc : Thread Cert.GateAb.nD Cert.GateAb.τ).loc Cert.GateAb.main_arg3)
      ∧ r.2.mem ((c.tc : Thread Cert.GateAb.nD Cert.GateAb.τ).loc Cert.GateAb.main_arg4) = m ((c.tc : Thread Cert.GateAb.nD Cert.GateAb.τ).loc Cert.GateAb.main_arg4))
      ∧ r.2.sem = fun _ => 0)

def quiescent_GateAbIdeal [hGateAbIdeal : Cert.GateAbIdeal.Facts] : Prop :=
  ∀ (m : (ℓ : Loc Cert.GateAbIdeal.nD Cert.GateAbIdeal.τ Cert.GateAbIdeal.sig) → Buf (Elt Ideal) ℓ) (g : Dev Cert.GateAbIdeal.nD → PrngReg), Pre_GateAbIdeal m →
    θ_run (Cert.GateAbIdeal.defs (F := Ideal)) (onTc (τ := Cert.GateAbIdeal.τ) (Cert.GateAbIdeal.main (F := Ideal))) ⟨m, fun _ => 0, g⟩ (fun r => (∀ c : Dev Cert.GateAbIdeal.nD,
      r.2.mem ((c.tc : Thread Cert.GateAbIdeal.nD Cert.GateAbIdeal.τ).loc Cert.GateAbIdeal.main_arg0) = m ((c.tc : Thread Cert.GateAbIdeal.nD Cert.GateAbIdeal.τ).loc Cert.GateAbIdeal.main_arg0)
      ∧ r.2.mem ((c.tc : Thread Cert.GateAbIdeal.nD Cert.GateAbIdeal.τ).loc Cert.GateAbIdeal.main_arg1) = m ((c.tc : Thread Cert.GateAbIdeal.nD Cert.GateAbIdeal.τ).loc Cert.GateAbIdeal.main_arg1)
      ∧ r.2.mem ((c.tc : Thread Cert.GateAbIdeal.nD Cert.GateAbIdeal.τ).loc Cert.GateAbIdeal.main_arg2) = m ((c.tc : Thread Cert.GateAbIdeal.nD Cert.GateAbIdeal.τ).loc Cert.GateAbIdeal.main_arg2)
      ∧ r.2.mem ((c.tc : Thread Cert.GateAbIdeal.nD Cert.GateAbIdeal.τ).loc Cert.GateAbIdeal.main_arg3) = m ((c.tc : Thread Cert.GateAbIdeal.nD Cert.GateAbIdeal.τ).loc Cert.GateAbIdeal.main_arg3)
      ∧ r.2.mem ((c.tc : Thread Cert.GateAbIdeal.nD Cert.GateAbIdeal.τ).loc Cert.GateAbIdeal.main_arg4) = m ((c.tc : Thread Cert.GateAbIdeal.nD Cert.GateAbIdeal.τ).loc Cert.GateAbIdeal.main_arg4))
      ∧ r.2.sem = fun _ => 0)

def quiescent_GateAbRefIdeal [hGateAbRefIdeal : Cert.GateAbRefIdeal.Facts] : Prop :=
  ∀ (m : (ℓ : Loc Cert.GateAbRefIdeal.nD Cert.GateAbRefIdeal.τ Cert.GateAbRefIdeal.sig) → Buf (Elt Ideal) ℓ) (g : Dev Cert.GateAbRefIdeal.nD → PrngReg), Pre_GateAbRefIdeal m →
    θ_run (Cert.GateAbRefIdeal.defs (F := Ideal)) (onTc (τ := Cert.GateAbRefIdeal.τ) (Cert.GateAbRefIdeal.main (F := Ideal))) ⟨m, fun _ => 0, g⟩ (fun r => (∀ c : Dev Cert.GateAbRefIdeal.nD,
      r.2.mem ((c.tc : Thread Cert.GateAbRefIdeal.nD Cert.GateAbRefIdeal.τ).loc Cert.GateAbRefIdeal.main_arg0) = m ((c.tc : Thread Cert.GateAbRefIdeal.nD Cert.GateAbRefIdeal.τ).loc Cert.GateAbRefIdeal.main_arg0)
      ∧ r.2.mem ((c.tc : Thread Cert.GateAbRefIdeal.nD Cert.GateAbRefIdeal.τ).loc Cert.GateAbRefIdeal.main_arg1) = m ((c.tc : Thread Cert.GateAbRefIdeal.nD Cert.GateAbRefIdeal.τ).loc Cert.GateAbRefIdeal.main_arg1)
      ∧ r.2.mem ((c.tc : Thread Cert.GateAbRefIdeal.nD Cert.GateAbRefIdeal.τ).loc Cert.GateAbRefIdeal.main_arg2) = m ((c.tc : Thread Cert.GateAbRefIdeal.nD Cert.GateAbRefIdeal.τ).loc Cert.GateAbRefIdeal.main_arg2)
      ∧ r.2.mem ((c.tc : Thread Cert.GateAbRefIdeal.nD Cert.GateAbRefIdeal.τ).loc Cert.GateAbRefIdeal.main_arg3) = m ((c.tc : Thread Cert.GateAbRefIdeal.nD Cert.GateAbRefIdeal.τ).loc Cert.GateAbRefIdeal.main_arg3)
      ∧ r.2.mem ((c.tc : Thread Cert.GateAbRefIdeal.nD Cert.GateAbRefIdeal.τ).loc Cert.GateAbRefIdeal.main_arg4) = m ((c.tc : Thread Cert.GateAbRefIdeal.nD Cert.GateAbRefIdeal.τ).loc Cert.GateAbRefIdeal.main_arg4))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1)
      ∧ r.2.mem ((c.tc : Thread Cert.GluGate.nD Cert.GluGate.τ).loc Cert.GluGate.main_arg2) = m ((c.tc : Thread Cert.GluGate.nD Cert.GluGate.τ).loc Cert.GluGate.main_arg2))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2))
      ∧ r.2.sem = fun _ => 0)

def quiescent_GluGateRefIdeal [hGluGateRefIdeal : Cert.GluGateRefIdeal.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0)
      ∧ r.2.mem ((c.tc : Thread Cert.GluGateRefIdeal.nD Cert.GluGateRefIdeal.τ).loc Cert.GluGateRefIdeal.main_arg1) = m ((c.tc : Thread Cert.GluGateRefIdeal.nD Cert.GluGateRefIdeal.τ).loc Cert.GluGateRefIdeal.main_arg1)
      ∧ r.2.mem ((c.tc : Thread Cert.GluGateRefIdeal.nD Cert.GluGateRefIdeal.τ).loc Cert.GluGateRefIdeal.main_arg2) = m ((c.tc : Thread Cert.GluGateRefIdeal.nD Cert.GluGateRefIdeal.τ).loc Cert.GluGateRefIdeal.main_arg2))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2)
      ∧ r.2.mem ((c.tc : Thread Cert.Gelu.nD Cert.Gelu.τ).loc Cert.Gelu.main_arg3) = m ((c.tc : Thread Cert.Gelu.nD Cert.Gelu.τ).loc Cert.Gelu.main_arg3))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
      ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2)
      ∧ r.2.mem ((c.tc : Thread Cert.GeluRefIdeal.nD Cert.GeluRefIdeal.τ).loc Cert.GeluRefIdeal.main_arg3) = m ((c.tc : Thread Cert.GeluRefIdeal.nD Cert.GeluRefIdeal.τ).loc Cert.GeluRefIdeal.main_arg3))
      ∧ r.2.sem = fun _ => 0)

def quiescent_Bbar [hBbar : Cert.Bbar.Facts] : Prop :=
  ∀ (m : (ℓ : Loc Cert.Bbar.nD Cert.Bbar.τ Cert.Bbar.sig) → Buf (Elt Bits) ℓ) (g : Dev Cert.Bbar.nD → PrngReg), Pre_Bbar m →
    θ_run (Cert.Bbar.defs (F := Bits)) (onTc (τ := Cert.Bbar.τ) (Cert.Bbar.main (F := Bits))) ⟨m, fun _ => 0, g⟩ (fun r => (∀ c : Dev Cert.Bbar.nD,
      r.2.mem ((c.tc : Thread Cert.Bbar.nD Cert.Bbar.τ).loc Cert.Bbar.main_arg0) = m ((c.tc : Thread Cert.Bbar.nD Cert.Bbar.τ).loc Cert.Bbar.main_arg0)
      ∧ r.2.mem ((c.tc : Thread Cert.Bbar.nD Cert.Bbar.τ).loc Cert.Bbar.main_arg1) = m ((c.tc : Thread Cert.Bbar.nD Cert.Bbar.τ).loc Cert.Bbar.main_arg1)
      ∧ r.2.mem ((c.tc : Thread Cert.Bbar.nD Cert.Bbar.τ).loc Cert.Bbar.main_arg2) = m ((c.tc : Thread Cert.Bbar.nD Cert.Bbar.τ).loc Cert.Bbar.main_arg2)
      ∧ r.2.mem ((c.tc : Thread Cert.Bbar.nD Cert.Bbar.τ).loc Cert.Bbar.main_arg3) = m ((c.tc : Thread Cert.Bbar.nD Cert.Bbar.τ).loc Cert.Bbar.main_arg3)
      ∧ r.2.mem ((c.tc : Thread Cert.Bbar.nD Cert.Bbar.τ).loc Cert.Bbar.main_arg4) = m ((c.tc : Thread Cert.Bbar.nD Cert.Bbar.τ).loc Cert.Bbar.main_arg4)
      ∧ r.2.mem ((c.tc : Thread Cert.Bbar.nD Cert.Bbar.τ).loc Cert.Bbar.main_arg5) = m ((c.tc : Thread Cert.Bbar.nD Cert.Bbar.τ).loc Cert.Bbar.main_arg5))
      ∧ r.2.sem = fun _ => 0)

def quiescent_BbarIdeal [hBbarIdeal : Cert.BbarIdeal.Facts] : Prop :=
  ∀ (m : (ℓ : Loc Cert.BbarIdeal.nD Cert.BbarIdeal.τ Cert.BbarIdeal.sig) → Buf (Elt Ideal) ℓ) (g : Dev Cert.BbarIdeal.nD → PrngReg), Pre_BbarIdeal m →
    θ_run (Cert.BbarIdeal.defs (F := Ideal)) (onTc (τ := Cert.BbarIdeal.τ) (Cert.BbarIdeal.main (F := Ideal))) ⟨m, fun _ => 0, g⟩ (fun r => (∀ c : Dev Cert.BbarIdeal.nD,
      r.2.mem ((c.tc : Thread Cert.BbarIdeal.nD Cert.BbarIdeal.τ).loc Cert.BbarIdeal.main_arg0) = m ((c.tc : Thread Cert.BbarIdeal.nD Cert.BbarIdeal.τ).loc Cert.BbarIdeal.main_arg0)
      ∧ r.2.mem ((c.tc : Thread Cert.BbarIdeal.nD Cert.BbarIdeal.τ).loc Cert.BbarIdeal.main_arg1) = m ((c.tc : Thread Cert.BbarIdeal.nD Cert.BbarIdeal.τ).loc Cert.BbarIdeal.main_arg1)
      ∧ r.2.mem ((c.tc : Thread Cert.BbarIdeal.nD Cert.BbarIdeal.τ).loc Cert.BbarIdeal.main_arg2) = m ((c.tc : Thread Cert.BbarIdeal.nD Cert.BbarIdeal.τ).loc Cert.BbarIdeal.main_arg2)
      ∧ r.2.mem ((c.tc : Thread Cert.BbarIdeal.nD Cert.BbarIdeal.τ).loc Cert.BbarIdeal.main_arg3) = m ((c.tc : Thread Cert.BbarIdeal.nD Cert.BbarIdeal.τ).loc Cert.BbarIdeal.main_arg3)
      ∧ r.2.mem ((c.tc : Thread Cert.BbarIdeal.nD Cert.BbarIdeal.τ).loc Cert.BbarIdeal.main_arg4) = m ((c.tc : Thread Cert.BbarIdeal.nD Cert.BbarIdeal.τ).loc Cert.BbarIdeal.main_arg4)
      ∧ r.2.mem ((c.tc : Thread Cert.BbarIdeal.nD Cert.BbarIdeal.τ).loc Cert.BbarIdeal.main_arg5) = m ((c.tc : Thread Cert.BbarIdeal.nD Cert.BbarIdeal.τ).loc Cert.BbarIdeal.main_arg5))
      ∧ r.2.sem = fun _ => 0)

def quiescent_BbarRefIdeal [hBbarRefIdeal : Cert.BbarRefIdeal.Facts] : Prop :=
  ∀ (m : (ℓ : Loc Cert.BbarRefIdeal.nD Cert.BbarRefIdeal.τ Cert.BbarRefIdeal.sig) → Buf (Elt Ideal) ℓ) (g : Dev Cert.BbarRefIdeal.nD → PrngReg), Pre_BbarRefIdeal m →
    θ_run (Cert.BbarRefIdeal.defs (F := Ideal)) (onTc (τ := Cert.BbarRefIdeal.τ) (Cert.BbarRefIdeal.main (F := Ideal))) ⟨m, fun _ => 0, g⟩ (fun r => (∀ c : Dev Cert.BbarRefIdeal.nD,
      r.2.mem ((c.tc : Thread Cert.BbarRefIdeal.nD Cert.BbarRefIdeal.τ).loc Cert.BbarRefIdeal.main_arg0) = m ((c.tc : Thread Cert.BbarRefIdeal.nD Cert.BbarRefIdeal.τ).loc Cert.BbarRefIdeal.main_arg0)
      ∧ r.2.mem ((c.tc : Thread Cert.BbarRefIdeal.nD Cert.BbarRefIdeal.τ).loc Cert.BbarRefIdeal.main_arg1) = m ((c.tc : Thread Cert.BbarRefIdeal.nD Cert.BbarRefIdeal.τ).loc Cert.BbarRefIdeal.main_arg1)
      ∧ r.2.mem ((c.tc : Thread Cert.BbarRefIdeal.nD Cert.BbarRefIdeal.τ).loc Cert.BbarRefIdeal.main_arg2) = m ((c.tc : Thread Cert.BbarRefIdeal.nD Cert.BbarRefIdeal.τ).loc Cert.BbarRefIdeal.main_arg2)
      ∧ r.2.mem ((c.tc : Thread Cert.BbarRefIdeal.nD Cert.BbarRefIdeal.τ).loc Cert.BbarRefIdeal.main_arg3) = m ((c.tc : Thread Cert.BbarRefIdeal.nD Cert.BbarRefIdeal.τ).loc Cert.BbarRefIdeal.main_arg3)
      ∧ r.2.mem ((c.tc : Thread Cert.BbarRefIdeal.nD Cert.BbarRefIdeal.τ).loc Cert.BbarRefIdeal.main_arg4) = m ((c.tc : Thread Cert.BbarRefIdeal.nD Cert.BbarRefIdeal.τ).loc Cert.BbarRefIdeal.main_arg4)
      ∧ r.2.mem ((c.tc : Thread Cert.BbarRefIdeal.nD Cert.BbarRefIdeal.τ).loc Cert.BbarRefIdeal.main_arg5) = m ((c.tc : Thread Cert.BbarRefIdeal.nD Cert.BbarRefIdeal.τ).loc Cert.BbarRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_UDx [hUDx : Cert.UDx.Facts] : Prop :=
  ∀ (m : (ℓ : Loc Cert.UDx.nD Cert.UDx.τ Cert.UDx.sig) → Buf (Elt Bits) ℓ) (g : Dev Cert.UDx.nD → PrngReg), Pre_UDx m →
    θ_run (Cert.UDx.defs (F := Bits)) (onTc (τ := Cert.UDx.τ) (Cert.UDx.main (F := Bits))) ⟨m, fun _ => 0, g⟩ (fun r => (∀ c : Dev Cert.UDx.nD,
      r.2.mem ((c.tc : Thread Cert.UDx.nD Cert.UDx.τ).loc Cert.UDx.main_arg0) = m ((c.tc : Thread Cert.UDx.nD Cert.UDx.τ).loc Cert.UDx.main_arg0)
      ∧ r.2.mem ((c.tc : Thread Cert.UDx.nD Cert.UDx.τ).loc Cert.UDx.main_arg1) = m ((c.tc : Thread Cert.UDx.nD Cert.UDx.τ).loc Cert.UDx.main_arg1))
      ∧ r.2.sem = fun _ => 0)

def quiescent_UDxIdeal [hUDxIdeal : Cert.UDxIdeal.Facts] : Prop :=
  ∀ (m : (ℓ : Loc Cert.UDxIdeal.nD Cert.UDxIdeal.τ Cert.UDxIdeal.sig) → Buf (Elt Ideal) ℓ) (g : Dev Cert.UDxIdeal.nD → PrngReg), Pre_UDxIdeal m →
    θ_run (Cert.UDxIdeal.defs (F := Ideal)) (onTc (τ := Cert.UDxIdeal.τ) (Cert.UDxIdeal.main (F := Ideal))) ⟨m, fun _ => 0, g⟩ (fun r => (∀ c : Dev Cert.UDxIdeal.nD,
      r.2.mem ((c.tc : Thread Cert.UDxIdeal.nD Cert.UDxIdeal.τ).loc Cert.UDxIdeal.main_arg0) = m ((c.tc : Thread Cert.UDxIdeal.nD Cert.UDxIdeal.τ).loc Cert.UDxIdeal.main_arg0)
      ∧ r.2.mem ((c.tc : Thread Cert.UDxIdeal.nD Cert.UDxIdeal.τ).loc Cert.UDxIdeal.main_arg1) = m ((c.tc : Thread Cert.UDxIdeal.nD Cert.UDxIdeal.τ).loc Cert.UDxIdeal.main_arg1))
      ∧ r.2.sem = fun _ => 0)

def quiescent_UDxRefIdeal [hUDxRefIdeal : Cert.UDxRefIdeal.Facts] : Prop :=
  ∀ (m : (ℓ : Loc Cert.UDxRefIdeal.nD Cert.UDxRefIdeal.τ Cert.UDxRefIdeal.sig) → Buf (Elt Ideal) ℓ) (g : Dev Cert.UDxRefIdeal.nD → PrngReg), Pre_UDxRefIdeal m →
    θ_run (Cert.UDxRefIdeal.defs (F := Ideal)) (onTc (τ := Cert.UDxRefIdeal.τ) (Cert.UDxRefIdeal.main (F := Ideal))) ⟨m, fun _ => 0, g⟩ (fun r => (∀ c : Dev Cert.UDxRefIdeal.nD,
      r.2.mem ((c.tc : Thread Cert.UDxRefIdeal.nD Cert.UDxRefIdeal.τ).loc Cert.UDxRefIdeal.main_arg0) = m ((c.tc : Thread Cert.UDxRefIdeal.nD Cert.UDxRefIdeal.τ).loc Cert.UDxRefIdeal.main_arg0)
      ∧ r.2.mem ((c.tc : Thread Cert.UDxRefIdeal.nD Cert.UDxRefIdeal.τ).loc Cert.UDxRefIdeal.main_arg1) = m ((c.tc : Thread Cert.UDxRefIdeal.nD Cert.UDxRefIdeal.τ).loc Cert.UDxRefIdeal.main_arg1))
      ∧ r.2.sem = fun _ => 0)

def quiescent_UDw [hUDw : Cert.UDw.Facts] : Prop :=
  ∀ (m : (ℓ : Loc Cert.UDw.nD Cert.UDw.τ Cert.UDw.sig) → Buf (Elt Bits) ℓ) (g : Dev Cert.UDw.nD → PrngReg), Pre_UDw m →
    θ_run (Cert.UDw.defs (F := Bits)) (onTc (τ := Cert.UDw.τ) (Cert.UDw.main (F := Bits))) ⟨m, fun _ => 0, g⟩ (fun r => (∀ c : Dev Cert.UDw.nD,
      r.2.mem ((c.tc : Thread Cert.UDw.nD Cert.UDw.τ).loc Cert.UDw.main_arg0) = m ((c.tc : Thread Cert.UDw.nD Cert.UDw.τ).loc Cert.UDw.main_arg0)
      ∧ r.2.mem ((c.tc : Thread Cert.UDw.nD Cert.UDw.τ).loc Cert.UDw.main_arg1) = m ((c.tc : Thread Cert.UDw.nD Cert.UDw.τ).loc Cert.UDw.main_arg1))
      ∧ r.2.sem = fun _ => 0)

def quiescent_UDwIdeal [hUDwIdeal : Cert.UDwIdeal.Facts] : Prop :=
  ∀ (m : (ℓ : Loc Cert.UDwIdeal.nD Cert.UDwIdeal.τ Cert.UDwIdeal.sig) → Buf (Elt Ideal) ℓ) (g : Dev Cert.UDwIdeal.nD → PrngReg), Pre_UDwIdeal m →
    θ_run (Cert.UDwIdeal.defs (F := Ideal)) (onTc (τ := Cert.UDwIdeal.τ) (Cert.UDwIdeal.main (F := Ideal))) ⟨m, fun _ => 0, g⟩ (fun r => (∀ c : Dev Cert.UDwIdeal.nD,
      r.2.mem ((c.tc : Thread Cert.UDwIdeal.nD Cert.UDwIdeal.τ).loc Cert.UDwIdeal.main_arg0) = m ((c.tc : Thread Cert.UDwIdeal.nD Cert.UDwIdeal.τ).loc Cert.UDwIdeal.main_arg0)
      ∧ r.2.mem ((c.tc : Thread Cert.UDwIdeal.nD Cert.UDwIdeal.τ).loc Cert.UDwIdeal.main_arg1) = m ((c.tc : Thread Cert.UDwIdeal.nD Cert.UDwIdeal.τ).loc Cert.UDwIdeal.main_arg1))
      ∧ r.2.sem = fun _ => 0)

def quiescent_UDwRefIdeal [hUDwRefIdeal : Cert.UDwRefIdeal.Facts] : Prop :=
  ∀ (m : (ℓ : Loc Cert.UDwRefIdeal.nD Cert.UDwRefIdeal.τ Cert.UDwRefIdeal.sig) → Buf (Elt Ideal) ℓ) (g : Dev Cert.UDwRefIdeal.nD → PrngReg), Pre_UDwRefIdeal m →
    θ_run (Cert.UDwRefIdeal.defs (F := Ideal)) (onTc (τ := Cert.UDwRefIdeal.τ) (Cert.UDwRefIdeal.main (F := Ideal))) ⟨m, fun _ => 0, g⟩ (fun r => (∀ c : Dev Cert.UDwRefIdeal.nD,
      r.2.mem ((c.tc : Thread Cert.UDwRefIdeal.nD Cert.UDwRefIdeal.τ).loc Cert.UDwRefIdeal.main_arg0) = m ((c.tc : Thread Cert.UDwRefIdeal.nD Cert.UDwRefIdeal.τ).loc Cert.UDwRefIdeal.main_arg0)
      ∧ r.2.mem ((c.tc : Thread Cert.UDwRefIdeal.nD Cert.UDwRefIdeal.τ).loc Cert.UDwRefIdeal.main_arg1) = m ((c.tc : Thread Cert.UDwRefIdeal.nD Cert.UDwRefIdeal.τ).loc Cert.UDwRefIdeal.main_arg1))
      ∧ r.2.sem = fun _ => 0)

def quiescent_YDx [hYDx : Cert.YDx.Facts] : Prop :=
  ∀ (m : (ℓ : Loc Cert.YDx.nD Cert.YDx.τ Cert.YDx.sig) → Buf (Elt Bits) ℓ) (g : Dev Cert.YDx.nD → PrngReg), Pre_YDx m →
    θ_run (Cert.YDx.defs (F := Bits)) (onTc (τ := Cert.YDx.τ) (Cert.YDx.main (F := Bits))) ⟨m, fun _ => 0, g⟩ (fun r => (∀ c : Dev Cert.YDx.nD,
      r.2.mem ((c.tc : Thread Cert.YDx.nD Cert.YDx.τ).loc Cert.YDx.main_arg0) = m ((c.tc : Thread Cert.YDx.nD Cert.YDx.τ).loc Cert.YDx.main_arg0)
      ∧ r.2.mem ((c.tc : Thread Cert.YDx.nD Cert.YDx.τ).loc Cert.YDx.main_arg1) = m ((c.tc : Thread Cert.YDx.nD Cert.YDx.τ).loc Cert.YDx.main_arg1))
      ∧ r.2.sem = fun _ => 0)

def quiescent_YDxIdeal [hYDxIdeal : Cert.YDxIdeal.Facts] : Prop :=
  ∀ (m : (ℓ : Loc Cert.YDxIdeal.nD Cert.YDxIdeal.τ Cert.YDxIdeal.sig) → Buf (Elt Ideal) ℓ) (g : Dev Cert.YDxIdeal.nD → PrngReg), Pre_YDxIdeal m →
    θ_run (Cert.YDxIdeal.defs (F := Ideal)) (onTc (τ := Cert.YDxIdeal.τ) (Cert.YDxIdeal.main (F := Ideal))) ⟨m, fun _ => 0, g⟩ (fun r => (∀ c : Dev Cert.YDxIdeal.nD,
      r.2.mem ((c.tc : Thread Cert.YDxIdeal.nD Cert.YDxIdeal.τ).loc Cert.YDxIdeal.main_arg0) = m ((c.tc : Thread Cert.YDxIdeal.nD Cert.YDxIdeal.τ).loc Cert.YDxIdeal.main_arg0)
      ∧ r.2.mem ((c.tc : Thread Cert.YDxIdeal.nD Cert.YDxIdeal.τ).loc Cert.YDxIdeal.main_arg1) = m ((c.tc : Thread Cert.YDxIdeal.nD Cert.YDxIdeal.τ).loc Cert.YDxIdeal.main_arg1))
      ∧ r.2.sem = fun _ => 0)

def quiescent_YDxRefIdeal [hYDxRefIdeal : Cert.YDxRefIdeal.Facts] : Prop :=
  ∀ (m : (ℓ : Loc Cert.YDxRefIdeal.nD Cert.YDxRefIdeal.τ Cert.YDxRefIdeal.sig) → Buf (Elt Ideal) ℓ) (g : Dev Cert.YDxRefIdeal.nD → PrngReg), Pre_YDxRefIdeal m →
    θ_run (Cert.YDxRefIdeal.defs (F := Ideal)) (onTc (τ := Cert.YDxRefIdeal.τ) (Cert.YDxRefIdeal.main (F := Ideal))) ⟨m, fun _ => 0, g⟩ (fun r => (∀ c : Dev Cert.YDxRefIdeal.nD,
      r.2.mem ((c.tc : Thread Cert.YDxRefIdeal.nD Cert.YDxRefIdeal.τ).loc Cert.YDxRefIdeal.main_arg0) = m ((c.tc : Thread Cert.YDxRefIdeal.nD Cert.YDxRefIdeal.τ).loc Cert.YDxRefIdeal.main_arg0)
      ∧ r.2.mem ((c.tc : Thread Cert.YDxRefIdeal.nD Cert.YDxRefIdeal.τ).loc Cert.YDxRefIdeal.main_arg1) = m ((c.tc : Thread Cert.YDxRefIdeal.nD Cert.YDxRefIdeal.τ).loc Cert.YDxRefIdeal.main_arg1))
      ∧ r.2.sem = fun _ => 0)

def quiescent_YDw [hYDw : Cert.YDw.Facts] : Prop :=
  ∀ (m : (ℓ : Loc Cert.YDw.nD Cert.YDw.τ Cert.YDw.sig) → Buf (Elt Bits) ℓ) (g : Dev Cert.YDw.nD → PrngReg), Pre_YDw m →
    θ_run (Cert.YDw.defs (F := Bits)) (onTc (τ := Cert.YDw.τ) (Cert.YDw.main (F := Bits))) ⟨m, fun _ => 0, g⟩ (fun r => (∀ c : Dev Cert.YDw.nD,
      r.2.mem ((c.tc : Thread Cert.YDw.nD Cert.YDw.τ).loc Cert.YDw.main_arg0) = m ((c.tc : Thread Cert.YDw.nD Cert.YDw.τ).loc Cert.YDw.main_arg0)
      ∧ r.2.mem ((c.tc : Thread Cert.YDw.nD Cert.YDw.τ).loc Cert.YDw.main_arg1) = m ((c.tc : Thread Cert.YDw.nD Cert.YDw.τ).loc Cert.YDw.main_arg1))
      ∧ r.2.sem = fun _ => 0)

def quiescent_YDwIdeal [hYDwIdeal : Cert.YDwIdeal.Facts] : Prop :=
  ∀ (m : (ℓ : Loc Cert.YDwIdeal.nD Cert.YDwIdeal.τ Cert.YDwIdeal.sig) → Buf (Elt Ideal) ℓ) (g : Dev Cert.YDwIdeal.nD → PrngReg), Pre_YDwIdeal m →
    θ_run (Cert.YDwIdeal.defs (F := Ideal)) (onTc (τ := Cert.YDwIdeal.τ) (Cert.YDwIdeal.main (F := Ideal))) ⟨m, fun _ => 0, g⟩ (fun r => (∀ c : Dev Cert.YDwIdeal.nD,
      r.2.mem ((c.tc : Thread Cert.YDwIdeal.nD Cert.YDwIdeal.τ).loc Cert.YDwIdeal.main_arg0) = m ((c.tc : Thread Cert.YDwIdeal.nD Cert.YDwIdeal.τ).loc Cert.YDwIdeal.main_arg0)
      ∧ r.2.mem ((c.tc : Thread Cert.YDwIdeal.nD Cert.YDwIdeal.τ).loc Cert.YDwIdeal.main_arg1) = m ((c.tc : Thread Cert.YDwIdeal.nD Cert.YDwIdeal.τ).loc Cert.YDwIdeal.main_arg1))
      ∧ r.2.sem = fun _ => 0)

def quiescent_YDwRefIdeal [hYDwRefIdeal : Cert.YDwRefIdeal.Facts] : Prop :=
  ∀ (m : (ℓ : Loc Cert.YDwRefIdeal.nD Cert.YDwRefIdeal.τ Cert.YDwRefIdeal.sig) → Buf (Elt Ideal) ℓ) (g : Dev Cert.YDwRefIdeal.nD → PrngReg), Pre_YDwRefIdeal m →
    θ_run (Cert.YDwRefIdeal.defs (F := Ideal)) (onTc (τ := Cert.YDwRefIdeal.τ) (Cert.YDwRefIdeal.main (F := Ideal))) ⟨m, fun _ => 0, g⟩ (fun r => (∀ c : Dev Cert.YDwRefIdeal.nD,
      r.2.mem ((c.tc : Thread Cert.YDwRefIdeal.nD Cert.YDwRefIdeal.τ).loc Cert.YDwRefIdeal.main_arg0) = m ((c.tc : Thread Cert.YDwRefIdeal.nD Cert.YDwRefIdeal.τ).loc Cert.YDwRefIdeal.main_arg0)
      ∧ r.2.mem ((c.tc : Thread Cert.YDwRefIdeal.nD Cert.YDwRefIdeal.τ).loc Cert.YDwRefIdeal.main_arg1) = m ((c.tc : Thread Cert.YDwRefIdeal.nD Cert.YDwRefIdeal.τ).loc Cert.YDwRefIdeal.main_arg1))
      ∧ r.2.sem = fun _ => 0)

def quiescent_U [hU : Cert.U.Facts] : Prop :=
  ∀ (m : (ℓ : Loc Cert.U.nD Cert.U.τ Cert.U.sig) → Buf (Elt Bits) ℓ) (g : Dev Cert.U.nD → PrngReg), Pre_U m →
    θ_run (Cert.U.defs (F := Bits)) (onTc (τ := Cert.U.τ) (Cert.U.main (F := Bits))) ⟨m, fun _ => 0, g⟩ (fun r => (∀ c : Dev Cert.U.nD,
      r.2.mem ((c.tc : Thread Cert.U.nD Cert.U.τ).loc Cert.U.main_arg0) = m ((c.tc : Thread Cert.U.nD Cert.U.τ).loc Cert.U.main_arg0)
      ∧ r.2.mem ((c.tc : Thread Cert.U.nD Cert.U.τ).loc Cert.U.main_arg1) = m ((c.tc : Thread Cert.U.nD Cert.U.τ).loc Cert.U.main_arg1))
      ∧ r.2.sem = fun _ => 0)

def quiescent_UIdeal [hUIdeal : Cert.UIdeal.Facts] : Prop :=
  ∀ (m : (ℓ : Loc Cert.UIdeal.nD Cert.UIdeal.τ Cert.UIdeal.sig) → Buf (Elt Ideal) ℓ) (g : Dev Cert.UIdeal.nD → PrngReg), Pre_UIdeal m →
    θ_run (Cert.UIdeal.defs (F := Ideal)) (onTc (τ := Cert.UIdeal.τ) (Cert.UIdeal.main (F := Ideal))) ⟨m, fun _ => 0, g⟩ (fun r => (∀ c : Dev Cert.UIdeal.nD,
      r.2.mem ((c.tc : Thread Cert.UIdeal.nD Cert.UIdeal.τ).loc Cert.UIdeal.main_arg0) = m ((c.tc : Thread Cert.UIdeal.nD Cert.UIdeal.τ).loc Cert.UIdeal.main_arg0)
      ∧ r.2.mem ((c.tc : Thread Cert.UIdeal.nD Cert.UIdeal.τ).loc Cert.UIdeal.main_arg1) = m ((c.tc : Thread Cert.UIdeal.nD Cert.UIdeal.τ).loc Cert.UIdeal.main_arg1))
      ∧ r.2.sem = fun _ => 0)

def quiescent_URefIdeal [hURefIdeal : Cert.URefIdeal.Facts] : Prop :=
  ∀ (m : (ℓ : Loc Cert.URefIdeal.nD Cert.URefIdeal.τ Cert.URefIdeal.sig) → Buf (Elt Ideal) ℓ) (g : Dev Cert.URefIdeal.nD → PrngReg), Pre_URefIdeal m →
    θ_run (Cert.URefIdeal.defs (F := Ideal)) (onTc (τ := Cert.URefIdeal.τ) (Cert.URefIdeal.main (F := Ideal))) ⟨m, fun _ => 0, g⟩ (fun r => (∀ c : Dev Cert.URefIdeal.nD,
      r.2.mem ((c.tc : Thread Cert.URefIdeal.nD Cert.URefIdeal.τ).loc Cert.URefIdeal.main_arg0) = m ((c.tc : Thread Cert.URefIdeal.nD Cert.URefIdeal.τ).loc Cert.URefIdeal.main_arg0)
      ∧ r.2.mem ((c.tc : Thread Cert.URefIdeal.nD Cert.URefIdeal.τ).loc Cert.URefIdeal.main_arg1) = m ((c.tc : Thread Cert.URefIdeal.nD Cert.URefIdeal.τ).loc Cert.URefIdeal.main_arg1))
      ∧ r.2.sem = fun _ => 0)

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1))
      ∧ r.2.sem = fun _ => 0)

def quiescent_YRefIdeal [hYRefIdeal : Cert.YRefIdeal.Facts] : Prop :=
  ∀ (m : (ℓ : Loc Cert.YRefIdeal.nD Cert.YRefIdeal.τ Cert.YRefIdeal.sig) → Buf (Elt Ideal) ℓ) (g : Dev Cert.YRefIdeal.nD → PrngReg), Pre_YRefIdeal m →
    θ_run (Cert.YRefIdeal.defs (F := Ideal)) (onTc (τ := Cert.YRefIdeal.τ) (Cert.YRefIdeal.main (F := Ideal))) ⟨m, fun _ => 0, g⟩ (fun r => (∀ c : Dev Cert.YRefIdeal.nD,
      r.2.mem ((c.tc : Thread Cert.YRefIdeal.nD Cert.YRefIdeal.τ).loc Cert.YRefIdeal.main_arg0) = m ((c.tc : Thread Cert.YRefIdeal.nD Cert.YRefIdeal.τ).loc Cert.YRefIdeal.main_arg0)
      ∧ r.2.mem ((c.tc : Thread Cert.YRefIdeal.nD Cert.YRefIdeal.τ).loc Cert.YRefIdeal.main_arg1) = m ((c.tc : Thread Cert.YRefIdeal.nD Cert.YRefIdeal.τ).loc Cert.YRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_GateAbFwd [hGateAbFwd : Cert.GateAbFwd.Facts] : Prop :=
  ∀ (m : (ℓ : Loc Cert.GateAbFwd.nD Cert.GateAbFwd.τ Cert.GateAbFwd.sig) → Buf (Elt Bits) ℓ) (g : Dev Cert.GateAbFwd.nD → PrngReg), Pre_GateAbFwd m →
    θ_run (Cert.GateAbFwd.defs (F := Bits)) (onTc (τ := Cert.GateAbFwd.τ) (Cert.GateAbFwd.main (F := Bits))) ⟨m, fun _ => 0, g⟩ (fun r => (∀ c : Dev Cert.GateAbFwd.nD,
      r.2.mem ((c.tc : Thread Cert.GateAbFwd.nD Cert.GateAbFwd.τ).loc Cert.GateAbFwd.main_arg0) = m ((c.tc : Thread Cert.GateAbFwd.nD Cert.GateAbFwd.τ).loc Cert.GateAbFwd.main_arg0)
      ∧ r.2.mem ((c.tc : Thread Cert.GateAbFwd.nD Cert.GateAbFwd.τ).loc Cert.GateAbFwd.main_arg1) = m ((c.tc : Thread Cert.GateAbFwd.nD Cert.GateAbFwd.τ).loc Cert.GateAbFwd.main_arg1)
      ∧ r.2.mem ((c.tc : Thread Cert.GateAbFwd.nD Cert.GateAbFwd.τ).loc Cert.GateAbFwd.main_arg2) = m ((c.tc : Thread Cert.GateAbFwd.nD Cert.GateAbFwd.τ).loc Cert.GateAbFwd.main_arg2)
      ∧ r.2.mem ((c.tc : Thread Cert.GateAbFwd.nD Cert.GateAbFwd.τ).loc Cert.GateAbFwd.main_arg3) = m ((c.tc : Thread Cert.GateAbFwd.nD Cert.GateAbFwd.τ).loc Cert.GateAbFwd.main_arg3))
      ∧ r.2.sem = fun _ => 0)

def quiescent_GateAbFwdIdeal [hGateAbFwdIdeal : Cert.GateAbFwdIdeal.Facts] : Prop :=
  ∀ (m : (ℓ : Loc Cert.GateAbFwdIdeal.nD Cert.GateAbFwdIdeal.τ Cert.GateAbFwdIdeal.sig) → Buf (Elt Ideal) ℓ) (g : Dev Cert.GateAbFwdIdeal.nD → PrngReg), Pre_GateAbFwdIdeal m →
    θ_run (Cert.GateAbFwdIdeal.defs (F := Ideal)) (onTc (τ := Cert.GateAbFwdIdeal.τ) (Cert.GateAbFwdIdeal.main (F := Ideal))) ⟨m, fun _ => 0, g⟩ (fun r => (∀ c : Dev Cert.GateAbFwdIdeal.nD,
      r.2.mem ((c.tc : Thread Cert.GateAbFwdIdeal.nD Cert.GateAbFwdIdeal.τ).loc Cert.GateAbFwdIdeal.main_arg0) = m ((c.tc : Thread Cert.GateAbFwdIdeal.nD Cert.GateAbFwdIdeal.τ).loc Cert.GateAbFwdIdeal.main_arg0)
      ∧ r.2.mem ((c.tc : Thread Cert.GateAbFwdIdeal.nD Cert.GateAbFwdIdeal.τ).loc Cert.GateAbFwdIdeal.main_arg1) = m ((c.tc : Thread Cert.GateAbFwdIdeal.nD Cert.GateAbFwdIdeal.τ).loc Cert.GateAbFwdIdeal.main_arg1)
      ∧ r.2.mem ((c.tc : Thread Cert.GateAbFwdIdeal.nD Cert.GateAbFwdIdeal.τ).loc Cert.GateAbFwdIdeal.main_arg2) = m ((c.tc : Thread Cert.GateAbFwdIdeal.nD Cert.GateAbFwdIdeal.τ).loc Cert.GateAbFwdIdeal.main_arg2)
      ∧ r.2.mem ((c.tc : Thread Cert.GateAbFwdIdeal.nD Cert.GateAbFwdIdeal.τ).loc Cert.GateAbFwdIdeal.main_arg3) = m ((c.tc : Thread Cert.GateAbFwdIdeal.nD Cert.GateAbFwdIdeal.τ).loc Cert.GateAbFwdIdeal.main_arg3))
      ∧ r.2.sem = fun _ => 0)

def quiescent_GateAbFwdRefIdeal [hGateAbFwdRefIdeal : Cert.GateAbFwdRefIdeal.Facts] : Prop :=
  ∀ (m : (ℓ : Loc Cert.GateAbFwdRefIdeal.nD Cert.GateAbFwdRefIdeal.τ Cert.GateAbFwdRefIdeal.sig) → Buf (Elt Ideal) ℓ) (g : Dev Cert.GateAbFwdRefIdeal.nD → PrngReg), Pre_GateAbFwdRefIdeal m →
    θ_run (Cert.GateAbFwdRefIdeal.defs (F := Ideal)) (onTc (τ := Cert.GateAbFwdRefIdeal.τ) (Cert.GateAbFwdRefIdeal.main (F := Ideal))) ⟨m, fun _ => 0, g⟩ (fun r => (∀ c : Dev Cert.GateAbFwdRefIdeal.nD,
      r.2.mem ((c.tc : Thread Cert.GateAbFwdRefIdeal.nD Cert.GateAbFwdRefIdeal.τ).loc Cert.GateAbFwdRefIdeal.main_arg0) = m ((c.tc : Thread Cert.GateAbFwdRefIdeal.nD Cert.GateAbFwdRefIdeal.τ).loc Cert.GateAbFwdRefIdeal.main_arg0)
      ∧ r.2.mem ((c.tc : Thread Cert.GateAbFwdRefIdeal.nD Cert.GateAbFwdRefIdeal.τ).loc Cert.GateAbFwdRefIdeal.main_arg1) = m ((c.tc : Thread Cert.GateAbFwdRefIdeal.nD Cert.GateAbFwdRefIdeal.τ).loc Cert.GateAbFwdRefIdeal.main_arg1)
      ∧ r.2.mem ((c.tc : Thread Cert.GateAbFwdRefIdeal.nD Cert.GateAbFwdRefIdeal.τ).loc Cert.GateAbFwdRefIdeal.main_arg2) = m ((c.tc : Thread Cert.GateAbFwdRefIdeal.nD Cert.GateAbFwdRefIdeal.τ).loc Cert.GateAbFwdRefIdeal.main_arg2)
      ∧ r.2.mem ((c.tc : Thread Cert.GateAbFwdRefIdeal.nD Cert.GateAbFwdRefIdeal.τ).loc Cert.GateAbFwdRefIdeal.main_arg3) = m ((c.tc : Thread Cert.GateAbFwdRefIdeal.nD Cert.GateAbFwdRefIdeal.τ).loc Cert.GateAbFwdRefIdeal.main_arg3))
      ∧ r.2.sem = fun _ => 0)

def quiescent_GluGateFwd [hGluGateFwd : Cert.GluGateFwd.Facts] : Prop :=
  ∀ (m : (ℓ : Loc Cert.GluGateFwd.nD Cert.GluGateFwd.τ Cert.GluGateFwd.sig) → Buf (Elt Bits) ℓ) (g : Dev Cert.GluGateFwd.nD → PrngReg), Pre_GluGateFwd m →
    θ_run (Cert.GluGateFwd.defs (F := Bits)) (onTc (τ := Cert.GluGateFwd.τ) (Cert.GluGateFwd.main (F := Bits))) ⟨m, fun _ => 0, g⟩ (fun r => (∀ c : Dev Cert.GluGateFwd.nD,
      r.2.mem ((c.tc : Thread Cert.GluGateFwd.nD Cert.GluGateFwd.τ).loc Cert.GluGateFwd.main_arg0) = m ((c.tc : Thread Cert.GluGateFwd.nD Cert.GluGateFwd.τ).loc Cert.GluGateFwd.main_arg0)
      ∧ r.2.mem ((c.tc : Thread Cert.GluGateFwd.nD Cert.GluGateFwd.τ).loc Cert.GluGateFwd.main_arg1) = m ((c.tc : Thread Cert.GluGateFwd.nD Cert.GluGateFwd.τ).loc Cert.GluGateFwd.main_arg1))
      ∧ r.2.sem = fun _ => 0)

def quiescent_GluGateFwdIdeal [hGluGateFwdIdeal : Cert.GluGateFwdIdeal.Facts] : Prop :=
  ∀ (m : (ℓ : Loc Cert.GluGateFwdIdeal.nD Cert.GluGateFwdIdeal.τ Cert.GluGateFwdIdeal.sig) → Buf (Elt Ideal) ℓ) (g : Dev Cert.GluGateFwdIdeal.nD → PrngReg), Pre_GluGateFwdIdeal m →
    θ_run (Cert.GluGateFwdIdeal.defs (F := Ideal)) (onTc (τ := Cert.GluGateFwdIdeal.τ) (Cert.GluGateFwdIdeal.main (F := Ideal))) ⟨m, fun _ => 0, g⟩ (fun r => (∀ c : Dev Cert.GluGateFwdIdeal.nD,
      r.2.mem ((c.tc : Thread Cert.GluGateFwdIdeal.nD Cert.GluGateFwdIdeal.τ).loc Cert.GluGateFwdIdeal.main_arg0) = m ((c.tc : Thread Cert.GluGateFwdIdeal.nD Cert.GluGateFwdIdeal.τ).loc Cert.GluGateFwdIdeal.main_arg0)
      ∧ r.2.mem ((c.tc : Thread Cert.GluGateFwdIdeal.nD Cert.GluGateFwdIdeal.τ).loc Cert.GluGateFwdIdeal.main_arg1) = m ((c.tc : Thread Cert.GluGateFwdIdeal.nD Cert.GluGateFwdIdeal.τ).loc Cert.GluGateFwdIdeal.main_arg1))
      ∧ r.2.sem = fun _ => 0)

def quiescent_GluGateFwdRefIdeal [hGluGateFwdRefIdeal : Cert.GluGateFwdRefIdeal.Facts] : Prop :=
  ∀ (m : (ℓ : Loc Cert.GluGateFwdRefIdeal.nD Cert.GluGateFwdRefIdeal.τ Cert.GluGateFwdRefIdeal.sig) → Buf (Elt Ideal) ℓ) (g : Dev Cert.GluGateFwdRefIdeal.nD → PrngReg), Pre_GluGateFwdRefIdeal m →
    θ_run (Cert.GluGateFwdRefIdeal.defs (F := Ideal)) (onTc (τ := Cert.GluGateFwdRefIdeal.τ) (Cert.GluGateFwdRefIdeal.main (F := Ideal))) ⟨m, fun _ => 0, g⟩ (fun r => (∀ c : Dev Cert.GluGateFwdRefIdeal.nD,
      r.2.mem ((c.tc : Thread Cert.GluGateFwdRefIdeal.nD Cert.GluGateFwdRefIdeal.τ).loc Cert.GluGateFwdRefIdeal.main_arg0) = m ((c.tc : Thread Cert.GluGateFwdRefIdeal.nD Cert.GluGateFwdRefIdeal.τ).loc Cert.GluGateFwdRefIdeal.main_arg0)
      ∧ r.2.mem ((c.tc : Thread Cert.GluGateFwdRefIdeal.nD Cert.GluGateFwdRefIdeal.τ).loc Cert.GluGateFwdRefIdeal.main_arg1) = m ((c.tc : Thread Cert.GluGateFwdRefIdeal.nD Cert.GluGateFwdRefIdeal.τ).loc Cert.GluGateFwdRefIdeal.main_arg1))
      ∧ r.2.sem = fun _ => 0)

def quiescent_GeluFwd [hGeluFwd : Cert.GeluFwd.Facts] : Prop :=
  ∀ (m : (ℓ : Loc Cert.GeluFwd.nD Cert.GeluFwd.τ Cert.GeluFwd.sig) → Buf (Elt Bits) ℓ) (g : Dev Cert.GeluFwd.nD → PrngReg), Pre_GeluFwd m →
    θ_run (Cert.GeluFwd.defs (F := Bits)) (onTc (τ := Cert.GeluFwd.τ) (Cert.GeluFwd.main (F := Bits))) ⟨m, fun _ => 0, g⟩ (fun r => (∀ c : Dev Cert.GeluFwd.nD,
      r.2.mem ((c.tc : Thread Cert.GeluFwd.nD Cert.GeluFwd.τ).loc Cert.GeluFwd.main_arg0) = m ((c.tc : Thread Cert.GeluFwd.nD Cert.GeluFwd.τ).loc Cert.GeluFwd.main_arg0)
      ∧ r.2.mem ((c.tc : Thread Cert.GeluFwd.nD Cert.GeluFwd.τ).loc Cert.GeluFwd.main_arg1) = m ((c.tc : Thread Cert.GeluFwd.nD Cert.GeluFwd.τ).loc Cert.GeluFwd.main_arg1)
      ∧ r.2.mem ((c.tc : Thread Cert.GeluFwd.nD Cert.GeluFwd.τ).loc Cert.GeluFwd.main_arg2) = m ((c.tc : Thread Cert.GeluFwd.nD Cert.GeluFwd.τ).loc Cert.GeluFwd.main_arg2))
      ∧ r.2.sem = fun _ => 0)

def quiescent_GeluFwdIdeal [hGeluFwdIdeal : Cert.GeluFwdIdeal.Facts] : Prop :=
  ∀ (m : (ℓ : Loc Cert.GeluFwdIdeal.nD Cert.GeluFwdIdeal.τ Cert.GeluFwdIdeal.sig) → Buf (Elt Ideal) ℓ) (g : Dev Cert.GeluFwdIdeal.nD → PrngReg), Pre_GeluFwdIdeal m →
    θ_run (Cert.GeluFwdIdeal.defs (F := Ideal)) (onTc (τ := Cert.GeluFwdIdeal.τ) (Cert.GeluFwdIdeal.main (F := Ideal))) ⟨m, fun _ => 0, g⟩ (fun r => (∀ c : Dev Cert.GeluFwdIdeal.nD,
      r.2.mem ((c.tc : Thread Cert.GeluFwdIdeal.nD Cert.GeluFwdIdeal.τ).loc Cert.GeluFwdIdeal.main_arg0) = m ((c.tc : Thread Cert.GeluFwdIdeal.nD Cert.GeluFwdIdeal.τ).loc Cert.GeluFwdIdeal.main_arg0)
      ∧ r.2.mem ((c.tc : Thread Cert.GeluFwdIdeal.nD Cert.GeluFwdIdeal.τ).loc Cert.GeluFwdIdeal.main_arg1) = m ((c.tc : Thread Cert.GeluFwdIdeal.nD Cert.GeluFwdIdeal.τ).loc Cert.GeluFwdIdeal.main_arg1)
      ∧ r.2.mem ((c.tc : Thread Cert.GeluFwdIdeal.nD Cert.GeluFwdIdeal.τ).loc Cert.GeluFwdIdeal.main_arg2) = m ((c.tc : Thread Cert.GeluFwdIdeal.nD Cert.GeluFwdIdeal.τ).loc Cert.GeluFwdIdeal.main_arg2))
      ∧ r.2.sem = fun _ => 0)

def quiescent_GeluFwdRefIdeal [hGeluFwdRefIdeal : Cert.GeluFwdRefIdeal.Facts] : Prop :=
  ∀ (m : (ℓ : Loc Cert.GeluFwdRefIdeal.nD Cert.GeluFwdRefIdeal.τ Cert.GeluFwdRefIdeal.sig) → Buf (Elt Ideal) ℓ) (g : Dev Cert.GeluFwdRefIdeal.nD → PrngReg), Pre_GeluFwdRefIdeal m →
    θ_run (Cert.GeluFwdRefIdeal.defs (F := Ideal)) (onTc (τ := Cert.GeluFwdRefIdeal.τ) (Cert.GeluFwdRefIdeal.main (F := Ideal))) ⟨m, fun _ => 0, g⟩ (fun r => (∀ c : Dev Cert.GeluFwdRefIdeal.nD,
      r.2.mem ((c.tc : Thread Cert.GeluFwdRefIdeal.nD Cert.GeluFwdRefIdeal.τ).loc Cert.GeluFwdRefIdeal.main_arg0) = m ((c.tc : Thread Cert.GeluFwdRefIdeal.nD Cert.GeluFwdRefIdeal.τ).loc Cert.GeluFwdRefIdeal.main_arg0)
      ∧ r.2.mem ((c.tc : Thread Cert.GeluFwdRefIdeal.nD Cert.GeluFwdRefIdeal.τ).loc Cert.GeluFwdRefIdeal.main_arg1) = m ((c.tc : Thread Cert.GeluFwdRefIdeal.nD Cert.GeluFwdRefIdeal.τ).loc Cert.GeluFwdRefIdeal.main_arg1)
      ∧ r.2.mem ((c.tc : Thread Cert.GeluFwdRefIdeal.nD Cert.GeluFwdRefIdeal.τ).loc Cert.GeluFwdRefIdeal.main_arg2) = m ((c.tc : Thread Cert.GeluFwdRefIdeal.nD Cert.GeluFwdRefIdeal.τ).loc Cert.GeluFwdRefIdeal.main_arg2))
      ∧ r.2.sem = fun _ => 0)

def quiescent_BbarFwd [hBbarFwd : Cert.BbarFwd.Facts] : Prop :=
  ∀ (m : (ℓ : Loc Cert.BbarFwd.nD Cert.BbarFwd.τ Cert.BbarFwd.sig) → Buf (Elt Bits) ℓ) (g : Dev Cert.BbarFwd.nD → PrngReg), Pre_BbarFwd m →
    θ_run (Cert.BbarFwd.defs (F := Bits)) (onTc (τ := Cert.BbarFwd.τ) (Cert.BbarFwd.main (F := Bits))) ⟨m, fun _ => 0, g⟩ (fun r => (∀ c : Dev Cert.BbarFwd.nD,
      r.2.mem ((c.tc : Thread Cert.BbarFwd.nD Cert.BbarFwd.τ).loc Cert.BbarFwd.main_arg0) = m ((c.tc : Thread Cert.BbarFwd.nD Cert.BbarFwd.τ).loc Cert.BbarFwd.main_arg0)
      ∧ r.2.mem ((c.tc : Thread Cert.BbarFwd.nD Cert.BbarFwd.τ).loc Cert.BbarFwd.main_arg1) = m ((c.tc : Thread Cert.BbarFwd.nD Cert.BbarFwd.τ).loc Cert.BbarFwd.main_arg1)
      ∧ r.2.mem ((c.tc : Thread Cert.BbarFwd.nD Cert.BbarFwd.τ).loc Cert.BbarFwd.main_arg2) = m ((c.tc : Thread Cert.BbarFwd.nD Cert.BbarFwd.τ).loc Cert.BbarFwd.main_arg2)
      ∧ r.2.mem ((c.tc : Thread Cert.BbarFwd.nD Cert.BbarFwd.τ).loc Cert.BbarFwd.main_arg3) = m ((c.tc : Thread Cert.BbarFwd.nD Cert.BbarFwd.τ).loc Cert.BbarFwd.main_arg3))
      ∧ r.2.sem = fun _ => 0)

def quiescent_BbarFwdIdeal [hBbarFwdIdeal : Cert.BbarFwdIdeal.Facts] : Prop :=
  ∀ (m : (ℓ : Loc Cert.BbarFwdIdeal.nD Cert.BbarFwdIdeal.τ Cert.BbarFwdIdeal.sig) → Buf (Elt Ideal) ℓ) (g : Dev Cert.BbarFwdIdeal.nD → PrngReg), Pre_BbarFwdIdeal m →
    θ_run (Cert.BbarFwdIdeal.defs (F := Ideal)) (onTc (τ := Cert.BbarFwdIdeal.τ) (Cert.BbarFwdIdeal.main (F := Ideal))) ⟨m, fun _ => 0, g⟩ (fun r => (∀ c : Dev Cert.BbarFwdIdeal.nD,
      r.2.mem ((c.tc : Thread Cert.BbarFwdIdeal.nD Cert.BbarFwdIdeal.τ).loc Cert.BbarFwdIdeal.main_arg0) = m ((c.tc : Thread Cert.BbarFwdIdeal.nD Cert.BbarFwdIdeal.τ).loc Cert.BbarFwdIdeal.main_arg0)
      ∧ r.2.mem ((c.tc : Thread Cert.BbarFwdIdeal.nD Cert.BbarFwdIdeal.τ).loc Cert.BbarFwdIdeal.main_arg1) = m ((c.tc : Thread Cert.BbarFwdIdeal.nD Cert.BbarFwdIdeal.τ).loc Cert.BbarFwdIdeal.main_arg1)
      ∧ r.2.mem ((c.tc : Thread Cert.BbarFwdIdeal.nD Cert.BbarFwdIdeal.τ).loc Cert.BbarFwdIdeal.main_arg2) = m ((c.tc : Thread Cert.BbarFwdIdeal.nD Cert.BbarFwdIdeal.τ).loc Cert.BbarFwdIdeal.main_arg2)
      ∧ r.2.mem ((c.tc : Thread Cert.BbarFwdIdeal.nD Cert.BbarFwdIdeal.τ).loc Cert.BbarFwdIdeal.main_arg3) = m ((c.tc : Thread Cert.BbarFwdIdeal.nD Cert.BbarFwdIdeal.τ).loc Cert.BbarFwdIdeal.main_arg3))
      ∧ r.2.sem = fun _ => 0)

def quiescent_BbarFwdRefIdeal [hBbarFwdRefIdeal : Cert.BbarFwdRefIdeal.Facts] : Prop :=
  ∀ (m : (ℓ : Loc Cert.BbarFwdRefIdeal.nD Cert.BbarFwdRefIdeal.τ Cert.BbarFwdRefIdeal.sig) → Buf (Elt Ideal) ℓ) (g : Dev Cert.BbarFwdRefIdeal.nD → PrngReg), Pre_BbarFwdRefIdeal m →
    θ_run (Cert.BbarFwdRefIdeal.defs (F := Ideal)) (onTc (τ := Cert.BbarFwdRefIdeal.τ) (Cert.BbarFwdRefIdeal.main (F := Ideal))) ⟨m, fun _ => 0, g⟩ (fun r => (∀ c : Dev Cert.BbarFwdRefIdeal.nD,
      r.2.mem ((c.tc : Thread Cert.BbarFwdRefIdeal.nD Cert.BbarFwdRefIdeal.τ).loc Cert.BbarFwdRefIdeal.main_arg0) = m ((c.tc : Thread Cert.BbarFwdRefIdeal.nD Cert.BbarFwdRefIdeal.τ).loc Cert.BbarFwdRefIdeal.main_arg0)
      ∧ r.2.mem ((c.tc : Thread Cert.BbarFwdRefIdeal.nD Cert.BbarFwdRefIdeal.τ).loc Cert.BbarFwdRefIdeal.main_arg1) = m ((c.tc : Thread Cert.BbarFwdRefIdeal.nD Cert.BbarFwdRefIdeal.τ).loc Cert.BbarFwdRefIdeal.main_arg1)
      ∧ r.2.mem ((c.tc : Thread Cert.BbarFwdRefIdeal.nD Cert.BbarFwdRefIdeal.τ).loc Cert.BbarFwdRefIdeal.main_arg2) = m ((c.tc : Thread Cert.BbarFwdRefIdeal.nD Cert.BbarFwdRefIdeal.τ).loc Cert.BbarFwdRefIdeal.main_arg2)
      ∧ r.2.mem ((c.tc : Thread Cert.BbarFwdRefIdeal.nD Cert.BbarFwdRefIdeal.τ).loc Cert.BbarFwdRefIdeal.main_arg3) = m ((c.tc : Thread Cert.BbarFwdRefIdeal.nD Cert.BbarFwdRefIdeal.τ).loc Cert.BbarFwdRefIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_SguSides [hSguSides : Cert.SguSides.Facts] : Prop :=
  ∀ (m : (ℓ : Loc Cert.SguSides.nD Cert.SguSides.τ Cert.SguSides.sig) → Buf (Elt Bits) ℓ) (g : Dev Cert.SguSides.nD → PrngReg), Pre_SguSides m →
    θ_run (Cert.SguSides.defs (F := Bits)) (onTc (τ := Cert.SguSides.τ) (Cert.SguSides.main (F := Bits))) ⟨m, fun _ => 0, g⟩ (fun r => (∀ c : Dev Cert.SguSides.nD,
      r.2.mem ((c.tc : Thread Cert.SguSides.nD Cert.SguSides.τ).loc Cert.SguSides.main_arg0) = m ((c.tc : Thread Cert.SguSides.nD Cert.SguSides.τ).loc Cert.SguSides.main_arg0)
      ∧ r.2.mem ((c.tc : Thread Cert.SguSides.nD Cert.SguSides.τ).loc Cert.SguSides.main_arg1) = m ((c.tc : Thread Cert.SguSides.nD Cert.SguSides.τ).loc Cert.SguSides.main_arg1)
      ∧ r.2.mem ((c.tc : Thread Cert.SguSides.nD Cert.SguSides.τ).loc Cert.SguSides.main_arg2) = m ((c.tc : Thread Cert.SguSides.nD Cert.SguSides.τ).loc Cert.SguSides.main_arg2)
      ∧ r.2.mem ((c.tc : Thread Cert.SguSides.nD Cert.SguSides.τ).loc Cert.SguSides.main_arg3) = m ((c.tc : Thread Cert.SguSides.nD Cert.SguSides.τ).loc Cert.SguSides.main_arg3)
      ∧ r.2.mem ((c.tc : Thread Cert.SguSides.nD Cert.SguSides.τ).loc Cert.SguSides.main_arg4) = m ((c.tc : Thread Cert.SguSides.nD Cert.SguSides.τ).loc Cert.SguSides.main_arg4)
      ∧ r.2.mem ((c.tc : Thread Cert.SguSides.nD Cert.SguSides.τ).loc Cert.SguSides.main_arg5) = m ((c.tc : Thread Cert.SguSides.nD Cert.SguSides.τ).loc Cert.SguSides.main_arg5))
      ∧ r.2.sem = fun _ => 0)

def quiescent_SguSidesIdeal [hSguSidesIdeal : Cert.SguSidesIdeal.Facts] : Prop :=
  ∀ (m : (ℓ : Loc Cert.SguSidesIdeal.nD Cert.SguSidesIdeal.τ Cert.SguSidesIdeal.sig) → Buf (Elt Ideal) ℓ) (g : Dev Cert.SguSidesIdeal.nD → PrngReg), Pre_SguSidesIdeal m →
    θ_run (Cert.SguSidesIdeal.defs (F := Ideal)) (onTc (τ := Cert.SguSidesIdeal.τ) (Cert.SguSidesIdeal.main (F := Ideal))) ⟨m, fun _ => 0, g⟩ (fun r => (∀ c : Dev Cert.SguSidesIdeal.nD,
      r.2.mem ((c.tc : Thread Cert.SguSidesIdeal.nD Cert.SguSidesIdeal.τ).loc Cert.SguSidesIdeal.main_arg0) = m ((c.tc : Thread Cert.SguSidesIdeal.nD Cert.SguSidesIdeal.τ).loc Cert.SguSidesIdeal.main_arg0)
      ∧ r.2.mem ((c.tc : Thread Cert.SguSidesIdeal.nD Cert.SguSidesIdeal.τ).loc Cert.SguSidesIdeal.main_arg1) = m ((c.tc : Thread Cert.SguSidesIdeal.nD Cert.SguSidesIdeal.τ).loc Cert.SguSidesIdeal.main_arg1)
      ∧ r.2.mem ((c.tc : Thread Cert.SguSidesIdeal.nD Cert.SguSidesIdeal.τ).loc Cert.SguSidesIdeal.main_arg2) = m ((c.tc : Thread Cert.SguSidesIdeal.nD Cert.SguSidesIdeal.τ).loc Cert.SguSidesIdeal.main_arg2)
      ∧ r.2.mem ((c.tc : Thread Cert.SguSidesIdeal.nD Cert.SguSidesIdeal.τ).loc Cert.SguSidesIdeal.main_arg3) = m ((c.tc : Thread Cert.SguSidesIdeal.nD Cert.SguSidesIdeal.τ).loc Cert.SguSidesIdeal.main_arg3)
      ∧ r.2.mem ((c.tc : Thread Cert.SguSidesIdeal.nD Cert.SguSidesIdeal.τ).loc Cert.SguSidesIdeal.main_arg4) = m ((c.tc : Thread Cert.SguSidesIdeal.nD Cert.SguSidesIdeal.τ).loc Cert.SguSidesIdeal.main_arg4)
      ∧ r.2.mem ((c.tc : Thread Cert.SguSidesIdeal.nD Cert.SguSidesIdeal.τ).loc Cert.SguSidesIdeal.main_arg5) = m ((c.tc : Thread Cert.SguSidesIdeal.nD Cert.SguSidesIdeal.τ).loc Cert.SguSidesIdeal.main_arg5))
      ∧ r.2.sem = fun _ => 0)

def quiescent_SguSidesRefIdeal [hSguSidesRefIdeal : Cert.SguSidesRefIdeal.Facts] : Prop :=
  ∀ (m : (ℓ : Loc Cert.SguSidesRefIdeal.nD Cert.SguSidesRefIdeal.τ Cert.SguSidesRefIdeal.sig) → Buf (Elt Ideal) ℓ) (g : Dev Cert.SguSidesRefIdeal.nD → PrngReg), Pre_SguSidesRefIdeal m →
    θ_run (Cert.SguSidesRefIdeal.defs (F := Ideal)) (onTc (τ := Cert.SguSidesRefIdeal.τ) (Cert.SguSidesRefIdeal.main (F := Ideal))) ⟨m, fun _ => 0, g⟩ (fun r => (∀ c : Dev Cert.SguSidesRefIdeal.nD,
      r.2.mem ((c.tc : Thread Cert.SguSidesRefIdeal.nD Cert.SguSidesRefIdeal.τ).loc Cert.SguSidesRefIdeal.main_arg0) = m ((c.tc : Thread Cert.SguSidesRefIdeal.nD Cert.SguSidesRefIdeal.τ).loc Cert.SguSidesRefIdeal.main_arg0)
      ∧ r.2.mem ((c.tc : Thread Cert.SguSidesRefIdeal.nD Cert.SguSidesRefIdeal.τ).loc Cert.SguSidesRefIdeal.main_arg1) = m ((c.tc : Thread Cert.SguSidesRefIdeal.nD Cert.SguSidesRefIdeal.τ).loc Cert.SguSidesRefIdeal.main_arg1)
      ∧ r.2.mem ((c.tc : Thread Cert.SguSidesRefIdeal.nD Cert.SguSidesRefIdeal.τ).loc Cert.SguSidesRefIdeal.main_arg2) = m ((c.tc : Thread Cert.SguSidesRefIdeal.nD Cert.SguSidesRefIdeal.τ).loc Cert.SguSidesRefIdeal.main_arg2)
      ∧ r.2.mem ((c.tc : Thread Cert.SguSidesRefIdeal.nD Cert.SguSidesRefIdeal.τ).loc Cert.SguSidesRefIdeal.main_arg3) = m ((c.tc : Thread Cert.SguSidesRefIdeal.nD Cert.SguSidesRefIdeal.τ).loc Cert.SguSidesRefIdeal.main_arg3)
      ∧ r.2.mem ((c.tc : Thread Cert.SguSidesRefIdeal.nD Cert.SguSidesRefIdeal.τ).loc Cert.SguSidesRefIdeal.main_arg4) = m ((c.tc : Thread Cert.SguSidesRefIdeal.nD Cert.SguSidesRefIdeal.τ).loc Cert.SguSidesRefIdeal.main_arg4)
      ∧ r.2.mem ((c.tc : Thread Cert.SguSidesRefIdeal.nD Cert.SguSidesRefIdeal.τ).loc Cert.SguSidesRefIdeal.main_arg5) = m ((c.tc : Thread Cert.SguSidesRefIdeal.nD Cert.SguSidesRefIdeal.τ).loc Cert.SguSidesRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)) →
    ∃ (v0 : (c : Dev Cert.InAbIdeal.nD) → Buf (Elt Ideal) ((c.tc : Thread Cert.InAbIdeal.nD Cert.InAbIdeal.τ).loc Cert.InAbIdeal.main_v0)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v0) = v0 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v5) = v0 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1))

def preserves_InAbDx_InAbDxIdeal : Prop :=
  True

def algebraic_InAbDxIdeal_InAbDxRefIdeal [hInAbDxIdeal : Cert.InAbDxIdeal.Facts] [hInAbDxRefIdeal : Cert.InAbDxRefIdeal.Facts] : Prop :=
  ∀ (m : (ℓ : Loc Cert.InAbDxIdeal.nD Cert.InAbDxIdeal.τ Cert.InAbDxIdeal.sig) → Buf (Elt Ideal) ℓ) (g : Dev Cert.InAbDxIdeal.nD → PrngReg)
    (m' : (ℓ : Loc Cert.InAbDxRefIdeal.nD Cert.InAbDxRefIdeal.τ Cert.InAbDxRefIdeal.sig) → Buf (Elt Ideal) ℓ) (g' : Dev Cert.InAbDxRefIdeal.nD → PrngReg), Pre_InAbDxIdeal m →
    (∀ c : Dev Cert.InAbDxIdeal.nD,
      m' ((c.tc : Thread Cert.InAbDxRefIdeal.nD Cert.InAbDxRefIdeal.τ).loc Cert.InAbDxRefIdeal.main_arg0) = m ((c.tc : Thread Cert.InAbDxIdeal.nD Cert.InAbDxIdeal.τ).loc Cert.InAbDxIdeal.main_arg0)
      ∧ m' ((c.tc : Thread Cert.InAbDxRefIdeal.nD Cert.InAbDxRefIdeal.τ).loc Cert.InAbDxRefIdeal.main_arg1) = m ((c.tc : Thread Cert.InAbDxIdeal.nD Cert.InAbDxIdeal.τ).loc Cert.InAbDxIdeal.main_arg1)) →
    ∃ (v0 : (c : Dev Cert.InAbDxIdeal.nD) → Buf (Elt Ideal) ((c.tc : Thread Cert.InAbDxIdeal.nD Cert.InAbDxIdeal.τ).loc Cert.InAbDxIdeal.main_v0)),
      θ_run (Cert.InAbDxIdeal.defs (F := Ideal)) (onTc (τ := Cert.InAbDxIdeal.τ) (Cert.InAbDxIdeal.main (F := Ideal))) ⟨m, fun _ => 0, g⟩ (fun r => ∀ c : Dev Cert.InAbDxIdeal.nD,
          r.2.mem ((c.tc : Thread Cert.InAbDxIdeal.nD Cert.InAbDxIdeal.τ).loc Cert.InAbDxIdeal.main_v0) = v0 c
          ∧ r.2.mem ((c.tc : Thread Cert.InAbDxIdeal.nD Cert.InAbDxIdeal.τ).loc Cert.InAbDxIdeal.main_arg0) = m ((c.tc : Thread Cert.InAbDxIdeal.nD Cert.InAbDxIdeal.τ).loc Cert.InAbDxIdeal.main_arg0)
          ∧ r.2.mem ((c.tc : Thread Cert.InAbDxIdeal.nD Cert.InAbDxIdeal.τ).loc Cert.InAbDxIdeal.main_arg1) = m ((c.tc : Thread Cert.InAbDxIdeal.nD Cert.InAbDxIdeal.τ).loc Cert.InAbDxIdeal.main_arg1))
      ∧ θ_run (Cert.InAbDxRefIdeal.defs (F := Ideal)) (onTc (τ := Cert.InAbDxRefIdeal.τ) (Cert.InAbDxRefIdeal.main (F := Ideal))) ⟨m', fun _ => 0, g'⟩ (fun r => ∀ c : Dev Cert.InAbDxRefIdeal.nD,
          r.2.mem ((c.tc : Thread Cert.InAbDxRefIdeal.nD Cert.InAbDxRefIdeal.τ).loc Cert.InAbDxRefIdeal.main_v6) = v0 c
          ∧ r.2.mem ((c.tc : Thread Cert.InAbDxRefIdeal.nD Cert.InAbDxRefIdeal.τ).loc Cert.InAbDxRefIdeal.main_arg0) = m' ((c.tc : Thread Cert.InAbDxRefIdeal.nD Cert.InAbDxRefIdeal.τ).loc Cert.InAbDxRefIdeal.main_arg0)
          ∧ r.2.mem ((c.tc : Thread Cert.InAbDxRefIdeal.nD Cert.InAbDxRefIdeal.τ).loc Cert.InAbDxRefIdeal.main_arg1) = m' ((c.tc : Thread Cert.InAbDxRefIdeal.nD Cert.InAbDxRefIdeal.τ).loc Cert.InAbDxRefIdeal.main_arg1))

def preserves_InAbDw_InAbDwIdeal : Prop :=
  True

def algebraic_InAbDwIdeal_InAbDwRefIdeal [hInAbDwIdeal : Cert.InAbDwIdeal.Facts] [hInAbDwRefIdeal : Cert.InAbDwRefIdeal.Facts] : Prop :=
  ∀ (m : (ℓ : Loc Cert.InAbDwIdeal.nD Cert.InAbDwIdeal.τ Cert.InAbDwIdeal.sig) → Buf (Elt Ideal) ℓ) (g : Dev Cert.InAbDwIdeal.nD → PrngReg)
    (m' : (ℓ : Loc Cert.InAbDwRefIdeal.nD Cert.InAbDwRefIdeal.τ Cert.InAbDwRefIdeal.sig) → Buf (Elt Ideal) ℓ) (g' : Dev Cert.InAbDwRefIdeal.nD → PrngReg), Pre_InAbDwIdeal m →
    (∀ c : Dev Cert.InAbDwIdeal.nD,
      m' ((c.tc : Thread Cert.InAbDwRefIdeal.nD Cert.InAbDwRefIdeal.τ).loc Cert.InAbDwRefIdeal.main_arg0) = m ((c.tc : Thread Cert.InAbDwIdeal.nD Cert.InAbDwIdeal.τ).loc Cert.InAbDwIdeal.main_arg0)
      ∧ m' ((c.tc : Thread Cert.InAbDwRefIdeal.nD Cert.InAbDwRefIdeal.τ).loc Cert.InAbDwRefIdeal.main_arg1) = m ((c.tc : Thread Cert.InAbDwIdeal.nD Cert.InAbDwIdeal.τ).loc Cert.InAbDwIdeal.main_arg1)) →
    ∃ (v0 : (c : Dev Cert.InAbDwIdeal.nD) → Buf (Elt Ideal) ((c.tc : Thread Cert.InAbDwIdeal.nD Cert.InAbDwIdeal.τ).loc Cert.InAbDwIdeal.main_v0)),
      θ_run (Cert.InAbDwIdeal.defs (F := Ideal)) (onTc (τ := Cert.InAbDwIdeal.τ) (Cert.InAbDwIdeal.main (F := Ideal))) ⟨m, fun _ => 0, g⟩ (fun r => ∀ c : Dev Cert.InAbDwIdeal.nD,
          r.2.mem ((c.tc : Thread Cert.InAbDwIdeal.nD Cert.InAbDwIdeal.τ).loc Cert.InAbDwIdeal.main_v0) = v0 c
          ∧ r.2.mem ((c.tc : Thread Cert.InAbDwIdeal.nD Cert.InAbDwIdeal.τ).loc Cert.InAbDwIdeal.main_arg0) = m ((c.tc : Thread Cert.InAbDwIdeal.nD Cert.InAbDwIdeal.τ).loc Cert.InAbDwIdeal.main_arg0)
          ∧ r.2.mem ((c.tc : Thread Cert.InAbDwIdeal.nD Cert.InAbDwIdeal.τ).loc Cert.InAbDwIdeal.main_arg1) = m ((c.tc : Thread Cert.InAbDwIdeal.nD Cert.InAbDwIdeal.τ).loc Cert.InAbDwIdeal.main_arg1))
      ∧ θ_run (Cert.InAbDwRefIdeal.defs (F := Ideal)) (onTc (τ := Cert.InAbDwRefIdeal.τ) (Cert.InAbDwRefIdeal.main (F := Ideal))) ⟨m', fun _ => 0, g'⟩ (fun r => ∀ c : Dev Cert.InAbDwRefIdeal.nD,
          r.2.mem ((c.tc : Thread Cert.InAbDwRefIdeal.nD Cert.InAbDwRefIdeal.τ).loc Cert.InAbDwRefIdeal.main_v8) = v0 c
          ∧ r.2.mem ((c.tc : Thread Cert.InAbDwRefIdeal.nD Cert.InAbDwRefIdeal.τ).loc Cert.InAbDwRefIdeal.main_arg0) = m' ((c.tc : Thread Cert.InAbDwRefIdeal.nD Cert.InAbDwRefIdeal.τ).loc Cert.InAbDwRefIdeal.main_arg0)
          ∧ r.2.mem ((c.tc : Thread Cert.InAbDwRefIdeal.nD Cert.InAbDwRefIdeal.τ).loc Cert.InAbDwRefIdeal.main_arg1) = m' ((c.tc : Thread Cert.InAbDwRefIdeal.nD Cert.InAbDwRefIdeal.τ).loc Cert.InAbDwRefIdeal.main_arg1))

def preserves_InCd_InCdIdeal : Prop :=
  True

def algebraic_InCdIdeal_InCdRefIdeal [hInCdIdeal : Cert.InCdIdeal.Facts] [hInCdRefIdeal : Cert.InCdRefIdeal.Facts] : Prop :=
  ∀ (m : (ℓ : Loc Cert.InCdIdeal.nD Cert.InCdIdeal.τ Cert.InCdIdeal.sig) → Buf (Elt Ideal) ℓ) (g : Dev Cert.InCdIdeal.nD → PrngReg)
    (m' : (ℓ : Loc Cert.InCdRefIdeal.nD Cert.InCdRefIdeal.τ Cert.InCdRefIdeal.sig) → Buf (Elt Ideal) ℓ) (g' : Dev Cert.InCdRefIdeal.nD → PrngReg), Pre_InCdIdeal m →
    (∀ c : Dev Cert.InCdIdeal.nD,
      m' ((c.tc : Thread Cert.InCdRefIdeal.nD Cert.InCdRefIdeal.τ).loc Cert.InCdRefIdeal.main_arg0) = m ((c.tc : Thread Cert.InCdIdeal.nD Cert.InCdIdeal.τ).loc Cert.InCdIdeal.main_arg0)
      ∧ m' ((c.tc : Thread Cert.InCdRefIdeal.nD Cert.InCdRefIdeal.τ).loc Cert.InCdRefIdeal.main_arg1) = m ((c.tc : Thread Cert.InCdIdeal.nD Cert.InCdIdeal.τ).loc Cert.InCdIdeal.main_arg1)) →
    ∃ (v0 : (c : Dev Cert.InCdIdeal.nD) → Buf (Elt Ideal) ((c.tc : Thread Cert.InCdIdeal.nD Cert.InCdIdeal.τ).loc Cert.InCdIdeal.main_v0)),
      θ_run (Cert.InCdIdeal.defs (F := Ideal)) (onTc (τ := Cert.InCdIdeal.τ) (Cert.InCdIdeal.main (F := Ideal))) ⟨m, fun _ => 0, g⟩ (fun r => ∀ c : Dev Cert.InCdIdeal.nD,
          r.2.mem ((c.tc : Thread Cert.InCdIdeal.nD Cert.InCdIdeal.τ).loc Cert.InCdIdeal.main_v0) = v0 c
          ∧ r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
          ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1))
      ∧ θ_run (Cert.InCdRefIdeal.defs (F := Ideal)) (onTc (τ := Cert.InCdRefIdeal.τ) (Cert.InCdRefIdeal.main (F := Ideal))) ⟨m', fun _ => 0, g'⟩ (fun r => ∀ c : Dev Cert.InCdRefIdeal.nD,
          r.2.mem ((c.tc : Thread Cert.InCdRefIdeal.nD Cert.InCdRefIdeal.τ).loc Cert.InCdRefIdeal.main_v5) = v0 c
          ∧ r.2.mem ((c.tc : Thread Cert.InCdRefIdeal.nD Cert.InCdRefIdeal.τ).loc Cert.InCdRefIdeal.main_arg0) = m' ((c.tc : Thread Cert.InCdRefIdeal.nD Cert.InCdRefIdeal.τ).loc Cert.InCdRefIdeal.main_arg0)
          ∧ r.2.mem ((c.tc : Thread Cert.InCdRefIdeal.nD Cert.InCdRefIdeal.τ).loc Cert.InCdRefIdeal.main_arg1) = m' ((c.tc : Thread Cert.InCdRefIdeal.nD Cert.InCdRefIdeal.τ).loc Cert.InCdRefIdeal.main_arg1))

def preserves_InCdDx_InCdDxIdeal : Prop :=
  True

def algebraic_InCdDxIdeal_InCdDxRefIdeal [hInCdDxIdeal : Cert.InCdDxIdeal.Facts] [hInCdDxRefIdeal : Cert.InCdDxRefIdeal.Facts] : Prop :=
  ∀ (m : (ℓ : Loc Cert.InCdDxIdeal.nD Cert.InCdDxIdeal.τ Cert.InCdDxIdeal.sig) → Buf (Elt Ideal) ℓ) (g : Dev Cert.InCdDxIdeal.nD → PrngReg)
    (m' : (ℓ : Loc Cert.InCdDxRefIdeal.nD Cert.InCdDxRefIdeal.τ Cert.InCdDxRefIdeal.sig) → Buf (Elt Ideal) ℓ) (g' : Dev Cert.InCdDxRefIdeal.nD → PrngReg), Pre_InCdDxIdeal m →
    (∀ c : Dev Cert.InCdDxIdeal.nD,
      m' ((c.tc : Thread Cert.InCdDxRefIdeal.nD Cert.InCdDxRefIdeal.τ).loc Cert.InCdDxRefIdeal.main_arg0) = m ((c.tc : Thread Cert.InCdDxIdeal.nD Cert.InCdDxIdeal.τ).loc Cert.InCdDxIdeal.main_arg0)
      ∧ m' ((c.tc : Thread Cert.InCdDxRefIdeal.nD Cert.InCdDxRefIdeal.τ).loc Cert.InCdDxRefIdeal.main_arg1) = m ((c.tc : Thread Cert.InCdDxIdeal.nD Cert.InCdDxIdeal.τ).loc Cert.InCdDxIdeal.main_arg1)) →
    ∃ (v0 : (c : Dev Cert.InCdDxIdeal.nD) → Buf (Elt Ideal) ((c.tc : Thread Cert.InCdDxIdeal.nD Cert.InCdDxIdeal.τ).loc Cert.InCdDxIdeal.main_v0)),
      θ_run (Cert.InCdDxIdeal.defs (F := Ideal)) (onTc (τ := Cert.InCdDxIdeal.τ) (Cert.InCdDxIdeal.main (F := Ideal))) ⟨m, fun _ => 0, g⟩ (fun r => ∀ c : Dev Cert.InCdDxIdeal.nD,
          r.2.mem ((c.tc : Thread Cert.InCdDxIdeal.nD Cert.InCdDxIdeal.τ).loc Cert.InCdDxIdeal.main_v0) = v0 c
          ∧ r.2.mem ((c.tc : Thread Cert.InCdDxIdeal.nD Cert.InCdDxIdeal.τ).loc Cert.InCdDxIdeal.main_arg0) = m ((c.tc : Thread Cert.InCdDxIdeal.nD Cert.InCdDxIdeal.τ).loc Cert.InCdDxIdeal.main_arg0)
          ∧ r.2.mem ((c.tc : Thread Cert.InCdDxIdeal.nD Cert.InCdDxIdeal.τ).loc Cert.InCdDxIdeal.main_arg1) = m ((c.tc : Thread Cert.InCdDxIdeal.nD Cert.InCdDxIdeal.τ).loc Cert.InCdDxIdeal.main_arg1))
      ∧ θ_run (Cert.InCdDxRefIdeal.defs (F := Ideal)) (onTc (τ := Cert.InCdDxRefIdeal.τ) (Cert.InCdDxRefIdeal.main (F := Ideal))) ⟨m', fun _ => 0, g'⟩ (fun r => ∀ c : Dev Cert.InCdDxRefIdeal.nD,
          r.2.mem ((c.tc : Thread Cert.InCdDxRefIdeal.nD Cert.InCdDxRefIdeal.τ).loc Cert.InCdDxRefIdeal.main_v6) = v0 c
          ∧ r.2.mem ((c.tc : Thread Cert.InCdDxRefIdeal.nD Cert.InCdDxRefIdeal.τ).loc Cert.InCdDxRefIdeal.main_arg0) = m' ((c.tc : Thread Cert.InCdDxRefIdeal.nD Cert.InCdDxRefIdeal.τ).loc Cert.InCdDxRefIdeal.main_arg0)
          ∧ r.2.mem ((c.tc : Thread Cert.InCdDxRefIdeal.nD Cert.InCdDxRefIdeal.τ).loc Cert.InCdDxRefIdeal.main_arg1) = m' ((c.tc : Thread Cert.InCdDxRefIdeal.nD Cert.InCdDxRefIdeal.τ).loc Cert.InCdDxRefIdeal.main_arg1))

def preserves_InCdDw_InCdDwIdeal : Prop :=
  True

def algebraic_InCdDwIdeal_InCdDwRefIdeal [hInCdDwIdeal : Cert.InCdDwIdeal.Facts] [hInCdDwRefIdeal : Cert.InCdDwRefIdeal.Facts] : Prop :=
  ∀ (m : (ℓ : Loc Cert.InCdDwIdeal.nD Cert.InCdDwIdeal.τ Cert.InCdDwIdeal.sig) → Buf (Elt Ideal) ℓ) (g : Dev Cert.InCdDwIdeal.nD → PrngReg)
    (m' : (ℓ : Loc Cert.InCdDwRefIdeal.nD Cert.InCdDwRefIdeal.τ Cert.InCdDwRefIdeal.sig) → Buf (Elt Ideal) ℓ) (g' : Dev Cert.InCdDwRefIdeal.nD → PrngReg), Pre_InCdDwIdeal m →
    (∀ c : Dev Cert.InCdDwIdeal.nD,
      m' ((c.tc : Thread Cert.InCdDwRefIdeal.nD Cert.InCdDwRefIdeal.τ).loc Cert.InCdDwRefIdeal.main_arg0) = m ((c.tc : Thread Cert.InCdDwIdeal.nD Cert.InCdDwIdeal.τ).loc Cert.InCdDwIdeal.main_arg0)
      ∧ m' ((c.tc : Thread Cert.InCdDwRefIdeal.nD Cert.InCdDwRefIdeal.τ).loc Cert.InCdDwRefIdeal.main_arg1) = m ((c.tc : Thread Cert.InCdDwIdeal.nD Cert.InCdDwIdeal.τ).loc Cert.InCdDwIdeal.main_arg1)) →
    ∃ (v0 : (c : Dev Cert.InCdDwIdeal.nD) → Buf (Elt Ideal) ((c.tc : Thread Cert.InCdDwIdeal.nD Cert.InCdDwIdeal.τ).loc Cert.InCdDwIdeal.main_v0)),
      θ_run (Cert.InCdDwIdeal.defs (F := Ideal)) (onTc (τ := Cert.InCdDwIdeal.τ) (Cert.InCdDwIdeal.main (F := Ideal))) ⟨m, fun _ => 0, g⟩ (fun r => ∀ c : Dev Cert.InCdDwIdeal.nD,
          r.2.mem ((c.tc : Thread Cert.InCdDwIdeal.nD Cert.InCdDwIdeal.τ).loc Cert.InCdDwIdeal.main_v0) = v0 c
          ∧ r.2.mem ((c.tc : Thread Cert.InCdDwIdeal.nD Cert.InCdDwIdeal.τ).loc Cert.InCdDwIdeal.main_arg0) = m ((c.tc : Thread Cert.InCdDwIdeal.nD Cert.InCdDwIdeal.τ).loc Cert.InCdDwIdeal.main_arg0)
          ∧ r.2.mem ((c.tc : Thread Cert.InCdDwIdeal.nD Cert.InCdDwIdeal.τ).loc Cert.InCdDwIdeal.main_arg1) = m ((c.tc : Thread Cert.InCdDwIdeal.nD Cert.InCdDwIdeal.τ).loc Cert.InCdDwIdeal.main_arg1))
      ∧ θ_run (Cert.InCdDwRefIdeal.defs (F := Ideal)) (onTc (τ := Cert.InCdDwRefIdeal.τ) (Cert.InCdDwRefIdeal.main (F := Ideal))) ⟨m', fun _ => 0, g'⟩ (fun r => ∀ c : Dev Cert.InCdDwRefIdeal.nD,
          r.2.mem ((c.tc : Thread Cert.InCdDwRefIdeal.nD Cert.InCdDwRefIdeal.τ).loc Cert.InCdDwRefIdeal.main_v8) = v0 c
          ∧ r.2.mem ((c.tc : Thread Cert.InCdDwRefIdeal.nD Cert.InCdDwRefIdeal.τ).loc Cert.InCdDwRefIdeal.main_arg0) = m' ((c.tc : Thread Cert.InCdDwRefIdeal.nD Cert.InCdDwRefIdeal.τ).loc Cert.InCdDwRefIdeal.main_arg0)
          ∧ r.2.mem ((c.tc : Thread Cert.InCdDwRefIdeal.nD Cert.InCdDwRefIdeal.τ).loc Cert.InCdDwRefIdeal.main_arg1) = m' ((c.tc : Thread Cert.InCdDwRefIdeal.nD Cert.InCdDwRefIdeal.τ).loc Cert.InCdDwRefIdeal.main_arg1))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)) →
    ∃ (v0 : (c : Dev Cert.OutAbIdeal.nD) → Buf (Elt Ideal) ((c.tc : Thread Cert.OutAbIdeal.nD Cert.OutAbIdeal.τ).loc Cert.OutAbIdeal.main_v0)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v0) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v3) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2))

def preserves_OutAbDx_OutAbDxIdeal : Prop :=
  True

def algebraic_OutAbDxIdeal_OutAbDxRefIdeal [hOutAbDxIdeal : Cert.OutAbDxIdeal.Facts] [hOutAbDxRefIdeal : Cert.OutAbDxRefIdeal.Facts] : Prop :=
  ∀ (m : (ℓ : Loc Cert.OutAbDxIdeal.nD Cert.OutAbDxIdeal.τ Cert.OutAbDxIdeal.sig) → Buf (Elt Ideal) ℓ) (g : Dev Cert.OutAbDxIdeal.nD → PrngReg)
    (m' : (ℓ : Loc Cert.OutAbDxRefIdeal.nD Cert.OutAbDxRefIdeal.τ Cert.OutAbDxRefIdeal.sig) → Buf (Elt Ideal) ℓ) (g' : Dev Cert.OutAbDxRefIdeal.nD → PrngReg), Pre_OutAbDxIdeal m →
    (∀ c : Dev Cert.OutAbDxIdeal.nD,
      m' ((c.tc : Thread Cert.OutAbDxRefIdeal.nD Cert.OutAbDxRefIdeal.τ).loc Cert.OutAbDxRefIdeal.main_arg0) = m ((c.tc : Thread Cert.OutAbDxIdeal.nD Cert.OutAbDxIdeal.τ).loc Cert.OutAbDxIdeal.main_arg0)
      ∧ m' ((c.tc : Thread Cert.OutAbDxRefIdeal.nD Cert.OutAbDxRefIdeal.τ).loc Cert.OutAbDxRefIdeal.main_arg1) = m ((c.tc : Thread Cert.OutAbDxIdeal.nD Cert.OutAbDxIdeal.τ).loc Cert.OutAbDxIdeal.main_arg1)) →
    ∃ (v0 : (c : Dev Cert.OutAbDxIdeal.nD) → Buf (Elt Ideal) ((c.tc : Thread Cert.OutAbDxIdeal.nD Cert.OutAbDxIdeal.τ).loc Cert.OutAbDxIdeal.main_v0)),
      θ_run (Cert.OutAbDxIdeal.defs (F := Ideal)) (onTc (τ := Cert.OutAbDxIdeal.τ) (Cert.OutAbDxIdeal.main (F := Ideal))) ⟨m, fun _ => 0, g⟩ (fun r => ∀ c : Dev Cert.OutAbDxIdeal.nD,
          r.2.mem ((c.tc : Thread Cert.OutAbDxIdeal.nD Cert.OutAbDxIdeal.τ).loc Cert.OutAbDxIdeal.main_v0) = v0 c
          ∧ r.2.mem ((c.tc : Thread Cert.OutAbDxIdeal.nD Cert.OutAbDxIdeal.τ).loc Cert.OutAbDxIdeal.main_arg0) = m ((c.tc : Thread Cert.OutAbDxIdeal.nD Cert.OutAbDxIdeal.τ).loc Cert.OutAbDxIdeal.main_arg0)
          ∧ r.2.mem ((c.tc : Thread Cert.OutAbDxIdeal.nD Cert.OutAbDxIdeal.τ).loc Cert.OutAbDxIdeal.main_arg1) = m ((c.tc : Thread Cert.OutAbDxIdeal.nD Cert.OutAbDxIdeal.τ).loc Cert.OutAbDxIdeal.main_arg1))
      ∧ θ_run (Cert.OutAbDxRefIdeal.defs (F := Ideal)) (onTc (τ := Cert.OutAbDxRefIdeal.τ) (Cert.OutAbDxRefIdeal.main (F := Ideal))) ⟨m', fun _ => 0, g'⟩ (fun r => ∀ c : Dev Cert.OutAbDxRefIdeal.nD,
          r.2.mem ((c.tc : Thread Cert.OutAbDxRefIdeal.nD Cert.OutAbDxRefIdeal.τ).loc Cert.OutAbDxRefIdeal.main_v3) = v0 c
          ∧ r.2.mem ((c.tc : Thread Cert.OutAbDxRefIdeal.nD Cert.OutAbDxRefIdeal.τ).loc Cert.OutAbDxRefIdeal.main_arg0) = m' ((c.tc : Thread Cert.OutAbDxRefIdeal.nD Cert.OutAbDxRefIdeal.τ).loc Cert.OutAbDxRefIdeal.main_arg0)
          ∧ r.2.mem ((c.tc : Thread Cert.OutAbDxRefIdeal.nD Cert.OutAbDxRefIdeal.τ).loc Cert.OutAbDxRefIdeal.main_arg1) = m' ((c.tc : Thread Cert.OutAbDxRefIdeal.nD Cert.OutAbDxRefIdeal.τ).loc Cert.OutAbDxRefIdeal.main_arg1))

def preserves_OutAbDw_OutAbDwIdeal : Prop :=
  True

def algebraic_OutAbDwIdeal_OutAbDwRefIdeal [hOutAbDwIdeal : Cert.OutAbDwIdeal.Facts] [hOutAbDwRefIdeal : Cert.OutAbDwRefIdeal.Facts] : Prop :=
  ∀ (m : (ℓ : Loc Cert.OutAbDwIdeal.nD Cert.OutAbDwIdeal.τ Cert.OutAbDwIdeal.sig) → Buf (Elt Ideal) ℓ) (g : Dev Cert.OutAbDwIdeal.nD → PrngReg)
    (m' : (ℓ : Loc Cert.OutAbDwRefIdeal.nD Cert.OutAbDwRefIdeal.τ Cert.OutAbDwRefIdeal.sig) → Buf (Elt Ideal) ℓ) (g' : Dev Cert.OutAbDwRefIdeal.nD → PrngReg), Pre_OutAbDwIdeal m →
    (∀ c : Dev Cert.OutAbDwIdeal.nD,
      m' ((c.tc : Thread Cert.OutAbDwRefIdeal.nD Cert.OutAbDwRefIdeal.τ).loc Cert.OutAbDwRefIdeal.main_arg0) = m ((c.tc : Thread Cert.OutAbDwIdeal.nD Cert.OutAbDwIdeal.τ).loc Cert.OutAbDwIdeal.main_arg0)
      ∧ m' ((c.tc : Thread Cert.OutAbDwRefIdeal.nD Cert.OutAbDwRefIdeal.τ).loc Cert.OutAbDwRefIdeal.main_arg1) = m ((c.tc : Thread Cert.OutAbDwIdeal.nD Cert.OutAbDwIdeal.τ).loc Cert.OutAbDwIdeal.main_arg1)) →
    ∃ (v0 : (c : Dev Cert.OutAbDwIdeal.nD) → Buf (Elt Ideal) ((c.tc : Thread Cert.OutAbDwIdeal.nD Cert.OutAbDwIdeal.τ).loc Cert.OutAbDwIdeal.main_v0)),
      θ_run (Cert.OutAbDwIdeal.defs (F := Ideal)) (onTc (τ := Cert.OutAbDwIdeal.τ) (Cert.OutAbDwIdeal.main (F := Ideal))) ⟨m, fun _ => 0, g⟩ (fun r => ∀ c : Dev Cert.OutAbDwIdeal.nD,
          r.2.mem ((c.tc : Thread Cert.OutAbDwIdeal.nD Cert.OutAbDwIdeal.τ).loc Cert.OutAbDwIdeal.main_v0) = v0 c
          ∧ r.2.mem ((c.tc : Thread Cert.OutAbDwIdeal.nD Cert.OutAbDwIdeal.τ).loc Cert.OutAbDwIdeal.main_arg0) = m ((c.tc : Thread Cert.OutAbDwIdeal.nD Cert.OutAbDwIdeal.τ).loc Cert.OutAbDwIdeal.main_arg0)
          ∧ r.2.mem ((c.tc : Thread Cert.OutAbDwIdeal.nD Cert.OutAbDwIdeal.τ).loc Cert.OutAbDwIdeal.main_arg1) = m ((c.tc : Thread Cert.OutAbDwIdeal.nD Cert.OutAbDwIdeal.τ).loc Cert.OutAbDwIdeal.main_arg1))
      ∧ θ_run (Cert.OutAbDwRefIdeal.defs (F := Ideal)) (onTc (τ := Cert.OutAbDwRefIdeal.τ) (Cert.OutAbDwRefIdeal.main (F := Ideal))) ⟨m', fun _ => 0, g'⟩ (fun r => ∀ c : Dev Cert.OutAbDwRefIdeal.nD,
          r.2.mem ((c.tc : Thread Cert.OutAbDwRefIdeal.nD Cert.OutAbDwRefIdeal.τ).loc Cert.OutAbDwRefIdeal.main_v5) = v0 c
          ∧ r.2.mem ((c.tc : Thread Cert.OutAbDwRefIdeal.nD Cert.OutAbDwRefIdeal.τ).loc Cert.OutAbDwRefIdeal.main_arg0) = m' ((c.tc : Thread Cert.OutAbDwRefIdeal.nD Cert.OutAbDwRefIdeal.τ).loc Cert.OutAbDwRefIdeal.main_arg0)
          ∧ r.2.mem ((c.tc : Thread Cert.OutAbDwRefIdeal.nD Cert.OutAbDwRefIdeal.τ).loc Cert.OutAbDwRefIdeal.main_arg1) = m' ((c.tc : Thread Cert.OutAbDwRefIdeal.nD Cert.OutAbDwRefIdeal.τ).loc Cert.OutAbDwRefIdeal.main_arg1))

def preserves_OutCd_OutCdIdeal : Prop :=
  True

def algebraic_OutCdIdeal_OutCdRefIdeal [hOutCdIdeal : Cert.OutCdIdeal.Facts] [hOutCdRefIdeal : Cert.OutCdRefIdeal.Facts] : Prop :=
  ∀ (m : (ℓ : Loc Cert.OutCdIdeal.nD Cert.OutCdIdeal.τ Cert.OutCdIdeal.sig) → Buf (Elt Ideal) ℓ) (g : Dev Cert.OutCdIdeal.nD → PrngReg)
    (m' : (ℓ : Loc Cert.OutCdRefIdeal.nD Cert.OutCdRefIdeal.τ Cert.OutCdRefIdeal.sig) → Buf (Elt Ideal) ℓ) (g' : Dev Cert.OutCdRefIdeal.nD → PrngReg), Pre_OutCdIdeal m →
    (∀ c : Dev Cert.OutCdIdeal.nD,
      m' ((c.tc : Thread Cert.OutCdRefIdeal.nD Cert.OutCdRefIdeal.τ).loc Cert.OutCdRefIdeal.main_arg0) = m ((c.tc : Thread Cert.OutCdIdeal.nD Cert.OutCdIdeal.τ).loc Cert.OutCdIdeal.main_arg0)
      ∧ m' ((c.tc : Thread Cert.OutCdRefIdeal.nD Cert.OutCdRefIdeal.τ).loc Cert.OutCdRefIdeal.main_arg1) = m ((c.tc : Thread Cert.OutCdIdeal.nD Cert.OutCdIdeal.τ).loc Cert.OutCdIdeal.main_arg1)
      ∧ m' ((c.tc : Thread Cert.OutCdRefIdeal.nD Cert.OutCdRefIdeal.τ).loc Cert.OutCdRefIdeal.main_arg2) = m ((c.tc : Thread Cert.OutCdIdeal.nD Cert.OutCdIdeal.τ).loc Cert.OutCdIdeal.main_arg2)) →
    ∃ (v0 : (c : Dev Cert.OutCdIdeal.nD) → Buf (Elt Ideal) ((c.tc : Thread Cert.OutCdIdeal.nD Cert.OutCdIdeal.τ).loc Cert.OutCdIdeal.main_v0)),
      θ_run (Cert.OutCdIdeal.defs (F := Ideal)) (onTc (τ := Cert.OutCdIdeal.τ) (Cert.OutCdIdeal.main (F := Ideal))) ⟨m, fun _ => 0, g⟩ (fun r => ∀ c : Dev Cert.OutCdIdeal.nD,
          r.2.mem ((c.tc : Thread Cert.OutCdIdeal.nD Cert.OutCdIdeal.τ).loc Cert.OutCdIdeal.main_v0) = v0 c
          ∧ r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
          ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
          ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2))
      ∧ θ_run (Cert.OutCdRefIdeal.defs (F := Ideal)) (onTc (τ := Cert.OutCdRefIdeal.τ) (Cert.OutCdRefIdeal.main (F := Ideal))) ⟨m', fun _ => 0, g'⟩ (fun r => ∀ c : Dev Cert.OutCdRefIdeal.nD,
          r.2.mem ((c.tc : Thread Cert.OutCdRefIdeal.nD Cert.OutCdRefIdeal.τ).loc Cert.OutCdRefIdeal.main_v3) = v0 c
          ∧ r.2.mem ((c.tc : Thread Cert.OutCdRefIdeal.nD Cert.OutCdRefIdeal.τ).loc Cert.OutCdRefIdeal.main_arg0) = m' ((c.tc : Thread Cert.OutCdRefIdeal.nD Cert.OutCdRefIdeal.τ).loc Cert.OutCdRefIdeal.main_arg0)
          ∧ r.2.mem ((c.tc : Thread Cert.OutCdRefIdeal.nD Cert.OutCdRefIdeal.τ).loc Cert.OutCdRefIdeal.main_arg1) = m' ((c.tc : Thread Cert.OutCdRefIdeal.nD Cert.OutCdRefIdeal.τ).loc Cert.OutCdRefIdeal.main_arg1)
          ∧ r.2.mem ((c.tc : Thread Cert.OutCdRefIdeal.nD Cert.OutCdRefIdeal.τ).loc Cert.OutCdRefIdeal.main_arg2) = m' ((c.tc : Thread Cert.OutCdRefIdeal.nD Cert.OutCdRefIdeal.τ).loc Cert.OutCdRefIdeal.main_arg2))

def preserves_OutCdDx_OutCdDxIdeal : Prop :=
  True

def algebraic_OutCdDxIdeal_OutCdDxRefIdeal [hOutCdDxIdeal : Cert.OutCdDxIdeal.Facts] [hOutCdDxRefIdeal : Cert.OutCdDxRefIdeal.Facts] : Prop :=
  ∀ (m : (ℓ : Loc Cert.OutCdDxIdeal.nD Cert.OutCdDxIdeal.τ Cert.OutCdDxIdeal.sig) → Buf (Elt Ideal) ℓ) (g : Dev Cert.OutCdDxIdeal.nD → PrngReg)
    (m' : (ℓ : Loc Cert.OutCdDxRefIdeal.nD Cert.OutCdDxRefIdeal.τ Cert.OutCdDxRefIdeal.sig) → Buf (Elt Ideal) ℓ) (g' : Dev Cert.OutCdDxRefIdeal.nD → PrngReg), Pre_OutCdDxIdeal m →
    (∀ c : Dev Cert.OutCdDxIdeal.nD,
      m' ((c.tc : Thread Cert.OutCdDxRefIdeal.nD Cert.OutCdDxRefIdeal.τ).loc Cert.OutCdDxRefIdeal.main_arg0) = m ((c.tc : Thread Cert.OutCdDxIdeal.nD Cert.OutCdDxIdeal.τ).loc Cert.OutCdDxIdeal.main_arg0)
      ∧ m' ((c.tc : Thread Cert.OutCdDxRefIdeal.nD Cert.OutCdDxRefIdeal.τ).loc Cert.OutCdDxRefIdeal.main_arg1) = m ((c.tc : Thread Cert.OutCdDxIdeal.nD Cert.OutCdDxIdeal.τ).loc Cert.OutCdDxIdeal.main_arg1)) →
    ∃ (v0 : (c : Dev Cert.OutCdDxIdeal.nD) → Buf (Elt Ideal) ((c.tc : Thread Cert.OutCdDxIdeal.nD Cert.OutCdDxIdeal.τ).loc Cert.OutCdDxIdeal.main_v0)),
      θ_run (Cert.OutCdDxIdeal.defs (F := Ideal)) (onTc (τ := Cert.OutCdDxIdeal.τ) (Cert.OutCdDxIdeal.main (F := Ideal))) ⟨m, fun _ => 0, g⟩ (fun r => ∀ c : Dev Cert.OutCdDxIdeal.nD,
          r.2.mem ((c.tc : Thread Cert.OutCdDxIdeal.nD Cert.OutCdDxIdeal.τ).loc Cert.OutCdDxIdeal.main_v0) = v0 c
          ∧ r.2.mem ((c.tc : Thread Cert.OutCdDxIdeal.nD Cert.OutCdDxIdeal.τ).loc Cert.OutCdDxIdeal.main_arg0) = m ((c.tc : Thread Cert.OutCdDxIdeal.nD Cert.OutCdDxIdeal.τ).loc Cert.OutCdDxIdeal.main_arg0)
          ∧ r.2.mem ((c.tc : Thread Cert.OutCdDxIdeal.nD Cert.OutCdDxIdeal.τ).loc Cert.OutCdDxIdeal.main_arg1) = m ((c.tc : Thread Cert.OutCdDxIdeal.nD Cert.OutCdDxIdeal.τ).loc Cert.OutCdDxIdeal.main_arg1))
      ∧ θ_run (Cert.OutCdDxRefIdeal.defs (F := Ideal)) (onTc (τ := Cert.OutCdDxRefIdeal.τ) (Cert.OutCdDxRefIdeal.main (F := Ideal))) ⟨m', fun _ => 0, g'⟩ (fun r => ∀ c : Dev Cert.OutCdDxRefIdeal.nD,
          r.2.mem ((c.tc : Thread Cert.OutCdDxRefIdeal.nD Cert.OutCdDxRefIdeal.τ).loc Cert.OutCdDxRefIdeal.main_v3) = v0 c
          ∧ r.2.mem ((c.tc : Thread Cert.OutCdDxRefIdeal.nD Cert.OutCdDxRefIdeal.τ).loc Cert.OutCdDxRefIdeal.main_arg0) = m' ((c.tc : Thread Cert.OutCdDxRefIdeal.nD Cert.OutCdDxRefIdeal.τ).loc Cert.OutCdDxRefIdeal.main_arg0)
          ∧ r.2.mem ((c.tc : Thread Cert.OutCdDxRefIdeal.nD Cert.OutCdDxRefIdeal.τ).loc Cert.OutCdDxRefIdeal.main_arg1) = m' ((c.tc : Thread Cert.OutCdDxRefIdeal.nD Cert.OutCdDxRefIdeal.τ).loc Cert.OutCdDxRefIdeal.main_arg1))

def preserves_OutCdDw_OutCdDwIdeal : Prop :=
  True

def algebraic_OutCdDwIdeal_OutCdDwRefIdeal [hOutCdDwIdeal : Cert.OutCdDwIdeal.Facts] [hOutCdDwRefIdeal : Cert.OutCdDwRefIdeal.Facts] : Prop :=
  ∀ (m : (ℓ : Loc Cert.OutCdDwIdeal.nD Cert.OutCdDwIdeal.τ Cert.OutCdDwIdeal.sig) → Buf (Elt Ideal) ℓ) (g : Dev Cert.OutCdDwIdeal.nD → PrngReg)
    (m' : (ℓ : Loc Cert.OutCdDwRefIdeal.nD Cert.OutCdDwRefIdeal.τ Cert.OutCdDwRefIdeal.sig) → Buf (Elt Ideal) ℓ) (g' : Dev Cert.OutCdDwRefIdeal.nD → PrngReg), Pre_OutCdDwIdeal m →
    (∀ c : Dev Cert.OutCdDwIdeal.nD,
      m' ((c.tc : Thread Cert.OutCdDwRefIdeal.nD Cert.OutCdDwRefIdeal.τ).loc Cert.OutCdDwRefIdeal.main_arg0) = m ((c.tc : Thread Cert.OutCdDwIdeal.nD Cert.OutCdDwIdeal.τ).loc Cert.OutCdDwIdeal.main_arg0)
      ∧ m' ((c.tc : Thread Cert.OutCdDwRefIdeal.nD Cert.OutCdDwRefIdeal.τ).loc Cert.OutCdDwRefIdeal.main_arg1) = m ((c.tc : Thread Cert.OutCdDwIdeal.nD Cert.OutCdDwIdeal.τ).loc Cert.OutCdDwIdeal.main_arg1)) →
    ∃ (v0 : (c : Dev Cert.OutCdDwIdeal.nD) → Buf (Elt Ideal) ((c.tc : Thread Cert.OutCdDwIdeal.nD Cert.OutCdDwIdeal.τ).loc Cert.OutCdDwIdeal.main_v0)),
      θ_run (Cert.OutCdDwIdeal.defs (F := Ideal)) (onTc (τ := Cert.OutCdDwIdeal.τ) (Cert.OutCdDwIdeal.main (F := Ideal))) ⟨m, fun _ => 0, g⟩ (fun r => ∀ c : Dev Cert.OutCdDwIdeal.nD,
          r.2.mem ((c.tc : Thread Cert.OutCdDwIdeal.nD Cert.OutCdDwIdeal.τ).loc Cert.OutCdDwIdeal.main_v0) = v0 c
          ∧ r.2.mem ((c.tc : Thread Cert.OutCdDwIdeal.nD Cert.OutCdDwIdeal.τ).loc Cert.OutCdDwIdeal.main_arg0) = m ((c.tc : Thread Cert.OutCdDwIdeal.nD Cert.OutCdDwIdeal.τ).loc Cert.OutCdDwIdeal.main_arg0)
          ∧ r.2.mem ((c.tc : Thread Cert.OutCdDwIdeal.nD Cert.OutCdDwIdeal.τ).loc Cert.OutCdDwIdeal.main_arg1) = m ((c.tc : Thread Cert.OutCdDwIdeal.nD Cert.OutCdDwIdeal.τ).loc Cert.OutCdDwIdeal.main_arg1))
      ∧ θ_run (Cert.OutCdDwRefIdeal.defs (F := Ideal)) (onTc (τ := Cert.OutCdDwRefIdeal.τ) (Cert.OutCdDwRefIdeal.main (F := Ideal))) ⟨m', fun _ => 0, g'⟩ (fun r => ∀ c : Dev Cert.OutCdDwRefIdeal.nD,
          r.2.mem ((c.tc : Thread Cert.OutCdDwRefIdeal.nD Cert.OutCdDwRefIdeal.τ).loc Cert.OutCdDwRefIdeal.main_v5) = v0 c
          ∧ r.2.mem ((c.tc : Thread Cert.OutCdDwRefIdeal.nD Cert.OutCdDwRefIdeal.τ).loc Cert.OutCdDwRefIdeal.main_arg0) = m' ((c.tc : Thread Cert.OutCdDwRefIdeal.nD Cert.OutCdDwRefIdeal.τ).loc Cert.OutCdDwRefIdeal.main_arg0)
          ∧ r.2.mem ((c.tc : Thread Cert.OutCdDwRefIdeal.nD Cert.OutCdDwRefIdeal.τ).loc Cert.OutCdDwRefIdeal.main_arg1) = m' ((c.tc : Thread Cert.OutCdDwRefIdeal.nD Cert.OutCdDwRefIdeal.τ).loc Cert.OutCdDwRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v3) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_XqDx_XqDxIdeal : Prop :=
  True

def algebraic_XqDxIdeal_XqDxRefIdeal [hXqDxIdeal : Cert.XqDxIdeal.Facts] [hXqDxRefIdeal : Cert.XqDxRefIdeal.Facts] : Prop :=
  ∀ (m : (ℓ : Loc Cert.XqDxIdeal.nD Cert.XqDxIdeal.τ Cert.XqDxIdeal.sig) → Buf (Elt Ideal) ℓ) (g : Dev Cert.XqDxIdeal.nD → PrngReg)
    (m' : (ℓ : Loc Cert.XqDxRefIdeal.nD Cert.XqDxRefIdeal.τ Cert.XqDxRefIdeal.sig) → Buf (Elt Ideal) ℓ) (g' : Dev Cert.XqDxRefIdeal.nD → PrngReg), Pre_XqDxIdeal m →
    (∀ c : Dev Cert.XqDxIdeal.nD,
      m' ((c.tc : Thread Cert.XqDxRefIdeal.nD Cert.XqDxRefIdeal.τ).loc Cert.XqDxRefIdeal.main_arg0) = m ((c.tc : Thread Cert.XqDxIdeal.nD Cert.XqDxIdeal.τ).loc Cert.XqDxIdeal.main_arg0)
      ∧ m' ((c.tc : Thread Cert.XqDxRefIdeal.nD Cert.XqDxRefIdeal.τ).loc Cert.XqDxRefIdeal.main_arg1) = m ((c.tc : Thread Cert.XqDxIdeal.nD Cert.XqDxIdeal.τ).loc Cert.XqDxIdeal.main_arg1)) →
    ∃ (v0 : (c : Dev Cert.XqDxIdeal.nD) → Buf (Elt Ideal) ((c.tc : Thread Cert.XqDxIdeal.nD Cert.XqDxIdeal.τ).loc Cert.XqDxIdeal.main_v0)),
      θ_run (Cert.XqDxIdeal.defs (F := Ideal)) (onTc (τ := Cert.XqDxIdeal.τ) (Cert.XqDxIdeal.main (F := Ideal))) ⟨m, fun _ => 0, g⟩ (fun r => ∀ c : Dev Cert.XqDxIdeal.nD,
          r.2.mem ((c.tc : Thread Cert.XqDxIdeal.nD Cert.XqDxIdeal.τ).loc Cert.XqDxIdeal.main_v0) = v0 c
          ∧ r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
          ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1))
      ∧ θ_run (Cert.XqDxRefIdeal.defs (F := Ideal)) (onTc (τ := Cert.XqDxRefIdeal.τ) (Cert.XqDxRefIdeal.main (F := Ideal))) ⟨m', fun _ => 0, g'⟩ (fun r => ∀ c : Dev Cert.XqDxRefIdeal.nD,
          r.2.mem ((c.tc : Thread Cert.XqDxRefIdeal.nD Cert.XqDxRefIdeal.τ).loc Cert.XqDxRefIdeal.main_v4) = v0 c
          ∧ r.2.mem ((c.tc : Thread Cert.XqDxRefIdeal.nD Cert.XqDxRefIdeal.τ).loc Cert.XqDxRefIdeal.main_arg0) = m' ((c.tc : Thread Cert.XqDxRefIdeal.nD Cert.XqDxRefIdeal.τ).loc Cert.XqDxRefIdeal.main_arg0)
          ∧ r.2.mem ((c.tc : Thread Cert.XqDxRefIdeal.nD Cert.XqDxRefIdeal.τ).loc Cert.XqDxRefIdeal.main_arg1) = m' ((c.tc : Thread Cert.XqDxRefIdeal.nD Cert.XqDxRefIdeal.τ).loc Cert.XqDxRefIdeal.main_arg1))

def preserves_XqDw_XqDwIdeal : Prop :=
  True

def algebraic_XqDwIdeal_XqDwRefIdeal [hXqDwIdeal : Cert.XqDwIdeal.Facts] [hXqDwRefIdeal : Cert.XqDwRefIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwRefIdeal.nD Cert.XqDwRefIdeal.τ Cert.XqDwRefIdeal.sig) → Buf (Elt Ideal) ℓ) (g' : Dev Cert.XqDwRefIdeal.nD → PrngReg), Pre_XqDwIdeal m →
    (∀ c : Dev Cert.XqDwIdeal.nD,
      m' ((c.tc : Thread Cert.XqDwRefIdeal.nD Cert.XqDwRefIdeal.τ).loc Cert.XqDwRefIdeal.main_arg0) = m ((c.tc : Thread Cert.XqDwIdeal.nD Cert.XqDwIdeal.τ).loc Cert.XqDwIdeal.main_arg0)
      ∧ m' ((c.tc : Thread Cert.XqDwRefIdeal.nD Cert.XqDwRefIdeal.τ).loc Cert.XqDwRefIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwRefIdeal.defs (F := Ideal)) (onTc (τ := Cert.XqDwRefIdeal.τ) (Cert.XqDwRefIdeal.main (F := Ideal))) ⟨m', fun _ => 0, g'⟩ (fun r => ∀ c : Dev Cert.XqDwRefIdeal.nD,
          r.2.mem ((c.tc : Thread Cert.XqDwRefIdeal.nD Cert.XqDwRefIdeal.τ).loc Cert.XqDwRefIdeal.main_v6) = v0 c
          ∧ r.2.mem ((c.tc : Thread Cert.XqDwRefIdeal.nD Cert.XqDwRefIdeal.τ).loc Cert.XqDwRefIdeal.main_arg0) = m' ((c.tc : Thread Cert.XqDwRefIdeal.nD Cert.XqDwRefIdeal.τ).loc Cert.XqDwRefIdeal.main_arg0)
          ∧ r.2.mem ((c.tc : Thread Cert.XqDwRefIdeal.nD Cert.XqDwRefIdeal.τ).loc Cert.XqDwRefIdeal.main_arg1) = m' ((c.tc : Thread Cert.XqDwRefIdeal.nD Cert.XqDwRefIdeal.τ).loc Cert.XqDwRefIdeal.main_arg1))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v3) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_XoDx_XoDxIdeal : Prop :=
  True

def algebraic_XoDxIdeal_XoDxRefIdeal [hXoDxIdeal : Cert.XoDxIdeal.Facts] [hXoDxRefIdeal : Cert.XoDxRefIdeal.Facts] : Prop :=
  ∀ (m : (ℓ : Loc Cert.XoDxIdeal.nD Cert.XoDxIdeal.τ Cert.XoDxIdeal.sig) → Buf (Elt Ideal) ℓ) (g : Dev Cert.XoDxIdeal.nD → PrngReg)
    (m' : (ℓ : Loc Cert.XoDxRefIdeal.nD Cert.XoDxRefIdeal.τ Cert.XoDxRefIdeal.sig) → Buf (Elt Ideal) ℓ) (g' : Dev Cert.XoDxRefIdeal.nD → PrngReg), Pre_XoDxIdeal m →
    (∀ c : Dev Cert.XoDxIdeal.nD,
      m' ((c.tc : Thread Cert.XoDxRefIdeal.nD Cert.XoDxRefIdeal.τ).loc Cert.XoDxRefIdeal.main_arg0) = m ((c.tc : Thread Cert.XoDxIdeal.nD Cert.XoDxIdeal.τ).loc Cert.XoDxIdeal.main_arg0)
      ∧ m' ((c.tc : Thread Cert.XoDxRefIdeal.nD Cert.XoDxRefIdeal.τ).loc Cert.XoDxRefIdeal.main_arg1) = m ((c.tc : Thread Cert.XoDxIdeal.nD Cert.XoDxIdeal.τ).loc Cert.XoDxIdeal.main_arg1)) →
    ∃ (v0 : (c : Dev Cert.XoDxIdeal.nD) → Buf (Elt Ideal) ((c.tc : Thread Cert.XoDxIdeal.nD Cert.XoDxIdeal.τ).loc Cert.XoDxIdeal.main_v0)),
      θ_run (Cert.XoDxIdeal.defs (F := Ideal)) (onTc (τ := Cert.XoDxIdeal.τ) (Cert.XoDxIdeal.main (F := Ideal))) ⟨m, fun _ => 0, g⟩ (fun r => ∀ c : Dev Cert.XoDxIdeal.nD,
          r.2.mem ((c.tc : Thread Cert.XoDxIdeal.nD Cert.XoDxIdeal.τ).loc Cert.XoDxIdeal.main_v0) = v0 c
          ∧ r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
          ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ θ_run (Cert.XoDxRefIdeal.defs (F := Ideal)) (onTc (τ := Cert.XoDxRefIdeal.τ) (Cert.XoDxRefIdeal.main (F := Ideal))) ⟨m', fun _ => 0, g'⟩ (fun r => ∀ c : Dev Cert.XoDxRefIdeal.nD,
          r.2.mem ((c.tc : Thread Cert.XoDxRefIdeal.nD Cert.XoDxRefIdeal.τ).loc Cert.XoDxRefIdeal.main_v4) = v0 c
          ∧ r.2.mem ((c.tc : Thread Cert.XoDxRefIdeal.nD Cert.XoDxRefIdeal.τ).loc Cert.XoDxRefIdeal.main_arg0) = m' ((c.tc : Thread Cert.XoDxRefIdeal.nD Cert.XoDxRefIdeal.τ).loc Cert.XoDxRefIdeal.main_arg0)
          ∧ r.2.mem ((c.tc : Thread Cert.XoDxRefIdeal.nD Cert.XoDxRefIdeal.τ).loc Cert.XoDxRefIdeal.main_arg1) = m' ((c.tc : Thread Cert.XoDxRefIdeal.nD Cert.XoDxRefIdeal.τ).loc Cert.XoDxRefIdeal.main_arg1))

def preserves_XoDw_XoDwIdeal : Prop :=
  True

def algebraic_XoDwIdeal_XoDwRefIdeal [hXoDwIdeal : Cert.XoDwIdeal.Facts] [hXoDwRefIdeal : Cert.XoDwRefIdeal.Facts] : Prop :=
  ∀ (m : (ℓ : Loc Cert.XoDwIdeal.nD Cert.XoDwIdeal.τ Cert.XoDwIdeal.sig) → Buf (Elt Ideal) ℓ) (g : Dev Cert.XoDwIdeal.nD → PrngReg)
    (m' : (ℓ : Loc Cert.XoDwRefIdeal.nD Cert.XoDwRefIdeal.τ Cert.XoDwRefIdeal.sig) → Buf (Elt Ideal) ℓ) (g' : Dev Cert.XoDwRefIdeal.nD → PrngReg), Pre_XoDwIdeal m →
    (∀ c : Dev Cert.XoDwIdeal.nD,
      m' ((c.tc : Thread Cert.XoDwRefIdeal.nD Cert.XoDwRefIdeal.τ).loc Cert.XoDwRefIdeal.main_arg0) = m ((c.tc : Thread Cert.XoDwIdeal.nD Cert.XoDwIdeal.τ).loc Cert.XoDwIdeal.main_arg0)
      ∧ m' ((c.tc : Thread Cert.XoDwRefIdeal.nD Cert.XoDwRefIdeal.τ).loc Cert.XoDwRefIdeal.main_arg1) = m ((c.tc : Thread Cert.XoDwIdeal.nD Cert.XoDwIdeal.τ).loc Cert.XoDwIdeal.main_arg1)) →
    ∃ (v0 : (c : Dev Cert.XoDwIdeal.nD) → Buf (Elt Ideal) ((c.tc : Thread Cert.XoDwIdeal.nD Cert.XoDwIdeal.τ).loc Cert.XoDwIdeal.main_v0)),
      θ_run (Cert.XoDwIdeal.defs (F := Ideal)) (onTc (τ := Cert.XoDwIdeal.τ) (Cert.XoDwIdeal.main (F := Ideal))) ⟨m, fun _ => 0, g⟩ (fun r => ∀ c : Dev Cert.XoDwIdeal.nD,
          r.2.mem ((c.tc : Thread Cert.XoDwIdeal.nD Cert.XoDwIdeal.τ).loc Cert.XoDwIdeal.main_v0) = v0 c
          ∧ r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
          ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ θ_run (Cert.XoDwRefIdeal.defs (F := Ideal)) (onTc (τ := Cert.XoDwRefIdeal.τ) (Cert.XoDwRefIdeal.main (F := Ideal))) ⟨m', fun _ => 0, g'⟩ (fun r => ∀ c : Dev Cert.XoDwRefIdeal.nD,
          r.2.mem ((c.tc : Thread Cert.XoDwRefIdeal.nD Cert.XoDwRefIdeal.τ).loc Cert.XoDwRefIdeal.main_v5) = v0 c
          ∧ r.2.mem ((c.tc : Thread Cert.XoDwRefIdeal.nD Cert.XoDwRefIdeal.τ).loc Cert.XoDwRefIdeal.main_arg0) = m' ((c.tc : Thread Cert.XoDwRefIdeal.nD Cert.XoDwRefIdeal.τ).loc Cert.XoDwRefIdeal.main_arg0)
          ∧ r.2.mem ((c.tc : Thread Cert.XoDwRefIdeal.nD Cert.XoDwRefIdeal.τ).loc Cert.XoDwRefIdeal.main_arg1) = m' ((c.tc : Thread Cert.XoDwRefIdeal.nD Cert.XoDwRefIdeal.τ).loc Cert.XoDwRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v2) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v4) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v6) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v2) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_PoolDx_PoolDxIdeal : Prop :=
  True

def algebraic_PoolDxIdeal_PoolDxRefIdeal [hPoolDxIdeal : Cert.PoolDxIdeal.Facts] [hPoolDxRefIdeal : Cert.PoolDxRefIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxRefIdeal.nD Cert.PoolDxRefIdeal.τ Cert.PoolDxRefIdeal.sig) → Buf (Elt Ideal) ℓ) (g' : Dev Cert.PoolDxRefIdeal.nD → PrngReg), Pre_PoolDxIdeal m →
    (∀ c : Dev Cert.PoolDxIdeal.nD,
      m' ((c.tc : Thread Cert.PoolDxRefIdeal.nD Cert.PoolDxRefIdeal.τ).loc Cert.PoolDxRefIdeal.main_arg0) = m ((c.tc : Thread Cert.PoolDxIdeal.nD Cert.PoolDxIdeal.τ).loc Cert.PoolDxIdeal.main_arg0)
      ∧ m' ((c.tc : Thread Cert.PoolDxRefIdeal.nD Cert.PoolDxRefIdeal.τ).loc Cert.PoolDxRefIdeal.main_arg1) = m ((c.tc : Thread Cert.PoolDxIdeal.nD Cert.PoolDxIdeal.τ).loc Cert.PoolDxIdeal.main_arg1)) →
    ∃ (v0 : (c : Dev Cert.PoolDxIdeal.nD) → Buf (Elt Ideal) ((c.tc : Thread Cert.PoolDxIdeal.nD Cert.PoolDxIdeal.τ).loc Cert.PoolDxIdeal.main_v0)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v0) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ θ_run (Cert.PoolDxRefIdeal.defs (F := Ideal)) (onTc (τ := Cert.PoolDxRefIdeal.τ) (Cert.PoolDxRefIdeal.main (F := Ideal))) ⟨m', fun _ => 0, g'⟩ (fun r => ∀ c : Dev Cert.PoolDxRefIdeal.nD,
          r.2.mem ((c.tc : Thread Cert.PoolDxRefIdeal.nD Cert.PoolDxRefIdeal.τ).loc Cert.PoolDxRefIdeal.main_v4) = v0 c
          ∧ r.2.mem ((c.tc : Thread Cert.PoolDxRefIdeal.nD Cert.PoolDxRefIdeal.τ).loc Cert.PoolDxRefIdeal.main_arg0) = m' ((c.tc : Thread Cert.PoolDxRefIdeal.nD Cert.PoolDxRefIdeal.τ).loc Cert.PoolDxRefIdeal.main_arg0)
          ∧ r.2.mem ((c.tc : Thread Cert.PoolDxRefIdeal.nD Cert.PoolDxRefIdeal.τ).loc Cert.PoolDxRefIdeal.main_arg1) = m' ((c.tc : Thread Cert.PoolDxRefIdeal.nD Cert.PoolDxRefIdeal.τ).loc Cert.PoolDxRefIdeal.main_arg1))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v6) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v5) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_XkvDx_XkvDxIdeal : Prop :=
  True

def algebraic_XkvDxIdeal_XkvDxRefIdeal [hXkvDxIdeal : Cert.XkvDxIdeal.Facts] [hXkvDxRefIdeal : Cert.XkvDxRefIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg)
    (m' : (ℓ : Loc Cert.XkvDxRefIdeal.nD Cert.XkvDxRefIdeal.τ Cert.XkvDxRefIdeal.sig) → Buf (Elt Ideal) ℓ) (g' : Dev Cert.XkvDxRefIdeal.nD → PrngReg), Pre_XkvDxIdeal m →
    (∀ c : Dev Cert.XkvDxIdeal.nD,
      m' ((c.tc : Thread Cert.XkvDxRefIdeal.nD Cert.XkvDxRefIdeal.τ).loc Cert.XkvDxRefIdeal.main_arg0) = m ((c.tc : Thread Cert.XkvDxIdeal.nD Cert.XkvDxIdeal.τ).loc Cert.XkvDxIdeal.main_arg0)
      ∧ m' ((c.tc : Thread Cert.XkvDxRefIdeal.nD Cert.XkvDxRefIdeal.τ).loc Cert.XkvDxRefIdeal.main_arg1) = m ((c.tc : Thread Cert.XkvDxIdeal.nD Cert.XkvDxIdeal.τ).loc Cert.XkvDxIdeal.main_arg1)
      ∧ m' ((c.tc : Thread Cert.XkvDxRefIdeal.nD Cert.XkvDxRefIdeal.τ).loc Cert.XkvDxRefIdeal.main_arg2) = m ((c.tc : Thread Cert.XkvDxIdeal.nD Cert.XkvDxIdeal.τ).loc Cert.XkvDxIdeal.main_arg2)) →
    ∃ (v0 : (c : Dev Cert.XkvDxIdeal.nD) → Buf (Elt Ideal) ((c.tc : Thread Cert.XkvDxIdeal.nD Cert.XkvDxIdeal.τ).loc Cert.XkvDxIdeal.main_v0)),
      θ_run (Cert.XkvDxIdeal.defs (F := Ideal)) (onTc (τ := Cert.XkvDxIdeal.τ) (Cert.XkvDxIdeal.main (F := Ideal))) ⟨m, fun _ => 0, g⟩ (fun r => ∀ c : Dev Cert.XkvDxIdeal.nD,
          r.2.mem ((c.tc : Thread Cert.XkvDxIdeal.nD Cert.XkvDxIdeal.τ).loc Cert.XkvDxIdeal.main_v0) = v0 c
          ∧ r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
          ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1)
          ∧ r.2.mem ((c.tc : Thread Cert.XkvDxIdeal.nD Cert.XkvDxIdeal.τ).loc Cert.XkvDxIdeal.main_arg2) = m ((c.tc : Thread Cert.XkvDxIdeal.nD Cert.XkvDxIdeal.τ).loc Cert.XkvDxIdeal.main_arg2))
      ∧ θ_run (Cert.XkvDxRefIdeal.defs (F := Ideal)) (onTc (τ := Cert.XkvDxRefIdeal.τ) (Cert.XkvDxRefIdeal.main (F := Ideal))) ⟨m', fun _ => 0, g'⟩ (fun r => ∀ c : Dev Cert.XkvDxRefIdeal.nD,
          r.2.mem ((c.tc : Thread Cert.XkvDxRefIdeal.nD Cert.XkvDxRefIdeal.τ).loc Cert.XkvDxRefIdeal.main_v7) = v0 c
          ∧ r.2.mem ((c.tc : Thread Cert.XkvDxRefIdeal.nD Cert.XkvDxRefIdeal.τ).loc Cert.XkvDxRefIdeal.main_arg0) = m' ((c.tc : Thread Cert.XkvDxRefIdeal.nD Cert.XkvDxRefIdeal.τ).loc Cert.XkvDxRefIdeal.main_arg0)
          ∧ r.2.mem ((c.tc : Thread Cert.XkvDxRefIdeal.nD Cert.XkvDxRefIdeal.τ).loc Cert.XkvDxRefIdeal.main_arg1) = m' ((c.tc : Thread Cert.XkvDxRefIdeal.nD Cert.XkvDxRefIdeal.τ).loc Cert.XkvDxRefIdeal.main_arg1)
          ∧ r.2.mem ((c.tc : Thread Cert.XkvDxRefIdeal.nD Cert.XkvDxRefIdeal.τ).loc Cert.XkvDxRefIdeal.main_arg2) = m' ((c.tc : Thread Cert.XkvDxRefIdeal.nD Cert.XkvDxRefIdeal.τ).loc Cert.XkvDxRefIdeal.main_arg2))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v8) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_RmsDx_RmsDxIdeal : Prop :=
  True

def algebraic_RmsDxIdeal_RmsDxRefIdeal [hRmsDxIdeal : Cert.RmsDxIdeal.Facts] [hRmsDxRefIdeal : Cert.RmsDxRefIdeal.Facts] : Prop :=
  ∀ (m : (ℓ : Loc Cert.RmsDxIdeal.nD Cert.RmsDxIdeal.τ Cert.RmsDxIdeal.sig) → Buf (Elt Ideal) ℓ) (g : Dev Cert.RmsDxIdeal.nD → PrngReg)
    (m' : (ℓ : Loc Cert.RmsDxRefIdeal.nD Cert.RmsDxRefIdeal.τ Cert.RmsDxRefIdeal.sig) → Buf (Elt Ideal) ℓ) (g' : Dev Cert.RmsDxRefIdeal.nD → PrngReg), Pre_RmsDxIdeal m →
    (∀ c : Dev Cert.RmsDxIdeal.nD,
      m' ((c.tc : Thread Cert.RmsDxRefIdeal.nD Cert.RmsDxRefIdeal.τ).loc Cert.RmsDxRefIdeal.main_arg0) = m ((c.tc : Thread Cert.RmsDxIdeal.nD Cert.RmsDxIdeal.τ).loc Cert.RmsDxIdeal.main_arg0)
      ∧ m' ((c.tc : Thread Cert.RmsDxRefIdeal.nD Cert.RmsDxRefIdeal.τ).loc Cert.RmsDxRefIdeal.main_arg1) = m ((c.tc : Thread Cert.RmsDxIdeal.nD Cert.RmsDxIdeal.τ).loc Cert.RmsDxIdeal.main_arg1)
      ∧ m' ((c.tc : Thread Cert.RmsDxRefIdeal.nD Cert.RmsDxRefIdeal.τ).loc Cert.RmsDxRefIdeal.main_arg2) = m ((c.tc : Thread Cert.RmsDxIdeal.nD Cert.RmsDxIdeal.τ).loc Cert.RmsDxIdeal.main_arg2)
      ∧ m' ((c.tc : Thread Cert.RmsDxRefIdeal.nD Cert.RmsDxRefIdeal.τ).loc Cert.RmsDxRefIdeal.main_arg3) = m ((c.tc : Thread Cert.RmsDxIdeal.nD Cert.RmsDxIdeal.τ).loc Cert.RmsDxIdeal.main_arg3)) →
    ∃ (v0 : (c : Dev Cert.RmsDxIdeal.nD) → Buf (Elt Ideal) ((c.tc : Thread Cert.RmsDxIdeal.nD Cert.RmsDxIdeal.τ).loc Cert.RmsDxIdeal.main_v0_0)) (v1 : (c : Dev Cert.RmsDxIdeal.nD) → Buf (Elt Ideal) ((c.tc : Thread Cert.RmsDxIdeal.nD Cert.RmsDxIdeal.τ).loc Cert.RmsDxIdeal.main_v0_1)),
      θ_run (Cert.RmsDxIdeal.defs (F := Ideal)) (onTc (τ := Cert.RmsDxIdeal.τ) (Cert.RmsDxIdeal.main (F := Ideal))) ⟨m, fun _ => 0, g⟩ (fun r => ∀ c : Dev Cert.RmsDxIdeal.nD,
          r.2.mem ((c.tc : Thread Cert.RmsDxIdeal.nD Cert.RmsDxIdeal.τ).loc Cert.RmsDxIdeal.main_v0_0) = v0 c
          ∧ r.2.mem ((c.tc : Thread Cert.RmsDxIdeal.nD Cert.RmsDxIdeal.τ).loc Cert.RmsDxIdeal.main_v0_1) = v1 c
          ∧ r.2.mem ((c.tc : Thread Cert.RmsDxIdeal.nD Cert.RmsDxIdeal.τ).loc Cert.RmsDxIdeal.main_arg0) = m ((c.tc : Thread Cert.RmsDxIdeal.nD Cert.RmsDxIdeal.τ).loc Cert.RmsDxIdeal.main_arg0)
          ∧ r.2.mem ((c.tc : Thread Cert.RmsDxIdeal.nD Cert.RmsDxIdeal.τ).loc Cert.RmsDxIdeal.main_arg1) = m ((c.tc : Thread Cert.RmsDxIdeal.nD Cert.RmsDxIdeal.τ).loc Cert.RmsDxIdeal.main_arg1)
          ∧ r.2.mem ((c.tc : Thread Cert.RmsDxIdeal.nD Cert.RmsDxIdeal.τ).loc Cert.RmsDxIdeal.main_arg2) = m ((c.tc : Thread Cert.RmsDxIdeal.nD Cert.RmsDxIdeal.τ).loc Cert.RmsDxIdeal.main_arg2)
          ∧ r.2.mem ((c.tc : Thread Cert.RmsDxIdeal.nD Cert.RmsDxIdeal.τ).loc Cert.RmsDxIdeal.main_arg3) = m ((c.tc : Thread Cert.RmsDxIdeal.nD Cert.RmsDxIdeal.τ).loc Cert.RmsDxIdeal.main_arg3))
      ∧ θ_run (Cert.RmsDxRefIdeal.defs (F := Ideal)) (onTc (τ := Cert.RmsDxRefIdeal.τ) (Cert.RmsDxRefIdeal.main (F := Ideal))) ⟨m', fun _ => 0, g'⟩ (fun r => ∀ c : Dev Cert.RmsDxRefIdeal.nD,
          r.2.mem ((c.tc : Thread Cert.RmsDxRefIdeal.nD Cert.RmsDxRefIdeal.τ).loc Cert.RmsDxRefIdeal.main_v34) = v0 c
          ∧ r.2.mem ((c.tc : Thread Cert.RmsDxRefIdeal.nD Cert.RmsDxRefIdeal.τ).loc Cert.RmsDxRefIdeal.main_v17) = v1 c
          ∧ r.2.mem ((c.tc : Thread Cert.RmsDxRefIdeal.nD Cert.RmsDxRefIdeal.τ).loc Cert.RmsDxRefIdeal.main_arg0) = m' ((c.tc : Thread Cert.RmsDxRefIdeal.nD Cert.RmsDxRefIdeal.τ).loc Cert.RmsDxRefIdeal.main_arg0)
          ∧ r.2.mem ((c.tc : Thread Cert.RmsDxRefIdeal.nD Cert.RmsDxRefIdeal.τ).loc Cert.RmsDxRefIdeal.main_arg1) = m' ((c.tc : Thread Cert.RmsDxRefIdeal.nD Cert.RmsDxRefIdeal.τ).loc Cert.RmsDxRefIdeal.main_arg1)
          ∧ r.2.mem ((c.tc : Thread Cert.RmsDxRefIdeal.nD Cert.RmsDxRefIdeal.τ).loc Cert.RmsDxRefIdeal.main_arg2) = m' ((c.tc : Thread Cert.RmsDxRefIdeal.nD Cert.RmsDxRefIdeal.τ).loc Cert.RmsDxRefIdeal.main_arg2)
          ∧ r.2.mem ((c.tc : Thread Cert.RmsDxRefIdeal.nD Cert.RmsDxRefIdeal.τ).loc Cert.RmsDxRefIdeal.main_arg3) = m' ((c.tc : Thread Cert.RmsDxRefIdeal.nD Cert.RmsDxRefIdeal.τ).loc Cert.RmsDxRefIdeal.main_arg3))

def preserves_MemNormDg_MemNormDgIdeal : Prop :=
  True

def algebraic_MemNormDgIdeal_MemNormDgRefIdeal [hMemNormDgIdeal : Cert.MemNormDgIdeal.Facts] [hMemNormDgRefIdeal : Cert.MemNormDgRefIdeal.Facts] : Prop :=
  ∀ (m : (ℓ : Loc Cert.MemNormDgIdeal.nD Cert.MemNormDgIdeal.τ Cert.MemNormDgIdeal.sig) → Buf (Elt Ideal) ℓ) (g : Dev Cert.MemNormDgIdeal.nD → PrngReg)
    (m' : (ℓ : Loc Cert.MemNormDgRefIdeal.nD Cert.MemNormDgRefIdeal.τ Cert.MemNormDgRefIdeal.sig) → Buf (Elt Ideal) ℓ) (g' : Dev Cert.MemNormDgRefIdeal.nD → PrngReg), Pre_MemNormDgIdeal m →
    (∀ c : Dev Cert.MemNormDgIdeal.nD,
      m' ((c.tc : Thread Cert.MemNormDgRefIdeal.nD Cert.MemNormDgRefIdeal.τ).loc Cert.MemNormDgRefIdeal.main_arg0) = m ((c.tc : Thread Cert.MemNormDgIdeal.nD Cert.MemNormDgIdeal.τ).loc Cert.MemNormDgIdeal.main_arg0)
      ∧ m' ((c.tc : Thread Cert.MemNormDgRefIdeal.nD Cert.MemNormDgRefIdeal.τ).loc Cert.MemNormDgRefIdeal.main_arg1) = m ((c.tc : Thread Cert.MemNormDgIdeal.nD Cert.MemNormDgIdeal.τ).loc Cert.MemNormDgIdeal.main_arg1)
      ∧ m' ((c.tc : Thread Cert.MemNormDgRefIdeal.nD Cert.MemNormDgRefIdeal.τ).loc Cert.MemNormDgRefIdeal.main_arg2) = m ((c.tc : Thread Cert.MemNormDgIdeal.nD Cert.MemNormDgIdeal.τ).loc Cert.MemNormDgIdeal.main_arg2)) →
    ∃ (v0 : (c : Dev Cert.MemNormDgIdeal.nD) → Buf (Elt Ideal) ((c.tc : Thread Cert.MemNormDgIdeal.nD Cert.MemNormDgIdeal.τ).loc Cert.MemNormDgIdeal.main_v0)),
      θ_run (Cert.MemNormDgIdeal.defs (F := Ideal)) (onTc (τ := Cert.MemNormDgIdeal.τ) (Cert.MemNormDgIdeal.main (F := Ideal))) ⟨m, fun _ => 0, g⟩ (fun r => ∀ c : Dev Cert.MemNormDgIdeal.nD,
          r.2.mem ((c.tc : Thread Cert.MemNormDgIdeal.nD Cert.MemNormDgIdeal.τ).loc Cert.MemNormDgIdeal.main_v0) = v0 c
          ∧ r.2.mem ((c.tc : Thread Cert.MemNormDgIdeal.nD Cert.MemNormDgIdeal.τ).loc Cert.MemNormDgIdeal.main_arg0) = m ((c.tc : Thread Cert.MemNormDgIdeal.nD Cert.MemNormDgIdeal.τ).loc Cert.MemNormDgIdeal.main_arg0)
          ∧ r.2.mem ((c.tc : Thread Cert.MemNormDgIdeal.nD Cert.MemNormDgIdeal.τ).loc Cert.MemNormDgIdeal.main_arg1) = m ((c.tc : Thread Cert.MemNormDgIdeal.nD Cert.MemNormDgIdeal.τ).loc Cert.MemNormDgIdeal.main_arg1)
          ∧ r.2.mem ((c.tc : Thread Cert.MemNormDgIdeal.nD Cert.MemNormDgIdeal.τ).loc Cert.MemNormDgIdeal.main_arg2) = m ((c.tc : Thread Cert.MemNormDgIdeal.nD Cert.MemNormDgIdeal.τ).loc Cert.MemNormDgIdeal.main_arg2))
      ∧ θ_run (Cert.MemNormDgRefIdeal.defs (F := Ideal)) (onTc (τ := Cert.MemNormDgRefIdeal.τ) (Cert.MemNormDgRefIdeal.main (F := Ideal))) ⟨m', fun _ => 0, g'⟩ (fun r => ∀ c : Dev Cert.MemNormDgRefIdeal.nD,
          r.2.mem ((c.tc : Thread Cert.MemNormDgRefIdeal.nD Cert.MemNormDgRefIdeal.τ).loc Cert.MemNormDgRefIdeal.main_v14) = v0 c
          ∧ r.2.mem ((c.tc : Thread Cert.MemNormDgRefIdeal.nD Cert.MemNormDgRefIdeal.τ).loc Cert.MemNormDgRefIdeal.main_arg0) = m' ((c.tc : Thread Cert.MemNormDgRefIdeal.nD Cert.MemNormDgRefIdeal.τ).loc Cert.MemNormDgRefIdeal.main_arg0)
          ∧ r.2.mem ((c.tc : Thread Cert.MemNormDgRefIdeal.nD Cert.MemNormDgRefIdeal.τ).loc Cert.MemNormDgRefIdeal.main_arg1) = m' ((c.tc : Thread Cert.MemNormDgRefIdeal.nD Cert.MemNormDgRefIdeal.τ).loc Cert.MemNormDgRefIdeal.main_arg1)
          ∧ r.2.mem ((c.tc : Thread Cert.MemNormDgRefIdeal.nD Cert.MemNormDgRefIdeal.τ).loc Cert.MemNormDgRefIdeal.main_arg2) = m' ((c.tc : Thread Cert.MemNormDgRefIdeal.nD Cert.MemNormDgRefIdeal.τ).loc Cert.MemNormDgRefIdeal.main_arg2))

def preserves_GateAb_GateAbIdeal : Prop :=
  True

def algebraic_GateAbIdeal_GateAbRefIdeal [hGateAbIdeal : Cert.GateAbIdeal.Facts] [hGateAbRefIdeal : Cert.GateAbRefIdeal.Facts] : Prop :=
  ∀ (m : (ℓ : Loc Cert.GateAbIdeal.nD Cert.GateAbIdeal.τ Cert.GateAbIdeal.sig) → Buf (Elt Ideal) ℓ) (g : Dev Cert.GateAbIdeal.nD → PrngReg)
    (m' : (ℓ : Loc Cert.GateAbRefIdeal.nD Cert.GateAbRefIdeal.τ Cert.GateAbRefIdeal.sig) → Buf (Elt Ideal) ℓ) (g' : Dev Cert.GateAbRefIdeal.nD → PrngReg), Pre_GateAbIdeal m →
    (∀ c : Dev Cert.GateAbIdeal.nD,
      m' ((c.tc : Thread Cert.GateAbRefIdeal.nD Cert.GateAbRefIdeal.τ).loc Cert.GateAbRefIdeal.main_arg0) = m ((c.tc : Thread Cert.GateAbIdeal.nD Cert.GateAbIdeal.τ).loc Cert.GateAbIdeal.main_arg0)
      ∧ m' ((c.tc : Thread Cert.GateAbRefIdeal.nD Cert.GateAbRefIdeal.τ).loc Cert.GateAbRefIdeal.main_arg1) = m ((c.tc : Thread Cert.GateAbIdeal.nD Cert.GateAbIdeal.τ).loc Cert.GateAbIdeal.main_arg1)
      ∧ m' ((c.tc : Thread Cert.GateAbRefIdeal.nD Cert.GateAbRefIdeal.τ).loc Cert.GateAbRefIdeal.main_arg2) = m ((c.tc : Thread Cert.GateAbIdeal.nD Cert.GateAbIdeal.τ).loc Cert.GateAbIdeal.main_arg2)
      ∧ m' ((c.tc : Thread Cert.GateAbRefIdeal.nD Cert.GateAbRefIdeal.τ).loc Cert.GateAbRefIdeal.main_arg3) = m ((c.tc : Thread Cert.GateAbIdeal.nD Cert.GateAbIdeal.τ).loc Cert.GateAbIdeal.main_arg3)
      ∧ m' ((c.tc : Thread Cert.GateAbRefIdeal.nD Cert.GateAbRefIdeal.τ).loc Cert.GateAbRefIdeal.main_arg4) = m ((c.tc : Thread Cert.GateAbIdeal.nD Cert.GateAbIdeal.τ).loc Cert.GateAbIdeal.main_arg4)) →
    ∃ (v0 : (c : Dev Cert.GateAbIdeal.nD) → Buf (Elt Ideal) ((c.tc : Thread Cert.GateAbIdeal.nD Cert.GateAbIdeal.τ).loc Cert.GateAbIdeal.main_v0_0)) (v1 : (c : Dev Cert.GateAbIdeal.nD) → Buf (Elt Ideal) ((c.tc : Thread Cert.GateAbIdeal.nD Cert.GateAbIdeal.τ).loc Cert.GateAbIdeal.main_v0_1)) (v2 : (c : Dev Cert.GateAbIdeal.nD) → Buf (Elt Ideal) ((c.tc : Thread Cert.GateAbIdeal.nD Cert.GateAbIdeal.τ).loc Cert.GateAbIdeal.main_v0_2)) (v3 : (c : Dev Cert.GateAbIdeal.nD) → Buf (Elt Ideal) ((c.tc : Thread Cert.GateAbIdeal.nD Cert.GateAbIdeal.τ).loc Cert.GateAbIdeal.main_v0_3)) (v4 : (c : Dev Cert.GateAbIdeal.nD) → Buf (Elt Ideal) ((c.tc : Thread Cert.GateAbIdeal.nD Cert.GateAbIdeal.τ).loc Cert.GateAbIdeal.main_v0_4)),
      θ_run (Cert.GateAbIdeal.defs (F := Ideal)) (onTc (τ := Cert.GateAbIdeal.τ) (Cert.GateAbIdeal.main (F := Ideal))) ⟨m, fun _ => 0, g⟩ (fun r => ∀ c : Dev Cert.GateAbIdeal.nD,
          r.2.mem ((c.tc : Thread Cert.GateAbIdeal.nD Cert.GateAbIdeal.τ).loc Cert.GateAbIdeal.main_v0_0) = v0 c
          ∧ r.2.mem ((c.tc : Thread Cert.GateAbIdeal.nD Cert.GateAbIdeal.τ).loc Cert.GateAbIdeal.main_v0_1) = v1 c
          ∧ r.2.mem ((c.tc : Thread Cert.GateAbIdeal.nD Cert.GateAbIdeal.τ).loc Cert.GateAbIdeal.main_v0_2) = v2 c
          ∧ r.2.mem ((c.tc : Thread Cert.GateAbIdeal.nD Cert.GateAbIdeal.τ).loc Cert.GateAbIdeal.main_v0_3) = v3 c
          ∧ r.2.mem ((c.tc : Thread Cert.GateAbIdeal.nD Cert.GateAbIdeal.τ).loc Cert.GateAbIdeal.main_v0_4) = v4 c
          ∧ r.2.mem ((c.tc : Thread Cert.GateAbIdeal.nD Cert.GateAbIdeal.τ).loc Cert.GateAbIdeal.main_arg0) = m ((c.tc : Thread Cert.GateAbIdeal.nD Cert.GateAbIdeal.τ).loc Cert.GateAbIdeal.main_arg0)
          ∧ r.2.mem ((c.tc : Thread Cert.GateAbIdeal.nD Cert.GateAbIdeal.τ).loc Cert.GateAbIdeal.main_arg1) = m ((c.tc : Thread Cert.GateAbIdeal.nD Cert.GateAbIdeal.τ).loc Cert.GateAbIdeal.main_arg1)
          ∧ r.2.mem ((c.tc : Thread Cert.GateAbIdeal.nD Cert.GateAbIdeal.τ).loc Cert.GateAbIdeal.main_arg2) = m ((c.tc : Thread Cert.GateAbIdeal.nD Cert.GateAbIdeal.τ).loc Cert.GateAbIdeal.main_arg2)
          ∧ r.2.mem ((c.tc : Thread Cert.GateAbIdeal.nD Cert.GateAbIdeal.τ).loc Cert.GateAbIdeal.main_arg3) = m ((c.tc : Thread Cert.GateAbIdeal.nD Cert.GateAbIdeal.τ).loc Cert.GateAbIdeal.main_arg3)
          ∧ r.2.mem ((c.tc : Thread Cert.GateAbIdeal.nD Cert.GateAbIdeal.τ).loc Cert.GateAbIdeal.main_arg4) = m ((c.tc : Thread Cert.GateAbIdeal.nD Cert.GateAbIdeal.τ).loc Cert.GateAbIdeal.main_arg4))
      ∧ θ_run (Cert.GateAbRefIdeal.defs (F := Ideal)) (onTc (τ := Cert.GateAbRefIdeal.τ) (Cert.GateAbRefIdeal.main (F := Ideal))) ⟨m', fun _ => 0, g'⟩ (fun r => ∀ c : Dev Cert.GateAbRefIdeal.nD,
          r.2.mem ((c.tc : Thread Cert.GateAbRefIdeal.nD Cert.GateAbRefIdeal.τ).loc Cert.GateAbRefIdeal.main_v21) = v0 c
          ∧ r.2.mem ((c.tc : Thread Cert.GateAbRefIdeal.nD Cert.GateAbRefIdeal.τ).loc Cert.GateAbRefIdeal.main_v23) = v1 c
          ∧ r.2.mem ((c.tc : Thread Cert.GateAbRefIdeal.nD Cert.GateAbRefIdeal.τ).loc Cert.GateAbRefIdeal.main_v24) = v2 c
          ∧ r.2.mem ((c.tc : Thread Cert.GateAbRefIdeal.nD Cert.GateAbRefIdeal.τ).loc Cert.GateAbRefIdeal.main_v25) = v3 c
          ∧ r.2.mem ((c.tc : Thread Cert.GateAbRefIdeal.nD Cert.GateAbRefIdeal.τ).loc Cert.GateAbRefIdeal.main_v17) = v4 c
          ∧ r.2.mem ((c.tc : Thread Cert.GateAbRefIdeal.nD Cert.GateAbRefIdeal.τ).loc Cert.GateAbRefIdeal.main_arg0) = m' ((c.tc : Thread Cert.GateAbRefIdeal.nD Cert.GateAbRefIdeal.τ).loc Cert.GateAbRefIdeal.main_arg0)
          ∧ r.2.mem ((c.tc : Thread Cert.GateAbRefIdeal.nD Cert.GateAbRefIdeal.τ).loc Cert.GateAbRefIdeal.main_arg1) = m' ((c.tc : Thread Cert.GateAbRefIdeal.nD Cert.GateAbRefIdeal.τ).loc Cert.GateAbRefIdeal.main_arg1)
          ∧ r.2.mem ((c.tc : Thread Cert.GateAbRefIdeal.nD Cert.GateAbRefIdeal.τ).loc Cert.GateAbRefIdeal.main_arg2) = m' ((c.tc : Thread Cert.GateAbRefIdeal.nD Cert.GateAbRefIdeal.τ).loc Cert.GateAbRefIdeal.main_arg2)
          ∧ r.2.mem ((c.tc : Thread Cert.GateAbRefIdeal.nD Cert.GateAbRefIdeal.τ).loc Cert.GateAbRefIdeal.main_arg3) = m' ((c.tc : Thread Cert.GateAbRefIdeal.nD Cert.GateAbRefIdeal.τ).loc Cert.GateAbRefIdeal.main_arg3)
          ∧ r.2.mem ((c.tc : Thread Cert.GateAbRefIdeal.nD Cert.GateAbRefIdeal.τ).loc Cert.GateAbRefIdeal.main_arg4) = m' ((c.tc : Thread Cert.GateAbRefIdeal.nD Cert.GateAbRefIdeal.τ).loc Cert.GateAbRefIdeal.main_arg4))

def preserves_GluGate_GluGateIdeal : Prop :=
  True

def algebraic_GluGateIdeal_GluGateRefIdeal [hGluGateIdeal : Cert.GluGateIdeal.Facts] [hGluGateRefIdeal : Cert.GluGateRefIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateRefIdeal.nD Cert.GluGateRefIdeal.τ Cert.GluGateRefIdeal.sig) → Buf (Elt Ideal) ℓ) (g' : Dev Cert.GluGateRefIdeal.nD → PrngReg), Pre_GluGateIdeal m →
    (∀ c : Dev Cert.GluGateIdeal.nD,
      m' ((c.tc : Thread Cert.GluGateRefIdeal.nD Cert.GluGateRefIdeal.τ).loc Cert.GluGateRefIdeal.main_arg0) = m ((c.tc : Thread Cert.GluGateIdeal.nD Cert.GluGateIdeal.τ).loc Cert.GluGateIdeal.main_arg0)
      ∧ m' ((c.tc : Thread Cert.GluGateRefIdeal.nD Cert.GluGateRefIdeal.τ).loc Cert.GluGateRefIdeal.main_arg1) = m ((c.tc : Thread Cert.GluGateIdeal.nD Cert.GluGateIdeal.τ).loc Cert.GluGateIdeal.main_arg1)
      ∧ m' ((c.tc : Thread Cert.GluGateRefIdeal.nD Cert.GluGateRefIdeal.τ).loc Cert.GluGateRefIdeal.main_arg2) = m ((c.tc : Thread Cert.GluGateIdeal.nD Cert.GluGateIdeal.τ).loc Cert.GluGateIdeal.main_arg2)) →
    ∃ (v0 : (c : Dev Cert.GluGateIdeal.nD) → Buf (Elt Ideal) ((c.tc : Thread Cert.GluGateIdeal.nD Cert.GluGateIdeal.τ).loc Cert.GluGateIdeal.main_v0_0)) (v1 : (c : Dev Cert.GluGateIdeal.nD) → Buf (Elt Ideal) ((c.tc : Thread Cert.GluGateIdeal.nD Cert.GluGateIdeal.τ).loc Cert.GluGateIdeal.main_v0_1)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v0_0) = v0 c
          ∧ r.2.mem ((c.tc : Thread Cert.GluGateIdeal.nD Cert.GluGateIdeal.τ).loc Cert.GluGateIdeal.main_v0_1) = v1 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
          ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2))
      ∧ θ_run (Cert.GluGateRefIdeal.defs (F := Ideal)) (onTc (τ := Cert.GluGateRefIdeal.τ) (Cert.GluGateRefIdeal.main (F := Ideal))) ⟨m', fun _ => 0, g'⟩ (fun r => ∀ c : Dev Cert.GluGateRefIdeal.nD,
          r.2.mem ((c.tc : Thread Cert.GluGateRefIdeal.nD Cert.GluGateRefIdeal.τ).loc Cert.GluGateRefIdeal.main_v24) = v0 c
          ∧ r.2.mem ((c.tc : Thread Cert.GluGateRefIdeal.nD Cert.GluGateRefIdeal.τ).loc Cert.GluGateRefIdeal.main_v25) = v1 c
          ∧ r.2.mem ((c.tc : Thread Cert.GluGateRefIdeal.nD Cert.GluGateRefIdeal.τ).loc Cert.GluGateRefIdeal.main_arg0) = m' ((c.tc : Thread Cert.GluGateRefIdeal.nD Cert.GluGateRefIdeal.τ).loc Cert.GluGateRefIdeal.main_arg0)
          ∧ r.2.mem ((c.tc : Thread Cert.GluGateRefIdeal.nD Cert.GluGateRefIdeal.τ).loc Cert.GluGateRefIdeal.main_arg1) = m' ((c.tc : Thread Cert.GluGateRefIdeal.nD Cert.GluGateRefIdeal.τ).loc Cert.GluGateRefIdeal.main_arg1)
          ∧ r.2.mem ((c.tc : Thread Cert.GluGateRefIdeal.nD Cert.GluGateRefIdeal.τ).loc Cert.GluGateRefIdeal.main_arg2) = m' ((c.tc : Thread Cert.GluGateRefIdeal.nD Cert.GluGateRefIdeal.τ).loc Cert.GluGateRefIdeal.main_arg2))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)
      ∧ m' ((c.tc : Thread Cert.GeluRefIdeal.nD Cert.GeluRefIdeal.τ).loc Cert.GeluRefIdeal.main_arg3) = m ((c.tc : Thread Cert.GeluIdeal.nD Cert.GeluIdeal.τ).loc Cert.GeluIdeal.main_arg3)) →
    ∃ (v0 : (c : Dev Cert.GeluIdeal.nD) → Buf (Elt Ideal) ((c.tc : Thread Cert.GeluIdeal.nD Cert.GeluIdeal.τ).loc Cert.GeluIdeal.main_v0_0)) (v1 : (c : Dev Cert.GeluIdeal.nD) → Buf (Elt Ideal) ((c.tc : Thread Cert.GeluIdeal.nD Cert.GeluIdeal.τ).loc Cert.GeluIdeal.main_v0_1)) (v2 : (c : Dev Cert.GeluIdeal.nD) → Buf (Elt Ideal) ((c.tc : Thread Cert.GeluIdeal.nD Cert.GeluIdeal.τ).loc Cert.GeluIdeal.main_v0_2)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v0_0) = v0 c
          ∧ r.2.mem ((c.tc : Thread Cert.GeluIdeal.nD Cert.GeluIdeal.τ).loc Cert.GeluIdeal.main_v0_1) = v1 c
          ∧ r.2.mem ((c.tc : Thread Cert.GeluIdeal.nD Cert.GeluIdeal.τ).loc Cert.GeluIdeal.main_v0_2) = v2 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
          ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v43) = v0 c
          ∧ r.2.mem ((c.tc : Thread Cert.GeluRefIdeal.nD Cert.GeluRefIdeal.τ).loc Cert.GeluRefIdeal.main_v39) = v1 c
          ∧ r.2.mem ((c.tc : Thread Cert.GeluRefIdeal.nD Cert.GeluRefIdeal.τ).loc Cert.GeluRefIdeal.main_v42) = v2 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2)
          ∧ r.2.mem ((c.tc : Thread Cert.GeluRefIdeal.nD Cert.GeluRefIdeal.τ).loc Cert.GeluRefIdeal.main_arg3) = m' ((c.tc : Thread Cert.GeluRefIdeal.nD Cert.GeluRefIdeal.τ).loc Cert.GeluRefIdeal.main_arg3))

def preserves_Bbar_BbarIdeal : Prop :=
  True

def algebraic_BbarIdeal_BbarRefIdeal [hBbarIdeal : Cert.BbarIdeal.Facts] [hBbarRefIdeal : Cert.BbarRefIdeal.Facts] : Prop :=
  ∀ (m : (ℓ : Loc Cert.BbarIdeal.nD Cert.BbarIdeal.τ Cert.BbarIdeal.sig) → Buf (Elt Ideal) ℓ) (g : Dev Cert.BbarIdeal.nD → PrngReg)
    (m' : (ℓ : Loc Cert.BbarRefIdeal.nD Cert.BbarRefIdeal.τ Cert.BbarRefIdeal.sig) → Buf (Elt Ideal) ℓ) (g' : Dev Cert.BbarRefIdeal.nD → PrngReg), Pre_BbarIdeal m →
    (∀ c : Dev Cert.BbarIdeal.nD,
      m' ((c.tc : Thread Cert.BbarRefIdeal.nD Cert.BbarRefIdeal.τ).loc Cert.BbarRefIdeal.main_arg0) = m ((c.tc : Thread Cert.BbarIdeal.nD Cert.BbarIdeal.τ).loc Cert.BbarIdeal.main_arg0)
      ∧ m' ((c.tc : Thread Cert.BbarRefIdeal.nD Cert.BbarRefIdeal.τ).loc Cert.BbarRefIdeal.main_arg1) = m ((c.tc : Thread Cert.BbarIdeal.nD Cert.BbarIdeal.τ).loc Cert.BbarIdeal.main_arg1)
      ∧ m' ((c.tc : Thread Cert.BbarRefIdeal.nD Cert.BbarRefIdeal.τ).loc Cert.BbarRefIdeal.main_arg2) = m ((c.tc : Thread Cert.BbarIdeal.nD Cert.BbarIdeal.τ).loc Cert.BbarIdeal.main_arg2)
      ∧ m' ((c.tc : Thread Cert.BbarRefIdeal.nD Cert.BbarRefIdeal.τ).loc Cert.BbarRefIdeal.main_arg3) = m ((c.tc : Thread Cert.BbarIdeal.nD Cert.BbarIdeal.τ).loc Cert.BbarIdeal.main_arg3)
      ∧ m' ((c.tc : Thread Cert.BbarRefIdeal.nD Cert.BbarRefIdeal.τ).loc Cert.BbarRefIdeal.main_arg4) = m ((c.tc : Thread Cert.BbarIdeal.nD Cert.BbarIdeal.τ).loc Cert.BbarIdeal.main_arg4)
      ∧ m' ((c.tc : Thread Cert.BbarRefIdeal.nD Cert.BbarRefIdeal.τ).loc Cert.BbarRefIdeal.main_arg5) = m ((c.tc : Thread Cert.BbarIdeal.nD Cert.BbarIdeal.τ).loc Cert.BbarIdeal.main_arg5)) →
    ∃ (v0 : (c : Dev Cert.BbarIdeal.nD) → Buf (Elt Ideal) ((c.tc : Thread Cert.BbarIdeal.nD Cert.BbarIdeal.τ).loc Cert.BbarIdeal.main_v0_0)) (v1 : (c : Dev Cert.BbarIdeal.nD) → Buf (Elt Ideal) ((c.tc : Thread Cert.BbarIdeal.nD Cert.BbarIdeal.τ).loc Cert.BbarIdeal.main_v0_1)) (v2 : (c : Dev Cert.BbarIdeal.nD) → Buf (Elt Ideal) ((c.tc : Thread Cert.BbarIdeal.nD Cert.BbarIdeal.τ).loc Cert.BbarIdeal.main_v0_2)) (v3 : (c : Dev Cert.BbarIdeal.nD) → Buf (Elt Ideal) ((c.tc : Thread Cert.BbarIdeal.nD Cert.BbarIdeal.τ).loc Cert.BbarIdeal.main_v0_3)),
      θ_run (Cert.BbarIdeal.defs (F := Ideal)) (onTc (τ := Cert.BbarIdeal.τ) (Cert.BbarIdeal.main (F := Ideal))) ⟨m, fun _ => 0, g⟩ (fun r => ∀ c : Dev Cert.BbarIdeal.nD,
          r.2.mem ((c.tc : Thread Cert.BbarIdeal.nD Cert.BbarIdeal.τ).loc Cert.BbarIdeal.main_v0_0) = v0 c
          ∧ r.2.mem ((c.tc : Thread Cert.BbarIdeal.nD Cert.BbarIdeal.τ).loc Cert.BbarIdeal.main_v0_1) = v1 c
          ∧ r.2.mem ((c.tc : Thread Cert.BbarIdeal.nD Cert.BbarIdeal.τ).loc Cert.BbarIdeal.main_v0_2) = v2 c
          ∧ r.2.mem ((c.tc : Thread Cert.BbarIdeal.nD Cert.BbarIdeal.τ).loc Cert.BbarIdeal.main_v0_3) = v3 c
          ∧ r.2.mem ((c.tc : Thread Cert.BbarIdeal.nD Cert.BbarIdeal.τ).loc Cert.BbarIdeal.main_arg0) = m ((c.tc : Thread Cert.BbarIdeal.nD Cert.BbarIdeal.τ).loc Cert.BbarIdeal.main_arg0)
          ∧ r.2.mem ((c.tc : Thread Cert.BbarIdeal.nD Cert.BbarIdeal.τ).loc Cert.BbarIdeal.main_arg1) = m ((c.tc : Thread Cert.BbarIdeal.nD Cert.BbarIdeal.τ).loc Cert.BbarIdeal.main_arg1)
          ∧ r.2.mem ((c.tc : Thread Cert.BbarIdeal.nD Cert.BbarIdeal.τ).loc Cert.BbarIdeal.main_arg2) = m ((c.tc : Thread Cert.BbarIdeal.nD Cert.BbarIdeal.τ).loc Cert.BbarIdeal.main_arg2)
          ∧ r.2.mem ((c.tc : Thread Cert.BbarIdeal.nD Cert.BbarIdeal.τ).loc Cert.BbarIdeal.main_arg3) = m ((c.tc : Thread Cert.BbarIdeal.nD Cert.BbarIdeal.τ).loc Cert.BbarIdeal.main_arg3)
          ∧ r.2.mem ((c.tc : Thread Cert.BbarIdeal.nD Cert.BbarIdeal.τ).loc Cert.BbarIdeal.main_arg4) = m ((c.tc : Thread Cert.BbarIdeal.nD Cert.BbarIdeal.τ).loc Cert.BbarIdeal.main_arg4)
          ∧ r.2.mem ((c.tc : Thread Cert.BbarIdeal.nD Cert.BbarIdeal.τ).loc Cert.BbarIdeal.main_arg5) = m ((c.tc : Thread Cert.BbarIdeal.nD Cert.BbarIdeal.τ).loc Cert.BbarIdeal.main_arg5))
      ∧ θ_run (Cert.BbarRefIdeal.defs (F := Ideal)) (onTc (τ := Cert.BbarRefIdeal.τ) (Cert.BbarRefIdeal.main (F := Ideal))) ⟨m', fun _ => 0, g'⟩ (fun r => ∀ c : Dev Cert.BbarRefIdeal.nD,
          r.2.mem ((c.tc : Thread Cert.BbarRefIdeal.nD Cert.BbarRefIdeal.τ).loc Cert.BbarRefIdeal.main_v33) = v0 c
          ∧ r.2.mem ((c.tc : Thread Cert.BbarRefIdeal.nD Cert.BbarRefIdeal.τ).loc Cert.BbarRefIdeal.main_v26) = v1 c
          ∧ r.2.mem ((c.tc : Thread Cert.BbarRefIdeal.nD Cert.BbarRefIdeal.τ).loc Cert.BbarRefIdeal.main_v37) = v2 c
          ∧ r.2.mem ((c.tc : Thread Cert.BbarRefIdeal.nD Cert.BbarRefIdeal.τ).loc Cert.BbarRefIdeal.main_v30) = v3 c
          ∧ r.2.mem ((c.tc : Thread Cert.BbarRefIdeal.nD Cert.BbarRefIdeal.τ).loc Cert.BbarRefIdeal.main_arg0) = m' ((c.tc : Thread Cert.BbarRefIdeal.nD Cert.BbarRefIdeal.τ).loc Cert.BbarRefIdeal.main_arg0)
          ∧ r.2.mem ((c.tc : Thread Cert.BbarRefIdeal.nD Cert.BbarRefIdeal.τ).loc Cert.BbarRefIdeal.main_arg1) = m' ((c.tc : Thread Cert.BbarRefIdeal.nD Cert.BbarRefIdeal.τ).loc Cert.BbarRefIdeal.main_arg1)
          ∧ r.2.mem ((c.tc : Thread Cert.BbarRefIdeal.nD Cert.BbarRefIdeal.τ).loc Cert.BbarRefIdeal.main_arg2) = m' ((c.tc : Thread Cert.BbarRefIdeal.nD Cert.BbarRefIdeal.τ).loc Cert.BbarRefIdeal.main_arg2)
          ∧ r.2.mem ((c.tc : Thread Cert.BbarRefIdeal.nD Cert.BbarRefIdeal.τ).loc Cert.BbarRefIdeal.main_arg3) = m' ((c.tc : Thread Cert.BbarRefIdeal.nD Cert.BbarRefIdeal.τ).loc Cert.BbarRefIdeal.main_arg3)
          ∧ r.2.mem ((c.tc : Thread Cert.BbarRefIdeal.nD Cert.BbarRefIdeal.τ).loc Cert.BbarRefIdeal.main_arg4) = m' ((c.tc : Thread Cert.BbarRefIdeal.nD Cert.BbarRefIdeal.τ).loc Cert.BbarRefIdeal.main_arg4)
          ∧ r.2.mem ((c.tc : Thread Cert.BbarRefIdeal.nD Cert.BbarRefIdeal.τ).loc Cert.BbarRefIdeal.main_arg5) = m' ((c.tc : Thread Cert.BbarRefIdeal.nD Cert.BbarRefIdeal.τ).loc Cert.BbarRefIdeal.main_arg5))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v88) = v0 c
          ∧ r.2.mem ((c.tc : Thread Cert.PrepRefIdeal.nD Cert.PrepRefIdeal.τ).loc Cert.PrepRefIdeal.main_v80) = v1 c
          ∧ r.2.mem ((c.tc : Thread Cert.PrepRefIdeal.nD Cert.PrepRefIdeal.τ).loc Cert.PrepRefIdeal.main_v93) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def preserves_UDx_UDxIdeal : Prop :=
  True

def algebraic_UDxIdeal_UDxRefIdeal [hUDxIdeal : Cert.UDxIdeal.Facts] [hUDxRefIdeal : Cert.UDxRefIdeal.Facts] : Prop :=
  ∀ (m : (ℓ : Loc Cert.UDxIdeal.nD Cert.UDxIdeal.τ Cert.UDxIdeal.sig) → Buf (Elt Ideal) ℓ) (g : Dev Cert.UDxIdeal.nD → PrngReg)
    (m' : (ℓ : Loc Cert.UDxRefIdeal.nD Cert.UDxRefIdeal.τ Cert.UDxRefIdeal.sig) → Buf (Elt Ideal) ℓ) (g' : Dev Cert.UDxRefIdeal.nD → PrngReg), Pre_UDxIdeal m →
    (∀ c : Dev Cert.UDxIdeal.nD,
      m' ((c.tc : Thread Cert.UDxRefIdeal.nD Cert.UDxRefIdeal.τ).loc Cert.UDxRefIdeal.main_arg0) = m ((c.tc : Thread Cert.UDxIdeal.nD Cert.UDxIdeal.τ).loc Cert.UDxIdeal.main_arg0)
      ∧ m' ((c.tc : Thread Cert.UDxRefIdeal.nD Cert.UDxRefIdeal.τ).loc Cert.UDxRefIdeal.main_arg1) = m ((c.tc : Thread Cert.UDxIdeal.nD Cert.UDxIdeal.τ).loc Cert.UDxIdeal.main_arg1)) →
    ∃ (v0 : (c : Dev Cert.UDxIdeal.nD) → Buf (Elt Ideal) ((c.tc : Thread Cert.UDxIdeal.nD Cert.UDxIdeal.τ).loc Cert.UDxIdeal.main_v0)),
      θ_run (Cert.UDxIdeal.defs (F := Ideal)) (onTc (τ := Cert.UDxIdeal.τ) (Cert.UDxIdeal.main (F := Ideal))) ⟨m, fun _ => 0, g⟩ (fun r => ∀ c : Dev Cert.UDxIdeal.nD,
          r.2.mem ((c.tc : Thread Cert.UDxIdeal.nD Cert.UDxIdeal.τ).loc Cert.UDxIdeal.main_v0) = v0 c
          ∧ r.2.mem ((c.tc : Thread Cert.UDxIdeal.nD Cert.UDxIdeal.τ).loc Cert.UDxIdeal.main_arg0) = m ((c.tc : Thread Cert.UDxIdeal.nD Cert.UDxIdeal.τ).loc Cert.UDxIdeal.main_arg0)
          ∧ r.2.mem ((c.tc : Thread Cert.UDxIdeal.nD Cert.UDxIdeal.τ).loc Cert.UDxIdeal.main_arg1) = m ((c.tc : Thread Cert.UDxIdeal.nD Cert.UDxIdeal.τ).loc Cert.UDxIdeal.main_arg1))
      ∧ θ_run (Cert.UDxRefIdeal.defs (F := Ideal)) (onTc (τ := Cert.UDxRefIdeal.τ) (Cert.UDxRefIdeal.main (F := Ideal))) ⟨m', fun _ => 0, g'⟩ (fun r => ∀ c : Dev Cert.UDxRefIdeal.nD,
          r.2.mem ((c.tc : Thread Cert.UDxRefIdeal.nD Cert.UDxRefIdeal.τ).loc Cert.UDxRefIdeal.main_v11) = v0 c
          ∧ r.2.mem ((c.tc : Thread Cert.UDxRefIdeal.nD Cert.UDxRefIdeal.τ).loc Cert.UDxRefIdeal.main_arg0) = m' ((c.tc : Thread Cert.UDxRefIdeal.nD Cert.UDxRefIdeal.τ).loc Cert.UDxRefIdeal.main_arg0)
          ∧ r.2.mem ((c.tc : Thread Cert.UDxRefIdeal.nD Cert.UDxRefIdeal.τ).loc Cert.UDxRefIdeal.main_arg1) = m' ((c.tc : Thread Cert.UDxRefIdeal.nD Cert.UDxRefIdeal.τ).loc Cert.UDxRefIdeal.main_arg1))

def preserves_UDw_UDwIdeal : Prop :=
  True

def algebraic_UDwIdeal_UDwRefIdeal [hUDwIdeal : Cert.UDwIdeal.Facts] [hUDwRefIdeal : Cert.UDwRefIdeal.Facts] : Prop :=
  ∀ (m : (ℓ : Loc Cert.UDwIdeal.nD Cert.UDwIdeal.τ Cert.UDwIdeal.sig) → Buf (Elt Ideal) ℓ) (g : Dev Cert.UDwIdeal.nD → PrngReg)
    (m' : (ℓ : Loc Cert.UDwRefIdeal.nD Cert.UDwRefIdeal.τ Cert.UDwRefIdeal.sig) → Buf (Elt Ideal) ℓ) (g' : Dev Cert.UDwRefIdeal.nD → PrngReg), Pre_UDwIdeal m →
    (∀ c : Dev Cert.UDwIdeal.nD,
      m' ((c.tc : Thread Cert.UDwRefIdeal.nD Cert.UDwRefIdeal.τ).loc Cert.UDwRefIdeal.main_arg0) = m ((c.tc : Thread Cert.UDwIdeal.nD Cert.UDwIdeal.τ).loc Cert.UDwIdeal.main_arg0)
      ∧ m' ((c.tc : Thread Cert.UDwRefIdeal.nD Cert.UDwRefIdeal.τ).loc Cert.UDwRefIdeal.main_arg1) = m ((c.tc : Thread Cert.UDwIdeal.nD Cert.UDwIdeal.τ).loc Cert.UDwIdeal.main_arg1)) →
    ∃ (v0 : (c : Dev Cert.UDwIdeal.nD) → Buf (Elt Ideal) ((c.tc : Thread Cert.UDwIdeal.nD Cert.UDwIdeal.τ).loc Cert.UDwIdeal.main_v0)),
      θ_run (Cert.UDwIdeal.defs (F := Ideal)) (onTc (τ := Cert.UDwIdeal.τ) (Cert.UDwIdeal.main (F := Ideal))) ⟨m, fun _ => 0, g⟩ (fun r => ∀ c : Dev Cert.UDwIdeal.nD,
          r.2.mem ((c.tc : Thread Cert.UDwIdeal.nD Cert.UDwIdeal.τ).loc Cert.UDwIdeal.main_v0) = v0 c
          ∧ r.2.mem ((c.tc : Thread Cert.UDwIdeal.nD Cert.UDwIdeal.τ).loc Cert.UDwIdeal.main_arg0) = m ((c.tc : Thread Cert.UDwIdeal.nD Cert.UDwIdeal.τ).loc Cert.UDwIdeal.main_arg0)
          ∧ r.2.mem ((c.tc : Thread Cert.UDwIdeal.nD Cert.UDwIdeal.τ).loc Cert.UDwIdeal.main_arg1) = m ((c.tc : Thread Cert.UDwIdeal.nD Cert.UDwIdeal.τ).loc Cert.UDwIdeal.main_arg1))
      ∧ θ_run (Cert.UDwRefIdeal.defs (F := Ideal)) (onTc (τ := Cert.UDwRefIdeal.τ) (Cert.UDwRefIdeal.main (F := Ideal))) ⟨m', fun _ => 0, g'⟩ (fun r => ∀ c : Dev Cert.UDwRefIdeal.nD,
          r.2.mem ((c.tc : Thread Cert.UDwRefIdeal.nD Cert.UDwRefIdeal.τ).loc Cert.UDwRefIdeal.main_v12) = v0 c
          ∧ r.2.mem ((c.tc : Thread Cert.UDwRefIdeal.nD Cert.UDwRefIdeal.τ).loc Cert.UDwRefIdeal.main_arg0) = m' ((c.tc : Thread Cert.UDwRefIdeal.nD Cert.UDwRefIdeal.τ).loc Cert.UDwRefIdeal.main_arg0)
          ∧ r.2.mem ((c.tc : Thread Cert.UDwRefIdeal.nD Cert.UDwRefIdeal.τ).loc Cert.UDwRefIdeal.main_arg1) = m' ((c.tc : Thread Cert.UDwRefIdeal.nD Cert.UDwRefIdeal.τ).loc Cert.UDwRefIdeal.main_arg1))

def preserves_YDx_YDxIdeal : Prop :=
  True

def algebraic_YDxIdeal_YDxRefIdeal [hYDxIdeal : Cert.YDxIdeal.Facts] [hYDxRefIdeal : Cert.YDxRefIdeal.Facts] : Prop :=
  ∀ (m : (ℓ : Loc Cert.YDxIdeal.nD Cert.YDxIdeal.τ Cert.YDxIdeal.sig) → Buf (Elt Ideal) ℓ) (g : Dev Cert.YDxIdeal.nD → PrngReg)
    (m' : (ℓ : Loc Cert.YDxRefIdeal.nD Cert.YDxRefIdeal.τ Cert.YDxRefIdeal.sig) → Buf (Elt Ideal) ℓ) (g' : Dev Cert.YDxRefIdeal.nD → PrngReg), Pre_YDxIdeal m →
    (∀ c : Dev Cert.YDxIdeal.nD,
      m' ((c.tc : Thread Cert.YDxRefIdeal.nD Cert.YDxRefIdeal.τ).loc Cert.YDxRefIdeal.main_arg0) = m ((c.tc : Thread Cert.YDxIdeal.nD Cert.YDxIdeal.τ).loc Cert.YDxIdeal.main_arg0)
      ∧ m' ((c.tc : Thread Cert.YDxRefIdeal.nD Cert.YDxRefIdeal.τ).loc Cert.YDxRefIdeal.main_arg1) = m ((c.tc : Thread Cert.YDxIdeal.nD Cert.YDxIdeal.τ).loc Cert.YDxIdeal.main_arg1)) →
    ∃ (v0 : (c : Dev Cert.YDxIdeal.nD) → Buf (Elt Ideal) ((c.tc : Thread Cert.YDxIdeal.nD Cert.YDxIdeal.τ).loc Cert.YDxIdeal.main_v0)),
      θ_run (Cert.YDxIdeal.defs (F := Ideal)) (onTc (τ := Cert.YDxIdeal.τ) (Cert.YDxIdeal.main (F := Ideal))) ⟨m, fun _ => 0, g⟩ (fun r => ∀ c : Dev Cert.YDxIdeal.nD,
          r.2.mem ((c.tc : Thread Cert.YDxIdeal.nD Cert.YDxIdeal.τ).loc Cert.YDxIdeal.main_v0) = v0 c
          ∧ r.2.mem ((c.tc : Thread Cert.YDxIdeal.nD Cert.YDxIdeal.τ).loc Cert.YDxIdeal.main_arg0) = m ((c.tc : Thread Cert.YDxIdeal.nD Cert.YDxIdeal.τ).loc Cert.YDxIdeal.main_arg0)
          ∧ r.2.mem ((c.tc : Thread Cert.YDxIdeal.nD Cert.YDxIdeal.τ).loc Cert.YDxIdeal.main_arg1) = m ((c.tc : Thread Cert.YDxIdeal.nD Cert.YDxIdeal.τ).loc Cert.YDxIdeal.main_arg1))
      ∧ θ_run (Cert.YDxRefIdeal.defs (F := Ideal)) (onTc (τ := Cert.YDxRefIdeal.τ) (Cert.YDxRefIdeal.main (F := Ideal))) ⟨m', fun _ => 0, g'⟩ (fun r => ∀ c : Dev Cert.YDxRefIdeal.nD,
          r.2.mem ((c.tc : Thread Cert.YDxRefIdeal.nD Cert.YDxRefIdeal.τ).loc Cert.YDxRefIdeal.main_v12) = v0 c
          ∧ r.2.mem ((c.tc : Thread Cert.YDxRefIdeal.nD Cert.YDxRefIdeal.τ).loc Cert.YDxRefIdeal.main_arg0) = m' ((c.tc : Thread Cert.YDxRefIdeal.nD Cert.YDxRefIdeal.τ).loc Cert.YDxRefIdeal.main_arg0)
          ∧ r.2.mem ((c.tc : Thread Cert.YDxRefIdeal.nD Cert.YDxRefIdeal.τ).loc Cert.YDxRefIdeal.main_arg1) = m' ((c.tc : Thread Cert.YDxRefIdeal.nD Cert.YDxRefIdeal.τ).loc Cert.YDxRefIdeal.main_arg1))

def preserves_YDw_YDwIdeal : Prop :=
  True

def algebraic_YDwIdeal_YDwRefIdeal [hYDwIdeal : Cert.YDwIdeal.Facts] [hYDwRefIdeal : Cert.YDwRefIdeal.Facts] : Prop :=
  ∀ (m : (ℓ : Loc Cert.YDwIdeal.nD Cert.YDwIdeal.τ Cert.YDwIdeal.sig) → Buf (Elt Ideal) ℓ) (g : Dev Cert.YDwIdeal.nD → PrngReg)
    (m' : (ℓ : Loc Cert.YDwRefIdeal.nD Cert.YDwRefIdeal.τ Cert.YDwRefIdeal.sig) → Buf (Elt Ideal) ℓ) (g' : Dev Cert.YDwRefIdeal.nD → PrngReg), Pre_YDwIdeal m →
    (∀ c : Dev Cert.YDwIdeal.nD,
      m' ((c.tc : Thread Cert.YDwRefIdeal.nD Cert.YDwRefIdeal.τ).loc Cert.YDwRefIdeal.main_arg0) = m ((c.tc : Thread Cert.YDwIdeal.nD Cert.YDwIdeal.τ).loc Cert.YDwIdeal.main_arg0)
      ∧ m' ((c.tc : Thread Cert.YDwRefIdeal.nD Cert.YDwRefIdeal.τ).loc Cert.YDwRefIdeal.main_arg1) = m ((c.tc : Thread Cert.YDwIdeal.nD Cert.YDwIdeal.τ).loc Cert.YDwIdeal.main_arg1)) →
    ∃ (v0 : (c : Dev Cert.YDwIdeal.nD) → Buf (Elt Ideal) ((c.tc : Thread Cert.YDwIdeal.nD Cert.YDwIdeal.τ).loc Cert.YDwIdeal.main_v0)),
      θ_run (Cert.YDwIdeal.defs (F := Ideal)) (onTc (τ := Cert.YDwIdeal.τ) (Cert.YDwIdeal.main (F := Ideal))) ⟨m, fun _ => 0, g⟩ (fun r => ∀ c : Dev Cert.YDwIdeal.nD,
          r.2.mem ((c.tc : Thread Cert.YDwIdeal.nD Cert.YDwIdeal.τ).loc Cert.YDwIdeal.main_v0) = v0 c
          ∧ r.2.mem ((c.tc : Thread Cert.YDwIdeal.nD Cert.YDwIdeal.τ).loc Cert.YDwIdeal.main_arg0) = m ((c.tc : Thread Cert.YDwIdeal.nD Cert.YDwIdeal.τ).loc Cert.YDwIdeal.main_arg0)
          ∧ r.2.mem ((c.tc : Thread Cert.YDwIdeal.nD Cert.YDwIdeal.τ).loc Cert.YDwIdeal.main_arg1) = m ((c.tc : Thread Cert.YDwIdeal.nD Cert.YDwIdeal.τ).loc Cert.YDwIdeal.main_arg1))
      ∧ θ_run (Cert.YDwRefIdeal.defs (F := Ideal)) (onTc (τ := Cert.YDwRefIdeal.τ) (Cert.YDwRefIdeal.main (F := Ideal))) ⟨m', fun _ => 0, g'⟩ (fun r => ∀ c : Dev Cert.YDwRefIdeal.nD,
          r.2.mem ((c.tc : Thread Cert.YDwRefIdeal.nD Cert.YDwRefIdeal.τ).loc Cert.YDwRefIdeal.main_v11) = v0 c
          ∧ r.2.mem ((c.tc : Thread Cert.YDwRefIdeal.nD Cert.YDwRefIdeal.τ).loc Cert.YDwRefIdeal.main_arg0) = m' ((c.tc : Thread Cert.YDwRefIdeal.nD Cert.YDwRefIdeal.τ).loc Cert.YDwRefIdeal.main_arg0)
          ∧ r.2.mem ((c.tc : Thread Cert.YDwRefIdeal.nD Cert.YDwRefIdeal.τ).loc Cert.YDwRefIdeal.main_arg1) = m' ((c.tc : Thread Cert.YDwRefIdeal.nD Cert.YDwRefIdeal.τ).loc Cert.YDwRefIdeal.main_arg1))

def preserves_U_UIdeal : Prop :=
  True

def algebraic_UIdeal_URefIdeal [hUIdeal : Cert.UIdeal.Facts] [hURefIdeal : Cert.URefIdeal.Facts] : Prop :=
  ∀ (m : (ℓ : Loc Cert.UIdeal.nD Cert.UIdeal.τ Cert.UIdeal.sig) → Buf (Elt Ideal) ℓ) (g : Dev Cert.UIdeal.nD → PrngReg)
    (m' : (ℓ : Loc Cert.URefIdeal.nD Cert.URefIdeal.τ Cert.URefIdeal.sig) → Buf (Elt Ideal) ℓ) (g' : Dev Cert.URefIdeal.nD → PrngReg), Pre_UIdeal m →
    (∀ c : Dev Cert.UIdeal.nD,
      m' ((c.tc : Thread Cert.URefIdeal.nD Cert.URefIdeal.τ).loc Cert.URefIdeal.main_arg0) = m ((c.tc : Thread Cert.UIdeal.nD Cert.UIdeal.τ).loc Cert.UIdeal.main_arg0)
      ∧ m' ((c.tc : Thread Cert.URefIdeal.nD Cert.URefIdeal.τ).loc Cert.URefIdeal.main_arg1) = m ((c.tc : Thread Cert.UIdeal.nD Cert.UIdeal.τ).loc Cert.UIdeal.main_arg1)) →
    ∃ (v0 : (c : Dev Cert.UIdeal.nD) → Buf (Elt Ideal) ((c.tc : Thread Cert.UIdeal.nD Cert.UIdeal.τ).loc Cert.UIdeal.main_v0)),
      θ_run (Cert.UIdeal.defs (F := Ideal)) (onTc (τ := Cert.UIdeal.τ) (Cert.UIdeal.main (F := Ideal))) ⟨m, fun _ => 0, g⟩ (fun r => ∀ c : Dev Cert.UIdeal.nD,
          r.2.mem ((c.tc : Thread Cert.UIdeal.nD Cert.UIdeal.τ).loc Cert.UIdeal.main_v0) = v0 c
          ∧ r.2.mem ((c.tc : Thread Cert.UIdeal.nD Cert.UIdeal.τ).loc Cert.UIdeal.main_arg0) = m ((c.tc : Thread Cert.UIdeal.nD Cert.UIdeal.τ).loc Cert.UIdeal.main_arg0)
          ∧ r.2.mem ((c.tc : Thread Cert.UIdeal.nD Cert.UIdeal.τ).loc Cert.UIdeal.main_arg1) = m ((c.tc : Thread Cert.UIdeal.nD Cert.UIdeal.τ).loc Cert.UIdeal.main_arg1))
      ∧ θ_run (Cert.URefIdeal.defs (F := Ideal)) (onTc (τ := Cert.URefIdeal.τ) (Cert.URefIdeal.main (F := Ideal))) ⟨m', fun _ => 0, g'⟩ (fun r => ∀ c : Dev Cert.URefIdeal.nD,
          r.2.mem ((c.tc : Thread Cert.URefIdeal.nD Cert.URefIdeal.τ).loc Cert.URefIdeal.main_v7) = v0 c
          ∧ r.2.mem ((c.tc : Thread Cert.URefIdeal.nD Cert.URefIdeal.τ).loc Cert.URefIdeal.main_arg0) = m' ((c.tc : Thread Cert.URefIdeal.nD Cert.URefIdeal.τ).loc Cert.URefIdeal.main_arg0)
          ∧ r.2.mem ((c.tc : Thread Cert.URefIdeal.nD Cert.URefIdeal.τ).loc Cert.URefIdeal.main_arg1) = m' ((c.tc : Thread Cert.URefIdeal.nD Cert.URefIdeal.τ).loc Cert.URefIdeal.main_arg1))

def preserves_Y_YIdeal : Prop :=
  True

def algebraic_YIdeal_YRefIdeal [hYIdeal : Cert.YIdeal.Facts] [hYRefIdeal : Cert.YRefIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.YRefIdeal.nD Cert.YRefIdeal.τ Cert.YRefIdeal.sig) → Buf (Elt Ideal) ℓ) (g' : Dev Cert.YRefIdeal.nD → PrngReg), Pre_YIdeal m →
    (∀ c : Dev Cert.YIdeal.nD,
      m' ((c.tc : Thread Cert.YRefIdeal.nD Cert.YRefIdeal.τ).loc Cert.YRefIdeal.main_arg0) = m ((c.tc : Thread Cert.YIdeal.nD Cert.YIdeal.τ).loc Cert.YIdeal.main_arg0)
      ∧ m' ((c.tc : Thread Cert.YRefIdeal.nD Cert.YRefIdeal.τ).loc Cert.YRefIdeal.main_arg1) = m ((c.tc : Thread Cert.YIdeal.nD Cert.YIdeal.τ).loc Cert.YIdeal.main_arg1)) →
    ∃ (v0 : (c : Dev Cert.YIdeal.nD) → Buf (Elt Ideal) ((c.tc : Thread Cert.YIdeal.nD Cert.YIdeal.τ).loc Cert.YIdeal.main_v0)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v0) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1))
      ∧ θ_run (Cert.YRefIdeal.defs (F := Ideal)) (onTc (τ := Cert.YRefIdeal.τ) (Cert.YRefIdeal.main (F := Ideal))) ⟨m', fun _ => 0, g'⟩ (fun r => ∀ c : Dev Cert.YRefIdeal.nD,
          r.2.mem ((c.tc : Thread Cert.YRefIdeal.nD Cert.YRefIdeal.τ).loc Cert.YRefIdeal.main_v5) = v0 c
          ∧ r.2.mem ((c.tc : Thread Cert.YRefIdeal.nD Cert.YRefIdeal.τ).loc Cert.YRefIdeal.main_arg0) = m' ((c.tc : Thread Cert.YRefIdeal.nD Cert.YRefIdeal.τ).loc Cert.YRefIdeal.main_arg0)
          ∧ r.2.mem ((c.tc : Thread Cert.YRefIdeal.nD Cert.YRefIdeal.τ).loc Cert.YRefIdeal.main_arg1) = m' ((c.tc : Thread Cert.YRefIdeal.nD Cert.YRefIdeal.τ).loc Cert.YRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v12) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_GateAbFwd_GateAbFwdIdeal : Prop :=
  True

def algebraic_GateAbFwdIdeal_GateAbFwdRefIdeal [hGateAbFwdIdeal : Cert.GateAbFwdIdeal.Facts] [hGateAbFwdRefIdeal : Cert.GateAbFwdRefIdeal.Facts] : Prop :=
  ∀ (m : (ℓ : Loc Cert.GateAbFwdIdeal.nD Cert.GateAbFwdIdeal.τ Cert.GateAbFwdIdeal.sig) → Buf (Elt Ideal) ℓ) (g : Dev Cert.GateAbFwdIdeal.nD → PrngReg)
    (m' : (ℓ : Loc Cert.GateAbFwdRefIdeal.nD Cert.GateAbFwdRefIdeal.τ Cert.GateAbFwdRefIdeal.sig) → Buf (Elt Ideal) ℓ) (g' : Dev Cert.GateAbFwdRefIdeal.nD → PrngReg), Pre_GateAbFwdIdeal m →
    (∀ c : Dev Cert.GateAbFwdIdeal.nD,
      m' ((c.tc : Thread Cert.GateAbFwdRefIdeal.nD Cert.GateAbFwdRefIdeal.τ).loc Cert.GateAbFwdRefIdeal.main_arg0) = m ((c.tc : Thread Cert.GateAbFwdIdeal.nD Cert.GateAbFwdIdeal.τ).loc Cert.GateAbFwdIdeal.main_arg0)
      ∧ m' ((c.tc : Thread Cert.GateAbFwdRefIdeal.nD Cert.GateAbFwdRefIdeal.τ).loc Cert.GateAbFwdRefIdeal.main_arg1) = m ((c.tc : Thread Cert.GateAbFwdIdeal.nD Cert.GateAbFwdIdeal.τ).loc Cert.GateAbFwdIdeal.main_arg1)
      ∧ m' ((c.tc : Thread Cert.GateAbFwdRefIdeal.nD Cert.GateAbFwdRefIdeal.τ).loc Cert.GateAbFwdRefIdeal.main_arg2) = m ((c.tc : Thread Cert.GateAbFwdIdeal.nD Cert.GateAbFwdIdeal.τ).loc Cert.GateAbFwdIdeal.main_arg2)
      ∧ m' ((c.tc : Thread Cert.GateAbFwdRefIdeal.nD Cert.GateAbFwdRefIdeal.τ).loc Cert.GateAbFwdRefIdeal.main_arg3) = m ((c.tc : Thread Cert.GateAbFwdIdeal.nD Cert.GateAbFwdIdeal.τ).loc Cert.GateAbFwdIdeal.main_arg3)) →
    ∃ (v0 : (c : Dev Cert.GateAbFwdIdeal.nD) → Buf (Elt Ideal) ((c.tc : Thread Cert.GateAbFwdIdeal.nD Cert.GateAbFwdIdeal.τ).loc Cert.GateAbFwdIdeal.main_v0)),
      θ_run (Cert.GateAbFwdIdeal.defs (F := Ideal)) (onTc (τ := Cert.GateAbFwdIdeal.τ) (Cert.GateAbFwdIdeal.main (F := Ideal))) ⟨m, fun _ => 0, g⟩ (fun r => ∀ c : Dev Cert.GateAbFwdIdeal.nD,
          r.2.mem ((c.tc : Thread Cert.GateAbFwdIdeal.nD Cert.GateAbFwdIdeal.τ).loc Cert.GateAbFwdIdeal.main_v0) = v0 c
          ∧ r.2.mem ((c.tc : Thread Cert.GateAbFwdIdeal.nD Cert.GateAbFwdIdeal.τ).loc Cert.GateAbFwdIdeal.main_arg0) = m ((c.tc : Thread Cert.GateAbFwdIdeal.nD Cert.GateAbFwdIdeal.τ).loc Cert.GateAbFwdIdeal.main_arg0)
          ∧ r.2.mem ((c.tc : Thread Cert.GateAbFwdIdeal.nD Cert.GateAbFwdIdeal.τ).loc Cert.GateAbFwdIdeal.main_arg1) = m ((c.tc : Thread Cert.GateAbFwdIdeal.nD Cert.GateAbFwdIdeal.τ).loc Cert.GateAbFwdIdeal.main_arg1)
          ∧ r.2.mem ((c.tc : Thread Cert.GateAbFwdIdeal.nD Cert.GateAbFwdIdeal.τ).loc Cert.GateAbFwdIdeal.main_arg2) = m ((c.tc : Thread Cert.GateAbFwdIdeal.nD Cert.GateAbFwdIdeal.τ).loc Cert.GateAbFwdIdeal.main_arg2)
          ∧ r.2.mem ((c.tc : Thread Cert.GateAbFwdIdeal.nD Cert.GateAbFwdIdeal.τ).loc Cert.GateAbFwdIdeal.main_arg3) = m ((c.tc : Thread Cert.GateAbFwdIdeal.nD Cert.GateAbFwdIdeal.τ).loc Cert.GateAbFwdIdeal.main_arg3))
      ∧ θ_run (Cert.GateAbFwdRefIdeal.defs (F := Ideal)) (onTc (τ := Cert.GateAbFwdRefIdeal.τ) (Cert.GateAbFwdRefIdeal.main (F := Ideal))) ⟨m', fun _ => 0, g'⟩ (fun r => ∀ c : Dev Cert.GateAbFwdRefIdeal.nD,
          r.2.mem ((c.tc : Thread Cert.GateAbFwdRefIdeal.nD Cert.GateAbFwdRefIdeal.τ).loc Cert.GateAbFwdRefIdeal.main_v10) = v0 c
          ∧ r.2.mem ((c.tc : Thread Cert.GateAbFwdRefIdeal.nD Cert.GateAbFwdRefIdeal.τ).loc Cert.GateAbFwdRefIdeal.main_arg0) = m' ((c.tc : Thread Cert.GateAbFwdRefIdeal.nD Cert.GateAbFwdRefIdeal.τ).loc Cert.GateAbFwdRefIdeal.main_arg0)
          ∧ r.2.mem ((c.tc : Thread Cert.GateAbFwdRefIdeal.nD Cert.GateAbFwdRefIdeal.τ).loc Cert.GateAbFwdRefIdeal.main_arg1) = m' ((c.tc : Thread Cert.GateAbFwdRefIdeal.nD Cert.GateAbFwdRefIdeal.τ).loc Cert.GateAbFwdRefIdeal.main_arg1)
          ∧ r.2.mem ((c.tc : Thread Cert.GateAbFwdRefIdeal.nD Cert.GateAbFwdRefIdeal.τ).loc Cert.GateAbFwdRefIdeal.main_arg2) = m' ((c.tc : Thread Cert.GateAbFwdRefIdeal.nD Cert.GateAbFwdRefIdeal.τ).loc Cert.GateAbFwdRefIdeal.main_arg2)
          ∧ r.2.mem ((c.tc : Thread Cert.GateAbFwdRefIdeal.nD Cert.GateAbFwdRefIdeal.τ).loc Cert.GateAbFwdRefIdeal.main_arg3) = m' ((c.tc : Thread Cert.GateAbFwdRefIdeal.nD Cert.GateAbFwdRefIdeal.τ).loc Cert.GateAbFwdRefIdeal.main_arg3))

def preserves_GluGateFwd_GluGateFwdIdeal : Prop :=
  True

def algebraic_GluGateFwdIdeal_GluGateFwdRefIdeal [hGluGateFwdIdeal : Cert.GluGateFwdIdeal.Facts] [hGluGateFwdRefIdeal : Cert.GluGateFwdRefIdeal.Facts] : Prop :=
  ∀ (m : (ℓ : Loc Cert.GluGateFwdIdeal.nD Cert.GluGateFwdIdeal.τ Cert.GluGateFwdIdeal.sig) → Buf (Elt Ideal) ℓ) (g : Dev Cert.GluGateFwdIdeal.nD → PrngReg)
    (m' : (ℓ : Loc Cert.GluGateFwdRefIdeal.nD Cert.GluGateFwdRefIdeal.τ Cert.GluGateFwdRefIdeal.sig) → Buf (Elt Ideal) ℓ) (g' : Dev Cert.GluGateFwdRefIdeal.nD → PrngReg), Pre_GluGateFwdIdeal m →
    (∀ c : Dev Cert.GluGateFwdIdeal.nD,
      m' ((c.tc : Thread Cert.GluGateFwdRefIdeal.nD Cert.GluGateFwdRefIdeal.τ).loc Cert.GluGateFwdRefIdeal.main_arg0) = m ((c.tc : Thread Cert.GluGateFwdIdeal.nD Cert.GluGateFwdIdeal.τ).loc Cert.GluGateFwdIdeal.main_arg0)
      ∧ m' ((c.tc : Thread Cert.GluGateFwdRefIdeal.nD Cert.GluGateFwdRefIdeal.τ).loc Cert.GluGateFwdRefIdeal.main_arg1) = m ((c.tc : Thread Cert.GluGateFwdIdeal.nD Cert.GluGateFwdIdeal.τ).loc Cert.GluGateFwdIdeal.main_arg1)) →
    ∃ (v0 : (c : Dev Cert.GluGateFwdIdeal.nD) → Buf (Elt Ideal) ((c.tc : Thread Cert.GluGateFwdIdeal.nD Cert.GluGateFwdIdeal.τ).loc Cert.GluGateFwdIdeal.main_v0)),
      θ_run (Cert.GluGateFwdIdeal.defs (F := Ideal)) (onTc (τ := Cert.GluGateFwdIdeal.τ) (Cert.GluGateFwdIdeal.main (F := Ideal))) ⟨m, fun _ => 0, g⟩ (fun r => ∀ c : Dev Cert.GluGateFwdIdeal.nD,
          r.2.mem ((c.tc : Thread Cert.GluGateFwdIdeal.nD Cert.GluGateFwdIdeal.τ).loc Cert.GluGateFwdIdeal.main_v0) = v0 c
          ∧ r.2.mem ((c.tc : Thread Cert.GluGateFwdIdeal.nD Cert.GluGateFwdIdeal.τ).loc Cert.GluGateFwdIdeal.main_arg0) = m ((c.tc : Thread Cert.GluGateFwdIdeal.nD Cert.GluGateFwdIdeal.τ).loc Cert.GluGateFwdIdeal.main_arg0)
          ∧ r.2.mem ((c.tc : Thread Cert.GluGateFwdIdeal.nD Cert.GluGateFwdIdeal.τ).loc Cert.GluGateFwdIdeal.main_arg1) = m ((c.tc : Thread Cert.GluGateFwdIdeal.nD Cert.GluGateFwdIdeal.τ).loc Cert.GluGateFwdIdeal.main_arg1))
      ∧ θ_run (Cert.GluGateFwdRefIdeal.defs (F := Ideal)) (onTc (τ := Cert.GluGateFwdRefIdeal.τ) (Cert.GluGateFwdRefIdeal.main (F := Ideal))) ⟨m', fun _ => 0, g'⟩ (fun r => ∀ c : Dev Cert.GluGateFwdRefIdeal.nD,
          r.2.mem ((c.tc : Thread Cert.GluGateFwdRefIdeal.nD Cert.GluGateFwdRefIdeal.τ).loc Cert.GluGateFwdRefIdeal.main_v13) = v0 c
          ∧ r.2.mem ((c.tc : Thread Cert.GluGateFwdRefIdeal.nD Cert.GluGateFwdRefIdeal.τ).loc Cert.GluGateFwdRefIdeal.main_arg0) = m' ((c.tc : Thread Cert.GluGateFwdRefIdeal.nD Cert.GluGateFwdRefIdeal.τ).loc Cert.GluGateFwdRefIdeal.main_arg0)
          ∧ r.2.mem ((c.tc : Thread Cert.GluGateFwdRefIdeal.nD Cert.GluGateFwdRefIdeal.τ).loc Cert.GluGateFwdRefIdeal.main_arg1) = m' ((c.tc : Thread Cert.GluGateFwdRefIdeal.nD Cert.GluGateFwdRefIdeal.τ).loc Cert.GluGateFwdRefIdeal.main_arg1))

def preserves_GeluFwd_GeluFwdIdeal : Prop :=
  True

def algebraic_GeluFwdIdeal_GeluFwdRefIdeal [hGeluFwdIdeal : Cert.GeluFwdIdeal.Facts] [hGeluFwdRefIdeal : Cert.GeluFwdRefIdeal.Facts] : Prop :=
  ∀ (m : (ℓ : Loc Cert.GeluFwdIdeal.nD Cert.GeluFwdIdeal.τ Cert.GeluFwdIdeal.sig) → Buf (Elt Ideal) ℓ) (g : Dev Cert.GeluFwdIdeal.nD → PrngReg)
    (m' : (ℓ : Loc Cert.GeluFwdRefIdeal.nD Cert.GeluFwdRefIdeal.τ Cert.GeluFwdRefIdeal.sig) → Buf (Elt Ideal) ℓ) (g' : Dev Cert.GeluFwdRefIdeal.nD → PrngReg), Pre_GeluFwdIdeal m →
    (∀ c : Dev Cert.GeluFwdIdeal.nD,
      m' ((c.tc : Thread Cert.GeluFwdRefIdeal.nD Cert.GeluFwdRefIdeal.τ).loc Cert.GeluFwdRefIdeal.main_arg0) = m ((c.tc : Thread Cert.GeluFwdIdeal.nD Cert.GeluFwdIdeal.τ).loc Cert.GeluFwdIdeal.main_arg0)
      ∧ m' ((c.tc : Thread Cert.GeluFwdRefIdeal.nD Cert.GeluFwdRefIdeal.τ).loc Cert.GeluFwdRefIdeal.main_arg1) = m ((c.tc : Thread Cert.GeluFwdIdeal.nD Cert.GeluFwdIdeal.τ).loc Cert.GeluFwdIdeal.main_arg1)
      ∧ m' ((c.tc : Thread Cert.GeluFwdRefIdeal.nD Cert.GeluFwdRefIdeal.τ).loc Cert.GeluFwdRefIdeal.main_arg2) = m ((c.tc : Thread Cert.GeluFwdIdeal.nD Cert.GeluFwdIdeal.τ).loc Cert.GeluFwdIdeal.main_arg2)) →
    ∃ (v0 : (c : Dev Cert.GeluFwdIdeal.nD) → Buf (Elt Ideal) ((c.tc : Thread Cert.GeluFwdIdeal.nD Cert.GeluFwdIdeal.τ).loc Cert.GeluFwdIdeal.main_v0)),
      θ_run (Cert.GeluFwdIdeal.defs (F := Ideal)) (onTc (τ := Cert.GeluFwdIdeal.τ) (Cert.GeluFwdIdeal.main (F := Ideal))) ⟨m, fun _ => 0, g⟩ (fun r => ∀ c : Dev Cert.GeluFwdIdeal.nD,
          r.2.mem ((c.tc : Thread Cert.GeluFwdIdeal.nD Cert.GeluFwdIdeal.τ).loc Cert.GeluFwdIdeal.main_v0) = v0 c
          ∧ r.2.mem ((c.tc : Thread Cert.GeluFwdIdeal.nD Cert.GeluFwdIdeal.τ).loc Cert.GeluFwdIdeal.main_arg0) = m ((c.tc : Thread Cert.GeluFwdIdeal.nD Cert.GeluFwdIdeal.τ).loc Cert.GeluFwdIdeal.main_arg0)
          ∧ r.2.mem ((c.tc : Thread Cert.GeluFwdIdeal.nD Cert.GeluFwdIdeal.τ).loc Cert.GeluFwdIdeal.main_arg1) = m ((c.tc : Thread Cert.GeluFwdIdeal.nD Cert.GeluFwdIdeal.τ).loc Cert.GeluFwdIdeal.main_arg1)
          ∧ r.2.mem ((c.tc : Thread Cert.GeluFwdIdeal.nD Cert.GeluFwdIdeal.τ).loc Cert.GeluFwdIdeal.main_arg2) = m ((c.tc : Thread Cert.GeluFwdIdeal.nD Cert.GeluFwdIdeal.τ).loc Cert.GeluFwdIdeal.main_arg2))
      ∧ θ_run (Cert.GeluFwdRefIdeal.defs (F := Ideal)) (onTc (τ := Cert.GeluFwdRefIdeal.τ) (Cert.GeluFwdRefIdeal.main (F := Ideal))) ⟨m', fun _ => 0, g'⟩ (fun r => ∀ c : Dev Cert.GeluFwdRefIdeal.nD,
          r.2.mem ((c.tc : Thread Cert.GeluFwdRefIdeal.nD Cert.GeluFwdRefIdeal.τ).loc Cert.GeluFwdRefIdeal.main_v18) = v0 c
          ∧ r.2.mem ((c.tc : Thread Cert.GeluFwdRefIdeal.nD Cert.GeluFwdRefIdeal.τ).loc Cert.GeluFwdRefIdeal.main_arg0) = m' ((c.tc : Thread Cert.GeluFwdRefIdeal.nD Cert.GeluFwdRefIdeal.τ).loc Cert.GeluFwdRefIdeal.main_arg0)
          ∧ r.2.mem ((c.tc : Thread Cert.GeluFwdRefIdeal.nD Cert.GeluFwdRefIdeal.τ).loc Cert.GeluFwdRefIdeal.main_arg1) = m' ((c.tc : Thread Cert.GeluFwdRefIdeal.nD Cert.GeluFwdRefIdeal.τ).loc Cert.GeluFwdRefIdeal.main_arg1)
          ∧ r.2.mem ((c.tc : Thread Cert.GeluFwdRefIdeal.nD Cert.GeluFwdRefIdeal.τ).loc Cert.GeluFwdRefIdeal.main_arg2) = m' ((c.tc : Thread Cert.GeluFwdRefIdeal.nD Cert.GeluFwdRefIdeal.τ).loc Cert.GeluFwdRefIdeal.main_arg2))

def preserves_BbarFwd_BbarFwdIdeal : Prop :=
  True

def algebraic_BbarFwdIdeal_BbarFwdRefIdeal [hBbarFwdIdeal : Cert.BbarFwdIdeal.Facts] [hBbarFwdRefIdeal : Cert.BbarFwdRefIdeal.Facts] : Prop :=
  ∀ (m : (ℓ : Loc Cert.BbarFwdIdeal.nD Cert.BbarFwdIdeal.τ Cert.BbarFwdIdeal.sig) → Buf (Elt Ideal) ℓ) (g : Dev Cert.BbarFwdIdeal.nD → PrngReg)
    (m' : (ℓ : Loc Cert.BbarFwdRefIdeal.nD Cert.BbarFwdRefIdeal.τ Cert.BbarFwdRefIdeal.sig) → Buf (Elt Ideal) ℓ) (g' : Dev Cert.BbarFwdRefIdeal.nD → PrngReg), Pre_BbarFwdIdeal m →
    (∀ c : Dev Cert.BbarFwdIdeal.nD,
      m' ((c.tc : Thread Cert.BbarFwdRefIdeal.nD Cert.BbarFwdRefIdeal.τ).loc Cert.BbarFwdRefIdeal.main_arg0) = m ((c.tc : Thread Cert.BbarFwdIdeal.nD Cert.BbarFwdIdeal.τ).loc Cert.BbarFwdIdeal.main_arg0)
      ∧ m' ((c.tc : Thread Cert.BbarFwdRefIdeal.nD Cert.BbarFwdRefIdeal.τ).loc Cert.BbarFwdRefIdeal.main_arg1) = m ((c.tc : Thread Cert.BbarFwdIdeal.nD Cert.BbarFwdIdeal.τ).loc Cert.BbarFwdIdeal.main_arg1)
      ∧ m' ((c.tc : Thread Cert.BbarFwdRefIdeal.nD Cert.BbarFwdRefIdeal.τ).loc Cert.BbarFwdRefIdeal.main_arg2) = m ((c.tc : Thread Cert.BbarFwdIdeal.nD Cert.BbarFwdIdeal.τ).loc Cert.BbarFwdIdeal.main_arg2)
      ∧ m' ((c.tc : Thread Cert.BbarFwdRefIdeal.nD Cert.BbarFwdRefIdeal.τ).loc Cert.BbarFwdRefIdeal.main_arg3) = m ((c.tc : Thread Cert.BbarFwdIdeal.nD Cert.BbarFwdIdeal.τ).loc Cert.BbarFwdIdeal.main_arg3)) →
    ∃ (v0 : (c : Dev Cert.BbarFwdIdeal.nD) → Buf (Elt Ideal) ((c.tc : Thread Cert.BbarFwdIdeal.nD Cert.BbarFwdIdeal.τ).loc Cert.BbarFwdIdeal.main_v0_0)) (v1 : (c : Dev Cert.BbarFwdIdeal.nD) → Buf (Elt Ideal) ((c.tc : Thread Cert.BbarFwdIdeal.nD Cert.BbarFwdIdeal.τ).loc Cert.BbarFwdIdeal.main_v0_1)),
      θ_run (Cert.BbarFwdIdeal.defs (F := Ideal)) (onTc (τ := Cert.BbarFwdIdeal.τ) (Cert.BbarFwdIdeal.main (F := Ideal))) ⟨m, fun _ => 0, g⟩ (fun r => ∀ c : Dev Cert.BbarFwdIdeal.nD,
          r.2.mem ((c.tc : Thread Cert.BbarFwdIdeal.nD Cert.BbarFwdIdeal.τ).loc Cert.BbarFwdIdeal.main_v0_0) = v0 c
          ∧ r.2.mem ((c.tc : Thread Cert.BbarFwdIdeal.nD Cert.BbarFwdIdeal.τ).loc Cert.BbarFwdIdeal.main_v0_1) = v1 c
          ∧ r.2.mem ((c.tc : Thread Cert.BbarFwdIdeal.nD Cert.BbarFwdIdeal.τ).loc Cert.BbarFwdIdeal.main_arg0) = m ((c.tc : Thread Cert.BbarFwdIdeal.nD Cert.BbarFwdIdeal.τ).loc Cert.BbarFwdIdeal.main_arg0)
          ∧ r.2.mem ((c.tc : Thread Cert.BbarFwdIdeal.nD Cert.BbarFwdIdeal.τ).loc Cert.BbarFwdIdeal.main_arg1) = m ((c.tc : Thread Cert.BbarFwdIdeal.nD Cert.BbarFwdIdeal.τ).loc Cert.BbarFwdIdeal.main_arg1)
          ∧ r.2.mem ((c.tc : Thread Cert.BbarFwdIdeal.nD Cert.BbarFwdIdeal.τ).loc Cert.BbarFwdIdeal.main_arg2) = m ((c.tc : Thread Cert.BbarFwdIdeal.nD Cert.BbarFwdIdeal.τ).loc Cert.BbarFwdIdeal.main_arg2)
          ∧ r.2.mem ((c.tc : Thread Cert.BbarFwdIdeal.nD Cert.BbarFwdIdeal.τ).loc Cert.BbarFwdIdeal.main_arg3) = m ((c.tc : Thread Cert.BbarFwdIdeal.nD Cert.BbarFwdIdeal.τ).loc Cert.BbarFwdIdeal.main_arg3))
      ∧ θ_run (Cert.BbarFwdRefIdeal.defs (F := Ideal)) (onTc (τ := Cert.BbarFwdRefIdeal.τ) (Cert.BbarFwdRefIdeal.main (F := Ideal))) ⟨m', fun _ => 0, g'⟩ (fun r => ∀ c : Dev Cert.BbarFwdRefIdeal.nD,
          r.2.mem ((c.tc : Thread Cert.BbarFwdRefIdeal.nD Cert.BbarFwdRefIdeal.τ).loc Cert.BbarFwdRefIdeal.main_v4) = v0 c
          ∧ r.2.mem ((c.tc : Thread Cert.BbarFwdRefIdeal.nD Cert.BbarFwdRefIdeal.τ).loc Cert.BbarFwdRefIdeal.main_v9) = v1 c
          ∧ r.2.mem ((c.tc : Thread Cert.BbarFwdRefIdeal.nD Cert.BbarFwdRefIdeal.τ).loc Cert.BbarFwdRefIdeal.main_arg0) = m' ((c.tc : Thread Cert.BbarFwdRefIdeal.nD Cert.BbarFwdRefIdeal.τ).loc Cert.BbarFwdRefIdeal.main_arg0)
          ∧ r.2.mem ((c.tc : Thread Cert.BbarFwdRefIdeal.nD Cert.BbarFwdRefIdeal.τ).loc Cert.BbarFwdRefIdeal.main_arg1) = m' ((c.tc : Thread Cert.BbarFwdRefIdeal.nD Cert.BbarFwdRefIdeal.τ).loc Cert.BbarFwdRefIdeal.main_arg1)
          ∧ r.2.mem ((c.tc : Thread Cert.BbarFwdRefIdeal.nD Cert.BbarFwdRefIdeal.τ).loc Cert.BbarFwdRefIdeal.main_arg2) = m' ((c.tc : Thread Cert.BbarFwdRefIdeal.nD Cert.BbarFwdRefIdeal.τ).loc Cert.BbarFwdRefIdeal.main_arg2)
          ∧ r.2.mem ((c.tc : Thread Cert.BbarFwdRefIdeal.nD Cert.BbarFwdRefIdeal.τ).loc Cert.BbarFwdRefIdeal.main_arg3) = m' ((c.tc : Thread Cert.BbarFwdRefIdeal.nD Cert.BbarFwdRefIdeal.τ).loc Cert.BbarFwdRefIdeal.main_arg3))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)) →
    ∃ (v0 : (c : Dev Cert.PrepFwdIdeal.nD) → Buf (Elt Ideal) ((c.tc : Thread Cert.PrepFwdIdeal.nD Cert.PrepFwdIdeal.τ).loc Cert.PrepFwdIdeal.main_v0_0)) (v1 : (c : Dev Cert.PrepFwdIdeal.nD) → Buf (Elt Ideal) ((c.tc : Thread Cert.PrepFwdIdeal.nD Cert.PrepFwdIdeal.τ).loc Cert.PrepFwdIdeal.main_v0_1)) (v2 : (c : Dev Cert.PrepFwdIdeal.nD) → Buf (Elt Ideal) ((c.tc : Thread Cert.PrepFwdIdeal.nD Cert.PrepFwdIdeal.τ).loc Cert.PrepFwdIdeal.main_v0_2)) (v3 : (c : Dev Cert.PrepFwdIdeal.nD) → Buf (Elt Ideal) ((c.tc : Thread Cert.PrepFwdIdeal.nD Cert.PrepFwdIdeal.τ).loc Cert.PrepFwdIdeal.main_v0_3)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v0_0) = v0 c
          ∧ r.2.mem ((c.tc : Thread Cert.PrepFwdIdeal.nD Cert.PrepFwdIdeal.τ).loc Cert.PrepFwdIdeal.main_v0_1) = v1 c
          ∧ r.2.mem ((c.tc : Thread Cert.PrepFwdIdeal.nD Cert.PrepFwdIdeal.τ).loc Cert.PrepFwdIdeal.main_v0_2) = v2 c
          ∧ r.2.mem ((c.tc : Thread Cert.PrepFwdIdeal.nD Cert.PrepFwdIdeal.τ).loc Cert.PrepFwdIdeal.main_v0_3) = v3 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v7) = v0 c
          ∧ r.2.mem ((c.tc : Thread Cert.PrepFwdRefIdeal.nD Cert.PrepFwdRefIdeal.τ).loc Cert.PrepFwdRefIdeal.main_v11) = v1 c
          ∧ r.2.mem ((c.tc : Thread Cert.PrepFwdRefIdeal.nD Cert.PrepFwdRefIdeal.τ).loc Cert.PrepFwdRefIdeal.main_v22) = v2 c
          ∧ r.2.mem ((c.tc : Thread Cert.PrepFwdRefIdeal.nD Cert.PrepFwdRefIdeal.τ).loc Cert.PrepFwdRefIdeal.main_v26) = v3 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v0)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v0) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v43) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_SguSides_SguSidesIdeal : Prop :=
  True

def algebraic_SguSidesIdeal_SguSidesRefIdeal [hSguSidesIdeal : Cert.SguSidesIdeal.Facts] [hSguSidesRefIdeal : Cert.SguSidesRefIdeal.Facts] : Prop :=
  ∀ (m : (ℓ : Loc Cert.SguSidesIdeal.nD Cert.SguSidesIdeal.τ Cert.SguSidesIdeal.sig) → Buf (Elt Ideal) ℓ) (g : Dev Cert.SguSidesIdeal.nD → PrngReg)
    (m' : (ℓ : Loc Cert.SguSidesRefIdeal.nD Cert.SguSidesRefIdeal.τ Cert.SguSidesRefIdeal.sig) → Buf (Elt Ideal) ℓ) (g' : Dev Cert.SguSidesRefIdeal.nD → PrngReg), Pre_SguSidesIdeal m →
    (∀ c : Dev Cert.SguSidesIdeal.nD,
      m' ((c.tc : Thread Cert.SguSidesRefIdeal.nD Cert.SguSidesRefIdeal.τ).loc Cert.SguSidesRefIdeal.main_arg0) = m ((c.tc : Thread Cert.SguSidesIdeal.nD Cert.SguSidesIdeal.τ).loc Cert.SguSidesIdeal.main_arg0)
      ∧ m' ((c.tc : Thread Cert.SguSidesRefIdeal.nD Cert.SguSidesRefIdeal.τ).loc Cert.SguSidesRefIdeal.main_arg1) = m ((c.tc : Thread Cert.SguSidesIdeal.nD Cert.SguSidesIdeal.τ).loc Cert.SguSidesIdeal.main_arg1)
      ∧ m' ((c.tc : Thread Cert.SguSidesRefIdeal.nD Cert.SguSidesRefIdeal.τ).loc Cert.SguSidesRefIdeal.main_arg2) = m ((c.tc : Thread Cert.SguSidesIdeal.nD Cert.SguSidesIdeal.τ).loc Cert.SguSidesIdeal.main_arg2)
      ∧ m' ((c.tc : Thread Cert.SguSidesRefIdeal.nD Cert.SguSidesRefIdeal.τ).loc Cert.SguSidesRefIdeal.main_arg3) = m ((c.tc : Thread Cert.SguSidesIdeal.nD Cert.SguSidesIdeal.τ).loc Cert.SguSidesIdeal.main_arg3)
      ∧ m' ((c.tc : Thread Cert.SguSidesRefIdeal.nD Cert.SguSidesRefIdeal.τ).loc Cert.SguSidesRefIdeal.main_arg4) = m ((c.tc : Thread Cert.SguSidesIdeal.nD Cert.SguSidesIdeal.τ).loc Cert.SguSidesIdeal.main_arg4)
      ∧ m' ((c.tc : Thread Cert.SguSidesRefIdeal.nD Cert.SguSidesRefIdeal.τ).loc Cert.SguSidesRefIdeal.main_arg5) = m ((c.tc : Thread Cert.SguSidesIdeal.nD Cert.SguSidesIdeal.τ).loc Cert.SguSidesIdeal.main_arg5)) →
    ∃ (v0 : (c : Dev Cert.SguSidesIdeal.nD) → Buf (Elt Ideal) ((c.tc : Thread Cert.SguSidesIdeal.nD Cert.SguSidesIdeal.τ).loc Cert.SguSidesIdeal.main_v0_0)) (v1 : (c : Dev Cert.SguSidesIdeal.nD) → Buf (Elt Ideal) ((c.tc : Thread Cert.SguSidesIdeal.nD Cert.SguSidesIdeal.τ).loc Cert.SguSidesIdeal.main_v0_2)),
      θ_run (Cert.SguSidesIdeal.defs (F := Ideal)) (onTc (τ := Cert.SguSidesIdeal.τ) (Cert.SguSidesIdeal.main (F := Ideal))) ⟨m, fun _ => 0, g⟩ (fun r => ∀ c : Dev Cert.SguSidesIdeal.nD,
          r.2.mem ((c.tc : Thread Cert.SguSidesIdeal.nD Cert.SguSidesIdeal.τ).loc Cert.SguSidesIdeal.main_v0_0) = v0 c
          ∧ r.2.mem ((c.tc : Thread Cert.SguSidesIdeal.nD Cert.SguSidesIdeal.τ).loc Cert.SguSidesIdeal.main_v0_2) = v1 c
          ∧ r.2.mem ((c.tc : Thread Cert.SguSidesIdeal.nD Cert.SguSidesIdeal.τ).loc Cert.SguSidesIdeal.main_arg0) = m ((c.tc : Thread Cert.SguSidesIdeal.nD Cert.SguSidesIdeal.τ).loc Cert.SguSidesIdeal.main_arg0)
          ∧ r.2.mem ((c.tc : Thread Cert.SguSidesIdeal.nD Cert.SguSidesIdeal.τ).loc Cert.SguSidesIdeal.main_arg1) = m ((c.tc : Thread Cert.SguSidesIdeal.nD Cert.SguSidesIdeal.τ).loc Cert.SguSidesIdeal.main_arg1)
          ∧ r.2.mem ((c.tc : Thread Cert.SguSidesIdeal.nD Cert.SguSidesIdeal.τ).loc Cert.SguSidesIdeal.main_arg2) = m ((c.tc : Thread Cert.SguSidesIdeal.nD Cert.SguSidesIdeal.τ).loc Cert.SguSidesIdeal.main_arg2)
          ∧ r.2.mem ((c.tc : Thread Cert.SguSidesIdeal.nD Cert.SguSidesIdeal.τ).loc Cert.SguSidesIdeal.main_arg3) = m ((c.tc : Thread Cert.SguSidesIdeal.nD Cert.SguSidesIdeal.τ).loc Cert.SguSidesIdeal.main_arg3)
          ∧ r.2.mem ((c.tc : Thread Cert.SguSidesIdeal.nD Cert.SguSidesIdeal.τ).loc Cert.SguSidesIdeal.main_arg4) = m ((c.tc : Thread Cert.SguSidesIdeal.nD Cert.SguSidesIdeal.τ).loc Cert.SguSidesIdeal.main_arg4)
          ∧ r.2.mem ((c.tc : Thread Cert.SguSidesIdeal.nD Cert.SguSidesIdeal.τ).loc Cert.SguSidesIdeal.main_arg5) = m ((c.tc : Thread Cert.SguSidesIdeal.nD Cert.SguSidesIdeal.τ).loc Cert.SguSidesIdeal.main_arg5))
      ∧ θ_run (Cert.SguSidesRefIdeal.defs (F := Ideal)) (onTc (τ := Cert.SguSidesRefIdeal.τ) (Cert.SguSidesRefIdeal.main (F := Ideal))) ⟨m', fun _ => 0, g'⟩ (fun r => ∀ c : Dev Cert.SguSidesRefIdeal.nD,
          r.2.mem ((c.tc : Thread Cert.SguSidesRefIdeal.nD Cert.SguSidesRefIdeal.τ).loc Cert.SguSidesRefIdeal.main_v48) = v0 c
          ∧ r.2.mem ((c.tc : Thread Cert.SguSidesRefIdeal.nD Cert.SguSidesRefIdeal.τ).loc Cert.SguSidesRefIdeal.main_v49) = v1 c
          ∧ r.2.mem ((c.tc : Thread Cert.SguSidesRefIdeal.nD Cert.SguSidesRefIdeal.τ).loc Cert.SguSidesRefIdeal.main_arg0) = m' ((c.tc : Thread Cert.SguSidesRefIdeal.nD Cert.SguSidesRefIdeal.τ).loc Cert.SguSidesRefIdeal.main_arg0)
          ∧ r.2.mem ((c.tc : Thread Cert.SguSidesRefIdeal.nD Cert.SguSidesRefIdeal.τ).loc Cert.SguSidesRefIdeal.main_arg1) = m' ((c.tc : Thread Cert.SguSidesRefIdeal.nD Cert.SguSidesRefIdeal.τ).loc Cert.SguSidesRefIdeal.main_arg1)
          ∧ r.2.mem ((c.tc : Thread Cert.SguSidesRefIdeal.nD Cert.SguSidesRefIdeal.τ).loc Cert.SguSidesRefIdeal.main_arg2) = m' ((c.tc : Thread Cert.SguSidesRefIdeal.nD Cert.SguSidesRefIdeal.τ).loc Cert.SguSidesRefIdeal.main_arg2)
          ∧ r.2.mem ((c.tc : Thread Cert.SguSidesRefIdeal.nD Cert.SguSidesRefIdeal.τ).loc Cert.SguSidesRefIdeal.main_arg3) = m' ((c.tc : Thread Cert.SguSidesRefIdeal.nD Cert.SguSidesRefIdeal.τ).loc Cert.SguSidesRefIdeal.main_arg3)
          ∧ r.2.mem ((c.tc : Thread Cert.SguSidesRefIdeal.nD Cert.SguSidesRefIdeal.τ).loc Cert.SguSidesRefIdeal.main_arg4) = m' ((c.tc : Thread Cert.SguSidesRefIdeal.nD Cert.SguSidesRefIdeal.τ).loc Cert.SguSidesRefIdeal.main_arg4)
          ∧ r.2.mem ((c.tc : Thread Cert.SguSidesRefIdeal.nD Cert.SguSidesRefIdeal.τ).loc Cert.SguSidesRefIdeal.main_arg5) = m' ((c.tc : Thread Cert.SguSidesRefIdeal.nD Cert.SguSidesRefIdeal.τ).loc Cert.SguSidesRefIdeal.main_arg5))

def Claim : Prop :=
  ∃ (hKernel : Cert.Kernel.Facts) (hKernelIdeal : Cert.KernelIdeal.Facts) (hReferenceIdeal : Cert.ReferenceIdeal.Facts) (hInAb : Cert.InAb.Facts) (hInAbIdeal : Cert.InAbIdeal.Facts) (hInAbRefIdeal : Cert.InAbRefIdeal.Facts) (hInAbDx : Cert.InAbDx.Facts) (hInAbDxIdeal : Cert.InAbDxIdeal.Facts) (hInAbDxRefIdeal : Cert.InAbDxRefIdeal.Facts) (hInAbDw : Cert.InAbDw.Facts) (hInAbDwIdeal : Cert.InAbDwIdeal.Facts) (hInAbDwRefIdeal : Cert.InAbDwRefIdeal.Facts) (hInCd : Cert.InCd.Facts) (hInCdIdeal : Cert.InCdIdeal.Facts) (hInCdRefIdeal : Cert.InCdRefIdeal.Facts) (hInCdDx : Cert.InCdDx.Facts) (hInCdDxIdeal : Cert.InCdDxIdeal.Facts) (hInCdDxRefIdeal : Cert.InCdDxRefIdeal.Facts) (hInCdDw : Cert.InCdDw.Facts) (hInCdDwIdeal : Cert.InCdDwIdeal.Facts) (hInCdDwRefIdeal : Cert.InCdDwRefIdeal.Facts) (hOutAb : Cert.OutAb.Facts) (hOutAbIdeal : Cert.OutAbIdeal.Facts) (hOutAbRefIdeal : Cert.OutAbRefIdeal.Facts) (hOutAbDx : Cert.OutAbDx.Facts) (hOutAbDxIdeal : Cert.OutAbDxIdeal.Facts) (hOutAbDxRefIdeal : Cert.OutAbDxRefIdeal.Facts) (hOutAbDw : Cert.OutAbDw.Facts) (hOutAbDwIdeal : Cert.OutAbDwIdeal.Facts) (hOutAbDwRefIdeal : Cert.OutAbDwRefIdeal.Facts) (hOutCd : Cert.OutCd.Facts) (hOutCdIdeal : Cert.OutCdIdeal.Facts) (hOutCdRefIdeal : Cert.OutCdRefIdeal.Facts) (hOutCdDx : Cert.OutCdDx.Facts) (hOutCdDxIdeal : Cert.OutCdDxIdeal.Facts) (hOutCdDxRefIdeal : Cert.OutCdDxRefIdeal.Facts) (hOutCdDw : Cert.OutCdDw.Facts) (hOutCdDwIdeal : Cert.OutCdDwIdeal.Facts) (hOutCdDwRefIdeal : Cert.OutCdDwRefIdeal.Facts) (hXq : Cert.Xq.Facts) (hXqIdeal : Cert.XqIdeal.Facts) (hXqRefIdeal : Cert.XqRefIdeal.Facts) (hXqDx : Cert.XqDx.Facts) (hXqDxIdeal : Cert.XqDxIdeal.Facts) (hXqDxRefIdeal : Cert.XqDxRefIdeal.Facts) (hXqDw : Cert.XqDw.Facts) (hXqDwIdeal : Cert.XqDwIdeal.Facts) (hXqDwRefIdeal : Cert.XqDwRefIdeal.Facts) (hXo : Cert.Xo.Facts) (hXoIdeal : Cert.XoIdeal.Facts) (hXoRefIdeal : Cert.XoRefIdeal.Facts) (hXoDx : Cert.XoDx.Facts) (hXoDxIdeal : Cert.XoDxIdeal.Facts) (hXoDxRefIdeal : Cert.XoDxRefIdeal.Facts) (hXoDw : Cert.XoDw.Facts) (hXoDwIdeal : Cert.XoDwIdeal.Facts) (hXoDwRefIdeal : Cert.XoDwRefIdeal.Facts) (hGlu : Cert.Glu.Facts) (hGluIdeal : Cert.GluIdeal.Facts) (hGluRefIdeal : Cert.GluRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hPool : Cert.Pool.Facts) (hPoolIdeal : Cert.PoolIdeal.Facts) (hPoolRefIdeal : Cert.PoolRefIdeal.Facts) (hPoolDx : Cert.PoolDx.Facts) (hPoolDxIdeal : Cert.PoolDxIdeal.Facts) (hPoolDxRefIdeal : Cert.PoolDxRefIdeal.Facts) (hPoolDw : Cert.PoolDw.Facts) (hPoolDwIdeal : Cert.PoolDwIdeal.Facts) (hPoolDwRefIdeal : Cert.PoolDwRefIdeal.Facts) (hXkv : Cert.Xkv.Facts) (hXkvIdeal : Cert.XkvIdeal.Facts) (hXkvRefIdeal : Cert.XkvRefIdeal.Facts) (hXkvDx : Cert.XkvDx.Facts) (hXkvDxIdeal : Cert.XkvDxIdeal.Facts) (hXkvDxRefIdeal : Cert.XkvDxRefIdeal.Facts) (hXkvDw : Cert.XkvDw.Facts) (hXkvDwIdeal : Cert.XkvDwIdeal.Facts) (hXkvDwRefIdeal : Cert.XkvDwRefIdeal.Facts) (hRmsDx : Cert.RmsDx.Facts) (hRmsDxIdeal : Cert.RmsDxIdeal.Facts) (hRmsDxRefIdeal : Cert.RmsDxRefIdeal.Facts) (hMemNormDg : Cert.MemNormDg.Facts) (hMemNormDgIdeal : Cert.MemNormDgIdeal.Facts) (hMemNormDgRefIdeal : Cert.MemNormDgRefIdeal.Facts) (hGateAb : Cert.GateAb.Facts) (hGateAbIdeal : Cert.GateAbIdeal.Facts) (hGateAbRefIdeal : Cert.GateAbRefIdeal.Facts) (hGluGate : Cert.GluGate.Facts) (hGluGateIdeal : Cert.GluGateIdeal.Facts) (hGluGateRefIdeal : Cert.GluGateRefIdeal.Facts) (hGelu : Cert.Gelu.Facts) (hGeluIdeal : Cert.GeluIdeal.Facts) (hGeluRefIdeal : Cert.GeluRefIdeal.Facts) (hBbar : Cert.Bbar.Facts) (hBbarIdeal : Cert.BbarIdeal.Facts) (hBbarRefIdeal : Cert.BbarRefIdeal.Facts) (hPrep : Cert.Prep.Facts) (hPrepIdeal : Cert.PrepIdeal.Facts) (hPrepRefIdeal : Cert.PrepRefIdeal.Facts) (hUDx : Cert.UDx.Facts) (hUDxIdeal : Cert.UDxIdeal.Facts) (hUDxRefIdeal : Cert.UDxRefIdeal.Facts) (hUDw : Cert.UDw.Facts) (hUDwIdeal : Cert.UDwIdeal.Facts) (hUDwRefIdeal : Cert.UDwRefIdeal.Facts) (hYDx : Cert.YDx.Facts) (hYDxIdeal : Cert.YDxIdeal.Facts) (hYDxRefIdeal : Cert.YDxRefIdeal.Facts) (hYDw : Cert.YDw.Facts) (hYDwIdeal : Cert.YDwIdeal.Facts) (hYDwRefIdeal : Cert.YDwRefIdeal.Facts) (hU : Cert.U.Facts) (hUIdeal : Cert.UIdeal.Facts) (hURefIdeal : Cert.URefIdeal.Facts) (hY : Cert.Y.Facts) (hYIdeal : Cert.YIdeal.Facts) (hYRefIdeal : Cert.YRefIdeal.Facts) (hRms : Cert.Rms.Facts) (hRmsIdeal : Cert.RmsIdeal.Facts) (hRmsRefIdeal : Cert.RmsRefIdeal.Facts) (hMemNorm : Cert.MemNorm.Facts) (hMemNormIdeal : Cert.MemNormIdeal.Facts) (hMemNormRefIdeal : Cert.MemNormRefIdeal.Facts) (hGateAbFwd : Cert.GateAbFwd.Facts) (hGateAbFwdIdeal : Cert.GateAbFwdIdeal.Facts) (hGateAbFwdRefIdeal : Cert.GateAbFwdRefIdeal.Facts) (hGluGateFwd : Cert.GluGateFwd.Facts) (hGluGateFwdIdeal : Cert.GluGateFwdIdeal.Facts) (hGluGateFwdRefIdeal : Cert.GluGateFwdRefIdeal.Facts) (hGeluFwd : Cert.GeluFwd.Facts) (hGeluFwdIdeal : Cert.GeluFwdIdeal.Facts) (hGeluFwdRefIdeal : Cert.GeluFwdRefIdeal.Facts) (hBbarFwd : Cert.BbarFwd.Facts) (hBbarFwdIdeal : Cert.BbarFwdIdeal.Facts) (hBbarFwdRefIdeal : Cert.BbarFwdRefIdeal.Facts) (hPrepFwd : Cert.PrepFwd.Facts) (hPrepFwdIdeal : Cert.PrepFwdIdeal.Facts) (hPrepFwdRefIdeal : Cert.PrepFwdRefIdeal.Facts) (hSguFwd : Cert.SguFwd.Facts) (hSguFwdIdeal : Cert.SguFwdIdeal.Facts) (hSguFwdRefIdeal : Cert.SguFwdRefIdeal.Facts) (hSguSides : Cert.SguSides.Facts) (hSguSidesIdeal : Cert.SguSidesIdeal.Facts) (hSguSidesRefIdeal : Cert.SguSidesRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InAb (hInAb := hInAb)
    ∧ quiescent_InAbIdeal (hInAbIdeal := hInAbIdeal)
    ∧ quiescent_InAbRefIdeal (hInAbRefIdeal := hInAbRefIdeal)
    ∧ quiescent_InAbDx (hInAbDx := hInAbDx)
    ∧ quiescent_InAbDxIdeal (hInAbDxIdeal := hInAbDxIdeal)
    ∧ quiescent_InAbDxRefIdeal (hInAbDxRefIdeal := hInAbDxRefIdeal)
    ∧ quiescent_InAbDw (hInAbDw := hInAbDw)
    ∧ quiescent_InAbDwIdeal (hInAbDwIdeal := hInAbDwIdeal)
    ∧ quiescent_InAbDwRefIdeal (hInAbDwRefIdeal := hInAbDwRefIdeal)
    ∧ quiescent_InCd (hInCd := hInCd)
    ∧ quiescent_InCdIdeal (hInCdIdeal := hInCdIdeal)
    ∧ quiescent_InCdRefIdeal (hInCdRefIdeal := hInCdRefIdeal)
    ∧ quiescent_InCdDx (hInCdDx := hInCdDx)
    ∧ quiescent_InCdDxIdeal (hInCdDxIdeal := hInCdDxIdeal)
    ∧ quiescent_InCdDxRefIdeal (hInCdDxRefIdeal := hInCdDxRefIdeal)
    ∧ quiescent_InCdDw (hInCdDw := hInCdDw)
    ∧ quiescent_InCdDwIdeal (hInCdDwIdeal := hInCdDwIdeal)
    ∧ quiescent_InCdDwRefIdeal (hInCdDwRefIdeal := hInCdDwRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_OutAbDx (hOutAbDx := hOutAbDx)
    ∧ quiescent_OutAbDxIdeal (hOutAbDxIdeal := hOutAbDxIdeal)
    ∧ quiescent_OutAbDxRefIdeal (hOutAbDxRefIdeal := hOutAbDxRefIdeal)
    ∧ quiescent_OutAbDw (hOutAbDw := hOutAbDw)
    ∧ quiescent_OutAbDwIdeal (hOutAbDwIdeal := hOutAbDwIdeal)
    ∧ quiescent_OutAbDwRefIdeal (hOutAbDwRefIdeal := hOutAbDwRefIdeal)
    ∧ quiescent_OutCd (hOutCd := hOutCd)
    ∧ quiescent_OutCdIdeal (hOutCdIdeal := hOutCdIdeal)
    ∧ quiescent_OutCdRefIdeal (hOutCdRefIdeal := hOutCdRefIdeal)
    ∧ quiescent_OutCdDx (hOutCdDx := hOutCdDx)
    ∧ quiescent_OutCdDxIdeal (hOutCdDxIdeal := hOutCdDxIdeal)
    ∧ quiescent_OutCdDxRefIdeal (hOutCdDxRefIdeal := hOutCdDxRefIdeal)
    ∧ quiescent_OutCdDw (hOutCdDw := hOutCdDw)
    ∧ quiescent_OutCdDwIdeal (hOutCdDwIdeal := hOutCdDwIdeal)
    ∧ quiescent_OutCdDwRefIdeal (hOutCdDwRefIdeal := hOutCdDwRefIdeal)
    ∧ quiescent_Xq (hXq := hXq)
    ∧ quiescent_XqIdeal (hXqIdeal := hXqIdeal)
    ∧ quiescent_XqRefIdeal (hXqRefIdeal := hXqRefIdeal)
    ∧ quiescent_XqDx (hXqDx := hXqDx)
    ∧ quiescent_XqDxIdeal (hXqDxIdeal := hXqDxIdeal)
    ∧ quiescent_XqDxRefIdeal (hXqDxRefIdeal := hXqDxRefIdeal)
    ∧ quiescent_XqDw (hXqDw := hXqDw)
    ∧ quiescent_XqDwIdeal (hXqDwIdeal := hXqDwIdeal)
    ∧ quiescent_XqDwRefIdeal (hXqDwRefIdeal := hXqDwRefIdeal)
    ∧ quiescent_Xo (hXo := hXo)
    ∧ quiescent_XoIdeal (hXoIdeal := hXoIdeal)
    ∧ quiescent_XoRefIdeal (hXoRefIdeal := hXoRefIdeal)
    ∧ quiescent_XoDx (hXoDx := hXoDx)
    ∧ quiescent_XoDxIdeal (hXoDxIdeal := hXoDxIdeal)
    ∧ quiescent_XoDxRefIdeal (hXoDxRefIdeal := hXoDxRefIdeal)
    ∧ quiescent_XoDw (hXoDw := hXoDw)
    ∧ quiescent_XoDwIdeal (hXoDwIdeal := hXoDwIdeal)
    ∧ quiescent_XoDwRefIdeal (hXoDwRefIdeal := hXoDwRefIdeal)
    ∧ quiescent_Glu (hGlu := hGlu)
    ∧ quiescent_GluIdeal (hGluIdeal := hGluIdeal)
    ∧ quiescent_GluRefIdeal (hGluRefIdeal := hGluRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_Pool (hPool := hPool)
    ∧ quiescent_PoolIdeal (hPoolIdeal := hPoolIdeal)
    ∧ quiescent_PoolRefIdeal (hPoolRefIdeal := hPoolRefIdeal)
    ∧ quiescent_PoolDx (hPoolDx := hPoolDx)
    ∧ quiescent_PoolDxIdeal (hPoolDxIdeal := hPoolDxIdeal)
    ∧ quiescent_PoolDxRefIdeal (hPoolDxRefIdeal := hPoolDxRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_Xkv (hXkv := hXkv)
    ∧ quiescent_XkvIdeal (hXkvIdeal := hXkvIdeal)
    ∧ quiescent_XkvRefIdeal (hXkvRefIdeal := hXkvRefIdeal)
    ∧ quiescent_XkvDx (hXkvDx := hXkvDx)
    ∧ quiescent_XkvDxIdeal (hXkvDxIdeal := hXkvDxIdeal)
    ∧ quiescent_XkvDxRefIdeal (hXkvDxRefIdeal := hXkvDxRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_RmsDx (hRmsDx := hRmsDx)
    ∧ quiescent_RmsDxIdeal (hRmsDxIdeal := hRmsDxIdeal)
    ∧ quiescent_RmsDxRefIdeal (hRmsDxRefIdeal := hRmsDxRefIdeal)
    ∧ quiescent_MemNormDg (hMemNormDg := hMemNormDg)
    ∧ quiescent_MemNormDgIdeal (hMemNormDgIdeal := hMemNormDgIdeal)
    ∧ quiescent_MemNormDgRefIdeal (hMemNormDgRefIdeal := hMemNormDgRefIdeal)
    ∧ quiescent_GateAb (hGateAb := hGateAb)
    ∧ quiescent_GateAbIdeal (hGateAbIdeal := hGateAbIdeal)
    ∧ quiescent_GateAbRefIdeal (hGateAbRefIdeal := hGateAbRefIdeal)
    ∧ quiescent_GluGate (hGluGate := hGluGate)
    ∧ quiescent_GluGateIdeal (hGluGateIdeal := hGluGateIdeal)
    ∧ quiescent_GluGateRefIdeal (hGluGateRefIdeal := hGluGateRefIdeal)
    ∧ quiescent_Gelu (hGelu := hGelu)
    ∧ quiescent_GeluIdeal (hGeluIdeal := hGeluIdeal)
    ∧ quiescent_GeluRefIdeal (hGeluRefIdeal := hGeluRefIdeal)
    ∧ quiescent_Bbar (hBbar := hBbar)
    ∧ quiescent_BbarIdeal (hBbarIdeal := hBbarIdeal)
    ∧ quiescent_BbarRefIdeal (hBbarRefIdeal := hBbarRefIdeal)
    ∧ quiescent_Prep (hPrep := hPrep)
    ∧ quiescent_PrepIdeal (hPrepIdeal := hPrepIdeal)
    ∧ quiescent_PrepRefIdeal (hPrepRefIdeal := hPrepRefIdeal)
    ∧ quiescent_UDx (hUDx := hUDx)
    ∧ quiescent_UDxIdeal (hUDxIdeal := hUDxIdeal)
    ∧ quiescent_UDxRefIdeal (hUDxRefIdeal := hUDxRefIdeal)
    ∧ quiescent_UDw (hUDw := hUDw)
    ∧ quiescent_UDwIdeal (hUDwIdeal := hUDwIdeal)
    ∧ quiescent_UDwRefIdeal (hUDwRefIdeal := hUDwRefIdeal)
    ∧ quiescent_YDx (hYDx := hYDx)
    ∧ quiescent_YDxIdeal (hYDxIdeal := hYDxIdeal)
    ∧ quiescent_YDxRefIdeal (hYDxRefIdeal := hYDxRefIdeal)
    ∧ quiescent_YDw (hYDw := hYDw)
    ∧ quiescent_YDwIdeal (hYDwIdeal := hYDwIdeal)
    ∧ quiescent_YDwRefIdeal (hYDwRefIdeal := hYDwRefIdeal)
    ∧ quiescent_U (hU := hU)
    ∧ quiescent_UIdeal (hUIdeal := hUIdeal)
    ∧ quiescent_URefIdeal (hURefIdeal := hURefIdeal)
    ∧ quiescent_Y (hY := hY)
    ∧ quiescent_YIdeal (hYIdeal := hYIdeal)
    ∧ quiescent_YRefIdeal (hYRefIdeal := hYRefIdeal)
    ∧ quiescent_Rms (hRms := hRms)
    ∧ quiescent_RmsIdeal (hRmsIdeal := hRmsIdeal)
    ∧ quiescent_RmsRefIdeal (hRmsRefIdeal := hRmsRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_GateAbFwd (hGateAbFwd := hGateAbFwd)
    ∧ quiescent_GateAbFwdIdeal (hGateAbFwdIdeal := hGateAbFwdIdeal)
    ∧ quiescent_GateAbFwdRefIdeal (hGateAbFwdRefIdeal := hGateAbFwdRefIdeal)
    ∧ quiescent_GluGateFwd (hGluGateFwd := hGluGateFwd)
    ∧ quiescent_GluGateFwdIdeal (hGluGateFwdIdeal := hGluGateFwdIdeal)
    ∧ quiescent_GluGateFwdRefIdeal (hGluGateFwdRefIdeal := hGluGateFwdRefIdeal)
    ∧ quiescent_GeluFwd (hGeluFwd := hGeluFwd)
    ∧ quiescent_GeluFwdIdeal (hGeluFwdIdeal := hGeluFwdIdeal)
    ∧ quiescent_GeluFwdRefIdeal (hGeluFwdRefIdeal := hGeluFwdRefIdeal)
    ∧ quiescent_BbarFwd (hBbarFwd := hBbarFwd)
    ∧ quiescent_BbarFwdIdeal (hBbarFwdIdeal := hBbarFwdIdeal)
    ∧ quiescent_BbarFwdRefIdeal (hBbarFwdRefIdeal := hBbarFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_SguSides (hSguSides := hSguSides)
    ∧ quiescent_SguSidesIdeal (hSguSidesIdeal := hSguSidesIdeal)
    ∧ quiescent_SguSidesRefIdeal (hSguSidesRefIdeal := hSguSidesRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InAb_InAbIdeal
    ∧ algebraic_InAbIdeal_InAbRefIdeal (hInAbIdeal := hInAbIdeal) (hInAbRefIdeal := hInAbRefIdeal)
    ∧ preserves_InAbDx_InAbDxIdeal
    ∧ algebraic_InAbDxIdeal_InAbDxRefIdeal (hInAbDxIdeal := hInAbDxIdeal) (hInAbDxRefIdeal := hInAbDxRefIdeal)
    ∧ preserves_InAbDw_InAbDwIdeal
    ∧ algebraic_InAbDwIdeal_InAbDwRefIdeal (hInAbDwIdeal := hInAbDwIdeal) (hInAbDwRefIdeal := hInAbDwRefIdeal)
    ∧ preserves_InCd_InCdIdeal
    ∧ algebraic_InCdIdeal_InCdRefIdeal (hInCdIdeal := hInCdIdeal) (hInCdRefIdeal := hInCdRefIdeal)
    ∧ preserves_InCdDx_InCdDxIdeal
    ∧ algebraic_InCdDxIdeal_InCdDxRefIdeal (hInCdDxIdeal := hInCdDxIdeal) (hInCdDxRefIdeal := hInCdDxRefIdeal)
    ∧ preserves_InCdDw_InCdDwIdeal
    ∧ algebraic_InCdDwIdeal_InCdDwRefIdeal (hInCdDwIdeal := hInCdDwIdeal) (hInCdDwRefIdeal := hInCdDwRefIdeal)
    ∧ preserves_OutAb_OutAbIdeal
    ∧ algebraic_OutAbIdeal_OutAbRefIdeal (hOutAbIdeal := hOutAbIdeal) (hOutAbRefIdeal := hOutAbRefIdeal)
    ∧ preserves_OutAbDx_OutAbDxIdeal
    ∧ algebraic_OutAbDxIdeal_OutAbDxRefIdeal (hOutAbDxIdeal := hOutAbDxIdeal) (hOutAbDxRefIdeal := hOutAbDxRefIdeal)
    ∧ preserves_OutAbDw_OutAbDwIdeal
    ∧ algebraic_OutAbDwIdeal_OutAbDwRefIdeal (hOutAbDwIdeal := hOutAbDwIdeal) (hOutAbDwRefIdeal := hOutAbDwRefIdeal)
    ∧ preserves_OutCd_OutCdIdeal
    ∧ algebraic_OutCdIdeal_OutCdRefIdeal (hOutCdIdeal := hOutCdIdeal) (hOutCdRefIdeal := hOutCdRefIdeal)
    ∧ preserves_OutCdDx_OutCdDxIdeal
    ∧ algebraic_OutCdDxIdeal_OutCdDxRefIdeal (hOutCdDxIdeal := hOutCdDxIdeal) (hOutCdDxRefIdeal := hOutCdDxRefIdeal)
    ∧ preserves_OutCdDw_OutCdDwIdeal
    ∧ algebraic_OutCdDwIdeal_OutCdDwRefIdeal (hOutCdDwIdeal := hOutCdDwIdeal) (hOutCdDwRefIdeal := hOutCdDwRefIdeal)
    ∧ preserves_Xq_XqIdeal
    ∧ algebraic_XqIdeal_XqRefIdeal (hXqIdeal := hXqIdeal) (hXqRefIdeal := hXqRefIdeal)
    ∧ preserves_XqDx_XqDxIdeal
    ∧ algebraic_XqDxIdeal_XqDxRefIdeal (hXqDxIdeal := hXqDxIdeal) (hXqDxRefIdeal := hXqDxRefIdeal)
    ∧ preserves_XqDw_XqDwIdeal
    ∧ algebraic_XqDwIdeal_XqDwRefIdeal (hXqDwIdeal := hXqDwIdeal) (hXqDwRefIdeal := hXqDwRefIdeal)
    ∧ preserves_Xo_XoIdeal
    ∧ algebraic_XoIdeal_XoRefIdeal (hXoIdeal := hXoIdeal) (hXoRefIdeal := hXoRefIdeal)
    ∧ preserves_XoDx_XoDxIdeal
    ∧ algebraic_XoDxIdeal_XoDxRefIdeal (hXoDxIdeal := hXoDxIdeal) (hXoDxRefIdeal := hXoDxRefIdeal)
    ∧ preserves_XoDw_XoDwIdeal
    ∧ algebraic_XoDwIdeal_XoDwRefIdeal (hXoDwIdeal := hXoDwIdeal) (hXoDwRefIdeal := hXoDwRefIdeal)
    ∧ preserves_Glu_GluIdeal
    ∧ algebraic_GluIdeal_GluRefIdeal (hGluIdeal := hGluIdeal) (hGluRefIdeal := hGluRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_Pool_PoolIdeal
    ∧ algebraic_PoolIdeal_PoolRefIdeal (hPoolIdeal := hPoolIdeal) (hPoolRefIdeal := hPoolRefIdeal)
    ∧ preserves_PoolDx_PoolDxIdeal
    ∧ algebraic_PoolDxIdeal_PoolDxRefIdeal (hPoolDxIdeal := hPoolDxIdeal) (hPoolDxRefIdeal := hPoolDxRefIdeal)
    ∧ preserves_PoolDw_PoolDwIdeal
    ∧ algebraic_PoolDwIdeal_PoolDwRefIdeal (hPoolDwIdeal := hPoolDwIdeal) (hPoolDwRefIdeal := hPoolDwRefIdeal)
    ∧ preserves_Xkv_XkvIdeal
    ∧ algebraic_XkvIdeal_XkvRefIdeal (hXkvIdeal := hXkvIdeal) (hXkvRefIdeal := hXkvRefIdeal)
    ∧ preserves_XkvDx_XkvDxIdeal
    ∧ algebraic_XkvDxIdeal_XkvDxRefIdeal (hXkvDxIdeal := hXkvDxIdeal) (hXkvDxRefIdeal := hXkvDxRefIdeal)
    ∧ preserves_XkvDw_XkvDwIdeal
    ∧ algebraic_XkvDwIdeal_XkvDwRefIdeal (hXkvDwIdeal := hXkvDwIdeal) (hXkvDwRefIdeal := hXkvDwRefIdeal)
    ∧ preserves_RmsDx_RmsDxIdeal
    ∧ algebraic_RmsDxIdeal_RmsDxRefIdeal (hRmsDxIdeal := hRmsDxIdeal) (hRmsDxRefIdeal := hRmsDxRefIdeal)
    ∧ preserves_MemNormDg_MemNormDgIdeal
    ∧ algebraic_MemNormDgIdeal_MemNormDgRefIdeal (hMemNormDgIdeal := hMemNormDgIdeal) (hMemNormDgRefIdeal := hMemNormDgRefIdeal)
    ∧ preserves_GateAb_GateAbIdeal
    ∧ algebraic_GateAbIdeal_GateAbRefIdeal (hGateAbIdeal := hGateAbIdeal) (hGateAbRefIdeal := hGateAbRefIdeal)
    ∧ preserves_GluGate_GluGateIdeal
    ∧ algebraic_GluGateIdeal_GluGateRefIdeal (hGluGateIdeal := hGluGateIdeal) (hGluGateRefIdeal := hGluGateRefIdeal)
    ∧ preserves_Gelu_GeluIdeal
    ∧ algebraic_GeluIdeal_GeluRefIdeal (hGeluIdeal := hGeluIdeal) (hGeluRefIdeal := hGeluRefIdeal)
    ∧ preserves_Bbar_BbarIdeal
    ∧ algebraic_BbarIdeal_BbarRefIdeal (hBbarIdeal := hBbarIdeal) (hBbarRefIdeal := hBbarRefIdeal)
    ∧ preserves_Prep_PrepIdeal
    ∧ algebraic_PrepIdeal_PrepRefIdeal (hPrepIdeal := hPrepIdeal) (hPrepRefIdeal := hPrepRefIdeal)
    ∧ preserves_UDx_UDxIdeal
    ∧ algebraic_UDxIdeal_UDxRefIdeal (hUDxIdeal := hUDxIdeal) (hUDxRefIdeal := hUDxRefIdeal)
    ∧ preserves_UDw_UDwIdeal
    ∧ algebraic_UDwIdeal_UDwRefIdeal (hUDwIdeal := hUDwIdeal) (hUDwRefIdeal := hUDwRefIdeal)
    ∧ preserves_YDx_YDxIdeal
    ∧ algebraic_YDxIdeal_YDxRefIdeal (hYDxIdeal := hYDxIdeal) (hYDxRefIdeal := hYDxRefIdeal)
    ∧ preserves_YDw_YDwIdeal
    ∧ algebraic_YDwIdeal_YDwRefIdeal (hYDwIdeal := hYDwIdeal) (hYDwRefIdeal := hYDwRefIdeal)
    ∧ preserves_U_UIdeal
    ∧ algebraic_UIdeal_URefIdeal (hUIdeal := hUIdeal) (hURefIdeal := hURefIdeal)
    ∧ preserves_Y_YIdeal
    ∧ algebraic_YIdeal_YRefIdeal (hYIdeal := hYIdeal) (hYRefIdeal := hYRefIdeal)
    ∧ preserves_Rms_RmsIdeal
    ∧ algebraic_RmsIdeal_RmsRefIdeal (hRmsIdeal := hRmsIdeal) (hRmsRefIdeal := hRmsRefIdeal)
    ∧ preserves_MemNorm_MemNormIdeal
    ∧ algebraic_MemNormIdeal_MemNormRefIdeal (hMemNormIdeal := hMemNormIdeal) (hMemNormRefIdeal := hMemNormRefIdeal)
    ∧ preserves_GateAbFwd_GateAbFwdIdeal
    ∧ algebraic_GateAbFwdIdeal_GateAbFwdRefIdeal (hGateAbFwdIdeal := hGateAbFwdIdeal) (hGateAbFwdRefIdeal := hGateAbFwdRefIdeal)
    ∧ preserves_GluGateFwd_GluGateFwdIdeal
    ∧ algebraic_GluGateFwdIdeal_GluGateFwdRefIdeal (hGluGateFwdIdeal := hGluGateFwdIdeal) (hGluGateFwdRefIdeal := hGluGateFwdRefIdeal)
    ∧ preserves_GeluFwd_GeluFwdIdeal
    ∧ algebraic_GeluFwdIdeal_GeluFwdRefIdeal (hGeluFwdIdeal := hGeluFwdIdeal) (hGeluFwdRefIdeal := hGeluFwdRefIdeal)
    ∧ preserves_BbarFwd_BbarFwdIdeal
    ∧ algebraic_BbarFwdIdeal_BbarFwdRefIdeal (hBbarFwdIdeal := hBbarFwdIdeal) (hBbarFwdRefIdeal := hBbarFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_SguFwd_SguFwdIdeal
    ∧ algebraic_SguFwdIdeal_SguFwdRefIdeal (hSguFwdIdeal := hSguFwdIdeal) (hSguFwdRefIdeal := hSguFwdRefIdeal)
    ∧ preserves_SguSides_SguSidesIdeal
    ∧ algebraic_SguSidesIdeal_SguSidesRefIdeal (hSguSidesIdeal := hSguSidesIdeal) (hSguSidesRefIdeal := hSguSidesRefIdeal)
-- ==== Pre_finite.lean ====
abbrev S2048x1024 : Shape := ⟨2, ![2048, 1024]⟩
abbrev S256x2048 : Shape := ⟨2, ![256, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S2048x1024 .bf16) (main_arg1 : FVec F S256x2048 .bf16) (main_arg2 : FVec F S2048x1024 .bf16) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S256x2048 .bf16 := Host.absf main_arg1
  let main_cst_0 : FVec F S_ .bf16 := constant S_ .bf16 0x7F80#16
  let main_v5 : FVec F S256x2048 .bf16 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048x1024 .bf16 := Host.absf main_arg2
  let main_cst_2 : FVec F S_ .bf16 := constant S_ .bf16 0x7F80#16
  let main_v10 : FVec F S2048x1024 .bf16 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S2048x1024 : Shape := ⟨2, ![2048, 1024]⟩
abbrev S256x2048 : Shape := ⟨2, ![256, 2048]⟩
abbrev S2048x256 : Shape := ⟨2, ![2048, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩

abbrev nBuf : Space → Nat
  | .hbm => 8
  | .vmem => 30
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S256x1024, .bf16⟩
  | .hbm, ⟨7, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .f32⟩
  | .local _ .vmem, ⟨21, _⟩ => ⟨S2048x256, .f32⟩
  | .local _ .vmem, ⟨22, _⟩ => ⟨S2048x256, .bf16⟩
  | .local _ .vmem, ⟨23, _⟩ => ⟨S2048x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x256, .bf16⟩
  | .local _ .vmem, ⟨28, _⟩ => ⟨S256x256, .f32⟩
  | .local _ .vmem, ⟨29, _⟩ => ⟨S256x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2048x1024 : Shape := ⟨2, ![2048, 1024]⟩
abbrev S256x2048 : Shape := ⟨2, ![256, 2048]⟩
abbrev S1x2048x4x256 : Shape := ⟨4, ![1, 2048, 4, 256]⟩
abbrev S1x256x2x4x256 : Shape := ⟨5, ![1, 256, 2, 4, 256]⟩
abbrev S1x256x1x4x256 : Shape := ⟨5, ![1, 256, 1, 4, 256]⟩
abbrev S1x256x4x256 : Shape := ⟨4, ![1, 256, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩
abbrev S256x1024 : Shape := ⟨2, ![256, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .f32⟩
  | .hbm, ⟨4, _⟩ => ⟨S256x2048, .f32⟩
  | .hbm, ⟨5, _⟩ => ⟨S2048x1024, .f32⟩
  | .hbm, ⟨6, _⟩ => ⟨S1x2048x4x256, .f32⟩
  | .hbm, ⟨7, _⟩ => ⟨S1x256x2x4x256, .f32⟩
  | .hbm, ⟨8, _⟩ => ⟨S1x256x1x4x256, .f32⟩
  | .hbm, ⟨9, _⟩ => ⟨S1x256x4x256, .f32⟩
  | .hbm, ⟨10, _⟩ => ⟨S1x256x1x4x256, .f32⟩
  | .hbm, ⟨11, _⟩ => ⟨S1x256x4x256, .f32⟩
  | .hbm, ⟨12, _⟩ => ⟨S1x4x2048x256, .f32⟩
  | .hbm, ⟨13, _⟩ => ⟨S_, .f32⟩
  | .hbm, ⟨14, _⟩ => ⟨S1x4x2048x256, .f32⟩
  | .hbm, ⟨15, _⟩ => ⟨S1x4x2048x256, .f32⟩
  | .hbm, ⟨16, _⟩ => ⟨S_, .f32⟩
  | .hbm, ⟨17, _⟩ => ⟨S1x4x2048, .f32⟩
  | .hbm, ⟨18, _⟩ => ⟨S1x4x2048x1, .f32⟩
  | .hbm, ⟨19, _⟩ => ⟨S1x4x2048x256, .f32⟩
  | .hbm, ⟨20, _⟩ => ⟨S1x4x2048x256, .i1⟩
  | .hbm, ⟨21, _⟩ => ⟨S1x4x2048x256, .f32⟩
  | .hbm, ⟨22, _⟩ => ⟨S_, .f32⟩
  | .hbm, ⟨23, _⟩ => ⟨S1x4x2048, .f32⟩
  | .hbm, ⟨24, _⟩ => ⟨S_, .f32⟩
  | .hbm, ⟨25, _⟩ => ⟨S1x4x2048, .f32⟩
  | .hbm, ⟨26, _⟩ => ⟨S1x4x2048, .f32⟩
  | .hbm, ⟨27, _⟩ => ⟨S_, .f32⟩
  | .hbm, ⟨28, _⟩ => ⟨S1x4x2048, .f32⟩
  | .hbm, ⟨29, _⟩ => ⟨S1x4x2048, .i1⟩
  | .hbm, ⟨30, _⟩ => ⟨S_, .f32⟩
  | .hbm, ⟨31, _⟩ => ⟨S1x4x2048, .f32⟩
  | .hbm, ⟨32, _⟩ => ⟨S1x4x2048, .i1⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S_, .f32⟩
  | .hbm, ⟨38, _⟩ => ⟨S1x4x2048, .f32⟩
  | .hbm, ⟨39, _⟩ => ⟨S1x4x2048, .f32⟩
  | .hbm, ⟨40, _⟩ => ⟨S1x4x2048, .f32⟩
  | .hbm, ⟨41, _⟩ => ⟨S1x4x2048x1, .f32⟩
  | .hbm, ⟨42, _⟩ => ⟨S1x4x2048x256, .f32⟩
  | .hbm, ⟨43, _⟩ => ⟨S1x4x2048x256, .f32⟩
  | .hbm, ⟨44, _⟩ => ⟨S1x4x2048x256, .f32⟩
  | .hbm, ⟨45, _⟩ => ⟨S_, .f32⟩
  | .hbm, ⟨46, _⟩ => ⟨S1x4x2048, .f32⟩
  | .hbm, ⟨47, _⟩ => ⟨S1x4x2048x1, .f32⟩
  | .hbm, ⟨48, _⟩ => ⟨S1x4x2048x256, .f32⟩
  | .hbm, ⟨49, _⟩ => ⟨S1x4x2048x256, .f32⟩
  | .hbm, ⟨50, _⟩ => ⟨S1x4x2048x1, .f32⟩
  | .hbm, ⟨51, _⟩ => ⟨S_, .f32⟩
  | .hbm, ⟨52, _⟩ => ⟨S1x4x2048x1, .f32⟩
  | .hbm, ⟨53, _⟩ => ⟨S1x4x2048x1, .f32⟩
  | .hbm, ⟨54, _⟩ => ⟨S1x4x256x2048, .f32⟩
  | .hbm, ⟨55, _⟩ => ⟨S1x2048x4x256, .f32⟩
  | .hbm, ⟨56, _⟩ => ⟨S2048x1024, .f32⟩
  | .hbm, ⟨57, _⟩ => ⟨S1x2048x4x256, .f32⟩
  | .hbm, ⟨58, _⟩ => ⟨S1x4x256x2048, .f32⟩
  | .hbm, ⟨59, _⟩ => ⟨S1x4x2048x256, .f32⟩
  | .hbm, ⟨60, _⟩ => ⟨S1x4x256x256, .f32⟩
  | .hbm, ⟨61, _⟩ => ⟨S1x256x4x256, .f32⟩
  | .hbm, ⟨62, _⟩ => ⟨S1x4x2048x256, .f32⟩
  | .hbm, ⟨63, _⟩ => ⟨S1x4x2048x256, .f32⟩
  | .hbm, ⟨64, _⟩ => ⟨S1x4x2048x256, .f32⟩
  | .hbm, ⟨65, _⟩ => ⟨S_, .f32⟩
  | .hbm, ⟨66, _⟩ => ⟨S1x4x2048, .f32⟩
  | .hbm, ⟨67, _⟩ => ⟨S1x4x2048x1, .f32⟩
  | .hbm, ⟨68, _⟩ => ⟨S1x4x2048x1, .f32⟩
  | .hbm, ⟨69, _⟩ => ⟨S1x4x2048x256, .f32⟩
  | .hbm, ⟨70, _⟩ => ⟨S1x4x2048x256, .f32⟩
  | .hbm, ⟨71, _⟩ => ⟨S_, .f32⟩
  | .hbm, ⟨72, _⟩ => ⟨S4x2048, .f32⟩
  | .hbm, ⟨73, _⟩ => ⟨S1x4x2048, .f32⟩
  | .hbm, ⟨74, _⟩ => ⟨S1x4x2048x256, .f32⟩
  | .hbm, ⟨75, _⟩ => ⟨S1x4x2048x256, .f32⟩
  | .hbm, ⟨76, _⟩ => ⟨S1x4x2048x256, .f32⟩
  | .hbm, ⟨77, _⟩ => ⟨S_, .f32⟩
  | .hbm, ⟨78, _⟩ => ⟨S1x4x2048x256, .f32⟩
  | .hbm, ⟨79, _⟩ => ⟨S1x4x2048x256, .f32⟩
  | .hbm, ⟨80, _⟩ => ⟨S1x4x256x256, .f32⟩
  | .hbm, ⟨81, _⟩ => ⟨S1x256x4x256, .f32⟩
  | .hbm, ⟨82, _⟩ => ⟨S1x4x2048x256, .f32⟩
  | .hbm, ⟨83, _⟩ => ⟨S1x2048x4x256, .f32⟩
  | .hbm, ⟨84, _⟩ => ⟨S1x256x1x4x256, .f32⟩
  | .hbm, ⟨85, _⟩ => ⟨S_, .f32⟩
  | .hbm, ⟨86, _⟩ => ⟨S1x256x2x4x256, .f32⟩
  | .hbm, ⟨87, _⟩ => ⟨S1x256x1x4x256, .f32⟩
  | .hbm, ⟨88, _⟩ => ⟨S_, .f32⟩
  | .hbm, ⟨89, _⟩ => ⟨S1x256x2x4x256, .f32⟩
  | .hbm, ⟨90, _⟩ => ⟨S1x256x2x4x256, .f32⟩
  | .hbm, ⟨91, _⟩ => ⟨S256x2048, .f32⟩
  | .hbm, ⟨92, _⟩ => ⟨S2048x1024, .f32⟩
  | .hbm, ⟨93, _⟩ => ⟨S2048x1024, .bf16⟩
  | .hbm, ⟨94, _⟩ => ⟨S256x1024, .f32⟩
  | .hbm, ⟨95, _⟩ => ⟨S256x1024, .bf16⟩
  | .hbm, ⟨96, _⟩ => ⟨S256x1024, .f32⟩
  | .hbm, ⟨97, _⟩ => ⟨S256x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== InAb.lean ====
abbrev S2048x1024 : Shape := ⟨2, ![2048, 1024]⟩
abbrev S8x1024x768 : Shape := ⟨3, ![8, 1024, 768]⟩
abbrev S2048x6144 : Shape := ⟨2, ![2048, 6144]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x768, .bf16⟩
  | .hbm, ⟨2, _⟩ => ⟨S2048x6144, .bf16⟩
  | .local _ .vmem, ⟨0, _⟩ => ⟨S2048x1024, .bf16⟩
  | .local _ .vmem, ⟨1, _⟩ => ⟨S1x1024x768, .bf16⟩
  | .local _ .vmem, ⟨2, _⟩ => ⟨S1x1024x768, .bf16⟩
  | .local _ .vmem, ⟨3, _⟩ => ⟨S2048x768, .bf16⟩
  | .local _ .vmem, ⟨4, _⟩ => ⟨S2048x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbRefIdeal.lean ====
abbrev S2048x1024 : Shape := ⟨2, ![2048, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x768, .bf16⟩
  | .hbm, ⟨2, _⟩ => ⟨S1024x8x768, .bf16⟩
  | .hbm, ⟨3, _⟩ => ⟨S1024x6144, .bf16⟩
  | .hbm, ⟨4, _⟩ => ⟨S2048x1024, .f32⟩
  | .hbm, ⟨5, _⟩ => ⟨S1024x6144, .f32⟩
  | .hbm, ⟨6, _⟩ => ⟨S2048x6144, .f32⟩
  | .hbm, ⟨7, _⟩ => ⟨S2048x6144, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InAbDx.lean ====
abbrev S2048x6144 : Shape := ⟨2, ![2048, 6144]⟩
abbrev S8x1024x768 : Shape := ⟨3, ![8, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S2048x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InAbDxRefIdeal.lean ====
abbrev S2048x6144 : Shape := ⟨2, ![2048, 6144]⟩
abbrev S8x1024x768 : Shape := ⟨3, ![8, 1024, 768]⟩
abbrev S1024x8x768 : Shape := ⟨3, ![1024, 8, 768]⟩
abbrev S1024x6144 : Shape := ⟨2, ![1024, 6144]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S1024x8x768, .bf16⟩
  | .hbm, ⟨3, _⟩ => ⟨S1024x6144, .bf16⟩
  | .hbm, ⟨4, _⟩ => ⟨S_, .f32⟩
  | .hbm, ⟨5, _⟩ => ⟨S2048x1024, .f32⟩
  | .hbm, ⟨6, _⟩ => ⟨S1024x6144, .f32⟩
  | .hbm, ⟨7, _⟩ => ⟨S2048x6144, .f32⟩
  | .hbm, ⟨8, _⟩ => ⟨S2048x6144, .f32⟩
  | .hbm, ⟨9, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InAbDw.lean ====
abbrev S2048x1024 : Shape := ⟨2, ![2048, 1024]⟩
abbrev S2048x6144 : Shape := ⟨2, ![2048, 6144]⟩
abbrev S8x1024x768 : Shape := ⟨3, ![8, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S8x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbDwRefIdeal.lean ====
abbrev S2048x1024 : Shape := ⟨2, ![2048, 1024]⟩
abbrev S2048x6144 : Shape := ⟨2, ![2048, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S_, .f32⟩
  | .hbm, ⟨3, _⟩ => ⟨S1024x6144, .f32⟩
  | .hbm, ⟨4, _⟩ => ⟨S2048x1024, .f32⟩
  | .hbm, ⟨5, _⟩ => ⟨S2048x6144, .f32⟩
  | .hbm, ⟨6, _⟩ => ⟨S2048x6144, .f32⟩
  | .hbm, ⟨7, _⟩ => ⟨S6144x1024, .f32⟩
  | .hbm, ⟨8, _⟩ => ⟨S1024x6144, .f32⟩
  | .hbm, ⟨9, _⟩ => ⟨S1024x8x768, .f32⟩
  | .hbm, ⟨10, _⟩ => ⟨S8x1024x768, .f32⟩
  | .hbm, ⟨11, _⟩ => ⟨S8x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InCd.lean ====
abbrev S2048x1024 : Shape := ⟨2, ![2048, 1024]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCdRefIdeal.lean ====
abbrev S2048x1024 : Shape := ⟨2, ![2048, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InCdDx.lean ====
abbrev S2048x4096 : Shape := ⟨2, ![2048, 4096]⟩
abbrev S8x1024x512 : Shape := ⟨3, ![8, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .f32⟩
  | .local _ .vmem, ⟨5, _⟩ => ⟨S2048x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InCdDxRefIdeal.lean ====
abbrev S2048x4096 : Shape := ⟨2, ![2048, 4096]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S_, .f32⟩
  | .hbm, ⟨5, _⟩ => ⟨S2048x1024, .f32⟩
  | .hbm, ⟨6, _⟩ => ⟨S1024x4096, .f32⟩
  | .hbm, ⟨7, _⟩ => ⟨S2048x4096, .f32⟩
  | .hbm, ⟨8, _⟩ => ⟨S2048x4096, .f32⟩
  | .hbm, ⟨9, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InCdDw.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCdDwRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutAb.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutAbRefIdeal.lean ====
abbrev S2048x2048 : Shape := ⟨2, ![2048, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutAbDx.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x2048, .f32⟩
  | .local _ .vmem, ⟨0, _⟩ => ⟨S2048x1024, .f32⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAbDxRefIdeal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutAbDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAbDwRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutCd.lean ====
abbrev S2048x1536 : Shape := ⟨2, ![2048, 1536]⟩
abbrev S1536x1024 : Shape := ⟨2, ![1536, 1024]⟩
abbrev S2048x1024 : Shape := ⟨2, ![2048, 1024]⟩
abbrev S1024x1536 : Shape := ⟨2, ![1024, 1536]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1536, .bf16⟩
  | .hbm, ⟨1, _⟩ => ⟨S1536x1024, .bf16⟩
  | .hbm, ⟨2, _⟩ => ⟨S2048x1024, .f32⟩
  | .hbm, ⟨3, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutCdRefIdeal.lean ====
abbrev S2048x1536 : Shape := ⟨2, ![2048, 1536]⟩
abbrev S1536x1024 : Shape := ⟨2, ![1536, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S1536x1024, .bf16⟩
  | .hbm, ⟨2, _⟩ => ⟨S2048x1024, .f32⟩
  | .hbm, ⟨3, _⟩ => ⟨S2048x1536, .f32⟩
  | .hbm, ⟨4, _⟩ => ⟨S1536x1024, .f32⟩
  | .hbm, ⟨5, _⟩ => ⟨S2048x1024, .f32⟩
  | .hbm, ⟨6, _⟩ => ⟨S2048x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutCdDx.lean ====
abbrev S2048x1024 : Shape := ⟨2, ![2048, 1024]⟩
abbrev S1536x1024 : Shape := ⟨2, ![1536, 1024]⟩
abbrev S2048x1536 : Shape := ⟨2, ![2048, 1536]⟩
abbrev S768x1024 : Shape := ⟨2, ![768, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1536x1024, .bf16⟩
  | .hbm, ⟨2, _⟩ => ⟨S2048x1536, .f32⟩
  | .local _ .vmem, ⟨0, _⟩ => ⟨S2048x1024, .f32⟩
  | .local _ .vmem, ⟨1, _⟩ => ⟨S768x1024, .bf16⟩
  | .local _ .vmem, ⟨2, _⟩ => ⟨S768x1024, .bf16⟩
  | .local _ .vmem, ⟨3, _⟩ => ⟨S2048x768, .f32⟩
  | .local _ .vmem, ⟨4, _⟩ => ⟨S2048x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutCdDxRefIdeal.lean ====
abbrev S2048x1024 : Shape := ⟨2, ![2048, 1024]⟩
abbrev S1536x1024 : Shape := ⟨2, ![1536, 1024]⟩
abbrev S_ : Shape := ⟨0, ![]⟩
abbrev S2048x1536 : Shape := ⟨2, ![2048, 1536]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1536x1024, .bf16⟩
  | .hbm, ⟨2, _⟩ => ⟨S_, .f32⟩
  | .hbm, ⟨3, _⟩ => ⟨S2048x1536, .f32⟩
  | .hbm, ⟨4, _⟩ => ⟨S1536x1024, .f32⟩
  | .hbm, ⟨5, _⟩ => ⟨S2048x1024, .f32⟩
  | .hbm, ⟨6, _⟩ => ⟨S2048x1536, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutCdDw.lean ====
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S1536x1024, .bf16⟩
  | .local _ .vmem, ⟨0, _⟩ => ⟨S2048x1536, .bf16⟩
  | .local _ .vmem, ⟨1, _⟩ => ⟨S2048x1024, .f32⟩
  | .local _ .vmem, ⟨2, _⟩ => ⟨S1536x1024, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutCdDwRefIdeal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S_, .f32⟩
  | .hbm, ⟨3, _⟩ => ⟨S1536x1024, .f32⟩
  | .hbm, ⟨4, _⟩ => ⟨S2048x1536, .f32⟩
  | .hbm, ⟨5, _⟩ => ⟨S2048x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Xq.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XqDx.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XqDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Xo.lean ====
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XoDx.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S2048x1024, .f32⟩
  | .local _ .vmem, ⟨1, _⟩ => ⟨S1024x1024, .bf16⟩
  | .local _ .vmem, ⟨2, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XoDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Glu.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x1024, .f32⟩
  | .local _ .vmem, ⟨0, _⟩ => ⟨S2048x512, .bf16⟩
  | .local _ .vmem, ⟨1, _⟩ => ⟨S512x1024, .bf16⟩
  | .local _ .vmem, ⟨2, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x512, .f32⟩
  | .hbm, ⟨3, _⟩ => ⟨S512x1024, .f32⟩
  | .hbm, ⟨4, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluDx.lean ====
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDxRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S_, .f32⟩
  | .hbm, ⟨3, _⟩ => ⟨S2048x512, .f32⟩
  | .hbm, ⟨4, _⟩ => ⟨S512x1024, .f32⟩
  | .hbm, ⟨5, _⟩ => ⟨S2048x1024, .f32⟩
  | .hbm, ⟨6, _⟩ => ⟨S2048x1024, .f32⟩
  | .hbm, ⟨7, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluDw.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pool.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PoolDx.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PoolDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Xkv.lean ====
abbrev S256x1024 : Shape := ⟨2, ![256, 1024]⟩
abbrev S8x1024x256 : Shape := ⟨3, ![8, 1024, 256]⟩
abbrev S256x2048 : Shape := ⟨2, ![256, 2048]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x2048, .bf16⟩
  | .local _ .vmem, ⟨0, _⟩ => ⟨S256x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S256x256, .bf16⟩
  | .local _ .vmem, ⟨4, _⟩ => ⟨S256x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S256x1024 : Shape := ⟨2, ![256, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S256x1024, .f32⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== XkvDx.lean ====
abbrev S256x2048 : Shape := ⟨2, ![256, 2048]⟩
abbrev S8x1024x256 : Shape := ⟨3, ![8, 1024, 256]⟩
abbrev S256x1024 : Shape := ⟨2, ![256, 1024]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S8x1024x256, .bf16⟩
  | .hbm, ⟨2, _⟩ => ⟨S256x1024, .f32⟩
  | .hbm, ⟨3, _⟩ => ⟨S256x1024, .f32⟩
  | .local _ .vmem, ⟨0, _⟩ => ⟨S256x256, .bf16⟩
  | .local _ .vmem, ⟨1, _⟩ => ⟨S256x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== XkvDxRefIdeal.lean ====
abbrev S256x2048 : Shape := ⟨2, ![256, 2048]⟩
abbrev S8x1024x256 : Shape := ⟨3, ![8, 1024, 256]⟩
abbrev S256x1024 : Shape := ⟨2, ![256, 1024]⟩
abbrev S1024x8x256 : Shape := ⟨3, ![1024, 8, 256]⟩
abbrev S1024x2048 : Shape := ⟨2, ![1024, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x1024x256, .bf16⟩
  | .hbm, ⟨2, _⟩ => ⟨S256x1024, .f32⟩
  | .hbm, ⟨3, _⟩ => ⟨S1024x8x256, .bf16⟩
  | .hbm, ⟨4, _⟩ => ⟨S1024x2048, .bf16⟩
  | .hbm, ⟨5, _⟩ => ⟨S_, .f32⟩
  | .hbm, ⟨6, _⟩ => ⟨S256x1024, .f32⟩
  | .hbm, ⟨7, _⟩ => ⟨S1024x2048, .f32⟩
  | .hbm, ⟨8, _⟩ => ⟨S256x2048, .f32⟩
  | .hbm, ⟨9, _⟩ => ⟨S256x2048, .f32⟩
  | .hbm, ⟨10, _⟩ => ⟨S256x1024, .f32⟩
  | .hbm, ⟨11, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== XkvDw.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S8x1024x256, .bf16⟩
  | .local _ .vmem, ⟨0, _⟩ => ⟨S256x1024, .bf16⟩
  | .local _ .vmem, ⟨1, _⟩ => ⟨S256x256, .bf16⟩
  | .local _ .vmem, ⟨2, _⟩ => ⟨S256x256, .bf16⟩
  | .local _ .vmem, ⟨3, _⟩ => ⟨S1x1024x256, .bf16⟩
  | .local _ .vmem, ⟨4, _⟩ => ⟨S1x1024x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDwRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RmsDx.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsDxRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MemNormDg.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormDgRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== GateAb.lean ====
abbrev S2048x1024 : Shape := ⟨2, ![2048, 1024]⟩
abbrev S2048x6144 : Shape := ⟨2, ![2048, 6144]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S1024 : Shape := ⟨1, ![1024]⟩

abbrev nBuf : Space → Nat
  | .hbm => 10
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x6144, .bf16⟩
  | .hbm, ⟨2, _⟩ => ⟨S2048x1024, .f32⟩
  | .hbm, ⟨3, _⟩ => ⟨S1x1024, .f32⟩
  | .hbm, ⟨4, _⟩ => ⟨S2048x2048, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S256x2048, .f32⟩
  | .local _ .vmem, ⟨10, _⟩ => ⟨S256x2048, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c5_i32 : BitVec 32 := 5#32
  let c0_i32_0 : BitVec 32 := 0#32
  ![v0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateAbRefIdeal.lean ====
abbrev S2048x1024 : Shape := ⟨2, ![2048, 1024]⟩
abbrev S2048x6144 : Shape := ⟨2, ![2048, 6144]⟩
abbrev S1x1024 : Shape := ⟨2, ![1, 1024]⟩
abbrev S2048x2048 : Shape := ⟨2, ![2048, 2048]⟩
abbrev S_ : Shape := ⟨0, ![]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6144, .bf16⟩
  | .hbm, ⟨2, _⟩ => ⟨S2048x1024, .f32⟩
  | .hbm, ⟨3, _⟩ => ⟨S1x1024, .f32⟩
  | .hbm, ⟨4, _⟩ => ⟨S2048x2048, .f32⟩
  | .hbm, ⟨5, _⟩ => ⟨S2048x6144, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x2048, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .bf16⟩
  | .hbm, ⟨61, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v7_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v7_1 : Ref sig .tc := ⟨.hbm, 35, rfl⟩
abbrev main_v7_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v14 : Ref sig .tc := ⟨.hbm, 46, rfl⟩
abbrev main_v15 : Ref sig .tc := ⟨.hbm, 47, rfl⟩
abbrev main_cst : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩

abbrev nD : Nat := 1
abbrev τ : Topo := Topo.v7x

variable {F : FTy → Type} [FloatOps F]
-- ==== GluGate.lean ====
abbrev S2048x1024 : Shape := ⟨2, ![2048, 1024]⟩
abbrev S2048x4096 : Shape := ⟨2, ![2048, 4096]⟩
abbrev S2048x1536 : Shape := ⟨2, ![2048, 1536]⟩
abbrev S2048x512 : Shape := ⟨2, ![2048, 512]⟩
abbrev S256x1024 : Shape := ⟨2, ![256, 1024]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S2048x1536, .f32⟩
  | .hbm, ⟨3, _⟩ => ⟨S2048x1024, .bf16⟩
  | .hbm, ⟨4, _⟩ => ⟨S2048x512, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let c0_i32_0 : BitVec 32 := 0#32
  ![v0.toNat, c7_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluGateRefIdeal.lean ====
abbrev S2048x1024 : Shape := ⟨2, ![2048, 1024]⟩
abbrev S2048x4096 : Shape := ⟨2, ![2048, 4096]⟩
abbrev S2048x1536 : Shape := ⟨2, ![2048, 1536]⟩
abbrev S2048x512 : Shape := ⟨2, ![2048, 512]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S2048x1536, .f32⟩
  | .hbm, ⟨3, _⟩ => ⟨S2048x512, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x1024, .f32⟩
  | .hbm, ⟨45, _⟩ => ⟨S2048x1024, .bf16⟩
  | .hbm, ⟨46, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v14_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v14_1 : Ref sig .tc := ⟨.hbm, 31, rfl⟩
abbrev main_v14_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Gelu.lean ====
abbrev S2048x512 : Shape := ⟨2, ![2048, 512]⟩
abbrev S2048x4096 : Shape := ⟨2, ![2048, 4096]⟩
abbrev S1x512 : Shape := ⟨2, ![1, 512]⟩
abbrev S256x512 : Shape := ⟨2, ![256, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x4096, .bf16⟩
  | .hbm, ⟨2, _⟩ => ⟨S1x512, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let c0_i32_0 : BitVec 32 := 0#32
  ![v0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GeluRefIdeal.lean ====
abbrev S2048x512 : Shape := ⟨2, ![2048, 512]⟩
abbrev S2048x4096 : Shape := ⟨2, ![2048, 4096]⟩
abbrev S1x512 : Shape := ⟨2, ![1, 512]⟩
abbrev S_ : Shape := ⟨0, ![]⟩
abbrev S512 : Shape := ⟨1, ![512]⟩

abbrev nBuf : Space → Nat
  | .hbm => 59
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4096, .bf16⟩
  | .hbm, ⟨2, _⟩ => ⟨S1x512, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Bbar.lean ====
abbrev S2048x16 : Shape := ⟨2, ![2048, 16]⟩
abbrev S2048x1 : Shape := ⟨2, ![2048, 1]⟩
abbrev S256x16 : Shape := ⟨2, ![256, 16]⟩
abbrev S256x1 : Shape := ⟨2, ![256, 1]⟩
abbrev S256 : Shape := ⟨1, ![256]⟩

abbrev nBuf : Space → Nat
  | .hbm => 10
  | .vmem => 20
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x1, .f32⟩
  | .hbm, ⟨3, _⟩ => ⟨S2048x1, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S2048x1, .f32⟩
  | .hbm, ⟨9, _⟩ => ⟨S2048x1, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x16, .f32⟩
  | .local _ .vmem, ⟨13, _⟩ => ⟨S256x16, .f32⟩
  | .local _ .vmem, ⟨14, _⟩ => ⟨S256x16, .f32⟩
  | .local _ .vmem, ⟨15, _⟩ => ⟨S256x16, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== BbarRefIdeal.lean ====
abbrev S2048x16 : Shape := ⟨2, ![2048, 16]⟩
abbrev S2048x1 : Shape := ⟨2, ![2048, 1]⟩
abbrev S_ : Shape := ⟨0, ![]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x1, .f32⟩
  | .hbm, ⟨3, _⟩ => ⟨S2048x1, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Prep.lean ====
abbrev S32x64 : Shape := ⟨2, ![32, 64]⟩
abbrev S32x1 : Shape := ⟨2, ![32, 1]⟩
abbrev S32 : Shape := ⟨1, ![32]⟩

abbrev nBuf : Space → Nat
  | .hbm => 10
  | .vmem => 10
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x1, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x1, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== PrepRefIdeal.lean ====
abbrev S32x64 : Shape := ⟨2, ![32, 64]⟩
abbrev S32x1 : Shape := ⟨2, ![32, 1]⟩
abbrev S_ : Shape := ⟨0, ![]⟩
abbrev S32 : Shape := ⟨1, ![32]⟩

abbrev nBuf : Space → Nat
  | .hbm => 108
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x1, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S32x64, .f32⟩
  | .hbm, ⟨62, _⟩ => ⟨S32x64, .f32⟩
  | .hbm, ⟨63, _⟩ => ⟨S_, .f32⟩
  | .hbm, ⟨64, _⟩ => ⟨S32x64, .f32⟩
  | .hbm, ⟨65, _⟩ => ⟨S32x64, .f32⟩
  | .hbm, ⟨66, _⟩ => ⟨S32x64, .f32⟩
  | .hbm, ⟨67, _⟩ => ⟨S32x64, .f32⟩
  | .hbm, ⟨68, _⟩ => ⟨S32x64, .f32⟩
  | .hbm, ⟨69, _⟩ => ⟨S32x64, .f32⟩
  | .hbm, ⟨70, _⟩ => ⟨S32x64, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S32x64, .f32⟩
  | .hbm, ⟨75, _⟩ => ⟨S32x64, .f32⟩
  | .hbm, ⟨76, _⟩ => ⟨S32x64, .f32⟩
  | .hbm, ⟨77, _⟩ => ⟨S32x64, .f32⟩
  | .hbm, ⟨78, _⟩ => ⟨S32x64, .f32⟩
  | .hbm, ⟨79, _⟩ => ⟨S32x64, .f32⟩
  | .hbm, ⟨80, _⟩ => ⟨S32x64, .f32⟩
  | .hbm, ⟨81, _⟩ => ⟨S32x64, .f32⟩
  | .hbm, ⟨82, _⟩ => ⟨S_, .f32⟩
  | .hbm, ⟨83, _⟩ => ⟨S32, .f32⟩
  | .hbm, ⟨84, _⟩ => ⟨S32x1, .f32⟩
  | .hbm, ⟨85, _⟩ => ⟨S32x64, .f32⟩
  | .hbm, ⟨86, _⟩ => ⟨S32x64, .f32⟩
  | .hbm, ⟨87, _⟩ => ⟨S32x64, .f32⟩
  | .hbm, ⟨88, _⟩ => ⟨S32x64, .f32⟩
  | .hbm, ⟨89, _⟩ => ⟨S32x64, .f32⟩
  | .hbm, ⟨90, _⟩ => ⟨S32x64, .f32⟩
  | .hbm, ⟨91, _⟩ => ⟨S32x64, .f32⟩
  | .hbm, ⟨92, _⟩ => ⟨S32x64, .f32⟩
  | .hbm, ⟨93, _⟩ => ⟨S32x64, .f32⟩
  | .hbm, ⟨94, _⟩ => ⟨S_, .f32⟩
  | .hbm, ⟨95, _⟩ => ⟨S32, .f32⟩
  | .hbm, ⟨96, _⟩ => ⟨S32x1, .f32⟩
  | .hbm, ⟨97, _⟩ => ⟨S32x1, .f32⟩
  | .hbm, ⟨98, _⟩ => ⟨S32x64, .f32⟩
  | .hbm, ⟨99, _⟩ => ⟨S32x64, .f32⟩
  | .hbm, ⟨100, _⟩ => ⟨S32x64, .f32⟩
  | .hbm, ⟨101, _⟩ => ⟨S32x64, .f32⟩
  | .hbm, ⟨102, _⟩ => ⟨S32x64, .f32⟩
  | .hbm, ⟨103, _⟩ => ⟨S_, .f32⟩
  | .hbm, ⟨104, _⟩ => ⟨S32, .f32⟩
  | .hbm, ⟨105, _⟩ => ⟨S32x1, .f32⟩
  | .hbm, ⟨106, _⟩ => ⟨S32x1, .f32⟩
  | .hbm, ⟨107, _⟩ => ⟨S32x1, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_2 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_3 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_cst_4 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_5 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]
-- ==== UDx.lean ====
abbrev S2048x4096 : Shape := ⟨2, ![2048, 4096]⟩
abbrev S512x1024 : Shape := ⟨2, ![512, 1024]⟩
abbrev S2048x512 : Shape := ⟨2, ![2048, 512]⟩
abbrev S128x512 : Shape := ⟨2, ![128, 512]⟩
abbrev S2048x128 : Shape := ⟨2, ![2048, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S512x1024, .bf16⟩
  | .hbm, ⟨2, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S128x512, .bf16⟩
  | .local _ .vmem, ⟨3, _⟩ => ⟨S128x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UDxRefIdeal.lean ====
abbrev S2048x4096 : Shape := ⟨2, ![2048, 4096]⟩
abbrev S512x1024 : Shape := ⟨2, ![512, 1024]⟩
abbrev S_ : Shape := ⟨0, ![]⟩
abbrev S2048x512 : Shape := ⟨2, ![2048, 512]⟩
abbrev S2048x4x128 : Shape := ⟨3, ![2048, 4, 128]⟩
abbrev S4x128x2x512 : Shape := ⟨4, ![4, 128, 2, 512]⟩
abbrev S4x2x512x2048 : Shape := ⟨4, ![4, 2, 512, 2048]⟩
abbrev S2048x2x4x512 : Shape := ⟨4, ![2048, 2, 4, 512]⟩
abbrev S4x2048x128 : Shape := ⟨3, ![4, 2048, 128]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S512x1024, .bf16⟩
  | .hbm, ⟨2, _⟩ => ⟨S_, .f32⟩
  | .hbm, ⟨3, _⟩ => ⟨S2048x512, .f32⟩
  | .hbm, ⟨4, _⟩ => ⟨S512x1024, .f32⟩
  | .hbm, ⟨5, _⟩ => ⟨S2048x4x128, .f32⟩
  | .hbm, ⟨6, _⟩ => ⟨S4x128x2x512, .f32⟩
  | .hbm, ⟨7, _⟩ => ⟨S4x2x512x2048, .f32⟩
  | .hbm, ⟨8, _⟩ => ⟨S2048x2x4x512, .f32⟩
  | .hbm, ⟨9, _⟩ => ⟨S2048x4096, .f32⟩
  | .hbm, ⟨10, _⟩ => ⟨S2048x2x4x512, .f32⟩
  | .hbm, ⟨11, _⟩ => ⟨S4x2x512x2048, .f32⟩
  | .hbm, ⟨12, _⟩ => ⟨S4x2048x128, .f32⟩
  | .hbm, ⟨13, _⟩ => ⟨S2048x4x128, .f32⟩
  | .hbm, ⟨14, _⟩ => ⟨S2048x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== UDw.lean ====
abbrev S2048x4096 : Shape := ⟨2, ![2048, 4096]⟩
abbrev S512x1024 : Shape := ⟨2, ![512, 1024]⟩
abbrev S1024x128 : Shape := ⟨2, ![1024, 128]⟩
abbrev S1024x512 : Shape := ⟨2, ![1024, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .f32⟩
  | .hbm, ⟨2, _⟩ => ⟨S512x1024, .f32⟩
  | .local _ .vmem, ⟨0, _⟩ => ⟨S1024x128, .bf16⟩
  | .local _ .vmem, ⟨1, _⟩ => ⟨S1024x128, .bf16⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg1
  let v1 : BitVec 32 := Scalar.addi v0 arg0
  let c0_i32 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UDwRefIdeal.lean ====
abbrev S2048x4096 : Shape := ⟨2, ![2048, 4096]⟩
abbrev S_ : Shape := ⟨0, ![]⟩
abbrev S512x1024 : Shape := ⟨2, ![512, 1024]⟩
abbrev S2048x512 : Shape := ⟨2, ![2048, 512]⟩
abbrev S2048x4x128 : Shape := ⟨3, ![2048, 4, 128]⟩
abbrev S4x128x2x512 : Shape := ⟨4, ![4, 128, 2, 512]⟩
abbrev S4x2x512x2048 : Shape := ⟨4, ![4, 2, 512, 2048]⟩
abbrev S2048x2x4x512 : Shape := ⟨4, ![2048, 2, 4, 512]⟩
abbrev S4x2x512x128 : Shape := ⟨4, ![4, 2, 512, 128]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .f32⟩
  | .hbm, ⟨2, _⟩ => ⟨S_, .f32⟩
  | .hbm, ⟨3, _⟩ => ⟨S512x1024, .f32⟩
  | .hbm, ⟨4, _⟩ => ⟨S2048x512, .bf16⟩
  | .hbm, ⟨5, _⟩ => ⟨S2048x512, .f32⟩
  | .hbm, ⟨6, _⟩ => ⟨S2048x4x128, .f32⟩
  | .hbm, ⟨7, _⟩ => ⟨S4x128x2x512, .f32⟩
  | .hbm, ⟨8, _⟩ => ⟨S4x2x512x2048, .f32⟩
  | .hbm, ⟨9, _⟩ => ⟨S2048x2x4x512, .f32⟩
  | .hbm, ⟨10, _⟩ => ⟨S2048x4096, .f32⟩
  | .hbm, ⟨11, _⟩ => ⟨S2048x2x4x512, .f32⟩
  | .hbm, ⟨12, _⟩ => ⟨S4x2x512x2048, .f32⟩
  | .hbm, ⟨13, _⟩ => ⟨S4x2x512x128, .f32⟩
  | .hbm, ⟨14, _⟩ => ⟨S4x128x2x512, .f32⟩
  | .hbm, ⟨15, _⟩ => ⟨S512x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== YDx.lean ====
abbrev S2048x512 : Shape := ⟨2, ![2048, 512]⟩
abbrev S4096x128 : Shape := ⟨2, ![4096, 128]⟩
abbrev S2048x4096 : Shape := ⟨2, ![2048, 4096]⟩
abbrev S2048x128 : Shape := ⟨2, ![2048, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S4096x128, .bf16⟩
  | .hbm, ⟨2, _⟩ => ⟨S2048x4096, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YDxRefIdeal.lean ====
abbrev S2048x512 : Shape := ⟨2, ![2048, 512]⟩
abbrev S4096x128 : Shape := ⟨2, ![4096, 128]⟩
abbrev S_ : Shape := ⟨0, ![]⟩
abbrev S2048x4096 : Shape := ⟨2, ![2048, 4096]⟩
abbrev S2048x2x4x512 : Shape := ⟨4, ![2048, 2, 4, 512]⟩
abbrev S2x4x512x128 : Shape := ⟨4, ![2, 4, 512, 128]⟩
abbrev S4x128x2048 : Shape := ⟨3, ![4, 128, 2048]⟩
abbrev S2048x4x128 : Shape := ⟨3, ![2048, 4, 128]⟩
abbrev S4x2048x2x512 : Shape := ⟨4, ![4, 2048, 2, 512]⟩

abbrev nBuf : Space → Nat
  | .hbm => 16
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4096x128, .bf16⟩
  | .hbm, ⟨2, _⟩ => ⟨S_, .f32⟩
  | .hbm, ⟨3, _⟩ => ⟨S2048x4096, .f32⟩
  | .hbm, ⟨4, _⟩ => ⟨S4096x128, .f32⟩
  | .hbm, ⟨5, _⟩ => ⟨S2048x2x4x512, .f32⟩
  | .hbm, ⟨6, _⟩ => ⟨S2x4x512x128, .f32⟩
  | .hbm, ⟨7, _⟩ => ⟨S4x128x2048, .f32⟩
  | .hbm, ⟨8, _⟩ => ⟨S2048x4x128, .f32⟩
  | .hbm, ⟨9, _⟩ => ⟨S2048x512, .f32⟩
  | .hbm, ⟨10, _⟩ => ⟨S2048x512, .f32⟩
  | .hbm, ⟨11, _⟩ => ⟨S2048x4x128, .f32⟩
  | .hbm, ⟨12, _⟩ => ⟨S4x128x2048, .f32⟩
  | .hbm, ⟨13, _⟩ => ⟨S4x2048x2x512, .f32⟩
  | .hbm, ⟨14, _⟩ => ⟨S2048x2x4x512, .f32⟩
  | .hbm, ⟨15, _⟩ => ⟨S2048x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== YDw.lean ====
abbrev S2048x4096 : Shape := ⟨2, ![2048, 4096]⟩
abbrev S2048x512 : Shape := ⟨2, ![2048, 512]⟩
abbrev S4096x128 : Shape := ⟨2, ![4096, 128]⟩
abbrev S1024x512 : Shape := ⟨2, ![1024, 512]⟩
abbrev S1024x128 : Shape := ⟨2, ![1024, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x512, .bf16⟩
  | .hbm, ⟨2, _⟩ => ⟨S4096x128, .f32⟩
  | .local _ .vmem, ⟨0, _⟩ => ⟨S1024x512, .f32⟩
  | .local _ .vmem, ⟨1, _⟩ => ⟨S1024x512, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YDwRefIdeal.lean ====
abbrev S2048x4096 : Shape := ⟨2, ![2048, 4096]⟩
abbrev S2048x512 : Shape := ⟨2, ![2048, 512]⟩
abbrev S_ : Shape := ⟨0, ![]⟩
abbrev S4096x128 : Shape := ⟨2, ![4096, 128]⟩
abbrev S2048x2x4x512 : Shape := ⟨4, ![2048, 2, 4, 512]⟩
abbrev S2x4x512x128 : Shape := ⟨4, ![2, 4, 512, 128]⟩
abbrev S4x128x2048 : Shape := ⟨3, ![4, 128, 2048]⟩
abbrev S2048x4x128 : Shape := ⟨3, ![2048, 4, 128]⟩
abbrev S4x128x2x512 : Shape := ⟨4, ![4, 128, 2, 512]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x512, .bf16⟩
  | .hbm, ⟨2, _⟩ => ⟨S_, .f32⟩
  | .hbm, ⟨3, _⟩ => ⟨S4096x128, .f32⟩
  | .hbm, ⟨4, _⟩ => ⟨S2048x2x4x512, .f32⟩
  | .hbm, ⟨5, _⟩ => ⟨S2x4x512x128, .f32⟩
  | .hbm, ⟨6, _⟩ => ⟨S4x128x2048, .f32⟩
  | .hbm, ⟨7, _⟩ => ⟨S2048x4x128, .f32⟩
  | .hbm, ⟨8, _⟩ => ⟨S2048x512, .f32⟩
  | .hbm, ⟨9, _⟩ => ⟨S2048x512, .f32⟩
  | .hbm, ⟨10, _⟩ => ⟨S2048x4x128, .f32⟩
  | .hbm, ⟨11, _⟩ => ⟨S4x128x2048, .f32⟩
  | .hbm, ⟨12, _⟩ => ⟨S4x128x2x512, .f32⟩
  | .hbm, ⟨13, _⟩ => ⟨S2x4x512x128, .f32⟩
  | .hbm, ⟨14, _⟩ => ⟨S4096x128, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== U.lean ====
abbrev S2048x4096 : Shape := ⟨2, ![2048, 4096]⟩
abbrev S512x1024 : Shape := ⟨2, ![512, 1024]⟩
abbrev S2048x128 : Shape := ⟨2, ![2048, 128]⟩
abbrev S128x512 : Shape := ⟨2, ![128, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S512x1024, .bf16⟩
  | .hbm, ⟨2, _⟩ => ⟨S2048x4096, .f32⟩
  | .local _ .vmem, ⟨0, _⟩ => ⟨S2048x128, .bf16⟩
  | .local _ .vmem, ⟨1, _⟩ => ⟨S2048x128, .bf16⟩
  | .local _ .vmem, ⟨2, _⟩ => ⟨S128x512, .bf16⟩
  | .local _ .vmem, ⟨3, _⟩ => ⟨S128x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c24_i32 : BitVec 32 := 24#32
  let v10 : BitVec 32 := Scalar.addi c24_i32 v9
  let c0_i32_3 : BitVec 32 := 0#32
  let c0_i32_4 : BitVec 32 := 0#32
  ![c0_i32_3.toNat, v10.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== URefIdeal.lean ====
abbrev S2048x4096 : Shape := ⟨2, ![2048, 4096]⟩
abbrev S512x1024 : Shape := ⟨2, ![512, 1024]⟩
abbrev S2048x512 : Shape := ⟨2, ![2048, 512]⟩
abbrev S2048x4x128 : Shape := ⟨3, ![2048, 4, 128]⟩
abbrev S4x128x2x512 : Shape := ⟨4, ![4, 128, 2, 512]⟩
abbrev S4x2x512x2048 : Shape := ⟨4, ![4, 2, 512, 2048]⟩
abbrev S2048x2x4x512 : Shape := ⟨4, ![2048, 2, 4, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S512x1024, .bf16⟩
  | .hbm, ⟨2, _⟩ => ⟨S2048x512, .bf16⟩
  | .hbm, ⟨3, _⟩ => ⟨S2048x512, .f32⟩
  | .hbm, ⟨4, _⟩ => ⟨S512x1024, .f32⟩
  | .hbm, ⟨5, _⟩ => ⟨S2048x4x128, .f32⟩
  | .hbm, ⟨6, _⟩ => ⟨S4x128x2x512, .f32⟩
  | .hbm, ⟨7, _⟩ => ⟨S4x2x512x2048, .f32⟩
  | .hbm, ⟨8, _⟩ => ⟨S2048x2x4x512, .f32⟩
  | .hbm, ⟨9, _⟩ => ⟨S2048x4096, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Y.lean ====
abbrev S2048x4096 : Shape := ⟨2, ![2048, 4096]⟩
abbrev S4096x128 : Shape := ⟨2, ![4096, 128]⟩
abbrev S2048x512 : Shape := ⟨2, ![2048, 512]⟩
abbrev S512x128 : Shape := ⟨2, ![512, 128]⟩
abbrev S2048x128 : Shape := ⟨2, ![2048, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x128, .bf16⟩
  | .hbm, ⟨2, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S512x128, .bf16⟩
  | .local _ .vmem, ⟨3, _⟩ => ⟨S512x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YRefIdeal.lean ====
abbrev S2048x4096 : Shape := ⟨2, ![2048, 4096]⟩
abbrev S4096x128 : Shape := ⟨2, ![4096, 128]⟩
abbrev S2048x2x4x512 : Shape := ⟨4, ![2048, 2, 4, 512]⟩
abbrev S2x4x512x128 : Shape := ⟨4, ![2, 4, 512, 128]⟩
abbrev S4x128x2048 : Shape := ⟨3, ![4, 128, 2048]⟩
abbrev S2048x4x128 : Shape := ⟨3, ![2048, 4, 128]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x128, .bf16⟩
  | .hbm, ⟨2, _⟩ => ⟨S4096x128, .f32⟩
  | .hbm, ⟨3, _⟩ => ⟨S2048x2x4x512, .f32⟩
  | .hbm, ⟨4, _⟩ => ⟨S2x4x512x128, .f32⟩
  | .hbm, ⟨5, _⟩ => ⟨S4x128x2048, .f32⟩
  | .hbm, ⟨6, _⟩ => ⟨S2048x4x128, .f32⟩
  | .hbm, ⟨7, _⟩ => ⟨S2048x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Rms.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNorm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateAbFwd.lean ====
abbrev S2048x1024 : Shape := ⟨2, ![2048, 1024]⟩
abbrev S2048x6144 : Shape := ⟨2, ![2048, 6144]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x6144, .bf16⟩
  | .hbm, ⟨2, _⟩ => ⟨S2048x1024, .f32⟩
  | .hbm, ⟨3, _⟩ => ⟨S1x1024, .f32⟩
  | .hbm, ⟨4, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S256x2048, .bf16⟩
  | .local _ .vmem, ⟨10, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c5_i32 : BitVec 32 := 5#32
  let c0_i32_0 : BitVec 32 := 0#32
  ![v0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateAbFwdRefIdeal.lean ====
abbrev S2048x1024 : Shape := ⟨2, ![2048, 1024]⟩
abbrev S2048x6144 : Shape := ⟨2, ![2048, 6144]⟩
abbrev S1x1024 : Shape := ⟨2, ![1, 1024]⟩
abbrev S_ : Shape := ⟨0, ![]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6144, .bf16⟩
  | .hbm, ⟨2, _⟩ => ⟨S2048x1024, .f32⟩
  | .hbm, ⟨3, _⟩ => ⟨S1x1024, .f32⟩
  | .hbm, ⟨4, _⟩ => ⟨S2048x6144, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x2048, .f32⟩
  | .hbm, ⟨30, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== GluGateFwd.lean ====
abbrev S2048x1024 : Shape := ⟨2, ![2048, 1024]⟩
abbrev S2048x4096 : Shape := ⟨2, ![2048, 4096]⟩
abbrev S2048x512 : Shape := ⟨2, ![2048, 512]⟩
abbrev S256x1024 : Shape := ⟨2, ![256, 1024]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S2048x512, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let c0_i32_0 : BitVec 32 := 0#32
  ![v0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluGateFwdRefIdeal.lean ====
abbrev S2048x1024 : Shape := ⟨2, ![2048, 1024]⟩
abbrev S2048x4096 : Shape := ⟨2, ![2048, 4096]⟩
abbrev S2048x512 : Shape := ⟨2, ![2048, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S2048x512, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== GeluFwd.lean ====
abbrev S2048x512 : Shape := ⟨2, ![2048, 512]⟩
abbrev S2048x4096 : Shape := ⟨2, ![2048, 4096]⟩
abbrev S1x512 : Shape := ⟨2, ![1, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x4096, .bf16⟩
  | .hbm, ⟨2, _⟩ => ⟨S1x512, .f32⟩
  | .hbm, ⟨3, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let c0_i32_0 : BitVec 32 := 0#32
  ![v0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GeluFwdRefIdeal.lean ====
abbrev S2048x512 : Shape := ⟨2, ![2048, 512]⟩
abbrev S2048x4096 : Shape := ⟨2, ![2048, 4096]⟩
abbrev S1x512 : Shape := ⟨2, ![1, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4096, .bf16⟩
  | .hbm, ⟨2, _⟩ => ⟨S1x512, .f32⟩
  | .hbm, ⟨3, _⟩ => ⟨S2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== BbarFwd.lean ====
abbrev S2048x16 : Shape := ⟨2, ![2048, 16]⟩
abbrev S2048x1 : Shape := ⟨2, ![2048, 1]⟩
abbrev S256x16 : Shape := ⟨2, ![256, 16]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x1, .f32⟩
  | .hbm, ⟨3, _⟩ => ⟨S2048x1, .f32⟩
  | .hbm, ⟨4, _⟩ => ⟨S2048x16, .f32⟩
  | .hbm, ⟨5, _⟩ => ⟨S2048x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BbarFwdRefIdeal.lean ====
abbrev S2048x16 : Shape := ⟨2, ![2048, 16]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2048x16, .f32⟩
  | .hbm, ⟨2, _⟩ => ⟨S2048x1, .f32⟩
  | .hbm, ⟨3, _⟩ => ⟨S2048x1, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x16, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PrepFwd.lean ====
abbrev S32x64 : Shape := ⟨2, ![32, 64]⟩
abbrev S32x1 : Shape := ⟨2, ![32, 1]⟩

abbrev nBuf : Space → Nat
  | .hbm => 7
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PrepFwdRefIdeal.lean ====
abbrev S32x64 : Shape := ⟨2, ![32, 64]⟩
abbrev S32x1 : Shape := ⟨2, ![32, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x1, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S_, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== SguFwd.lean ====
abbrev S2048x4096 : Shape := ⟨2, ![2048, 4096]⟩
abbrev S1x1024 : Shape := ⟨2, ![1, 1024]⟩
abbrev S4x128x128 : Shape := ⟨3, ![4, 128, 128]⟩
abbrev S4x128x1 : Shape := ⟨3, ![4, 128, 1]⟩
abbrev S2048x1024 : Shape := ⟨2, ![2048, 1024]⟩
abbrev S128x1024 : Shape := ⟨2, ![128, 1024]⟩
abbrev S128x256 : Shape := ⟨2, ![128, 256]⟩
abbrev S1x256 : Shape := ⟨2, ![1, 256]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 6
  | .vmem => 12
  | .smem => 0
  | _ => 0

abbrev bufTy : (tb : Table) → Fin (tcTables nBuf tb) → BufTy
  | .hbm, ⟨0, _⟩ => ⟨S2048x4096, .bf16⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128x1, .f32⟩
  | .hbm, ⟨5, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S4x128x128, .f32⟩
  | .local _ .vmem, ⟨9, _⟩ => ⟨S4x128x1, .f32⟩
  | .local _ .vmem, ⟨10, _⟩ => ⟨S128x1024, .bf16⟩
  | .local _ .vmem, ⟨11, _⟩ => ⟨S128x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguFwdRefIdeal.lean ====
abbrev S2048x4096 : Shape := ⟨2, ![2048, 4096]⟩
abbrev S1x1024 : Shape := ⟨2, ![1, 1024]⟩
abbrev S4x128x128 : Shape := ⟨3, ![4, 128, 128]⟩
abbrev S4x128x1 : Shape := ⟨3, ![4, 128, 1]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S16x128x4x256 : Shape := ⟨4, ![16, 128, 4, 256]⟩
abbrev S128x128 : Shape := ⟨2, ![128, 128]⟩
abbrev S1x128x128 : Shape := ⟨3, ![1, 128, 128]⟩
abbrev S4x16x256x128 : Shape := ⟨4, ![4, 16, 256, 128]⟩
abbrev S4x128 : Shape := ⟨2, ![4, 128]⟩
abbrev S128x4 : Shape := ⟨2, ![128, 4]⟩
abbrev S1x128x4x1 : Shape := ⟨4, ![1, 128, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128x1, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S16x128x4x256, .f32⟩
  | .hbm, ⟨37, _⟩ => ⟨S_, .i1⟩
  | .hbm, ⟨38, _⟩ => ⟨S128x128, .i1⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S_, .i1⟩
  | .hbm, ⟨46, _⟩ => ⟨S128x128, .i1⟩
  | .hbm, ⟨47, _⟩ => ⟨S128x128, .i1⟩
  | .hbm, ⟨48, _⟩ => ⟨S1x128x128, .i1⟩
  | .hbm, ⟨49, _⟩ => ⟨S_, .f32⟩
  | .hbm, ⟨50, _⟩ => ⟨S4x128x128, .f32⟩
  | .hbm, ⟨51, _⟩ => ⟨S4x128x128, .i1⟩
  | .hbm, ⟨52, _⟩ => ⟨S4x128x128, .f32⟩
  | .hbm, ⟨53, _⟩ => ⟨S4x16x256x128, .f32⟩
  | .hbm, ⟨54, _⟩ => ⟨S16x128x4x256, .f32⟩
  | .hbm, ⟨55, _⟩ => ⟨S4x128, .f32⟩
  | .hbm, ⟨56, _⟩ => ⟨S128x4, .f32⟩
  | .hbm, ⟨57, _⟩ => ⟨S1x128x4x1, .f32⟩
  | .hbm, ⟨58, _⟩ => ⟨S16x128x4x256, .f32⟩
  | .hbm, ⟨59, _⟩ => ⟨S16x128x4x256, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]
-- ==== SguSides.lean ====
abbrev S2048x4096 : Shape := ⟨2, ![2048, 4096]⟩
abbrev S1x1024 : Shape := ⟨2, ![1, 1024]⟩
abbrev S4x128x128 : Shape := ⟨3, ![4, 128, 128]⟩
abbrev S4x128x1 : Shape := ⟨3, ![4, 128, 1]⟩
abbrev S2048x1536 : Shape := ⟨2, ![2048, 1536]⟩
abbrev S2048x1024 : Shape := ⟨2, ![2048, 1024]⟩
abbrev S128x1024 : Shape := ⟨2, ![128, 1024]⟩
abbrev S128x256 : Shape := ⟨2, ![128, 256]⟩
abbrev S1x256 : Shape := ⟨2, ![1, 256]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S256x128 : Shape := ⟨2, ![256, 128]⟩
abbrev S256 : Shape := ⟨1, ![256]⟩

abbrev nBuf : Space → Nat
  | .hbm => 13
  | .vmem => 22
  | .smem => 0
  | _ => 0

abbrev bufTy : (tb : Table) → Fin (tcTables nBuf tb) → BufTy
  | .hbm, ⟨0, _⟩ => ⟨S2048x4096, .bf16⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128x1, .f32⟩
  | .hbm, ⟨5, _⟩ => ⟨S2048x1536, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1x1024, .f32⟩
  | .hbm, ⟨10, _⟩ => ⟨S1x1024, .f32⟩
  | .hbm, ⟨11, _⟩ => ⟨S4x128x128, .f32⟩
  | .hbm, ⟨12, _⟩ => ⟨S4x128x1, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S4x128x128, .f32⟩
  | .local _ .vmem, ⟨9, _⟩ => ⟨S4x128x1, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S1x1024, .f32⟩
  | .local _ .vmem, ⟨19, _⟩ => ⟨S1x1024, .f32⟩
  | .local _ .vmem, ⟨20, _⟩ => ⟨S4x128x128, .f32⟩
  | .local _ .vmem, ⟨21, _⟩ => ⟨S4x128x1, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SguSidesRefIdeal.lean ====
abbrev S2048x4096 : Shape := ⟨2, ![2048, 4096]⟩
abbrev S1x1024 : Shape := ⟨2, ![1, 1024]⟩
abbrev S4x128x128 : Shape := ⟨3, ![4, 128, 128]⟩
abbrev S4x128x1 : Shape := ⟨3, ![4, 128, 1]⟩
abbrev S2048x1536 : Shape := ⟨2, ![2048, 1536]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S16x128x4x256 : Shape := ⟨4, ![16, 128, 4, 256]⟩
abbrev S128x128 : Shape := ⟨2, ![128, 128]⟩
abbrev S1x128x128 : Shape := ⟨3, ![1, 128, 128]⟩
abbrev S4x16x256x128 : Shape := ⟨4, ![4, 16, 256, 128]⟩
abbrev S4x128 : Shape := ⟨2, ![4, 128]⟩
abbrev S128x4 : Shape := ⟨2, ![128, 4]⟩
abbrev S1x128x4x1 : Shape := ⟨4, ![1, 128, 4, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128x1, .f32⟩
  | .hbm, ⟨5, _⟩ => ⟨S2048x1536, .f32⟩
  | .hbm, ⟨6, _⟩ => ⟨S2048x4096, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S16x128x4x256, .f32⟩
  | .hbm, ⟨38, _⟩ => ⟨S_, .i1⟩
  | .hbm, ⟨39, _⟩ => ⟨S128x128, .i1⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .i1⟩
  | .hbm, ⟨47, _⟩ => ⟨S128x128, .i1⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S4x128x128, .f32⟩
  | .hbm, ⟨52, _⟩ => ⟨S4x128x128, .i1⟩
  | .hbm, ⟨53, _⟩ => ⟨S4x128x128, .f32⟩
  | .hbm, ⟨54, _⟩ => ⟨S4x16x256x128, .f32⟩
  | .hbm, ⟨55, _⟩ => ⟨S16x128x4x256, .f32⟩
  | .hbm, ⟨56, _⟩ => ⟨S4x128, .f32⟩
  | .hbm, ⟨57, _⟩ => ⟨S128x4, .f32⟩
  | .hbm, ⟨58, _⟩ => ⟨S1x128x4x1, .f32⟩
  | .hbm, ⟨59, _⟩ => ⟨S16x128x4x256, .f32⟩
  | .hbm, ⟨60, _⟩ => ⟨S16x128x4x256, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .bf16⟩
  | .hbm, ⟨86, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_v41_2 : Ref sig .tc := ⟨.hbm, 70, rfl⟩
abbrev main_call2_cst_1 : Ref sig .tc := ⟨.hbm, 71, rfl⟩
abbrev main_call2_v6 : Ref sig .tc := ⟨.hbm, 72, rfl⟩
abbrev main_call2_v7 : Ref sig .tc := ⟨.hbm, 73, rfl⟩
abbrev main_v41_1 : Ref sig .tc := ⟨.hbm, 74, rfl⟩
abbrev main_v41_0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩

abbrev nD : Nat := 1
abbrev τ : Topo := Topo.v7x

variable {F : FTy → Type} [FloatOps F]
-- ==== Proof.Reals.lean ====
module

public import Idealize.ShloMosaic.PureOps.Ideal.Laws
public import Idealize.ShloMosaic.Lib.IdealHost
public import Idealize.ShloMosaic.Lib.Pointwise

@[expose] public section

noncomputable section

namespace Cert.Reals

open Idealize.ShloMosaic

/-- A finite sum of real numbers read as extended reals is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The largest of a nonempty finite family of real numbers, started from minus infinity, is a real number. -/
theorem fold_max_real {n : ℕ} (f : Fin (n + 1) → ℝ) :
    ∃ M : ℝ, Finset.univ.fold max (⊥ : EReal) (fun i => (f i : EReal)) = M := by
  have key : ∀ s : Finset (Fin (n + 1)), s.fold max (⊥ : EReal) (fun i => (f i : EReal)) = ⊥ ∧ s = ∅ ∨
      ∃ M : ℝ, s.fold max (⊥ : EReal) (fun i => (f i : EReal)) = M := by
    intro s
    induction s using Finset.induction_on with
    | empty => left; simp
    | insert a s h ih =>
      right
      rw [Finset.fold_insert h]
      rcases ih with ⟨e, -⟩ | ⟨M, e⟩
      · exact ⟨f a, by rw [e]; simp⟩
      · exact ⟨max (f a) M, by rw [e]; exact (EReal.coe_strictMono.monotone.map_max).symm⟩
  rcases key Finset.univ with ⟨-, e⟩ | h
  · exact absurd e (Finset.univ_nonempty.ne_empty)
  · exact h

/-- An extended real whose absolute value is below plus infinity is a real number. -/
theorem real_of_abs_lt {x : EReal} (h : max x (-x) < ⊤) : ((x.toReal : ℝ) : EReal) = x := by
  refine EReal.coe_toReal ?_ ?_
  · rintro rfl; simp at h
  · rintro rfl; simp at h

/-- Division of real numbers with a nonzero divisor, read as extended reals. -/
theorem div_real {a b : ℝ} (hb : b ≠ 0) : Ideal.div (a : EReal) (b : EReal) = ((a / b : ℝ) : EReal) := by
  rw [Ideal.div_coe hb, ← EReal.coe_mul, mul_one_div]

theorem exp_real (a : ℝ) : Ideal.exp (a : EReal) = (Real.exp a : EReal) := rfl

theorem log_real {a : ℝ} (h : 0 < a) : Ideal.log (a : EReal) = (Real.log a : EReal) := by
  show (if a ≤ 0 then (⊥ : EReal) else (Real.log a : EReal)) = _
  rw [if_neg (not_le.mpr h)]

/-- The pattern of 0.0625 denotes 1/16. -/
theorem sixteenth : Ideal.ofBits .f32 0x3D800000#32 = ((1 / 16 : ℝ) : EReal) := by
  simp [Ideal.ofBits, Ideal.ieee, -EReal.coe_mul]; norm_num

theorem neg_inf_f32 : Ideal.ofBits .f32 0xFF800000#32 = (⊥ : EReal) := by
  simp [Ideal.ofBits, Ideal.ieee]

theorem pos_inf_bf16 : Ideal.ofBits .bf16 0x7F80#16 = (⊤ : EReal) := by
  simp [Ideal.ofBits, Ideal.ieee]

end Cert.Reals

end
-- ==== Proof.CrossSpec.lean ====
module

public import proofs.«01_k».proof.Proof.Reals

/-! Memory cross attention over the reals: the forward values and the gradients both programs compute,
    stated once per head and element. -/

@[expose] public section

namespace Cert.Cross

open Finset

/-- The column of head `h`, lane `d`, in the queries and keys. -/
def col (h : Fin 4) (d : Fin 256) : Fin 1024 := ⟨h.val * 256 + d.val, by omega⟩

/-- The column of head `h`'s keys in the joined key-value array. -/
def kcol (h : Fin 4) (d : Fin 256) : Fin 2048 := ⟨h.val * 256 + d.val, by omega⟩

/-- The column of head `h`'s values in the joined key-value array. -/
def vcol (h : Fin 4) (d : Fin 256) : Fin 2048 := ⟨1024 + h.val * 256 + d.val, by omega⟩

variable (q : Fin 2048 → Fin 1024 → ℝ) (kv : Fin 256 → Fin 2048 → ℝ) (g : Fin 2048 → Fin 1024 → ℝ)

/-- The score of query row `r` against memory row `j` in head `h`. -/
noncomputable def sc (h : Fin 4) (r : Fin 2048) (j : Fin 256) : ℝ :=
  (∑ d, q r (col h d) * kv j (kcol h d)) * (1 / 16)

/-- The log of the softmax denominator. -/
noncomputable def lse (h : Fin 4) (r : Fin 2048) : ℝ := Real.log (∑ j, Real.exp (sc q kv h r j))

/-- The attention weight. -/
noncomputable def p (h : Fin 4) (r : Fin 2048) (j : Fin 256) : ℝ :=
  Real.exp (sc q kv h r j) / ∑ j, Real.exp (sc q kv h r j)

/-- The attention output. -/
noncomputable def o (h : Fin 4) (r : Fin 2048) (d : Fin 256) : ℝ := ∑ j, p q kv h r j * kv j (vcol h d)

/-- The gradient of the attention weight. -/
noncomputable def dp (h : Fin 4) (r : Fin 2048) (j : Fin 256) : ℝ := ∑ d, g r (col h d) * kv j (vcol h d)

/-- The row's inner product of weights and their gradients. -/
noncomputable def delta (h : Fin 4) (r : Fin 2048) : ℝ := ∑ j, p q kv h r j * dp kv g h r j

/-- The gradient of the score. -/
noncomputable def ds (h : Fin 4) (r : Fin 2048) (j : Fin 256) : ℝ :=
  p q kv h r j * (dp kv g h r j - delta q kv g h r)

/-- The gradient of the queries. -/
noncomputable def dq (h : Fin 4) (r : Fin 2048) (d : Fin 256) : ℝ :=
  (∑ j, ds q kv g h r j * kv j (kcol h d)) * (1 / 16)

/-- The gradient of the keys. -/
noncomputable def dk (h : Fin 4) (j : Fin 256) (d : Fin 256) : ℝ :=
  (∑ r, ds q kv g h r j * q r (col h d)) * (1 / 16)

/-- The gradient of the values. -/
noncomputable def dv (h : Fin 4) (j : Fin 256) (d : Fin 256) : ℝ := ∑ r, p q kv h r j * g r (col h d)

/-- A sum of exponentials over the memory rows is positive. -/
theorem sumexp_pos (f : Fin 256 → ℝ) : 0 < ∑ j, Real.exp (f j) :=
  Finset.sum_pos (fun _ _ => Real.exp_pos _) ⟨0, Finset.mem_univ _⟩

/-- Shifting the scores by any real number scales the sum of exponentials. -/
theorem sumexp_shift (f : Fin 256 → ℝ) (M : ℝ) :
    ∑ j, Real.exp (f j - M) = (∑ j, Real.exp (f j)) / Real.exp M := by
  simp only [Real.exp_sub, Finset.sum_div]

/-- The attention weight from scores shifted by any real number. -/
theorem p_shift (M : ℝ) (h : Fin 4) (r : Fin 2048) (j : Fin 256) :
    Real.exp (sc q kv h r j - M) / ∑ j, Real.exp (sc q kv h r j - M) = p q kv h r j := by
  have h0 := (sumexp_pos (sc q kv h r)).ne'
  rw [sumexp_shift, Real.exp_sub, p]
  have := (Real.exp_pos M).ne'
  field_simp

/-- The log of the denominator from shifted scores. -/
theorem lse_shift (M : ℝ) (h : Fin 4) (r : Fin 2048) :
    M + Real.log (∑ j, Real.exp (sc q kv h r j - M)) = lse q kv h r := by
  rw [sumexp_shift, Real.log_div (sumexp_pos _).ne' (Real.exp_pos M).ne', Real.log_exp, lse]
  ring

/-- The attention weight from the saved log of the denominator. -/
theorem p_lse (h : Fin 4) (r : Fin 2048) (j : Fin 256) :
    Real.exp (sc q kv h r j - lse q kv h r) = p q kv h r j := by
  rw [Real.exp_sub, lse, Real.exp_log (sumexp_pos _), p]

/-- The output's inner product with its gradient is the weights' with theirs. -/
theorem delta_o (h : Fin 4) (r : Fin 2048) : ∑ d, g r (col h d) * o q kv h r d = delta q kv g h r := by
  simp only [o, delta, dp, Finset.mul_sum]
  rw [Finset.sum_comm]
  refine Finset.sum_congr rfl fun j _ => Finset.sum_congr rfl fun d _ => ?_
  ring

/-- The output, dividing after the product with the values. -/
theorem o_shift (M : ℝ) (h : Fin 4) (r : Fin 2048) (d : Fin 256) :
    (∑ j, Real.exp (sc q kv h r j - M) * kv j (vcol h d)) * (1 / ∑ j, Real.exp (sc q kv h r j - M))
      = o q kv h r d := by
  rw [o, Finset.sum_mul]
  refine Finset.sum_congr rfl fun j _ => ?_
  rw [← p_shift q kv M]
  ring

/-- The gradient of the score, by the rule for a quotient of shifted exponentials. -/
theorem ds_quot (M : ℝ) (h : Fin 4) (r : Fin 2048) (j : Fin 256) :
    (dp kv g h r j / (∑ j, Real.exp (sc q kv h r j - M))
      + -(∑ i, dp kv g h r i * (1 / ((∑ j, Real.exp (sc q kv h r j - M)) * ∑ j, Real.exp (sc q kv h r j - M)))
          * Real.exp (sc q kv h r i - M))) * Real.exp (sc q kv h r j - M)
      = ds q kv g h r j := by
  have hs : ∀ i, p q kv h r i * (∑ j, Real.exp (sc q kv h r j - M)) = Real.exp (sc q kv h r i - M) := fun i => by
    rw [← p_shift q kv M, div_mul_cancel₀ _ (sumexp_pos _).ne']
  have hD := (sumexp_pos fun j => sc q kv h r j - M).ne'
  have hi : ∀ i, dp kv g h r i * (1 / ((∑ j, Real.exp (sc q kv h r j - M)) * ∑ j, Real.exp (sc q kv h r j - M)))
      * Real.exp (sc q kv h r i - M) = p q kv h r i * dp kv g h r i * (∑ j, Real.exp (sc q kv h r j - M))⁻¹ := by
    intro i
    rw [← hs i]
    generalize (∑ j, Real.exp (sc q kv h r j - M)) = D at hD
    field_simp
  rw [Finset.sum_congr rfl fun i _ => hi i, ← Finset.sum_mul, ← hs j, ds, delta]
  generalize (∑ j, Real.exp (sc q kv h r j - M)) = D at hD
  field_simp
  ring

end Cert.Cross
-- ==== Proof.CrossFwd.lean ====
module

public import proofs.«01_k».proof.Proof.CrossSpec
public import proofs.«01_k».proof.Proof.Gen.KernelIdeal.Frame
public import Idealize.ShloMosaic.Lib.Pipeline.ValueKit

/-! The forward call's block of rows, for real arguments. -/

@[expose] public section

set_option maxRecDepth 16384

noncomputable section

namespace Cert.CrossFwd

open Idealize.ShloMosaic Cert.KernelIdeal Cert.KernelIdeal.Gen Cert.Reals

variable {q : Fin 2048 → Fin 1024 → ℝ} {kv : Fin 256 → Fin 2048 → ℝ} {h : Fin 4}
variable {k v : Vec Ideal S256x256 .bf16}

section Rows

variable {w : Vec Ideal S512x256 .bf16} {r : Fin 2048} {a : Fin 512}

/-- The score of a row of the block. -/
theorem score (hk : ∀ j d, k (ix2 j d) = ((kv j (Cross.kcol h d) : ℝ) : EReal))
    (hw : ∀ d, w (ix2 a d) = ((q r (Cross.col h d) : ℝ) : EReal)) (j : Fin 256) :
    k0_pay1 (F := Ideal) k w (ix2 a j) = ((Cross.sc q kv h r j : ℝ) : EReal) := by
  pointwise [k0_pay1]
  rw [sixteenth]
  simp only [hk, hw, ← EReal.coe_mul, coe_sum, Cross.sc, Finset.sum_mul]
  refine congrArg _ (Finset.sum_congr rfl fun d _ => ?_)
  ring

/-- The row maximum is a real number. -/
theorem rowmax (hk : ∀ j d, k (ix2 j d) = ((kv j (Cross.kcol h d) : ℝ) : EReal))
    (hw : ∀ d, w (ix2 a d) = ((q r (Cross.col h d) : ℝ) : EReal)) :
    ∃ M : ℝ, k0_pay2 (F := Ideal) k w (ix2 a 0) = (M : EReal) := by
  obtain ⟨M, hM⟩ := fold_max_real (n := 255) fun j => Cross.sc q kv h r j
  refine ⟨M, ?_⟩
  pointwise [k0_pay2]
  rw [neg_inf_f32, ← hM]
  simp only [score hk hw]

/-- The exponential of the shifted score. -/
theorem expo (hk : ∀ j d, k (ix2 j d) = ((kv j (Cross.kcol h d) : ℝ) : EReal))
    (hw : ∀ d, w (ix2 a d) = ((q r (Cross.col h d) : ℝ) : EReal))
    {M : ℝ} (hM : k0_pay2 (F := Ideal) k w (ix2 a 0) = (M : EReal)) (j : Fin 256) :
    k0_pay3 (F := Ideal) k w (ix2 a j) = ((Real.exp (Cross.sc q kv h r j - M) : ℝ) : EReal) := by
  pointwise [k0_pay3]
  rw [hM, score hk hw, ← EReal.coe_sub, exp_real]

/-- The sum of the exponentials. -/
theorem denom (hk : ∀ j d, k (ix2 j d) = ((kv j (Cross.kcol h d) : ℝ) : EReal))
    (hw : ∀ d, w (ix2 a d) = ((q r (Cross.col h d) : ℝ) : EReal))
    {M : ℝ} (hM : k0_pay2 (F := Ideal) k w (ix2 a 0) = (M : EReal)) :
    k0_pay4 (F := Ideal) k w (ix2 a 0) = ((∑ j, Real.exp (Cross.sc q kv h r j - M) : ℝ) : EReal) := by
  pointwise [k0_pay4]
  simp only [expo hk hw hM, coe_sum]

/-- The saved log of the denominator. -/
theorem logsum (hk : ∀ j d, k (ix2 j d) = ((kv j (Cross.kcol h d) : ℝ) : EReal))
    (hw : ∀ d, w (ix2 a d) = ((q r (Cross.col h d) : ℝ) : EReal)) (d : Fin 256) :
    k0_pay5 (F := Ideal) k w (ix2 a d) = ((Cross.lse q kv h r : ℝ) : EReal) := by
  obtain ⟨M, hM⟩ := rowmax hk hw
  pointwise [k0_pay5]
  rw [hM, denom hk hw hM, log_real (Cross.sumexp_pos _), ← EReal.coe_add, Cross.lse_shift]

/-- The attention output of a row of the block. -/
theorem output (hk : ∀ j d, k (ix2 j d) = ((kv j (Cross.kcol h d) : ℝ) : EReal))
    (hv : ∀ j d, v (ix2 j d) = ((kv j (Cross.vcol h d) : ℝ) : EReal))
    (hw : ∀ d, w (ix2 a d) = ((q r (Cross.col h d) : ℝ) : EReal)) (d : Fin 256) :
    k0_pay6 (F := Ideal) k v w (ix2 a d) = ((Cross.o q kv h r d : ℝ) : EReal) := by
  obtain ⟨M, hM⟩ := rowmax hk hw
  pointwise [k0_pay6]
  rw [denom hk hw hM, ← EReal.coe_one, div_real (Cross.sumexp_pos _).ne']
  simp only [expo hk hw hM, hv, ← EReal.coe_mul, coe_sum, Cross.o_shift]

end Rows

variable {b0 : Vec Ideal S2048x256 .bf16} {b1 b2 : Vec Ideal S256x256 .bf16}

/-- A load of the whole small block. -/
theorem ld_whole (x : Vec Ideal S256x256 .bf16) (j d : Fin 256) : View.ld x r0_0 (ix2 j d) = x (ix2 j d) := by
  pointwise

/-- A load of 512 rows of the tall block, at the row it comes from. -/
theorem ld_rows {φ : EltTy} (x : Vec Ideal S2048x256 φ) (n : ℕ) (hn : ∀ i, (![n, 0] : Fin 2 → ℕ) i + S512x256.size i ≤ S2048x256.size i) (r : Fin 2048) (a : Fin 512) (d : Fin 256)
    (hr : r.val = n + a.val) :
    View.ld x (Rect.unit (s := S2048x256) ![n, 0] S512x256.size hn) (ix2 a d) = x (ix2 r d) := by
  refine congrArg x ?_
  funext i
  match i with
  | ⟨0, _⟩ => exact Fin.ext (by simp [hr])
  | ⟨1, _⟩ => exact Fin.ext (by simp [hr])

/-- The forward call's output block. -/
theorem block_o (h0 : ∀ r d, b0 (ix2 r d) = ((q r (Cross.col h d) : ℝ) : EReal))
    (hk : ∀ j d, b1 (ix2 j d) = ((kv j (Cross.kcol h d) : ℝ) : EReal))
    (hv : ∀ j d, b2 (ix2 j d) = ((kv j (Cross.vcol h d) : ℝ) : EReal)) (r : Fin 2048) (d : Fin 256) :
    out0_3 (F := Ideal) b0 b1 b2 (ix2 r d) = ((Cross.o q kv h r d : ℝ) : EReal) := by
  have e24 : @k0_pay24 Ideal _ = k0_pay6 := rfl
  have e12 : @k0_pay12 Ideal _ = k0_pay6 := rfl
  have e18 : ∀ k v w, k0_pay18 (F := Ideal) v (k0_pay13 k w) (k0_pay14 k w) = k0_pay6 k v w := fun _ _ _ => rfl
  have hk' : ∀ j d, View.ld b1 r0_0 (ix2 j d) = ((kv j (Cross.kcol h d) : ℝ) : EReal) := fun j d => (ld_whole b1 j d).trans (hk j d)
  have hv' : ∀ j d, View.ld b2 r0_0 (ix2 j d) = ((kv j (Cross.vcol h d) : ℝ) : EReal) := fun j d => (ld_whole b2 j d).trans (hv j d)
  unfold_out out0_3
  canon_tiles x hx
  all_goals
    idx_vars x
    obtain rfl : d = x1 := Fin.ext hx1
    try simp only [e24, e12, e18]
    exact output hk' hv' (fun d => (ld_rows b0 _ _ r _ d (by simpa using hx0)).trans (h0 r d)) d

/-- The forward call's block of the saved log. -/
theorem block_lse (h0 : ∀ r d, b0 (ix2 r d) = ((q r (Cross.col h d) : ℝ) : EReal))
    (hk : ∀ j d, b1 (ix2 j d) = ((kv j (Cross.kcol h d) : ℝ) : EReal)) (r : Fin 2048) (d : Fin 256) :
    out0_4 (F := Ideal) b0 b1 b2 (ix2 r d) = ((Cross.lse q kv h r : ℝ) : EReal) := by
  have e23 : @k0_pay23 Ideal _ = k0_pay5 := rfl
  have e11 : @k0_pay11 Ideal _ = k0_pay5 := rfl
  have e17 : ∀ k w, k0_pay17 (F := Ideal) (k0_pay13 k w) (k0_pay14 k w) = k0_pay5 k w := fun _ _ => rfl
  have hk' : ∀ j d, View.ld b1 r0_0 (ix2 j d) = ((kv j (Cross.kcol h d) : ℝ) : EReal) := fun j d => (ld_whole b1 j d).trans (hk j d)
  unfold_out out0_4
  canon_tiles x hx
  all_goals
    idx_vars x
    try simp only [e23, e11, e17]
    exact logsum hk' (fun d => (ld_rows b0 _ _ r _ d (by simpa using hx0)).trans (h0 r d)) _

end Cert.CrossFwd

end
-- ==== Proof.CrossBwd.lean ====
module

public import proofs.«01_k».proof.Proof.CrossFwd
public import Idealize.ShloMosaic.Lib.Pipeline.ReadBack

/-! The backward call's block of rows, for real arguments. -/

@[expose] public section

set_option maxRecDepth 16384

noncomputable section

namespace Cert.CrossBwd

open Idealize.ShloMosaic Cert.KernelIdeal Cert.KernelIdeal.Gen Cert.Reals
open Idealize.ShloMosaic.TcCoe
open Cert.CrossFwd (ld_rows)

variable {q : Fin 2048 → Fin 1024 → ℝ} {kv : Fin 256 → Fin 2048 → ℝ} {g : Fin 2048 → Fin 1024 → ℝ} {h : Fin 4}
variable {k v : Vec Ideal S256x256 .bf16}

/-- The largest of equal values is that value. -/
theorem fold_max_const (c : EReal) : (Finset.univ : Finset (Fin 256)).fold max (⊥ : EReal) (fun _ => c) = c := by
  rw [Finset.fold_const c (by rw [max_eq_right bot_le, max_self]), if_neg (Finset.univ_nonempty.ne_empty), max_eq_right bot_le]

/-- A sum over the rows, by blocks of 512 rows. -/
theorem sum_blocks (f : Fin 2048 → ℝ) :
    ∑ r, f r = (((∑ a : Fin 512, f ⟨a.val, by omega⟩) + ∑ a : Fin 512, f ⟨512 + a.val, by omega⟩)
      + ∑ a : Fin 512, f ⟨1024 + a.val, by omega⟩) + ∑ a : Fin 512, f ⟨1536 + a.val, by omega⟩ := by
  rw [show (∑ r, f r) = ∑ r : Fin (1536 + 512), f r from rfl, Fin.sum_univ_add,
    show (∑ i : Fin 1536, f (Fin.castAdd 512 i)) = ∑ i : Fin (1024 + 512), f (Fin.castAdd 512 i) from rfl, Fin.sum_univ_add,
    show (∑ i : Fin 1024, f (Fin.castAdd 512 (Fin.castAdd 512 i))) = ∑ i : Fin (512 + 512), f (Fin.castAdd 512 (Fin.castAdd 512 i)) from rfl,
    Fin.sum_univ_add]
  rfl

section Rows

variable {w do' o' : Vec Ideal S512x256 .bf16} {l : Vec Ideal S512x256 .f32} {r : Fin 2048} {a : Fin 512}

/-- The attention weight, from the saved log. -/
theorem weight (hk : ∀ j d, k (ix2 j d) = ((kv j (Cross.kcol h d) : ℝ) : EReal))
    (hw : ∀ d, w (ix2 a d) = ((q r (Cross.col h d) : ℝ) : EReal))
    (hl : ∀ d, l (ix2 a d) = ((Cross.lse q kv h r : ℝ) : EReal)) (j : Fin 256) :
    k1_pay41 (F := Ideal) k w l (ix2 a j) = ((Cross.p q kv h r j : ℝ) : EReal) := by
  have hs : (∑ x, q r (Cross.col h x) * (1 / 16) * kv j (Cross.kcol h x)) = Cross.sc q kv h r j := by
    rw [Cross.sc, Finset.sum_mul]
    exact Finset.sum_congr rfl fun _ _ => by ring
  pointwise [k1_pay41, k1_pay39]
  simp only [sixteenth, neg_inf_f32, hk, hw, hl, ← EReal.coe_mul, coe_sum, fold_max_const]
  rw [hs, ← EReal.coe_sub, exp_real, Cross.p_lse]

/-- The gradient of the score. -/
theorem dscore (hk : ∀ j d, k (ix2 j d) = ((kv j (Cross.kcol h d) : ℝ) : EReal))
    (hv : ∀ j d, v (ix2 j d) = ((kv j (Cross.vcol h d) : ℝ) : EReal))
    (hw : ∀ d, w (ix2 a d) = ((q r (Cross.col h d) : ℝ) : EReal))
    (hg : ∀ d, do' (ix2 a d) = ((g r (Cross.col h d) : ℝ) : EReal))
    (ho : ∀ d, o' (ix2 a d) = ((Cross.o q kv h r d : ℝ) : EReal))
    (hl : ∀ d, l (ix2 a d) = ((Cross.lse q kv h r : ℝ) : EReal)) (j : Fin 256) :
    k1_pay42 (F := Ideal) k v w do' o' l (ix2 a j) = ((Cross.ds q kv g h r j : ℝ) : EReal) := by
  pointwise [k1_pay42, k1_pay40, k1_pay38]
  simp only [weight hk hw hl, hv, hg, ho, ← EReal.coe_mul, coe_sum, Cross.delta_o, ← EReal.coe_sub]
  rfl

/-- The gradient of the queries. -/
theorem dquery (hk : ∀ j d, k (ix2 j d) = ((kv j (Cross.kcol h d) : ℝ) : EReal))
    (hv : ∀ j d, v (ix2 j d) = ((kv j (Cross.vcol h d) : ℝ) : EReal))
    (hw : ∀ d, w (ix2 a d) = ((q r (Cross.col h d) : ℝ) : EReal))
    (hg : ∀ d, do' (ix2 a d) = ((g r (Cross.col h d) : ℝ) : EReal))
    (ho : ∀ d, o' (ix2 a d) = ((Cross.o q kv h r d : ℝ) : EReal))
    (hl : ∀ d, l (ix2 a d) = ((Cross.lse q kv h r : ℝ) : EReal)) (d : Fin 256) :
    k1_pay3 (F := Ideal) (k1_pay43 k v w do' o' l) (ix2 a d) = ((Cross.dq q kv g h r d : ℝ) : EReal) := by
  pointwise [k1_pay3, k1_pay43]
  simp only [dscore hk hv hw hg ho hl, hk, sixteenth, ← EReal.coe_mul, coe_sum]
  rfl

end Rows

section Blocks

variable {w do' o' : Vec Ideal S512x256 .bf16} {l : Vec Ideal S512x256 .f32} {R : Fin 512 → Fin 2048}
variable {acc : Vec Ideal S256x256 .f32}

/-- One block's step of the gradient of the keys. -/
theorem dkey (hk : ∀ j d, k (ix2 j d) = ((kv j (Cross.kcol h d) : ℝ) : EReal))
    (hv : ∀ j d, v (ix2 j d) = ((kv j (Cross.vcol h d) : ℝ) : EReal))
    (hw : ∀ a d, w (ix2 a d) = ((q (R a) (Cross.col h d) : ℝ) : EReal))
    (hg : ∀ a d, do' (ix2 a d) = ((g (R a) (Cross.col h d) : ℝ) : EReal))
    (ho : ∀ a d, o' (ix2 a d) = ((Cross.o q kv h (R a) d : ℝ) : EReal))
    (hl : ∀ a d, l (ix2 a d) = ((Cross.lse q kv h (R a) : ℝ) : EReal)) (j d : Fin 256) :
    k1_pay1 (F := Ideal) (k1_pay44 k v w do' o' l acc) (ix2 j d)
      = acc (ix2 j d) + ((∑ a, Cross.ds q kv g h (R a) j * q (R a) (Cross.col h d) * (1 / 16) : ℝ) : EReal) := by
  pointwise [k1_pay1, k1_pay44, k1_pay39]
  simp only [fun a => dscore hk hv (hw a) (hg a) (ho a) (hl a), hw, sixteenth, ← EReal.coe_mul, coe_sum, mul_assoc]

/-- One block's step of the gradient of the values. -/
theorem dvalue (hk : ∀ j d, k (ix2 j d) = ((kv j (Cross.kcol h d) : ℝ) : EReal))
    (hw : ∀ a d, w (ix2 a d) = ((q (R a) (Cross.col h d) : ℝ) : EReal))
    (hg : ∀ a d, do' (ix2 a d) = ((g (R a) (Cross.col h d) : ℝ) : EReal))
    (hl : ∀ a d, l (ix2 a d) = ((Cross.lse q kv h (R a) : ℝ) : EReal)) (j d : Fin 256) :
    k1_pay2 (F := Ideal) (k1_pay40 do') (k1_pay41 k w l) acc (ix2 j d)
      = acc (ix2 j d) + ((∑ a, Cross.p q kv h (R a) j * g (R a) (Cross.col h d) : ℝ) : EReal) := by
  pointwise [k1_pay2, k1_pay40, k1_pay38]
  simp only [fun a => weight hk (hw a) (hl a), hg, ← EReal.coe_mul, coe_sum]

end Blocks

variable (V : (c : Dev nD) → (b : Ref sig .tc) → Buf (Elt Ideal) ((c : Thread nD τ).loc b))
variable {b0 b3 b4 : Vec Ideal S2048x256 .bf16} {b5 : Vec Ideal S2048x256 .f32} {b1 b2 : Vec Ideal S256x256 .bf16}

/-- The backward call's block of the gradient of the queries. -/
theorem block_dq (c : Dev nD) (t : Fin cfg1.N) (e0 : iblk1 V c 0 t = b0) (e1 : iblk1 V c 1 t = b1) (e2 : iblk1 V c 2 t = b2)
    (e3 : iblk1 V c 3 t = b3) (e4 : iblk1 V c 4 t = b4) (e5 : iblk1 V c 5 t = b5)
    (h0 : ∀ r d, b0 (ix2 r d) = ((q r (Cross.col h d) : ℝ) : EReal))
    (hk : ∀ j d, b1 (ix2 j d) = ((kv j (Cross.kcol h d) : ℝ) : EReal))
    (hv : ∀ j d, b2 (ix2 j d) = ((kv j (Cross.vcol h d) : ℝ) : EReal))
    (hg : ∀ r d, b3 (ix2 r d) = ((g r (Cross.col h d) : ℝ) : EReal))
    (ho : ∀ r d, b4 (ix2 r d) = ((Cross.o q kv h r d : ℝ) : EReal))
    (hl : ∀ r d, b5 (ix2 r d) = ((Cross.lse q kv h r : ℝ) : EReal)) (r : Fin 2048) (d : Fin 256) :
    (outsAt1 (F := Ideal) V c t).1 (ix2 r d) = ((Cross.dq q kv g h r d : ℝ) : EReal) := by
  have e17 : ∀ k v w do' o' l, k1_pay17 (F := Ideal) k (k1_pay11 k w l) (k1_pay12 v do') (k1_pay13 do' o')
      = k1_pay3 (k1_pay43 k v w do' o' l) := fun _ _ _ _ _ _ => rfl
  have e27 : ∀ k v w do' o' l, k1_pay27 (F := Ideal) k v (k1_pay18 do') (k1_pay19 do' o') (k1_pay20 l) (k1_pay21 w)
      = k1_pay3 (k1_pay43 k v w do' o' l) := fun _ _ _ _ _ _ => rfl
  have e37 : ∀ k v w do' o' l, k1_pay37 (F := Ideal) (k1_pay34 k v (k1_pay28 w) do' o' l)
      = k1_pay3 (k1_pay43 k v w do' o' l) := fun _ _ _ _ _ _ => rfl
  unfold outsAt1 out1_A_6
  dsimp only
  frame_open
  simp (disch := decide) only [↓ View.readCov_skip, ↓ View.readCov_cons_toLoadRect, ↓ View.readCov_fill]
  frame_out
  rw [e0, e1, e2, e3, e4, e5]
  rw [e17, e27, e37]
  canon_tiles x hx
  all_goals
    idx_vars x
    obtain rfl : d = x1 := Fin.ext hx1
    exact dquery hk hv (fun d => (ld_rows b0 _ _ r _ d (by simpa using hx0)).trans (h0 r d))
      (fun d => (ld_rows b3 _ _ r _ d (by simpa using hx0)).trans (hg r d))
      (fun d => (ld_rows b4 _ _ r _ d (by simpa using hx0)).trans (ho r d))
      (fun d => (ld_rows b5 _ _ r _ d (by simpa using hx0)).trans (hl r d)) d

/-- The backward call's block of the gradient of the keys. -/
theorem block_dk (c : Dev nD) (t : Fin cfg1.N) (e0 : iblk1 V c 0 t = b0) (e1 : iblk1 V c 1 t = b1) (e2 : iblk1 V c 2 t = b2)
    (e3 : iblk1 V c 3 t = b3) (e4 : iblk1 V c 4 t = b4) (e5 : iblk1 V c 5 t = b5)
    (h0 : ∀ r d, b0 (ix2 r d) = ((q r (Cross.col h d) : ℝ) : EReal))
    (hk : ∀ j d, b1 (ix2 j d) = ((kv j (Cross.kcol h d) : ℝ) : EReal))
    (hv : ∀ j d, b2 (ix2 j d) = ((kv j (Cross.vcol h d) : ℝ) : EReal))
    (hg : ∀ r d, b3 (ix2 r d) = ((g r (Cross.col h d) : ℝ) : EReal))
    (ho : ∀ r d, b4 (ix2 r d) = ((Cross.o q kv h r d : ℝ) : EReal))
    (hl : ∀ r d, b5 (ix2 r d) = ((Cross.lse q kv h r : ℝ) : EReal)) (j : Fin 256) (d : Fin 256) :
    (outsAt1 (F := Ideal) V c t).2.1 (ix2 j d) = ((Cross.dk q kv g h j d : ℝ) : EReal) := by
  have e15 : ∀ k v w do' o' l acc, k1_pay15 (F := Ideal) (k1_pay9 w) (k1_pay11 k w l) (k1_pay12 v do') (k1_pay13 do' o') acc
      = k1_pay1 (k1_pay44 k v w do' o' l acc) := fun _ _ _ _ _ _ _ => rfl
  have e25 : ∀ k v w do' o' l acc, k1_pay25 (F := Ideal) k v (k1_pay18 do') (k1_pay19 do' o') (k1_pay20 l) (k1_pay21 w) acc
      = k1_pay1 (k1_pay44 k v w do' o' l acc) := fun _ _ _ _ _ _ _ => rfl
  have e35 : ∀ k v w do' o' l acc, k1_pay35 (F := Ideal) k v (k1_pay28 w) do' o' l acc
      = k1_pay1 (k1_pay44 k v w do' o' l acc) := fun _ _ _ _ _ _ _ => rfl
  have e4' : ∀ x, k1_pay4 (F := Ideal) x = x := fun _ => rfl
  have e6 : k1_pay6 (F := Ideal) (ix2 j d) = 0 := by pointwise [k1_pay6]
  unfold outsAt1 out1_A_7
  dsimp only
  frame_open
  simp (disch := decide) only [↓ View.readCov_skip, ↓ View.readCov_cons_toLoadRect, ↓ View.readCov_fill]
  frame_out
  rw [e0, e1, e2, e3, e4, e5]
  rw [e15, e25, e35, e4']
  have key := fun (n : ℕ) (hn) (hb : ∀ a : Fin 512, n + a.val < 2048) (acc) => dkey (acc := acc) (R := fun a => ⟨n + a.val, hb a⟩) hk hv
      (fun a d => (ld_rows b0 n hn ⟨n + a.val, hb a⟩ a d rfl).trans (h0 _ d))
      (fun a d => (ld_rows b3 n hn ⟨n + a.val, hb a⟩ a d rfl).trans (hg _ d))
      (fun a d => (ld_rows b4 n hn ⟨n + a.val, hb a⟩ a d rfl).trans (ho _ d))
      (fun a d => (ld_rows b5 n hn ⟨n + a.val, hb a⟩ a d rfl).trans (hl _ d)) j d
  refine (key 1536 _ (fun a => by omega) _).trans ?_
  rw [key 1024 _ (fun a => by omega), key 512 _ (fun a => by omega), key 0 _ (fun a => by omega), e6, zero_add,
    ← EReal.coe_add, ← EReal.coe_add, ← EReal.coe_add, Cross.dk, Finset.sum_mul, sum_blocks]
  simp only [zero_add]

/-- The backward call's block of the gradient of the values. -/
theorem block_dv (c : Dev nD) (t : Fin cfg1.N) (e0 : iblk1 V c 0 t = b0) (e1 : iblk1 V c 1 t = b1)
    (e3 : iblk1 V c 3 t = b3) (e5 : iblk1 V c 5 t = b5)
    (h0 : ∀ r d, b0 (ix2 r d) = ((q r (Cross.col h d) : ℝ) : EReal))
    (hk : ∀ j d, b1 (ix2 j d) = ((kv j (Cross.kcol h d) : ℝ) : EReal))
    (hg : ∀ r d, b3 (ix2 r d) = ((g r (Cross.col h d) : ℝ) : EReal))
    (hl : ∀ r d, b5 (ix2 r d) = ((Cross.lse q kv h r : ℝ) : EReal)) (j : Fin 256) (d : Fin 256) :
    (outsAt1 (F := Ideal) V c t).2.2 (ix2 j d) = ((Cross.dv q kv g h j d : ℝ) : EReal) := by
  have e16 : ∀ k w do' l acc, k1_pay16 (F := Ideal) (k1_pay10 do') (k1_pay11 k w l) acc
      = k1_pay2 (k1_pay40 do') (k1_pay41 k w l) acc := fun _ _ _ _ _ => rfl
  have e26 : ∀ k w do' l acc, k1_pay26 (F := Ideal) k (k1_pay18 do') (k1_pay20 l) (k1_pay21 w) acc
      = k1_pay2 (k1_pay40 do') (k1_pay41 k w l) acc := fun _ _ _ _ _ => rfl
  have e36 : ∀ k w do' l acc, k1_pay36 (F := Ideal) k (k1_pay28 w) do' l acc
      = k1_pay2 (k1_pay40 do') (k1_pay41 k w l) acc := fun _ _ _ _ _ => rfl
  have e5' : ∀ x, k1_pay5 (F := Ideal) x = x := fun _ => rfl
  have e7 : k1_pay7 (F := Ideal) (ix2 j d) = 0 := by pointwise [k1_pay7]
  unfold outsAt1 out1_A_8
  dsimp only
  frame_open
  simp (disch := decide) only [↓ View.readCov_skip, ↓ View.readCov_cons_toLoadRect, ↓ View.readCov_fill]
  frame_out
  rw [e0, e1, e3, e5]
  rw [e16, e26, e36, e5']
  have key := fun (n : ℕ) (hn) (hb : ∀ a : Fin 512, n + a.val < 2048) (acc) => dvalue (acc := acc) (R := fun a => ⟨n + a.val, hb a⟩) hk
      (fun a d => (ld_rows b0 n hn ⟨n + a.val, hb a⟩ a d rfl).trans (h0 _ d))
      (fun a d => (ld_rows b3 n hn ⟨n + a.val, hb a⟩ a d rfl).trans (hg _ d))
      (fun a d => (ld_rows b5 n hn ⟨n + a.val, hb a⟩ a d rfl).trans (hl _ d)) j d
  refine (key 1536 _ (fun a => by omega) _).trans ?_
  rw [key 1024 _ (fun a => by omega), key 512 _ (fun a => by omega), key 0 _ (fun a => by omega), e7, zero_add,
    ← EReal.coe_add, ← EReal.coe_add, ← EReal.coe_add, Cross.dv, sum_blocks]
  simp only [zero_add]

end Cert.CrossBwd

end
-- ==== Proof.CrossArr.lean ====
module

public import proofs.«01_k».proof.Proof.CrossBwd

/-! What the arrays hold after each call, for real arguments. -/

@[expose] public section

set_option maxRecDepth 16384

noncomputable section

namespace Cert.CrossArr

open Idealize.ShloMosaic Cert.KernelIdeal Cert.KernelIdeal.Gen Cert.Reals
open Idealize.ShloMosaic.TcCoe

variable (V : (c : Dev nD) → (b : Ref sig .tc) → Buf (Elt Ideal) ((c : Thread nD τ).loc b)) (c : Dev nD)

/-- The blocks of the forward call: head `t`'s columns. -/
theorem index0 : ∀ t : Fin cfg0.N, win0_0.index t = ![0, t.val] ∧ win0_1.index t = ![0, t.val] ∧ win0_2.index t = ![0, 4 + t.val]
    ∧ win0_3.index t = ![0, t.val] ∧ win0_4.index t = ![0, t.val] := by decide +kernel

/-- The blocks of the backward call: head `t`'s columns. -/
theorem index1 : ∀ t : Fin cfg1.N, win1_0.index t = ![0, t.val] ∧ win1_1.index t = ![0, t.val] ∧ win1_2.index t = ![0, 4 + t.val]
    ∧ win1_3.index t = ![0, t.val] ∧ win1_4.index t = ![0, t.val] ∧ win1_5.index t = ![0, t.val]
    ∧ win1_6.index t = ![0, t.val] ∧ win1_7.index t = ![0, t.val] ∧ win1_8.index t = ![0, t.val] := by decide +kernel

theorem blk0_0 (t : Fin cfg0.N) (r : Fin 2048) (d : Fin 256) :
    iblk0 (F := Ideal) V c 0 t (ix2 r d) = V c main_arg0 (ix2 r (Cross.col t d)) := by
  blk_ext [iblk0, index0 t, Cross.col]

theorem blk0_1 (t : Fin cfg0.N) (r : Fin 256) (d : Fin 256) :
    iblk0 (F := Ideal) V c 1 t (ix2 r d) = V c main_arg1 (ix2 r (Cross.kcol t d)) := by
  blk_ext [iblk0, index0 t, Cross.kcol]

theorem blk0_2 (t : Fin cfg0.N) (r : Fin 256) (d : Fin 256) :
    iblk0 (F := Ideal) V c 2 t (ix2 r d) = V c main_arg1 (ix2 r (Cross.vcol t d)) := by
  blk_ext [iblk0, index0 t, Cross.vcol]

theorem blk1_0 (t : Fin cfg1.N) (r : Fin 2048) (d : Fin 256) :
    iblk1 (F := Ideal) V c 0 t (ix2 r d) = V c main_arg0 (ix2 r (Cross.col t d)) := by
  blk_ext [iblk1, index1 t, Cross.col]

theorem blk1_1 (t : Fin cfg1.N) (r : Fin 256) (d : Fin 256) :
    iblk1 (F := Ideal) V c 1 t (ix2 r d) = V c main_arg1 (ix2 r (Cross.kcol t d)) := by
  blk_ext [iblk1, index1 t, Cross.kcol]

theorem blk1_2 (t : Fin cfg1.N) (r : Fin 256) (d : Fin 256) :
    iblk1 (F := Ideal) V c 2 t (ix2 r d) = V c main_arg1 (ix2 r (Cross.vcol t d)) := by
  blk_ext [iblk1, index1 t, Cross.vcol]

theorem blk1_3 (t : Fin cfg1.N) (r : Fin 2048) (d : Fin 256) :
    iblk1 (F := Ideal) V c 3 t (ix2 r d) = V c main_arg2 (ix2 r (Cross.col t d)) := by
  blk_ext [iblk1, index1 t, Cross.col]

theorem blk1_4 (t : Fin cfg1.N) (r : Fin 2048) (d : Fin 256) :
    iblk1 (F := Ideal) V c 4 t (ix2 r d) = V c main_v0_0 (ix2 r (Cross.col t d)) := by
  blk_ext [iblk1, index1 t, Cross.col]

theorem blk1_5 (t : Fin cfg1.N) (r : Fin 2048) (d : Fin 256) :
    iblk1 (F := Ideal) V c 5 t (ix2 r d) = V c main_v0_1 (ix2 r (Cross.col t d)) := by
  blk_ext [iblk1, index1 t, Cross.col]

theorem emb0_3 (t : Fin cfg0.N) (r : Fin 2048) (d : Fin 256) :
    (win0_3.blk t).view.emb (ix2 r d) = ix2 r (Cross.col t d) := by
  blk_ext [index0 t, Cross.col]

theorem emb0_4 (t : Fin cfg0.N) (r : Fin 2048) (d : Fin 256) :
    (win0_4.blk t).view.emb (ix2 r d) = ix2 r (Cross.col t d) := by
  blk_ext [index0 t, Cross.col]

theorem emb1_6 (t : Fin cfg1.N) (r : Fin 2048) (d : Fin 256) :
    (win1_6.blk t).view.emb (ix2 r d) = ix2 r (Cross.col t d) := by
  blk_ext [index1 t, Cross.col]

theorem emb1_7 (t : Fin cfg1.N) (r : Fin 256) (d : Fin 256) :
    (win1_7.blk t).view.emb (ix2 r d) = ix2 r (Cross.col t d) := by
  blk_ext [index1 t, Cross.col]

theorem emb1_8 (t : Fin cfg1.N) (r : Fin 256) (d : Fin 256) :
    (win1_8.blk t).view.emb (ix2 r d) = ix2 r (Cross.col t d) := by
  blk_ext [index1 t, Cross.col]

/-- The head of a column. -/
def hd (x : Fin 1024) : Fin 4 := ⟨x.val / 256, by omega⟩

/-- The lane of a column. -/
def ln (x : Fin 1024) : Fin 256 := ⟨x.val % 256, by omega⟩

theorem hd_col (h : Fin 4) (d : Fin 256) : hd (Cross.col h d) = h := Fin.ext (by simp only [hd, Cross.col]; omega)

theorem ln_col (h : Fin 4) (d : Fin 256) : ln (Cross.col h d) = d := Fin.ext (by simp only [ln, Cross.col]; omega)

theorem col_hd_ln (x : Fin 1024) : Cross.col (hd x) (ln x) = x := Fin.ext (by simp only [hd, ln, Cross.col]; omega)

/-- An array of real numbers from its value per head, row and lane. -/
def arr {n : ℕ} (f : Fin 4 → Fin n → Fin 256 → ℝ) : (⟨2, ![n, 1024]⟩ : Shape).Idx → EReal :=
  fun i => ((f (hd (i 1)) (i 0) (ln (i 1)) : ℝ) : EReal)

theorem arr_col {n : ℕ} (f : Fin 4 → Fin n → Fin 256 → ℝ) (h : Fin 4) (r : Fin n) (d : Fin 256) :
    arr f (ix2 r (Cross.col h d)) = ((f h r d : ℝ) : EReal) := by
  show ((f (hd (Cross.col h d)) r (ln (Cross.col h d)) : ℝ) : EReal) = _
  rw [hd_col, ln_col]

variable {q : Fin 2048 → Fin 1024 → ℝ} {kv : Fin 256 → Fin 2048 → ℝ} {g : Fin 2048 → Fin 1024 → ℝ}

/-- The output array after the forward call. -/
theorem fwd_o (hq : ∀ r x, V c main_arg0 (ix2 r x) = ((q r x : ℝ) : EReal)) (hkv : ∀ r x, V c main_arg1 (ix2 r x) = ((kv r x : ℝ) : EReal)) :
    (dat0 (F := Ideal) V c).arrAt 3 cfg0.N = arr (Cross.o q kv) := by
  refine (dat0 V c).arrAt_eq_of_covers 3 _ (by decide +kernel) fun t hf y => ?_
  blk_simp
  rw [after0_3]
  obtain ⟨r, d, rfl⟩ : ∃ (r : Fin 2048) (d : Fin 256), y = ix2 r d := ⟨y 0, y 1, by idx_vars y⟩
  rw [emb0_3]
  exact (CrossFwd.block_o (fun r d => (blk0_0 V c t r d).trans (hq _ _)) (fun r d => (blk0_1 V c t r d).trans (hkv _ _))
    (fun r d => (blk0_2 V c t r d).trans (hkv _ _)) r d).trans (arr_col (Cross.o q kv) t r d).symm

/-- The saved log's array after the forward call. -/
theorem fwd_l (hq : ∀ r x, V c main_arg0 (ix2 r x) = ((q r x : ℝ) : EReal)) (hkv : ∀ r x, V c main_arg1 (ix2 r x) = ((kv r x : ℝ) : EReal)) :
    (dat0 (F := Ideal) V c).arrAt 4 cfg0.N = arr (fun h r _ => Cross.lse q kv h r) := by
  refine (dat0 V c).arrAt_eq_of_covers 4 _ (by decide +kernel) fun t hf y => ?_
  blk_simp
  rw [after0_4]
  obtain ⟨r, d, rfl⟩ : ∃ (r : Fin 2048) (d : Fin 256), y = ix2 r d := ⟨y 0, y 1, by idx_vars y⟩
  rw [emb0_4]
  exact (CrossFwd.block_lse (fun r d => (blk0_0 V c t r d).trans (hq _ _)) (fun r d => (blk0_1 V c t r d).trans (hkv _ _)) r d).trans (arr_col (fun h r _ => Cross.lse q kv h r) t r d).symm

/-- The result array of `dq` after the backward call. -/
theorem bwd_dq (hq : ∀ r x, V c main_arg0 (ix2 r x) = ((q r x : ℝ) : EReal)) (hkv : ∀ r x, V c main_arg1 (ix2 r x) = ((kv r x : ℝ) : EReal))
    (hg : ∀ r x, V c main_arg2 (ix2 r x) = ((g r x : ℝ) : EReal)) (ho : V c main_v0_0 = arr (Cross.o q kv)) (hl : V c main_v0_1 = arr (fun h r _ => Cross.lse q kv h r)) :
    (dat1 (F := Ideal) V c).arrAt 6 cfg1.N = arr (Cross.dq q kv g) := by
  refine (dat1 V c).arrAt_eq_of_covers 6 _ (by decide +kernel) fun t hf y => ?_
  blk_simp
  rw [after1_6]
  obtain ⟨r, d, rfl⟩ : ∃ (r : Fin 2048) (d : Fin 256), y = ix2 r d := ⟨y 0, y 1, by idx_vars y⟩
  rw [emb1_6]
  exact (CrossBwd.block_dq V c t rfl rfl rfl rfl rfl rfl (fun r d => (blk1_0 V c t r d).trans (hq _ _)) (fun r d => (blk1_1 V c t r d).trans (hkv _ _))
    (fun r d => (blk1_2 V c t r d).trans (hkv _ _)) (fun r d => (blk1_3 V c t r d).trans (hg _ _))
    (fun r d => (blk1_4 V c t r d).trans ((congrFun ho _).trans (arr_col _ _ _ _))) (fun r d => (blk1_5 V c t r d).trans ((congrFun hl _).trans (arr_col _ _ _ _))) r d).trans (arr_col (Cross.dq q kv g) t r d).symm

/-- The result array of `dk` after the backward call. -/
theorem bwd_dk (hq : ∀ r x, V c main_arg0 (ix2 r x) = ((q r x : ℝ) : EReal)) (hkv : ∀ r x, V c main_arg1 (ix2 r x) = ((kv r x : ℝ) : EReal))
    (hg : ∀ r x, V c main_arg2 (ix2 r x) = ((g r x : ℝ) : EReal)) (ho : V c main_v0_0 = arr (Cross.o q kv)) (hl : V c main_v0_1 = arr (fun h r _ => Cross.lse q kv h r)) :
    (dat1 (F := Ideal) V c).arrAt 7 cfg1.N = arr (Cross.dk q kv g) := by
  refine (dat1 V c).arrAt_eq_of_covers 7 _ (by decide +kernel) fun t hf y => ?_
  blk_simp
  rw [after1_7]
  obtain ⟨r, d, rfl⟩ : ∃ (r : Fin 256) (d : Fin 256), y = ix2 r d := ⟨y 0, y 1, by idx_vars y⟩
  rw [emb1_7]
  exact (CrossBwd.block_dk V c t rfl rfl rfl rfl rfl rfl (fun r d => (blk1_0 V c t r d).trans (hq _ _)) (fun r d => (blk1_1 V c t r d).trans (hkv _ _))
    (fun r d => (blk1_2 V c t r d).trans (hkv _ _)) (fun r d => (blk1_3 V c t r d).trans (hg _ _))
    (fun r d => (blk1_4 V c t r d).trans ((congrFun ho _).trans (arr_col _ _ _ _))) (fun r d => (blk1_5 V c t r d).trans ((congrFun hl _).trans (arr_col _ _ _ _))) r d).trans (arr_col (Cross.dk q kv g) t r d).symm

/-- The result array of `dv` after the backward call. -/
theorem bwd_dv (hq : ∀ r x, V c main_arg0 (ix2 r x) = ((q r x : ℝ) : EReal)) (hkv : ∀ r x, V c main_arg1 (ix2 r x) = ((kv r x : ℝ) : EReal))
    (hg : ∀ r x, V c main_arg2 (ix2 r x) = ((g r x : ℝ) : EReal)) (hl : V c main_v0_1 = arr (fun h r _ => Cross.lse q kv h r)) :
    (dat1 (F := Ideal) V c).arrAt 8 cfg1.N = arr (Cross.dv q kv g) := by
  refine (dat1 V c).arrAt_eq_of_covers 8 _ (by decide +kernel) fun t hf y => ?_
  blk_simp
  rw [after1_8]
  obtain ⟨r, d, rfl⟩ : ∃ (r : Fin 256) (d : Fin 256), y = ix2 r d := ⟨y 0, y 1, by idx_vars y⟩
  rw [emb1_8]
  exact (CrossBwd.block_dv V c t rfl rfl rfl rfl (fun r d => (blk1_0 V c t r d).trans (hq _ _)) (fun r d => (blk1_1 V c t r d).trans (hkv _ _))
    (fun r d => (blk1_3 V c t r d).trans (hg _ _))
    (fun r d => (blk1_5 V c t r d).trans ((congrFun hl _).trans (arr_col _ _ _ _))) r d).trans (arr_col (Cross.dv q kv g) t r d).symm

end Cert.CrossArr

end
-- ==== Proof.CrossRun.lean ====
module

public import proofs.«01_k».proof.Proof.Gen.KernelIdeal.Frame

/-! The run of both calls, with what the result arrays hold at its end. -/

@[expose] public section

set_option maxRecDepth 16384

noncomputable section

namespace Cert.CrossRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs, leaves its arguments as they were, and ends with the three result arrays at the contents
    the second call's write-backs leave. -/
theorem run : θ_run defs (onTc (τ := τ) (main (F := F))) ⟨m, fun _ => 0, ρ⟩ (fun r => ∀ c : Dev nD,
      (r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨⟨(h c _ (mem_uc main_v1_0 (by decide))).trans (hF1 m ρ c 6).symm,
        (h c _ (mem_uc main_v1_1 (by decide))).trans (hF1 m ρ c 7).symm,
        (h c _ (mem_uc main_v1_2 (by decide))).trans (hF1 m ρ c 8).symm⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.CrossRun

end
-- ==== Proof.CrossRef.lean ====
module

public import proofs.«01_k».proof.Proof.CrossSpec
public import proofs.«01_k».proof.Proof.Gen.ReferenceIdeal.Read

/-! The reference's stages at an index, for real arguments. -/

@[expose] public section

set_option maxRecDepth 16384

noncomputable section

namespace Cert.CrossRef

open Idealize.ShloMosaic Cert.ReferenceIdeal Cert.ReferenceIdeal.Read Cert.Reals

variable {x0 : FVec Ideal S2048x1024 .bf16} {x1 : FVec Ideal S256x2048 .bf16} {x2 : FVec Ideal S2048x1024 .bf16}
variable {q : Fin 2048 → Fin 1024 → ℝ} {kv : Fin 256 → Fin 2048 → ℝ} {g : Fin 2048 → Fin 1024 → ℝ}

/-- The reference's score. -/
theorem score (hq : ∀ r c, x0 (ix2 r c) = ((q r c : ℝ) : EReal)) (hkv : ∀ r c, x1 (ix2 r c) = ((kv r c : ℝ) : EReal))
    (h : Fin 4) (r : Fin 2048) (j : Fin 256) :
    val_main_v11 (F := Ideal) x0 x1 (ix4 0 h r j) = ((Cross.sc q kv h r j : ℝ) : EReal) := by
  pointwise [val_main_v11, val_main_v9, val_main_v3, val_main_v0, val_main_v6, val_main_v5, val_main_v4, val_main_v1, val_main_v10, val_main_cst]
  rw [sixteenth]
  simp only [hq, hkv, ← EReal.coe_mul, coe_sum]
  rfl

/-- The reference's row maximum is a real number. -/
theorem rowmax (hq : ∀ r c, x0 (ix2 r c) = ((q r c : ℝ) : EReal)) (hkv : ∀ r c, x1 (ix2 r c) = ((kv r c : ℝ) : EReal))
    (h : Fin 4) (r : Fin 2048) :
    ∃ M : ℝ, val_main_v12 (F := Ideal) x0 x1 (ix3 0 h r) = (M : EReal) := by
  obtain ⟨M, hM⟩ := fold_max_real (n := 255) fun j => Cross.sc q kv h r j
  refine ⟨M, ?_⟩
  pointwise [val_main_v12, val_main_cst_0]
  rw [neg_inf_f32, ← hM]
  simp only [score hq hkv]

/-- The reference's exponential, from the row maximum. -/
theorem expo (hq : ∀ r c, x0 (ix2 r c) = ((q r c : ℝ) : EReal)) (hkv : ∀ r c, x1 (ix2 r c) = ((kv r c : ℝ) : EReal))
    (h : Fin 4) (r : Fin 2048) {M : ℝ} (hM : val_main_v12 (F := Ideal) x0 x1 (ix3 0 h r) = (M : EReal)) (j : Fin 256) :
    val_main_v32 (F := Ideal) x0 x1 (ix4 0 h r j) = ((Real.exp (Cross.sc q kv h r j - M) : ℝ) : EReal) := by
  have h19 : val_main_v19 (F := Ideal) x0 x1 (ix3 0 h r) = (M : EReal) := by
    rw [val_main_v19_apply, val_main_v18_apply, val_main_cst_2_apply, hM]
    show max (Ideal.ofBits .f32 0xFF800000#32) (M : EReal) = _
    rw [neg_inf_f32, max_eq_right bot_le]
  have h30 : val_main_v30 (F := Ideal) x0 x1 (ix4 0 h r j) = (M : EReal) := by
    refine Eq.trans ?_ h19
    unfold val_main_v30 val_main_v29
    generalize val_main_v19 (F := Ideal) x0 x1 = z
    pointwise
  have h11 := score hq hkv h r j
  unfold val_main_v32 val_main_v31
  generalize val_main_v30 (F := Ideal) x0 x1 = z at h30 ⊢
  generalize val_main_v11 (F := Ideal) x0 x1 = w at h11 ⊢
  pointwise
  rw [h30, h11, ← EReal.coe_sub, exp_real]

/-- The reference's sum of exponentials. -/
theorem denom (hq : ∀ r c, x0 (ix2 r c) = ((q r c : ℝ) : EReal)) (hkv : ∀ r c, x1 (ix2 r c) = ((kv r c : ℝ) : EReal))
    (h : Fin 4) (r : Fin 2048) {M : ℝ} (hM : val_main_v12 (F := Ideal) x0 x1 (ix3 0 h r) = (M : EReal)) :
    val_main_v33 (F := Ideal) x0 x1 (ix3 0 h r) = ((∑ j, Real.exp (Cross.sc q kv h r j - M) : ℝ) : EReal) := by
  pointwise [val_main_v33, val_main_cst_8]
  simp only [expo hq hkv h r hM, coe_sum]

/-- The reference's attention weight. -/
theorem weight (hq : ∀ r c, x0 (ix2 r c) = ((q r c : ℝ) : EReal)) (hkv : ∀ r c, x1 (ix2 r c) = ((kv r c : ℝ) : EReal))
    (h : Fin 4) (r : Fin 2048) (j : Fin 256) :
    val_main_v36 (F := Ideal) x0 x1 (ix4 0 h r j) = ((Cross.p q kv h r j : ℝ) : EReal) := by
  obtain ⟨M, hM⟩ := rowmax hq hkv h r
  pointwise [val_main_v36, val_main_v35, val_main_v34]
  rw [denom hq hkv h r hM, expo hq hkv h r hM, div_real (Cross.sumexp_pos _).ne', Cross.p_shift]

/-- The reference's gradient of the attention weight. -/
theorem dweight (hkv : ∀ r c, x1 (ix2 r c) = ((kv r c : ℝ) : EReal)) (hg : ∀ r c, x2 (ix2 r c) = ((g r c : ℝ) : EReal))
    (h : Fin 4) (r : Fin 2048) (j : Fin 256) :
    val_main_v45 (F := Ideal) x1 x2 (ix4 0 h r j) = ((Cross.dp kv g h r j : ℝ) : EReal) := by
  pointwise [val_main_v45, val_main_v44, val_main_v43, val_main_v2, val_main_v8, val_main_v7, val_main_v4, val_main_v1]
  simp only [hg, hkv, ← EReal.coe_mul, coe_sum, Cross.dp, Cross.col, Cross.vcol]

/-- The sum over two axes of size one is the one element. -/
theorem unit_axes (h : Fin 4) (r : Fin 2048) :
    val_main_v56 (F := Ideal) x0 x1 x2 (ix2 h r) = val_main_v53 (F := Ideal) x0 x1 x2 (ix4 0 h r 0) := by
  have hd : ∀ (b0 : Fin 1) (b1 : Fin 4) (b2 : Fin 2048) (b3 : Fin 1),
      Gen.reducesTo_S1x4x2048x1_S4x2048_d0_3.drop (ix4 b0 b1 b2 b3) = ix2 b1 b2 := by
    intro b0 b1 b2 b3
    funext a
    match a with
    | ⟨0, _⟩ => rfl
    | ⟨1, _⟩ => rfl
  show Ideal.hostReduceAdd _ _ _ (ix2 h r) = _
  unfold Ideal.hostReduceAdd
  rw [Finset.sum_eq_single (ix4 0 h r 0)]
  · pointwise [val_main_cst_11]
  · intro b hb hne
    exfalso
    idx_vars b
    rw [Finset.mem_filter, hd] at hb
    refine hne ?_
    have h0 : b1 = h := congrFun hb.2 0
    have h1 : b2 = r := congrFun hb.2 1
    rw [h0, h1, Fin.fin_one_eq_zero b0, Fin.fin_one_eq_zero b3]
  · intro hn
    refine absurd ?_ hn
    rw [Finset.mem_filter]
    exact ⟨Finset.mem_univ _, hd _ _ _ _⟩

/-- The row's inner product in the reference, negated and divided. -/
theorem rowdot (hq : ∀ r c, x0 (ix2 r c) = ((q r c : ℝ) : EReal)) (hkv : ∀ r c, x1 (ix2 r c) = ((kv r c : ℝ) : EReal))
    (hg : ∀ r c, x2 (ix2 r c) = ((g r c : ℝ) : EReal))
    (h : Fin 4) (r : Fin 2048) {M : ℝ} (hM : val_main_v12 (F := Ideal) x0 x1 (ix3 0 h r) = (M : EReal)) :
    val_main_v53 (F := Ideal) x0 x1 x2 (ix4 0 h r 0) = ((-(∑ i, Cross.dp kv g h r i * (1 / ((∑ j, Real.exp (Cross.sc q kv h r j - M)) * ∑ j, Real.exp (Cross.sc q kv h r j - M)))
          * Real.exp (Cross.sc q kv h r i - M)) : ℝ) : EReal) := by
  have hD := (Cross.sumexp_pos fun j => Cross.sc q kv h r j - M).ne'
  have h39 : val_main_v39 (F := Ideal) x0 x1 (ix4 0 h r 0) = ((1 / ((∑ j, Real.exp (Cross.sc q kv h r j - M)) * ∑ j, Real.exp (Cross.sc q kv h r j - M)) : ℝ) : EReal) := by
    pointwise [val_main_v39, val_main_v38, val_main_v37, val_main_v34, val_main_cst_9]
    rw [denom hq hkv h r hM, ← EReal.coe_mul, ← EReal.coe_one, div_real (mul_ne_zero hD hD)]
  have h50 : ∀ i : Fin 256, val_main_v50 (F := Ideal) x0 x1 x2 (ix4 0 h r i) = ((Cross.dp kv g h r i * (1 / ((∑ j, Real.exp (Cross.sc q kv h r j - M)) * ∑ j, Real.exp (Cross.sc q kv h r j - M)))
          * Real.exp (Cross.sc q kv h r i - M) : ℝ) : EReal) := by
    intro i
    pointwise [val_main_v50, val_main_v49, val_main_v48]
    rw [h39, dweight hkv hg, expo hq hkv h r hM, ← EReal.coe_mul, ← EReal.coe_mul]
  pointwise [val_main_v53, val_main_v52, val_main_v51, val_main_cst_10]
  simp only [h50, coe_sum, ← EReal.coe_neg]

/-- The reference's gradient of the score, with the scale. -/
theorem dscore (hq : ∀ r c, x0 (ix2 r c) = ((q r c : ℝ) : EReal)) (hkv : ∀ r c, x1 (ix2 r c) = ((kv r c : ℝ) : EReal))
    (hg : ∀ r c, x2 (ix2 r c) = ((g r c : ℝ) : EReal)) (h : Fin 4) (r : Fin 2048) (j : Fin 256) :
    val_main_v62 (F := Ideal) x0 x1 x2 (ix4 0 h r j) = ((Cross.ds q kv g h r j * (1 / 16) : ℝ) : EReal) := by
  obtain ⟨M, hM⟩ := rowmax hq hkv h r
  have h58 : val_main_v58 (F := Ideal) x0 x1 x2 (ix4 0 h r j) = val_main_v56 (F := Ideal) x0 x1 x2 (ix2 h r) := by
    unfold val_main_v58 val_main_v57
    generalize val_main_v56 (F := Ideal) x0 x1 x2 = z
    pointwise
  have h55 : val_main_v55 (F := Ideal) x0 x1 x2 (ix4 0 h r j) = ((Cross.dp kv g h r j / (∑ j, Real.exp (Cross.sc q kv h r j - M)) : ℝ) : EReal) := by
    pointwise [val_main_v55, val_main_v54, val_main_v34]
    rw [denom hq hkv h r hM, dweight hkv hg, div_real (Cross.sumexp_pos _).ne']
  pointwise [val_main_v62, val_main_v61, val_main_v60, val_main_v59, val_main_cst_12]
  rw [h58, h55, unit_axes, rowdot hq hkv hg h r hM, expo hq hkv h r hM, sixteenth, ← EReal.coe_add, ← EReal.coe_mul,
    ← EReal.coe_mul, Cross.ds_quot]

end Cert.CrossRef

end
-- ==== Proof.CrossRefQ.lean ====
module

public import proofs.«01_k».proof.Proof.CrossRef
public import proofs.«01_k».proof.Proof.Gen.ReferenceIdeal.Read

/-! One of the reference's results at an index, for real arguments. -/

@[expose] public section

set_option maxRecDepth 16384

noncomputable section

namespace Cert.CrossRef

open Idealize.ShloMosaic Cert.ReferenceIdeal Cert.ReferenceIdeal.Read Cert.Reals

variable {x0 : FVec Ideal S2048x1024 .bf16} {x1 : FVec Ideal S256x2048 .bf16} {x2 : FVec Ideal S2048x1024 .bf16}
variable {q : Fin 2048 → Fin 1024 → ℝ} {kv : Fin 256 → Fin 2048 → ℝ} {g : Fin 2048 → Fin 1024 → ℝ}

/-- The reference's gradient of the queries. -/
theorem resQ (hq : ∀ r c, x0 (ix2 r c) = ((q r c : ℝ) : EReal)) (hkv : ∀ r c, x1 (ix2 r c) = ((kv r c : ℝ) : EReal))
    (hg : ∀ r c, x2 (ix2 r c) = ((g r c : ℝ) : EReal)) (h : Fin 4) (r : Fin 2048) (d : Fin 256) :
    val_main_v74 (F := Ideal) x0 x1 x2 (ix2 r (Cross.col h d)) = ((Cross.dq q kv g h r d : ℝ) : EReal) := by
  have hdiv : (Cross.col h d).val / 256 = h.val := by simp only [Cross.col]; omega
  have hmod : (Cross.col h d).val % 256 = d.val := by simp only [Cross.col]; omega
  pointwise [val_main_v74, val_main_v73, val_main_v66, val_main_v65, val_main_v6, val_main_v5, val_main_v4, val_main_v1]
  simp only [hdiv, hmod, dscore hq hkv hg, hkv, ← EReal.coe_mul, coe_sum, Cross.dq, Finset.sum_mul]
  refine congrArg _ (Finset.sum_congr rfl fun j _ => ?_)
  simp only [Cross.kcol]
  ring

end Cert.CrossRef

end
-- ==== Proof.CrossRefK.lean ====
module

public import proofs.«01_k».proof.Proof.CrossRef
public import proofs.«01_k».proof.Proof.Gen.ReferenceIdeal.Read

/-! One of the reference's results at an index, for real arguments. -/

@[expose] public section

set_option maxRecDepth 16384

noncomputable section

namespace Cert.CrossRef

open Idealize.ShloMosaic Cert.ReferenceIdeal Cert.ReferenceIdeal.Read Cert.Reals

variable {x0 : FVec Ideal S2048x1024 .bf16} {x1 : FVec Ideal S256x2048 .bf16} {x2 : FVec Ideal S2048x1024 .bf16}
variable {q : Fin 2048 → Fin 1024 → ℝ} {kv : Fin 256 → Fin 2048 → ℝ} {g : Fin 2048 → Fin 1024 → ℝ}

/-- The reference's gradient of the keys. -/
theorem resK (hq : ∀ r c, x0 (ix2 r c) = ((q r c : ℝ) : EReal)) (hkv : ∀ r c, x1 (ix2 r c) = ((kv r c : ℝ) : EReal))
    (hg : ∀ r c, x2 (ix2 r c) = ((g r c : ℝ) : EReal)) (h : Fin 4) (j : Fin 256) (d : Fin 256) :
    val_main_v76 (F := Ideal) x0 x1 x2 (ix2 j (Cross.col h d)) = ((Cross.dk q kv g h j d : ℝ) : EReal) := by
  have hbig : (Cross.col h d).val / 1024 = 0 := by simp only [Cross.col]; omega
  have hdiv : (Cross.col h d).val / 256 % 4 = h.val := by simp only [Cross.col]; omega
  have hmod : (Cross.col h d).val % 256 = d.val := by simp only [Cross.col]; omega
  pointwise [val_main_v76, val_main_v75, val_main_v72, val_main_v71, val_main_v70, val_main_v69, val_main_v68, val_main_v67, val_main_v64, val_main_v63, val_main_v3, val_main_v0, val_main_cst_13, val_main_cst_14]
  refine ((congrArg₂ (· + ·) (dif_neg (by omega)) (dif_pos (by omega))).trans (zero_add _)).trans ?_
  simp only [hdiv, hmod, dscore hq hkv hg, hq, ← EReal.coe_mul, coe_sum, Cross.dk, Finset.sum_mul]
  refine congrArg _ (Finset.sum_congr rfl fun j _ => ?_)
  ring

end Cert.CrossRef

end
-- ==== Proof.CrossRefV.lean ====
module

public import proofs.«01_k».proof.Proof.CrossRef
public import proofs.«01_k».proof.Proof.Gen.ReferenceIdeal.Read

/-! One of the reference's results at an index, for real arguments. -/

@[expose] public section

set_option maxRecDepth 16384

noncomputable section

namespace Cert.CrossRef

open Idealize.ShloMosaic Cert.ReferenceIdeal Cert.ReferenceIdeal.Read Cert.Reals

variable {x0 : FVec Ideal S2048x1024 .bf16} {x1 : FVec Ideal S256x2048 .bf16} {x2 : FVec Ideal S2048x1024 .bf16}
variable {q : Fin 2048 → Fin 1024 → ℝ} {kv : Fin 256 → Fin 2048 → ℝ} {g : Fin 2048 → Fin 1024 → ℝ}

/-- The reference's gradient of the values. -/
theorem resV (hq : ∀ r c, x0 (ix2 r c) = ((q r c : ℝ) : EReal)) (hkv : ∀ r c, x1 (ix2 r c) = ((kv r c : ℝ) : EReal))
    (hg : ∀ r c, x2 (ix2 r c) = ((g r c : ℝ) : EReal)) (h : Fin 4) (j : Fin 256) (d : Fin 256) :
    val_main_v78 (F := Ideal) x0 x1 x2 (ix2 j (Cross.col h d)) = ((Cross.dv q kv g h j d : ℝ) : EReal) := by
  have hbig : (1024 + (Cross.col h d).val) / 1024 = 1 := by simp only [Cross.col]; omega
  have hdiv : (1024 + (Cross.col h d).val) / 256 % 4 = h.val := by simp only [Cross.col]; omega
  have hmod : (1024 + (Cross.col h d).val) % 256 = d.val := by simp only [Cross.col]; omega
  pointwise [val_main_v78, val_main_v77, val_main_v72, val_main_v71, val_main_v70, val_main_v69, val_main_v68, val_main_v67, val_main_v47, val_main_v46, val_main_v3, val_main_v0, val_main_cst_13, val_main_cst_14, val_main_v44, val_main_v43, val_main_v2]
  refine ((congrArg₂ (· + ·) (dif_pos (by omega)) (dif_neg (by omega))).trans (add_zero _)).trans ?_
  simp only [hdiv, hmod, weight hq hkv, hg, ← EReal.coe_mul, coe_sum, Cross.dv]
  refine congrArg _ (Finset.sum_congr rfl fun j _ => ?_)
  ring

end Cert.CrossRef

end
-- ==== Proof.CrossTie.lean ====
module

public import proofs.«01_k».proof.Defs
public import proofs.«01_k».proof.Proof.CrossArr
public import proofs.«01_k».proof.Proof.CrossRun
public import proofs.«01_k».proof.Proof.CrossRefQ
public import proofs.«01_k».proof.Proof.CrossRefK
public import proofs.«01_k».proof.Proof.CrossRefV
public import Idealize.ShloMosaic.Lib.ReduceAll
public import Idealize.ShloMosaic.Lib.Affine

/-! Both programs' results are the gradients over the reals. -/

@[expose] public section

set_option maxRecDepth 16384

noncomputable section

namespace Cert.CrossTie

open Idealize.ShloMosaic Idealize.SL.Sem Cert.Reals
open Idealize.ShloMosaic.TcCoe

/-- The precondition's side conditions hold. -/
theorem preFacts : Cert.Pre_finite.Facts := by
  constructor
  all_goals decide

/-- A comparison that holds at an index says that the element's absolute value is below plus infinity. -/
theorem lt_of_cmp {s : Shape} (x : FVec Ideal s .bf16)
    (hb : (⟨0, ![]⟩ : Shape).BroadcastsInDim s (![] : Fin 0 → Fin s.rank)) (i : s.Idx)
    (h : cmpf .olt (Host.absf x) (broadcastInDim s ![] hb (constant (F := Ideal) ⟨0, ![]⟩ .bf16 0x7F80#16)) i = 1#1) :
    max (x i : EReal) (-(x i : EReal)) < ⊤ := by
  have h1 : BitVec.ofBool (decide (max (x i : EReal) (-(x i : EReal)) < Ideal.ofBits .bf16 0x7F80#16)) = 1#1 := h
  rw [pos_inf_bf16] at h1
  by_contra hn
  rw [decide_eq_false hn] at h1
  exact absurd h1 (by decide)

/-- Arguments of which the precondition holds are real numbers at every index. -/
theorem real_args (hP : Cert.Pre_finite.Facts) {x0 x2 : FVec Ideal Cert.Pre_finite.S2048x1024 .bf16} {x1 : FVec Ideal Cert.Pre_finite.S256x2048 .bf16}
    (h : Cert.Pre_finite.fn (F := Ideal) x0 x1 x2 = fun _ => 1#1) :
    (∀ r c, x0 (ix2 r c) = (((x0 (ix2 r c) : EReal).toReal : ℝ) : EReal)) ∧ (∀ r c, x1 (ix2 r c) = (((x1 (ix2 r c) : EReal).toReal : ℝ) : EReal))
      ∧ (∀ r c, x2 (ix2 r c) = (((x2 (ix2 r c) : EReal).toReal : ℝ) : EReal)) := by
  have e := congrFun h (fun a => a.elim0)
  dsimp only [Cert.Pre_finite.fn] at e
  obtain ⟨e01, e2⟩ := IntOp.andi_eq_one.mp e
  obtain ⟨e0, e1⟩ := IntOp.andi_eq_one.mp e01
  haveI : Subsingleton (Cert.Pre_finite.S_).Idx := ⟨fun a b => funext fun k => k.elim0⟩
  refine ⟨fun r c => ?_, fun r c => ?_, fun r c => ?_⟩
  · exact (real_of_abs_lt (lt_of_cmp x0 _ _ (Host.reduce_andi_all _ _ _ _ _ e0 _))).symm
  · exact (real_of_abs_lt (lt_of_cmp x1 _ _ (Host.reduce_andi_all _ _ _ _ _ e1 _))).symm
  · exact (real_of_abs_lt (lt_of_cmp x2 _ _ (Host.reduce_andi_all _ _ _ _ _ e2 _))).symm

section kernel

open Cert.KernelIdeal Cert.KernelIdeal.Gen

variable (m : (ℓ : Loc nD τ sig) → Buf (Elt Ideal) ℓ) (ρ : Dev nD → PrngReg) (c : Dev nD)
variable {q : Fin 2048 → Fin 1024 → ℝ} {kv : Fin 256 → Fin 2048 → ℝ} {g : Fin 2048 → Fin 1024 → ℝ}

/-- The three result arrays of the kernel, for real arguments, are the three gradients. -/
theorem kernel_results (hq : ∀ r x, m ((c : Thread nD τ).loc main_arg0) (ix2 r x) = ((q r x : ℝ) : EReal))
    (hkv : ∀ r x, m ((c : Thread nD τ).loc main_arg1) (ix2 r x) = ((kv r x : ℝ) : EReal))
    (hg : ∀ r x, m ((c : Thread nD τ).loc main_arg2) (ix2 r x) = ((g r x : ℝ) : EReal)) :
    (dat1 (F := Ideal) (V1 m ρ) c).arrAt 6 cfg1.N = CrossArr.arr (Cross.dq q kv g)
      ∧ (dat1 (F := Ideal) (V1 m ρ) c).arrAt 7 cfg1.N = CrossArr.arr (Cross.dk q kv g)
      ∧ (dat1 (F := Ideal) (V1 m ρ) c).arrAt 8 cfg1.N = CrossArr.arr (Cross.dv q kv g) := by
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have o : V1 m ρ c main_v0_0 = CrossArr.arr (Cross.o q kv) := (hF0 m ρ c 3).symm.trans (CrossArr.fwd_o (V0 m ρ) c hq hkv)
  have l : V1 m ρ c main_v0_1 = CrossArr.arr (fun h r _ => Cross.lse q kv h r) := (hF0 m ρ c 4).symm.trans (CrossArr.fwd_l (V0 m ρ) c hq hkv)
  have q' : ∀ r x, V1 m ρ c main_arg0 (ix2 r x) = ((q r x : ℝ) : EReal) := fun r x => (congrFun a0 _).trans (hq r x)
  have k' : ∀ r x, V1 m ρ c main_arg1 (ix2 r x) = ((kv r x : ℝ) : EReal) := fun r x => (congrFun a1 _).trans (hkv r x)
  have g' : ∀ r x, V1 m ρ c main_arg2 (ix2 r x) = ((g r x : ℝ) : EReal) := fun r x => (congrFun a2 _).trans (hg r x)
  exact ⟨CrossArr.bwd_dq _ c q' k' g' o l, CrossArr.bwd_dk _ c q' k' g' o l, CrossArr.bwd_dv _ c q' k' g' l⟩

end kernel

/-- An array that is the real `f` at every head, row and lane is `arr f`. -/
theorem eq_arr {n : ℕ} {x : (⟨2, ![n, 1024]⟩ : Shape).Idx → EReal} {f : Fin 4 → Fin n → Fin 256 → ℝ}
    (h : ∀ t r d, x (ix2 r (Cross.col t d)) = ((f t r d : ℝ) : EReal)) : x = CrossArr.arr f := by
  have hx : ∀ (r : Fin n) (y : Fin 1024), x (ix2 r y) = CrossArr.arr f (ix2 r y) := fun r y => by
    rw [← CrossArr.col_hd_ln y, h, CrossArr.arr_col]
  funext i
  have hi : i = ix2 (i 0 : Fin n) (i 1 : Fin 1024) := funext fun a => match a with
    | ⟨0, _⟩ => rfl
    | ⟨1, _⟩ => rfl
  rw [hi]
  exact hx _ _

section reference

open Cert.ReferenceIdeal Cert.ReferenceIdeal.Read

variable {x0 : FVec Ideal S2048x1024 .bf16} {x1 : FVec Ideal S256x2048 .bf16} {x2 : FVec Ideal S2048x1024 .bf16}
variable {q : Fin 2048 → Fin 1024 → ℝ} {kv : Fin 256 → Fin 2048 → ℝ} {g : Fin 2048 → Fin 1024 → ℝ}

/-- The three results of the reference, for real arguments, are the three gradients. -/
theorem reference_results (hq : ∀ r c, x0 (ix2 r c) = ((q r c : ℝ) : EReal)) (hkv : ∀ r c, x1 (ix2 r c) = ((kv r c : ℝ) : EReal))
    (hg : ∀ r c, x2 (ix2 r c) = ((g r c : ℝ) : EReal)) :
    val_main_v74 (F := Ideal) x0 x1 x2 = CrossArr.arr (Cross.dq q kv g) ∧ val_main_v76 (F := Ideal) x0 x1 x2 = CrossArr.arr (Cross.dk q kv g)
      ∧ val_main_v78 (F := Ideal) x0 x1 x2 = CrossArr.arr (Cross.dv q kv g) :=
  ⟨eq_arr fun t r d => CrossRef.resQ hq hkv hg t r d, eq_arr fun t r d => CrossRef.resK hq hkv hg t r d, eq_arr fun t r d => CrossRef.resV hq hkv hg t r d⟩

end reference

/-- The kernel and the reference end with equal results. -/
theorem algebraic (hP : Cert.Pre_finite.Facts) : Cert.algebraic_KernelIdeal_ReferenceIdeal_pre_finite (hKernelIdeal := Cert.KernelIdeal.Gen.facts)
    (hReferenceIdeal := Cert.ReferenceIdeal.Gen.facts) (hPre_finite := hP) := by
  intro m ρ m' ρ' hpre hag
  have hk := fun c => by
    obtain ⟨r0, r1, r2⟩ := real_args hP (hpre c)
    exact kernel_results m ρ c r0 r1 r2
  have hr := fun c => by
    obtain ⟨r0, r1, r2⟩ := real_args hP (hpre c)
    exact reference_results r0 r1 r2
  refine ⟨_, _, _, (θ_run Cert.KernelIdeal.defs _ _).mono (fun r h c => ⟨(h c).1.1.trans (hk c).1, (h c).1.2.1.trans (hk c).2.1, (h c).1.2.2.trans (hk c).2.2, (h c).2⟩)
      (Cert.CrossRun.run m ρ), ?_⟩
  refine (θ_run Cert.ReferenceIdeal.defs _ _).mono (fun r h c => ?_) (Cert.ReferenceIdeal.Value.run (F := Ideal) m' ρ')
  obtain ⟨h0, h1, h2, ha⟩ := h c
  obtain ⟨g0, g1, g2⟩ := hag c
  refine ⟨h0.trans ?_, h1.trans ?_, h2.trans ?_, ha⟩
  · rw [Cert.ReferenceIdeal.Read.val_main_v74_eq, g0, g1, g2]; exact (hr c).1
  · rw [Cert.ReferenceIdeal.Read.val_main_v76_eq, g0, g1, g2]; exact (hr c).2.1
  · rw [Cert.ReferenceIdeal.Read.val_main_v78_eq, g0, g1, g2]; exact (hr c).2.2

end Cert.CrossTie

end
-- ==== Proof.Product.lean ====
module

public import Idealize.ShloMosaic.Lib.Pipeline.ValueKit

/-! Products with a stack of weight matrices laid side by side, and their two gradients, as sums over indices. -/

@[expose] public section

noncomputable section

namespace Cert.Product

open Idealize.ShloMosaic

/-- The places of a matrix. -/
abbrev At (n k : ℕ) : Type := (⟨2, ![n, k]⟩ : Shape).Idx

/-- The places of a stack. -/
abbrev At3 (s k d : ℕ) : Type := (⟨3, ![s, k, d]⟩ : Shape).Idx

/-- A matrix of extended reals. -/
abbrev Mat (n k : ℕ) : Type := At n k → EReal

/-- A stack of matrices of extended reals. -/
abbrev Stack (s k d : ℕ) : Type := At3 s k d → EReal

theorem hz2 : (![0, 0] : Fin 2 → Nat) = fun _ => 0 := funext fun a => by fin_cases a <;> rfl

theorem hz3 : (![0, 0, 0] : Fin 3 → Nat) = fun _ => 0 := funext fun a => by fin_cases a <;> rfl

section columns

variable {S D N : ℕ}

theorem col_lt (h : S * D = N) (s : Fin S) (d : Fin D) : s.val * D + d.val < N := by
  have : s.val * D + D ≤ S * D := by rw [← Nat.succ_mul]; exact Nat.mul_le_mul_right D s.isLt
  omega

/-- The column of member `s`'s lane `d` when the stack is laid side by side. -/
abbrev col (h : S * D = N) (s : Fin S) (d : Fin D) : Fin N := ⟨s.val * D + d.val, col_lt h s d⟩

theorem lane_pos (h : S * D = N) (x : Fin N) : 0 < D := by
  rcases Nat.eq_zero_or_pos D with e | e
  · have := x.isLt; simp [← h, e] at this
  · exact e

/-- The member of the stack a column belongs to. -/
abbrev hd (h : S * D = N) (x : Fin N) : Fin S := ⟨x.val / D, Nat.div_lt_of_lt_mul (by rw [Nat.mul_comm, h]; exact x.isLt)⟩

/-- The lane of a column. -/
abbrev ln (h : S * D = N) (x : Fin N) : Fin D := ⟨x.val % D, Nat.mod_lt _ (lane_pos h x)⟩

theorem hd_col (h : S * D = N) (s : Fin S) (d : Fin D) : hd h (col h s d) = s := Fin.ext (by
  show (s.val * D + d.val) / D = _
  rw [Nat.mul_comm, Nat.mul_add_div (lane_pos h (col h s d)), Nat.div_eq_of_lt d.isLt, Nat.add_zero])

theorem ln_col (h : S * D = N) (s : Fin S) (d : Fin D) : ln h (col h s d) = d := Fin.ext (by
  show (s.val * D + d.val) % D = _
  rw [Nat.mul_comm, Nat.mul_add_mod, Nat.mod_eq_of_lt d.isLt])

/-- A sum over the columns is the sum over the members of the sums over their lanes. -/
theorem sum_cols (h : S * D = N) (f : Fin N → EReal) : ∑ x, f x = ∑ s : Fin S, ∑ d : Fin D, f (col h s d) := by
  subst h
  rw [← Fintype.sum_prod_type', ← Equiv.sum_comp finProdFinEquiv]
  refine Finset.sum_congr rfl fun p _ => congrArg f (Fin.ext ?_)
  show p.2.val + D * p.1.val = p.1.val * D + p.2.val
  rw [Nat.mul_comm, Nat.add_comm]

end columns

variable {n K S D N : ℕ}

/-- The product with the stack laid side by side. -/
def fwd (h : S * D = N) (x : Mat n K) (w : Stack S K D) : Mat n N :=
  fun i => ∑ k : Fin K, x (ix2 (i 0) k) * w (ix3 (hd h (i 1)) k (ln h (i 1)))

theorem fwd_col (h : S * D = N) (x : Mat n K) (w : Stack S K D) (r : Fin n) (s : Fin S) (d : Fin D) :
    fwd h x w (ix2 r (col h s d)) = ∑ k : Fin K, x (ix2 r k) * w (ix3 s k d) := by
  show (∑ k : Fin K, x (ix2 r k) * w (ix3 (hd h (col h s d)) k (ln h (col h s d)))) = _
  rw [hd_col, ln_col]

/-- The gradient in the rows. -/
def dx (h : S * D = N) (z : Mat n N) (w : Stack S K D) : Mat n K :=
  fun i => ∑ x : Fin N, z (ix2 (i 0) x) * w (ix3 (hd h x) (i 1) (ln h x))

theorem dx_blocks (h : S * D = N) (z : Mat n N) (w : Stack S K D) (r : Fin n) (k : Fin K) :
    dx h z w (ix2 r k) = ∑ s : Fin S, ∑ d : Fin D, z (ix2 r (col h s d)) * w (ix3 s k d) := by
  show (∑ x : Fin N, z (ix2 r x) * w (ix3 (hd h x) k (ln h x))) = _
  rw [sum_cols h]
  exact Finset.sum_congr rfl fun s _ => Finset.sum_congr rfl fun d _ => by rw [hd_col, ln_col]

/-- The gradient in the stack. -/
def dw (h : S * D = N) (x : Mat n K) (z : Mat n N) : Stack S K D :=
  fun i => ∑ r : Fin n, x (ix2 r (i 1)) * z (ix2 r (col h (i 0) (i 2)))

/-- The plain product. -/
def mul (x : Mat n K) (w : Mat K N) : Mat n N := fun i => ∑ k : Fin K, x (ix2 (i 0) k) * w (ix2 k (i 1))

/-- The plain product added to what the rows already hold. -/
def addMul (x : Mat n K) (w : Mat K N) (y : Mat n N) : Mat n N := fun i => y i + mul x w i

/-- The gradient of the plain product in the rows. -/
def mulDx (z : Mat n N) (w : Mat K N) : Mat n K := fun i => ∑ x : Fin N, z (ix2 (i 0) x) * w (ix2 (i 1) x)

/-- The gradient of the plain product in the weight. -/
def mulDw (x : Mat n K) (z : Mat n N) : Mat K N := fun i => ∑ r : Fin n, x (ix2 r (i 0)) * z (ix2 r (i 1))

/-- The one member of a stack of one. -/
def member (w : Stack 1 K D) : Mat K D := fun i => w (ix3 0 (i 0) (i 1))

/-- The sum a product is depends on its factors' entries only. -/
theorem sum_mul_congr {ι : Type} [Fintype ι] {a b x w : ι → EReal} (ha : ∀ k, a k = x k) (hb : ∀ k, b k = w k) :
    ∑ k, a k * b k = ∑ k, x k * w k :=
  Finset.sum_congr rfl fun k _ => congrArg₂ (fun a b : EReal => a * b) (ha k) (hb k)

section tiles

/-! An entry of a product of blocks is the entry of the whole product at the blocks' places. -/

variable {n' K' N' : ℕ} {f : Fin n' → Fin n} {e : Fin K' → Fin K} {g : Fin N' → Fin N}

theorem mul_tile {a : Mat n' K} {b : Mat K N'} {x : Mat n K} {w : Mat K N} (ha : ∀ p k, a (ix2 p k) = x (ix2 (f p) k))
    (hb : ∀ k q, b (ix2 k q) = w (ix2 k (g q))) (p : Fin n') (q : Fin N') : mul a b (ix2 p q) = mul x w (ix2 (f p) (g q)) :=
  sum_mul_congr (ha p) fun k => hb k q

theorem addMul_tile {a : Mat n' K} {b : Mat K N'} {c : Mat n' N'} {x : Mat n K} {w : Mat K N} {y : Mat n N}
    (ha : ∀ p k, a (ix2 p k) = x (ix2 (f p) k)) (hb : ∀ k q, b (ix2 k q) = w (ix2 k (g q)))
    (hc : ∀ p q, c (ix2 p q) = y (ix2 (f p) (g q))) (p : Fin n') (q : Fin N') :
    addMul a b c (ix2 p q) = addMul x w y (ix2 (f p) (g q)) :=
  congrArg₂ (fun a b : EReal => a + b) (hc p q) (mul_tile ha hb p q)

theorem mulDx_tile {a : Mat n' N} {b : Mat K' N} {z : Mat n N} {w : Mat K N} (ha : ∀ p x, a (ix2 p x) = z (ix2 (f p) x))
    (hb : ∀ q x, b (ix2 q x) = w (ix2 (e q) x)) (p : Fin n') (q : Fin K') : mulDx a b (ix2 p q) = mulDx z w (ix2 (f p) (e q)) :=
  sum_mul_congr (ha p) (hb q)

theorem mulDw_tile {a : Mat n K'} {b : Mat n N'} {x : Mat n K} {z : Mat n N} (ha : ∀ r p, a (ix2 r p) = x (ix2 r (e p)))
    (hb : ∀ r q, b (ix2 r q) = z (ix2 r (g q))) (p : Fin K') (q : Fin N') : mulDw a b (ix2 p q) = mulDw x z (ix2 (e p) (g q)) :=
  sum_mul_congr (fun r => ha r p) fun r => hb r q

/-- Rows times one member fill the member's columns. -/
theorem fwd_tile (h : S * D = N) {a : Mat n K} {b : Stack 1 K D} {x : Mat n K} {w : Stack S K D} (s : Fin S)
    (ha : ∀ r k, a (ix2 r k) = x (ix2 r k)) (hb : ∀ k d, b (ix3 0 k d) = w (ix3 s k d)) (r : Fin n) (d : Fin D) :
    mul a (member b) (ix2 r d) = fwd h x w (ix2 r (col h s d)) :=
  (sum_mul_congr (ha r) fun k => hb k d).trans (fwd_col h x w r s d).symm

/-- The gradient in one member comes from that member's columns. -/
theorem dw_tile (h : S * D = N) {a : Mat n K} {b : Mat n D} {x : Mat n K} {z : Mat n N} (s : Fin S)
    (ha : ∀ r k, a (ix2 r k) = x (ix2 r k)) (hb : ∀ r d, b (ix2 r d) = z (ix2 r (col h s d))) (k : Fin K) (d : Fin D) :
    mulDw a b (ix2 k d) = dw h x z (ix3 s k d) :=
  sum_mul_congr (fun r => ha r k) fun r => hb r d

/-- The gradient in the rows sums what the members add. -/
theorem dx_tiles (h : S * D = N) {a : Fin S → Mat n D} {b : Fin S → Stack 1 K D} {z : Mat n N} {w : Stack S K D}
    (ha : ∀ s r d, a s (ix2 r d) = z (ix2 r (col h s d))) (hb : ∀ s k d, b s (ix3 0 k d) = w (ix3 s k d)) (r : Fin n) (k : Fin K) :
    ∑ s, mulDx (a s) (member (b s)) (ix2 r k) = dx h z w (ix2 r k) :=
  (Finset.sum_congr rfl fun s _ => sum_mul_congr (ha s r) (hb s k)).trans (dx_blocks h z w r k).symm

end tiles

section reads

/-! A sum of products whose factors are read at the product's places is the product. -/

variable {f : Mat n N} {f' : Mat n K} {f'' : Mat K N}

theorem mul_of {x : Mat n K} {w : Mat K N} {l : At n N → Fin K → At n K} {r : At n N → Fin K → At K N} (hf : ∀ i, f i = ∑ k : Fin K, x (l i k) * w (r i k))
    (hl : ∀ i k, l i k = ix2 (i 0) k) (hr : ∀ i k, r i k = ix2 k (i 1)) : f = mul x w :=
  funext fun i => (hf i).trans (sum_mul_congr (fun k => congrArg x (hl i k)) fun k => congrArg w (hr i k))

theorem mulDx_of {z : Mat n N} {w : Mat K N} {l : At n K → Fin N → At n N} {r : At n K → Fin N → At K N} (hf : ∀ i, f' i = ∑ x : Fin N, z (l i x) * w (r i x))
    (hl : ∀ i k, l i k = ix2 (i 0) k) (hr : ∀ i k, r i k = ix2 (i 1) k) : f' = mulDx z w :=
  funext fun i => (hf i).trans (sum_mul_congr (fun k => congrArg z (hl i k)) fun k => congrArg w (hr i k))

/-- With the factors in the other order, as a transposed product has them. -/
theorem mulDw_of {x : Mat n K} {z : Mat n N} {l : At K N → Fin n → At n N} {r : At K N → Fin n → At n K} (hf : ∀ i, f'' i = ∑ k : Fin n, z (l i k) * x (r i k))
    (hl : ∀ i k, l i k = ix2 k (i 1)) (hr : ∀ i k, r i k = ix2 k (i 0)) : f'' = mulDw x z :=
  funext fun i => (hf i).trans ((Finset.sum_congr rfl fun k _ => mul_comm _ _).trans
    (sum_mul_congr (fun k => congrArg x (hr i k)) fun k => congrArg z (hl i k)))

/-- An index whose coordinates are those of entry `(k, x)` of the matrices laid side by side. -/
theorem unstack (h : S * D = N) (k : Fin K) (x : Fin N) (j : At3 S K D)
    (h0 : (j 0).val = (k.val * N + x.val) / D % S) (h1 : (j 1).val = (k.val * N + x.val) / N)
    (h2 : (j 2).val = (k.val * N + x.val) % D) : j = ix3 (hd h x) k (ln h x) := by
  have hD := lane_pos h x
  have hx := x.isLt
  have e : k.val * N + x.val = D * (S * k.val) + x.val := by
    have e' : k.val * N = D * (S * k.val) := by rw [← h]; ring
    rw [e']
  have hq : x.val / D < S := (hd h x).isLt
  funext a
  match a with
  | ⟨0, _⟩ => exact Fin.ext (h0.trans (by rw [e, Nat.mul_add_div hD, Nat.mul_add_mod, Nat.mod_eq_of_lt hq]; rfl))
  | ⟨1, _⟩ => exact Fin.ext (h1.trans (by rw [Nat.mul_comm, Nat.mul_add_div (by omega), Nat.div_eq_of_lt hx, Nat.add_zero]; rfl))
  | ⟨2, _⟩ => exact Fin.ext (h2.trans (by rw [e, Nat.mul_add_mod]; rfl))

theorem fwd_of (h : S * D = N) {x : Mat n K} {w : Stack S K D} {l : At n N → Fin K → At n K} {r : At n N → Fin K → At3 S K D} (hf : ∀ i, f i = ∑ k : Fin K, x (l i k) * w (r i k))
    (hl : ∀ i k, l i k = ix2 (i 0) k) (hr : ∀ i k, r i k = ix3 (hd h (i 1)) k (ln h (i 1))) : f = fwd h x w :=
  funext fun i => (hf i).trans (sum_mul_congr (fun k => congrArg x (hl i k)) fun k => congrArg w (hr i k))

theorem dx_of (h : S * D = N) {z : Mat n N} {w : Stack S K D} {l : At n K → Fin N → At n N} {r : At n K → Fin N → At3 S K D} (hf : ∀ i, f' i = ∑ x : Fin N, z (l i x) * w (r i x))
    (hl : ∀ i x, l i x = ix2 (i 0) x) (hr : ∀ i x, r i x = ix3 (hd h x) (i 1) (ln h x)) : f' = dx h z w :=
  funext fun i => (hf i).trans (sum_mul_congr (fun k => congrArg z (hl i k)) fun k => congrArg w (hr i k))

/-- The gradient in the stack is the gradient in the matrices laid side by side, cut apart. -/
theorem dw_of (h : S * D = N) {x : Mat n K} {z : Mat n N} {f : Stack S K D} {j : At3 S K D → At K N}
    (hf : ∀ i, f i = mulDw x z (j i)) (h0 : ∀ i, (j i 0).val = (((i 1).val * S + (i 0).val) * D + (i 2).val) / N)
    (h1 : ∀ i, (j i 1).val = (((i 1).val * S + (i 0).val) * D + (i 2).val) % N) : f = dw h x z := by
  funext i
  have e : ((i 1).val * S + (i 0).val) * D + (i 2).val = N * (i 1).val + (col h (i 0) (i 2)).val := by
    show _ = N * (i 1).val + ((i 0).val * D + (i 2).val)
    have e' : N * (i 1).val = (i 1).val * S * D := by rw [← h]; ring
    rw [e']; ring
  have hc := (col h (i 0) (i 2)).isLt
  have e0 : j i 0 = i 1 := Fin.ext ((h0 i).trans (by rw [e, Nat.mul_add_div (by omega), Nat.div_eq_of_lt hc, Nat.add_zero]))
  have e1 : j i 1 = col h (i 0) (i 2) := Fin.ext ((h1 i).trans (by rw [e, Nat.mul_add_mod, Nat.mod_eq_of_lt hc]))
  rw [hf]
  show (∑ r : Fin n, x (ix2 r (j i 0)) * z (ix2 r (j i 1))) = _
  rw [e0, e1]
  rfl

end reads

/-- A running sum that starts with the first part and adds one part at a time ends, with one more part, at the sum of
    all parts. -/
theorem total {L : ℕ} (p : Fin (L + 2) → EReal) (f : (n : ℕ) → n < L + 2 → EReal) (h0 : ∀ h, f 0 h = p ⟨0, h⟩)
    (hs : ∀ n h, n + 1 < L + 1 → f (n + 1) h = f n (Nat.lt_of_succ_lt h) + p ⟨n + 1, h⟩) {g : EReal}
    (hg : g = f L (by omega) + p (Fin.last (L + 1))) : g = ∑ s, p s := by
  have run : ∀ (n : ℕ) (h : n < L + 2), n < L + 1 → f n h = ∑ s : Fin (n + 1), p ⟨s.val, Nat.lt_of_le_of_lt (Nat.le_of_lt_succ s.isLt) h⟩ := by
    intro n
    induction n with
    | zero => exact fun h _ => by rw [h0 h, Fin.sum_univ_castSucc (n := 0), Fin.sum_univ_zero, zero_add]; rfl
    | succ n ih => exact fun h hn => by rw [hs n h hn, ih _ (by omega), Fin.sum_univ_castSucc (n := n + 1)]; rfl
  rw [hg, run L _ (by omega), Fin.sum_univ_castSucc (n := L + 1)]
  rfl

/-- A running sum that starts with the first part and adds one part at each later point ends at the sum of all parts. -/
theorem summed {L : ℕ} (p : Fin (L + 2) → EReal) (f : (n : ℕ) → n < L + 2 → EReal) (h0 : ∀ h, f 0 h = p ⟨0, h⟩)
    (hs : ∀ n h, f (n + 1) h = f n (Nat.lt_of_succ_lt h) + p ⟨n + 1, h⟩) (h : L + 1 < L + 2) : f (L + 1) h = ∑ s, p s :=
  total p f h0 (fun n h _ => hs n h) (hs L h)

/-- The same over eight points: the first starts the sum, the last adds its part and writes the result. -/
theorem eight (p : Fin 8 → EReal) (f g : (n : ℕ) → n < 8 → EReal)
    (hA : ∀ t : Fin 8, t.val % 8 = 0 → ¬t.val % 8 = 7 → f t.val t.isLt = p t)
    (hB : ∀ t : Fin 8, ¬t.val % 8 = 0 → ¬t.val % 8 = 7 → f t.val t.isLt = f (t.val - 1) (Nat.lt_of_le_of_lt (Nat.sub_le _ _) t.isLt) + p t)
    (hC : ∀ t : Fin 8, ¬t.val % 8 = 0 → t.val % 8 = 7 → g t.val t.isLt = f (t.val - 1) (Nat.lt_of_le_of_lt (Nat.sub_le _ _) t.isLt) + p t)
    (t : Fin 8) (h : t.val = 7) : g t.val t.isLt = ∑ s, p s := by
  obtain rfl : t = Fin.last 7 := Fin.ext h
  exact total (L := 6) p f (fun h => hA ⟨0, h⟩ rfl (by simp)) (fun n h h6 => hB ⟨n + 1, h⟩ (by dsimp only; omega) (by dsimp only; omega))
    (hC _ (by decide) (by decide))

end Cert.Product

end
-- ==== Proof.Ends.lean ====
module

public import Idealize.ShloMosaic.Adequacy

/-! Two runs that leave the same results. -/

@[expose] public section

noncomputable section

namespace Cert.Ends

open Idealize.SL.Sem

/-- Where two runs leave each device a named result, and the two results are equal, there is one result both leave. -/
theorem same {X Y D : Type} {B : D → Type} {W : WPT X} {W' : WPT Y} {res : (c : D) → X → B c} {res' : (c : D) → Y → B c}
    {keep : D → X → Prop} {keep' : D → Y → Prop} {u u' : (c : D) → B c} (h : W fun r => ∀ c, res c r = u c ∧ keep c r)
    (h' : W' fun r => ∀ c, res' c r = u' c ∧ keep' c r) (e : ∀ c, u' c = u c) :
    ∃ v : (c : D) → B c, (W fun r => ∀ c, res c r = v c ∧ keep c r) ∧ W' fun r => ∀ c, res' c r = v c ∧ keep' c r :=
  ⟨u, h, W'.mono (fun _ hr c => ⟨(hr c).1.trans (e c), (hr c).2⟩) h'⟩

end Cert.Ends

end
-- ==== Proof.StackFwd.lean ====
module

public import proofs.«01_k».proof.Proof.Product
public import proofs.«01_k».proof.Proof.Ends
public import proofs.«01_k».proof.Proof.Gen.InAbIdeal.Value
public import proofs.«01_k».proof.Proof.Gen.InAbRefIdeal.Run
public import proofs.«01_k».proof.Proof.Gen.InAbRefIdeal.Read
public import proofs.«01_k».proof.Proof.Gen.InCdIdeal.Value
public import proofs.«01_k».proof.Proof.Gen.InCdRefIdeal.Run
public import proofs.«01_k».proof.Proof.Gen.InCdRefIdeal.Read
public import proofs.«01_k».proof.Defs

/-! The input products: the rows against a stack of eight weight matrices, one member at each point, for the A and B
branches (768 lanes each) and for the C and D branches (512 lanes each). -/

@[expose] public section

set_option maxRecDepth 16384

noncomputable section

open Idealize.ShloMosaic Idealize.ShloMosaic.TcCoe Idealize.SL.Sem Cert.Product

namespace Cert.InAbTie

open Cert.InAbIdeal Cert.InAbIdeal.Gen

variable (m : (ℓ : Loc nD τ sig) → Buf (Elt Ideal) ℓ) (c : Dev nD)

theorem width : 8 * 768 = 6144 := rfl

theorem index : ∀ t : Fin cfg0.N, win0_0.index t = ![0, 0] ∧ win0_1.index t = ![t.val, 0, 0] ∧ win0_2.index t = ![0, t.val] := by
  decide +kernel

theorem blk_x (t : Fin cfg0.N) (r : Fin 2048) (k : Fin 1024) : iblk m c 0 t (ix2 r k) = V m c main_arg0 (ix2 r k) := by
  blk_ext [iblk, index t]

theorem blk_w (t : Fin cfg0.N) (k : Fin 1024) (d : Fin 768) : iblk m c 1 t (ix3 0 k d) = V m c main_arg1 (ix3 t k d) := by
  blk_ext [iblk, index t]

theorem emb_o (t : Fin cfg0.N) (r : Fin 2048) (d : Fin 768) : (win0_2.blk t).view.emb (ix2 r d) = ix2 r (col width t d) := by
  blk_ext [index t]

/-- A block of the result: the rows against one member of the stack. -/
theorem block (x : Vec Ideal S2048x1024 .bf16) (w : Vec Ideal S1x1024x768 .bf16) (r : Fin 2048) (d : Fin 768) :
    out0_2 (F := Ideal) x w (ix2 r d) = ∑ k : Fin 1024, x (ix2 r k) * w (ix3 0 k d) := by
  unfold out0_2
  rw [View.canon_unit_zero hz2, View.ld_unit_zero (S := S2048x1024) hz2, View.ld_unit_zero (S := S1x1024x768) hz3]
  pointwise [k0_pay1]

/-- The array after the call. -/
theorem arr : (dats m 0 c).arrAt 2 cfg0.N = fwd width (V m c main_arg0) (V m c main_arg1) := by
  refine (dats m 0 c).arrAt_eq_of_covers 2 _ (by decide +kernel) fun t hf y => ?_
  blk_simp
  rw [after0_2]
  obtain ⟨r, d, rfl⟩ : ∃ (r : Fin 2048) (d : Fin 768), y = ix2 r d := ⟨y 0, y 1, by idx_vars y⟩
  rw [emb_o]
  exact (block _ _ r d).trans (fwd_tile width t (blk_x m c t) (blk_w m c t) r d)

open Cert.InAbRefIdeal.Read in
/-- What the reference computes. -/
theorem ref (x : Mat 2048 1024) (w : Stack 8 1024 768) : val_main_v5 (F := Ideal) x w = fwd width x w :=
  fwd_of width (l := lidx_main_v4) (r := fun i k => idx_main_v0 (idx_main_v1 (ridx_main_v4 i k))) (fun i => by
      rw [val_main_v5_apply, val_main_v4_apply]
      exact Finset.sum_congr rfl fun k _ => by
        rw [val_main_v2_apply, val_main_v3_apply, val_main_v1_apply, val_main_v0_apply]; rfl)
    (fun i k => by funext a; fin_cases a <;> rfl) (fun i k => unstack width k (i 1) _ rfl rfl rfl)

theorem frame_reference : Cert.quiescent_InAbRefIdeal (hInAbRefIdeal := Cert.InAbRefIdeal.Gen.facts) := fun m ρ _ =>
  (θ_run Cert.InAbRefIdeal.defs _ _).mono (fun r h => ⟨fun c => (h c).2, sem_eq_zero_of_no_sems (by decide) r.2⟩) (Cert.InAbRefIdeal.Value.run (F := Ideal) m ρ)

/-- The call and the plain product end with equal arrays. -/
theorem algebraic : Cert.algebraic_InAbIdeal_InAbRefIdeal (hInAbIdeal := Cert.InAbIdeal.Gen.facts)
    (hInAbRefIdeal := Cert.InAbRefIdeal.Gen.facts) := by
  intro m ρ m' ρ' _ hag
  refine Cert.Ends.same (Cert.InAbIdeal.Value.run_blocks m ρ) (Cert.InAbRefIdeal.Value.run (F := Ideal) m' ρ') fun c => ?_
  rw [arr m c, Cert.InAbRefIdeal.Read.val_main_v5_eq, (hag c).1, (hag c).2, V_main_arg0, V_main_arg1]
  exact ref _ _

end Cert.InAbTie

namespace Cert.InCdTie

open Cert.InCdIdeal Cert.InCdIdeal.Gen

variable (m : (ℓ : Loc nD τ sig) → Buf (Elt Ideal) ℓ) (c : Dev nD)

theorem width : 8 * 512 = 4096 := rfl

theorem index : ∀ t : Fin cfg0.N, win0_0.index t = ![0, 0] ∧ win0_1.index t = ![t.val, 0, 0] ∧ win0_2.index t = ![0, t.val] := by
  decide +kernel

theorem blk_x (t : Fin cfg0.N) (r : Fin 2048) (k : Fin 1024) : iblk m c 0 t (ix2 r k) = V m c main_arg0 (ix2 r k) := by
  blk_ext [iblk, index t]

theorem blk_w (t : Fin cfg0.N) (k : Fin 1024) (d : Fin 512) : iblk m c 1 t (ix3 0 k d) = V m c main_arg1 (ix3 t k d) := by
  blk_ext [iblk, index t]

theorem emb_o (t : Fin cfg0.N) (r : Fin 2048) (d : Fin 512) : (win0_2.blk t).view.emb (ix2 r d) = ix2 r (col width t d) := by
  blk_ext [index t]

theorem block (x : Vec Ideal S2048x1024 .bf16) (w : Vec Ideal S1x1024x512 .bf16) (r : Fin 2048) (d : Fin 512) :
    out0_2 (F := Ideal) x w (ix2 r d) = ∑ k : Fin 1024, x (ix2 r k) * w (ix3 0 k d) := by
  unfold out0_2
  rw [View.canon_unit_zero hz2, View.ld_unit_zero (S := S2048x1024) hz2, View.ld_unit_zero (S := S1x1024x512) hz3]
  pointwise [k0_pay1]

theorem arr : (dats m 0 c).arrAt 2 cfg0.N = fwd width (V m c main_arg0) (V m c main_arg1) := by
  refine (dats m 0 c).arrAt_eq_of_covers 2 _ (by decide +kernel) fun t hf y => ?_
  blk_simp
  rw [after0_2]
  obtain ⟨r, d, rfl⟩ : ∃ (r : Fin 2048) (d : Fin 512), y = ix2 r d := ⟨y 0, y 1, by idx_vars y⟩
  rw [emb_o]
  exact (block _ _ r d).trans (fwd_tile width t (blk_x m c t) (blk_w m c t) r d)

open Cert.InCdRefIdeal.Read in
theorem ref (x : Mat 2048 1024) (w : Stack 8 1024 512) : val_main_v5 (F := Ideal) x w = fwd width x w :=
  fwd_of width (l := lidx_main_v4) (r := fun i k => idx_main_v0 (idx_main_v1 (ridx_main_v4 i k))) (fun i => by
      rw [val_main_v5_apply, val_main_v4_apply]
      exact Finset.sum_congr rfl fun k _ => by
        rw [val_main_v2_apply, val_main_v3_apply, val_main_v1_apply, val_main_v0_apply]; rfl)
    (fun i k => by funext a; fin_cases a <;> rfl) (fun i k => unstack width k (i 1) _ rfl rfl rfl)

theorem frame_reference : Cert.quiescent_InCdRefIdeal (hInCdRefIdeal := Cert.InCdRefIdeal.Gen.facts) := fun m ρ _ =>
  (θ_run Cert.InCdRefIdeal.defs _ _).mono (fun r h => ⟨fun c => (h c).2, sem_eq_zero_of_no_sems (by decide) r.2⟩) (Cert.InCdRefIdeal.Value.run (F := Ideal) m ρ)

/-- The call and the plain product end with equal arrays. -/
theorem algebraic : Cert.algebraic_InCdIdeal_InCdRefIdeal (hInCdIdeal := Cert.InCdIdeal.Gen.facts)
    (hInCdRefIdeal := Cert.InCdRefIdeal.Gen.facts) := by
  intro m ρ m' ρ' _ hag
  refine Cert.Ends.same (Cert.InCdIdeal.Value.run_blocks m ρ) (Cert.InCdRefIdeal.Value.run (F := Ideal) m' ρ') fun c => ?_
  rw [arr m c, Cert.InCdRefIdeal.Read.val_main_v5_eq, (hag c).1, (hag c).2, V_main_arg0, V_main_arg1]
  exact ref _ _

end Cert.InCdTie

end
-- ==== Proof.StackDx.lean ====
module

public import proofs.«01_k».proof.Proof.Product
public import proofs.«01_k».proof.Proof.Ends
public import proofs.«01_k».proof.Proof.Gen.InAbDxIdeal.Value
public import proofs.«01_k».proof.Proof.Gen.InAbDxRefIdeal.Run
public import proofs.«01_k».proof.Proof.Gen.InAbDxRefIdeal.Read
public import proofs.«01_k».proof.Proof.Gen.InCdDxIdeal.Value
public import proofs.«01_k».proof.Proof.Gen.InCdDxRefIdeal.Run
public import proofs.«01_k».proof.Proof.Gen.InCdDxRefIdeal.Read
public import proofs.«01_k».proof.Defs

/-! The gradients of the input products in their rows, summed over the members of the stack in eight points, for the A
and B branches and for the C and D branches. -/

@[expose] public section

set_option maxRecDepth 16384

noncomputable section

open Idealize.ShloMosaic Idealize.ShloMosaic.TcCoe Idealize.SL.Sem Cert.Product

namespace Cert.InAbDxTie

open Cert.InAbDxIdeal Cert.InAbDxIdeal.Gen

variable (m : (ℓ : Loc nD τ sig) → Buf (Elt Ideal) ℓ) (c : Dev nD)

theorem width : 8 * 768 = 6144 := rfl

theorem index : ∀ t : Fin cfg0.N, win0_0.index t = ![0, t.val] ∧ win0_1.index t = ![t.val, 0, 0] ∧ win0_2.index t = ![0, 0] := by
  decide +kernel

theorem blk_z (t : Fin cfg0.N) (r : Fin 2048) (d : Fin 768) : iblk m c 0 t (ix2 r d) = V m c main_arg0 (ix2 r (col width t d)) := by
  blk_ext [iblk, index t]

theorem blk_w (t : Fin cfg0.N) (k : Fin 1024) (d : Fin 768) : iblk m c 1 t (ix3 0 k d) = V m c main_arg1 (ix3 t k d) := by
  blk_ext [iblk, index t]

theorem emb_o (t : Fin cfg0.N) (r : Fin 2048) (k : Fin 1024) : (win0_2.blk t).view.emb (ix2 r k) = ix2 r k := by
  blk_ext [index t]

/-- The step from zero. -/
theorem first (z : Vec Ideal S2048x768 .bf16) (w : Vec Ideal S1x1024x768 .bf16) (r : Fin 2048) (k : Fin 1024) :
    k0_pay2 (F := Ideal) (k0_pay1 (F := Ideal)) z w (ix2 r k) = mulDx z (member w) (ix2 r k) := by
  pointwise [k0_pay2, k0_pay1]
  rfl

/-- The step from what is already summed. -/
theorem next (a : Vec Ideal S2048x1024 .f32) (z : Vec Ideal S2048x768 .bf16) (w : Vec Ideal S1x1024x768 .bf16) (r : Fin 2048)
    (k : Fin 1024) : k0_pay2 (F := Ideal) a z w (ix2 r k) = a (ix2 r k) + mulDx z (member w) (ix2 r k) := by
  pointwise [k0_pay2]
  rfl

section cases

variable (i : grid0.Coords) (a3 : Memref sig .tc .vmem S2048x768 .bf16) (h3 : a3.IsWhole) (a4 : Memref sig .tc .vmem S1x1024x768 .bf16)
  (h4 : a4.IsWhole) (a5 : Memref sig .tc .vmem S2048x1024 .f32) (h5 : a5.IsWhole) (a6 : Memref sig .tc .vmem S2048x1024 .f32)
  (h6 : a6.IsWhole) (z : Vec Ideal S2048x768 .bf16) (w : Vec Ideal S1x1024x768 .bf16) (s : Vec Ideal S2048x1024 .f32)

/-- What the first point leaves in the running sum. -/
theorem sum_A (hc : cond0_0 i) (hd : ¬cond0_1 i) :
    sout0_A_0 (F := Ideal) c i a3 h3 a4 h4 a5 h5 a6 h6 hc hd z w = k0_pay2 (k0_pay1 (F := Ideal)) z w := by
  unfold sout0_A_0
  rw [View.read_writes_eq_canon _ _ _ (scover0_A_0 c i a3 h3 a4 h4 a5 h5 a6 h6 hc hd z w)]
  unfold kernelRun0_A
  dsimp only
  sl_unfold_words
  rw [View.canon_cons_unit_zero (S := S2048x1024) hz2, View.readCov_unit_zero (S := S2048x1024) _ hz2]
  simp only [View.readAt_eq_ld, h3.read_unread, h4.read_unread, View.ld_unit_zero (S := S2048x768) hz2, View.ld_unit_zero (S := S1x1024x768) hz3]

/-- What a middle point leaves in the running sum. -/
theorem sum_B (hc : ¬cond0_0 i) (hd : ¬cond0_1 i) :
    sout0_B_0 (F := Ideal) c i a3 h3 a4 h4 a5 h5 a6 h6 hc hd z w s = k0_pay2 s z w := by
  unfold sout0_B_0
  rw [View.read_writes_eq_canon _ _ _ (scover0_B_0 c i a3 h3 a4 h4 a5 h5 a6 h6 hc hd z w s)]
  unfold kernelRun0_B
  dsimp only
  rw [View.canon_unit_zero hz2]
  simp only [View.readAt_eq_ld, h3.read_unread, h4.read_unread, h6.read_unread, View.ld_unit_zero (S := S2048x768) hz2,
    View.ld_unit_zero (S := S1x1024x768) hz3, View.ld_unit_zero (S := S2048x1024) hz2]

/-- What the last point leaves in the output's block. -/
theorem out_C (hc : ¬cond0_0 i) (hd : cond0_1 i) :
    out0_C_2 (F := Ideal) c i a3 h3 a4 h4 a5 h5 a6 h6 hc hd z w s = k0_pay2 s z w := by
  unfold out0_C_2
  rw [View.read_writes_eq_canon _ _ _ (cover0_C_2 c i a3 h3 a4 h4 a5 h5 a6 h6 hc hd z w s)]
  unfold kernelRun0_C
  dsimp only
  sl_unfold_words
  rw [View.canon_unit_zero hz2, View.readCov_unit_zero (S := S2048x1024) _ hz2]
  simp only [View.readAt_eq_ld, h3.read_unread, h4.read_unread, h6.read_unread, View.ld_unit_zero (S := S2048x768) hz2,
    View.ld_unit_zero (S := S1x1024x768) hz3, View.ld_unit_zero (S := S2048x1024) hz2]

end cases

/-- At the last point, the output's block is the sum of all members' parts. -/
theorem last (t : Fin cfg0.N) (h : t.val = 7) (r : Fin 2048) (k : Fin 1024) :
    (outsAt0 m c t.val t.isLt).1 (ix2 r k) = dx width (V m c main_arg0) (V m c main_arg1) (ix2 r k) :=
  (eight (fun s => mulDx (iblk m c 0 s) (member (iblk m c 1 s)) (ix2 r k)) (fun n h => (outsAt0 m c n h).2 (ix2 r k))
    (fun n h => (outsAt0 m c n h).1 (ix2 r k))
    (fun t h0 h1 => by rw [outsAt0_A m c t h0 h1]; dsimp only; rw [sum_A, first])
    (fun t h0 h1 => by rw [outsAt0_B m c t h0 h1]; dsimp only; rw [sum_B, next])
    (fun t h0 h1 => by rw [outsAt0_C m c t h0 h1]; dsimp only; rw [out_C, next]) t h).trans
  (dx_tiles width (blk_z m c) (blk_w m c) r k)

/-- The array after the call. -/
theorem arr : (dats m 0 c).arrAt 2 cfg0.N = dx width (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 1024), y = ix2 r k := ⟨y 0, y 1, by idx_vars y⟩
  have h7 : t.val = 7 := (by decide +kernel : ∀ t : Fin cfg0.N, (cfg0.win 2).flush t = true → t.val = 7) t hf
  rw [emb_o]
  exact last m c t h7 r k

open Cert.InAbDxRefIdeal.Read in
/-- What the reference computes. -/
theorem ref (z : Mat 2048 6144) (w : Stack 8 1024 768) : val_main_v6 (F := Ideal) z w = dx width z w :=
  dx_of width (l := lidx_main_v6) (r := fun i k => idx_main_v0 (idx_main_v1 (ridx_main_v6 i k))) (fun i => by
      rw [val_main_v6_apply]
      exact Finset.sum_congr rfl fun k _ => by
        rw [val_main_v5_apply, val_main_v3_apply, val_main_v1_apply, val_main_v0_apply]; rfl)
    (fun i k => by funext a; fin_cases a <;> rfl) (fun i x => unstack width (i 1) x _ rfl rfl rfl)

theorem frame_reference : Cert.quiescent_InAbDxRefIdeal (hInAbDxRefIdeal := Cert.InAbDxRefIdeal.Gen.facts) := fun m ρ _ =>
  (θ_run Cert.InAbDxRefIdeal.defs _ _).mono (fun r h => ⟨fun c => (h c).2, sem_eq_zero_of_no_sems (by decide) r.2⟩) (Cert.InAbDxRefIdeal.Value.run (F := Ideal) m ρ)

/-- The call and the plain gradient end with equal arrays. -/
theorem algebraic : Cert.algebraic_InAbDxIdeal_InAbDxRefIdeal (hInAbDxIdeal := Cert.InAbDxIdeal.Gen.facts)
    (hInAbDxRefIdeal := Cert.InAbDxRefIdeal.Gen.facts) := by
  intro m ρ m' ρ' _ hag
  refine Cert.Ends.same (Cert.InAbDxIdeal.Value.run_blocks m ρ) (Cert.InAbDxRefIdeal.Value.run (F := Ideal) m' ρ') fun c => ?_
  rw [arr m c, Cert.InAbDxRefIdeal.Read.val_main_v6_eq, (hag c).1, (hag c).2, V_main_arg0, V_main_arg1]
  exact ref _ _

end Cert.InAbDxTie

namespace Cert.InCdDxTie

open Cert.InCdDxIdeal Cert.InCdDxIdeal.Gen

variable (m : (ℓ : Loc nD τ sig) → Buf (Elt Ideal) ℓ) (c : Dev nD)

theorem width : 8 * 512 = 4096 := rfl

theorem index : ∀ t : Fin cfg0.N, win0_0.index t = ![0, t.val] ∧ win0_1.index t = ![t.val, 0, 0] ∧ win0_2.index t = ![0, 0] := by
  decide +kernel

theorem blk_z (t : Fin cfg0.N) (r : Fin 2048) (d : Fin 512) : iblk m c 0 t (ix2 r d) = V m c main_arg0 (ix2 r (col width t d)) := by
  blk_ext [iblk, index t]

theorem blk_w (t : Fin cfg0.N) (k : Fin 1024) (d : Fin 512) : iblk m c 1 t (ix3 0 k d) = V m c main_arg1 (ix3 t k d) := by
  blk_ext [iblk, index t]

theorem emb_o (t : Fin cfg0.N) (r : Fin 2048) (k : Fin 1024) : (win0_2.blk t).view.emb (ix2 r k) = ix2 r k := by
  blk_ext [index t]

theorem first (z : Vec Ideal S2048x512 .bf16) (w : Vec Ideal S1x1024x512 .bf16) (r : Fin 2048) (k : Fin 1024) :
    k0_pay2 (F := Ideal) (k0_pay1 (F := Ideal)) z w (ix2 r k) = mulDx z (member w) (ix2 r k) := by
  pointwise [k0_pay2, k0_pay1]
  rfl

theorem next (a : Vec Ideal S2048x1024 .f32) (z : Vec Ideal S2048x512 .bf16) (w : Vec Ideal S1x1024x512 .bf16) (r : Fin 2048)
    (k : Fin 1024) : k0_pay2 (F := Ideal) a z w (ix2 r k) = a (ix2 r k) + mulDx z (member w) (ix2 r k) := by
  pointwise [k0_pay2]
  rfl

section cases

variable (i : grid0.Coords) (a3 : Memref sig .tc .vmem S2048x512 .bf16) (h3 : a3.IsWhole) (a4 : Memref sig .tc .vmem S1x1024x512 .bf16)
  (h4 : a4.IsWhole) (a5 : Memref sig .tc .vmem S2048x1024 .f32) (h5 : a5.IsWhole) (a6 : Memref sig .tc .vmem S2048x1024 .f32)
  (h6 : a6.IsWhole) (z : Vec Ideal S2048x512 .bf16) (w : Vec Ideal S1x1024x512 .bf16) (s : Vec Ideal S2048x1024 .f32)

theorem sum_A (hc : cond0_0 i) (hd : ¬cond0_1 i) :
    sout0_A_0 (F := Ideal) c i a3 h3 a4 h4 a5 h5 a6 h6 hc hd z w = k0_pay2 (k0_pay1 (F := Ideal)) z w := by
  unfold sout0_A_0
  rw [View.read_writes_eq_canon _ _ _ (scover0_A_0 c i a3 h3 a4 h4 a5 h5 a6 h6 hc hd z w)]
  unfold kernelRun0_A
  dsimp only
  sl_unfold_words
  rw [View.canon_cons_unit_zero (S := S2048x1024) hz2, View.readCov_unit_zero (S := S2048x1024) _ hz2]
  simp only [View.readAt_eq_ld, h3.read_unread, h4.read_unread, View.ld_unit_zero (S := S2048x512) hz2, View.ld_unit_zero (S := S1x1024x512) hz3]

theorem sum_B (hc : ¬cond0_0 i) (hd : ¬cond0_1 i) :
    sout0_B_0 (F := Ideal) c i a3 h3 a4 h4 a5 h5 a6 h6 hc hd z w s = k0_pay2 s z w := by
  unfold sout0_B_0
  rw [View.read_writes_eq_canon _ _ _ (scover0_B_0 c i a3 h3 a4 h4 a5 h5 a6 h6 hc hd z w s)]
  unfold kernelRun0_B
  dsimp only
  rw [View.canon_unit_zero hz2]
  simp only [View.readAt_eq_ld, h3.read_unread, h4.read_unread, h6.read_unread, View.ld_unit_zero (S := S2048x512) hz2,
    View.ld_unit_zero (S := S1x1024x512) hz3, View.ld_unit_zero (S := S2048x1024) hz2]

theorem out_C (hc : ¬cond0_0 i) (hd : cond0_1 i) :
    out0_C_2 (F := Ideal) c i a3 h3 a4 h4 a5 h5 a6 h6 hc hd z w s = k0_pay2 s z w := by
  unfold out0_C_2
  rw [View.read_writes_eq_canon _ _ _ (cover0_C_2 c i a3 h3 a4 h4 a5 h5 a6 h6 hc hd z w s)]
  unfold kernelRun0_C
  dsimp only
  sl_unfold_words
  rw [View.canon_unit_zero hz2, View.readCov_unit_zero (S := S2048x1024) _ hz2]
  simp only [View.readAt_eq_ld, h3.read_unread, h4.read_unread, h6.read_unread, View.ld_unit_zero (S := S2048x512) hz2,
    View.ld_unit_zero (S := S1x1024x512) hz3, View.ld_unit_zero (S := S2048x1024) hz2]

end cases

theorem last (t : Fin cfg0.N) (h : t.val = 7) (r : Fin 2048) (k : Fin 1024) :
    (outsAt0 m c t.val t.isLt).1 (ix2 r k) = dx width (V m c main_arg0) (V m c main_arg1) (ix2 r k) :=
  (eight (fun s => mulDx (iblk m c 0 s) (member (iblk m c 1 s)) (ix2 r k)) (fun n h => (outsAt0 m c n h).2 (ix2 r k))
    (fun n h => (outsAt0 m c n h).1 (ix2 r k))
    (fun t h0 h1 => by rw [outsAt0_A m c t h0 h1]; dsimp only; rw [sum_A, first])
    (fun t h0 h1 => by rw [outsAt0_B m c t h0 h1]; dsimp only; rw [sum_B, next])
    (fun t h0 h1 => by rw [outsAt0_C m c t h0 h1]; dsimp only; rw [out_C, next]) t h).trans
  (dx_tiles width (blk_z m c) (blk_w m c) r k)

theorem arr : (dats m 0 c).arrAt 2 cfg0.N = dx width (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 1024), y = ix2 r k := ⟨y 0, y 1, by idx_vars y⟩
  have h7 : t.val = 7 := (by decide +kernel : ∀ t : Fin cfg0.N, (cfg0.win 2).flush t = true → t.val = 7) t hf
  rw [emb_o]
  exact last m c t h7 r k

open Cert.InCdDxRefIdeal.Read in
theorem ref (z : Mat 2048 4096) (w : Stack 8 1024 512) : val_main_v6 (F := Ideal) z w = dx width z w :=
  dx_of width (l := lidx_main_v6) (r := fun i k => idx_main_v0 (idx_main_v1 (ridx_main_v6 i k))) (fun i => by
      rw [val_main_v6_apply]
      exact Finset.sum_congr rfl fun k _ => by
        rw [val_main_v5_apply, val_main_v3_apply, val_main_v1_apply, val_main_v0_apply]; rfl)
    (fun i k => by funext a; fin_cases a <;> rfl) (fun i x => unstack width (i 1) x _ rfl rfl rfl)

theorem frame_reference : Cert.quiescent_InCdDxRefIdeal (hInCdDxRefIdeal := Cert.InCdDxRefIdeal.Gen.facts) := fun m ρ _ =>
  (θ_run Cert.InCdDxRefIdeal.defs _ _).mono (fun r h => ⟨fun c => (h c).2, sem_eq_zero_of_no_sems (by decide) r.2⟩) (Cert.InCdDxRefIdeal.Value.run (F := Ideal) m ρ)

/-- The call and the plain gradient end with equal arrays. -/
theorem algebraic : Cert.algebraic_InCdDxIdeal_InCdDxRefIdeal (hInCdDxIdeal := Cert.InCdDxIdeal.Gen.facts)
    (hInCdDxRefIdeal := Cert.InCdDxRefIdeal.Gen.facts) := by
  intro m ρ m' ρ' _ hag
  refine Cert.Ends.same (Cert.InCdDxIdeal.Value.run_blocks m ρ) (Cert.InCdDxRefIdeal.Value.run (F := Ideal) m' ρ') fun c => ?_
  rw [arr m c, Cert.InCdDxRefIdeal.Read.val_main_v6_eq, (hag c).1, (hag c).2, V_main_arg0, V_main_arg1]
  exact ref _ _

end Cert.InCdDxTie

end
-- ==== Proof.StackDw.lean ====
module

public import proofs.«01_k».proof.Proof.Product
public import proofs.«01_k».proof.Proof.Ends
public import proofs.«01_k».proof.Proof.Gen.InAbDwIdeal.Value
public import proofs.«01_k».proof.Proof.Gen.InAbDwRefIdeal.Run
public import proofs.«01_k».proof.Proof.Gen.InAbDwRefIdeal.Read
public import proofs.«01_k».proof.Proof.Gen.InCdDwIdeal.Value
public import proofs.«01_k».proof.Proof.Gen.InCdDwRefIdeal.Run
public import proofs.«01_k».proof.Proof.Gen.InCdDwRefIdeal.Read
public import proofs.«01_k».proof.Defs

/-! The gradients of the input products in their weight stacks, one member at each point, for the A and B branches and
for the C and D branches. -/

@[expose] public section

set_option maxRecDepth 16384

noncomputable section

open Idealize.ShloMosaic Idealize.ShloMosaic.TcCoe Idealize.SL.Sem Cert.Product

namespace Cert.InAbDwTie

open Cert.InAbDwIdeal Cert.InAbDwIdeal.Gen

variable (m : (ℓ : Loc nD τ sig) → Buf (Elt Ideal) ℓ) (c : Dev nD)

theorem width : 8 * 768 = 6144 := rfl

theorem index : ∀ t : Fin cfg0.N, win0_0.index t = ![0, 0] ∧ win0_1.index t = ![0, t.val] ∧ win0_2.index t = ![t.val, 0, 0] := by
  decide +kernel

theorem blk_x (t : Fin cfg0.N) (r : Fin 2048) (k : Fin 1024) : iblk m c 0 t (ix2 r k) = V m c main_arg0 (ix2 r k) := by
  blk_ext [iblk, index t]

theorem blk_z (t : Fin cfg0.N) (r : Fin 2048) (d : Fin 768) : iblk m c 1 t (ix2 r d) = V m c main_arg1 (ix2 r (col width t d)) := by
  blk_ext [iblk, index t]

theorem emb_o (t : Fin cfg0.N) (k : Fin 1024) (d : Fin 768) : (win0_2.blk t).view.emb (ix3 0 k d) = ix3 t k d := by
  blk_ext [index t]

/-- A block of the result: the gradient in one member of the stack. -/
theorem block (x : Vec Ideal S2048x1024 .bf16) (z : Vec Ideal S2048x768 .bf16) (k : Fin 1024) (d : Fin 768) :
    out0_2 (F := Ideal) x z (ix3 0 k d) = ∑ r : Fin 2048, x (ix2 r k) * z (ix2 r d) := by
  unfold out0_2
  rw [View.canon_unit_zero hz3, View.ld_unit_zero (S := S2048x1024) hz2, View.ld_unit_zero (S := S2048x768) hz2]
  pointwise [k0_pay1]

/-- The stack after the call. -/
theorem arr : (dats m 0 c).arrAt 2 cfg0.N = dw width (V m c main_arg0) (V m c main_arg1) := by
  refine (dats m 0 c).arrAt_eq_of_covers 2 _ (by decide +kernel) fun t hf y => ?_
  blk_simp
  rw [after0_2]
  obtain ⟨s, k, d, rfl⟩ : ∃ (s : Fin 1) (k : Fin 1024) (d : Fin 768), y = ix3 s k d := ⟨y 0, y 1, y 2, by idx_vars y⟩
  obtain rfl : s = 0 := Subsingleton.elim _ _
  rw [emb_o]
  exact (block _ _ k d).trans (dw_tile width t (blk_x m c t) (blk_z m c t) k d)

open Cert.InAbDwRefIdeal.Read in
/-- What the reference computes: the gradient in the matrices side by side, cut apart. -/
theorem ref (x : Mat 2048 1024) (z : Mat 2048 6144) : val_main_v8 (F := Ideal) x z = dw width x z := by
  have e : val_main_v5 (F := Ideal) x z = mulDw x z :=
    mulDw_of (l := fun i k => lidx_main_v4 (idx_main_v5 i) k) (r := fun i k => ridx_main_v4 (idx_main_v5 i) k) (fun i => by
        rw [val_main_v5_apply, val_main_v4_apply]
        exact Finset.sum_congr rfl fun k _ => by rw [val_main_v3_apply, val_main_v1_apply]; rfl)
      (fun i k => by funext a; fin_cases a <;> rfl) (fun i k => by funext a; fin_cases a <;> rfl)
  exact dw_of width (j := fun i => idx_main_v6 (idx_main_v7 i)) (fun i => by rw [val_main_v8_apply, val_main_v7_apply, val_main_v6_apply, e]; rfl)
    (fun i => rfl) (fun i => rfl)

theorem frame_reference : Cert.quiescent_InAbDwRefIdeal (hInAbDwRefIdeal := Cert.InAbDwRefIdeal.Gen.facts) := fun m ρ _ =>
  (θ_run Cert.InAbDwRefIdeal.defs _ _).mono (fun r h => ⟨fun c => (h c).2, sem_eq_zero_of_no_sems (by decide) r.2⟩) (Cert.InAbDwRefIdeal.Value.run (F := Ideal) m ρ)

/-- The call and the plain gradient end with equal stacks. -/
theorem algebraic : Cert.algebraic_InAbDwIdeal_InAbDwRefIdeal (hInAbDwIdeal := Cert.InAbDwIdeal.Gen.facts)
    (hInAbDwRefIdeal := Cert.InAbDwRefIdeal.Gen.facts) := by
  intro m ρ m' ρ' _ hag
  refine Cert.Ends.same (Cert.InAbDwIdeal.Value.run_blocks m ρ) (Cert.InAbDwRefIdeal.Value.run (F := Ideal) m' ρ') fun c => ?_
  rw [arr m c, Cert.InAbDwRefIdeal.Read.val_main_v8_eq, (hag c).1, (hag c).2, V_main_arg0, V_main_arg1]
  exact ref _ _

end Cert.InAbDwTie

namespace Cert.InCdDwTie

open Cert.InCdDwIdeal Cert.InCdDwIdeal.Gen

variable (m : (ℓ : Loc nD τ sig) → Buf (Elt Ideal) ℓ) (c : Dev nD)

theorem width : 8 * 512 = 4096 := rfl

theorem index : ∀ t : Fin cfg0.N, win0_0.index t = ![0, 0] ∧ win0_1.index t = ![0, t.val] ∧ win0_2.index t = ![t.val, 0, 0] := by
  decide +kernel

theorem blk_x (t : Fin cfg0.N) (r : Fin 2048) (k : Fin 1024) : iblk m c 0 t (ix2 r k) = V m c main_arg0 (ix2 r k) := by
  blk_ext [iblk, index t]

theorem blk_z (t : Fin cfg0.N) (r : Fin 2048) (d : Fin 512) : iblk m c 1 t (ix2 r d) = V m c main_arg1 (ix2 r (col width t d)) := by
  blk_ext [iblk, index t]

theorem emb_o (t : Fin cfg0.N) (k : Fin 1024) (d : Fin 512) : (win0_2.blk t).view.emb (ix3 0 k d) = ix3 t k d := by
  blk_ext [index t]

theorem block (x : Vec Ideal S2048x1024 .bf16) (z : Vec Ideal S2048x512 .bf16) (k : Fin 1024) (d : Fin 512) :
    out0_2 (F := Ideal) x z (ix3 0 k d) = ∑ r : Fin 2048, x (ix2 r k) * z (ix2 r d) := by
  unfold out0_2
  rw [View.canon_unit_zero hz3, View.ld_unit_zero (S := S2048x1024) hz2, View.ld_unit_zero (S := S2048x512) hz2]
  pointwise [k0_pay1]

theorem arr : (dats m 0 c).arrAt 2 cfg0.N = dw width (V m c main_arg0) (V m c main_arg1) := by
  refine (dats m 0 c).arrAt_eq_of_covers 2 _ (by decide +kernel) fun t hf y => ?_
  blk_simp
  rw [after0_2]
  obtain ⟨s, k, d, rfl⟩ : ∃ (s : Fin 1) (k : Fin 1024) (d : Fin 512), y = ix3 s k d := ⟨y 0, y 1, y 2, by idx_vars y⟩
  obtain rfl : s = 0 := Subsingleton.elim _ _
  rw [emb_o]
  exact (block _ _ k d).trans (dw_tile width t (blk_x m c t) (blk_z m c t) k d)

open Cert.InCdDwRefIdeal.Read in
theorem ref (x : Mat 2048 1024) (z : Mat 2048 4096) : val_main_v8 (F := Ideal) x z = dw width x z := by
  have e : val_main_v5 (F := Ideal) x z = mulDw x z :=
    mulDw_of (l := fun i k => lidx_main_v4 (idx_main_v5 i) k) (r := fun i k => ridx_main_v4 (idx_main_v5 i) k) (fun i => by
        rw [val_main_v5_apply, val_main_v4_apply]
        exact Finset.sum_congr rfl fun k _ => by rw [val_main_v3_apply, val_main_v1_apply]; rfl)
      (fun i k => by funext a; fin_cases a <;> rfl) (fun i k => by funext a; fin_cases a <;> rfl)
  exact dw_of width (j := fun i => idx_main_v6 (idx_main_v7 i)) (fun i => by rw [val_main_v8_apply, val_main_v7_apply, val_main_v6_apply, e]; rfl)
    (fun i => rfl) (fun i => rfl)

theorem frame_reference : Cert.quiescent_InCdDwRefIdeal (hInCdDwRefIdeal := Cert.InCdDwRefIdeal.Gen.facts) := fun m ρ _ =>
  (θ_run Cert.InCdDwRefIdeal.defs _ _).mono (fun r h => ⟨fun c => (h c).2, sem_eq_zero_of_no_sems (by decide) r.2⟩) (Cert.InCdDwRefIdeal.Value.run (F := Ideal) m ρ)

/-- The call and the plain gradient end with equal stacks. -/
theorem algebraic : Cert.algebraic_InCdDwIdeal_InCdDwRefIdeal (hInCdDwIdeal := Cert.InCdDwIdeal.Gen.facts)
    (hInCdDwRefIdeal := Cert.InCdDwRefIdeal.Gen.facts) := by
  intro m ρ m' ρ' _ hag
  refine Cert.Ends.same (Cert.InCdDwIdeal.Value.run_blocks m ρ) (Cert.InCdDwRefIdeal.Value.run (F := Ideal) m' ρ') fun c => ?_
  rw [arr m c, Cert.InCdDwRefIdeal.Read.val_main_v8_eq, (hag c).1, (hag c).2, V_main_arg0, V_main_arg1]
  exact ref _ _

end Cert.InCdDwTie

end
-- ==== Proof.PlainFwd.lean ====
module

public import proofs.«01_k».proof.Proof.Product
public import proofs.«01_k».proof.Proof.Ends
public import proofs.«01_k».proof.Proof.Gen.OutAbIdeal.Value
public import proofs.«01_k».proof.Proof.Gen.OutAbRefIdeal.Run
public import proofs.«01_k».proof.Proof.Gen.OutAbRefIdeal.Read
public import proofs.«01_k».proof.Proof.Gen.OutCdIdeal.Value
public import proofs.«01_k».proof.Proof.Gen.OutCdRefIdeal.Run
public import proofs.«01_k».proof.Proof.Gen.OutCdRefIdeal.Read
public import proofs.«01_k».proof.Proof.Gen.XoIdeal.Value
public import proofs.«01_k».proof.Proof.Gen.XoRefIdeal.Run
public import proofs.«01_k».proof.Proof.Gen.XoRefIdeal.Read
public import proofs.«01_k».proof.Proof.Gen.XqIdeal.Value
public import proofs.«01_k».proof.Proof.Gen.XqRefIdeal.Run
public import proofs.«01_k».proof.Proof.Gen.XqRefIdeal.Read
public import proofs.«01_k».proof.Defs

/-! The products with one weight matrix: the three output products, which add to the residual rows in two blocks of
1024 rows, and the query product, which is one block. -/

@[expose] public section

set_option maxRecDepth 16384

noncomputable section

open Idealize.ShloMosaic Idealize.ShloMosaic.TcCoe Idealize.SL.Sem Cert.Product

namespace Cert.OutAbTie

open Cert.OutAbIdeal Cert.OutAbIdeal.Gen

variable (m : (ℓ : Loc nD τ sig) → Buf (Elt Ideal) ℓ) (c : Dev nD)

theorem rows : 2 * 1024 = 2048 := rfl

theorem index : ∀ t : Fin cfg0.N, win0_0.index t = ![t.val, 0] ∧ win0_1.index t = ![0, 0] ∧ win0_2.index t = ![t.val, 0] ∧ win0_3.index t = ![t.val, 0] := by
  decide +kernel

theorem blk_x (t : Fin cfg0.N) (r : Fin 1024) (k : Fin 2048) : iblk m c 0 t (ix2 r k) = V m c main_arg0 (ix2 (col rows t r) k) := by
  blk_ext [iblk, index t]

theorem blk_w (t : Fin cfg0.N) (k : Fin 2048) (d : Fin 1024) : iblk m c 1 t (ix2 k d) = V m c main_arg1 (ix2 k d) := by
  blk_ext [iblk, index t]

theorem blk_y (t : Fin cfg0.N) (r : Fin 1024) (d : Fin 1024) : iblk m c 2 t (ix2 r d) = V m c main_arg2 (ix2 (col rows t r) d) := by
  blk_ext [iblk, index t]

theorem emb_o (t : Fin cfg0.N) (r : Fin 1024) (d : Fin 1024) : (win0_3.blk t).view.emb (ix2 r d) = ix2 (col rows t r) d := by
  blk_ext [index t]

/-- A block of the result. -/
theorem block (x : Vec Ideal S1024x2048 .bf16) (w : Vec Ideal S2048x1024 .bf16) (y : Vec Ideal S1024x1024 .f32) (r d : Fin 1024) :
    out0_3 (F := Ideal) x w y (ix2 r d) = y (ix2 r d) + ∑ k : Fin 2048, x (ix2 r k) * w (ix2 k d) := by
  unfold out0_3
  rw [View.canon_unit_zero hz2, View.ld_unit_zero (S := S1024x2048) hz2, View.ld_unit_zero (S := S2048x1024) hz2, View.ld_unit_zero (S := S1024x1024) hz2]
  pointwise [k0_pay1]
  exact add_comm _ _

/-- The array after the call. -/
theorem arr : (dats m 0 c).arrAt 3 cfg0.N = addMul (V m c main_arg0) (V m c main_arg1) (V m c main_arg2) := by
  refine (dats m 0 c).arrAt_eq_of_covers 3 _ (by decide +kernel) fun t hf y => ?_
  blk_simp
  rw [after0_3]
  obtain ⟨r, d, rfl⟩ : ∃ (r d : Fin 1024), y = ix2 r d := ⟨y 0, y 1, by idx_vars y⟩
  rw [emb_o]
  exact (block _ _ _ r d).trans (addMul_tile (g := id) (blk_x m c t) (blk_w m c t) (blk_y m c t) r d)

open Cert.OutAbRefIdeal.Read in
/-- What the reference computes. -/
theorem ref (x : Mat 2048 2048) (w : Mat 2048 1024) (y : Mat 2048 1024) : val_main_v3 (F := Ideal) x w y = addMul x w y := by
  have e : val_main_v2 (F := Ideal) x w = mul x w := mul_of (l := lidx_main_v2) (r := ridx_main_v2) (fun i => by
      rw [val_main_v2_apply]
      exact Finset.sum_congr rfl fun k _ => by rw [val_main_v0_apply, val_main_v1_apply]; rfl)
    (fun i k => by funext a; fin_cases a <;> rfl) (fun i k => by funext a; fin_cases a <;> rfl)
  funext i
  rw [val_main_v3_apply, e]
  rfl

theorem frame_reference : Cert.quiescent_OutAbRefIdeal (hOutAbRefIdeal := Cert.OutAbRefIdeal.Gen.facts) := fun m ρ _ =>
  (θ_run Cert.OutAbRefIdeal.defs _ _).mono (fun r h => ⟨fun c => (h c).2, sem_eq_zero_of_no_sems (by decide) r.2⟩) (Cert.OutAbRefIdeal.Value.run (F := Ideal) m ρ)

/-- The call and the plain product end with equal arrays. -/
theorem algebraic : Cert.algebraic_OutAbIdeal_OutAbRefIdeal (hOutAbIdeal := Cert.OutAbIdeal.Gen.facts)
    (hOutAbRefIdeal := Cert.OutAbRefIdeal.Gen.facts) := by
  intro m ρ m' ρ' _ hag
  refine Cert.Ends.same (Cert.OutAbIdeal.Value.run_blocks m ρ) (Cert.OutAbRefIdeal.Value.run (F := Ideal) m' ρ') fun c => ?_
  rw [arr m c, Cert.OutAbRefIdeal.Read.val_main_v3_eq, (hag c).1, (hag c).2.1, (hag c).2.2, V_main_arg0, V_main_arg1, V_main_arg2]
  exact ref _ _ _

end Cert.OutAbTie

namespace Cert.OutCdTie

open Cert.OutCdIdeal Cert.OutCdIdeal.Gen

variable (m : (ℓ : Loc nD τ sig) → Buf (Elt Ideal) ℓ) (c : Dev nD)

theorem rows : 2 * 1024 = 2048 := rfl

theorem index : ∀ t : Fin cfg0.N, win0_0.index t = ![t.val, 0] ∧ win0_1.index t = ![0, 0] ∧ win0_2.index t = ![t.val, 0] ∧ win0_3.index t = ![t.val, 0] := by
  decide +kernel

theorem blk_x (t : Fin cfg0.N) (r : Fin 1024) (k : Fin 1536) : iblk m c 0 t (ix2 r k) = V m c main_arg0 (ix2 (col rows t r) k) := by
  blk_ext [iblk, index t]

theorem blk_w (t : Fin cfg0.N) (k : Fin 1536) (d : Fin 1024) : iblk m c 1 t (ix2 k d) = V m c main_arg1 (ix2 k d) := by
  blk_ext [iblk, index t]

theorem blk_y (t : Fin cfg0.N) (r : Fin 1024) (d : Fin 1024) : iblk m c 2 t (ix2 r d) = V m c main_arg2 (ix2 (col rows t r) d) := by
  blk_ext [iblk, index t]

theorem emb_o (t : Fin cfg0.N) (r : Fin 1024) (d : Fin 1024) : (win0_3.blk t).view.emb (ix2 r d) = ix2 (col rows t r) d := by
  blk_ext [index t]

theorem block (x : Vec Ideal S1024x1536 .bf16) (w : Vec Ideal S1536x1024 .bf16) (y : Vec Ideal S1024x1024 .f32) (r d : Fin 1024) :
    out0_3 (F := Ideal) x w y (ix2 r d) = y (ix2 r d) + ∑ k : Fin 1536, x (ix2 r k) * w (ix2 k d) := by
  unfold out0_3
  rw [View.canon_unit_zero hz2, View.ld_unit_zero (S := S1024x1536) hz2, View.ld_unit_zero (S := S1536x1024) hz2, View.ld_unit_zero (S := S1024x1024) hz2]
  pointwise [k0_pay1]
  exact add_comm _ _

theorem arr : (dats m 0 c).arrAt 3 cfg0.N = addMul (V m c main_arg0) (V m c main_arg1) (V m c main_arg2) := by
  refine (dats m 0 c).arrAt_eq_of_covers 3 _ (by decide +kernel) fun t hf y => ?_
  blk_simp
  rw [after0_3]
  obtain ⟨r, d, rfl⟩ : ∃ (r d : Fin 1024), y = ix2 r d := ⟨y 0, y 1, by idx_vars y⟩
  rw [emb_o]
  exact (block _ _ _ r d).trans (addMul_tile (g := id) (blk_x m c t) (blk_w m c t) (blk_y m c t) r d)

open Cert.OutCdRefIdeal.Read in
theorem ref (x : Mat 2048 1536) (w : Mat 1536 1024) (y : Mat 2048 1024) : val_main_v3 (F := Ideal) x w y = addMul x w y := by
  have e : val_main_v2 (F := Ideal) x w = mul x w := mul_of (l := lidx_main_v2) (r := ridx_main_v2) (fun i => by
      rw [val_main_v2_apply]
      exact Finset.sum_congr rfl fun k _ => by rw [val_main_v0_apply, val_main_v1_apply]; rfl)
    (fun i k => by funext a; fin_cases a <;> rfl) (fun i k => by funext a; fin_cases a <;> rfl)
  funext i
  rw [val_main_v3_apply, e]
  rfl

theorem frame_reference : Cert.quiescent_OutCdRefIdeal (hOutCdRefIdeal := Cert.OutCdRefIdeal.Gen.facts) := fun m ρ _ =>
  (θ_run Cert.OutCdRefIdeal.defs _ _).mono (fun r h => ⟨fun c => (h c).2, sem_eq_zero_of_no_sems (by decide) r.2⟩) (Cert.OutCdRefIdeal.Value.run (F := Ideal) m ρ)

/-- The call and the plain product end with equal arrays. -/
theorem algebraic : Cert.algebraic_OutCdIdeal_OutCdRefIdeal (hOutCdIdeal := Cert.OutCdIdeal.Gen.facts)
    (hOutCdRefIdeal := Cert.OutCdRefIdeal.Gen.facts) := by
  intro m ρ m' ρ' _ hag
  refine Cert.Ends.same (Cert.OutCdIdeal.Value.run_blocks m ρ) (Cert.OutCdRefIdeal.Value.run (F := Ideal) m' ρ') fun c => ?_
  rw [arr m c, Cert.OutCdRefIdeal.Read.val_main_v3_eq, (hag c).1, (hag c).2.1, (hag c).2.2, V_main_arg0, V_main_arg1, V_main_arg2]
  exact ref _ _ _

end Cert.OutCdTie

namespace Cert.XoTie

open Cert.XoIdeal Cert.XoIdeal.Gen

variable (m : (ℓ : Loc nD τ sig) → Buf (Elt Ideal) ℓ) (c : Dev nD)

theorem rows : 2 * 1024 = 2048 := rfl

theorem index : ∀ t : Fin cfg0.N, win0_0.index t = ![t.val, 0] ∧ win0_1.index t = ![0, 0] ∧ win0_2.index t = ![t.val, 0] ∧ win0_3.index t = ![t.val, 0] := by
  decide +kernel

theorem blk_x (t : Fin cfg0.N) (r : Fin 1024) (k : Fin 1024) : iblk m c 0 t (ix2 r k) = V m c main_arg0 (ix2 (col rows t r) k) := by
  blk_ext [iblk, index t]

theorem blk_w (t : Fin cfg0.N) (k : Fin 1024) (d : Fin 1024) : iblk m c 1 t (ix2 k d) = V m c main_arg1 (ix2 k d) := by
  blk_ext [iblk, index t]

theorem blk_y (t : Fin cfg0.N) (r : Fin 1024) (d : Fin 1024) : iblk m c 2 t (ix2 r d) = V m c main_arg2 (ix2 (col rows t r) d) := by
  blk_ext [iblk, index t]

theorem emb_o (t : Fin cfg0.N) (r : Fin 1024) (d : Fin 1024) : (win0_3.blk t).view.emb (ix2 r d) = ix2 (col rows t r) d := by
  blk_ext [index t]

theorem block (x : Vec Ideal S1024x1024 .bf16) (w : Vec Ideal S1024x1024 .bf16) (y : Vec Ideal S1024x1024 .f32) (r d : Fin 1024) :
    out0_3 (F := Ideal) x w y (ix2 r d) = y (ix2 r d) + ∑ k : Fin 1024, x (ix2 r k) * w (ix2 k d) := by
  unfold out0_3
  rw [View.canon_unit_zero hz2]
  simp only [View.ld_unit_zero (S := S1024x1024) hz2]
  pointwise [k0_pay1]
  exact add_comm _ _

theorem arr : (dats m 0 c).arrAt 3 cfg0.N = addMul (V m c main_arg0) (V m c main_arg1) (V m c main_arg2) := by
  refine (dats m 0 c).arrAt_eq_of_covers 3 _ (by decide +kernel) fun t hf y => ?_
  blk_simp
  rw [after0_3]
  obtain ⟨r, d, rfl⟩ : ∃ (r d : Fin 1024), y = ix2 r d := ⟨y 0, y 1, by idx_vars y⟩
  rw [emb_o]
  exact (block _ _ _ r d).trans (addMul_tile (g := id) (blk_x m c t) (blk_w m c t) (blk_y m c t) r d)

open Cert.XoRefIdeal.Read in
theorem ref (x : Mat 2048 1024) (w : Mat 1024 1024) (y : Mat 2048 1024) : val_main_v3 (F := Ideal) x w y = addMul x w y := by
  have e : val_main_v2 (F := Ideal) x w = mul x w := mul_of (l := lidx_main_v2) (r := ridx_main_v2) (fun i => by
      rw [val_main_v2_apply]
      exact Finset.sum_congr rfl fun k _ => by rw [val_main_v0_apply, val_main_v1_apply]; rfl)
    (fun i k => by funext a; fin_cases a <;> rfl) (fun i k => by funext a; fin_cases a <;> rfl)
  funext i
  rw [val_main_v3_apply, e]
  rfl

theorem frame_reference : Cert.quiescent_XoRefIdeal (hXoRefIdeal := Cert.XoRefIdeal.Gen.facts) := fun m ρ _ =>
  (θ_run Cert.XoRefIdeal.defs _ _).mono (fun r h => ⟨fun c => (h c).2, sem_eq_zero_of_no_sems (by decide) r.2⟩) (Cert.XoRefIdeal.Value.run (F := Ideal) m ρ)

/-- The call and the plain product end with equal arrays. -/
theorem algebraic : Cert.algebraic_XoIdeal_XoRefIdeal (hXoIdeal := Cert.XoIdeal.Gen.facts)
    (hXoRefIdeal := Cert.XoRefIdeal.Gen.facts) := by
  intro m ρ m' ρ' _ hag
  refine Cert.Ends.same (Cert.XoIdeal.Value.run_blocks m ρ) (Cert.XoRefIdeal.Value.run (F := Ideal) m' ρ') fun c => ?_
  rw [arr m c, Cert.XoRefIdeal.Read.val_main_v3_eq, (hag c).1, (hag c).2.1, (hag c).2.2, V_main_arg0, V_main_arg1, V_main_arg2]
  exact ref _ _ _

end Cert.XoTie

namespace Cert.XqTie

open Cert.XqIdeal Cert.XqIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 1024) : iblk m c 0 t (ix2 r k) = V m c main_arg0 (ix2 r k) := by
  blk_ext [iblk, index t]

theorem blk_w (t : Fin cfg0.N) (k : Fin 1024) (d : Fin 1024) : iblk m c 1 t (ix2 k d) = V m c main_arg1 (ix2 k d) := by
  blk_ext [iblk, index t]

theorem emb_o (t : Fin cfg0.N) (r : Fin 2048) (d : Fin 1024) : (win0_2.blk t).view.emb (ix2 r d) = ix2 r d := by
  blk_ext [index t]

/-- The one block of the result. -/
theorem block (x : Vec Ideal S2048x1024 .bf16) (w : Vec Ideal S1024x1024 .bf16) (r : Fin 2048) (d : Fin 1024) :
    out0_2 (F := Ideal) x w (ix2 r d) = ∑ k : Fin 1024, x (ix2 r k) * w (ix2 k d) := by
  unfold out0_2
  rw [View.canon_unit_zero hz2, View.ld_unit_zero (S := S2048x1024) hz2, View.ld_unit_zero (S := S1024x1024) hz2]
  pointwise [k0_pay1]

/-- The array after the call. -/
theorem arr : (dats m 0 c).arrAt 2 cfg0.N = mul (V m c main_arg0) (V m c main_arg1) := by
  refine (dats m 0 c).arrAt_eq_of_covers 2 _ (by decide +kernel) fun t hf y => ?_
  blk_simp
  rw [after0_2]
  obtain ⟨r, d, rfl⟩ : ∃ (r : Fin 2048) (d : Fin 1024), y = ix2 r d := ⟨y 0, y 1, by idx_vars y⟩
  rw [emb_o]
  exact (block _ _ r d).trans (mul_tile (f := id) (g := id) (blk_x m c t) (blk_w m c t) r d)

open Cert.XqRefIdeal.Read in
/-- What the reference computes. -/
theorem ref (x : Mat 2048 1024) (w : Mat 1024 1024) : val_main_v3 (F := Ideal) x w = mul x w :=
  mul_of (l := lidx_main_v2) (r := ridx_main_v2) (fun i => by
      rw [val_main_v3_apply, val_main_v2_apply]
      exact Finset.sum_congr rfl fun k _ => by rw [val_main_v0_apply, val_main_v1_apply]; rfl)
    (fun i k => by funext a; fin_cases a <;> rfl) (fun i k => by funext a; fin_cases a <;> rfl)

theorem frame_reference : Cert.quiescent_XqRefIdeal (hXqRefIdeal := Cert.XqRefIdeal.Gen.facts) := fun m ρ _ =>
  (θ_run Cert.XqRefIdeal.defs _ _).mono (fun r h => ⟨fun c => (h c).2, sem_eq_zero_of_no_sems (by decide) r.2⟩) (Cert.XqRefIdeal.Value.run (F := Ideal) m ρ)

/-- The call and the plain product end with equal arrays. -/
theorem algebraic : Cert.algebraic_XqIdeal_XqRefIdeal (hXqIdeal := Cert.XqIdeal.Gen.facts)
    (hXqRefIdeal := Cert.XqRefIdeal.Gen.facts) := by
  intro m ρ m' ρ' _ hag
  refine Cert.Ends.same (Cert.XqIdeal.Value.run_blocks m ρ) (Cert.XqRefIdeal.Value.run (F := Ideal) m' ρ') fun c => ?_
  rw [arr m c, Cert.XqRefIdeal.Read.val_main_v3_eq, (hag c).1, (hag c).2, V_main_arg0, V_main_arg1]
  exact ref _ _

end Cert.XqTie

end
-- ==== Proof.PlainDx.lean ====
module

public import proofs.«01_k».proof.Proof.Product
public import proofs.«01_k».proof.Proof.Ends
public import proofs.«01_k».proof.Proof.Gen.OutAbDxIdeal.Value
public import proofs.«01_k».proof.Proof.Gen.OutAbDxRefIdeal.Run
public import proofs.«01_k».proof.Proof.Gen.OutAbDxRefIdeal.Read
public import proofs.«01_k».proof.Proof.Gen.OutCdDxIdeal.Value
public import proofs.«01_k».proof.Proof.Gen.OutCdDxRefIdeal.Run
public import proofs.«01_k».proof.Proof.Gen.OutCdDxRefIdeal.Read
public import proofs.«01_k».proof.Proof.Gen.XoDxIdeal.Value
public import proofs.«01_k».proof.Proof.Gen.XoDxRefIdeal.Run
public import proofs.«01_k».proof.Proof.Gen.XoDxRefIdeal.Read
public import proofs.«01_k».proof.Proof.Gen.XqDxIdeal.Value
public import proofs.«01_k».proof.Proof.Gen.XqDxRefIdeal.Run
public import proofs.«01_k».proof.Proof.Gen.XqDxRefIdeal.Read
public import proofs.«01_k».proof.Defs

/-! The row gradients of the products with one weight matrix: in two blocks of columns for the branches' output products,
in one block for the cross-attention's output and query products. -/

@[expose] public section

set_option maxRecDepth 16384

noncomputable section

open Idealize.ShloMosaic Idealize.ShloMosaic.TcCoe Idealize.SL.Sem Cert.Product

namespace Cert.OutAbDxTie

open Cert.OutAbDxIdeal Cert.OutAbDxIdeal.Gen

variable (m : (ℓ : Loc nD τ sig) → Buf (Elt Ideal) ℓ) (c : Dev nD)

theorem cols : 2 * 1024 = 2048 := rfl

theorem index : ∀ t : Fin cfg0.N, win0_0.index t = ![0, 0] ∧ win0_1.index t = ![t.val, 0] ∧ win0_2.index t = ![0, t.val] := by
  decide +kernel

theorem blk_z (t : Fin cfg0.N) (r : Fin 2048) (d : Fin 1024) : iblk m c 0 t (ix2 r d) = V m c main_arg0 (ix2 r d) := by
  blk_ext [iblk, index t]

theorem blk_w (t : Fin cfg0.N) (k : Fin 1024) (d : Fin 1024) : iblk m c 1 t (ix2 k d) = V m c main_arg1 (ix2 (col cols t k) d) := by
  blk_ext [iblk, index t]

theorem emb_o (t : Fin cfg0.N) (r : Fin 2048) (k : Fin 1024) : (win0_2.blk t).view.emb (ix2 r k) = ix2 r (col cols t k) := by
  blk_ext [index t]

/-- A block of the result. -/
theorem block (z : Vec Ideal S2048x1024 .f32) (w : Vec Ideal S1024x1024 .bf16) (r : Fin 2048) (k : Fin 1024) :
    out0_2 (F := Ideal) z w (ix2 r k) = ∑ d : Fin 1024, z (ix2 r d) * w (ix2 k d) := by
  unfold out0_2
  rw [View.canon_unit_zero hz2, View.ld_unit_zero (S := S2048x1024) hz2, View.ld_unit_zero (S := S1024x1024) hz2]
  pointwise [k0_pay1]

/-- The array after the call. -/
theorem arr : (dats m 0 c).arrAt 2 cfg0.N = mulDx (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 1024), y = ix2 r k := ⟨y 0, y 1, by idx_vars y⟩
  rw [emb_o]
  exact (block _ _ r k).trans (mulDx_tile (f := id) (blk_z m c t) (blk_w m c t) r k)

open Cert.OutAbDxRefIdeal.Read in
/-- What the reference computes. -/
theorem ref (z : Mat 2048 1024) (w : Mat 2048 1024) : val_main_v3 (F := Ideal) z w = mulDx z w :=
  mulDx_of (l := lidx_main_v3) (r := ridx_main_v3) (fun i => by
      rw [val_main_v3_apply]
      exact Finset.sum_congr rfl fun k _ => by rw [val_main_v1_apply]; rfl)
    (fun i k => by funext a; fin_cases a <;> rfl) (fun i k => by funext a; fin_cases a <;> rfl)

theorem frame_reference : Cert.quiescent_OutAbDxRefIdeal (hOutAbDxRefIdeal := Cert.OutAbDxRefIdeal.Gen.facts) := fun m ρ _ =>
  (θ_run Cert.OutAbDxRefIdeal.defs _ _).mono (fun r h => ⟨fun c => (h c).2, sem_eq_zero_of_no_sems (by decide) r.2⟩) (Cert.OutAbDxRefIdeal.Value.run (F := Ideal) m ρ)

/-- The call and the plain gradient end with equal arrays. -/
theorem algebraic : Cert.algebraic_OutAbDxIdeal_OutAbDxRefIdeal (hOutAbDxIdeal := Cert.OutAbDxIdeal.Gen.facts)
    (hOutAbDxRefIdeal := Cert.OutAbDxRefIdeal.Gen.facts) := by
  intro m ρ m' ρ' _ hag
  refine Cert.Ends.same (Cert.OutAbDxIdeal.Value.run_blocks m ρ) (Cert.OutAbDxRefIdeal.Value.run (F := Ideal) m' ρ') fun c => ?_
  rw [arr m c, Cert.OutAbDxRefIdeal.Read.val_main_v3_eq, (hag c).1, (hag c).2, V_main_arg0, V_main_arg1]
  exact ref _ _

end Cert.OutAbDxTie

namespace Cert.OutCdDxTie

open Cert.OutCdDxIdeal Cert.OutCdDxIdeal.Gen

variable (m : (ℓ : Loc nD τ sig) → Buf (Elt Ideal) ℓ) (c : Dev nD)

theorem cols : 2 * 768 = 1536 := rfl

theorem index : ∀ t : Fin cfg0.N, win0_0.index t = ![0, 0] ∧ win0_1.index t = ![t.val, 0] ∧ win0_2.index t = ![0, t.val] := by
  decide +kernel

theorem blk_z (t : Fin cfg0.N) (r : Fin 2048) (d : Fin 1024) : iblk m c 0 t (ix2 r d) = V m c main_arg0 (ix2 r d) := by
  blk_ext [iblk, index t]

theorem blk_w (t : Fin cfg0.N) (k : Fin 768) (d : Fin 1024) : iblk m c 1 t (ix2 k d) = V m c main_arg1 (ix2 (col cols t k) d) := by
  blk_ext [iblk, index t]

theorem emb_o (t : Fin cfg0.N) (r : Fin 2048) (k : Fin 768) : (win0_2.blk t).view.emb (ix2 r k) = ix2 r (col cols t k) := by
  blk_ext [index t]

theorem block (z : Vec Ideal S2048x1024 .f32) (w : Vec Ideal S768x1024 .bf16) (r : Fin 2048) (k : Fin 768) :
    out0_2 (F := Ideal) z w (ix2 r k) = ∑ d : Fin 1024, z (ix2 r d) * w (ix2 k d) := by
  unfold out0_2
  rw [View.canon_unit_zero hz2, View.ld_unit_zero (S := S2048x1024) hz2, View.ld_unit_zero (S := S768x1024) hz2]
  pointwise [k0_pay1]

theorem arr : (dats m 0 c).arrAt 2 cfg0.N = mulDx (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 768), y = ix2 r k := ⟨y 0, y 1, by idx_vars y⟩
  rw [emb_o]
  exact (block _ _ r k).trans (mulDx_tile (f := id) (blk_z m c t) (blk_w m c t) r k)

open Cert.OutCdDxRefIdeal.Read in
theorem ref (z : Mat 2048 1024) (w : Mat 1536 1024) : val_main_v3 (F := Ideal) z w = mulDx z w :=
  mulDx_of (l := lidx_main_v3) (r := ridx_main_v3) (fun i => by
      rw [val_main_v3_apply]
      exact Finset.sum_congr rfl fun k _ => by rw [val_main_v1_apply]; rfl)
    (fun i k => by funext a; fin_cases a <;> rfl) (fun i k => by funext a; fin_cases a <;> rfl)

theorem frame_reference : Cert.quiescent_OutCdDxRefIdeal (hOutCdDxRefIdeal := Cert.OutCdDxRefIdeal.Gen.facts) := fun m ρ _ =>
  (θ_run Cert.OutCdDxRefIdeal.defs _ _).mono (fun r h => ⟨fun c => (h c).2, sem_eq_zero_of_no_sems (by decide) r.2⟩) (Cert.OutCdDxRefIdeal.Value.run (F := Ideal) m ρ)

/-- The call and the plain gradient end with equal arrays. -/
theorem algebraic : Cert.algebraic_OutCdDxIdeal_OutCdDxRefIdeal (hOutCdDxIdeal := Cert.OutCdDxIdeal.Gen.facts)
    (hOutCdDxRefIdeal := Cert.OutCdDxRefIdeal.Gen.facts) := by
  intro m ρ m' ρ' _ hag
  refine Cert.Ends.same (Cert.OutCdDxIdeal.Value.run_blocks m ρ) (Cert.OutCdDxRefIdeal.Value.run (F := Ideal) m' ρ') fun c => ?_
  rw [arr m c, Cert.OutCdDxRefIdeal.Read.val_main_v3_eq, (hag c).1, (hag c).2, V_main_arg0, V_main_arg1]
  exact ref _ _

end Cert.OutCdDxTie

namespace Cert.XoDxTie

open Cert.XoDxIdeal Cert.XoDxIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_z (t : Fin cfg0.N) (r : Fin 2048) (d : Fin 1024) : iblk m c 0 t (ix2 r d) = V m c main_arg0 (ix2 r d) := by
  blk_ext [iblk, index t]

theorem blk_w (t : Fin cfg0.N) (k : Fin 1024) (d : Fin 1024) : iblk m c 1 t (ix2 k d) = V m c main_arg1 (ix2 k d) := by
  blk_ext [iblk, index t]

theorem emb_o (t : Fin cfg0.N) (r : Fin 2048) (k : Fin 1024) : (win0_2.blk t).view.emb (ix2 r k) = ix2 r k := by
  blk_ext [index t]

/-- The one block of the result. -/
theorem block (z : Vec Ideal S2048x1024 .f32) (w : Vec Ideal S1024x1024 .bf16) (r : Fin 2048) (k : Fin 1024) :
    out0_2 (F := Ideal) z w (ix2 r k) = ∑ d : Fin 1024, z (ix2 r d) * w (ix2 k d) := by
  unfold out0_2
  rw [View.canon_unit_zero hz2, View.ld_unit_zero (S := S2048x1024) hz2, View.ld_unit_zero (S := S1024x1024) hz2]
  pointwise [k0_pay1]

theorem arr : (dats m 0 c).arrAt 2 cfg0.N = mulDx (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 1024), y = ix2 r k := ⟨y 0, y 1, by idx_vars y⟩
  rw [emb_o]
  exact (block _ _ r k).trans (mulDx_tile (f := id) (e := id) (blk_z m c t) (blk_w m c t) r k)

open Cert.XoDxRefIdeal.Read in
theorem ref (z : Mat 2048 1024) (w : Mat 1024 1024) : val_main_v4 (F := Ideal) z w = mulDx z w :=
  mulDx_of (l := lidx_main_v3) (r := ridx_main_v3) (fun i => by
      rw [val_main_v4_apply, val_main_v3_apply]
      exact Finset.sum_congr rfl fun k _ => by rw [val_main_v1_apply]; rfl)
    (fun i k => by funext a; fin_cases a <;> rfl) (fun i k => by funext a; fin_cases a <;> rfl)

theorem frame_reference : Cert.quiescent_XoDxRefIdeal (hXoDxRefIdeal := Cert.XoDxRefIdeal.Gen.facts) := fun m ρ _ =>
  (θ_run Cert.XoDxRefIdeal.defs _ _).mono (fun r h => ⟨fun c => (h c).2, sem_eq_zero_of_no_sems (by decide) r.2⟩) (Cert.XoDxRefIdeal.Value.run (F := Ideal) m ρ)

/-- The call and the plain gradient end with equal arrays. -/
theorem algebraic : Cert.algebraic_XoDxIdeal_XoDxRefIdeal (hXoDxIdeal := Cert.XoDxIdeal.Gen.facts)
    (hXoDxRefIdeal := Cert.XoDxRefIdeal.Gen.facts) := by
  intro m ρ m' ρ' _ hag
  refine Cert.Ends.same (Cert.XoDxIdeal.Value.run_blocks m ρ) (Cert.XoDxRefIdeal.Value.run (F := Ideal) m' ρ') fun c => ?_
  rw [arr m c, Cert.XoDxRefIdeal.Read.val_main_v4_eq, (hag c).1, (hag c).2, V_main_arg0, V_main_arg1]
  exact ref _ _

end Cert.XoDxTie

namespace Cert.XqDxTie

open Cert.XqDxIdeal Cert.XqDxIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_z (t : Fin cfg0.N) (r : Fin 2048) (d : Fin 1024) : iblk m c 0 t (ix2 r d) = V m c main_arg0 (ix2 r d) := by
  blk_ext [iblk, index t]

theorem blk_w (t : Fin cfg0.N) (k : Fin 1024) (d : Fin 1024) : iblk m c 1 t (ix2 k d) = V m c main_arg1 (ix2 k d) := by
  blk_ext [iblk, index t]

theorem emb_o (t : Fin cfg0.N) (r : Fin 2048) (k : Fin 1024) : (win0_2.blk t).view.emb (ix2 r k) = ix2 r k := by
  blk_ext [index t]

theorem block (z : Vec Ideal S2048x1024 .bf16) (w : Vec Ideal S1024x1024 .bf16) (r : Fin 2048) (k : Fin 1024) :
    out0_2 (F := Ideal) z w (ix2 r k) = ∑ d : Fin 1024, z (ix2 r d) * w (ix2 k d) := by
  unfold out0_2
  rw [View.canon_unit_zero hz2, View.ld_unit_zero (S := S2048x1024) hz2, View.ld_unit_zero (S := S1024x1024) hz2]
  pointwise [k0_pay1]

theorem arr : (dats m 0 c).arrAt 2 cfg0.N = mulDx (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 1024), y = ix2 r k := ⟨y 0, y 1, by idx_vars y⟩
  rw [emb_o]
  exact (block _ _ r k).trans (mulDx_tile (f := id) (e := id) (blk_z m c t) (blk_w m c t) r k)

open Cert.XqDxRefIdeal.Read in
theorem ref (z : Mat 2048 1024) (w : Mat 1024 1024) : val_main_v4 (F := Ideal) z w = mulDx z w :=
  mulDx_of (l := lidx_main_v4) (r := ridx_main_v4) (fun i => by
      rw [val_main_v4_apply]
      exact Finset.sum_congr rfl fun k _ => by rw [val_main_v3_apply, val_main_v1_apply]; rfl)
    (fun i k => by funext a; fin_cases a <;> rfl) (fun i k => by funext a; fin_cases a <;> rfl)

theorem frame_reference : Cert.quiescent_XqDxRefIdeal (hXqDxRefIdeal := Cert.XqDxRefIdeal.Gen.facts) := fun m ρ _ =>
  (θ_run Cert.XqDxRefIdeal.defs _ _).mono (fun r h => ⟨fun c => (h c).2, sem_eq_zero_of_no_sems (by decide) r.2⟩) (Cert.XqDxRefIdeal.Value.run (F := Ideal) m ρ)

/-- The call and the plain gradient end with equal arrays. -/
theorem algebraic : Cert.algebraic_XqDxIdeal_XqDxRefIdeal (hXqDxIdeal := Cert.XqDxIdeal.Gen.facts)
    (hXqDxRefIdeal := Cert.XqDxRefIdeal.Gen.facts) := by
  intro m ρ m' ρ' _ hag
  refine Cert.Ends.same (Cert.XqDxIdeal.Value.run_blocks m ρ) (Cert.XqDxRefIdeal.Value.run (F := Ideal) m' ρ') fun c => ?_
  rw [arr m c, Cert.XqDxRefIdeal.Read.val_main_v4_eq, (hag c).1, (hag c).2, V_main_arg0, V_main_arg1]
  exact ref _ _

end Cert.XqDxTie

end
-- ==== Proof.PlainDw.lean ====
module

public import proofs.«01_k».proof.Proof.Product
public import proofs.«01_k».proof.Proof.Ends
public import proofs.«01_k».proof.Proof.Gen.OutAbDwIdeal.Value
public import proofs.«01_k».proof.Proof.Gen.OutAbDwRefIdeal.Run
public import proofs.«01_k».proof.Proof.Gen.OutAbDwRefIdeal.Read
public import proofs.«01_k».proof.Proof.Gen.OutCdDwIdeal.Value
public import proofs.«01_k».proof.Proof.Gen.OutCdDwRefIdeal.Run
public import proofs.«01_k».proof.Proof.Gen.OutCdDwRefIdeal.Read
public import proofs.«01_k».proof.Proof.Gen.XoDwIdeal.Value
public import proofs.«01_k».proof.Proof.Gen.XoDwRefIdeal.Run
public import proofs.«01_k».proof.Proof.Gen.XoDwRefIdeal.Read
public import proofs.«01_k».proof.Proof.Gen.XqDwIdeal.Value
public import proofs.«01_k».proof.Proof.Gen.XqDwRefIdeal.Run
public import proofs.«01_k».proof.Proof.Gen.XqDwRefIdeal.Read
public import proofs.«01_k».proof.Defs

/-! The weight gradients of the products with one weight matrix: in two blocks of rows for the A and B branches' output
product, in one block for the others. -/

@[expose] public section

set_option maxRecDepth 16384

noncomputable section

open Idealize.ShloMosaic Idealize.ShloMosaic.TcCoe Idealize.SL.Sem Cert.Product

namespace Cert.OutAbDwTie

open Cert.OutAbDwIdeal Cert.OutAbDwIdeal.Gen

variable (m : (ℓ : Loc nD τ sig) → Buf (Elt Ideal) ℓ) (c : Dev nD)

theorem cols : 2 * 1024 = 2048 := rfl

theorem index : ∀ t : Fin cfg0.N, win0_0.index t = ![0, t.val] ∧ win0_1.index t = ![0, 0] ∧ win0_2.index t = ![t.val, 0] := by
  decide +kernel

theorem blk_x (t : Fin cfg0.N) (r : Fin 2048) (k : Fin 1024) : iblk m c 0 t (ix2 r k) = V m c main_arg0 (ix2 r (col cols t k)) := by
  blk_ext [iblk, index t]

theorem blk_z (t : Fin cfg0.N) (r : Fin 2048) (d : Fin 1024) : iblk m c 1 t (ix2 r d) = V m c main_arg1 (ix2 r d) := by
  blk_ext [iblk, index t]

theorem emb_o (t : Fin cfg0.N) (k : Fin 1024) (d : Fin 1024) : (win0_2.blk t).view.emb (ix2 k d) = ix2 (col cols t k) d := by
  blk_ext [index t]

/-- A block of the result. -/
theorem block (x : Vec Ideal S2048x1024 .bf16) (z : Vec Ideal S2048x1024 .f32) (k d : Fin 1024) :
    out0_2 (F := Ideal) x z (ix2 k d) = ∑ r : Fin 2048, x (ix2 r k) * z (ix2 r d) := by
  unfold out0_2
  rw [View.canon_unit_zero hz2]
  simp only [View.ld_unit_zero (S := S2048x1024) hz2]
  pointwise [k0_pay1]

/-- The matrix after the call. -/
theorem arr : (dats m 0 c).arrAt 2 cfg0.N = mulDw (V m c main_arg0) (V m c main_arg1) := by
  refine (dats m 0 c).arrAt_eq_of_covers 2 _ (by decide +kernel) fun t hf y => ?_
  blk_simp
  rw [after0_2]
  obtain ⟨k, d, rfl⟩ : ∃ (k d : Fin 1024), y = ix2 k d := ⟨y 0, y 1, by idx_vars y⟩
  rw [emb_o]
  exact (block _ _ k d).trans (mulDw_tile (g := id) (blk_x m c t) (blk_z m c t) k d)

open Cert.OutAbDwRefIdeal.Read in
/-- What the reference computes. -/
theorem ref (x : Mat 2048 2048) (z : Mat 2048 1024) : val_main_v5 (F := Ideal) x z = mulDw x z :=
  mulDw_of (l := fun i k => lidx_main_v3 (idx_main_v4 i) k) (r := fun i k => ridx_main_v3 (idx_main_v4 i) k) (fun i => by
      rw [val_main_v5_apply, val_main_v4_apply, val_main_v3_apply]
      exact Finset.sum_congr rfl fun k _ => by rw [val_main_v1_apply]; rfl)
    (fun i k => by funext a; fin_cases a <;> rfl) (fun i k => by funext a; fin_cases a <;> rfl)

theorem frame_reference : Cert.quiescent_OutAbDwRefIdeal (hOutAbDwRefIdeal := Cert.OutAbDwRefIdeal.Gen.facts) := fun m ρ _ =>
  (θ_run Cert.OutAbDwRefIdeal.defs _ _).mono (fun r h => ⟨fun c => (h c).2, sem_eq_zero_of_no_sems (by decide) r.2⟩) (Cert.OutAbDwRefIdeal.Value.run (F := Ideal) m ρ)

/-- The call and the plain gradient end with equal matrices. -/
theorem algebraic : Cert.algebraic_OutAbDwIdeal_OutAbDwRefIdeal (hOutAbDwIdeal := Cert.OutAbDwIdeal.Gen.facts)
    (hOutAbDwRefIdeal := Cert.OutAbDwRefIdeal.Gen.facts) := by
  intro m ρ m' ρ' _ hag
  refine Cert.Ends.same (Cert.OutAbDwIdeal.Value.run_blocks m ρ) (Cert.OutAbDwRefIdeal.Value.run (F := Ideal) m' ρ') fun c => ?_
  rw [arr m c, Cert.OutAbDwRefIdeal.Read.val_main_v5_eq, (hag c).1, (hag c).2, V_main_arg0, V_main_arg1]
  exact ref _ _

end Cert.OutAbDwTie

namespace Cert.OutCdDwTie

open Cert.OutCdDwIdeal Cert.OutCdDwIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 1536) : iblk m c 0 t (ix2 r k) = V m c main_arg0 (ix2 r k) := by
  blk_ext [iblk, index t]

theorem blk_z (t : Fin cfg0.N) (r : Fin 2048) (d : Fin 1024) : iblk m c 1 t (ix2 r d) = V m c main_arg1 (ix2 r d) := by
  blk_ext [iblk, index t]

theorem emb_o (t : Fin cfg0.N) (k : Fin 1536) (d : Fin 1024) : (win0_2.blk t).view.emb (ix2 k d) = ix2 k d := by
  blk_ext [index t]

/-- The one block of the result. -/
theorem block (x : Vec Ideal S2048x1536 .bf16) (z : Vec Ideal S2048x1024 .f32) (k : Fin 1536) (d : Fin 1024) :
    out0_2 (F := Ideal) x z (ix2 k d) = ∑ r : Fin 2048, x (ix2 r k) * z (ix2 r d) := by
  unfold out0_2
  rw [View.canon_unit_zero hz2, View.ld_unit_zero (S := S2048x1536) hz2, View.ld_unit_zero (S := S2048x1024) hz2]
  pointwise [k0_pay1]

theorem arr : (dats m 0 c).arrAt 2 cfg0.N = mulDw (V m c main_arg0) (V m c main_arg1) := by
  refine (dats m 0 c).arrAt_eq_of_covers 2 _ (by decide +kernel) fun t hf y => ?_
  blk_simp
  rw [after0_2]
  obtain ⟨k, d, rfl⟩ : ∃ (k : Fin 1536) (d : Fin 1024), y = ix2 k d := ⟨y 0, y 1, by idx_vars y⟩
  rw [emb_o]
  exact (block _ _ k d).trans (mulDw_tile (e := id) (g := id) (blk_x m c t) (blk_z m c t) k d)

open Cert.OutCdDwRefIdeal.Read in
theorem ref (x : Mat 2048 1536) (z : Mat 2048 1024) : val_main_v5 (F := Ideal) x z = mulDw x z :=
  mulDw_of (l := fun i k => lidx_main_v3 (idx_main_v4 i) k) (r := fun i k => ridx_main_v3 (idx_main_v4 i) k) (fun i => by
      rw [val_main_v5_apply, val_main_v4_apply, val_main_v3_apply]
      exact Finset.sum_congr rfl fun k _ => by rw [val_main_v1_apply]; rfl)
    (fun i k => by funext a; fin_cases a <;> rfl) (fun i k => by funext a; fin_cases a <;> rfl)

theorem frame_reference : Cert.quiescent_OutCdDwRefIdeal (hOutCdDwRefIdeal := Cert.OutCdDwRefIdeal.Gen.facts) := fun m ρ _ =>
  (θ_run Cert.OutCdDwRefIdeal.defs _ _).mono (fun r h => ⟨fun c => (h c).2, sem_eq_zero_of_no_sems (by decide) r.2⟩) (Cert.OutCdDwRefIdeal.Value.run (F := Ideal) m ρ)

/-- The call and the plain gradient end with equal matrices. -/
theorem algebraic : Cert.algebraic_OutCdDwIdeal_OutCdDwRefIdeal (hOutCdDwIdeal := Cert.OutCdDwIdeal.Gen.facts)
    (hOutCdDwRefIdeal := Cert.OutCdDwRefIdeal.Gen.facts) := by
  intro m ρ m' ρ' _ hag
  refine Cert.Ends.same (Cert.OutCdDwIdeal.Value.run_blocks m ρ) (Cert.OutCdDwRefIdeal.Value.run (F := Ideal) m' ρ') fun c => ?_
  rw [arr m c, Cert.OutCdDwRefIdeal.Read.val_main_v5_eq, (hag c).1, (hag c).2, V_main_arg0, V_main_arg1]
  exact ref _ _

end Cert.OutCdDwTie

namespace Cert.XoDwTie

open Cert.XoDwIdeal Cert.XoDwIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 1024) : iblk m c 0 t (ix2 r k) = V m c main_arg0 (ix2 r k) := by
  blk_ext [iblk, index t]

theorem blk_z (t : Fin cfg0.N) (r : Fin 2048) (d : Fin 1024) : iblk m c 1 t (ix2 r d) = V m c main_arg1 (ix2 r d) := by
  blk_ext [iblk, index t]

theorem emb_o (t : Fin cfg0.N) (k : Fin 1024) (d : Fin 1024) : (win0_2.blk t).view.emb (ix2 k d) = ix2 k d := by
  blk_ext [index t]

theorem block (x : Vec Ideal S2048x1024 .bf16) (z : Vec Ideal S2048x1024 .f32) (k d : Fin 1024) :
    out0_2 (F := Ideal) x z (ix2 k d) = ∑ r : Fin 2048, x (ix2 r k) * z (ix2 r d) := by
  unfold out0_2
  rw [View.canon_unit_zero hz2]
  simp only [View.ld_unit_zero (S := S2048x1024) hz2]
  pointwise [k0_pay1]

theorem arr : (dats m 0 c).arrAt 2 cfg0.N = mulDw (V m c main_arg0) (V m c main_arg1) := by
  refine (dats m 0 c).arrAt_eq_of_covers 2 _ (by decide +kernel) fun t hf y => ?_
  blk_simp
  rw [after0_2]
  obtain ⟨k, d, rfl⟩ : ∃ (k d : Fin 1024), y = ix2 k d := ⟨y 0, y 1, by idx_vars y⟩
  rw [emb_o]
  exact (block _ _ k d).trans (mulDw_tile (e := id) (g := id) (blk_x m c t) (blk_z m c t) k d)

open Cert.XoDwRefIdeal.Read in
theorem ref (x : Mat 2048 1024) (z : Mat 2048 1024) : val_main_v5 (F := Ideal) x z = mulDw x z :=
  mulDw_of (l := fun i k => lidx_main_v3 (idx_main_v4 i) k) (r := fun i k => ridx_main_v3 (idx_main_v4 i) k) (fun i => by
      rw [val_main_v5_apply, val_main_v4_apply, val_main_v3_apply]
      exact Finset.sum_congr rfl fun k _ => by rw [val_main_v1_apply]; rfl)
    (fun i k => by funext a; fin_cases a <;> rfl) (fun i k => by funext a; fin_cases a <;> rfl)

theorem frame_reference : Cert.quiescent_XoDwRefIdeal (hXoDwRefIdeal := Cert.XoDwRefIdeal.Gen.facts) := fun m ρ _ =>
  (θ_run Cert.XoDwRefIdeal.defs _ _).mono (fun r h => ⟨fun c => (h c).2, sem_eq_zero_of_no_sems (by decide) r.2⟩) (Cert.XoDwRefIdeal.Value.run (F := Ideal) m ρ)

/-- The call and the plain gradient end with equal matrices. -/
theorem algebraic : Cert.algebraic_XoDwIdeal_XoDwRefIdeal (hXoDwIdeal := Cert.XoDwIdeal.Gen.facts)
    (hXoDwRefIdeal := Cert.XoDwRefIdeal.Gen.facts) := by
  intro m ρ m' ρ' _ hag
  refine Cert.Ends.same (Cert.XoDwIdeal.Value.run_blocks m ρ) (Cert.XoDwRefIdeal.Value.run (F := Ideal) m' ρ') fun c => ?_
  rw [arr m c, Cert.XoDwRefIdeal.Read.val_main_v5_eq, (hag c).1, (hag c).2, V_main_arg0, V_main_arg1]
  exact ref _ _

end Cert.XoDwTie

namespace Cert.XqDwTie

open Cert.XqDwIdeal Cert.XqDwIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 1024) : iblk m c 0 t (ix2 r k) = V m c main_arg0 (ix2 r k) := by
  blk_ext [iblk, index t]

theorem blk_z (t : Fin cfg0.N) (r : Fin 2048) (d : Fin 1024) : iblk m c 1 t (ix2 r d) = V m c main_arg1 (ix2 r d) := by
  blk_ext [iblk, index t]

theorem emb_o (t : Fin cfg0.N) (k : Fin 1024) (d : Fin 1024) : (win0_2.blk t).view.emb (ix2 k d) = ix2 k d := by
  blk_ext [index t]

theorem block (x : Vec Ideal S2048x1024 .bf16) (z : Vec Ideal S2048x1024 .bf16) (k d : Fin 1024) :
    out0_2 (F := Ideal) x z (ix2 k d) = ∑ r : Fin 2048, x (ix2 r k) * z (ix2 r d) := by
  unfold out0_2
  rw [View.canon_unit_zero hz2]
  simp only [View.ld_unit_zero (S := S2048x1024) hz2]
  pointwise [k0_pay1]

theorem arr : (dats m 0 c).arrAt 2 cfg0.N = mulDw (V m c main_arg0) (V m c main_arg1) := by
  refine (dats m 0 c).arrAt_eq_of_covers 2 _ (by decide +kernel) fun t hf y => ?_
  blk_simp
  rw [after0_2]
  obtain ⟨k, d, rfl⟩ : ∃ (k d : Fin 1024), y = ix2 k d := ⟨y 0, y 1, by idx_vars y⟩
  rw [emb_o]
  exact (block _ _ k d).trans (mulDw_tile (e := id) (g := id) (blk_x m c t) (blk_z m c t) k d)

open Cert.XqDwRefIdeal.Read in
theorem ref (x : Mat 2048 1024) (z : Mat 2048 1024) : val_main_v6 (F := Ideal) x z = mulDw x z :=
  mulDw_of (l := fun i k => lidx_main_v4 (idx_main_v5 i) k) (r := fun i k => ridx_main_v4 (idx_main_v5 i) k) (fun i => by
      rw [val_main_v6_apply, val_main_v5_apply, val_main_v4_apply]
      exact Finset.sum_congr rfl fun k _ => by rw [val_main_v3_apply, val_main_v1_apply]; rfl)
    (fun i k => by funext a; fin_cases a <;> rfl) (fun i k => by funext a; fin_cases a <;> rfl)

theorem frame_reference : Cert.quiescent_XqDwRefIdeal (hXqDwRefIdeal := Cert.XqDwRefIdeal.Gen.facts) := fun m ρ _ =>
  (θ_run Cert.XqDwRefIdeal.defs _ _).mono (fun r h => ⟨fun c => (h c).2, sem_eq_zero_of_no_sems (by decide) r.2⟩) (Cert.XqDwRefIdeal.Value.run (F := Ideal) m ρ)

/-- The call and the plain gradient end with equal matrices. -/
theorem algebraic : Cert.algebraic_XqDwIdeal_XqDwRefIdeal (hXqDwIdeal := Cert.XqDwIdeal.Gen.facts)
    (hXqDwRefIdeal := Cert.XqDwRefIdeal.Gen.facts) := by
  intro m ρ m' ρ' _ hag
  refine Cert.Ends.same (Cert.XqDwIdeal.Value.run_blocks m ρ) (Cert.XqDwRefIdeal.Value.run (F := Ideal) m' ρ') fun c => ?_
  rw [arr m c, Cert.XqDwRefIdeal.Read.val_main_v6_eq, (hag c).1, (hag c).2, V_main_arg0, V_main_arg1]
  exact ref _ _

end Cert.XqDwTie

end
-- ==== Proof.BranchFwd.lean ====
module

public import proofs.«01_k».proof.Proof.Product
public import proofs.«01_k».proof.Proof.Ends
public import proofs.«01_k».proof.Proof.Gen.GluIdeal.Value
public import proofs.«01_k».proof.Proof.Gen.GluRefIdeal.Run
public import proofs.«01_k».proof.Proof.Gen.GluRefIdeal.Read
public import proofs.«01_k».proof.Proof.Gen.PoolIdeal.Value
public import proofs.«01_k».proof.Proof.Gen.PoolRefIdeal.Run
public import proofs.«01_k».proof.Proof.Gen.PoolRefIdeal.Read
public import proofs.«01_k».proof.Defs

/-! The products inside the branches, each in one block: the two halves of the gated unit together, and the mixing of the
pooled rows. -/

@[expose] public section

set_option maxRecDepth 16384

noncomputable section

open Idealize.ShloMosaic Idealize.ShloMosaic.TcCoe Idealize.SL.Sem Cert.Product

namespace Cert.GluTie

open Cert.GluIdeal Cert.GluIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 512) : iblk m c 0 t (ix2 r k) = V m c main_arg0 (ix2 r k) := by
  blk_ext [iblk, index t]

theorem blk_w (t : Fin cfg0.N) (k : Fin 512) (d : Fin 1024) : iblk m c 1 t (ix2 k d) = V m c main_arg1 (ix2 k d) := by
  blk_ext [iblk, index t]

theorem emb_o (t : Fin cfg0.N) (r : Fin 2048) (d : Fin 1024) : (win0_2.blk t).view.emb (ix2 r d) = ix2 r d := by
  blk_ext [index t]

/-- The one block of the result. -/
theorem block (x : Vec Ideal S2048x512 .bf16) (w : Vec Ideal S512x1024 .bf16) (r : Fin 2048) (d : Fin 1024) :
    out0_2 (F := Ideal) x w (ix2 r d) = ∑ k : Fin 512, x (ix2 r k) * w (ix2 k d) := by
  unfold out0_2
  rw [View.canon_unit_zero hz2, View.ld_unit_zero (S := S2048x512) hz2, View.ld_unit_zero (S := S512x1024) hz2]
  pointwise [k0_pay1]

/-- The array after the call. -/
theorem arr : (dats m 0 c).arrAt 2 cfg0.N = mul (V m c main_arg0) (V m c main_arg1) := by
  refine (dats m 0 c).arrAt_eq_of_covers 2 _ (by decide +kernel) fun t hf y => ?_
  blk_simp
  rw [after0_2]
  obtain ⟨r, d, rfl⟩ : ∃ (r : Fin 2048) (d : Fin 1024), y = ix2 r d := ⟨y 0, y 1, by idx_vars y⟩
  rw [emb_o]
  exact (block _ _ r d).trans (mul_tile (f := id) (g := id) (blk_x m c t) (blk_w m c t) r d)

open Cert.GluRefIdeal.Read in
/-- What the reference computes. -/
theorem ref (x : Mat 2048 512) (w : Mat 512 1024) : val_main_v2 (F := Ideal) x w = mul x w :=
  mul_of (l := lidx_main_v2) (r := ridx_main_v2) (fun i => by
      rw [val_main_v2_apply]
      exact Finset.sum_congr rfl fun k _ => by rw [val_main_v0_apply, val_main_v1_apply]; rfl)
    (fun i k => by funext a; fin_cases a <;> rfl) (fun i k => by funext a; fin_cases a <;> rfl)

theorem frame_reference : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩) (Cert.GluRefIdeal.Value.run (F := Ideal) m ρ)

/-- The call and the plain product end with equal arrays. -/
theorem algebraic : Cert.algebraic_GluIdeal_GluRefIdeal (hGluIdeal := Cert.GluIdeal.Gen.facts)
    (hGluRefIdeal := Cert.GluRefIdeal.Gen.facts) := by
  intro m ρ m' ρ' _ hag
  refine Cert.Ends.same (Cert.GluIdeal.Value.run_blocks m ρ) (Cert.GluRefIdeal.Value.run (F := Ideal) m' ρ') fun c => ?_
  rw [arr m c, Cert.GluRefIdeal.Read.val_main_v2_eq, (hag c).1, (hag c).2, V_main_arg0, V_main_arg1]
  exact ref _ _

end Cert.GluTie

namespace Cert.PoolTie

open Cert.PoolIdeal Cert.PoolIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 1024) : iblk m c 0 t (ix2 r k) = V m c main_arg0 (ix2 r k) := by
  blk_ext [iblk, index t]

theorem blk_w (t : Fin cfg0.N) (k : Fin 1024) (d : Fin 1024) : iblk m c 1 t (ix2 k d) = V m c main_arg1 (ix2 k d) := by
  blk_ext [iblk, index t]

theorem emb_o (t : Fin cfg0.N) (r : Fin 2048) (d : Fin 1024) : (win0_2.blk t).view.emb (ix2 r d) = ix2 r d := by
  blk_ext [index t]

theorem block (x : Vec Ideal S2048x1024 .bf16) (w : Vec Ideal S1024x1024 .bf16) (r : Fin 2048) (d : Fin 1024) :
    out0_2 (F := Ideal) x w (ix2 r d) = ∑ k : Fin 1024, x (ix2 r k) * w (ix2 k d) := by
  unfold out0_2
  rw [View.canon_unit_zero hz2, View.ld_unit_zero (S := S2048x1024) hz2, View.ld_unit_zero (S := S1024x1024) hz2]
  pointwise [k0_pay1]

theorem arr : (dats m 0 c).arrAt 2 cfg0.N = mul (V m c main_arg0) (V m c main_arg1) := by
  refine (dats m 0 c).arrAt_eq_of_covers 2 _ (by decide +kernel) fun t hf y => ?_
  blk_simp
  rw [after0_2]
  obtain ⟨r, d, rfl⟩ : ∃ (r : Fin 2048) (d : Fin 1024), y = ix2 r d := ⟨y 0, y 1, by idx_vars y⟩
  rw [emb_o]
  exact (block _ _ r d).trans (mul_tile (f := id) (g := id) (blk_x m c t) (blk_w m c t) r d)

open Cert.PoolRefIdeal.Read in
theorem ref (x : Mat 2048 1024) (w : Mat 1024 1024) : val_main_v2 (F := Ideal) x w = mul x w :=
  mul_of (l := lidx_main_v2) (r := ridx_main_v2) (fun i => by
      rw [val_main_v2_apply]
      exact Finset.sum_congr rfl fun k _ => by rw [val_main_v0_apply, val_main_v1_apply]; rfl)
    (fun i k => by funext a; fin_cases a <;> rfl) (fun i k => by funext a; fin_cases a <;> rfl)

theorem frame_reference : Cert.quiescent_PoolRefIdeal (hPoolRefIdeal := Cert.PoolRefIdeal.Gen.facts) := fun m ρ _ =>
  (θ_run Cert.PoolRefIdeal.defs _ _).mono (fun r h => ⟨fun c => (h c).2, sem_eq_zero_of_no_sems (by decide) r.2⟩) (Cert.PoolRefIdeal.Value.run (F := Ideal) m ρ)

/-- The call and the plain product end with equal arrays. -/
theorem algebraic : Cert.algebraic_PoolIdeal_PoolRefIdeal (hPoolIdeal := Cert.PoolIdeal.Gen.facts)
    (hPoolRefIdeal := Cert.PoolRefIdeal.Gen.facts) := by
  intro m ρ m' ρ' _ hag
  refine Cert.Ends.same (Cert.PoolIdeal.Value.run_blocks m ρ) (Cert.PoolRefIdeal.Value.run (F := Ideal) m' ρ') fun c => ?_
  rw [arr m c, Cert.PoolRefIdeal.Read.val_main_v2_eq, (hag c).1, (hag c).2, V_main_arg0, V_main_arg1]
  exact ref _ _

end Cert.PoolTie

end
-- ==== Proof.BranchBwd.lean ====
module

public import proofs.«01_k».proof.Proof.Product
public import proofs.«01_k».proof.Proof.Ends
public import proofs.«01_k».proof.Proof.Gen.GluDxIdeal.Value
public import proofs.«01_k».proof.Proof.Gen.GluDxRefIdeal.Run
public import proofs.«01_k».proof.Proof.Gen.GluDxRefIdeal.Read
public import proofs.«01_k».proof.Proof.Gen.GluDwIdeal.Value
public import proofs.«01_k».proof.Proof.Gen.GluDwRefIdeal.Run
public import proofs.«01_k».proof.Proof.Gen.GluDwRefIdeal.Read
public import proofs.«01_k».proof.Proof.Gen.PoolDxIdeal.Value
public import proofs.«01_k».proof.Proof.Gen.PoolDxRefIdeal.Run
public import proofs.«01_k».proof.Proof.Gen.PoolDxRefIdeal.Read
public import proofs.«01_k».proof.Proof.Gen.PoolDwIdeal.Value
public import proofs.«01_k».proof.Proof.Gen.PoolDwRefIdeal.Run
public import proofs.«01_k».proof.Proof.Gen.PoolDwRefIdeal.Read
public import proofs.«01_k».proof.Defs

/-! The gradients of the products inside the branches, each in one block. -/

@[expose] public section

set_option maxRecDepth 16384

noncomputable section

open Idealize.ShloMosaic Idealize.ShloMosaic.TcCoe Idealize.SL.Sem Cert.Product

namespace Cert.GluDxTie

open Cert.GluDxIdeal Cert.GluDxIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_z (t : Fin cfg0.N) (r : Fin 2048) (d : Fin 1024) : iblk m c 0 t (ix2 r d) = V m c main_arg0 (ix2 r d) := by
  blk_ext [iblk, index t]

theorem blk_w (t : Fin cfg0.N) (k : Fin 512) (d : Fin 1024) : iblk m c 1 t (ix2 k d) = V m c main_arg1 (ix2 k d) := by
  blk_ext [iblk, index t]

theorem emb_o (t : Fin cfg0.N) (r : Fin 2048) (k : Fin 512) : (win0_2.blk t).view.emb (ix2 r k) = ix2 r k := by
  blk_ext [index t]

/-- The one block of the result. -/
theorem block (z : Vec Ideal S2048x1024 .bf16) (w : Vec Ideal S512x1024 .bf16) (r : Fin 2048) (k : Fin 512) :
    out0_2 (F := Ideal) z w (ix2 r k) = ∑ d : Fin 1024, z (ix2 r d) * w (ix2 k d) := by
  unfold out0_2
  rw [View.canon_unit_zero hz2, View.ld_unit_zero (S := S2048x1024) hz2, View.ld_unit_zero (S := S512x1024) hz2]
  pointwise [k0_pay1]

/-- The array after the call. -/
theorem arr : (dats m 0 c).arrAt 2 cfg0.N = mulDx (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 512), y = ix2 r k := ⟨y 0, y 1, by idx_vars y⟩
  rw [emb_o]
  exact (block _ _ r k).trans (mulDx_tile (f := id) (e := id) (blk_z m c t) (blk_w m c t) r k)

open Cert.GluDxRefIdeal.Read in
/-- What the reference computes. -/
theorem ref (z : Mat 2048 1024) (w : Mat 512 1024) : val_main_v4 (F := Ideal) z w = mulDx z w :=
  mulDx_of (l := lidx_main_v4) (r := ridx_main_v4) (fun i => by
      rw [val_main_v4_apply]
      exact Finset.sum_congr rfl fun k _ => by rw [val_main_v3_apply, val_main_v1_apply]; rfl)
    (fun i k => by funext a; fin_cases a <;> rfl) (fun i k => by funext a; fin_cases a <;> rfl)

theorem frame_reference : Cert.quiescent_GluDxRefIdeal (hGluDxRefIdeal := Cert.GluDxRefIdeal.Gen.facts) := fun m ρ _ =>
  (θ_run Cert.GluDxRefIdeal.defs _ _).mono (fun r h => ⟨fun c => (h c).2, sem_eq_zero_of_no_sems (by decide) r.2⟩) (Cert.GluDxRefIdeal.Value.run (F := Ideal) m ρ)

/-- The call and the plain gradient end with equal arrays. -/
theorem algebraic : Cert.algebraic_GluDxIdeal_GluDxRefIdeal (hGluDxIdeal := Cert.GluDxIdeal.Gen.facts)
    (hGluDxRefIdeal := Cert.GluDxRefIdeal.Gen.facts) := by
  intro m ρ m' ρ' _ hag
  refine Cert.Ends.same (Cert.GluDxIdeal.Value.run_blocks m ρ) (Cert.GluDxRefIdeal.Value.run (F := Ideal) m' ρ') fun c => ?_
  rw [arr m c, Cert.GluDxRefIdeal.Read.val_main_v4_eq, (hag c).1, (hag c).2, V_main_arg0, V_main_arg1]
  exact ref _ _

end Cert.GluDxTie

namespace Cert.PoolDxTie

open Cert.PoolDxIdeal Cert.PoolDxIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_z (t : Fin cfg0.N) (r : Fin 2048) (d : Fin 1024) : iblk m c 0 t (ix2 r d) = V m c main_arg0 (ix2 r d) := by
  blk_ext [iblk, index t]

theorem blk_w (t : Fin cfg0.N) (k : Fin 1024) (d : Fin 1024) : iblk m c 1 t (ix2 k d) = V m c main_arg1 (ix2 k d) := by
  blk_ext [iblk, index t]

theorem emb_o (t : Fin cfg0.N) (r : Fin 2048) (k : Fin 1024) : (win0_2.blk t).view.emb (ix2 r k) = ix2 r k := by
  blk_ext [index t]

theorem block (z : Vec Ideal S2048x1024 .bf16) (w : Vec Ideal S1024x1024 .bf16) (r : Fin 2048) (k : Fin 1024) :
    out0_2 (F := Ideal) z w (ix2 r k) = ∑ d : Fin 1024, z (ix2 r d) * w (ix2 k d) := by
  unfold out0_2
  rw [View.canon_unit_zero hz2, View.ld_unit_zero (S := S2048x1024) hz2, View.ld_unit_zero (S := S1024x1024) hz2]
  pointwise [k0_pay1]

theorem arr : (dats m 0 c).arrAt 2 cfg0.N = mulDx (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 1024), y = ix2 r k := ⟨y 0, y 1, by idx_vars y⟩
  rw [emb_o]
  exact (block _ _ r k).trans (mulDx_tile (f := id) (e := id) (blk_z m c t) (blk_w m c t) r k)

open Cert.PoolDxRefIdeal.Read in
theorem ref (z : Mat 2048 1024) (w : Mat 1024 1024) : val_main_v4 (F := Ideal) z w = mulDx z w :=
  mulDx_of (l := lidx_main_v4) (r := ridx_main_v4) (fun i => by
      rw [val_main_v4_apply]
      exact Finset.sum_congr rfl fun k _ => by rw [val_main_v3_apply, val_main_v1_apply]; rfl)
    (fun i k => by funext a; fin_cases a <;> rfl) (fun i k => by funext a; fin_cases a <;> rfl)

theorem frame_reference : Cert.quiescent_PoolDxRefIdeal (hPoolDxRefIdeal := Cert.PoolDxRefIdeal.Gen.facts) := fun m ρ _ =>
  (θ_run Cert.PoolDxRefIdeal.defs _ _).mono (fun r h => ⟨fun c => (h c).2, sem_eq_zero_of_no_sems (by decide) r.2⟩) (Cert.PoolDxRefIdeal.Value.run (F := Ideal) m ρ)

/-- The call and the plain gradient end with equal arrays. -/
theorem algebraic : Cert.algebraic_PoolDxIdeal_PoolDxRefIdeal (hPoolDxIdeal := Cert.PoolDxIdeal.Gen.facts)
    (hPoolDxRefIdeal := Cert.PoolDxRefIdeal.Gen.facts) := by
  intro m ρ m' ρ' _ hag
  refine Cert.Ends.same (Cert.PoolDxIdeal.Value.run_blocks m ρ) (Cert.PoolDxRefIdeal.Value.run (F := Ideal) m' ρ') fun c => ?_
  rw [arr m c, Cert.PoolDxRefIdeal.Read.val_main_v4_eq, (hag c).1, (hag c).2, V_main_arg0, V_main_arg1]
  exact ref _ _

end Cert.PoolDxTie

namespace Cert.GluDwTie

open Cert.GluDwIdeal Cert.GluDwIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 512) : iblk m c 0 t (ix2 r k) = V m c main_arg0 (ix2 r k) := by
  blk_ext [iblk, index t]

theorem blk_z (t : Fin cfg0.N) (r : Fin 2048) (d : Fin 1024) : iblk m c 1 t (ix2 r d) = V m c main_arg1 (ix2 r d) := by
  blk_ext [iblk, index t]

theorem emb_o (t : Fin cfg0.N) (k : Fin 512) (d : Fin 1024) : (win0_2.blk t).view.emb (ix2 k d) = ix2 k d := by
  blk_ext [index t]

/-- The one block of the result. -/
theorem block (x : Vec Ideal S2048x512 .bf16) (z : Vec Ideal S2048x1024 .bf16) (k : Fin 512) (d : Fin 1024) :
    out0_2 (F := Ideal) x z (ix2 k d) = ∑ r : Fin 2048, x (ix2 r k) * z (ix2 r d) := by
  unfold out0_2
  rw [View.canon_unit_zero hz2, View.ld_unit_zero (S := S2048x512) hz2, View.ld_unit_zero (S := S2048x1024) hz2]
  pointwise [k0_pay1]

/-- The matrix after the call. -/
theorem arr : (dats m 0 c).arrAt 2 cfg0.N = mulDw (V m c main_arg0) (V m c main_arg1) := by
  refine (dats m 0 c).arrAt_eq_of_covers 2 _ (by decide +kernel) fun t hf y => ?_
  blk_simp
  rw [after0_2]
  obtain ⟨k, d, rfl⟩ : ∃ (k : Fin 512) (d : Fin 1024), y = ix2 k d := ⟨y 0, y 1, by idx_vars y⟩
  rw [emb_o]
  exact (block _ _ k d).trans (mulDw_tile (e := id) (g := id) (blk_x m c t) (blk_z m c t) k d)

open Cert.GluDwRefIdeal.Read in
/-- What the reference computes. -/
theorem ref (x : Mat 2048 512) (z : Mat 2048 1024) : val_main_v6 (F := Ideal) x z = mulDw x z :=
  mulDw_of (l := fun i k => lidx_main_v4 (idx_main_v5 i) k) (r := fun i k => ridx_main_v4 (idx_main_v5 i) k) (fun i => by
      rw [val_main_v6_apply, val_main_v5_apply, val_main_v4_apply]
      exact Finset.sum_congr rfl fun k _ => by rw [val_main_v3_apply, val_main_v1_apply]; rfl)
    (fun i k => by funext a; fin_cases a <;> rfl) (fun i k => by funext a; fin_cases a <;> rfl)

theorem frame_reference : Cert.quiescent_GluDwRefIdeal (hGluDwRefIdeal := Cert.GluDwRefIdeal.Gen.facts) := fun m ρ _ =>
  (θ_run Cert.GluDwRefIdeal.defs _ _).mono (fun r h => ⟨fun c => (h c).2, sem_eq_zero_of_no_sems (by decide) r.2⟩) (Cert.GluDwRefIdeal.Value.run (F := Ideal) m ρ)

/-- The call and the plain gradient end with equal matrices. -/
theorem algebraic : Cert.algebraic_GluDwIdeal_GluDwRefIdeal (hGluDwIdeal := Cert.GluDwIdeal.Gen.facts)
    (hGluDwRefIdeal := Cert.GluDwRefIdeal.Gen.facts) := by
  intro m ρ m' ρ' _ hag
  refine Cert.Ends.same (Cert.GluDwIdeal.Value.run_blocks m ρ) (Cert.GluDwRefIdeal.Value.run (F := Ideal) m' ρ') fun c => ?_
  rw [arr m c, Cert.GluDwRefIdeal.Read.val_main_v6_eq, (hag c).1, (hag c).2, V_main_arg0, V_main_arg1]
  exact ref _ _

end Cert.GluDwTie

namespace Cert.PoolDwTie

open Cert.PoolDwIdeal Cert.PoolDwIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

theorem blk_x (t : Fin cfg0.N) (r : Fin 2048) (k : Fin 1024) : iblk m c 0 t (ix2 r k) = V m c main_arg0 (ix2 r k) := by
  blk_ext [iblk, index t]

theorem blk_z (t : Fin cfg0.N) (r : Fin 2048) (d : Fin 1024) : iblk m c 1 t (ix2 r d) = V m c main_arg1 (ix2 r d) := by
  blk_ext [iblk, index t]

theorem emb_o (t : Fin cfg0.N) (k : Fin 1024) (d : Fin 1024) : (win0_2.blk t).view.emb (ix2 k d) = ix2 k d := by
  blk_ext [index t]

theorem block (x : Vec Ideal S2048x1024 .bf16) (z : Vec Ideal S2048x1024 .bf16) (k d : Fin 1024) :
    out0_2 (F := Ideal) x z (ix2 k d) = ∑ r : Fin 2048, x (ix2 r k) * z (ix2 r d) := by
  unfold out0_2
  rw [View.canon_unit_zero hz2]
  simp only [View.ld_unit_zero (S := S2048x1024) hz2]
  pointwise [k0_pay1]

theorem arr : (dats m 0 c).arrAt 2 cfg0.N = mulDw (V m c main_arg0) (V m c main_arg1) := by
  refine (dats m 0 c).arrAt_eq_of_covers 2 _ (by decide +kernel) fun t hf y => ?_
  blk_simp
  rw [after0_2]
  obtain ⟨k, d, rfl⟩ : ∃ (k d : Fin 1024), y = ix2 k d := ⟨y 0, y 1, by idx_vars y⟩
  rw [emb_o]
  exact (block _ _ k d).trans (mulDw_tile (e := id) (g := id) (blk_x m c t) (blk_z m c t) k d)

open Cert.PoolDwRefIdeal.Read in
theorem ref (x : Mat 2048 1024) (z : Mat 2048 1024) : val_main_v6 (F := Ideal) x z = mulDw x z :=
  mulDw_of (l := fun i k => lidx_main_v4 (idx_main_v5 i) k) (r := fun i k => ridx_main_v4 (idx_main_v5 i) k) (fun i => by
      rw [val_main_v6_apply, val_main_v5_apply, val_main_v4_apply]
      exact Finset.sum_congr rfl fun k _ => by rw [val_main_v3_apply, val_main_v1_apply]; rfl)
    (fun i k => by funext a; fin_cases a <;> rfl) (fun i k => by funext a; fin_cases a <;> rfl)

theorem frame_reference : Cert.quiescent_PoolDwRefIdeal (hPoolDwRefIdeal := Cert.PoolDwRefIdeal.Gen.facts) := fun m ρ _ =>
  (θ_run Cert.PoolDwRefIdeal.defs _ _).mono (fun r h => ⟨fun c => (h c).2, sem_eq_zero_of_no_sems (by decide) r.2⟩) (Cert.PoolDwRefIdeal.Value.run (F := Ideal) m ρ)

/-- The call and the plain gradient end with equal matrices. -/
theorem algebraic : Cert.algebraic_PoolDwIdeal_PoolDwRefIdeal (hPoolDwIdeal := Cert.PoolDwIdeal.Gen.facts)
    (hPoolDwRefIdeal := Cert.PoolDwRefIdeal.Gen.facts) := by
  intro m ρ m' ρ' _ hag
  refine Cert.Ends.same (Cert.PoolDwIdeal.Value.run_blocks m ρ) (Cert.PoolDwRefIdeal.Value.run (F := Ideal) m' ρ') fun c => ?_
  rw [arr m c, Cert.PoolDwRefIdeal.Read.val_main_v6_eq, (hag c).1, (hag c).2, V_main_arg0, V_main_arg1]
  exact ref _ _

end Cert.PoolDwTie

end
-- ==== Proof.Memory.lean ====
module

public import proofs.«01_k».proof.Proof.Product
public import proofs.«01_k».proof.Proof.Ends
public import proofs.«01_k».proof.Proof.Gen.XkvIdeal.Value
public import proofs.«01_k».proof.Proof.Gen.XkvRefIdeal.Run
public import proofs.«01_k».proof.Proof.Gen.XkvRefIdeal.Read
public import proofs.«01_k».proof.Proof.Gen.XkvDxIdeal.Value
public import proofs.«01_k».proof.Proof.Gen.XkvDxRefIdeal.Run
public import proofs.«01_k».proof.Proof.Gen.XkvDxRefIdeal.Read
public import proofs.«01_k».proof.Proof.Gen.XkvDwIdeal.Value
public import proofs.«01_k».proof.Proof.Gen.XkvDwRefIdeal.Run
public import proofs.«01_k».proof.Proof.Gen.XkvDwRefIdeal.Read
public import proofs.«01_k».proof.Defs

/-! The keys and values of the memory: the product with its stack of matrices, and the two gradients. -/

@[expose] public section

set_option maxRecDepth 16384

noncomputable section

open Idealize.ShloMosaic Idealize.ShloMosaic.TcCoe Idealize.SL.Sem Cert.Product

namespace Cert.XkvTie

open Cert.XkvIdeal Cert.XkvIdeal.Gen

variable (m : (ℓ : Loc nD τ sig) → Buf (Elt Ideal) ℓ) (c : Dev nD)

theorem width : 8 * 256 = 2048 := rfl

theorem index : ∀ t : Fin cfg0.N, win0_0.index t = ![0, 0] ∧ win0_1.index t = ![t.val, 0, 0] ∧ win0_2.index t = ![0, t.val] := by
  decide +kernel

theorem blk_x (t : Fin cfg0.N) (r : Fin 256) (k : Fin 1024) : iblk m c 0 t (ix2 r k) = V m c main_arg0 (ix2 r k) := by
  blk_ext [iblk, index t]

theorem blk_w (t : Fin cfg0.N) (k : Fin 1024) (d : Fin 256) : iblk m c 1 t (ix3 0 k d) = V m c main_arg1 (ix3 t k d) := by
  blk_ext [iblk, index t]

theorem emb_o (t : Fin cfg0.N) (r : Fin 256) (d : Fin 256) : (win0_2.blk t).view.emb (ix2 r d) = ix2 r (col width t d) := by
  blk_ext [index t]

/-- A block of the result: the rows against one member of the stack. -/
theorem block (x : Vec Ideal S256x1024 .bf16) (w : Vec Ideal S1x1024x256 .bf16) (r d : Fin 256) :
    out0_2 (F := Ideal) x w (ix2 r d) = ∑ k : Fin 1024, x (ix2 r k) * w (ix3 0 k d) := by
  unfold out0_2
  rw [View.canon_unit_zero hz2, View.ld_unit_zero (S := S256x1024) hz2, View.ld_unit_zero (S := S1x1024x256) hz3]
  pointwise [k0_pay1]

/-- The array after the call. -/
theorem arr : (dats m 0 c).arrAt 2 cfg0.N = fwd width (V m c main_arg0) (V m c main_arg1) := by
  refine (dats m 0 c).arrAt_eq_of_covers 2 _ (by decide +kernel) fun t hf y => ?_
  blk_simp
  rw [after0_2]
  obtain ⟨r, d, rfl⟩ : ∃ r d : Fin 256, y = ix2 r d := ⟨y 0, y 1, by idx_vars y⟩
  rw [emb_o]
  exact (block _ _ r d).trans (fwd_tile width t (blk_x m c t) (blk_w m c t) r d)

open Cert.XkvRefIdeal.Read in
/-- What the reference computes. -/
theorem ref (x : Mat 256 1024) (w : Stack 8 1024 256) : val_main_v5 (F := Ideal) x w = fwd width x w :=
  fwd_of width (l := lidx_main_v4) (r := fun i k => idx_main_v0 (idx_main_v1 (ridx_main_v4 i k))) (fun i => by
      rw [val_main_v5_apply, val_main_v4_apply]
      exact Finset.sum_congr rfl fun k _ => by
        rw [val_main_v2_apply, val_main_v3_apply, val_main_v1_apply, val_main_v0_apply]; rfl)
    (fun i k => by funext a; fin_cases a <;> rfl) (fun i k => unstack width k (i 1) _ rfl rfl rfl)

theorem frame_reference : Cert.quiescent_XkvRefIdeal (hXkvRefIdeal := Cert.XkvRefIdeal.Gen.facts) := fun m ρ _ =>
  (θ_run Cert.XkvRefIdeal.defs _ _).mono (fun r h => ⟨fun c => (h c).2, sem_eq_zero_of_no_sems (by decide) r.2⟩) (Cert.XkvRefIdeal.Value.run (F := Ideal) m ρ)

/-- The call and the plain product end with equal arrays. -/
theorem algebraic : Cert.algebraic_XkvIdeal_XkvRefIdeal (hXkvIdeal := Cert.XkvIdeal.Gen.facts)
    (hXkvRefIdeal := Cert.XkvRefIdeal.Gen.facts) := by
  intro m ρ m' ρ' _ hag
  refine Cert.Ends.same (Cert.XkvIdeal.Value.run_blocks m ρ) (Cert.XkvRefIdeal.Value.run (F := Ideal) m' ρ') fun c => ?_
  rw [arr m c, Cert.XkvRefIdeal.Read.val_main_v5_eq, (hag c).1, (hag c).2, V_main_arg0, V_main_arg1]
  exact ref _ _

end Cert.XkvTie

namespace Cert.XkvDxTie

open Cert.XkvDxIdeal Cert.XkvDxIdeal.Gen

variable (m : (ℓ : Loc nD τ sig) → Buf (Elt Ideal) ℓ) (c : Dev nD)

theorem width : 8 * 256 = 2048 := rfl

theorem index : ∀ t : Fin cfg0.N, win0_0.index t = ![0, t.val] ∧ win0_1.index t = ![t.val, 0, 0] ∧ win0_2.index t = ![0, 0]
    ∧ win0_3.index t = ![0, 0] := by
  decide +kernel

theorem blk_z (t : Fin cfg0.N) (r : Fin 256) (d : Fin 256) : iblk m c 0 t (ix2 r d) = V m c main_arg0 (ix2 r (col width t d)) := by
  blk_ext [iblk, index t]

theorem blk_w (t : Fin cfg0.N) (k : Fin 1024) (d : Fin 256) : iblk m c 1 t (ix3 0 k d) = V m c main_arg1 (ix3 t k d) := by
  blk_ext [iblk, index t]

theorem blk_y (t : Fin cfg0.N) (r : Fin 256) (k : Fin 1024) : iblk m c 2 t (ix2 r k) = V m c main_arg2 (ix2 r k) := by
  blk_ext [iblk, index t]

theorem emb_o (t : Fin cfg0.N) (r : Fin 256) (k : Fin 1024) : (win0_3.blk t).view.emb (ix2 r k) = ix2 r k := by
  blk_ext [index t]

/-- The step from zero. -/
theorem first (z : Vec Ideal S256x256 .bf16) (w : Vec Ideal S1x1024x256 .bf16) (r : Fin 256) (k : Fin 1024) :
    k0_pay2 (F := Ideal) (k0_pay1 (F := Ideal)) z w (ix2 r k) = mulDx z (member w) (ix2 r k) := by
  pointwise [k0_pay2, k0_pay1]
  rfl

/-- The step from what is already summed. -/
theorem next (a : Vec Ideal S256x1024 .f32) (z : Vec Ideal S256x256 .bf16) (w : Vec Ideal S1x1024x256 .bf16) (r : Fin 256)
    (k : Fin 1024) : k0_pay2 (F := Ideal) a z w (ix2 r k) = a (ix2 r k) + mulDx z (member w) (ix2 r k) := by
  pointwise [k0_pay2]
  rfl

/-- The other gradient of the same rows is added at the end. -/
theorem add (a y : Vec Ideal S256x1024 .f32) (r : Fin 256) (k : Fin 1024) :
    k0_pay3 (F := Ideal) a y (ix2 r k) = a (ix2 r k) + y (ix2 r k) := by
  pointwise [k0_pay3]

section cases

variable (i : grid0.Coords) (a3 : Memref sig .tc .vmem S256x256 .bf16) (h3 : a3.IsWhole) (a4 : Memref sig .tc .vmem S1x1024x256 .bf16)
  (h4 : a4.IsWhole) (a5 : Memref sig .tc .vmem S256x1024 .f32) (h5 : a5.IsWhole) (a6 : Memref sig .tc .vmem S256x1024 .f32)
  (h6 : a6.IsWhole) (a7 : Memref sig .tc .vmem S256x1024 .f32) (h7 : a7.IsWhole)
  (z : Vec Ideal S256x256 .bf16) (w : Vec Ideal S1x1024x256 .bf16) (y s : Vec Ideal S256x1024 .f32)

/-- What the first point leaves in the running sum. -/
theorem sum_A (hc : cond0_0 i) (hd : ¬cond0_1 i) :
    sout0_A_0 (F := Ideal) c i a3 h3 a4 h4 a5 h5 a6 h6 a7 h7 hc hd z w y = k0_pay2 (k0_pay1 (F := Ideal)) z w := by
  unfold sout0_A_0
  rw [View.read_writes_eq_canon _ _ _ (scover0_A_0 c i a3 h3 a4 h4 a5 h5 a6 h6 a7 h7 hc hd z w y)]
  unfold kernelRun0_A
  dsimp only
  sl_unfold_words
  rw [View.canon_cons_unit_zero (S := S256x1024) hz2, View.readCov_unit_zero (S := S256x1024) _ hz2]
  simp only [View.readAt_eq_ld, h3.read_unread, h4.read_unread, View.ld_unit_zero (S := S256x256) hz2, View.ld_unit_zero (S := S1x1024x256) hz3]

/-- What a middle point leaves in the running sum. -/
theorem sum_B (hc : ¬cond0_0 i) (hd : ¬cond0_1 i) :
    sout0_B_0 (F := Ideal) c i a3 h3 a4 h4 a5 h5 a6 h6 a7 h7 hc hd z w y s = k0_pay2 s z w := by
  unfold sout0_B_0
  rw [View.read_writes_eq_canon _ _ _ (scover0_B_0 c i a3 h3 a4 h4 a5 h5 a6 h6 a7 h7 hc hd z w y s)]
  unfold kernelRun0_B
  dsimp only
  rw [View.canon_unit_zero hz2]
  simp only [View.readAt_eq_ld, h3.read_unread, h4.read_unread, h7.read_unread, View.ld_unit_zero (S := S256x256) hz2,
    View.ld_unit_zero (S := S1x1024x256) hz3, View.ld_unit_zero (S := S256x1024) hz2]

/-- What the last point leaves in the output's block. -/
theorem out_C (hc : ¬cond0_0 i) (hd : cond0_1 i) :
    out0_C_3 (F := Ideal) c i a3 h3 a4 h4 a5 h5 a6 h6 a7 h7 hc hd z w y s = k0_pay3 (k0_pay2 s z w) y := by
  unfold out0_C_3
  rw [View.read_writes_eq_canon _ _ _ (cover0_C_3 c i a3 h3 a4 h4 a5 h5 a6 h6 a7 h7 hc hd z w y s)]
  unfold kernelRun0_C
  dsimp only
  sl_unfold_words
  rw [View.canon_unit_zero hz2, View.readCov_unit_zero (S := S256x1024) _ hz2]
  simp only [View.readAt_eq_ld, h3.read_unread, h4.read_unread, h5.read_unread, h7.read_unread, View.ld_unit_zero (S := S256x256) hz2,
    View.ld_unit_zero (S := S1x1024x256) hz3, View.ld_unit_zero (S := S256x1024) hz2]

end cases

/-- At the last point, the running sum with the last member's part is the sum of all members' parts. -/
theorem last (t : Fin cfg0.N) (h : t.val = 7) (r : Fin 256) (k : Fin 1024) :
    k0_pay2 (F := Ideal) (outsAt0 m c (t.val - 1) (Nat.lt_of_le_of_lt (Nat.sub_le _ _) t.isLt)).2 (iblk m c 0 t) (iblk m c 1 t) (ix2 r k)
      = dx width (V m c main_arg0) (V m c main_arg1) (ix2 r k) :=
  (eight (fun s => mulDx (iblk m c 0 s) (member (iblk m c 1 s)) (ix2 r k)) (fun n h => (outsAt0 m c n h).2 (ix2 r k))
    (fun n h => k0_pay2 (F := Ideal) (outsAt0 m c (n - 1) (Nat.lt_of_le_of_lt (Nat.sub_le _ _) h)).2 (iblk m c 0 ⟨n, h⟩) (iblk m c 1 ⟨n, h⟩) (ix2 r k))
    (fun t h0 h1 => by rw [outsAt0_A m c t h0 h1]; dsimp only; rw [sum_A, first])
    (fun t h0 h1 => by rw [outsAt0_B m c t h0 h1]; dsimp only; rw [sum_B, next])
    (fun t h0 h1 => next _ _ _ r k) t h).trans
  (dx_tiles width (blk_z m c) (blk_w m c) r k)

/-- The gradient in the memory's rows: what the keys and values send back, and what comes from elsewhere. -/
def both (z : Mat 256 2048) (w : Stack 8 1024 256) (y : Mat 256 1024) : Mat 256 1024 := fun i => y i + dx width z w i

/-- The array after the call. -/
theorem arr : (dats m 0 c).arrAt 3 cfg0.N = both (V m c main_arg0) (V m c main_arg1) (V m c main_arg2) := by
  refine (dats m 0 c).arrAt_eq_of_covers 3 _ (by decide +kernel) fun t hf y => ?_
  blk_simp
  rw [after0_3]
  obtain ⟨r, k, rfl⟩ : ∃ (r : Fin 256) (k : Fin 1024), y = ix2 r k := ⟨y 0, y 1, by idx_vars y⟩
  have h7 : t.val = 7 := (by decide +kernel : ∀ t : Fin cfg0.N, (cfg0.win 3).flush t = true → t.val = 7) t hf
  rw [emb_o, outsAt0_C m c t (by omega) (by omega)]
  dsimp only
  rw [out_C, add, last m c t h7 r k, blk_y]
  exact add_comm (G := EReal) _ _

open Cert.XkvDxRefIdeal.Read in
/-- What the reference computes. -/
theorem ref (z : Mat 256 2048) (w : Stack 8 1024 256) (y : Mat 256 1024) : val_main_v7 (F := Ideal) z w y = both z w y := by
  have e : val_main_v6 (F := Ideal) z w = dx width z w :=
    dx_of width (l := lidx_main_v6) (r := fun i k => idx_main_v0 (idx_main_v1 (ridx_main_v6 i k))) (fun i => by
        rw [val_main_v6_apply]
        exact Finset.sum_congr rfl fun k _ => by
          rw [val_main_v5_apply, val_main_v3_apply, val_main_v1_apply, val_main_v0_apply]; rfl)
      (fun i k => by funext a; fin_cases a <;> rfl) (fun i x => unstack width (i 1) x _ rfl rfl rfl)
  funext i
  rw [val_main_v7_apply, e]
  rfl

theorem frame_reference : Cert.quiescent_XkvDxRefIdeal (hXkvDxRefIdeal := Cert.XkvDxRefIdeal.Gen.facts) := fun m ρ _ =>
  (θ_run Cert.XkvDxRefIdeal.defs _ _).mono (fun r h => ⟨fun c => (h c).2, sem_eq_zero_of_no_sems (by decide) r.2⟩) (Cert.XkvDxRefIdeal.Value.run (F := Ideal) m ρ)

/-- The call and the plain gradient end with equal arrays. -/
theorem algebraic : Cert.algebraic_XkvDxIdeal_XkvDxRefIdeal (hXkvDxIdeal := Cert.XkvDxIdeal.Gen.facts)
    (hXkvDxRefIdeal := Cert.XkvDxRefIdeal.Gen.facts) := by
  intro m ρ m' ρ' _ hag
  refine Cert.Ends.same (Cert.XkvDxIdeal.Value.run_blocks m ρ) (Cert.XkvDxRefIdeal.Value.run (F := Ideal) m' ρ') fun c => ?_
  rw [arr m c, Cert.XkvDxRefIdeal.Read.val_main_v7_eq, (hag c).1, (hag c).2.1, (hag c).2.2, V_main_arg0, V_main_arg1, V_main_arg2]
  exact ref _ _ _

end Cert.XkvDxTie

namespace Cert.XkvDwTie

open Cert.XkvDwIdeal Cert.XkvDwIdeal.Gen

variable (m : (ℓ : Loc nD τ sig) → Buf (Elt Ideal) ℓ) (c : Dev nD)

theorem width : 8 * 256 = 2048 := rfl

theorem index : ∀ t : Fin cfg0.N, win0_0.index t = ![0, 0] ∧ win0_1.index t = ![0, t.val] ∧ win0_2.index t = ![t.val, 0, 0] := by
  decide +kernel

theorem blk_x (t : Fin cfg0.N) (r : Fin 256) (k : Fin 1024) : iblk m c 0 t (ix2 r k) = V m c main_arg0 (ix2 r k) := by
  blk_ext [iblk, index t]

theorem blk_z (t : Fin cfg0.N) (r : Fin 256) (d : Fin 256) : iblk m c 1 t (ix2 r d) = V m c main_arg1 (ix2 r (col width t d)) := by
  blk_ext [iblk, index t]

theorem emb_o (t : Fin cfg0.N) (k : Fin 1024) (d : Fin 256) : (win0_2.blk t).view.emb (ix3 0 k d) = ix3 t k d := by
  blk_ext [index t]

/-- A block of the result: the gradient in one member of the stack. -/
theorem block (x : Vec Ideal S256x1024 .bf16) (z : Vec Ideal S256x256 .bf16) (k : Fin 1024) (d : Fin 256) :
    out0_2 (F := Ideal) x z (ix3 0 k d) = ∑ r : Fin 256, x (ix2 r k) * z (ix2 r d) := by
  unfold out0_2
  rw [View.canon_unit_zero hz3, View.ld_unit_zero (S := S256x1024) hz2, View.ld_unit_zero (S := S256x256) hz2]
  pointwise [k0_pay1]

/-- The stack after the call. -/
theorem arr : (dats m 0 c).arrAt 2 cfg0.N = dw width (V m c main_arg0) (V m c main_arg1) := by
  refine (dats m 0 c).arrAt_eq_of_covers 2 _ (by decide +kernel) fun t hf y => ?_
  blk_simp
  rw [after0_2]
  obtain ⟨s, k, d, rfl⟩ : ∃ (s : Fin 1) (k : Fin 1024) (d : Fin 256), y = ix3 s k d := ⟨y 0, y 1, y 2, by idx_vars y⟩
  obtain rfl : s = 0 := Subsingleton.elim _ _
  rw [emb_o]
  exact (block _ _ k d).trans (dw_tile width t (blk_x m c t) (blk_z m c t) k d)

open Cert.XkvDwRefIdeal.Read in
/-- What the reference computes: the gradient in the matrices side by side, cut apart. -/
theorem ref (x : Mat 256 1024) (z : Mat 256 2048) : val_main_v8 (F := Ideal) x z = dw width x z := by
  have e : val_main_v5 (F := Ideal) x z = mulDw x z :=
    mulDw_of (l := fun i k => lidx_main_v4 (idx_main_v5 i) k) (r := fun i k => ridx_main_v4 (idx_main_v5 i) k) (fun i => by
        rw [val_main_v5_apply, val_main_v4_apply]
        exact Finset.sum_congr rfl fun k _ => by rw [val_main_v3_apply, val_main_v1_apply]; rfl)
      (fun i k => by funext a; fin_cases a <;> rfl) (fun i k => by funext a; fin_cases a <;> rfl)
  exact dw_of width (j := fun i => idx_main_v6 (idx_main_v7 i)) (fun i => by rw [val_main_v8_apply, val_main_v7_apply, val_main_v6_apply, e]; rfl)
    (fun i => rfl) (fun i => rfl)

theorem frame_reference : Cert.quiescent_XkvDwRefIdeal (hXkvDwRefIdeal := Cert.XkvDwRefIdeal.Gen.facts) := fun m ρ _ =>
  (θ_run Cert.XkvDwRefIdeal.defs _ _).mono (fun r h => ⟨fun c => (h c).2, sem_eq_zero_of_no_sems (by decide) r.2⟩) (Cert.XkvDwRefIdeal.Value.run (F := Ideal) m ρ)

/-- The call and the plain gradient end with equal stacks. -/
theorem algebraic : Cert.algebraic_XkvDwIdeal_XkvDwRefIdeal (hXkvDwIdeal := Cert.XkvDwIdeal.Gen.facts)
    (hXkvDwRefIdeal := Cert.XkvDwRefIdeal.Gen.facts) := by
  intro m ρ m' ρ' _ hag
  refine Cert.Ends.same (Cert.XkvDwIdeal.Value.run_blocks m ρ) (Cert.XkvDwRefIdeal.Value.run (F := Ideal) m' ρ') fun c => ?_
  rw [arr m c, Cert.XkvDwRefIdeal.Read.val_main_v8_eq, (hag c).1, (hag c).2, V_main_arg0, V_main_arg1]
  exact ref _ _

end Cert.XkvDwTie

end
-- ==== Proof.Gates.lean ====
module

public import Idealize.ShloMosaic.Lib.Pipeline.ValueKit

/-! What the gates and their gradients do to single entries. -/

@[expose] public section

noncomputable section

namespace Cert.Gates

open Idealize.ShloMosaic

/-- The slope of the logistic function. -/
def bump (x : EReal) : EReal := Ideal.logistic x * (1 - Ideal.logistic x)

/-- A gate's opening. -/
def silu (g : EReal) : EReal := g * Ideal.logistic g

/-- What a gate is sent back, when `d` comes back from what it opens. -/
def slope (g d : EReal) : EReal := d * Ideal.logistic g + g * d * bump g

/-- What is sent back through a gate to what it opens. -/
def through (g d : EReal) : EReal := d * silu g

/-- What a gate is sent back when it opens `a`. -/
def opening (g a d : EReal) : EReal := slope g (a * d)

/-- What is sent back to what a gate opens, when a scale `s` stands on it. -/
def scaled (s g d : EReal) : EReal := through g d * s

/-- What a gate is sent back when it opens `a` times a scale `s`. -/
def scaledOpening (s g a d : EReal) : EReal := slope g (a * s * d)

/-- What one entry sends back to the scale. -/
def toScale (g a d : EReal) : EReal := a * through g d

/-- What the first half of the linear unit is sent back. -/
def unitFst (b g d : EReal) : EReal := through g d * Ideal.logistic b

/-- What the second half is sent back. -/
def unitSnd (a b g d : EReal) : EReal := a * through g d * bump b

/-- What the linear unit's gate is sent back. -/
def unitGate (a b g d : EReal) : EReal := slope g (a * Ideal.logistic b * d)

/-- Each place of a row of `K + K` lies in one of the two halves. -/
theorem halves {K N : ℕ} (h : K + K = N) (k : Fin N) :
    (∃ p : Fin K, k = ⟨p.val, by omega⟩) ∨ ∃ p : Fin K, k = ⟨K + p.val, by omega⟩ := by
  by_cases hk : k.val < K
  · exact .inl ⟨⟨k.val, hk⟩, rfl⟩
  · exact .inr ⟨⟨k.val - K, by omega⟩, Fin.ext (by show k.val = K + (k.val - K); omega)⟩

end Cert.Gates

end
-- ==== Proof.UnitGate.lean ====
module

public import proofs.«01_k».proof.Proof.Product
public import proofs.«01_k».proof.Proof.Gates
public import proofs.«01_k».proof.Proof.Gen.GluGateIdeal.Value
public import proofs.«01_k».proof.Proof.Gen.GluGateRefIdeal.Run
public import proofs.«01_k».proof.Proof.Gen.GluGateRefIdeal.Read
public import proofs.«01_k».proof.Defs

/-! The gradient of the gated linear unit and of the gate behind it. -/

@[expose] public section

set_option maxRecDepth 16384

noncomputable section

open Idealize.ShloMosaic Idealize.ShloMosaic.TcCoe Idealize.SL.Sem Cert.Product Cert.Gates

namespace Cert.GluGateTie

open Cert.GluGateIdeal Cert.GluGateIdeal.Gen

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 7] ∧ win0_2.index t = ![t.val, 2]
    ∧ win0_3.index t = ![t.val, 0] ∧ win0_4.index t = ![t.val, 0] := by
  decide +kernel

theorem blk_x (t : Fin cfg0.N) (r : Fin 256) (k : Fin 1024) : iblk m c 0 t (ix2 r k) = V m c main_arg0 (ix2 (col height t r) k) := by
  blk_ext [iblk, index t]

theorem blk_g (t : Fin cfg0.N) (r : Fin 256) (k : Fin 512) :
    iblk m c 1 t (ix2 r k) = V m c main_arg1 (ix2 (col height t r) ⟨3584 + k.val, by omega⟩) := by
  blk_ext [iblk, index t]

theorem blk_d (t : Fin cfg0.N) (r : Fin 256) (k : Fin 512) :
    iblk m c 2 t (ix2 r k) = V m c main_arg2 (ix2 (col height t r) ⟨1024 + k.val, by omega⟩) := by
  blk_ext [iblk, index t]

theorem emb_xs (t : Fin cfg0.N) (r : Fin 256) (k : Fin 1024) : (win0_3.blk t).view.emb (ix2 r k) = ix2 (col height t r) k := by
  blk_ext [index t]

theorem emb_gs (t : Fin cfg0.N) (r : Fin 256) (k : Fin 512) : (win0_4.blk t).view.emb (ix2 r k) = ix2 (col height t r) k := by
  blk_ext [index t]

section blocks

variable (x : Vec Ideal S256x1024 .f32) (g : Vec Ideal S256x512 .bf16) (d : Vec Ideal S256x512 .f32) (r : Fin 256) (k : Fin 512)

theorem block_gate : out0_4 (F := Ideal) x g d (ix2 r k)
    = unitGate (x (ix2 r ⟨k.val, by omega⟩)) (x (ix2 r ⟨512 + k.val, by omega⟩)) (g (ix2 r k)) (d (ix2 r k)) := by
  unfold out0_4
  rw [View.canon_unit_zero hz2]
  simp only [View.ld_unit_zero (S := S256x512) hz2]
  pointwise [k0_pay7, k0_pay1, k0_pay2, k0_pay3, k0_pay4]
  rfl

theorem at_fst : r0_0.emb (ix2 r k) = ix2 r ⟨k.val, by omega⟩ := by
  funext a
  match a with
  | ⟨0, _⟩ => exact Fin.ext (by show 0 + 1 * r.val = r.val; omega)
  | ⟨1, _⟩ => exact Fin.ext (by show 0 + 1 * k.val = k.val; omega)

theorem at_snd : r0_1.emb (ix2 r k) = ix2 r ⟨512 + k.val, by omega⟩ := by
  funext a
  match a with
  | ⟨0, _⟩ => exact Fin.ext (by show 0 + 1 * r.val = r.val; omega)
  | ⟨1, _⟩ => exact Fin.ext (by show 512 + 1 * k.val = 512 + k.val; omega)

/-- The block's second half is stored last. -/
theorem block_snd : out0_3 (F := Ideal) x g d (ix2 r ⟨512 + k.val, by omega⟩)
    = unitSnd (x (ix2 r ⟨k.val, by omega⟩)) (x (ix2 r ⟨512 + k.val, by omega⟩)) (g (ix2 r k)) (d (ix2 r k)) := by
  refine (congrArg (out0_3 (F := Ideal) x g d) (at_snd r k)).symm.trans ?_
  unfold out0_3
  rw [View.canon_cons_emb]
  simp only [View.ld_unit_zero (S := S256x512) hz2]
  pointwise [k0_pay6, k0_pay1, k0_pay2, k0_pay3, k0_pay4]
  rfl

/-- It leaves the first half as it is. -/
theorem block_fst : out0_3 (F := Ideal) x g d (ix2 r ⟨k.val, by omega⟩)
    = unitFst (x (ix2 r ⟨512 + k.val, by omega⟩)) (g (ix2 r k)) (d (ix2 r k)) := by
  refine (congrArg (out0_3 (F := Ideal) x g d) (at_fst r k)).symm.trans ?_
  unfold out0_3
  rw [View.canon_cons_of_not_mem _ _ (fun h => ?_), View.canon_cons_emb]
  · simp only [View.ld_unit_zero (S := S256x512) hz2]
    pointwise [k0_pay5, k0_pay1, k0_pay2, k0_pay3, k0_pay4]
    rfl
  · obtain ⟨y, hy⟩ := r0_1.exists_idx_of_mem h
    have e : 512 + 1 * (y 1).val = k.val := congrArg (fun i : S256x1024.Idx => (i 1).val) (hy.trans (at_fst r k))
    have hk := k.isLt
    omega

end blocks

section reference

open Cert.GluGateRefIdeal.Read

variable (x : Mat 2048 1024) (g : Mat 2048 4096) (d : Mat 2048 1536) (r : Fin 2048) (k : Fin 512)

theorem ref_gate : val_main_v25 (F := Ideal) x g d (ix2 r k) = unitGate (x (ix2 r ⟨k.val, by omega⟩)) (x (ix2 r ⟨512 + k.val, by omega⟩))
    (g (ix2 r ⟨3584 + k.val, by omega⟩)) (d (ix2 r ⟨1024 + k.val, by omega⟩)) := by
  pointwise [val_main_v25, val_main_v19, val_main_call1_v2, val_main_call1_v1, val_main_call1_v0, val_main_v17, val_main_v14_2, val_main_v14_1,
    val_main_call0_v7, val_main_call0_v6, val_main_call0_cst_1, val_main_call0_v4, val_main_call0_v3, val_main_call0_v2, val_main_call0_v1, val_main_call0_v0,
    val_main_call0_cst_0, val_main_call0_cst, val_main_v16, val_main_v13, val_main_v9, val_main_v8, val_main_v7, val_main_v6, val_main_v5, val_main_v4,
    val_main_v3, val_main_v2, val_main_v1, val_main_v0, val_main_cst, val_main_cst_0]
  rfl

theorem ref_fst : val_main_v24 (F := Ideal) x g d (ix2 r ⟨k.val, by omega⟩) = unitFst (x (ix2 r ⟨512 + k.val, by omega⟩))
    (g (ix2 r ⟨3584 + k.val, by omega⟩)) (d (ix2 r ⟨1024 + k.val, by omega⟩)) := by
  pointwise [val_main_v24, val_main_v23, val_main_v21, val_main_v18, val_main_v16, val_main_v14_0, val_main_v14_2, val_main_call0_v4, val_main_call0_v3, val_main_call0_v2,
    val_main_call0_v1, val_main_call0_v0, val_main_call0_cst_0, val_main_call0_cst, val_main_v9, val_main_v8, val_main_v7, val_main_v6, val_main_v5,
    val_main_v4, val_main_v3, val_main_v2, val_main_v1, val_main_cst, val_main_cst_0]
  rfl

theorem ref_snd : val_main_v24 (F := Ideal) x g d (ix2 r ⟨512 + k.val, by omega⟩) = unitSnd (x (ix2 r ⟨k.val, by omega⟩))
    (x (ix2 r ⟨512 + k.val, by omega⟩)) (g (ix2 r ⟨3584 + k.val, by omega⟩)) (d (ix2 r ⟨1024 + k.val, by omega⟩)) := by
  pointwise [val_main_v24, val_main_v23, val_main_v22, val_main_v20, val_main_v12, val_main_v11, val_main_v10, val_main_cst_1, val_main_v18, val_main_v16, val_main_v14_0,
    val_main_v14_2, val_main_call0_v4, val_main_call0_v3, val_main_call0_v2, val_main_call0_v1, val_main_call0_v0, val_main_call0_cst_0,
    val_main_call0_cst, val_main_v9, val_main_v8, val_main_v7, val_main_v6, val_main_v5, val_main_v4, val_main_v3, val_main_v2, val_main_v1,
    val_main_v0, val_main_cst, val_main_cst_0]
  rfl

end reference

open Cert.GluGateRefIdeal.Read in
/-- What the unit's two halves are sent back, after the call. -/
theorem arr_xs : (dats m 0 c).arrAt 3 cfg0.N = val_main_v24 (F := Ideal) (V m c main_arg0) (V m c main_arg1) (V m c main_arg2) := by
  refine (dats m 0 c).arrAt_eq_of_covers 3 _ (by decide +kernel) fun t hf y => ?_
  blk_simp
  rw [after0_3]
  obtain ⟨r, k, rfl⟩ : ∃ (r : Fin 256) (k : Fin 1024), y = ix2 r k := ⟨y 0, y 1, by idx_vars y⟩
  rw [emb_xs]
  rcases halves (K := 512) rfl k with ⟨p, rfl⟩ | ⟨p, rfl⟩
  · exact (block_fst _ _ _ r p).trans (by rw [blk_x, blk_g, blk_d]; exact (ref_fst _ _ _ _ p).symm)
  · exact (block_snd _ _ _ r p).trans (by rw [blk_x, blk_x, blk_g, blk_d]; exact (ref_snd _ _ _ _ p).symm)

open Cert.GluGateRefIdeal.Read in
/-- What the gate is sent back, after the call. -/
theorem arr_gs : (dats m 0 c).arrAt 4 cfg0.N = val_main_v25 (F := Ideal) (V m c main_arg0) (V m c main_arg1) (V m c main_arg2) := by
  refine (dats m 0 c).arrAt_eq_of_covers 4 _ (by decide +kernel) fun t hf y => ?_
  blk_simp
  rw [after0_4]
  obtain ⟨r, k, rfl⟩ : ∃ (r : Fin 256) (k : Fin 512), y = ix2 r k := ⟨y 0, y 1, by idx_vars y⟩
  rw [emb_gs]
  exact (block_gate _ _ _ r k).trans (by rw [blk_x, blk_x, blk_g, blk_d]; exact (ref_gate _ _ _ _ k).symm)

theorem frame_reference : Cert.quiescent_GluGateRefIdeal (hGluGateRefIdeal := Cert.GluGateRefIdeal.Gen.facts) := fun m ρ _ =>
  (θ_run Cert.GluGateRefIdeal.defs _ _).mono (fun r h => ⟨fun c => (h c).2.2, sem_eq_zero_of_no_sems (by decide) r.2⟩) (Cert.GluGateRefIdeal.Value.run (F := Ideal) m ρ)

/-- The call and the plain gradient end with equal arrays. -/
theorem algebraic : Cert.algebraic_GluGateIdeal_GluGateRefIdeal (hGluGateIdeal := Cert.GluGateIdeal.Gen.facts)
    (hGluGateRefIdeal := Cert.GluGateRefIdeal.Gen.facts) := by
  intro m ρ m' ρ' _ hag
  refine ⟨_, _, Cert.GluGateIdeal.Value.run_blocks m ρ, (θ_run Cert.GluGateRefIdeal.defs _ _).mono (fun r h c =>
    ⟨(h c).1.trans ?_, (h c).2.1.trans ?_, (h c).2.2⟩) (Cert.GluGateRefIdeal.Value.run (F := Ideal) m' ρ')⟩
  · rw [arr_xs m c, Cert.GluGateRefIdeal.Read.val_main_v24_eq, (hag c).1, (hag c).2.1, (hag c).2.2, V_main_arg0, V_main_arg1, V_main_arg2]
  · rw [arr_gs m c, Cert.GluGateRefIdeal.Read.val_main_v25_eq, (hag c).1, (hag c).2.1, (hag c).2.2, V_main_arg0, V_main_arg1, V_main_arg2]

end Cert.GluGateTie

end
-- ==== Proof.BranchGate.lean ====
module

public import proofs.«01_k».proof.Proof.Product
public import proofs.«01_k».proof.Proof.Gates
public import proofs.«01_k».proof.Proof.Gen.GateAbIdeal.Value
public import proofs.«01_k».proof.Proof.Gen.GateAbRefIdeal.Run
public import proofs.«01_k».proof.Proof.Gen.GateAbRefIdeal.Read
public import proofs.«01_k».proof.Defs

/-! The gradient of the two gates over the attention and the mixed branch, and of the branch's scale. -/

@[expose] public section

set_option maxRecDepth 16384

noncomputable section

open Idealize.ShloMosaic Idealize.ShloMosaic.TcCoe Idealize.SL.Sem Cert.Product Cert.Gates

namespace Cert.GateAbTie

open Cert.GateAbIdeal Cert.GateAbIdeal.Gen

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 3] ∧ win0_2.index t = ![t.val, 0]
    ∧ win0_3.index t = ![t.val, 5] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] := by
  decide +kernel

section blocks

variable (t : Fin cfg0.N) (r : Fin 256) (k : Fin 1024)

theorem blk_o : iblk m c 0 t (ix2 r k) = V m c main_arg0 (ix2 (col height t r) k) := by
  blk_ext [iblk, index t]

theorem blk_ga : iblk m c 1 t (ix2 r k) = V m c main_arg1 (ix2 (col height t r) ⟨3072 + k.val, by omega⟩) := by
  blk_ext [iblk, index t]

theorem blk_a : iblk m c 2 t (ix2 r k) = V m c main_arg2 (ix2 (col height t r) k) := by
  blk_ext [iblk, index t]

theorem blk_gb : iblk m c 3 t (ix2 r k) = V m c main_arg1 (ix2 (col height t r) ⟨5120 + k.val, by omega⟩) := by
  blk_ext [iblk, index t]

theorem blk_s : iblk m c 4 t (ix2 0 k) = V m c main_arg3 (ix2 0 k) := by
  blk_ext [iblk, index t]

theorem blk_d (k : Fin 2048) : iblk m c 5 t (ix2 r k) = V m c main_arg4 (ix2 (col height t r) k) := by
  blk_ext [iblk, index t]

theorem emb_o : (win0_6.blk t).view.emb (ix2 r k) = ix2 (col height t r) k := by
  blk_ext [index t]

theorem emb_ga : (win0_7.blk t).view.emb (ix2 r k) = ix2 (col height t r) k := by
  blk_ext [index t]

theorem emb_a : (win0_8.blk t).view.emb (ix2 r k) = ix2 (col height t r) k := by
  blk_ext [index t]

theorem emb_gb : (win0_9.blk t).view.emb (ix2 r k) = ix2 (col height t r) k := by
  blk_ext [index t]

theorem emb_s : (win0_10.blk t).view.emb (ix2 0 k) = ix2 0 k := by
  blk_ext [index t]

/-- What a point leaves in the block for the attention's rows. -/
theorem out_o : (outsAt0 m c t.val t.isLt).1 (ix2 r k) = through (iblk m c 1 t (ix2 r k)) (iblk m c 5 t (ix2 r ⟨k.val, by omega⟩)) := by
  by_cases h : t.val % 8 = 0
  · rw [outsAt0_A m c t h]
    unfold out0_A_6
    rw [View.read_writes_junk_eq_canon]
    unfold kernelRun0_A
    dsimp only
    rw [View.canon_unit_zero hz2]
    simp only [View.readAt_eq_ld, (hs0_1 t).read_unread, (hs0_5 t).read_unread, View.ld_unit_zero (S := S256x1024) hz2]
    pointwise [k0_pay14, k0_pay6, k0_pay8]
    rfl
  · rw [outsAt0_B m c t h]
    unfold out0_B_6
    rw [View.read_writes_junk_eq_canon]
    unfold kernelRun0_B
    dsimp only
    rw [View.canon_unit_zero hz2]
    simp only [View.readAt_eq_ld, (hs0_1 t).read_unread, (hs0_5 t).read_unread, View.ld_unit_zero (S := S256x1024) hz2]
    pointwise [k0_pay14, k0_pay6, k0_pay8]
    rfl

/-- In the block for the attention's gate. -/
theorem out_ga : (outsAt0 m c t.val t.isLt).2.1 (ix2 r k)
    = opening (iblk m c 1 t (ix2 r k)) (iblk m c 0 t (ix2 r k)) (iblk m c 5 t (ix2 r ⟨k.val, by omega⟩)) := by
  by_cases h : t.val % 8 = 0
  · rw [outsAt0_A m c t h]
    unfold out0_A_7
    rw [View.read_writes_junk_eq_canon]
    unfold kernelRun0_A
    dsimp only
    sl_unfold_words
    rw [View.canon_unit_zero hz2]
    simp only [View.readAt_eq_ld, (hs0_0 t).read_unread, (hs0_1 t).read_unread, (hs0_5 t).read_unread, View.ld_unit_zero (S := S256x1024) hz2]
    pointwise [k0_pay1, k0_pay15, k0_pay6, k0_pay8]
    rfl
  · rw [outsAt0_B m c t h]
    unfold out0_B_7
    rw [View.read_writes_junk_eq_canon]
    unfold kernelRun0_B
    dsimp only
    sl_unfold_words
    rw [View.canon_unit_zero hz2]
    simp only [View.readAt_eq_ld, (hs0_0 t).read_unread, (hs0_1 t).read_unread, (hs0_5 t).read_unread, View.ld_unit_zero (S := S256x1024) hz2]
    pointwise [k0_pay1, k0_pay15, k0_pay6, k0_pay8]
    rfl

/-- In the block for the mixed branch's rows. -/
theorem out_a : (outsAt0 m c t.val t.isLt).2.2.1 (ix2 r k)
    = scaled (iblk m c 4 t (ix2 0 k)) (iblk m c 3 t (ix2 r k)) (iblk m c 5 t (ix2 r ⟨1024 + k.val, by omega⟩)) := by
  by_cases h : t.val % 8 = 0
  · rw [outsAt0_A m c t h]
    unfold out0_A_8
    rw [View.read_writes_junk_eq_canon]
    unfold kernelRun0_A
    dsimp only
    sl_unfold_words
    rw [View.canon_unit_zero hz2]
    simp only [View.readAt_eq_ld, (hs0_3 t).read_unread, (hs0_4 t).read_unread, (hs0_5 t).read_unread, View.ld_unit_zero (S := S256x1024) hz2,
      View.ld_unit_zero (S := S1x1024) hz2]
    pointwise [k0_pay2, k0_pay13, k0_pay10, k0_pay9, k0_pay7]
    rfl
  · rw [outsAt0_B m c t h]
    unfold out0_B_8
    rw [View.read_writes_junk_eq_canon]
    unfold kernelRun0_B
    dsimp only
    sl_unfold_words
    rw [View.canon_unit_zero hz2]
    simp only [View.readAt_eq_ld, (hs0_3 t).read_unread, (hs0_4 t).read_unread, (hs0_5 t).read_unread, View.ld_unit_zero (S := S256x1024) hz2,
      View.ld_unit_zero (S := S1x1024) hz2]
    pointwise [k0_pay2, k0_pay13, k0_pay10, k0_pay9, k0_pay7]
    rfl

/-- In the block for the mixed branch's gate. -/
theorem out_gb : (outsAt0 m c t.val t.isLt).2.2.2.1 (ix2 r k) = scaledOpening (iblk m c 4 t (ix2 0 k))
    (iblk m c 3 t (ix2 r k)) (iblk m c 2 t (ix2 r k)) (iblk m c 5 t (ix2 r ⟨1024 + k.val, by omega⟩)) := by
  by_cases h : t.val % 8 = 0
  · rw [outsAt0_A m c t h]
    unfold out0_A_9
    rw [View.read_writes_junk_eq_canon]
    unfold kernelRun0_A
    dsimp only
    sl_unfold_words
    rw [View.canon_unit_zero hz2]
    simp only [View.readAt_eq_ld, (hs0_2 t).read_unread, (hs0_3 t).read_unread, (hs0_4 t).read_unread, (hs0_5 t).read_unread,
      View.ld_unit_zero (S := S256x1024) hz2, View.ld_unit_zero (S := S1x1024) hz2]
    pointwise [k0_pay3, k0_pay11, k0_pay9, k0_pay7]
    rfl
  · rw [outsAt0_B m c t h]
    unfold out0_B_9
    rw [View.read_writes_junk_eq_canon]
    unfold kernelRun0_B
    dsimp only
    sl_unfold_words
    rw [View.canon_unit_zero hz2]
    simp only [View.readAt_eq_ld, (hs0_2 t).read_unread, (hs0_3 t).read_unread, (hs0_4 t).read_unread, (hs0_5 t).read_unread,
      View.ld_unit_zero (S := S256x1024) hz2, View.ld_unit_zero (S := S1x1024) hz2]
    pointwise [k0_pay3, k0_pay11, k0_pay9, k0_pay7]
    rfl

/-- What a block's rows send back to the scale. -/
def part : EReal := ∑ r : Fin 256, toScale (iblk m c 3 t (ix2 r k)) (iblk m c 2 t (ix2 r k)) (iblk m c 5 t (ix2 r ⟨1024 + k.val, by omega⟩))

/-- The first point starts the scale's sum. -/
theorem out_s_first (h : t.val % 8 = 0) : (outsAt0 m c t.val t.isLt).2.2.2.2 (ix2 0 k) = part m c t k := by
  rw [outsAt0_A m c t h]
  unfold out0_A_10
  rw [View.read_writes_junk_eq_canon]
  unfold kernelRun0_A
  dsimp only
  sl_unfold_words
  rw [View.canon_cons_unit_zero (S := S1x1024) hz2, View.readCov_unit_zero (S := S1x1024) _ hz2]
  simp only [View.readAt_eq_ld, (hs0_2 t).read_unread, (hs0_3 t).read_unread, (hs0_5 t).read_unread, View.ld_unit_zero (S := S256x1024) hz2]
  pointwise [k0_pay5, k0_pay4, k0_pay12, k0_pay10, k0_pay9, k0_pay7]
  rfl

/-- A later point adds to it. -/
theorem out_s_next (h : ¬t.val % 8 = 0) : (outsAt0 m c t.val t.isLt).2.2.2.2 (ix2 0 k)
    = ((outsAt0 m c (t.val - 1) (Nat.lt_of_le_of_lt (Nat.sub_le _ _) t.isLt)).2.2.2.2 (ix2 0 k) + part m c t k : EReal) := by
  rw [outsAt0_B m c t h]
  unfold out0_B_10
  rw [View.read_writes_junk_eq_canon]
  unfold kernelRun0_B
  dsimp only
  sl_unfold_words
  rw [View.canon_cons_unit_zero (S := S1x1024) hz2]
  simp only [View.readAt_eq_ld, (hs0_2 t).read_unread, (hs0_3 t).read_unread, (hs0_5 t).read_unread, (hs0_10 t).read_unread,
    View.ld_unit_zero (S := S256x1024) hz2, View.ld_unit_zero (S := S1x1024) hz2]
  pointwise [k0_pay5, k0_pay12, k0_pay10, k0_pay9, k0_pay7]
  rfl

end blocks

section reference

open Cert.GateAbRefIdeal.Read

variable (o : Mat 2048 1024) (z : Mat 2048 6144) (a : Mat 2048 1024) (s : Mat 1 1024) (d : Mat 2048 2048) (r : Fin 2048) (k : Fin 1024)

theorem ref_silu_a : val_main_v3_0 (F := Ideal) z (ix2 r k) = silu (z (ix2 r ⟨3072 + k.val, by omega⟩)) := by
  pointwise [val_main_v3_0, val_main_v3_2, val_main_call0_v4, val_main_call0_v3, val_main_call0_v2, val_main_call0_v1, val_main_call0_v0,
    val_main_call0_cst_0, val_main_call0_cst, val_main_v1, val_main_v0]
  rfl

theorem ref_silu_b : val_main_v7_0 (F := Ideal) z (ix2 r k) = silu (z (ix2 r ⟨5120 + k.val, by omega⟩)) := by
  pointwise [val_main_v7_0, val_main_v7_2, val_main_call1_v4, val_main_call1_v3, val_main_call1_v2, val_main_call1_v1, val_main_call1_v0,
    val_main_call1_cst_0, val_main_call1_cst, val_main_v2, val_main_v0]
  rfl

theorem ref_o : val_main_v21 (F := Ideal) z d (ix2 r k) = through (z (ix2 r ⟨3072 + k.val, by omega⟩)) (d (ix2 r ⟨k.val, by omega⟩)) := by
  pointwise [val_main_v21, val_main_v10]
  rw [ref_silu_a]
  rfl

theorem ref_ga : val_main_v23 (F := Ideal) o z d (ix2 r k)
    = opening (z (ix2 r ⟨3072 + k.val, by omega⟩)) (o (ix2 r k)) (d (ix2 r ⟨k.val, by omega⟩)) := by
  pointwise [val_main_v23, val_main_v22, val_main_call3_v2, val_main_call3_v1, val_main_call3_v0, val_main_v20, val_main_v10, val_main_v3_1,
    val_main_call0_v7, val_main_call0_v6, val_main_call0_cst_1, val_main_v3_2, val_main_call0_v4, val_main_call0_v3, val_main_call0_v2,
    val_main_call0_v1, val_main_call0_v0, val_main_call0_cst_0, val_main_call0_cst, val_main_v1, val_main_v0]
  rfl

theorem ref_a : val_main_v24 (F := Ideal) z s d (ix2 r k)
    = scaled (s (ix2 0 k)) (z (ix2 r ⟨5120 + k.val, by omega⟩)) (d (ix2 r ⟨1024 + k.val, by omega⟩)) := by
  pointwise [val_main_v24, val_main_v19, val_main_v18, val_main_v13, val_main_v11]
  rw [ref_silu_b]
  rfl

theorem ref_gb : val_main_v25 (F := Ideal) z a s d (ix2 r k)
    = scaledOpening (s (ix2 0 k)) (z (ix2 r ⟨5120 + k.val, by omega⟩)) (a (ix2 r k)) (d (ix2 r ⟨1024 + k.val, by omega⟩)) := by
  pointwise [val_main_v25, val_main_v14, val_main_call2_v2, val_main_call2_v1, val_main_call2_v0, val_main_v12, val_main_v11, val_main_v6,
    val_main_v5, val_main_v7_1, val_main_call1_v7, val_main_call1_v6, val_main_call1_cst_1, val_main_v7_2, val_main_call1_v4, val_main_call1_v3,
    val_main_call1_v2, val_main_call1_v1, val_main_call1_v0, val_main_call1_cst_0, val_main_call1_cst, val_main_v2, val_main_v0]
  rfl

theorem ref_s : val_main_v17 (F := Ideal) z a d (ix2 0 k)
    = ∑ r : Fin 2048, toScale (z (ix2 r ⟨5120 + k.val, by omega⟩)) (a (ix2 r k)) (d (ix2 r ⟨1024 + k.val, by omega⟩)) := by
  pointwise [val_main_v17, val_main_v16, val_main_v15, val_main_v13, val_main_v11, val_main_cst]
  exact Finset.sum_congr rfl fun r _ => by rw [ref_silu_b]; rfl

end reference

open Cert.GateAbRefIdeal.Read

/-- What the attention's rows are sent back, after the call. -/
theorem arr_o : (dats m 0 c).arrAt 6 cfg0.N = val_main_v21 (F := Ideal) (V m c main_arg1) (V m c main_arg4) := by
  refine (dats m 0 c).arrAt_eq_of_covers 6 _ (by decide +kernel) fun t hf y => ?_
  blk_simp
  rw [after0_6]
  obtain ⟨r, k, rfl⟩ : ∃ (r : Fin 256) (k : Fin 1024), y = ix2 r k := ⟨y 0, y 1, by idx_vars y⟩
  rw [emb_o]
  exact (out_o m c t r k).trans (by rw [blk_ga, blk_d]; exact (ref_o _ _ _ k).symm)

/-- What the attention's gate is sent back. -/
theorem arr_ga : (dats m 0 c).arrAt 7 cfg0.N = val_main_v23 (F := Ideal) (V m c main_arg0) (V m c main_arg1) (V m c main_arg4) := by
  refine (dats m 0 c).arrAt_eq_of_covers 7 _ (by decide +kernel) fun t hf y => ?_
  blk_simp
  rw [after0_7]
  obtain ⟨r, k, rfl⟩ : ∃ (r : Fin 256) (k : Fin 1024), y = ix2 r k := ⟨y 0, y 1, by idx_vars y⟩
  rw [emb_ga]
  exact (out_ga m c t r k).trans (by rw [blk_ga, blk_o, blk_d]; exact (ref_ga _ _ _ _ k).symm)

/-- What the mixed branch's rows are sent back. -/
theorem arr_a : (dats m 0 c).arrAt 8 cfg0.N = val_main_v24 (F := Ideal) (V m c main_arg1) (V m c main_arg3) (V m c main_arg4) := by
  refine (dats m 0 c).arrAt_eq_of_covers 8 _ (by decide +kernel) fun t hf y => ?_
  blk_simp
  rw [after0_8]
  obtain ⟨r, k, rfl⟩ : ∃ (r : Fin 256) (k : Fin 1024), y = ix2 r k := ⟨y 0, y 1, by idx_vars y⟩
  rw [emb_a]
  exact (out_a m c t r k).trans (by rw [blk_gb, blk_d, blk_s]; exact (ref_a _ _ _ _ k).symm)

/-- What the mixed branch's gate is sent back. -/
theorem arr_gb : (dats m 0 c).arrAt 9 cfg0.N
    = val_main_v25 (F := Ideal) (V m c main_arg1) (V m c main_arg2) (V m c main_arg3) (V m c main_arg4) := by
  refine (dats m 0 c).arrAt_eq_of_covers 9 _ (by decide +kernel) fun t hf y => ?_
  blk_simp
  rw [after0_9]
  obtain ⟨r, k, rfl⟩ : ∃ (r : Fin 256) (k : Fin 1024), y = ix2 r k := ⟨y 0, y 1, by idx_vars y⟩
  rw [emb_gb]
  exact (out_gb m c t r k).trans (by rw [blk_gb, blk_a, blk_s, blk_d]; exact (ref_gb _ _ _ _ _ k).symm)

/-- What the scale is sent back: the sum over all rows, gathered block by block. -/
theorem arr_s : (dats m 0 c).arrAt 10 cfg0.N = val_main_v17 (F := Ideal) (V m c main_arg1) (V m c main_arg2) (V m c main_arg4) := by
  refine (dats m 0 c).arrAt_eq_of_covers 10 _ (by decide +kernel) fun t hf y => ?_
  blk_simp
  rw [after0_10]
  obtain ⟨s, k, rfl⟩ : ∃ (s : Fin 1) (k : Fin 1024), y = ix2 s k := ⟨y 0, y 1, by idx_vars y⟩
  obtain rfl : s = 0 := Subsingleton.elim _ _
  have h7 : t.val = 7 := (by decide +kernel : ∀ t : Fin cfg0.N, (cfg0.win 10).flush t = true → t.val = 7) t hf
  obtain rfl : t = ⟨7, by decide⟩ := Fin.ext h7
  rw [emb_s]
  refine (summed (L := 6) (fun s => part m c s k) (fun n h => (outsAt0 m c n h).2.2.2.2 (ix2 0 k)) (fun h => out_s_first m c ⟨0, h⟩ k rfl)
    (fun n h => out_s_next m c ⟨n + 1, h⟩ k (by dsimp only; omega)) (by decide)).trans ?_
  have e : ∀ s : Fin cfg0.N, part m c s k = _ := fun s => Finset.sum_congr rfl fun r _ => by rw [blk_a, blk_gb, blk_d]
  exact (Finset.sum_congr rfl fun s _ => e s).trans ((ref_s _ _ _ k).trans (sum_cols height _)).symm

theorem frame_reference : Cert.quiescent_GateAbRefIdeal (hGateAbRefIdeal := Cert.GateAbRefIdeal.Gen.facts) := fun m ρ _ =>
  (θ_run Cert.GateAbRefIdeal.defs _ _).mono (fun r h => ⟨fun c => (h c).2.2.2.2.2, sem_eq_zero_of_no_sems (by decide) r.2⟩) (Cert.GateAbRefIdeal.Value.run (F := Ideal) m ρ)

/-- The call and the plain gradient end with equal arrays. -/
theorem algebraic : Cert.algebraic_GateAbIdeal_GateAbRefIdeal (hGateAbIdeal := Cert.GateAbIdeal.Gen.facts)
    (hGateAbRefIdeal := Cert.GateAbRefIdeal.Gen.facts) := by
  intro m ρ m' ρ' _ hag
  refine ⟨_, _, _, _, _, Cert.GateAbIdeal.Value.run_blocks m ρ, (θ_run Cert.GateAbRefIdeal.defs _ _).mono (fun r h c =>
    ⟨(h c).1.trans ?_, (h c).2.1.trans ?_, (h c).2.2.1.trans ?_, (h c).2.2.2.1.trans ?_, (h c).2.2.2.2.1.trans ?_, (h c).2.2.2.2.2⟩)
    (Cert.GateAbRefIdeal.Value.run (F := Ideal) m' ρ')⟩ <;> obtain ⟨e0, e1, e2, e3, e4⟩ := hag c
  · rw [arr_o m c, val_main_v21_eq, e1, e4, V_main_arg1, V_main_arg4]
  · rw [arr_ga m c, val_main_v23_eq, e0, e1, e4, V_main_arg0, V_main_arg1, V_main_arg4]
  · rw [arr_a m c, val_main_v24_eq, e1, e3, e4, V_main_arg1, V_main_arg3, V_main_arg4]
  · rw [arr_gb m c, val_main_v25_eq, e1, e2, e3, e4, V_main_arg1, V_main_arg2, V_main_arg3, V_main_arg4]
  · rw [arr_s m c, val_main_v17_eq, e1, e2, e4, V_main_arg1, V_main_arg2, V_main_arg4]

end Cert.GateAbTie

end
-- ==== Proof.Norms.lean ====
module

public import proofs.«01_k».proof.Proof.Product
public import proofs.«01_k».proof.Proof.Gen.RmsDxIdeal.Value
public import proofs.«01_k».proof.Proof.Gen.RmsDxRefIdeal.Run
public import proofs.«01_k».proof.Proof.Gen.RmsDxRefIdeal.Read
public import proofs.«01_k».proof.Proof.Gen.MemNormDgIdeal.Value
public import proofs.«01_k».proof.Proof.Gen.MemNormDgRefIdeal.Run
public import proofs.«01_k».proof.Proof.Gen.MemNormDgRefIdeal.Read
public import proofs.«01_k».proof.Defs

/-! The gradient of the root-mean-square norm: of its rows and its scale (the sublayers'), and of its scale alone (the memory's). -/

@[expose] public section

set_option maxRecDepth 16384

noncomputable section

open Idealize.ShloMosaic Idealize.ShloMosaic.TcCoe Idealize.SL.Sem Cert.Product

namespace Cert.Norms

/-- The width of a row, 1024, as the programs write it. -/
def width : EReal := Ideal.ofBits FTy.f32 1149239296#32

/-- The mean of a row's squares and the small constant. -/
def square (x : Fin 1024 → EReal) : EReal := Ideal.div (∑ j, x j * x j) width + Ideal.ofBits FTy.f32 897988541#32

/-- What a row is multiplied by. -/
def factor (x : Fin 1024 → EReal) : EReal := Ideal.rsqrt (square x)

/-- What one entry sends back to the scale. -/
def toScale (x : Fin 1024 → EReal) (k : Fin 1024) (d : EReal) : EReal := x k * factor x * d

/-- What the mean sends back to each factor of each square; the last sum is over the mean's one column. -/
def pull (x g d : Fin 1024 → EReal) : EReal :=
  ∑ _u : Fin 1, Ideal.div ((∑ j, x j * (d j * g j)) * (Ideal.ofBits FTy.f32 3204448256#32 * Ideal.div (factor x) (square x))) width

/-- What an entry is sent back, next to the gradient `s` that passes the norm by. -/
def toEntry (x g d : Fin 1024 → EReal) (k : Fin 1024) (s : EReal) : EReal :=
  s + (d k * g k * factor x + x k * pull x g d + pull x g d * x k)

theorem toEntry_apart (x g d : Fin 1024 → EReal) (k : Fin 1024) (s : EReal) :
    s + d k * g k * factor x + x k * pull x g d + pull x g d * x k = toEntry x g d k s := by
  unfold toEntry
  simp only [add_assoc]

end Cert.Norms

open Cert.Norms

namespace Cert.RmsDxTie

open Cert.RmsDxIdeal Cert.RmsDxIdeal.Gen

variable (m : (ℓ : Loc nD τ sig) → Buf (Elt Ideal) ℓ) (c : Dev nD)

theorem height : 4 * 512 = 2048 := rfl

theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

section blocks

variable (t : Fin cfg0.N) (r : Fin 512) (k : Fin 1024)

theorem blk_x : iblk m c 0 t (ix2 r k) = V m c main_arg0 (ix2 (col height t r) k) := by
  blk_ext [iblk, index t]

theorem blk_g : iblk m c 1 t (ix2 0 k) = V m c main_arg1 (ix2 0 k) := by
  blk_ext [iblk, index t]

theorem blk_s : iblk m c 2 t (ix2 r k) = V m c main_arg2 (ix2 (col height t r) k) := by
  blk_ext [iblk, index t]

theorem blk_d : iblk m c 3 t (ix2 r k) = V m c main_arg3 (ix2 (col height t r) k) := by
  blk_ext [iblk, index t]

theorem emb_x : (win0_4.blk t).view.emb (ix2 r k) = ix2 (col height t r) k := by
  blk_ext [index t]

theorem emb_g : (win0_5.blk t).view.emb (ix2 0 k) = ix2 0 k := by
  blk_ext [index t]

theorem pay_x (x s d : Mat 512 1024) (g : Mat 1 1024) : k0_pay6 (F := Ideal) x g s d (ix2 r k)
    = toEntry (fun j => x (ix2 r j)) (fun j => g (ix2 0 j)) (fun j => d (ix2 r j)) k (s (ix2 r k)) := by
  rw [← toEntry_apart]
  pointwise [k0_pay6, k0_pay4, k0_pay3]
  rfl

theorem pay_g (x d : Mat 512 1024) : k0_pay5 (F := Ideal) x d (ix2 0 k) = ∑ r : Fin 512, toScale (fun j => x (ix2 r j)) k (d (ix2 r k)) := by
  pointwise [k0_pay5, k0_pay4, k0_pay3]
  rfl

/-- What a point leaves in the block of rows. -/
theorem out_x : (outsAt0 m c t.val t.isLt).1 (ix2 r k) = toEntry (fun j => iblk m c 0 t (ix2 r j)) (fun j => iblk m c 1 t (ix2 0 j))
    (fun j => iblk m c 3 t (ix2 r j)) k (iblk m c 2 t (ix2 r k)) := by
  by_cases h : t.val % 4 = 0
  · rw [outsAt0_A m c t h]
    unfold out0_A_4
    rw [View.read_writes_junk_eq_canon]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S512x1024) hz2, View.ld_unit_zero (S := S1x1024) hz2]
    exact pay_x r k _ _ _ _
  · rw [outsAt0_B m c t h]
    unfold out0_B_4
    rw [View.read_writes_junk_eq_canon]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S512x1024) hz2, View.ld_unit_zero (S := S1x1024) hz2]
    exact pay_x r k _ _ _ _

/-- What a block's rows send back to the scale. -/
def part (k : Fin 1024) : EReal := ∑ r : Fin 512, toScale (fun j => iblk m c 0 t (ix2 r j)) k (iblk m c 3 t (ix2 r k))

/-- The first point starts the scale's sum. -/
theorem out_g_first (h : t.val % 4 = 0) : (outsAt0 m c t.val t.isLt).2 (ix2 0 k) = part m c t k := by
  rw [outsAt0_A m c t h]
  unfold out0_A_5
  rw [View.read_writes_junk_eq_canon]
  unfold kernelRun0_A
  dsimp only
  sl_unfold_words
  rw [View.canon_cons_unit_zero (S := S1x1024) hz2, View.readCov_unit_zero (S := S1x1024) _ hz2]
  simp only [View.readAt_eq_ld, (hs0_0 t).read_unread, (hs0_3 t).read_unread, View.ld_unit_zero (S := S512x1024) hz2]
  refine Eq.trans ?_ (pay_g k (iblk m c 0 t) (iblk m c 3 t))
  pointwise [k0_pay2, k0_pay1]

/-- A later point adds to it. -/
theorem out_g_next (h : ¬t.val % 4 = 0) : (outsAt0 m c t.val t.isLt).2 (ix2 0 k)
    = ((outsAt0 m c (t.val - 1) (Nat.lt_of_le_of_lt (Nat.sub_le _ _) t.isLt)).2 (ix2 0 k) + part m c t k : EReal) := by
  rw [outsAt0_B m c t h]
  unfold out0_B_5
  rw [View.read_writes_junk_eq_canon]
  unfold kernelRun0_B
  dsimp only
  sl_unfold_words
  rw [View.canon_cons_unit_zero (S := S1x1024) hz2]
  simp only [View.readAt_eq_ld, (hs0_0 t).read_unread, (hs0_3 t).read_unread, (hs0_5 t).read_unread, View.ld_unit_zero (S := S512x1024) hz2,
    View.ld_unit_zero (S := S1x1024) hz2]
  refine Eq.trans ?_ (congrArg (_ + ·) (pay_g k (iblk m c 0 t) (iblk m c 3 t)))
  pointwise [k0_pay2]

end blocks

open Cert.RmsDxRefIdeal.Read

theorem ref_x (x s d : Mat 2048 1024) (g : Mat 1 1024) (r : Fin 2048) (k : Fin 1024) : val_main_v34 (F := Ideal) x g s d (ix2 r k)
    = toEntry (fun j => x (ix2 r j)) (fun j => g (ix2 0 j)) (fun j => d (ix2 r j)) k (s (ix2 r k)) := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9,
    val_main_v8, val_main_v7, val_main_v6, val_main_v5, val_main_v4, val_main_v3, val_main_v2, val_main_v1, val_main_v0, val_main_cst,
    val_main_cst_0, val_main_cst_1, val_main_cst_2, val_main_cst_4, val_main_cst_5, val_main_cst_6]
  rfl

theorem ref_g (x d : Mat 2048 1024) (k : Fin 1024) : val_main_v17 (F := Ideal) x d (ix2 0 k)
    = ∑ r : Fin 2048, toScale (fun j => x (ix2 r j)) k (d (ix2 r k)) := by
  pointwise [val_main_v17, val_main_v16, val_main_v15, val_main_v12, val_main_v11, val_main_v7, val_main_v6, val_main_v5, val_main_v4,
    val_main_v3, val_main_v2, val_main_v1, val_main_v0, val_main_cst, val_main_cst_0, val_main_cst_1, val_main_cst_3]
  rfl

/-- What the rows are sent back, after the call. -/
theorem arr_x : (dats m 0 c).arrAt 4 cfg0.N
    = val_main_v34 (F := Ideal) (V m c main_arg0) (V m c main_arg1) (V m c main_arg2) (V m c main_arg3) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, by idx_vars y⟩
  rw [emb_x]
  exact (out_x m c t r k).trans (by simp only [blk_x, blk_g, blk_s, blk_d]; exact (ref_x _ _ _ _ _ k).symm)

/-- What the scale is sent back: the sum over all rows, gathered block by block. -/
theorem arr_g : (dats m 0 c).arrAt 5 cfg0.N = val_main_v17 (F := Ideal) (V m c main_arg0) (V m c main_arg3) := by
  refine (dats m 0 c).arrAt_eq_of_covers 5 _ (by decide +kernel) fun t hf y => ?_
  blk_simp
  rw [after0_5]
  obtain ⟨s, k, rfl⟩ : ∃ (s : Fin 1) (k : Fin 1024), y = ix2 s k := ⟨y 0, y 1, by idx_vars y⟩
  obtain rfl : s = 0 := Subsingleton.elim _ _
  have h3 : t.val = 3 := (by decide +kernel : ∀ t : Fin cfg0.N, (cfg0.win 5).flush t = true → t.val = 3) t hf
  obtain rfl : t = ⟨3, by decide⟩ := Fin.ext h3
  rw [emb_g]
  refine (summed (L := 2) (fun s => part m c s k) (fun n h => (outsAt0 m c n h).2 (ix2 0 k)) (fun h => out_g_first m c ⟨0, h⟩ k rfl)
    (fun n h => out_g_next m c ⟨n + 1, h⟩ k (by dsimp only; omega)) (by decide)).trans ?_
  have e : ∀ s : Fin cfg0.N, part m c s k = _ := fun s => Finset.sum_congr rfl fun r _ => by simp only [blk_x, blk_d]; rfl
  exact (Finset.sum_congr rfl fun s _ => e s).trans ((ref_g _ _ k).trans (sum_cols height _)).symm

theorem frame_reference : Cert.quiescent_RmsDxRefIdeal (hRmsDxRefIdeal := Cert.RmsDxRefIdeal.Gen.facts) := fun m ρ _ =>
  (θ_run Cert.RmsDxRefIdeal.defs _ _).mono (fun r h => ⟨fun c => (h c).2.2, sem_eq_zero_of_no_sems (by decide) r.2⟩)
    (Cert.RmsDxRefIdeal.Value.run (F := Ideal) m ρ)

/-- The call and the plain gradient end with equal arrays. -/
theorem algebraic : Cert.algebraic_RmsDxIdeal_RmsDxRefIdeal (hRmsDxIdeal := Cert.RmsDxIdeal.Gen.facts)
    (hRmsDxRefIdeal := Cert.RmsDxRefIdeal.Gen.facts) := by
  intro m ρ m' ρ' _ hag
  refine ⟨_, _, Cert.RmsDxIdeal.Value.run_blocks m ρ, (θ_run Cert.RmsDxRefIdeal.defs _ _).mono (fun r h c =>
    ⟨(h c).1.trans ?_, (h c).2.1.trans ?_, (h c).2.2⟩) (Cert.RmsDxRefIdeal.Value.run (F := Ideal) m' ρ')⟩ <;>
    obtain ⟨e0, e1, e2, e3⟩ := hag c
  · rw [arr_x m c, val_main_v34_eq, e0, e1, e2, e3, V_main_arg0, V_main_arg1, V_main_arg2, V_main_arg3]
  · rw [arr_g m c, val_main_v17_eq, e0, e3, V_main_arg0, V_main_arg3]

end Cert.RmsDxTie

namespace Cert.MemNormDgTie

open Cert.MemNormDgIdeal Cert.MemNormDgIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0] ∧ win0_3.index t = ![0, 0] := by
  decide +kernel

variable (t : Fin cfg0.N) (r : Fin 256) (k : Fin 1024)

theorem blk_x : iblk m c 0 t (ix2 r k) = V m c main_arg0 (ix2 r k) := by
  blk_ext [iblk, index t]

theorem blk_d : iblk m c 2 t (ix2 r k) = V m c main_arg2 (ix2 r k) := by
  blk_ext [iblk, index t]

theorem emb_g : (win0_3.blk t).view.emb (ix2 0 k) = ix2 0 k := by
  blk_ext [index t]

/-- What the one point leaves for the scale. -/
theorem out_g : outsAt0 m c t (ix2 0 k) = ∑ r : Fin 256, toScale (fun j => iblk m c 0 t (ix2 r j)) k (iblk m c 2 t (ix2 r k)) := by
  unfold outsAt0 out0_A_3
  rw [View.read_writes_junk_eq_canon]
  unfold kernelRun0_A
  dsimp only
  sl_unfold_words
  rw [View.canon_cons_unit_zero (S := S1x1024) hz2, View.readCov_unit_zero (S := S1x1024) _ hz2]
  simp only [View.readAt_eq_ld, (hs0_0 t).read_unread, (hs0_2 t).read_unread, View.ld_unit_zero (S := S256x1024) hz2]
  pointwise [k0_pay2, k0_pay1]
  rfl

open Cert.MemNormDgRefIdeal.Read

theorem ref_g (x d : Mat 256 1024) : val_main_v14 (F := Ideal) x d (ix2 0 k) = ∑ r : Fin 256, toScale (fun j => x (ix2 r j)) k (d (ix2 r k)) := by
  pointwise [val_main_v14, val_main_v13, val_main_v12, val_main_v9, val_main_v8, val_main_v7, val_main_v6, val_main_v5, val_main_v4,
    val_main_v3, val_main_v2, val_main_v1, val_main_v0, val_main_cst, val_main_cst_0, val_main_cst_1, val_main_cst_2]
  rfl

/-- What the memory's scale is sent back, after the call. -/
theorem arr_g : (dats m 0 c).arrAt 3 cfg0.N = val_main_v14 (F := Ideal) (V m c main_arg0) (V m c main_arg2) := by
  refine (dats m 0 c).arrAt_eq_of_covers 3 _ (by decide +kernel) fun t hf y => ?_
  blk_simp
  rw [after0_3]
  obtain ⟨s, k, rfl⟩ : ∃ (s : Fin 1) (k : Fin 1024), y = ix2 s k := ⟨y 0, y 1, by idx_vars y⟩
  obtain rfl : s = 0 := Subsingleton.elim _ _
  rw [emb_g]
  exact (out_g m c t k).trans (by simp only [blk_x, blk_d]; exact (ref_g k _ _).symm)

theorem frame_reference : Cert.quiescent_MemNormDgRefIdeal (hMemNormDgRefIdeal := Cert.MemNormDgRefIdeal.Gen.facts) := fun m ρ _ =>
  (θ_run Cert.MemNormDgRefIdeal.defs _ _).mono (fun r h => ⟨fun c => (h c).2, sem_eq_zero_of_no_sems (by decide) r.2⟩)
    (Cert.MemNormDgRefIdeal.Value.run (F := Ideal) m ρ)

/-- The call and the plain gradient end with equal arrays. -/
theorem algebraic : Cert.algebraic_MemNormDgIdeal_MemNormDgRefIdeal (hMemNormDgIdeal := Cert.MemNormDgIdeal.Gen.facts)
    (hMemNormDgRefIdeal := Cert.MemNormDgRefIdeal.Gen.facts) := by
  intro m ρ m' ρ' _ hag
  refine ⟨_, Cert.MemNormDgIdeal.Value.run_blocks m ρ, (θ_run Cert.MemNormDgRefIdeal.defs _ _).mono (fun r h c =>
    ⟨(h c).1.trans ?_, (h c).2⟩) (Cert.MemNormDgRefIdeal.Value.run (F := Ideal) m' ρ')⟩
  obtain ⟨e0, -, e2⟩ := hag c
  rw [arr_g m c, val_main_v14_eq, e0, e2, V_main_arg0, V_main_arg2]

end Cert.MemNormDgTie

end
-- ==== Proof.SkipGelu.lean ====
module

public import proofs.«01_k».proof.Proof.Product
public import proofs.«01_k».proof.Proof.Gen.GeluIdeal.Value
public import proofs.«01_k».proof.Proof.Gen.GeluRefIdeal.Run
public import proofs.«01_k».proof.Proof.Gen.GeluRefIdeal.Read
public import proofs.«01_k».proof.Defs

/-! The gradient of the mixed branch's skip connection and the smooth gate over it. -/

@[expose] public section

set_option maxRecDepth 16384

noncomputable section

open Idealize.ShloMosaic Idealize.ShloMosaic.TcCoe Idealize.SL.Sem Cert.Product

namespace Cert.GeluTie

open Cert.GeluIdeal Cert.GeluIdeal.Gen

/-- One half, as the programs write it. -/
def half : EReal := Ideal.ofBits FTy.f32 1056964608#32

/-- The scale of the tangent's argument. -/
def scale : EReal := Ideal.ofBits FTy.f32 1061962282#32

/-- The weight of the cube in it. -/
def weight : EReal := Ideal.ofBits FTy.f32 1027024659#32

def three : EReal := Ideal.ofBits FTy.f32 1077936128#32

theorem three_eq : three = ((3 : ℝ) : EReal) := by
  unfold three
  simp [Ideal.ofBits, Ideal.ieee, -EReal.coe_mul]
  norm_num

/-- Adding a value to itself twice over is tripling it, also at the infinities. -/
theorem tripled (x : EReal) : x + x + x = x * three := by
  rw [three_eq]
  induction x with
  | bot => rw [EReal.bot_mul_coe_of_pos (by norm_num)]; rfl
  | top => rw [EReal.top_mul_coe_of_pos (by norm_num)]; rfl
  | coe a => norm_cast; ring_nf

/-- The hyperbolic tangent in the gate. -/
def bend (v : EReal) : EReal := Ideal.tanh (scale * (v + weight * (v * v * v)))

/-- What comes back to the tangent's argument, times its scale. -/
def inward (v d : EReal) : EReal := scale * (half * (v * d) * ((1 + bend v) * (1 - bend v)))

/-- What the gate's argument is sent back. -/
def back (v d : EReal) : EReal := d * (half * (1 + bend v)) + inward v d + weight * inward v d * (three * (v * v))

/-- The call sends the cube's share back in three parts, one for each factor. -/
theorem back_parts (v d a : EReal) (h : a = scale * (half * v * d * ((1 + bend v) * (1 - bend v)))) :
    a + v * v * (weight * a) + v * (weight * a * v) + weight * a * v * v + half * (d * (1 + bend v)) = back v d := by
  have e : a = inward v d := by rw [h, inward, mul_assoc half v d]
  unfold back
  rw [← e]
  generalize 1 + bend v = u
  generalize weight * a = w
  have e1 : v * v * w = w * (v * v) := by ac_rfl
  have e2 : v * (w * v) = w * (v * v) := by ac_rfl
  have e3 : w * v * v = w * (v * v) := by ac_rfl
  have e4 : w * (three * (v * v)) = w * (v * v) * three := by ac_rfl
  have e5 : half * (d * u) = d * (half * u) := by ac_rfl
  rw [e1, e2, e3, e4, e5, ← tripled]
  ac_rfl

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 6] ∧ win0_2.index t = ![0, 0]
    ∧ win0_3.index t = ![t.val, 0] ∧ win0_4.index t = ![t.val, 0] ∧ win0_5.index t = ![t.val, 0] ∧ win0_6.index t = ![0, 0] := by
  decide +kernel

section blocks

variable (t : Fin cfg0.N) (r : Fin 256) (k : Fin 512)

theorem blk_y : iblk m c 0 t (ix2 r k) = V m c main_arg0 (ix2 (col height t r) k) := by
  blk_ext [iblk, index t]

theorem blk_u : iblk m c 1 t (ix2 r k) = V m c main_arg1 (ix2 (col height t r) ⟨3072 + k.val, by omega⟩) := by
  blk_ext [iblk, index t]

theorem blk_g : iblk m c 2 t (ix2 0 k) = V m c main_arg2 (ix2 0 k) := by
  blk_ext [iblk, index t]

theorem blk_d : iblk m c 3 t (ix2 r k) = V m c main_arg3 (ix2 (col height t r) k) := by
  blk_ext [iblk, index t]

theorem emb_y : (win0_4.blk t).view.emb (ix2 r k) = ix2 (col height t r) k := by
  blk_ext [index t]

theorem emb_u : (win0_5.blk t).view.emb (ix2 r k) = ix2 (col height t r) k := by
  blk_ext [index t]

theorem emb_g : (win0_6.blk t).view.emb (ix2 0 k) = ix2 0 k := by
  blk_ext [index t]

/-- The skip connection's sum. -/
def skip (y g u : EReal) : EReal := y + g * u

/-- What a row of the inputs is sent back, weighted by the connection's scale. -/
def weighted (y g u d : EReal) : EReal := g * back (skip y g u) d

/-- What one entry sends back to that scale. -/
def toScale (y g u d : EReal) : EReal := back (skip y g u) d * u

theorem pay_back (y : Mat 256 512) (u : Mat 256 512) (g : Mat 1 512) (d : Mat 256 512) : k0_pay6 (F := Ideal) y u g d (ix2 r k)
    = back (skip (y (ix2 r k)) (g (ix2 0 k)) (u (ix2 r k))) (d (ix2 r k)) := by
  rw [← back_parts _ _ _ rfl]
  pointwise [k0_pay6, k0_pay5]
  rfl

/-- What a point leaves in the block for the sequence's results. -/
theorem out_y : (outsAt0 m c t.val t.isLt).1 (ix2 r k)
    = back (skip (iblk m c 0 t (ix2 r k)) (iblk m c 2 t (ix2 0 k)) (iblk m c 1 t (ix2 r k))) (iblk m c 3 t (ix2 r k)) := by
  refine Eq.trans ?_ (pay_back r k _ _ _ _)
  by_cases h : t.val % 8 = 0
  · rw [outsAt0_A m c t h]
    unfold out0_A_4
    rw [View.read_writes_junk_eq_canon]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S256x512) hz2, View.ld_unit_zero (S := S1x512) hz2]
    pointwise [k0_pay2]
  · rw [outsAt0_B m c t h]
    unfold out0_B_4
    rw [View.read_writes_junk_eq_canon]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S256x512) hz2, View.ld_unit_zero (S := S1x512) hz2]
    pointwise [k0_pay2]

theorem pay_weighted (y : Mat 256 512) (u : Mat 256 512) (g : Mat 1 512) (d : Mat 256 512) :
    k0_pay1 (F := Ideal) g (k0_pay6 (F := Ideal) y u g d) (ix2 r k)
      = weighted (y (ix2 r k)) (g (ix2 0 k)) (u (ix2 r k)) (d (ix2 r k)) := by
  unfold weighted
  rw [← pay_back]
  pointwise [k0_pay1]

/-- In the block for the inputs' rows. -/
theorem out_u : (outsAt0 m c t.val t.isLt).2.1 (ix2 r k)
    = weighted (iblk m c 0 t (ix2 r k)) (iblk m c 2 t (ix2 0 k)) (iblk m c 1 t (ix2 r k)) (iblk m c 3 t (ix2 r k)) := by
  by_cases h : t.val % 8 = 0
  · rw [outsAt0_A m c t h]
    unfold out0_A_5
    rw [View.read_writes_junk_eq_canon]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S256x512) hz2, View.ld_unit_zero (S := S1x512) hz2]
    exact pay_weighted r k _ _ _ _
  · rw [outsAt0_B m c t h]
    unfold out0_B_5
    rw [View.read_writes_junk_eq_canon]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S256x512) hz2, View.ld_unit_zero (S := S1x512) hz2]
    exact pay_weighted r k _ _ _ _

/-- What a block's rows send back to the connection's scale. -/
def part : EReal := ∑ r : Fin 256, toScale (iblk m c 0 t (ix2 r k)) (iblk m c 2 t (ix2 0 k)) (iblk m c 1 t (ix2 r k)) (iblk m c 3 t (ix2 r k))

theorem pay_part (y : Mat 256 512) (u : Mat 256 512) (g : Mat 1 512) (d : Mat 256 512) (s : Mat 1 512) :
    k0_pay4 (F := Ideal) (k0_pay5 (F := Ideal) u) (k0_pay6 (F := Ideal) y u g d) s (ix2 0 k)
      = s (ix2 0 k) + ∑ r : Fin 256, toScale (y (ix2 r k)) (g (ix2 0 k)) (u (ix2 r k)) (d (ix2 r k)) := by
  unfold toScale
  simp only [← pay_back]
  pointwise [k0_pay4, k0_pay5]

/-- The first point starts the scale's sum. -/
theorem out_g_first (h : t.val % 8 = 0) : (outsAt0 m c t.val t.isLt).2.2 (ix2 0 k) = part m c t k := by
  rw [outsAt0_A m c t h]
  unfold out0_A_6
  rw [View.read_writes_junk_eq_canon]
  unfold kernelRun0_A
  dsimp only
  sl_unfold_words
  rw [View.canon_cons_unit_zero (S := S1x512) hz2, View.readCov_unit_zero (S := S1x512) _ hz2]
  simp only [View.readAt_eq_ld, (hs0_0 t).read_unread, (hs0_1 t).read_unread, (hs0_2 t).read_unread, (hs0_3 t).read_unread,
    View.ld_unit_zero (S := S256x512) hz2, View.ld_unit_zero (S := S1x512) hz2]
  refine (pay_part k _ _ _ _ _).trans ?_
  pointwise [k0_pay3]
  rfl

/-- A later point adds to it. -/
theorem out_g_next (h : ¬t.val % 8 = 0) : (outsAt0 m c t.val t.isLt).2.2 (ix2 0 k)
    = ((outsAt0 m c (t.val - 1) (Nat.lt_of_le_of_lt (Nat.sub_le _ _) t.isLt)).2.2 (ix2 0 k) + part m c t k : EReal) := by
  rw [outsAt0_B m c t h]
  unfold out0_B_6
  rw [View.read_writes_junk_eq_canon]
  unfold kernelRun0_B
  dsimp only
  sl_unfold_words
  rw [View.canon_cons_unit_zero (S := S1x512) hz2]
  simp only [View.readAt_eq_ld, (hs0_0 t).read_unread, (hs0_1 t).read_unread, (hs0_2 t).read_unread, (hs0_3 t).read_unread,
    (hs0_6 t).read_unread, View.ld_unit_zero (S := S256x512) hz2, View.ld_unit_zero (S := S1x512) hz2]
  exact pay_part k _ _ _ _ _

end blocks

section reference

open Cert.GeluRefIdeal.Read

variable (y : Mat 2048 512) (z : Mat 2048 4096) (g : Mat 1 512) (d : Mat 2048 512) (r : Fin 2048) (k : Fin 512)

theorem ref_back : val_main_v37 (F := Ideal) y z g d (ix2 r k)
    = back (skip (y (ix2 r k)) (g (ix2 0 k)) (z (ix2 r ⟨3072 + k.val, by omega⟩))) (d (ix2 r k)) := by
  pointwise [val_main_v37, val_main_v36, val_main_v35, val_main_v34, val_main_v33, val_main_v32, val_main_v31, val_main_v30, val_main_v29,
    val_main_v28, val_main_v27, val_main_v26, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6,
    val_main_cst_7, val_main_cst_8]
  rfl

theorem ref_y : val_main_v43 (F := Ideal) y z g d (ix2 r k)
    = back (skip (y (ix2 r k)) (g (ix2 0 k)) (z (ix2 r ⟨3072 + k.val, by omega⟩))) (d (ix2 r k)) := by
  pointwise [val_main_v43]
  exact ref_back y z g d r k

theorem ref_u : val_main_v39 (F := Ideal) y z g d (ix2 r k)
    = weighted (y (ix2 r k)) (g (ix2 0 k)) (z (ix2 r ⟨3072 + k.val, by omega⟩)) (d (ix2 r k)) := by
  pointwise [val_main_v39, val_main_v38]
  rw [ref_back]
  rfl

theorem ref_g : val_main_v42 (F := Ideal) y z g d (ix2 0 k)
    = ∑ r : Fin 2048, toScale (y (ix2 r k)) (g (ix2 0 k)) (z (ix2 r ⟨3072 + k.val, by omega⟩)) (d (ix2 r k)) := by
  pointwise [val_main_v42, val_main_v41, val_main_v40, val_main_v1, val_main_v0, val_main_cst_9]
  exact Finset.sum_congr rfl fun r _ => by rw [ref_back]; rfl

end reference

open Cert.GeluRefIdeal.Read

/-- What the sequence's results are sent back, after the call. -/
theorem arr_y : (dats m 0 c).arrAt 4 cfg0.N
    = val_main_v43 (F := Ideal) (V m c main_arg0) (V m c main_arg1) (V m c main_arg2) (V m c main_arg3) := by
  refine (dats m 0 c).arrAt_eq_of_covers 4 _ (by decide +kernel) fun t hf y => ?_
  blk_simp
  rw [after0_4]
  obtain ⟨r, k, rfl⟩ : ∃ (r : Fin 256) (k : Fin 512), y = ix2 r k := ⟨y 0, y 1, by idx_vars y⟩
  rw [emb_y]
  exact (out_y m c t r k).trans (by rw [blk_y, blk_u, blk_g, blk_d]; exact (ref_y _ _ _ _ _ k).symm)

/-- What the inputs' rows are sent back. -/
theorem arr_u : (dats m 0 c).arrAt 5 cfg0.N
    = val_main_v39 (F := Ideal) (V m c main_arg0) (V m c main_arg1) (V m c main_arg2) (V m c main_arg3) := by
  refine (dats m 0 c).arrAt_eq_of_covers 5 _ (by decide +kernel) fun t hf y => ?_
  blk_simp
  rw [after0_5]
  obtain ⟨r, k, rfl⟩ : ∃ (r : Fin 256) (k : Fin 512), y = ix2 r k := ⟨y 0, y 1, by idx_vars y⟩
  rw [emb_u]
  exact (out_u m c t r k).trans (by rw [blk_y, blk_u, blk_g, blk_d]; exact (ref_u _ _ _ _ _ k).symm)

/-- What the connection's scale is sent back: the sum over all rows, gathered block by block. -/
theorem arr_g : (dats m 0 c).arrAt 6 cfg0.N
    = val_main_v42 (F := Ideal) (V m c main_arg0) (V m c main_arg1) (V m c main_arg2) (V m c main_arg3) := by
  refine (dats m 0 c).arrAt_eq_of_covers 6 _ (by decide +kernel) fun t hf y => ?_
  blk_simp
  rw [after0_6]
  obtain ⟨s, k, rfl⟩ : ∃ (s : Fin 1) (k : Fin 512), y = ix2 s k := ⟨y 0, y 1, by idx_vars y⟩
  obtain rfl : s = 0 := Subsingleton.elim _ _
  have h7 : t.val = 7 := (by decide +kernel : ∀ t : Fin cfg0.N, (cfg0.win 6).flush t = true → t.val = 7) t hf
  obtain rfl : t = ⟨7, by decide⟩ := Fin.ext h7
  rw [emb_g]
  refine (summed (L := 6) (fun s => part m c s k) (fun n h => (outsAt0 m c n h).2.2 (ix2 0 k)) (fun h => out_g_first m c ⟨0, h⟩ k rfl)
    (fun n h => out_g_next m c ⟨n + 1, h⟩ k (by dsimp only; omega)) (by decide)).trans ?_
  have e : ∀ s : Fin cfg0.N, part m c s k = _ := fun s => Finset.sum_congr rfl fun r _ => by rw [blk_y, blk_u, blk_g, blk_d]
  exact (Finset.sum_congr rfl fun s _ => e s).trans ((ref_g _ _ _ _ k).trans (sum_cols height _)).symm

theorem frame_reference : Cert.quiescent_GeluRefIdeal (hGeluRefIdeal := Cert.GeluRefIdeal.Gen.facts) := fun m ρ _ =>
  (θ_run Cert.GeluRefIdeal.defs _ _).mono (fun r h => ⟨fun c => (h c).2.2.2, sem_eq_zero_of_no_sems (by decide) r.2⟩)
    (Cert.GeluRefIdeal.Value.run (F := Ideal) m ρ)

/-- The call and the plain gradient end with equal arrays. -/
theorem algebraic : Cert.algebraic_GeluIdeal_GeluRefIdeal (hGeluIdeal := Cert.GeluIdeal.Gen.facts)
    (hGeluRefIdeal := Cert.GeluRefIdeal.Gen.facts) := by
  intro m ρ m' ρ' _ hag
  refine ⟨_, _, _, Cert.GeluIdeal.Value.run_blocks m ρ, (θ_run Cert.GeluRefIdeal.defs _ _).mono (fun r h c =>
    ⟨(h c).1.trans ?_, (h c).2.1.trans ?_, (h c).2.2.1.trans ?_, (h c).2.2.2⟩)
    (Cert.GeluRefIdeal.Value.run (F := Ideal) m' ρ')⟩ <;> obtain ⟨e0, e1, e2, e3⟩ := hag c
  · rw [arr_y m c, val_main_v43_eq, e0, e1, e2, e3, V_main_arg0, V_main_arg1, V_main_arg2, V_main_arg3]
  · rw [arr_u m c, val_main_v39_eq, e0, e1, e2, e3, V_main_arg0, V_main_arg1, V_main_arg2, V_main_arg3]
  · rw [arr_g m c, val_main_v42_eq, e0, e1, e2, e3, V_main_arg0, V_main_arg1, V_main_arg2, V_main_arg3]

end Cert.GeluTie

end
-- ==== Proof.StateParams.lean ====
module

public import proofs.«01_k».proof.Proof.Product
public import proofs.«01_k».proof.Proof.Gen.BbarIdeal.Value
public import proofs.«01_k».proof.Proof.Gen.BbarRefIdeal.Run
public import proofs.«01_k».proof.Proof.Gen.BbarRefIdeal.Read
public import proofs.«01_k».proof.Proof.Gen.PrepIdeal.Value
public import proofs.«01_k».proof.Proof.Gen.PrepRefIdeal.Run
public import proofs.«01_k».proof.Proof.Gen.PrepRefIdeal.Read
public import proofs.«01_k».proof.Defs

/-! The gradients of the state space's parameters: of the complex factor that scales its input, and of the step that turns the
continuous parameters into the recurrence's. -/

@[expose] public section

set_option maxRecDepth 16384

noncomputable section

open Idealize.ShloMosaic Idealize.ShloMosaic.TcCoe Idealize.SL.Sem Cert.Product

namespace Cert.BbarTie

open Cert.BbarIdeal Cert.BbarIdeal.Gen

/-- What the real part of a complex product's factor is sent back, the other factor being `c0 + i c1`. -/
def toReal (c0 c1 d0 d1 : EReal) : EReal := c1 * d1 + c0 * d0

/-- What the imaginary part is sent back. -/
def toImag (c0 c1 d0 d1 : EReal) : EReal := c0 * d1 + c1 * (-d0)

/-- What the real part of a factor common to a row is sent back. -/
def toRealOfRow (b0 b1 d0 d1 : Fin 16 → EReal) : EReal := ∑ j, d1 j * b1 j + ∑ j, d0 j * b0 j

/-- What its imaginary part is sent back. -/
def toImagOfRow (b0 b1 d0 d1 : Fin 16 → EReal) : EReal := ∑ j, d1 j * b0 j + ∑ j, (-d0 j) * b1 j

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by
  decide +kernel

section blocks

variable (t : Fin cfg0.N) (r : Fin 256) (k : Fin 16)

theorem blk_br : iblk m c 0 t (ix2 r k) = V m c main_arg0 (ix2 (col height t r) k) := by
  blk_ext [iblk, index t]

theorem blk_bi : iblk m c 1 t (ix2 r k) = V m c main_arg1 (ix2 (col height t r) k) := by
  blk_ext [iblk, index t]

theorem blk_cr : iblk m c 2 t (ix2 r 0) = V m c main_arg2 (ix2 (col height t r) 0) := by
  blk_ext [iblk, index t]

theorem blk_ci : iblk m c 3 t (ix2 r 0) = V m c main_arg3 (ix2 (col height t r) 0) := by
  blk_ext [iblk, index t]

theorem blk_dr : iblk m c 4 t (ix2 r k) = V m c main_arg4 (ix2 (col height t r) k) := by
  blk_ext [iblk, index t]

theorem blk_di : iblk m c 5 t (ix2 r k) = V m c main_arg5 (ix2 (col height t r) k) := by
  blk_ext [iblk, index t]

theorem emb_br : (win0_6.blk t).view.emb (ix2 r k) = ix2 (col height t r) k := by
  blk_ext [index t]

theorem emb_bi : (win0_7.blk t).view.emb (ix2 r k) = ix2 (col height t r) k := by
  blk_ext [index t]

theorem emb_cr : (win0_8.blk t).view.emb (ix2 r 0) = ix2 (col height t r) 0 := by
  blk_ext [index t]

theorem emb_ci : (win0_9.blk t).view.emb (ix2 r 0) = ix2 (col height t r) 0 := by
  blk_ext [index t]

end blocks

section block

variable (b0 b1 : Mat 256 16) (c0 c1 : Mat 256 1) (d0 d1 : Mat 256 16) (r : Fin 256) (k : Fin 16)

theorem out_br : out0_6 (F := Ideal) b0 b1 c0 c1 d0 d1 (ix2 r k) = toReal (c0 (ix2 r 0)) (c1 (ix2 r 0)) (d0 (ix2 r k)) (d1 (ix2 r k)) := by
  unfold out0_6
  rw [View.canon_unit_zero hz2]
  simp only [View.ld_unit_zero (S := S256x16) hz2, View.ld_unit_zero (S := S256x1) hz2]
  pointwise [k0_pay7, k0_pay2, k0_pay3]
  rfl

theorem out_bi : out0_7 (F := Ideal) b0 b1 c0 c1 d0 d1 (ix2 r k) = toImag (c0 (ix2 r 0)) (c1 (ix2 r 0)) (d0 (ix2 r k)) (d1 (ix2 r k)) := by
  unfold out0_7
  rw [View.canon_unit_zero hz2]
  simp only [View.ld_unit_zero (S := S256x16) hz2, View.ld_unit_zero (S := S256x1) hz2]
  pointwise [k0_pay5, k0_pay1, k0_pay4]
  simp only [zero_sub]
  rfl

theorem out_cr : out0_8 (F := Ideal) b0 b1 c0 c1 d0 d1 (ix2 r 0)
    = toRealOfRow (fun j => b0 (ix2 r j)) (fun j => b1 (ix2 r j)) (fun j => d0 (ix2 r j)) (fun j => d1 (ix2 r j)) := by
  unfold out0_8
  rw [View.canon_unit_zero hz2]
  simp only [View.ld_unit_zero (S := S256x16) hz2]
  pointwise [k0_pay8, k0_pay1, k0_pay3]
  rfl

theorem out_ci : out0_9 (F := Ideal) b0 b1 c0 c1 d0 d1 (ix2 r 0)
    = toImagOfRow (fun j => b0 (ix2 r j)) (fun j => b1 (ix2 r j)) (fun j => d0 (ix2 r j)) (fun j => d1 (ix2 r j)) := by
  unfold out0_9
  rw [View.canon_unit_zero hz2]
  simp only [View.ld_unit_zero (S := S256x16) hz2]
  pointwise [k0_pay6, k0_pay2, k0_pay4]
  simp only [zero_sub]
  rfl

end block

section reference

open Cert.BbarRefIdeal.Read

variable (b0 b1 : Mat 2048 16) (c0 c1 : Mat 2048 1) (d0 d1 : Mat 2048 16) (r : Fin 2048) (k : Fin 16)

theorem ref_br : val_main_v33 (F := Ideal) c0 c1 d0 d1 (ix2 r k) = toReal (c0 (ix2 r 0)) (c1 (ix2 r 0)) (d0 (ix2 r k)) (d1 (ix2 r k)) := by
  pointwise [val_main_v33, val_main_v32, val_main_v31, val_main_v22, val_main_v13, val_main_v12, val_main_v11]
  rfl

theorem ref_bi : val_main_v26 (F := Ideal) c0 c1 d0 d1 (ix2 r k) = toImag (c0 (ix2 r 0)) (c1 (ix2 r 0)) (d0 (ix2 r k)) (d1 (ix2 r k)) := by
  pointwise [val_main_v26, val_main_v25, val_main_v24, val_main_v23, val_main_v18, val_main_v17, val_main_v10]
  rfl

theorem ref_cr : val_main_v37 (F := Ideal) b0 b1 d0 d1 (ix2 r 0)
    = toRealOfRow (fun j => b0 (ix2 r j)) (fun j => b1 (ix2 r j)) (fun j => d0 (ix2 r j)) (fun j => d1 (ix2 r j)) := by
  pointwise [val_main_v37, val_main_v36, val_main_v35, val_main_v34, val_main_v22, val_main_v21, val_main_v20, val_main_v19, val_main_v10,
    val_main_cst_0, val_main_cst_2]
  rfl

theorem ref_ci : val_main_v30 (F := Ideal) b0 b1 d0 d1 (ix2 r 0)
    = toImagOfRow (fun j => b0 (ix2 r j)) (fun j => b1 (ix2 r j)) (fun j => d0 (ix2 r j)) (fun j => d1 (ix2 r j)) := by
  pointwise [val_main_v30, val_main_v29, val_main_v28, val_main_v27, val_main_v23, val_main_v16, val_main_v15, val_main_v14, val_main_v11,
    val_main_cst, val_main_cst_1]
  rfl

end reference

open Cert.BbarRefIdeal.Read

theorem arr_br : (dats m 0 c).arrAt 6 cfg0.N
    = val_main_v33 (F := Ideal) (V m c main_arg2) (V m c main_arg3) (V m c main_arg4) (V m c main_arg5) := by
  refine (dats m 0 c).arrAt_eq_of_covers 6 _ (by decide +kernel) fun t hf y => ?_
  blk_simp
  rw [after0_6]
  obtain ⟨r, k, rfl⟩ : ∃ (r : Fin 256) (k : Fin 16), y = ix2 r k := ⟨y 0, y 1, by idx_vars y⟩
  rw [emb_br]
  exact (out_br _ _ _ _ _ _ r k).trans (by rw [blk_cr, blk_ci, blk_dr, blk_di]; exact (ref_br _ _ _ _ _ k).symm)

theorem arr_bi : (dats m 0 c).arrAt 7 cfg0.N
    = val_main_v26 (F := Ideal) (V m c main_arg2) (V m c main_arg3) (V m c main_arg4) (V m c main_arg5) := by
  refine (dats m 0 c).arrAt_eq_of_covers 7 _ (by decide +kernel) fun t hf y => ?_
  blk_simp
  rw [after0_7]
  obtain ⟨r, k, rfl⟩ : ∃ (r : Fin 256) (k : Fin 16), y = ix2 r k := ⟨y 0, y 1, by idx_vars y⟩
  rw [emb_bi]
  exact (out_bi _ _ _ _ _ _ r k).trans (by rw [blk_cr, blk_ci, blk_dr, blk_di]; exact (ref_bi _ _ _ _ _ k).symm)

theorem arr_cr : (dats m 0 c).arrAt 8 cfg0.N
    = val_main_v37 (F := Ideal) (V m c main_arg0) (V m c main_arg1) (V m c main_arg4) (V m c main_arg5) := by
  refine (dats m 0 c).arrAt_eq_of_covers 8 _ (by decide +kernel) fun t hf y => ?_
  blk_simp
  rw [after0_8]
  obtain ⟨r, s, rfl⟩ : ∃ (r : Fin 256) (s : Fin 1), y = ix2 r s := ⟨y 0, y 1, by idx_vars y⟩
  obtain rfl : s = 0 := Subsingleton.elim _ _
  rw [emb_cr]
  exact (out_cr _ _ _ _ _ _ r).trans (by simp only [blk_br, blk_bi, blk_dr, blk_di]; exact (ref_cr _ _ _ _ _).symm)

theorem arr_ci : (dats m 0 c).arrAt 9 cfg0.N
    = val_main_v30 (F := Ideal) (V m c main_arg0) (V m c main_arg1) (V m c main_arg4) (V m c main_arg5) := by
  refine (dats m 0 c).arrAt_eq_of_covers 9 _ (by decide +kernel) fun t hf y => ?_
  blk_simp
  rw [after0_9]
  obtain ⟨r, s, rfl⟩ : ∃ (r : Fin 256) (s : Fin 1), y = ix2 r s := ⟨y 0, y 1, by idx_vars y⟩
  obtain rfl : s = 0 := Subsingleton.elim _ _
  rw [emb_ci]
  exact (out_ci _ _ _ _ _ _ r).trans (by simp only [blk_br, blk_bi, blk_dr, blk_di]; exact (ref_ci _ _ _ _ _).symm)

theorem frame_reference : Cert.quiescent_BbarRefIdeal (hBbarRefIdeal := Cert.BbarRefIdeal.Gen.facts) := fun m ρ _ =>
  (θ_run Cert.BbarRefIdeal.defs _ _).mono (fun r h => ⟨fun c => (h c).2.2.2.2, sem_eq_zero_of_no_sems (by decide) r.2⟩)
    (Cert.BbarRefIdeal.Value.run (F := Ideal) m ρ)

/-- The call and the plain gradient end with equal arrays. -/
theorem algebraic : Cert.algebraic_BbarIdeal_BbarRefIdeal (hBbarIdeal := Cert.BbarIdeal.Gen.facts)
    (hBbarRefIdeal := Cert.BbarRefIdeal.Gen.facts) := by
  intro m ρ m' ρ' _ hag
  refine ⟨_, _, _, _, Cert.BbarIdeal.Value.run_blocks m ρ, (θ_run Cert.BbarRefIdeal.defs _ _).mono (fun r h c =>
    ⟨(h c).1.trans ?_, (h c).2.1.trans ?_, (h c).2.2.1.trans ?_, (h c).2.2.2.1.trans ?_, (h c).2.2.2.2⟩)
    (Cert.BbarRefIdeal.Value.run (F := Ideal) m' ρ')⟩ <;> obtain ⟨e0, e1, e2, e3, e4, e5⟩ := hag c
  · rw [arr_br m c, val_main_v33_eq, e2, e3, e4, e5, V_main_arg2, V_main_arg3, V_main_arg4, V_main_arg5]
  · rw [arr_bi m c, val_main_v26_eq, e2, e3, e4, e5, V_main_arg2, V_main_arg3, V_main_arg4, V_main_arg5]
  · rw [arr_cr m c, val_main_v37_eq, e0, e1, e4, e5, V_main_arg0, V_main_arg1, V_main_arg4, V_main_arg5]
  · rw [arr_ci m c, val_main_v30_eq, e0, e1, e4, e5, V_main_arg0, V_main_arg1, V_main_arg4, V_main_arg5]

end Cert.BbarTie

namespace Cert.PrepTie

open Cert.PrepIdeal Cert.PrepIdeal.Gen

variable (m : (ℓ : Loc nD τ sig) → Buf (Elt Ideal) ℓ) (c : Dev nD)

theorem index : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] := by
  decide +kernel

section blocks

variable (t : Fin cfg0.N)

/-! The one block of each array is the array. -/

theorem blk_ar : iblk m c 0 t = V m c main_arg0 := by
  funext y
  obtain ⟨r, k, rfl⟩ : ∃ (r : Fin 32) (k : Fin 64), y = ix2 r k := ⟨y 0, y 1, by idx_vars y⟩
  blk_ext [iblk, index t]

theorem blk_ai : iblk m c 1 t = V m c main_arg1 := by
  funext y
  obtain ⟨r, k, rfl⟩ : ∃ (r : Fin 32) (k : Fin 64), y = ix2 r k := ⟨y 0, y 1, by idx_vars y⟩
  blk_ext [iblk, index t]

theorem blk_dt : iblk m c 2 t = V m c main_arg2 := by
  funext y
  obtain ⟨r, k, rfl⟩ : ∃ (r : Fin 32) (k : Fin 1), y = ix2 r k := ⟨y 0, y 1, by idx_vars y⟩
  blk_ext [iblk, index t]

theorem blk_d0 : iblk m c 3 t = V m c main_arg3 := by
  funext y
  obtain ⟨r, k, rfl⟩ : ∃ (r : Fin 32) (k : Fin 64), y = ix2 r k := ⟨y 0, y 1, by idx_vars y⟩
  blk_ext [iblk, index t]

theorem blk_d1 : iblk m c 4 t = V m c main_arg4 := by
  funext y
  obtain ⟨r, k, rfl⟩ : ∃ (r : Fin 32) (k : Fin 64), y = ix2 r k := ⟨y 0, y 1, by idx_vars y⟩
  blk_ext [iblk, index t]

theorem blk_d2 : iblk m c 5 t = V m c main_arg5 := by
  funext y
  obtain ⟨r, k, rfl⟩ : ∃ (r : Fin 32) (k : Fin 64), y = ix2 r k := ⟨y 0, y 1, by idx_vars y⟩
  blk_ext [iblk, index t]

theorem blk_d3 : iblk m c 6 t = V m c main_arg6 := by
  funext y
  obtain ⟨r, k, rfl⟩ : ∃ (r : Fin 32) (k : Fin 64), y = ix2 r k := ⟨y 0, y 1, by idx_vars y⟩
  blk_ext [iblk, index t]

theorem emb_ar (r : Fin 32) (k : Fin 64) : (win0_7.blk t).view.emb (ix2 r k) = ix2 r k := by
  blk_ext [index t]

theorem emb_ai (r : Fin 32) (k : Fin 64) : (win0_8.blk t).view.emb (ix2 r k) = ix2 r k := by
  blk_ext [index t]

theorem emb_dt (r : Fin 32) : (win0_9.blk t).view.emb (ix2 r 0) = ix2 r 0 := by
  blk_ext [index t]

end blocks

open Cert.PrepRefIdeal.Read

section entries

variable (x0 x1 : Mat 32 64) (x2 : Mat 32 1) (x3 x4 x5 x6 : Mat 32 64) (r : Fin 32) (k : Fin 64)

/-! The call and the plain gradient take the same steps, but that the call negates by taking from zero. -/

theorem out_ar : out0_7 (F := Ideal) x0 x1 x2 x3 x4 x5 x6 (ix2 r k) = val_main_v88 (F := Ideal) x0 x1 x2 x3 x4 x5 x6 (ix2 r k) := by
  unfold_out out0_7
  rw [View.canon_unit_zero hz2]
  simp only [View.ld_unit_zero (S := S32x64) hz2, View.ld_unit_zero (S := S32x1) hz2]
  pointwise [k0_pay1, k0_pay2, k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28, k0_pay29,
    k0_pay30, val_main_v0, val_main_v1, val_main_v2, val_main_v3, val_main_v4, val_main_v5, val_main_v6, val_main_v7, val_main_v8, val_main_v9,
    val_main_v10, val_main_v11, val_main_v12, val_main_v13, val_main_cst, val_main_v14, val_main_v15, val_main_v16, val_main_v17, val_main_v18,
    val_main_cst_0, val_main_v19, val_main_v20, val_main_v21, val_main_cst_1, val_main_v22, val_main_v23, val_main_v24, val_main_v25,
    val_main_v26, val_main_v27, val_main_v28, val_main_v29, val_main_v30, val_main_v31, val_main_v32, val_main_v33, val_main_v34, val_main_v35,
    val_main_v36, val_main_v37, val_main_v38, val_main_v39, val_main_v40, val_main_v41, val_main_v42, val_main_v43, val_main_v44, val_main_v45,
    val_main_v46, val_main_v47, val_main_v48, val_main_v49, val_main_v50, val_main_v51, val_main_v52, val_main_cst_2, val_main_v53,
    val_main_v54, val_main_v55, val_main_v56, val_main_v57, val_main_v58, val_main_v59, val_main_v60, val_main_v61, val_main_v62, val_main_v63,
    val_main_v64, val_main_v65, val_main_v66, val_main_v67, val_main_v68, val_main_v69, val_main_v70, val_main_cst_3, val_main_v71,
    val_main_v72, val_main_v73, val_main_v74, val_main_v75, val_main_v76, val_main_v77, val_main_v78, val_main_v79, val_main_v80, val_main_v81,
    val_main_cst_4, val_main_v82, val_main_v83, val_main_v84, val_main_v85, val_main_v86, val_main_v87, val_main_v88, val_main_v89,
    val_main_cst_5, val_main_v90, val_main_v91, val_main_v92, val_main_v93]
  simp only [zero_sub]

theorem out_ai : out0_8 (F := Ideal) x0 x1 x2 x3 x4 x5 x6 (ix2 r k) = val_main_v80 (F := Ideal) x0 x1 x2 x3 x4 x5 x6 (ix2 r k) := by
  unfold_out out0_8
  rw [View.canon_unit_zero hz2]
  simp only [View.ld_unit_zero (S := S32x64) hz2, View.ld_unit_zero (S := S32x1) hz2]
  pointwise [k0_pay1, k0_pay2, k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28, k0_pay29,
    k0_pay30, val_main_v0, val_main_v1, val_main_v2, val_main_v3, val_main_v4, val_main_v5, val_main_v6, val_main_v7, val_main_v8, val_main_v9,
    val_main_v10, val_main_v11, val_main_v12, val_main_v13, val_main_cst, val_main_v14, val_main_v15, val_main_v16, val_main_v17, val_main_v18,
    val_main_cst_0, val_main_v19, val_main_v20, val_main_v21, val_main_cst_1, val_main_v22, val_main_v23, val_main_v24, val_main_v25,
    val_main_v26, val_main_v27, val_main_v28, val_main_v29, val_main_v30, val_main_v31, val_main_v32, val_main_v33, val_main_v34, val_main_v35,
    val_main_v36, val_main_v37, val_main_v38, val_main_v39, val_main_v40, val_main_v41, val_main_v42, val_main_v43, val_main_v44, val_main_v45,
    val_main_v46, val_main_v47, val_main_v48, val_main_v49, val_main_v50, val_main_v51, val_main_v52, val_main_cst_2, val_main_v53,
    val_main_v54, val_main_v55, val_main_v56, val_main_v57, val_main_v58, val_main_v59, val_main_v60, val_main_v61, val_main_v62, val_main_v63,
    val_main_v64, val_main_v65, val_main_v66, val_main_v67, val_main_v68, val_main_v69, val_main_v70, val_main_cst_3, val_main_v71,
    val_main_v72, val_main_v73, val_main_v74, val_main_v75, val_main_v76, val_main_v77, val_main_v78, val_main_v79, val_main_v80, val_main_v81,
    val_main_cst_4, val_main_v82, val_main_v83, val_main_v84, val_main_v85, val_main_v86, val_main_v87, val_main_v88, val_main_v89,
    val_main_cst_5, val_main_v90, val_main_v91, val_main_v92, val_main_v93]
  simp only [zero_sub]

theorem out_dt : out0_9 (F := Ideal) x0 x1 x2 x3 x4 x5 x6 (ix2 r 0) = val_main_v93 (F := Ideal) x0 x1 x2 x3 x4 x5 x6 (ix2 r 0) := by
  unfold_out out0_9
  rw [View.canon_unit_zero hz2]
  simp only [View.ld_unit_zero (S := S32x64) hz2, View.ld_unit_zero (S := S32x1) hz2]
  pointwise [k0_pay1, k0_pay2, k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28, k0_pay29,
    k0_pay30, val_main_v0, val_main_v1, val_main_v2, val_main_v3, val_main_v4, val_main_v5, val_main_v6, val_main_v7, val_main_v8, val_main_v9,
    val_main_v10, val_main_v11, val_main_v12, val_main_v13, val_main_cst, val_main_v14, val_main_v15, val_main_v16, val_main_v17, val_main_v18,
    val_main_cst_0, val_main_v19, val_main_v20, val_main_v21, val_main_cst_1, val_main_v22, val_main_v23, val_main_v24, val_main_v25,
    val_main_v26, val_main_v27, val_main_v28, val_main_v29, val_main_v30, val_main_v31, val_main_v32, val_main_v33, val_main_v34, val_main_v35,
    val_main_v36, val_main_v37, val_main_v38, val_main_v39, val_main_v40, val_main_v41, val_main_v42, val_main_v43, val_main_v44, val_main_v45,
    val_main_v46, val_main_v47, val_main_v48, val_main_v49, val_main_v50, val_main_v51, val_main_v52, val_main_cst_2, val_main_v53,
    val_main_v54, val_main_v55, val_main_v56, val_main_v57, val_main_v58, val_main_v59, val_main_v60, val_main_v61, val_main_v62, val_main_v63,
    val_main_v64, val_main_v65, val_main_v66, val_main_v67, val_main_v68, val_main_v69, val_main_v70, val_main_cst_3, val_main_v71,
    val_main_v72, val_main_v73, val_main_v74, val_main_v75, val_main_v76, val_main_v77, val_main_v78, val_main_v79, val_main_v80, val_main_v81,
    val_main_cst_4, val_main_v82, val_main_v83, val_main_v84, val_main_v85, val_main_v86, val_main_v87, val_main_v88, val_main_v89,
    val_main_cst_5, val_main_v90, val_main_v91, val_main_v92, val_main_v93]
  simp only [zero_sub]

end entries

theorem arr_ar : (dats m 0 c).arrAt 7 cfg0.N = val_main_v88 (F := Ideal) (V m c main_arg0) (V m c main_arg1) (V m c main_arg2)
    (V m c main_arg3) (V m c main_arg4) (V m c main_arg5) (V m c main_arg6) := by
  refine (dats m 0 c).arrAt_eq_of_covers 7 _ (by decide +kernel) fun t hf y => ?_
  blk_simp
  rw [after0_7, blk_ar, blk_ai, blk_dt, blk_d0, blk_d1, blk_d2, blk_d3]
  obtain ⟨r, k, rfl⟩ : ∃ (r : Fin 32) (k : Fin 64), y = ix2 r k := ⟨y 0, y 1, by idx_vars y⟩
  rw [emb_ar]
  exact out_ar _ _ _ _ _ _ _ r k

theorem arr_ai : (dats m 0 c).arrAt 8 cfg0.N = val_main_v80 (F := Ideal) (V m c main_arg0) (V m c main_arg1) (V m c main_arg2)
    (V m c main_arg3) (V m c main_arg4) (V m c main_arg5) (V m c main_arg6) := by
  refine (dats m 0 c).arrAt_eq_of_covers 8 _ (by decide +kernel) fun t hf y => ?_
  blk_simp
  rw [after0_8, blk_ar, blk_ai, blk_dt, blk_d0, blk_d1, blk_d2, blk_d3]
  obtain ⟨r, k, rfl⟩ : ∃ (r : Fin 32) (k : Fin 64), y = ix2 r k := ⟨y 0, y 1, by idx_vars y⟩
  rw [emb_ai]
  exact out_ai _ _ _ _ _ _ _ r k

theorem arr_dt : (dats m 0 c).arrAt 9 cfg0.N = val_main_v93 (F := Ideal) (V m c main_arg0) (V m c main_arg1) (V m c main_arg2)
    (V m c main_arg3) (V m c main_arg4) (V m c main_arg5) (V m c main_arg6) := by
  refine (dats m 0 c).arrAt_eq_of_covers 9 _ (by decide +kernel) fun t hf y => ?_
  blk_simp
  rw [after0_9, blk_ar, blk_ai, blk_dt, blk_d0, blk_d1, blk_d2, blk_d3]
  obtain ⟨r, s, rfl⟩ : ∃ (r : Fin 32) (s : Fin 1), y = ix2 r s := ⟨y 0, y 1, by idx_vars y⟩
  obtain rfl : s = 0 := Subsingleton.elim _ _
  rw [emb_dt]
  exact out_dt _ _ _ _ _ _ _ r

theorem frame_reference : Cert.quiescent_PrepRefIdeal (hPrepRefIdeal := Cert.PrepRefIdeal.Gen.facts) := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

/-- The call and the plain gradient end with equal arrays. -/
theorem algebraic : Cert.algebraic_PrepIdeal_PrepRefIdeal (hPrepIdeal := Cert.PrepIdeal.Gen.facts)
    (hPrepRefIdeal := Cert.PrepRefIdeal.Gen.facts) := by
  intro m ρ m' ρ' _ hag
  refine ⟨_, _, _, Cert.PrepIdeal.Value.run_blocks m ρ, (θ_run Cert.PrepRefIdeal.defs _ _).mono (fun r h c =>
    ⟨(h c).1.trans ?_, (h c).2.1.trans ?_, (h c).2.2.1.trans ?_, (h c).2.2.2⟩)
    (Cert.PrepRefIdeal.Value.run (F := Ideal) m' ρ')⟩ <;> obtain ⟨e0, e1, e2, e3, e4, e5, e6⟩ := hag c
  · rw [arr_ar m c, val_main_v88_eq, e0, e1, e2, e3, e4, e5, e6, V_main_arg0, V_main_arg1, V_main_arg2, V_main_arg3, V_main_arg4,
      V_main_arg5, V_main_arg6]
  · rw [arr_ai m c, val_main_v80_eq, e0, e1, e2, e3, e4, e5, e6, V_main_arg0, V_main_arg1, V_main_arg2, V_main_arg3, V_main_arg4,
      V_main_arg5, V_main_arg6]
  · rw [arr_dt m c, val_main_v93_eq, e0, e1, e2, e3, e4, e5, e6, V_main_arg0, V_main_arg1, V_main_arg2, V_main_arg3, V_main_arg4,
      V_main_arg5, V_main_arg6]

end Cert.PrepTie

end
-- ==== Proof.NormsFwd.lean ====
module

public import proofs.«01_k».proof.Proof.Norms
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.MemNormIdeal.Value
public import proofs.«01_k».proof.Proof.Gen.MemNormRefIdeal.Run
public import proofs.«01_k».proof.Proof.Gen.MemNormRefIdeal.Read
public import proofs.«01_k».proof.Defs

/-! The root-mean-square norm's forward pass: the sublayers', and the memory's. -/

@[expose] public section

set_option maxRecDepth 16384

noncomputable section

open Idealize.ShloMosaic Idealize.ShloMosaic.TcCoe Idealize.SL.Sem Cert.Product Cert.Norms

namespace Cert.Norms

/-- A row's entry, normed and scaled. -/
def normed (x : Fin 1024 → EReal) (k : Fin 1024) (g : EReal) : EReal := x k * factor x * g

end Cert.Norms

namespace Cert.RmsTie

open Cert.RmsIdeal Cert.RmsIdeal.Gen Cert.RmsRefIdeal.Read

variable (m : (ℓ : Loc nD τ sig) → Buf (Elt Ideal) ℓ) (c : Dev nD)

theorem height : 4 * 512 = 2048 := rfl

theorem index : ∀ t : Fin cfg0.N, win0_0.index t = ![t.val, 0] ∧ win0_1.index t = ![0, 0] ∧ win0_2.index t = ![t.val, 0] := by
  decide +kernel

variable (t : Fin cfg0.N) (r : Fin 512) (k : Fin 1024)

theorem blk_x : iblk m c 0 t (ix2 r k) = V m c main_arg0 (ix2 (col height t r) k) := by
  blk_ext [iblk, index t]

theorem blk_g : iblk m c 1 t (ix2 0 k) = V m c main_arg1 (ix2 0 k) := by
  blk_ext [iblk, index t]

theorem emb (t : Fin cfg0.N) : (win0_2.blk t).view.emb (ix2 r k) = ix2 (col height t r) k := by
  blk_ext [index t]

theorem out_norm (x : Mat 512 1024) (g : Mat 1 1024) : out0_2 (F := Ideal) x g (ix2 r k) = normed (fun j => x (ix2 r j)) k (g (ix2 0 k)) := by
  unfold out0_2
  rw [View.canon_unit_zero hz2]
  simp only [View.ld_unit_zero (S := S512x1024) hz2, View.ld_unit_zero (S := S1x1024) hz2]
  pointwise [k0_pay1]
  rfl

theorem ref_norm (x : Mat 2048 1024) (g : Mat 1 1024) (r : Fin 2048) : val_main_v12 (F := Ideal) x g (ix2 r k)
    = normed (fun j => x (ix2 r j)) k (g (ix2 0 k)) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The normed rows, after the call. -/
theorem arr_norm : (dats m 0 c).arrAt 2 cfg0.N = val_main_v12 (F := Ideal) (V m c main_arg0) (V m c main_arg1) := by
  refine (dats m 0 c).arrAt_eq_of_covers 2 _ (by decide +kernel) fun t hf y => ?_
  blk_simp
  rw [after0_2]
  obtain ⟨r, k, rfl⟩ : ∃ (r : Fin 512) (k : Fin 1024), y = ix2 r k := ⟨y 0, y 1, by idx_vars y⟩
  rw [emb]
  exact (out_norm r k _ _).trans (by simp only [blk_x, blk_g]; exact (ref_norm k _ _ _).symm)

theorem frame_reference : Cert.quiescent_RmsRefIdeal (hRmsRefIdeal := Cert.RmsRefIdeal.Gen.facts) := fun m ρ _ =>
  (θ_run Cert.RmsRefIdeal.defs _ _).mono (fun r h => ⟨fun c => (h c).2, sem_eq_zero_of_no_sems (by decide) r.2⟩)
    (Cert.RmsRefIdeal.Value.run (F := Ideal) m ρ)

/-- The call and the plain function end with equal arrays. -/
theorem algebraic : Cert.algebraic_RmsIdeal_RmsRefIdeal (hRmsIdeal := Cert.RmsIdeal.Gen.facts)
    (hRmsRefIdeal := Cert.RmsRefIdeal.Gen.facts) := by
  intro m ρ m' ρ' _ hag
  refine ⟨_, Cert.RmsIdeal.Value.run_blocks m ρ, (θ_run Cert.RmsRefIdeal.defs _ _).mono (fun r h c =>
    ⟨(h c).1.trans ?_, (h c).2⟩) (Cert.RmsRefIdeal.Value.run (F := Ideal) m' ρ')⟩ <;>
    obtain ⟨e0, e1⟩ := hag c
  · rw [arr_norm m c, val_main_v12_eq, e0, e1, V_main_arg0, V_main_arg1]

end Cert.RmsTie

namespace Cert.MemNormTie

open Cert.MemNormIdeal Cert.MemNormIdeal.Gen Cert.MemNormRefIdeal.Read

variable (m : (ℓ : Loc nD τ sig) → Buf (Elt Ideal) ℓ) (c : Dev nD)

theorem index : ∀ t : Fin cfg0.N, win0_0.index t = ![0, 0] ∧ win0_1.index t = ![0, 0] ∧ win0_2.index t = ![0, 0] := by
  decide +kernel

variable (t : Fin cfg0.N) (r : Fin 256) (k : Fin 1024)

theorem blk_x : iblk m c 0 t (ix2 r k) = V m c main_arg0 (ix2 r k) := by
  blk_ext [iblk, index t]

theorem blk_g : iblk m c 1 t (ix2 0 k) = V m c main_arg1 (ix2 0 k) := by
  blk_ext [iblk, index t]

theorem emb (t : Fin cfg0.N) : (win0_2.blk t).view.emb (ix2 r k) = ix2 r k := by
  blk_ext [index t]

theorem out_norm (x : Mat 256 1024) (g : Mat 1 1024) : out0_2 (F := Ideal) x g (ix2 r k) = normed (fun j => x (ix2 r j)) k (g (ix2 0 k)) := by
  unfold out0_2
  rw [View.canon_unit_zero hz2]
  simp only [View.ld_unit_zero (S := S256x1024) hz2, View.ld_unit_zero (S := S1x1024) hz2]
  pointwise [k0_pay1]
  rfl

theorem ref_norm (x : Mat 256 1024) (g : Mat 1 1024) (r : Fin 256) : val_main_v12 (F := Ideal) x g (ix2 r k)
    = normed (fun j => x (ix2 r j)) k (g (ix2 0 k)) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The normed rows, after the call. -/
theorem arr_norm : (dats m 0 c).arrAt 2 cfg0.N = val_main_v12 (F := Ideal) (V m c main_arg0) (V m c main_arg1) := by
  refine (dats m 0 c).arrAt_eq_of_covers 2 _ (by decide +kernel) fun t hf y => ?_
  blk_simp
  rw [after0_2]
  obtain ⟨r, k, rfl⟩ : ∃ (r : Fin 256) (k : Fin 1024), y = ix2 r k := ⟨y 0, y 1, by idx_vars y⟩
  rw [emb]
  exact (out_norm r k _ _).trans (by simp only [blk_x, blk_g]; exact (ref_norm k _ _ _).symm)

theorem frame_reference : Cert.quiescent_MemNormRefIdeal (hMemNormRefIdeal := Cert.MemNormRefIdeal.Gen.facts) := fun m ρ _ =>
  (θ_run Cert.MemNormRefIdeal.defs _ _).mono (fun r h => ⟨fun c => (h c).2, sem_eq_zero_of_no_sems (by decide) r.2⟩)
    (Cert.MemNormRefIdeal.Value.run (F := Ideal) m ρ)

/-- The call and the plain function end with equal arrays. -/
theorem algebraic : Cert.algebraic_MemNormIdeal_MemNormRefIdeal (hMemNormIdeal := Cert.MemNormIdeal.Gen.facts)
    (hMemNormRefIdeal := Cert.MemNormRefIdeal.Gen.facts) := by
  intro m ρ m' ρ' _ hag
  refine ⟨_, Cert.MemNormIdeal.Value.run_blocks m ρ, (θ_run Cert.MemNormRefIdeal.defs _ _).mono (fun r h c =>
    ⟨(h c).1.trans ?_, (h c).2⟩) (Cert.MemNormRefIdeal.Value.run (F := Ideal) m' ρ')⟩ <;>
    obtain ⟨e0, e1⟩ := hag c
  · rw [arr_norm m c, val_main_v12_eq, e0, e1, V_main_arg0, V_main_arg1]

end Cert.MemNormTie

end
-- ==== Proof.GatesFwd.lean ====
module

public import proofs.«01_k».proof.Proof.BranchGate
public import proofs.«01_k».proof.Proof.UnitGate
public import proofs.«01_k».proof.Proof.SkipGelu
public import proofs.«01_k».proof.Proof.Gen.GateAbFwdIdeal.Value
public import proofs.«01_k».proof.Proof.Gen.GateAbFwdRefIdeal.Run
public import proofs.«01_k».proof.Proof.Gen.GateAbFwdRefIdeal.Read
public import proofs.«01_k».proof.Proof.Gen.GluGateFwdIdeal.Value
public import proofs.«01_k».proof.Proof.Gen.GluGateFwdRefIdeal.Run
public import proofs.«01_k».proof.Proof.Gen.GluGateFwdRefIdeal.Read
public import proofs.«01_k».proof.Proof.Gen.GeluFwdIdeal.Value
public import proofs.«01_k».proof.Proof.Gen.GeluFwdRefIdeal.Run
public import proofs.«01_k».proof.Proof.Gen.GeluFwdRefIdeal.Read
public import proofs.«01_k».proof.Defs

/-! The forward passes of the gates. -/

@[expose] public section

set_option maxRecDepth 16384

noncomputable section

open Idealize.ShloMosaic Idealize.ShloMosaic.TcCoe Idealize.SL.Sem Cert.Product Cert.Gates

namespace Cert.GateAbFwdTie

open Cert.GateAbFwdIdeal Cert.GateAbFwdIdeal.Gen Cert.GateAbFwdRefIdeal.Read

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 3] ∧ win0_2.index t = ![t.val, 0]
    ∧ win0_3.index t = ![t.val, 5] ∧ win0_4.index t = ![0, 0] ∧ win0_5.index t = ![t.val, 0] := by
  decide +kernel

section blocks

variable (t : Fin cfg0.N) (r : Fin 256) (k : Fin 1024)

theorem blk_o : iblk m c 0 t (ix2 r k) = V m c main_arg0 (ix2 (col height t r) k) := by
  blk_ext [iblk, index t]

theorem blk_a : iblk m c 1 t (ix2 r k) = V m c main_arg1 (ix2 (col height t r) ⟨3072 + k.val, by omega⟩) := by
  blk_ext [iblk, index t]

theorem blk_m : iblk m c 2 t (ix2 r k) = V m c main_arg2 (ix2 (col height t r) k) := by
  blk_ext [iblk, index t]

theorem blk_b : iblk m c 3 t (ix2 r k) = V m c main_arg1 (ix2 (col height t r) ⟨5120 + k.val, by omega⟩) := by
  blk_ext [iblk, index t]

theorem blk_s : iblk m c 4 t (ix2 0 k) = V m c main_arg3 (ix2 0 k) := by
  blk_ext [iblk, index t]

theorem emb (k : Fin 2048) : (win0_5.blk t).view.emb (ix2 r k) = ix2 (col height t r) k := by
  blk_ext [index t]

end blocks

section block

variable (o : Mat 256 1024) (a : Vec Ideal S256x1024 .bf16) (x : Mat 256 1024) (b : Vec Ideal S256x1024 .bf16) (s : Mat 1 1024)
  (r : Fin 256) (k : Fin 1024)

theorem at_fst : r0_2.emb (ix2 r k) = ix2 r ⟨k.val, by omega⟩ := by
  funext a
  match a with
  | ⟨0, _⟩ => exact Fin.ext (by show 0 + 1 * r.val = r.val; omega)
  | ⟨1, _⟩ => exact Fin.ext (by show 0 + 1 * k.val = k.val; omega)

theorem at_snd : r0_3.emb (ix2 r k) = ix2 r ⟨1024 + k.val, by omega⟩ := by
  funext a
  match a with
  | ⟨0, _⟩ => exact Fin.ext (by show 0 + 1 * r.val = r.val; omega)
  | ⟨1, _⟩ => exact Fin.ext (by show 1024 + 1 * k.val = 1024 + k.val; omega)

/-- The block's second half, stored last, is the pooling branch. -/
theorem block_snd : out0_5 (F := Ideal) o a x b s (ix2 r ⟨1024 + k.val, by omega⟩) = x (ix2 r k) * s (ix2 0 k) * silu (b (ix2 r k)) := by
  refine (congrArg (out0_5 (F := Ideal) o a x b s) (at_snd r k)).symm.trans ?_
  unfold out0_5
  rw [View.canon_cons_emb]
  simp only [View.ld_unit_zero (S := S256x1024) hz2, View.ld_unit_zero (S := S1x1024) hz2]
  pointwise [k0_pay2]
  rfl

/-- The first half is the attention branch. -/
theorem block_fst : out0_5 (F := Ideal) o a x b s (ix2 r ⟨k.val, by omega⟩) = o (ix2 r k) * silu (a (ix2 r k)) := by
  refine (congrArg (out0_5 (F := Ideal) o a x b s) (at_fst r k)).symm.trans ?_
  unfold out0_5
  rw [View.canon_cons_of_not_mem _ _ (fun h => ?_), View.canon_cons_emb]
  · simp only [View.ld_unit_zero (S := S256x1024) hz2]
    pointwise [k0_pay1]
    rfl
  · obtain ⟨y, hy⟩ := r0_3.exists_idx_of_mem h
    have e : 1024 + 1 * (y 1).val = k.val := congrArg (fun i : S256x2048.Idx => (i 1).val) (hy.trans (at_fst r k))
    have hk := k.isLt
    omega

end block

section reference

variable (o : Mat 2048 1024) (z : Mat 2048 6144) (x : Mat 2048 1024) (s : Mat 1 1024) (r : Fin 2048) (k : Fin 1024)

theorem ref_fst : val_main_v10 (F := Ideal) o z x s (ix2 r ⟨k.val, by omega⟩) = o (ix2 r k) * silu (z (ix2 r ⟨3072 + k.val, by omega⟩)) := by
  pointwise [val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst_0, val_main_call0_cst, val_main_call1_v5, val_main_call1_v4, val_main_call1_v3, val_main_call1_v2, val_main_call1_v1, val_main_call1_v0, val_main_call1_cst_0, val_main_call1_cst]
  rfl

theorem ref_snd : val_main_v10 (F := Ideal) o z x s (ix2 r ⟨1024 + k.val, by omega⟩)
    = x (ix2 r k) * s (ix2 0 k) * silu (z (ix2 r ⟨5120 + k.val, by omega⟩)) := by
  pointwise [val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst_0, val_main_call0_cst, val_main_call1_v5, val_main_call1_v4, val_main_call1_v3, val_main_call1_v2, val_main_call1_v1, val_main_call1_v0, val_main_call1_cst_0, val_main_call1_cst]
  rfl

end reference

/-- The two gated branches side by side, after the call. -/
theorem arr_ab : (dats m 0 c).arrAt 5 cfg0.N
    = val_main_v10 (F := Ideal) (V m c main_arg0) (V m c main_arg1) (V m c main_arg2) (V m c main_arg3) := by
  refine (dats m 0 c).arrAt_eq_of_covers 5 _ (by decide +kernel) fun t hf y => ?_
  blk_simp
  rw [after0_5]
  obtain ⟨r, k, rfl⟩ : ∃ (r : Fin 256) (k : Fin 2048), y = ix2 r k := ⟨y 0, y 1, by idx_vars y⟩
  rw [emb]
  rcases halves (K := 1024) rfl k with ⟨p, rfl⟩ | ⟨p, rfl⟩
  · exact (block_fst _ _ _ _ _ r p).trans (by rw [blk_o, blk_a]; exact (ref_fst _ _ _ _ _ p).symm)
  · exact (block_snd _ _ _ _ _ r p).trans (by rw [blk_m, blk_s, blk_b]; exact (ref_snd _ _ _ _ _ p).symm)

theorem frame_reference : Cert.quiescent_GateAbFwdRefIdeal (hGateAbFwdRefIdeal := Cert.GateAbFwdRefIdeal.Gen.facts) := fun m ρ _ =>
  (θ_run Cert.GateAbFwdRefIdeal.defs _ _).mono (fun r h => ⟨fun c => (h c).2, sem_eq_zero_of_no_sems (by decide) r.2⟩)
    (Cert.GateAbFwdRefIdeal.Value.run (F := Ideal) m ρ)

/-- The call and the plain function end with equal arrays. -/
theorem algebraic : Cert.algebraic_GateAbFwdIdeal_GateAbFwdRefIdeal (hGateAbFwdIdeal := Cert.GateAbFwdIdeal.Gen.facts)
    (hGateAbFwdRefIdeal := Cert.GateAbFwdRefIdeal.Gen.facts) := by
  intro m ρ m' ρ' _ hag
  refine ⟨_, Cert.GateAbFwdIdeal.Value.run_blocks m ρ, (θ_run Cert.GateAbFwdRefIdeal.defs _ _).mono (fun r h c =>
    ⟨(h c).1.trans ?_, (h c).2⟩) (Cert.GateAbFwdRefIdeal.Value.run (F := Ideal) m' ρ')⟩ <;>
    obtain ⟨e0, e1, e2, e3⟩ := hag c
  · rw [arr_ab m c, val_main_v10_eq, e0, e1, e2, e3, V_main_arg0, V_main_arg1, V_main_arg2, V_main_arg3]

end Cert.GateAbFwdTie

namespace Cert.GluGateFwdTie

open Cert.GluGateFwdIdeal Cert.GluGateFwdIdeal.Gen Cert.GluGateFwdRefIdeal.Read

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 7] ∧ win0_2.index t = ![t.val, 0] := by
  decide +kernel

section blocks

variable (t : Fin cfg0.N) (r : Fin 256) (k : Fin 512)

theorem blk_x (k : Fin 1024) : iblk m c 0 t (ix2 r k) = V m c main_arg0 (ix2 (col height t r) k) := by
  blk_ext [iblk, index t]

theorem blk_g : iblk m c 1 t (ix2 r k) = V m c main_arg1 (ix2 (col height t r) ⟨3584 + k.val, by omega⟩) := by
  blk_ext [iblk, index t]

theorem emb : (win0_2.blk t).view.emb (ix2 r k) = ix2 (col height t r) k := by
  blk_ext [index t]

end blocks

/-- The linear unit of two halves, behind its gate. -/
def unit (a b g : EReal) : EReal := a * Ideal.logistic b * silu g

theorem out_unit (x : Mat 256 1024) (g : Vec Ideal S256x512 .bf16) (r : Fin 256) (k : Fin 512) : out0_2 (F := Ideal) x g (ix2 r k)
    = unit (x (ix2 r ⟨k.val, by omega⟩)) (x (ix2 r ⟨512 + k.val, by omega⟩)) (g (ix2 r k)) := by
  unfold out0_2
  rw [View.canon_unit_zero hz2]
  simp only [View.ld_unit_zero (S := S256x512) hz2]
  pointwise [k0_pay1]
  rfl

theorem ref_unit (x : Mat 2048 1024) (z : Mat 2048 4096) (r : Fin 2048) (k : Fin 512) : val_main_v13 (F := Ideal) x z (ix2 r k)
    = unit (x (ix2 r ⟨k.val, by omega⟩)) (x (ix2 r ⟨512 + k.val, by omega⟩)) (z (ix2 r ⟨3584 + k.val, by omega⟩)) := by
  pointwise [val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst_0, val_main_call0_cst, val_main_cst, val_main_cst_0]
  rfl

/-- The gated unit, after the call. -/
theorem arr_unit : (dats m 0 c).arrAt 2 cfg0.N = val_main_v13 (F := Ideal) (V m c main_arg0) (V m c main_arg1) := by
  refine (dats m 0 c).arrAt_eq_of_covers 2 _ (by decide +kernel) fun t hf y => ?_
  blk_simp
  rw [after0_2]
  obtain ⟨r, k, rfl⟩ : ∃ (r : Fin 256) (k : Fin 512), y = ix2 r k := ⟨y 0, y 1, by idx_vars y⟩
  rw [emb]
  exact (out_unit _ _ r k).trans (by rw [blk_x, blk_x, blk_g]; exact (ref_unit _ _ _ k).symm)

theorem frame_reference : Cert.quiescent_GluGateFwdRefIdeal (hGluGateFwdRefIdeal := Cert.GluGateFwdRefIdeal.Gen.facts) := fun m ρ _ =>
  (θ_run Cert.GluGateFwdRefIdeal.defs _ _).mono (fun r h => ⟨fun c => (h c).2, sem_eq_zero_of_no_sems (by decide) r.2⟩)
    (Cert.GluGateFwdRefIdeal.Value.run (F := Ideal) m ρ)

/-- The call and the plain function end with equal arrays. -/
theorem algebraic : Cert.algebraic_GluGateFwdIdeal_GluGateFwdRefIdeal (hGluGateFwdIdeal := Cert.GluGateFwdIdeal.Gen.facts)
    (hGluGateFwdRefIdeal := Cert.GluGateFwdRefIdeal.Gen.facts) := by
  intro m ρ m' ρ' _ hag
  refine ⟨_, Cert.GluGateFwdIdeal.Value.run_blocks m ρ, (θ_run Cert.GluGateFwdRefIdeal.defs _ _).mono (fun r h c =>
    ⟨(h c).1.trans ?_, (h c).2⟩) (Cert.GluGateFwdRefIdeal.Value.run (F := Ideal) m' ρ')⟩ <;>
    obtain ⟨e0, e1⟩ := hag c
  · rw [arr_unit m c, val_main_v13_eq, e0, e1, V_main_arg0, V_main_arg1]

end Cert.GluGateFwdTie

namespace Cert.GeluFwdTie

open Cert.GeluFwdIdeal Cert.GeluFwdIdeal.Gen Cert.GeluFwdRefIdeal.Read

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 6] ∧ win0_2.index t = ![0, 0]
    ∧ win0_3.index t = ![t.val, 0] := by
  decide +kernel

section blocks

variable (t : Fin cfg0.N) (r : Fin 256) (k : Fin 512)

theorem blk_y : iblk m c 0 t (ix2 r k) = V m c main_arg0 (ix2 (col height t r) k) := by
  blk_ext [iblk, index t]

theorem blk_u : iblk m c 1 t (ix2 r k) = V m c main_arg1 (ix2 (col height t r) ⟨3072 + k.val, by omega⟩) := by
  blk_ext [iblk, index t]

theorem blk_g : iblk m c 2 t (ix2 0 k) = V m c main_arg2 (ix2 0 k) := by
  blk_ext [iblk, index t]

theorem emb : (win0_3.blk t).view.emb (ix2 r k) = ix2 (col height t r) k := by
  blk_ext [index t]

end blocks

open Cert.GeluTie (half bend skip)

/-- The smooth gate. -/
def smooth (v : EReal) : EReal := v * (half * (1 + bend v))

theorem smooth_apart (v : EReal) : half * v * (1 + bend v) = smooth v := by
  unfold smooth
  ac_rfl

theorem out_gelu (y : Mat 256 512) (u : Vec Ideal S256x512 .bf16) (g : Mat 1 512) (r : Fin 256) (k : Fin 512) :
    out0_3 (F := Ideal) y u g (ix2 r k) = smooth (skip (y (ix2 r k)) (g (ix2 0 k)) (u (ix2 r k))) := by
  rw [← smooth_apart]
  unfold out0_3
  rw [View.canon_unit_zero hz2]
  simp only [View.ld_unit_zero (S := S256x512) hz2, View.ld_unit_zero (S := S1x512) hz2]
  pointwise [k0_pay1]
  rfl

theorem ref_gelu (y : Mat 2048 512) (z : Mat 2048 4096) (g : Mat 1 512) (r : Fin 2048) (k : Fin 512) : val_main_v18 (F := Ideal) y z g (ix2 r k)
    = smooth (skip (y (ix2 r k)) (g (ix2 0 k)) (z (ix2 r ⟨3072 + k.val, by omega⟩))) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The gated sum of the sequence's results and the skip connection, after the call. -/
theorem arr_gelu : (dats m 0 c).arrAt 3 cfg0.N = val_main_v18 (F := Ideal) (V m c main_arg0) (V m c main_arg1) (V m c main_arg2) := by
  refine (dats m 0 c).arrAt_eq_of_covers 3 _ (by decide +kernel) fun t hf y => ?_
  blk_simp
  rw [after0_3]
  obtain ⟨r, k, rfl⟩ : ∃ (r : Fin 256) (k : Fin 512), y = ix2 r k := ⟨y 0, y 1, by idx_vars y⟩
  rw [emb]
  exact (out_gelu _ _ _ r k).trans (by rw [blk_y, blk_u, blk_g]; exact (ref_gelu _ _ _ _ k).symm)

theorem frame_reference : Cert.quiescent_GeluFwdRefIdeal (hGeluFwdRefIdeal := Cert.GeluFwdRefIdeal.Gen.facts) := fun m ρ _ =>
  (θ_run Cert.GeluFwdRefIdeal.defs _ _).mono (fun r h => ⟨fun c => (h c).2, sem_eq_zero_of_no_sems (by decide) r.2⟩)
    (Cert.GeluFwdRefIdeal.Value.run (F := Ideal) m ρ)

/-- The call and the plain function end with equal arrays. -/
theorem algebraic : Cert.algebraic_GeluFwdIdeal_GeluFwdRefIdeal (hGeluFwdIdeal := Cert.GeluFwdIdeal.Gen.facts)
    (hGeluFwdRefIdeal := Cert.GeluFwdRefIdeal.Gen.facts) := by
  intro m ρ m' ρ' _ hag
  refine ⟨_, Cert.GeluFwdIdeal.Value.run_blocks m ρ, (θ_run Cert.GeluFwdRefIdeal.defs _ _).mono (fun r h c =>
    ⟨(h c).1.trans ?_, (h c).2⟩) (Cert.GeluFwdRefIdeal.Value.run (F := Ideal) m' ρ')⟩ <;>
    obtain ⟨e0, e1, e2⟩ := hag c
  · rw [arr_gelu m c, val_main_v18_eq, e0, e1, e2, V_main_arg0, V_main_arg1, V_main_arg2]

end Cert.GeluFwdTie

end
-- ==== Proof.StateFwd.lean ====
module

public import proofs.«01_k».proof.Proof.Product
public import proofs.«01_k».proof.Proof.Gen.BbarFwdIdeal.Value
public import proofs.«01_k».proof.Proof.Gen.BbarFwdRefIdeal.Run
public import proofs.«01_k».proof.Proof.Gen.BbarFwdRefIdeal.Read
public import proofs.«01_k».proof.Proof.Gen.PrepFwdIdeal.Value
public import proofs.«01_k».proof.Proof.Gen.PrepFwdRefIdeal.Run
public import proofs.«01_k».proof.Proof.Gen.PrepFwdRefIdeal.Read
public import proofs.«01_k».proof.Defs

/-! The state space's parameters: the recurrence's from the continuous ones, and its scaled input factors. -/

@[expose] public section

set_option maxRecDepth 16384

noncomputable section

open Idealize.ShloMosaic Idealize.ShloMosaic.TcCoe Idealize.SL.Sem Cert.Product

namespace Cert.BbarFwdTie

open Cert.BbarFwdIdeal Cert.BbarFwdIdeal.Gen Cert.BbarFwdRefIdeal.Read

variable (m : (ℓ : Loc nD τ sig) → Buf (Elt Ideal) ℓ) (c : Dev nD)

theorem height : 8 * 256 = 2048 := rfl

theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] := by
  decide +kernel

section blocks

variable (t : Fin cfg0.N) (r : Fin 256) (k : Fin 16)

theorem blk_br : iblk m c 0 t (ix2 r k) = V m c main_arg0 (ix2 (col height t r) k) := by
  blk_ext [iblk, index t]

theorem blk_bi : iblk m c 1 t (ix2 r k) = V m c main_arg1 (ix2 (col height t r) k) := by
  blk_ext [iblk, index t]

theorem blk_cr : iblk m c 2 t (ix2 r 0) = V m c main_arg2 (ix2 (col height t r) 0) := by
  blk_ext [iblk, index t]

theorem blk_ci : iblk m c 3 t (ix2 r 0) = V m c main_arg3 (ix2 (col height t r) 0) := by
  blk_ext [iblk, index t]

theorem emb_r : (win0_4.blk t).view.emb (ix2 r k) = ix2 (col height t r) k := by
  blk_ext [index t]

theorem emb_i : (win0_5.blk t).view.emb (ix2 r k) = ix2 (col height t r) k := by
  blk_ext [index t]

end blocks

section block

variable (b0 b1 : Mat 256 16) (c0 c1 : Mat 256 1) (r : Fin 256) (k : Fin 16)

theorem out_r : out0_4 (F := Ideal) b0 b1 c0 c1 (ix2 r k) = c0 (ix2 r 0) * b0 (ix2 r k) - c1 (ix2 r 0) * b1 (ix2 r k) := by
  unfold out0_4
  rw [View.canon_unit_zero hz2]
  simp only [View.ld_unit_zero (S := S256x16) hz2, View.ld_unit_zero (S := S256x1) hz2]
  pointwise [k0_pay1]

theorem out_i : out0_5 (F := Ideal) b0 b1 c0 c1 (ix2 r k) = c0 (ix2 r 0) * b1 (ix2 r k) + c1 (ix2 r 0) * b0 (ix2 r k) := by
  unfold out0_5
  rw [View.canon_unit_zero hz2]
  simp only [View.ld_unit_zero (S := S256x16) hz2, View.ld_unit_zero (S := S256x1) hz2]
  pointwise [k0_pay2]

end block

section reference

variable (b0 b1 : Mat 2048 16) (c0 c1 : Mat 2048 1) (r : Fin 2048) (k : Fin 16)

theorem ref_r : val_main_v4 (F := Ideal) b0 b1 c0 c1 (ix2 r k) = c0 (ix2 r 0) * b0 (ix2 r k) - c1 (ix2 r 0) * b1 (ix2 r k) := by
  pointwise [val_main_v4, val_main_v3, val_main_v2, val_main_v1, val_main_v0]

theorem ref_i : val_main_v9 (F := Ideal) b0 b1 c0 c1 (ix2 r k) = c0 (ix2 r 0) * b1 (ix2 r k) + c1 (ix2 r 0) * b0 (ix2 r k) := by
  pointwise [val_main_v9, val_main_v8, val_main_v7, val_main_v6, val_main_v5]

end reference

theorem arr_r : (dats m 0 c).arrAt 4 cfg0.N
    = val_main_v4 (F := Ideal) (V m c main_arg0) (V m c main_arg1) (V m c main_arg2) (V m c main_arg3) := by
  refine (dats m 0 c).arrAt_eq_of_covers 4 _ (by decide +kernel) fun t hf y => ?_
  blk_simp
  rw [after0_4]
  obtain ⟨r, k, rfl⟩ : ∃ (r : Fin 256) (k : Fin 16), y = ix2 r k := ⟨y 0, y 1, by idx_vars y⟩
  rw [emb_r]
  exact (out_r _ _ _ _ r k).trans (by rw [blk_br, blk_bi, blk_cr, blk_ci]; exact (ref_r _ _ _ _ _ k).symm)

theorem arr_i : (dats m 0 c).arrAt 5 cfg0.N
    = val_main_v9 (F := Ideal) (V m c main_arg0) (V m c main_arg1) (V m c main_arg2) (V m c main_arg3) := by
  refine (dats m 0 c).arrAt_eq_of_covers 5 _ (by decide +kernel) fun t hf y => ?_
  blk_simp
  rw [after0_5]
  obtain ⟨r, k, rfl⟩ : ∃ (r : Fin 256) (k : Fin 16), y = ix2 r k := ⟨y 0, y 1, by idx_vars y⟩
  rw [emb_i]
  exact (out_i _ _ _ _ r k).trans (by rw [blk_br, blk_bi, blk_cr, blk_ci]; exact (ref_i _ _ _ _ _ k).symm)

theorem frame_reference : Cert.quiescent_BbarFwdRefIdeal (hBbarFwdRefIdeal := Cert.BbarFwdRefIdeal.Gen.facts) := fun m ρ _ =>
  (θ_run Cert.BbarFwdRefIdeal.defs _ _).mono (fun r h => ⟨fun c => (h c).2.2, sem_eq_zero_of_no_sems (by decide) r.2⟩)
    (Cert.BbarFwdRefIdeal.Value.run (F := Ideal) m ρ)

/-- The call and the plain function end with equal arrays. -/
theorem algebraic : Cert.algebraic_BbarFwdIdeal_BbarFwdRefIdeal (hBbarFwdIdeal := Cert.BbarFwdIdeal.Gen.facts)
    (hBbarFwdRefIdeal := Cert.BbarFwdRefIdeal.Gen.facts) := by
  intro m ρ m' ρ' _ hag
  refine ⟨_, _, Cert.BbarFwdIdeal.Value.run_blocks m ρ, (θ_run Cert.BbarFwdRefIdeal.defs _ _).mono (fun r h c =>
    ⟨(h c).1.trans ?_, (h c).2.1.trans ?_, (h c).2.2⟩) (Cert.BbarFwdRefIdeal.Value.run (F := Ideal) m' ρ')⟩ <;>
    obtain ⟨e0, e1, e2, e3⟩ := hag c
  · rw [arr_r m c, val_main_v4_eq, e0, e1, e2, e3, V_main_arg0, V_main_arg1, V_main_arg2, V_main_arg3]
  · rw [arr_i m c, val_main_v9_eq, e0, e1, e2, e3, V_main_arg0, V_main_arg1, V_main_arg2, V_main_arg3]

end Cert.BbarFwdTie

namespace Cert.PrepFwdTie

open Cert.PrepFwdIdeal Cert.PrepFwdIdeal.Gen Cert.PrepFwdRefIdeal.Read

variable (m : (ℓ : Loc nD τ sig) → Buf (Elt Ideal) ℓ) (c : Dev nD)

theorem index : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

section blocks

variable (t : Fin cfg0.N)

/-! The one block of each array is the array. -/

theorem blk_ar : iblk m c 0 t = V m c main_arg0 := by
  funext y
  obtain ⟨r, k, rfl⟩ : ∃ (r : Fin 32) (k : Fin 64), y = ix2 r k := ⟨y 0, y 1, by idx_vars y⟩
  blk_ext [iblk, index t]

theorem blk_ai : iblk m c 1 t = V m c main_arg1 := by
  funext y
  obtain ⟨r, k, rfl⟩ : ∃ (r : Fin 32) (k : Fin 64), y = ix2 r k := ⟨y 0, y 1, by idx_vars y⟩
  blk_ext [iblk, index t]

theorem blk_dt : iblk m c 2 t = V m c main_arg2 := by
  funext y
  obtain ⟨r, k, rfl⟩ : ∃ (r : Fin 32) (k : Fin 1), y = ix2 r k := ⟨y 0, y 1, by idx_vars y⟩
  blk_ext [iblk, index t]

variable (r : Fin 32) (k : Fin 64)

theorem emb_ar : (win0_3.blk t).view.emb (ix2 r k) = ix2 r k := by
  blk_ext [index t]

theorem emb_ai : (win0_4.blk t).view.emb (ix2 r k) = ix2 r k := by
  blk_ext [index t]

theorem emb_cr : (win0_5.blk t).view.emb (ix2 r k) = ix2 r k := by
  blk_ext [index t]

theorem emb_ci : (win0_6.blk t).view.emb (ix2 r k) = ix2 r k := by
  blk_ext [index t]

end blocks

section block

variable (a0 a1 : Mat 32 64) (dt : Mat 32 1) (r : Fin 32) (k : Fin 64)

/-! Each output of the one point against the reference's array, entry by entry. -/

theorem out_ar : out0_3 (F := Ideal) a0 a1 dt (ix2 r k) = val_main_v7 (F := Ideal) a0 a1 dt (ix2 r k) := by
  unfold out0_3
  rw [View.canon_unit_zero hz2]
  simp only [View.ld_unit_zero (S := S32x64) hz2, View.ld_unit_zero (S := S32x1) hz2]
  pointwise [k0_pay3, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

theorem out_ai : out0_4 (F := Ideal) a0 a1 dt (ix2 r k) = val_main_v11 (F := Ideal) a0 a1 dt (ix2 r k) := by
  unfold out0_4
  rw [View.canon_unit_zero hz2]
  simp only [View.ld_unit_zero (S := S32x64) hz2, View.ld_unit_zero (S := S32x1) hz2]
  pointwise [k0_pay4, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

theorem out_cr : out0_5 (F := Ideal) a0 a1 dt (ix2 r k) = val_main_v22 (F := Ideal) a0 a1 dt (ix2 r k) := by
  unfold out0_5
  rw [View.canon_unit_zero hz2]
  simp only [View.ld_unit_zero (S := S32x64) hz2, View.ld_unit_zero (S := S32x1) hz2]
  pointwise [k0_pay7, k0_pay6, k0_pay5, k0_pay4, k0_pay3, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

theorem out_ci : out0_6 (F := Ideal) a0 a1 dt (ix2 r k) = val_main_v26 (F := Ideal) a0 a1 dt (ix2 r k) := by
  unfold out0_6
  rw [View.canon_unit_zero hz2]
  simp only [View.ld_unit_zero (S := S32x64) hz2, View.ld_unit_zero (S := S32x1) hz2]
  pointwise [k0_pay8, k0_pay6, k0_pay5, k0_pay4, k0_pay3, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

end block

theorem arr_ar : (dats m 0 c).arrAt 3 cfg0.N = val_main_v7 (F := Ideal) (V m c main_arg0) (V m c main_arg1) (V m c main_arg2) := by
  refine (dats m 0 c).arrAt_eq_of_covers 3 _ (by decide +kernel) fun t hf y => ?_
  blk_simp
  rw [after0_3, blk_ar, blk_ai, blk_dt]
  obtain ⟨r, k, rfl⟩ : ∃ (r : Fin 32) (k : Fin 64), y = ix2 r k := ⟨y 0, y 1, by idx_vars y⟩
  rw [emb_ar]
  exact out_ar _ _ _ r k

theorem arr_ai : (dats m 0 c).arrAt 4 cfg0.N = val_main_v11 (F := Ideal) (V m c main_arg0) (V m c main_arg1) (V m c main_arg2) := by
  refine (dats m 0 c).arrAt_eq_of_covers 4 _ (by decide +kernel) fun t hf y => ?_
  blk_simp
  rw [after0_4, blk_ar, blk_ai, blk_dt]
  obtain ⟨r, k, rfl⟩ : ∃ (r : Fin 32) (k : Fin 64), y = ix2 r k := ⟨y 0, y 1, by idx_vars y⟩
  rw [emb_ai]
  exact out_ai _ _ _ r k

theorem arr_cr : (dats m 0 c).arrAt 5 cfg0.N = val_main_v22 (F := Ideal) (V m c main_arg0) (V m c main_arg1) (V m c main_arg2) := by
  refine (dats m 0 c).arrAt_eq_of_covers 5 _ (by decide +kernel) fun t hf y => ?_
  blk_simp
  rw [after0_5, blk_ar, blk_ai, blk_dt]
  obtain ⟨r, k, rfl⟩ : ∃ (r : Fin 32) (k : Fin 64), y = ix2 r k := ⟨y 0, y 1, by idx_vars y⟩
  rw [emb_cr]
  exact out_cr _ _ _ r k

theorem arr_ci : (dats m 0 c).arrAt 6 cfg0.N = val_main_v26 (F := Ideal) (V m c main_arg0) (V m c main_arg1) (V m c main_arg2) := by
  refine (dats m 0 c).arrAt_eq_of_covers 6 _ (by decide +kernel) fun t hf y => ?_
  blk_simp
  rw [after0_6, blk_ar, blk_ai, blk_dt]
  obtain ⟨r, k, rfl⟩ : ∃ (r : Fin 32) (k : Fin 64), y = ix2 r k := ⟨y 0, y 1, by idx_vars y⟩
  rw [emb_ci]
  exact out_ci _ _ _ r k

theorem frame_reference : Cert.quiescent_PrepFwdRefIdeal (hPrepFwdRefIdeal := Cert.PrepFwdRefIdeal.Gen.facts) := fun m ρ _ =>
  (θ_run Cert.PrepFwdRefIdeal.defs _ _).mono (fun r h => ⟨fun c => (h c).2.2.2.2, sem_eq_zero_of_no_sems (by decide) r.2⟩)
    (Cert.PrepFwdRefIdeal.Value.run (F := Ideal) m ρ)

/-- The call and the plain function end with equal arrays. -/
theorem algebraic : Cert.algebraic_PrepFwdIdeal_PrepFwdRefIdeal (hPrepFwdIdeal := Cert.PrepFwdIdeal.Gen.facts)
    (hPrepFwdRefIdeal := Cert.PrepFwdRefIdeal.Gen.facts) := by
  intro m ρ m' ρ' _ hag
  refine ⟨_, _, _, _, Cert.PrepFwdIdeal.Value.run_blocks m ρ, (θ_run Cert.PrepFwdRefIdeal.defs _ _).mono (fun r h c =>
    ⟨(h c).1.trans ?_, (h c).2.1.trans ?_, (h c).2.2.1.trans ?_, (h c).2.2.2.1.trans ?_, (h c).2.2.2.2⟩) (Cert.PrepFwdRefIdeal.Value.run (F := Ideal) m' ρ')⟩ <;>
    obtain ⟨e0, e1, e2⟩ := hag c
  · rw [arr_ar m c, val_main_v7_eq, e0, e1, e2, V_main_arg0, V_main_arg1, V_main_arg2]
  · rw [arr_ai m c, val_main_v11_eq, e0, e1, e2, V_main_arg0, V_main_arg1, V_main_arg2]
  · rw [arr_cr m c, val_main_v22_eq, e0, e1, e2, V_main_arg0, V_main_arg1, V_main_arg2]
  · rw [arr_ci m c, val_main_v26_eq, e0, e1, e2, V_main_arg0, V_main_arg1, V_main_arg2]

end Cert.PrepFwdTie

end
-- ==== Proof.Slabs.lean ====
module

public import proofs.«01_k».proof.Proof.Product

/-! Products made of slabs: the state's 4096 columns are two halves of four slabs of 512, the channels four slabs of 128. -/

@[expose] public section

noncomputable section

namespace Cert.Slabs

open Idealize.ShloMosaic Cert.Product

/-- The state of half `s`, slab `j`, lane `p`. -/
abbrev state (s : Fin 2) (j : Fin 4) (p : Fin 512) : Fin 4096 := ⟨s.val * 2048 + j.val * 512 + p.val, by omega⟩

/-- The channel of slab `j`, lane `k`. -/
abbrev chan (j : Fin 4) (k : Fin 128) : Fin 512 := ⟨j.val * 128 + k.val, by omega⟩

/-- The same channel where the channels lie in the wide array. -/
abbrev wide (j : Fin 4) (k : Fin 128) : Fin 4096 := ⟨3072 + (j.val * 128 + k.val), by omega⟩

/-- The column of half `s`, lane `p` of a slab's input matrix. -/
abbrev tap (s : Fin 2) (p : Fin 512) : Fin 1024 := ⟨s.val * 512 + p.val, by omega⟩

theorem rows : 2 * 1024 = 2048 := rfl

/-- The product over the first half and the product over the second half together. -/
theorem two {f g : EReal} {n : ℕ} {a b : Fin 2 → Fin n → EReal} (hf : f = ∑ p, a 0 p * b 0 p) (hg : g = ∑ p, a 1 p * b 1 p) :
    f + g = ∑ s, ∑ p, a s p * b s p := by
  rw [Fin.sum_univ_two, hf, hg]

/-- The same over the two halves of the rows, with the factors in the other order. -/
theorem two_rows {f g : EReal} {a b : Fin 2048 → EReal} (hf : f = ∑ q, a (col rows 0 q) * b (col rows 0 q))
    (hg : g = ∑ q, a (col rows 1 q) * b (col rows 1 q)) : f + g = ∑ r, b r * a r := by
  rw [sum_cols rows, Fin.sum_univ_two, hf, hg]
  exact congrArg₂ (fun a b : EReal => a + b) (Finset.sum_congr rfl fun q _ => mul_comm _ _) (Finset.sum_congr rfl fun q _ => mul_comm _ _)

end Cert.Slabs

end
-- ==== Proof.SlabDx.lean ====
module

public import proofs.«01_k».proof.Proof.Slabs
public import proofs.«01_k».proof.Proof.Ends
public import proofs.«01_k».proof.Proof.Gen.UDxIdeal.Value
public import proofs.«01_k».proof.Proof.Gen.UDxRefIdeal.Run
public import proofs.«01_k».proof.Proof.Gen.UDxRefIdeal.Read
public import proofs.«01_k».proof.Proof.Gen.YDxIdeal.Value
public import proofs.«01_k».proof.Proof.Gen.YDxRefIdeal.Run
public import proofs.«01_k».proof.Proof.Gen.YDxRefIdeal.Read
public import proofs.«01_k».proof.Defs

/-! Their gradients in the rows. -/

@[expose] public section

set_option maxRecDepth 16384

noncomputable section

open Idealize.ShloMosaic Idealize.ShloMosaic.TcCoe Idealize.SL.Sem Cert.Product Cert.Slabs

namespace Cert.UDxTie

open Cert.UDxIdeal Cert.UDxIdeal.Gen

variable (m : (ℓ : Loc nD τ sig) → Buf (Elt Ideal) ℓ) (c : Dev nD)

theorem index : ∀ t : Fin cfg0.N, win0_0.index t = ![0, t.val % 2 * 4 + t.val / 2] ∧ win0_1.index t = ![t.val / 2, t.val % 2] ∧ win0_2.index t = ![0, t.val / 2] := by
  decide +kernel

section blocks

variable (t : Fin cfg0.N) (j : Fin 4) (u : Fin 2) (e : t.val = j.val * 2 + u.val)

include e

theorem blk_a (r : Fin 2048) (p : Fin 512) : iblk m c 0 t (ix2 r p) = V m c main_arg0 (ix2 r (state u j p)) := by
  blk_ext [iblk, index t]

theorem blk_b (k : Fin 128) (p : Fin 512) : iblk m c 1 t (ix2 k p) = V m c main_arg1 (ix2 (chan j k) (tap u p)) := by
  blk_ext [iblk, index t]

theorem emb_o (r : Fin 2048) (k : Fin 128) : (win0_2.blk t).view.emb (ix2 r k) = ix2 r (chan j k) := by
  blk_ext [index t]

end blocks

/-- What a point adds to the sum so far. -/
theorem pay (s : Vec Ideal S2048x128 .f32) (a : Vec Ideal S2048x512 .f32) (b : Vec Ideal S128x512 .bf16) (r : Fin 2048) (k : Fin 128) :
    k0_pay2 (F := Ideal) s a b (ix2 r k) = s (ix2 r k) + mulDx a b (ix2 r k) := by
  pointwise [k0_pay2]
  rfl

/-- The sum after the first of a block's two points. -/
theorem first (t : Fin cfg0.N) (h : t.val % 2 = 0) (r : Fin 2048) (k : Fin 128) :
    (outsAt0 m c t.val t.isLt).2 (ix2 r k) = mulDx (iblk m c 0 t) (iblk m c 1 t) (ix2 r k) := by
  rw [outsAt0_A m c t h (by omega)]
  unfold sout0_A_0
  rw [View.read_writes_junk_eq_canon]
  unfold kernelRun0_A
  dsimp only
  sl_unfold_words
  rw [View.canon_cons_unit_zero hz2]
  simp only [View.readAt_eq_ld, (hs0_0 t).read_unread, (hs0_1 t).read_unread, View.ld_unit_zero (S := S2048x512) hz2, View.ld_unit_zero (S := S128x512) hz2, View.readCov_cons_toLoadRect]
  rw [pay]
  pointwise [k0_pay1]

/-- The block written after the second. -/
theorem second (t : Fin cfg0.N) (h : t.val % 2 = 1) (r : Fin 2048) (k : Fin 128) : (outsAt0 m c t.val t.isLt).1 (ix2 r k)
    = (outsAt0 m c (t.val - 1) (Nat.lt_of_le_of_lt (Nat.sub_le _ _) t.isLt)).2 (ix2 r k)
      + mulDx (iblk m c 0 t) (iblk m c 1 t) (ix2 r k) := by
  rw [outsAt0_B m c t (by omega) h]
  unfold out0_B_2
  rw [View.read_writes_junk_eq_canon]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S2048x512) hz2, View.ld_unit_zero (S := S128x512) hz2,
    View.ld_unit_zero (S := S2048x128) hz2, View.readCov_cons_toLoadRect]
  rw [pay]

theorem flushes : ∀ t : Fin cfg0.N, (cfg0.win 2).flush t = true → t.val % 2 = 1 := by
  decide +kernel

open Cert.UDxRefIdeal.Read in
/-- What the reference computes, at the places of a block. -/
theorem ref (a : Mat 2048 4096) (b : Mat 512 1024) (j : Fin 4) (r : Fin 2048) (k : Fin 128) :
    val_main_v11 (F := Ideal) a b (ix2 r ⟨j.val * 128 + k.val, by omega⟩) = ∑ u : Fin 2, ∑ p : Fin 512, a (ix2 r (state u j p)) * b (ix2 (chan j k) (tap u p)) := by
  pointwise [val_main_v11, val_main_v10, val_main_v9, val_main_v8, val_main_v7, val_main_v3, val_main_v1]

/-- The array after the call. -/
theorem arr : (dats m 0 c).arrAt 2 cfg0.N = Cert.UDxRefIdeal.Read.val_main_v11 (F := Ideal) (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 128), y = ix2 r k := ⟨y 0, y 1, by idx_vars y⟩
  have ht : t.val < 8 := t.isLt
  have h := flushes t hf
  let u : Fin cfg0.N := ⟨t.val - 1, Nat.lt_of_le_of_lt (Nat.sub_le _ _) t.isLt⟩
  have e0 : u.val = t.val / 2 * 2 + (0 : Fin 2).val := by show t.val - 1 = _; simp only [Fin.val_zero]; omega
  have e1 : t.val = t.val / 2 * 2 + (1 : Fin 2).val := by simp only [Fin.val_one]; omega
  rw [emb_o t ⟨t.val / 2, by omega⟩ 1 e1, second m c t h, first m c u (by show (t.val - 1) % 2 = 0; omega)]
  refine (two (sum_mul_congr (blk_a m c u ⟨t.val / 2, by omega⟩ 0 e0 r) (blk_b m c u ⟨t.val / 2, by omega⟩ 0 e0 k))
    (sum_mul_congr (blk_a m c t ⟨t.val / 2, by omega⟩ 1 e1 r) (blk_b m c t ⟨t.val / 2, by omega⟩ 1 e1 k))).trans (ref _ _ _ r k).symm

theorem frame_reference : Cert.quiescent_UDxRefIdeal (hUDxRefIdeal := Cert.UDxRefIdeal.Gen.facts) := fun m ρ _ =>
  (θ_run Cert.UDxRefIdeal.defs _ _).mono (fun r h => ⟨fun c => (h c).2, sem_eq_zero_of_no_sems (by decide) r.2⟩) (Cert.UDxRefIdeal.Value.run (F := Ideal) m ρ)

/-- The call and the plain gradient end with equal arrays. -/
theorem algebraic : Cert.algebraic_UDxIdeal_UDxRefIdeal (hUDxIdeal := Cert.UDxIdeal.Gen.facts)
    (hUDxRefIdeal := Cert.UDxRefIdeal.Gen.facts) := by
  intro m ρ m' ρ' _ hag
  refine Cert.Ends.same (Cert.UDxIdeal.Value.run_blocks m ρ) (Cert.UDxRefIdeal.Value.run (F := Ideal) m' ρ') fun c => ?_
  rw [arr m c, Cert.UDxRefIdeal.Read.val_main_v11_eq, (hag c).1, (hag c).2, V_main_arg0, V_main_arg1]

end Cert.UDxTie

namespace Cert.YDxTie

open Cert.YDxIdeal Cert.YDxIdeal.Gen

variable (m : (ℓ : Loc nD τ sig) → Buf (Elt Ideal) ℓ) (c : Dev nD)

theorem index : ∀ t : Fin cfg0.N, win0_0.index t = ![0, t.val % 4] ∧ win0_1.index t = ![t.val, 0] ∧ win0_2.index t = ![0, t.val] := by
  decide +kernel

section blocks

variable (t : Fin cfg0.N) (s : Fin 2) (j : Fin 4) (e : t.val = s.val * 4 + j.val)

include e

theorem blk_a (r : Fin 2048) (k : Fin 128) : iblk m c 0 t (ix2 r k) = V m c main_arg0 (ix2 r (chan j k)) := by
  blk_ext [iblk, index t]

theorem blk_b (p : Fin 512) (k : Fin 128) : iblk m c 1 t (ix2 p k) = V m c main_arg1 (ix2 (state s j p) k) := by
  blk_ext [iblk, index t]

theorem emb_o (r : Fin 2048) (p : Fin 512) : (win0_2.blk t).view.emb (ix2 r p) = ix2 r (state s j p) := by
  blk_ext [index t]

end blocks

/-- What a point adds to the sum so far. -/
theorem pay (s : Vec Ideal S2048x512 .f32) (a : Vec Ideal S2048x128 .bf16) (b : Vec Ideal S512x128 .bf16) (r : Fin 2048) (p : Fin 512) :
    k0_pay2 (F := Ideal) s a b (ix2 r p) = s (ix2 r p) + mulDx a b (ix2 r p) := by
  pointwise [k0_pay2]
  rfl

/-- A block of the result. -/
theorem block (t : Fin cfg0.N) (r : Fin 2048) (p : Fin 512) : outsAt0 m c t (ix2 r p) = mulDx (iblk m c 0 t) (iblk m c 1 t) (ix2 r p) := by
  unfold outsAt0 out0_A_2
  rw [View.read_writes_junk_eq_canon]
  unfold kernelRun0_A
  dsimp only
  sl_unfold_words
  rw [View.canon_unit_zero hz2]
  simp only [View.readAt_eq_ld, (hs0_0 t).read_unread, (hs0_1 t).read_unread, View.ld_unit_zero (S := S2048x128) hz2, View.ld_unit_zero (S := S512x128) hz2, View.readCov_cons_toLoadRect]
  rw [pay]
  pointwise [k0_pay1]

open Cert.YDxRefIdeal.Read in
/-- What the reference computes, at the places of a block. -/
theorem ref (a : Mat 2048 512) (b : Mat 4096 128) (s : Fin 2) (j : Fin 4) (r : Fin 2048) (p : Fin 512) :
    val_main_v12 (F := Ideal) a b (ix2 r ⟨s.val * 2048 + j.val * 512 + p.val, by omega⟩) = ∑ k : Fin 128, a (ix2 r (chan j k)) * b (ix2 (state s j p) k) := by
  pointwise [val_main_v12, val_main_v11, val_main_v10, val_main_v9, val_main_v8, val_main_v7, val_main_v3, val_main_v1]

/-- The array after the call. -/
theorem arr : (dats m 0 c).arrAt 2 cfg0.N = Cert.YDxRefIdeal.Read.val_main_v12 (F := Ideal) (V m c main_arg0) (V m c main_arg1) := by
  refine (dats m 0 c).arrAt_eq_of_covers 2 _ (by decide +kernel) fun t hf y => ?_
  blk_simp
  rw [after0_2]
  obtain ⟨r, p, rfl⟩ : ∃ (r : Fin 2048) (p : Fin 512), y = ix2 r p := ⟨y 0, y 1, by idx_vars y⟩
  have ht : t.val < 8 := t.isLt
  have e : t.val = t.val / 4 * 4 + t.val % 4 := by omega
  rw [emb_o t ⟨t.val / 4, by omega⟩ ⟨t.val % 4, by omega⟩ e]
  rw [block m c t r p, ref]
  exact sum_mul_congr (blk_a m c t ⟨t.val / 4, by omega⟩ ⟨t.val % 4, by omega⟩ e r) (blk_b m c t ⟨t.val / 4, by omega⟩ ⟨t.val % 4, by omega⟩ e p)

theorem frame_reference : Cert.quiescent_YDxRefIdeal (hYDxRefIdeal := Cert.YDxRefIdeal.Gen.facts) := fun m ρ _ =>
  (θ_run Cert.YDxRefIdeal.defs _ _).mono (fun r h => ⟨fun c => (h c).2, sem_eq_zero_of_no_sems (by decide) r.2⟩) (Cert.YDxRefIdeal.Value.run (F := Ideal) m ρ)

/-- The call and the plain gradient end with equal arrays. -/
theorem algebraic : Cert.algebraic_YDxIdeal_YDxRefIdeal (hYDxIdeal := Cert.YDxIdeal.Gen.facts)
    (hYDxRefIdeal := Cert.YDxRefIdeal.Gen.facts) := by
  intro m ρ m' ρ' _ hag
  refine Cert.Ends.same (Cert.YDxIdeal.Value.run_blocks m ρ) (Cert.YDxRefIdeal.Value.run (F := Ideal) m' ρ') fun c => ?_
  rw [arr m c, Cert.YDxRefIdeal.Read.val_main_v12_eq, (hag c).1, (hag c).2, V_main_arg0, V_main_arg1]

end Cert.YDxTie

end
-- ==== Proof.SlabDw.lean ====
module

public import proofs.«01_k».proof.Proof.Slabs
public import proofs.«01_k».proof.Proof.Ends
public import proofs.«01_k».proof.Proof.Gen.UDwIdeal.Value
public import proofs.«01_k».proof.Proof.Gen.UDwRefIdeal.Run
public import proofs.«01_k».proof.Proof.Gen.UDwRefIdeal.Read
public import proofs.«01_k».proof.Proof.Gen.YDwIdeal.Value
public import proofs.«01_k».proof.Proof.Gen.YDwRefIdeal.Run
public import proofs.«01_k».proof.Proof.Gen.YDwRefIdeal.Read
public import proofs.«01_k».proof.Defs

/-! Their gradients in the matrices, each summed over two halves of the rows. -/

@[expose] public section

set_option maxRecDepth 16384

noncomputable section

open Idealize.ShloMosaic Idealize.ShloMosaic.TcCoe Idealize.SL.Sem Cert.Product Cert.Slabs

namespace Cert.UDwTie

open Cert.UDwIdeal Cert.UDwIdeal.Gen

variable (m : (ℓ : Loc nD τ sig) → Buf (Elt Ideal) ℓ) (c : Dev nD)

theorem index : ∀ t : Fin cfg0.N, win0_0.index t = ![t.val % 2, 24 + t.val / 4] ∧ win0_1.index t = ![t.val % 2, t.val / 2 % 2 * 4 + t.val / 4] ∧ win0_2.index t = ![t.val / 4, t.val / 2 % 2] := by
  decide +kernel

section blocks

variable (t : Fin cfg0.N) (j : Fin 4) (s : Fin 2) (u : Fin 2) (e : t.val = j.val * 4 + s.val * 2 + u.val)

include e

theorem blk_a (q : Fin 1024) (k : Fin 128) : iblk m c 0 t (ix2 q k) = V m c main_arg0 (ix2 (col rows u q) (wide j k)) := by
  blk_ext [iblk, index t]

theorem blk_b (q : Fin 1024) (p : Fin 512) : iblk m c 1 t (ix2 q p) = V m c main_arg1 (ix2 (col rows u q) (state s j p)) := by
  blk_ext [iblk, index t]

theorem emb_o (k : Fin 128) (p : Fin 512) : (win0_2.blk t).view.emb (ix2 k p) = ix2 (chan j k) (tap s p) := by
  blk_ext [index t]

end blocks

/-- What a point adds to the sum so far. -/
theorem pay (s : Vec Ideal S128x512 .f32) (a : Vec Ideal S1024x128 .bf16) (b : Vec Ideal S1024x512 .f32) (k : Fin 128) (p : Fin 512) :
    k0_pay2 (F := Ideal) s a b (ix2 k p) = s (ix2 k p) + mulDw a b (ix2 k p) := by
  pointwise [k0_pay2]
  rfl

/-- The sum after the first of a block's two points. -/
theorem first (t : Fin cfg0.N) (h : t.val % 2 = 0) (k : Fin 128) (p : Fin 512) :
    (outsAt0 m c t.val t.isLt).2 (ix2 k p) = mulDw (iblk m c 0 t) (iblk m c 1 t) (ix2 k p) := by
  rw [outsAt0_A m c t h (by omega)]
  unfold sout0_A_0
  rw [View.read_writes_junk_eq_canon]
  unfold kernelRun0_A
  dsimp only
  sl_unfold_words
  rw [View.canon_cons_unit_zero hz2]
  simp only [View.readAt_eq_ld, (hs0_0 t).read_unread, (hs0_1 t).read_unread, View.ld_unit_zero (S := S1024x128) hz2, View.ld_unit_zero (S := S1024x512) hz2, View.readCov_cons_toLoadRect]
  rw [pay]
  pointwise [k0_pay1]

/-- The block written after the second. -/
theorem second (t : Fin cfg0.N) (h : t.val % 2 = 1) (k : Fin 128) (p : Fin 512) : (outsAt0 m c t.val t.isLt).1 (ix2 k p)
    = (outsAt0 m c (t.val - 1) (Nat.lt_of_le_of_lt (Nat.sub_le _ _) t.isLt)).2 (ix2 k p)
      + mulDw (iblk m c 0 t) (iblk m c 1 t) (ix2 k p) := by
  rw [outsAt0_B m c t (by omega) h]
  unfold out0_B_2
  rw [View.read_writes_junk_eq_canon]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x128) hz2, View.ld_unit_zero (S := S1024x512) hz2,
    View.ld_unit_zero (S := S128x512) hz2, View.readCov_cons_toLoadRect]
  rw [pay]

theorem flushes : ∀ t : Fin cfg0.N, (cfg0.win 2).flush t = true → t.val % 2 = 1 := by
  decide +kernel

open Cert.UDwRefIdeal.Read in
/-- What the reference computes, at the places of a block. -/
theorem ref (a : Mat 2048 4096) (b : Mat 2048 4096) (j : Fin 4) (s : Fin 2) (k : Fin 128) (p : Fin 512) :
    val_main_v12 (F := Ideal) a b (ix2 ⟨j.val * 128 + k.val, by omega⟩ ⟨s.val * 512 + p.val, by omega⟩) = ∑ r : Fin 2048, b (ix2 r (state s j p)) * a (ix2 r (wide j k)) := by
  pointwise [val_main_v12, val_main_v11, val_main_v10, val_main_v9, val_main_v8, val_main_v3, val_main_v2, val_main_v1]

/-- The array after the call. -/
theorem arr : (dats m 0 c).arrAt 2 cfg0.N = Cert.UDwRefIdeal.Read.val_main_v12 (F := Ideal) (V m c main_arg0) (V m c main_arg1) := by
  refine (dats m 0 c).arrAt_eq_of_covers 2 _ (by decide +kernel) fun t hf y => ?_
  blk_simp
  rw [after0_2]
  obtain ⟨k, p, rfl⟩ : ∃ (k : Fin 128) (p : Fin 512), y = ix2 k p := ⟨y 0, y 1, by idx_vars y⟩
  have ht : t.val < 16 := t.isLt
  have h := flushes t hf
  let u : Fin cfg0.N := ⟨t.val - 1, Nat.lt_of_le_of_lt (Nat.sub_le _ _) t.isLt⟩
  have e0 : u.val = t.val / 4 * 4 + t.val / 2 % 2 * 2 + (0 : Fin 2).val := by show t.val - 1 = _; simp only [Fin.val_zero]; omega
  have e1 : t.val = t.val / 4 * 4 + t.val / 2 % 2 * 2 + (1 : Fin 2).val := by simp only [Fin.val_one]; omega
  rw [emb_o t ⟨t.val / 4, by omega⟩ ⟨t.val / 2 % 2, by omega⟩ 1 e1, second m c t h, first m c u (by show (t.val - 1) % 2 = 0; omega)]
  refine (two_rows (sum_mul_congr (fun q => blk_a m c u ⟨t.val / 4, by omega⟩ ⟨t.val / 2 % 2, by omega⟩ 0 e0 q k) fun q => blk_b m c u ⟨t.val / 4, by omega⟩ ⟨t.val / 2 % 2, by omega⟩ 0 e0 q p)
    (sum_mul_congr (fun q => blk_a m c t ⟨t.val / 4, by omega⟩ ⟨t.val / 2 % 2, by omega⟩ 1 e1 q k) fun q => blk_b m c t ⟨t.val / 4, by omega⟩ ⟨t.val / 2 % 2, by omega⟩ 1 e1 q p)).trans (ref _ _ _ _ k p).symm

theorem frame_reference : Cert.quiescent_UDwRefIdeal (hUDwRefIdeal := Cert.UDwRefIdeal.Gen.facts) := fun m ρ _ =>
  (θ_run Cert.UDwRefIdeal.defs _ _).mono (fun r h => ⟨fun c => (h c).2, sem_eq_zero_of_no_sems (by decide) r.2⟩) (Cert.UDwRefIdeal.Value.run (F := Ideal) m ρ)

/-- The call and the plain gradient end with equal matrices. -/
theorem algebraic : Cert.algebraic_UDwIdeal_UDwRefIdeal (hUDwIdeal := Cert.UDwIdeal.Gen.facts)
    (hUDwRefIdeal := Cert.UDwRefIdeal.Gen.facts) := by
  intro m ρ m' ρ' _ hag
  refine Cert.Ends.same (Cert.UDwIdeal.Value.run_blocks m ρ) (Cert.UDwRefIdeal.Value.run (F := Ideal) m' ρ') fun c => ?_
  rw [arr m c, Cert.UDwRefIdeal.Read.val_main_v12_eq, (hag c).1, (hag c).2, V_main_arg0, V_main_arg1]

end Cert.UDwTie

namespace Cert.YDwTie

open Cert.YDwIdeal Cert.YDwIdeal.Gen

variable (m : (ℓ : Loc nD τ sig) → Buf (Elt Ideal) ℓ) (c : Dev nD)

theorem index : ∀ t : Fin cfg0.N, win0_0.index t = ![t.val % 2, t.val / 2] ∧ win0_1.index t = ![t.val % 2, t.val / 2 % 4] ∧ win0_2.index t = ![t.val / 2, 0] := by
  decide +kernel

section blocks

variable (t : Fin cfg0.N) (s : Fin 2) (j : Fin 4) (u : Fin 2) (e : t.val = s.val * 8 + j.val * 2 + u.val)

include e

theorem blk_a (q : Fin 1024) (p : Fin 512) : iblk m c 0 t (ix2 q p) = V m c main_arg0 (ix2 (col rows u q) (state s j p)) := by
  blk_ext [iblk, index t]

theorem blk_b (q : Fin 1024) (k : Fin 128) : iblk m c 1 t (ix2 q k) = V m c main_arg1 (ix2 (col rows u q) (chan j k)) := by
  blk_ext [iblk, index t]

theorem emb_o (p : Fin 512) (k : Fin 128) : (win0_2.blk t).view.emb (ix2 p k) = ix2 (state s j p) k := by
  blk_ext [index t]

end blocks

/-- What a point adds to the sum so far. -/
theorem pay (s : Vec Ideal S512x128 .f32) (a : Vec Ideal S1024x512 .f32) (b : Vec Ideal S1024x128 .bf16) (p : Fin 512) (k : Fin 128) :
    k0_pay2 (F := Ideal) s a b (ix2 p k) = s (ix2 p k) + mulDw a b (ix2 p k) := by
  pointwise [k0_pay2]
  rfl

/-- The sum after the first of a block's two points. -/
theorem first (t : Fin cfg0.N) (h : t.val % 2 = 0) (p : Fin 512) (k : Fin 128) :
    (outsAt0 m c t.val t.isLt).2 (ix2 p k) = mulDw (iblk m c 0 t) (iblk m c 1 t) (ix2 p k) := by
  rw [outsAt0_A m c t h (by omega)]
  unfold sout0_A_0
  rw [View.read_writes_junk_eq_canon]
  unfold kernelRun0_A
  dsimp only
  sl_unfold_words
  rw [View.canon_cons_unit_zero hz2]
  simp only [View.readAt_eq_ld, (hs0_0 t).read_unread, (hs0_1 t).read_unread, View.ld_unit_zero (S := S1024x512) hz2, View.ld_unit_zero (S := S1024x128) hz2, View.readCov_cons_toLoadRect]
  rw [pay]
  pointwise [k0_pay1]

/-- The block written after the second. -/
theorem second (t : Fin cfg0.N) (h : t.val % 2 = 1) (p : Fin 512) (k : Fin 128) : (outsAt0 m c t.val t.isLt).1 (ix2 p k)
    = (outsAt0 m c (t.val - 1) (Nat.lt_of_le_of_lt (Nat.sub_le _ _) t.isLt)).2 (ix2 p k)
      + mulDw (iblk m c 0 t) (iblk m c 1 t) (ix2 p k) := by
  rw [outsAt0_B m c t (by omega) h]
  unfold out0_B_2
  rw [View.read_writes_junk_eq_canon]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x512) hz2, View.ld_unit_zero (S := S1024x128) hz2,
    View.ld_unit_zero (S := S512x128) hz2, View.readCov_cons_toLoadRect]
  rw [pay]

theorem flushes : ∀ t : Fin cfg0.N, (cfg0.win 2).flush t = true → t.val % 2 = 1 := by
  decide +kernel

open Cert.YDwRefIdeal.Read in
/-- What the reference computes, at the places of a block. -/
theorem ref (a : Mat 2048 4096) (b : Mat 2048 512) (s : Fin 2) (j : Fin 4) (p : Fin 512) (k : Fin 128) :
    val_main_v11 (F := Ideal) a b (ix2 ⟨s.val * 2048 + j.val * 512 + p.val, by omega⟩ k) = ∑ r : Fin 2048, b (ix2 r (chan j k)) * a (ix2 r (state s j p)) := by
  pointwise [val_main_v11, val_main_v10, val_main_v9, val_main_v8, val_main_v7, val_main_v6, val_main_v1]

/-- The array after the call. -/
theorem arr : (dats m 0 c).arrAt 2 cfg0.N = Cert.YDwRefIdeal.Read.val_main_v11 (F := Ideal) (V m c main_arg0) (V m c main_arg1) := by
  refine (dats m 0 c).arrAt_eq_of_covers 2 _ (by decide +kernel) fun t hf y => ?_
  blk_simp
  rw [after0_2]
  obtain ⟨p, k, rfl⟩ : ∃ (p : Fin 512) (k : Fin 128), y = ix2 p k := ⟨y 0, y 1, by idx_vars y⟩
  have ht : t.val < 16 := t.isLt
  have h := flushes t hf
  let u : Fin cfg0.N := ⟨t.val - 1, Nat.lt_of_le_of_lt (Nat.sub_le _ _) t.isLt⟩
  have e0 : u.val = t.val / 8 * 8 + t.val / 2 % 4 * 2 + (0 : Fin 2).val := by show t.val - 1 = _; simp only [Fin.val_zero]; omega
  have e1 : t.val = t.val / 8 * 8 + t.val / 2 % 4 * 2 + (1 : Fin 2).val := by simp only [Fin.val_one]; omega
  rw [emb_o t ⟨t.val / 8, by omega⟩ ⟨t.val / 2 % 4, by omega⟩ 1 e1, second m c t h, first m c u (by show (t.val - 1) % 2 = 0; omega)]
  refine (two_rows (sum_mul_congr (fun q => blk_a m c u ⟨t.val / 8, by omega⟩ ⟨t.val / 2 % 4, by omega⟩ 0 e0 q p) fun q => blk_b m c u ⟨t.val / 8, by omega⟩ ⟨t.val / 2 % 4, by omega⟩ 0 e0 q k)
    (sum_mul_congr (fun q => blk_a m c t ⟨t.val / 8, by omega⟩ ⟨t.val / 2 % 4, by omega⟩ 1 e1 q p) fun q => blk_b m c t ⟨t.val / 8, by omega⟩ ⟨t.val / 2 % 4, by omega⟩ 1 e1 q k)).trans (ref _ _ _ _ p k).symm

theorem frame_reference : Cert.quiescent_YDwRefIdeal (hYDwRefIdeal := Cert.YDwRefIdeal.Gen.facts) := fun m ρ _ =>
  (θ_run Cert.YDwRefIdeal.defs _ _).mono (fun r h => ⟨fun c => (h c).2, sem_eq_zero_of_no_sems (by decide) r.2⟩) (Cert.YDwRefIdeal.Value.run (F := Ideal) m ρ)

/-- The call and the plain gradient end with equal matrices. -/
theorem algebraic : Cert.algebraic_YDwIdeal_YDwRefIdeal (hYDwIdeal := Cert.YDwIdeal.Gen.facts)
    (hYDwRefIdeal := Cert.YDwRefIdeal.Gen.facts) := by
  intro m ρ m' ρ' _ hag
  refine Cert.Ends.same (Cert.YDwIdeal.Value.run_blocks m ρ) (Cert.YDwRefIdeal.Value.run (F := Ideal) m' ρ') fun c => ?_
  rw [arr m c, Cert.YDwRefIdeal.Read.val_main_v11_eq, (hag c).1, (hag c).2, V_main_arg0, V_main_arg1]

end Cert.YDwTie

end
-- ==== Proof.SlabFwd.lean ====
module

public import proofs.«01_k».proof.Proof.Slabs
public import proofs.«01_k».proof.Proof.Ends
public import proofs.«01_k».proof.Proof.Gen.UIdeal.Value
public import proofs.«01_k».proof.Proof.Gen.URefIdeal.Run
public import proofs.«01_k».proof.Proof.Gen.URefIdeal.Read
public import proofs.«01_k».proof.Proof.Gen.YIdeal.Value
public import proofs.«01_k».proof.Proof.Gen.YRefIdeal.Run
public import proofs.«01_k».proof.Proof.Gen.YRefIdeal.Read
public import proofs.«01_k».proof.Defs

/-! The products into the state and out of it, slab by slab. -/

@[expose] public section

set_option maxRecDepth 16384

noncomputable section

open Idealize.ShloMosaic Idealize.ShloMosaic.TcCoe Idealize.SL.Sem Cert.Product Cert.Slabs

namespace Cert.UTie

open Cert.UIdeal Cert.UIdeal.Gen

variable (m : (ℓ : Loc nD τ sig) → Buf (Elt Ideal) ℓ) (c : Dev nD)

theorem index : ∀ t : Fin cfg0.N, win0_0.index t = ![0, 24 + t.val % 4] ∧ win0_1.index t = ![t.val % 4, t.val / 4] ∧ win0_2.index t = ![0, t.val / 4 * 4 + t.val % 4] := by
  decide +kernel

section blocks

variable (t : Fin cfg0.N) (s : Fin 2) (j : Fin 4) (e : t.val = s.val * 4 + j.val)

include e

theorem blk_a (r : Fin 2048) (k : Fin 128) : iblk m c 0 t (ix2 r k) = V m c main_arg0 (ix2 r (wide j k)) := by
  blk_ext [iblk, index t]

theorem blk_b (k : Fin 128) (p : Fin 512) : iblk m c 1 t (ix2 k p) = V m c main_arg1 (ix2 (chan j k) (tap s p)) := by
  blk_ext [iblk, index t]

theorem emb_o (r : Fin 2048) (p : Fin 512) : (win0_2.blk t).view.emb (ix2 r p) = ix2 r (state s j p) := by
  blk_ext [index t]

end blocks

/-- What a point adds to the sum so far. -/
theorem pay (s : Vec Ideal S2048x512 .f32) (a : Vec Ideal S2048x128 .bf16) (b : Vec Ideal S128x512 .bf16) (r : Fin 2048) (p : Fin 512) :
    k0_pay2 (F := Ideal) s a b (ix2 r p) = s (ix2 r p) + mul a b (ix2 r p) := by
  pointwise [k0_pay2]
  rfl

/-- A block of the result. -/
theorem block (t : Fin cfg0.N) (r : Fin 2048) (p : Fin 512) : outsAt0 m c t (ix2 r p) = mul (iblk m c 0 t) (iblk m c 1 t) (ix2 r p) := by
  unfold outsAt0 out0_A_2
  rw [View.read_writes_junk_eq_canon]
  unfold kernelRun0_A
  dsimp only
  sl_unfold_words
  rw [View.canon_unit_zero hz2]
  simp only [View.readAt_eq_ld, (hs0_0 t).read_unread, (hs0_1 t).read_unread, View.ld_unit_zero (S := S2048x128) hz2, View.ld_unit_zero (S := S128x512) hz2, View.readCov_cons_toLoadRect]
  rw [pay]
  pointwise [k0_pay1]

open Cert.URefIdeal.Read in
/-- What the reference computes, at the places of a block. -/
theorem ref (a : Mat 2048 4096) (b : Mat 512 1024) (s : Fin 2) (j : Fin 4) (r : Fin 2048) (p : Fin 512) :
    val_main_v7 (F := Ideal) a b (ix2 r ⟨s.val * 2048 + j.val * 512 + p.val, by omega⟩) = ∑ k : Fin 128, a (ix2 r (wide j k)) * b (ix2 (chan j k) (tap s p)) := by
  pointwise [val_main_v7, val_main_v6, val_main_v5, val_main_v4, val_main_v3, val_main_v2, val_main_v1, val_main_v0]
  exact Finset.sum_congr rfl fun k _ => mul_comm _ _

/-- The array after the call. -/
theorem arr : (dats m 0 c).arrAt 2 cfg0.N = Cert.URefIdeal.Read.val_main_v7 (F := Ideal) (V m c main_arg0) (V m c main_arg1) := by
  refine (dats m 0 c).arrAt_eq_of_covers 2 _ (by decide +kernel) fun t hf y => ?_
  blk_simp
  rw [after0_2]
  obtain ⟨r, p, rfl⟩ : ∃ (r : Fin 2048) (p : Fin 512), y = ix2 r p := ⟨y 0, y 1, by idx_vars y⟩
  have ht : t.val < 8 := t.isLt
  have e : t.val = t.val / 4 * 4 + t.val % 4 := by omega
  rw [emb_o t ⟨t.val / 4, by omega⟩ ⟨t.val % 4, by omega⟩ e]
  rw [block m c t r p, ref]
  exact sum_mul_congr (blk_a m c t ⟨t.val / 4, by omega⟩ ⟨t.val % 4, by omega⟩ e r) fun k => blk_b m c t ⟨t.val / 4, by omega⟩ ⟨t.val % 4, by omega⟩ e k p

theorem frame_reference : Cert.quiescent_URefIdeal (hURefIdeal := Cert.URefIdeal.Gen.facts) := fun m ρ _ =>
  (θ_run Cert.URefIdeal.defs _ _).mono (fun r h => ⟨fun c => (h c).2, sem_eq_zero_of_no_sems (by decide) r.2⟩) (Cert.URefIdeal.Value.run (F := Ideal) m ρ)

/-- The call and the plain product end with equal arrays. -/
theorem algebraic : Cert.algebraic_UIdeal_URefIdeal (hUIdeal := Cert.UIdeal.Gen.facts)
    (hURefIdeal := Cert.URefIdeal.Gen.facts) := by
  intro m ρ m' ρ' _ hag
  refine Cert.Ends.same (Cert.UIdeal.Value.run_blocks m ρ) (Cert.URefIdeal.Value.run (F := Ideal) m' ρ') fun c => ?_
  rw [arr m c, Cert.URefIdeal.Read.val_main_v7_eq, (hag c).1, (hag c).2, V_main_arg0, V_main_arg1]

end Cert.UTie

namespace Cert.YTie

open Cert.YIdeal Cert.YIdeal.Gen

variable (m : (ℓ : Loc nD τ sig) → Buf (Elt Ideal) ℓ) (c : Dev nD)

theorem index : ∀ t : Fin cfg0.N, win0_0.index t = ![0, t.val % 2 * 4 + t.val / 2] ∧ win0_1.index t = ![t.val % 2 * 4 + t.val / 2, 0] ∧ win0_2.index t = ![0, t.val / 2] := by
  decide +kernel

section blocks

variable (t : Fin cfg0.N) (j : Fin 4) (u : Fin 2) (e : t.val = j.val * 2 + u.val)

include e

theorem blk_a (r : Fin 2048) (p : Fin 512) : iblk m c 0 t (ix2 r p) = V m c main_arg0 (ix2 r (state u j p)) := by
  blk_ext [iblk, index t]

theorem blk_b (p : Fin 512) (k : Fin 128) : iblk m c 1 t (ix2 p k) = V m c main_arg1 (ix2 (state u j p) k) := by
  blk_ext [iblk, index t]

theorem emb_o (r : Fin 2048) (k : Fin 128) : (win0_2.blk t).view.emb (ix2 r k) = ix2 r (chan j k) := by
  blk_ext [index t]

end blocks

/-- What a point adds to the sum so far. -/
theorem pay (s : Vec Ideal S2048x128 .f32) (a : Vec Ideal S2048x512 .f32) (b : Vec Ideal S512x128 .bf16) (r : Fin 2048) (k : Fin 128) :
    k0_pay2 (F := Ideal) s a b (ix2 r k) = s (ix2 r k) + mul a b (ix2 r k) := by
  pointwise [k0_pay2]
  rfl

/-- The sum after the first of a block's two points. -/
theorem first (t : Fin cfg0.N) (h : t.val % 2 = 0) (r : Fin 2048) (k : Fin 128) :
    (outsAt0 m c t.val t.isLt).2 (ix2 r k) = mul (iblk m c 0 t) (iblk m c 1 t) (ix2 r k) := by
  rw [outsAt0_A m c t h (by omega)]
  unfold sout0_A_0
  rw [View.read_writes_junk_eq_canon]
  unfold kernelRun0_A
  dsimp only
  sl_unfold_words
  rw [View.canon_cons_unit_zero hz2]
  simp only [View.readAt_eq_ld, (hs0_0 t).read_unread, (hs0_1 t).read_unread, View.ld_unit_zero (S := S2048x512) hz2, View.ld_unit_zero (S := S512x128) hz2, View.readCov_cons_toLoadRect]
  rw [pay]
  pointwise [k0_pay1]

/-- The block written after the second. -/
theorem second (t : Fin cfg0.N) (h : t.val % 2 = 1) (r : Fin 2048) (k : Fin 128) : (outsAt0 m c t.val t.isLt).1 (ix2 r k)
    = (outsAt0 m c (t.val - 1) (Nat.lt_of_le_of_lt (Nat.sub_le _ _) t.isLt)).2 (ix2 r k)
      + mul (iblk m c 0 t) (iblk m c 1 t) (ix2 r k) := by
  rw [outsAt0_B m c t (by omega) h]
  unfold out0_B_2
  rw [View.read_writes_junk_eq_canon]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S2048x512) hz2, View.ld_unit_zero (S := S512x128) hz2,
    View.ld_unit_zero (S := S2048x128) hz2, View.readCov_cons_toLoadRect]
  rw [pay]

theorem flushes : ∀ t : Fin cfg0.N, (cfg0.win 2).flush t = true → t.val % 2 = 1 := by
  decide +kernel

open Cert.YRefIdeal.Read in
/-- What the reference computes, at the places of a block. -/
theorem ref (a : Mat 2048 4096) (b : Mat 4096 128) (j : Fin 4) (r : Fin 2048) (k : Fin 128) :
    val_main_v5 (F := Ideal) a b (ix2 r ⟨j.val * 128 + k.val, by omega⟩) = ∑ u : Fin 2, ∑ p : Fin 512, a (ix2 r (state u j p)) * b (ix2 (state u j p) k) := by
  pointwise [val_main_v5, val_main_v4, val_main_v3, val_main_v2, val_main_v1, val_main_v0]
  rw [Finset.sum_comm]
  exact Finset.sum_congr rfl fun u _ => Finset.sum_congr rfl fun p _ => mul_comm _ _

/-- The array after the call. -/
theorem arr : (dats m 0 c).arrAt 2 cfg0.N = Cert.YRefIdeal.Read.val_main_v5 (F := Ideal) (V m c main_arg0) (V m c main_arg1) := by
  refine (dats m 0 c).arrAt_eq_of_covers 2 _ (by decide +kernel) fun t hf y => ?_
  blk_simp
  rw [after0_2]
  obtain ⟨r, k, rfl⟩ : ∃ (r : Fin 2048) (k : Fin 128), y = ix2 r k := ⟨y 0, y 1, by idx_vars y⟩
  have ht : t.val < 8 := t.isLt
  have h := flushes t hf
  let u : Fin cfg0.N := ⟨t.val - 1, Nat.lt_of_le_of_lt (Nat.sub_le _ _) t.isLt⟩
  have e0 : u.val = t.val / 2 * 2 + (0 : Fin 2).val := by show t.val - 1 = _; simp only [Fin.val_zero]; omega
  have e1 : t.val = t.val / 2 * 2 + (1 : Fin 2).val := by simp only [Fin.val_one]; omega
  rw [emb_o t ⟨t.val / 2, by omega⟩ 1 e1, second m c t h, first m c u (by show (t.val - 1) % 2 = 0; omega)]
  refine (two (sum_mul_congr (blk_a m c u ⟨t.val / 2, by omega⟩ 0 e0 r) fun p => blk_b m c u ⟨t.val / 2, by omega⟩ 0 e0 p k)
    (sum_mul_congr (blk_a m c t ⟨t.val / 2, by omega⟩ 1 e1 r) fun p => blk_b m c t ⟨t.val / 2, by omega⟩ 1 e1 p k)).trans (ref _ _ _ r k).symm

theorem frame_reference : Cert.quiescent_YRefIdeal (hYRefIdeal := Cert.YRefIdeal.Gen.facts) := fun m ρ _ =>
  (θ_run Cert.YRefIdeal.defs _ _).mono (fun r h => ⟨fun c => (h c).2, sem_eq_zero_of_no_sems (by decide) r.2⟩) (Cert.YRefIdeal.Value.run (F := Ideal) m ρ)

/-- The call and the plain product end with equal arrays. -/
theorem algebraic : Cert.algebraic_YIdeal_YRefIdeal (hYIdeal := Cert.YIdeal.Gen.facts)
    (hYRefIdeal := Cert.YRefIdeal.Gen.facts) := by
  intro m ρ m' ρ' _ hag
  refine Cert.Ends.same (Cert.YIdeal.Value.run_blocks m ρ) (Cert.YRefIdeal.Value.run (F := Ideal) m' ρ') fun c => ?_
  rw [arr m c, Cert.YRefIdeal.Read.val_main_v5_eq, (hag c).1, (hag c).2, V_main_arg0, V_main_arg1]

end Cert.YTie

end
-- ==== Proof.Spatial.lean ====
module

public import proofs.«01_k».proof.Proof.Product
public import proofs.«01_k».proof.Proof.Gates

/-! The spatial gate: rows of four groups of 256 columns are normed, then each chunk of 128 rows is mixed, group by group, by a lower triangle. -/

@[expose] public section

noncomputable section

open Idealize.ShloMosaic Cert.Product

namespace Cert.Spatial

/-- A row, group by group. -/
abbrev Row : Type := Fin 4 → Fin 256 → EReal

theorem groups : 4 * 256 = 1024 := rfl

/-- Each column is a group's lane. -/
theorem lanes (k : Fin 1024) : ∃ (g : Fin 4) (p : Fin 256), k = ⟨g.val * 256 + p.val, by omega⟩ :=
  ⟨⟨k.val / 256, by omega⟩, ⟨k.val % 256, by omega⟩, Fin.ext (by show k.val = k.val / 256 * 256 + k.val % 256; omega)⟩

/-- A sum over the columns is the sum over the groups and their lanes. -/
theorem sum_lanes (f : Fin 1024 → EReal) : ∑ k, f k = ∑ g : Fin 4, ∑ k : Fin 256, f ⟨g.val * 256 + k.val, by omega⟩ :=
  sum_cols groups f

/-- The width of a row, 1024, as the programs write it. -/
def width : EReal := Ideal.ofBits FTy.f32 1149239296#32

/-- The mean of a row. -/
def mean (v : Row) : EReal := Ideal.div (∑ g, ∑ k, v g k) width

/-- The mean of the squares of what is left, and the small constant. -/
def spread (v : Row) : EReal := Ideal.div (∑ g, ∑ k, (v g k - mean v) * (v g k - mean v)) width + Ideal.ofBits FTy.f32 897988541#32

/-- What is left of an entry, brought to the size of one. -/
def unit (v : Row) (g : Fin 4) (k : Fin 256) : EReal := (v g k - mean v) * Ideal.rsqrt (spread v)

/-- The normed entry. -/
def norm (v s b : Row) (g : Fin 4) (k : Fin 256) : EReal := unit v g k * s g k + b g k

/-- What the lower triangle keeps at place `i`, `j`. -/
def keep (i j : Fin 128) (a : EReal) : EReal :=
  Scalar.select (IntOp.cmpi .sge (BitVec.ofNat 32 i.val) (BitVec.ofNat 32 j.val)) a (0 : EReal)

/-- The mixed entry: what the triangle keeps of the row of weights against the chunk's normed column, and the row's constant. -/
def mix (w : Fin 128 → EReal) (c : EReal) (v : Fin 128 → Row) (s b : Row) (i : Fin 128) (g : Fin 4) (k : Fin 256) : EReal :=
  (∑ j, keep i j (w j * norm (v j) s b g k)) + c

/-- The reference's mask of a mask keeps the same. -/
theorem keep_ref (i j : Fin 128) (a : EReal) : Scalar.select (Scalar.select (IntOp.cmpi .sge (IntOp.addi (BitVec.ofNat 32 i.val) 0#32) (BitVec.ofNat 32 j.val)) 1#1 0#1)
    a (0 : EReal) = keep i j a := by
  have h : IntOp.addi (BitVec.ofNat 32 i.val) 0#32 = BitVec.ofNat 32 i.val := BitVec.add_zero _
  rw [h]
  unfold keep Scalar.select
  generalize IntOp.cmpi CmpIPredicate.sge (BitVec.ofNat 32 i.val) (BitVec.ofNat 32 j.val) = p
  by_cases hp : p = 1#1 <;> simp [hp]

/-- The first group's columns are the first columns. -/
theorem first (k : Fin 256) : (⟨k.val, by omega⟩ : Fin 1024) = ⟨(0 : Fin 4).val * 256 + k.val, by have h : (0 : Fin 4).val = 0 := rfl; omega⟩ :=
  Fin.ext (by show k.val = 0 * 256 + k.val; omega)

/-- A store of group `n`'s 256 columns, where it holds the place of group `g`. -/
theorem tile {v : Fin 256 → Fin 4 → EReal} (n : Fin 4) {o : ℕ} (ho : n.val * 256 = o) (i : Fin 128) (g : Fin 4) (k : Fin 256) {w : Mat 128 256}
    (h : ∀ k, w (ix2 i k) = v k n) :
    ∀ x : At 128 256, (∀ a : Fin 2, ((ix2 i ⟨g.val * 256 + k.val, by omega⟩ : At 128 1024) a : ℕ) = (![0, o] : Fin 2 → ℕ) a + x a) → w x = v k g := by
  intro x hx
  have h0 : i.val = 0 + (x 0).val := hx 0
  have h1 : g.val * 256 + k.val = o + (x 1).val := hx 1
  have hk : (x 1).val < 256 := (x 1).isLt
  obtain rfl : g = n := Fin.ext (by omega)
  have e : x = ix2 i k := by
    funext a
    match a with
    | ⟨0, _⟩ => exact Fin.ext (by show (x 0).val = i.val; omega)
    | ⟨1, _⟩ => exact Fin.ext (by show (x 1).val = k.val; omega)
  rw [e]
  exact h k

end Cert.Spatial

end
-- ==== Proof.SpatialFwd.lean ====
module

public import proofs.«01_k».proof.Proof.Spatial
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Defs

/-! The spatial gate's forward pass. -/

@[expose] public section

set_option maxRecDepth 16384

noncomputable section

open Idealize.ShloMosaic Idealize.ShloMosaic.TcCoe Idealize.SL.Sem Cert.Product Cert.Gates Cert.Spatial

namespace Cert.SguFwdTie

open Cert.SguFwdIdeal Cert.SguFwdIdeal.Gen Cert.SguFwdRefIdeal.Read

variable (m : (ℓ : Loc nD τ sig) → Buf (Elt Ideal) ℓ) (c : Dev nD)

theorem height : 16 * 128 = 2048 := rfl

theorem index : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0, 0] ∧ win0_7.index t = ![t.val, 0] := by
  decide +kernel

section blocks

variable (t : Fin cfg0.N) (i : Fin 128) (k : Fin 1024)

theorem blk_u : iblk m c 0 t (ix2 i k) = V m c main_arg0 (ix2 (col height t i) ⟨k.val, by omega⟩) := by
  blk_ext [iblk, index t]

theorem blk_v : iblk m c 1 t (ix2 i k) = V m c main_arg0 (ix2 (col height t i) ⟨1024 + k.val, by omega⟩) := by
  blk_ext [iblk, index t]

theorem blk_g : iblk m c 2 t (ix2 i k) = V m c main_arg0 (ix2 (col height t i) ⟨2048 + k.val, by omega⟩) := by
  blk_ext [iblk, index t]

theorem blk_s : iblk m c 3 t = V m c main_arg1 := by
  funext y
  obtain ⟨u, k, rfl⟩ : ∃ (u : Fin 1) (k : Fin 1024), y = ix2 u k := ⟨y 0, y 1, by idx_vars y⟩
  blk_ext [iblk, index t]

theorem blk_b : iblk m c 4 t = V m c main_arg2 := by
  funext y
  obtain ⟨u, k, rfl⟩ : ∃ (u : Fin 1) (k : Fin 1024), y = ix2 u k := ⟨y 0, y 1, by idx_vars y⟩
  blk_ext [iblk, index t]

theorem blk_w : iblk m c 5 t = V m c main_arg3 := by
  funext y
  obtain ⟨g, i, j, rfl⟩ : ∃ (g : Fin 4) (i : Fin 128) (j : Fin 128), y = ix3 g i j := ⟨y 0, y 1, y 2, by idx_vars y⟩
  blk_ext [iblk, index t]

theorem blk_c : iblk m c 6 t = V m c main_arg4 := by
  funext y
  obtain ⟨g, i, j, rfl⟩ : ∃ (g : Fin 4) (i : Fin 128) (j : Fin 1), y = ix3 g i j := ⟨y 0, y 1, y 2, by idx_vars y⟩
  blk_ext [iblk, index t]

theorem emb : (win0_7.blk t).view.emb (ix2 i k) = ix2 (col height t i) k := by
  blk_ext [index t]

end blocks

section block

variable (u v z : Vec Ideal S128x1024 .bf16) (s b : Mat 1 1024) (w : Stack 4 128 128) (e : Stack 4 128 1) (i : Fin 128) (k : Fin 256)

/-- The means of a block's rows. -/
theorem block_mean : k0_pay40 (F := Ideal) u v z s b w e (ix2 i 0) = mean (fun g k => v (ix2 i ⟨g.val * 256 + k.val, by omega⟩)) := by
  unfold k0_pay40 k0_pay39 k0_pay38 k0_pay37 k0_pay36 k0_pay35
  pointwise [k0_pay26, k0_pay25, k0_pay12, k0_pay11, k0_pay10, k0_pay9]
  exact congrArg (Ideal.div · _) (Fin.sum_univ_four (fun g : Fin 4 => ∑ k : Fin 256, (v (ix2 i ⟨g.val * 256 + k.val, by omega⟩) : EReal))).symm

theorem pay_rs (a0 a1 a2 a3 : Mat 128 256) (q : Mat 128 1) (x : EReal) (h : k0_pay26 (F := Ideal) a1 a2 a3 q (ix2 i 0) = x) :
    k0_pay27 (F := Ideal) a0 a1 a2 a3 q (ix2 i 0)
    = Ideal.rsqrt (Ideal.div ((∑ k, (a0 (ix2 i k) - x) * (a0 (ix2 i k) - x)) + (∑ k, (a1 (ix2 i k) - x) * (a1 (ix2 i k) - x))
      + (∑ k, (a2 (ix2 i k) - x) * (a2 (ix2 i k) - x)) + (∑ k, (a3 (ix2 i k) - x) * (a3 (ix2 i k) - x))) width + Ideal.ofBits FTy.f32 897988541#32) := by
  subst h
  pointwise [k0_pay27]
  rfl

/-- What the rows are multiplied by. -/
theorem block_rs : k0_pay41 (F := Ideal) u v z s b w e (ix2 i 0) = Ideal.rsqrt (spread (fun g k => v (ix2 i ⟨g.val * 256 + k.val, by omega⟩))) := by
  refine (pay_rs i _ _ _ _ _ _ (block_mean u v z s b w e i)).trans ?_
  unfold k0_pay38 k0_pay37 k0_pay36 k0_pay35
  pointwise [k0_pay12, k0_pay11, k0_pay10, k0_pay9]
  unfold spread
  rw [Fin.sum_univ_four]
  rfl

/-- The gated entry. -/
def gated (g : Fin 4) : EReal :=
  u (ix2 i ⟨g.val * 256 + k.val, by omega⟩) * mix (fun j => w (ix3 g i j)) (e (ix3 g i 0)) (fun j g k => v (ix2 j ⟨g.val * 256 + k.val, by omega⟩))
    (fun g k => s (ix2 0 ⟨g.val * 256 + k.val, by omega⟩)) (fun g k => b (ix2 0 ⟨g.val * 256 + k.val, by omega⟩)) i g k
    * silu (z (ix2 i ⟨g.val * 256 + k.val, by omega⟩))

theorem mean_again : k0_pay26 (F := Ideal) (k0_pay36 u v z s b w e) (k0_pay37 u v z s b w e) (k0_pay38 u v z s b w e) (k0_pay39 u v z s b w e)
    = k0_pay40 u v z s b w e := rfl

theorem rs_again : k0_pay27 (F := Ideal) (k0_pay35 u v z s b w e) (k0_pay36 u v z s b w e) (k0_pay37 u v z s b w e) (k0_pay38 u v z s b w e)
    (k0_pay39 u v z s b w e) = k0_pay41 u v z s b w e := rfl

theorem block (g : Fin 4) : out0_7 (F := Ideal) u v z s b w e (ix2 i ⟨g.val * 256 + k.val, by omega⟩) = gated u v z s b w e i k g := by
  unfold out0_7
  refine View.canon_eq_of_allAt _ _ _ (cover0_7 _ _ _ _ _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · refine tile (v := gated u v z s b w e i) 3 rfl i g k fun k => ?_
    pointwise [k0_pay4, k0_pay33, k0_pay34, k0_pay42, k0_pay28]
    simp only [block_mean, block_rs]
    pointwise [k0_pay8, k0_pay12, k0_pay16, k0_pay20, k0_pay24, k0_pay38]
    rfl
  · refine tile (v := gated u v z s b w e i) 2 rfl i g k fun k => ?_
    pointwise [k0_pay3, k0_pay32, k0_pay42, k0_pay28]
    simp only [block_mean, block_rs]
    pointwise [k0_pay7, k0_pay11, k0_pay15, k0_pay19, k0_pay23, k0_pay37]
    rfl
  · refine tile (v := gated u v z s b w e i) 1 rfl i g k fun k => ?_
    pointwise [k0_pay2, k0_pay31, k0_pay42, k0_pay28]
    simp only [block_mean, block_rs]
    pointwise [k0_pay6, k0_pay10, k0_pay14, k0_pay18, k0_pay22, k0_pay36]
    rfl
  · refine tile (v := gated u v z s b w e i) 0 rfl i g k fun k => ?_
    pointwise [k0_pay1, k0_pay30, k0_pay29, k0_pay42, k0_pay28]
    simp only [mean_again, rs_again, block_mean, block_rs]
    pointwise [k0_pay5, k0_pay9, k0_pay13, k0_pay17, k0_pay21, k0_pay35]
    simp only [first]
    rfl

end block

variable (z : Mat 2048 4096) (s b : Mat 1 1024) (w : Stack 4 128 128) (e : Stack 4 128 1)

/-- What the reference computes, at the places of a block. -/
theorem ref (n : Fin 16) (i : Fin 128) (g : Fin 4) (k : Fin 256) :
    val_main_v43 (F := Ideal) z s b w e (ix2 ⟨n.val * 128 + i.val, by omega⟩ ⟨g.val * 256 + k.val, by omega⟩)
    = z (ix2 ⟨n.val * 128 + i.val, by omega⟩ ⟨g.val * 256 + k.val, by omega⟩) * mix (fun j => w (ix3 g i j)) (e (ix3 g i 0))
      (fun j g k => z (ix2 ⟨n.val * 128 + j.val, by omega⟩ ⟨1024 + (g.val * 256 + k.val), by omega⟩)) (fun g k => s (ix2 0 ⟨g.val * 256 + k.val, by omega⟩))
      (fun g k => b (ix2 0 ⟨g.val * 256 + k.val, by omega⟩)) i g k * silu (z (ix2 ⟨n.val * 128 + i.val, by omega⟩ ⟨2048 + (g.val * 256 + k.val), by omega⟩)) := by
  pointwise [val_main_v0, val_main_v1, val_main_v2, val_main_v3, val_main_cst, val_main_v4, val_main_v5, val_main_cst_0, val_main_v6, val_main_v7, val_main_v8, val_main_v9, val_main_v10, val_main_cst_1, val_main_v11, val_main_v12, val_main_cst_2, val_main_v13, val_main_v14, val_main_v15, val_main_v16, val_main_cst_3, val_main_v17, val_main_v18, val_main_v19, val_main_v20, val_main_v21, val_main_v22, val_main_v23, val_main_v24, val_main_v25, val_main_v26, val_main_c, val_main_v27, val_main_call0_v0, val_main_call0_c, val_main_call0_v1, val_main_call0_v2, val_main_call0_v3, val_main_call0_v4, val_main_call0_c_0, val_main_call0_v5, val_main_v28, val_main_v29, val_main_cst_4, val_main_v30, val_main_call1_v0, val_main_v31, val_main_v32, val_main_v33, val_main_v34, val_main_v35, val_main_v36, val_main_v37, val_main_v38, val_main_v39, val_main_v40, val_main_call2_v0, val_main_call2_v1, val_main_call2_cst, val_main_call2_v2, val_main_call2_v3, val_main_call2_cst_0, val_main_call2_v4, val_main_call2_v5, val_main_v41, val_main_v42, val_main_v43]
  simp only [sum_lanes, keep_ref, mul_comm _ (w _)]
  rfl

/-- The array after the call. -/
theorem arr : (dats m 0 c).arrAt 7 cfg0.N = val_main_v43 (F := Ideal) (V m c main_arg0) (V m c main_arg1) (V m c main_arg2) (V m c main_arg3) (V m c main_arg4) := by
  refine (dats m 0 c).arrAt_eq_of_covers 7 _ (by decide +kernel) fun t hf y => ?_
  blk_simp
  rw [after0_7]
  obtain ⟨i, k, rfl⟩ : ∃ (i : Fin 128) (k : Fin 1024), y = ix2 i k := ⟨y 0, y 1, by idx_vars y⟩
  obtain ⟨g, k, rfl⟩ := lanes k
  rw [emb, block, gated, blk_s, blk_b, blk_w, blk_c]
  simp only [blk_u, blk_v, blk_g]
  exact (ref _ _ _ _ _ t i g k).symm

theorem frame_reference : Cert.quiescent_SguFwdRefIdeal (hSguFwdRefIdeal := Cert.SguFwdRefIdeal.Gen.facts) := fun m ρ _ =>
  (θ_run Cert.SguFwdRefIdeal.defs _ _).mono (fun r h => ⟨fun c => (h c).2, sem_eq_zero_of_no_sems (by decide) r.2⟩)
    (Cert.SguFwdRefIdeal.Value.run (F := Ideal) m ρ)

/-- The call and the plain function end with equal arrays. -/
theorem algebraic : Cert.algebraic_SguFwdIdeal_SguFwdRefIdeal (hSguFwdIdeal := Cert.SguFwdIdeal.Gen.facts)
    (hSguFwdRefIdeal := Cert.SguFwdRefIdeal.Gen.facts) := by
  intro m ρ m' ρ' _ hag
  refine ⟨_, Cert.SguFwdIdeal.Value.run_blocks m ρ, (θ_run Cert.SguFwdRefIdeal.defs _ _).mono (fun r h c =>
    ⟨(h c).1.trans ?_, (h c).2⟩) (Cert.SguFwdRefIdeal.Value.run (F := Ideal) m' ρ')⟩ <;>
    obtain ⟨e0, e1, e2, e3, e4⟩ := hag c
  · rw [arr m c, val_main_v43_eq, e0, e1, e2, e3, e4, V_main_arg0, V_main_arg1, V_main_arg2, V_main_arg3, V_main_arg4]

end Cert.SguFwdTie

end
-- ==== Proof.SpatialBwd.lean ====
module

public import proofs.«01_k».proof.Proof.Spatial
public import proofs.«01_k».proof.Proof.Gen.SguSidesIdeal.Value
public import proofs.«01_k».proof.Proof.Gen.SguSidesRefIdeal.Run
public import proofs.«01_k».proof.Proof.Gen.SguSidesRefIdeal.Read
public import proofs.«01_k».proof.Defs

/-! The spatial gate's gradient, in the rows that are gated and in the gate. -/

@[expose] public section

set_option maxRecDepth 16384

noncomputable section

open Idealize.ShloMosaic Idealize.ShloMosaic.TcCoe Idealize.SL.Sem Cert.Product Cert.Gates Cert.Spatial

namespace Cert.SguSidesTie

open Cert.SguSidesIdeal Cert.SguSidesIdeal.Gen

variable (m : (ℓ : Loc nD τ sig) → Buf (Elt Ideal) ℓ) (c : Dev nD)

theorem height : 16 * 128 = 2048 := rfl

theorem index : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0, 0] ∧ win0_7.index t = ![t.val, 0]
    ∧ win0_8.index t = ![t.val, 0] ∧ win0_10.index t = ![t.val, 0] := by
  decide +kernel

section blocks

variable (t : Fin cfg0.N) (i : Fin 128) (k : Fin 1024)

theorem blk_u : iblk m c 0 t (ix2 i k) = V m c main_arg0 (ix2 (col height t i) ⟨k.val, by omega⟩) := by
  blk_ext [iblk, index t]

theorem blk_v : iblk m c 1 t (ix2 i k) = V m c main_arg0 (ix2 (col height t i) ⟨1024 + k.val, by omega⟩) := by
  blk_ext [iblk, index t]

theorem blk_g : iblk m c 2 t (ix2 i k) = V m c main_arg0 (ix2 (col height t i) ⟨2048 + k.val, by omega⟩) := by
  blk_ext [iblk, index t]

theorem blk_s : iblk m c 3 t = V m c main_arg1 := by
  funext y
  obtain ⟨u, k, rfl⟩ : ∃ (u : Fin 1) (k : Fin 1024), y = ix2 u k := ⟨y 0, y 1, by idx_vars y⟩
  blk_ext [iblk, index t]

theorem blk_b : iblk m c 4 t = V m c main_arg2 := by
  funext y
  obtain ⟨u, k, rfl⟩ : ∃ (u : Fin 1) (k : Fin 1024), y = ix2 u k := ⟨y 0, y 1, by idx_vars y⟩
  blk_ext [iblk, index t]

theorem blk_w : iblk m c 5 t = V m c main_arg3 := by
  funext y
  obtain ⟨g, i, j, rfl⟩ : ∃ (g : Fin 4) (i : Fin 128) (j : Fin 128), y = ix3 g i j := ⟨y 0, y 1, y 2, by idx_vars y⟩
  blk_ext [iblk, index t]

theorem blk_c : iblk m c 6 t = V m c main_arg4 := by
  funext y
  obtain ⟨g, i, j, rfl⟩ : ∃ (g : Fin 4) (i : Fin 128) (j : Fin 1), y = ix3 g i j := ⟨y 0, y 1, y 2, by idx_vars y⟩
  blk_ext [iblk, index t]

theorem blk_d : X0_7 m c t (ix2 i k) = V m c main_arg5 (ix2 (col height t i) ⟨k.val, by omega⟩) := by
  unfold X0_7 Pipeline.Window.fill
  rw [dif_pos (moved0_7 t _)]
  blk_ext [iblk, index t]

theorem emb_u : (win0_8.blk t).view.emb (ix2 i k) = ix2 (col height t i) k := by
  blk_ext [index t]

theorem emb_g : (win0_10.blk t).view.emb (ix2 i k) = ix2 (col height t i) k := by
  blk_ext [index t]

end blocks

section groups

variable (a0 a1 a2 a3 : Mat 128 256) (s b : Mat 1 256) (w : Mat 128 128) (e : Mat 128 1) (i : Fin 128) (k : Fin 256)

/-- Row `i` of four groups. -/
def row (i : Fin 128) : Row := fun g k => (![a0, a1, a2, a3] : Fin 4 → Mat 128 256) g (ix2 i k)

/-- The means of the rows. -/
theorem pay_mean : k0_pay23 (F := Ideal) a0 a1 a2 a3 (ix2 i 0) = mean (row a0 a1 a2 a3 i) := by
  pointwise [k0_pay23]
  exact congrArg (Ideal.div · _) (Fin.sum_univ_four (fun g : Fin 4 => ∑ k : Fin 256, row a0 a1 a2 a3 i g k)).symm

/-- What the rows are multiplied by. -/
theorem pay_rs : k0_pay34 (F := Ideal) (k0_pay30 a0 a1 a2 a3) (k0_pay31 a0 a1 a2 a3) (ix2 i 0) = Ideal.rsqrt (spread (row a0 a1 a2 a3 i)) := by
  pointwise [k0_pay34, k0_pay33, k0_pay30, k0_pay31, k0_pay24, k0_pay26, k0_pay28]
  simp only [pay_mean]
  unfold spread
  rw [Fin.sum_univ_four]
  rfl

/-- The mixed entries of a group of columns `a`. -/
def mixed (a : Mat 128 256) : EReal :=
  (∑ j, keep i j (w (ix2 i j) * ((a (ix2 j k) - mean (row a0 a1 a2 a3 j)) * Ideal.rsqrt (spread (row a0 a1 a2 a3 j)) * s (ix2 0 k) + b (ix2 0 k)))) + e (ix2 i 0)

/-- The rows of a block, taken group by group. -/
theorem row_ld (v : Vec Ideal S128x1024 .bf16) : row (k0_pay7 (View.ld v (Rect.unit ![0, 0] S128x256.size inb_S128x1024_S128x256_0_0)))
    (k0_pay8 (View.ld v (Rect.unit ![0, 256] S128x256.size inb_S128x1024_S128x256_0_256)))
    (k0_pay9 (View.ld v (Rect.unit ![0, 512] S128x256.size inb_S128x1024_S128x256_0_512)))
    (k0_pay10 (View.ld v (Rect.unit ![0, 768] S128x256.size inb_S128x1024_S128x256_0_768))) i = fun g k => v (ix2 i ⟨g.val * 256 + k.val, by omega⟩) := by
  funext g k
  match g with
  | 0 =>
    show k0_pay7 (F := Ideal) _ (ix2 i k) = _
    pointwise [k0_pay7]
  | 1 =>
    show k0_pay8 (F := Ideal) _ (ix2 i k) = _
    pointwise [k0_pay8]
  | 2 =>
    show k0_pay9 (F := Ideal) _ (ix2 i k) = _
    pointwise [k0_pay9]
  | 3 =>
    show k0_pay10 (F := Ideal) _ (ix2 i k) = _
    pointwise [k0_pay10]

theorem mixed0 : k0_pay41 (F := Ideal) a0 s b w e (k0_pay23 a0 a1 a2 a3) (k0_pay30 a0 a1 a2 a3) (k0_pay31 a0 a1 a2 a3) (ix2 i k)
    = mixed a0 a1 a2 a3 s b w e i k a0 := by
  pointwise [k0_pay41, k0_pay39, k0_pay40, k0_pay38, k0_pay37, k0_pay36]
  simp only [pay_mean, pay_rs]
  rfl

theorem mixed1 : k0_pay50 (F := Ideal) e (k0_pay48 w) (k0_pay49 a1 s b (k0_pay23 a0 a1 a2 a3) (k0_pay30 a0 a1 a2 a3) (k0_pay31 a0 a1 a2 a3))
    (constant S128x256 .f32 0x00000000#32) (ix2 i k) = mixed a0 a1 a2 a3 s b w e i k a1 := by
  pointwise [k0_pay50, k0_pay48, k0_pay49, k0_pay47, k0_pay46, k0_pay36]
  simp only [pay_mean, pay_rs]
  rfl

theorem mixed2 : k0_pay59 (F := Ideal) a2 s b w e (k0_pay23 a0 a1 a2 a3) (k0_pay34 (k0_pay30 a0 a1 a2 a3) (k0_pay31 a0 a1 a2 a3)) k0_pay36 (ix2 i k)
    = mixed a0 a1 a2 a3 s b w e i k a2 := by
  pointwise [k0_pay59, k0_pay57, k0_pay58, k0_pay56, k0_pay55, k0_pay36]
  simp only [pay_mean, pay_rs]
  rfl

theorem mixed3 : k0_pay68 (F := Ideal) a3 s b w e (k0_pay23 a0 a1 a2 a3) (k0_pay34 (k0_pay30 a0 a1 a2 a3) (k0_pay31 a0 a1 a2 a3)) k0_pay36 (ix2 i k)
    = mixed a0 a1 a2 a3 s b w e i k a3 := by
  pointwise [k0_pay68, k0_pay66, k0_pay67, k0_pay65, k0_pay64, k0_pay36]
  simp only [pay_mean, pay_rs]
  rfl

end groups

section block

variable (t : Fin cfg0.N) (i : Fin 128) (k : Fin 256)

/-- The mixed entry, in a block's terms. -/
def blockMix (g : Fin 4) : EReal :=
  mix (fun j => iblk m c 5 t (ix3 g i j)) (iblk m c 6 t (ix3 g i 0)) (fun j g k => iblk m c 1 t (ix2 j ⟨g.val * 256 + k.val, by omega⟩))
    (fun g k => iblk m c 3 t (ix2 0 ⟨g.val * 256 + k.val, by omega⟩)) (fun g k => iblk m c 4 t (ix2 0 ⟨g.val * 256 + k.val, by omega⟩)) i g k

/-- What the gated entry is sent back. -/
def toRow (g : Fin 4) : EReal :=
  through (iblk m c 2 t (ix2 i ⟨g.val * 256 + k.val, by omega⟩)) (X0_7 m c t (ix2 i ⟨g.val * 256 + k.val, by omega⟩)) * blockMix m c t i k g

/-- What the gate's entry is sent back. -/
def toGate (g : Fin 4) : EReal :=
  opening (iblk m c 2 t (ix2 i ⟨g.val * 256 + k.val, by omega⟩)) (@HMul.hMul EReal EReal EReal _ (iblk m c 0 t (ix2 i ⟨g.val * 256 + k.val, by omega⟩)) (blockMix m c t i k g))
    (X0_7 m c t (ix2 i ⟨g.val * 256 + k.val, by omega⟩))

set_option maxHeartbeats 2000000 in
/-- In the block for the gated rows. -/
theorem block_u (g : Fin 4) : (outsAt0 m c t.val t.isLt).1 (ix2 i ⟨g.val * 256 + k.val, by omega⟩) = toRow m c t i k g := by
  by_cases h : t.val % 16 = 0
  on_goal 1 =>
    rw [outsAt0_A m c t h]
    unfold out0_A_8
    rw [View.read_writes_junk_eq_canon]
    refine View.canon_eq_of_allAt _ _ _ (cover0_A_8 ..) ?_
    unfold kernelRun0_A
  on_goal 2 =>
    rw [outsAt0_B m c t h]
    unfold out0_B_8
    rw [View.read_writes_junk_eq_canon]
    refine View.canon_eq_of_allAt _ _ _ (cover0_B_8 ..) ?_
    unfold kernelRun0_B
  all_goals
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread]
    refine View.allAt_cons_unit _ _ _ _ _ ?_ (View.allAt_cons_unit _ _ _ _ _ ?_ (View.allAt_cons_unit _ _ _ _ _ ?_
      (View.allAt_cons_unit _ _ _ _ _ ?_ (View.allAt_nil _ _))))
  any_goals
    refine tile (v := toRow m c t i) 3 rfl i g k fun k => ?_
    pointwise [k0_pay137, k0_pay75, k0_pay72, k0_pay69, k0_pay14]
    rw [mixed3]
    unfold mixed
    simp only [row_ld]
    pointwise [k0_pay18, k0_pay22, k0_pay10]
    rfl
  any_goals
    refine tile (v := toRow m c t i) 2 rfl i g k fun k => ?_
    pointwise [k0_pay136, k0_pay88, k0_pay85, k0_pay63, k0_pay61, k0_pay13]
    rw [mixed2]
    unfold mixed
    simp only [row_ld]
    pointwise [k0_pay17, k0_pay21, k0_pay9]
    rfl
  any_goals
    refine tile (v := toRow m c t i) 1 rfl i g k fun k => ?_
    pointwise [k0_pay135, k0_pay103, k0_pay100, k0_pay54, k0_pay52, k0_pay12]
    rw [mixed1]
    unfold mixed
    simp only [row_ld]
    pointwise [k0_pay16, k0_pay20, k0_pay8]
    rfl
  any_goals
    refine tile (v := toRow m c t i) 0 rfl i g k fun k => ?_
    pointwise [k0_pay134, k0_pay114, k0_pay111, k0_pay45, k0_pay43, k0_pay11]
    rw [mixed0]
    unfold mixed
    simp only [row_ld]
    pointwise [k0_pay15, k0_pay19, k0_pay7]
    simp only [first]
    rfl

set_option maxHeartbeats 2000000 in
/-- In the block for the gate. -/
theorem block_g (g : Fin 4) : (outsAt0 m c t.val t.isLt).2.2.1 (ix2 i ⟨g.val * 256 + k.val, by omega⟩) = toGate m c t i k g := by
  by_cases h : t.val % 16 = 0
  on_goal 1 =>
    rw [outsAt0_A m c t h]
    unfold out0_A_10
    rw [View.read_writes_junk_eq_canon]
    refine View.canon_eq_of_allAt _ _ _ (cover0_A_10 ..) ?_
    unfold kernelRun0_A
  on_goal 2 =>
    rw [outsAt0_B m c t h]
    unfold out0_B_10
    rw [View.read_writes_junk_eq_canon]
    refine View.canon_eq_of_allAt _ _ _ (cover0_B_10 ..) ?_
    unfold kernelRun0_B
  all_goals
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread]
    refine View.allAt_cons_unit _ _ _ _ _ ?_ (View.allAt_cons_unit _ _ _ _ _ ?_ (View.allAt_cons_unit _ _ _ _ _ ?_
      (View.allAt_cons_unit _ _ _ _ _ ?_ (View.allAt_nil _ _))))
  any_goals
    refine tile (v := toGate m c t i) 3 rfl i g k fun k => ?_
    pointwise [k0_pay145, k0_pay73, k0_pay71, k0_pay70, k0_pay69, k0_pay14, k0_pay6]
    rw [mixed3]
    unfold mixed
    simp only [row_ld]
    pointwise [k0_pay18, k0_pay22, k0_pay10]
    rfl
  any_goals
    refine tile (v := toGate m c t i) 2 rfl i g k fun k => ?_
    pointwise [k0_pay144, k0_pay86, k0_pay60, k0_pay61, k0_pay62, k0_pay13, k0_pay5]
    rw [mixed2]
    unfold mixed
    simp only [row_ld]
    pointwise [k0_pay17, k0_pay21, k0_pay9]
    rfl
  any_goals
    refine tile (v := toGate m c t i) 1 rfl i g k fun k => ?_
    pointwise [k0_pay143, k0_pay101, k0_pay51, k0_pay52, k0_pay53, k0_pay12, k0_pay4]
    rw [mixed1]
    unfold mixed
    simp only [row_ld]
    pointwise [k0_pay16, k0_pay20, k0_pay8]
    rfl
  any_goals
    refine tile (v := toGate m c t i) 0 rfl i g k fun k => ?_
    pointwise [k0_pay142, k0_pay112, k0_pay42, k0_pay43, k0_pay44, k0_pay11, k0_pay3]
    rw [mixed0]
    unfold mixed
    simp only [row_ld]
    pointwise [k0_pay15, k0_pay19, k0_pay7]
    simp only [first]
    rfl

end block

section reference

open Cert.SguSidesRefIdeal.Read

variable (z : Mat 2048 4096) (s b : Mat 1 1024) (w : Stack 4 128 128) (e : Stack 4 128 1) (d : Mat 2048 1536) (n : Fin 16) (i : Fin 128) (g : Fin 4) (k : Fin 256)

/-- The mixed entry, at the places of a block. -/
def refMix : EReal :=
  mix (fun j => w (ix3 g i j)) (e (ix3 g i 0)) (fun j g k => z (ix2 ⟨n.val * 128 + j.val, by omega⟩ ⟨1024 + (g.val * 256 + k.val), by omega⟩))
    (fun g k => s (ix2 0 ⟨g.val * 256 + k.val, by omega⟩)) (fun g k => b (ix2 0 ⟨g.val * 256 + k.val, by omega⟩)) i g k

theorem ref_mix : val_main_v39 (F := Ideal) z s b w e (ix2 ⟨n.val * 128 + i.val, by omega⟩ ⟨g.val * 256 + k.val, by omega⟩) = refMix z s b w e n i g k := by
  pointwise [val_main_v0, val_main_v1, val_main_v2, val_main_v3, val_main_cst, val_main_v4, val_main_v5, val_main_cst_0, val_main_v6, val_main_v7,
    val_main_v8, val_main_v9, val_main_v10, val_main_cst_1, val_main_v11, val_main_v12, val_main_cst_2, val_main_v13, val_main_v14, val_main_v15,
    val_main_v16, val_main_cst_3, val_main_v17, val_main_v18, val_main_v19, val_main_v20, val_main_v21, val_main_v22, val_main_v23, val_main_v24,
    val_main_v25, val_main_v26, val_main_c, val_main_v27, val_main_call0_v0, val_main_call0_c, val_main_call0_v1, val_main_call0_v2,
    val_main_call0_v3, val_main_call0_v4, val_main_call0_c_0, val_main_call0_v5, val_main_v28, val_main_v29, val_main_cst_4, val_main_v30,
    val_main_call1_v0, val_main_v31, val_main_v32, val_main_v33, val_main_v34, val_main_v35, val_main_v36, val_main_v37, val_main_v38, val_main_v39]
  simp only [sum_lanes, keep_ref, mul_comm _ (w _)]
  rfl

theorem ref_u : val_main_v48 (F := Ideal) z s b w e d (ix2 ⟨n.val * 128 + i.val, by omega⟩ ⟨g.val * 256 + k.val, by omega⟩)
    = through (z (ix2 ⟨n.val * 128 + i.val, by omega⟩ ⟨2048 + (g.val * 256 + k.val), by omega⟩))
      (d (ix2 ⟨n.val * 128 + i.val, by omega⟩ ⟨g.val * 256 + k.val, by omega⟩)) * refMix z s b w e n i g k := by
  pointwise [val_main_v2, val_main_v40, val_main_call2_v0, val_main_call2_v1, val_main_call2_cst, val_main_call2_v2, val_main_call2_v3, val_main_call2_cst_0,
    val_main_call2_v4, val_main_v41_2, val_main_call2_cst_1, val_main_call2_v6, val_main_call2_v7, val_main_v41_1, val_main_v41_0, val_main_v43,
    val_main_v44, val_main_v45, val_main_call3_v0, val_main_call3_v1, val_main_call3_v2, val_main_v46, val_main_v47, val_main_v48, val_main_v49,
    val_main_v1, val_main_v3, val_main_v0]
  rw [ref_mix]
  rfl

theorem ref_g : val_main_v49 (F := Ideal) z s b w e d (ix2 ⟨n.val * 128 + i.val, by omega⟩ ⟨g.val * 256 + k.val, by omega⟩)
    = opening (z (ix2 ⟨n.val * 128 + i.val, by omega⟩ ⟨2048 + (g.val * 256 + k.val), by omega⟩))
      (z (ix2 ⟨n.val * 128 + i.val, by omega⟩ ⟨g.val * 256 + k.val, by omega⟩) * refMix z s b w e n i g k)
      (d (ix2 ⟨n.val * 128 + i.val, by omega⟩ ⟨g.val * 256 + k.val, by omega⟩)) := by
  pointwise [val_main_v2, val_main_v40, val_main_call2_v0, val_main_call2_v1, val_main_call2_cst, val_main_call2_v2, val_main_call2_v3, val_main_call2_cst_0,
    val_main_call2_v4, val_main_v41_2, val_main_call2_cst_1, val_main_call2_v6, val_main_call2_v7, val_main_v41_1, val_main_v41_0, val_main_v43,
    val_main_v44, val_main_v45, val_main_call3_v0, val_main_call3_v1, val_main_call3_v2, val_main_v46, val_main_v47, val_main_v48, val_main_v49,
    val_main_v1, val_main_v3, val_main_v0]
  simp only [ref_mix]
  rfl

end reference

open Cert.SguSidesRefIdeal.Read

/-- A block's mixed entry is the whole array's. -/
theorem block_mix (t : Fin cfg0.N) (i : Fin 128) (k : Fin 256) (g : Fin 4) : blockMix m c t i k g
    = refMix (V m c main_arg0) (V m c main_arg1) (V m c main_arg2) (V m c main_arg3) (V m c main_arg4) t i g k := by
  unfold blockMix
  rw [blk_s, blk_b, blk_w, blk_c]
  simp only [blk_v]
  rfl

/-- What the gated rows are sent back, after the call. -/
theorem arr_u : (dats m 0 c).arrAt 8 cfg0.N = val_main_v48 (F := Ideal) (V m c main_arg0) (V m c main_arg1) (V m c main_arg2) (V m c main_arg3)
    (V m c main_arg4) (V m c main_arg5) := by
  refine (dats m 0 c).arrAt_eq_of_covers 8 _ (by decide +kernel) fun t hf y => ?_
  blk_simp
  rw [after0_8]
  obtain ⟨i, k, rfl⟩ : ∃ (i : Fin 128) (k : Fin 1024), y = ix2 i k := ⟨y 0, y 1, by idx_vars y⟩
  obtain ⟨g, k, rfl⟩ := lanes k
  rw [emb_u]
  refine (block_u m c t i k g).trans ?_
  unfold toRow
  rw [blk_g, blk_d, block_mix]
  exact (ref_u _ _ _ _ _ _ t i g k).symm

/-- What the gate is sent back. -/
theorem arr_g : (dats m 0 c).arrAt 10 cfg0.N = val_main_v49 (F := Ideal) (V m c main_arg0) (V m c main_arg1) (V m c main_arg2) (V m c main_arg3)
    (V m c main_arg4) (V m c main_arg5) := by
  refine (dats m 0 c).arrAt_eq_of_covers 10 _ (by decide +kernel) fun t hf y => ?_
  blk_simp
  rw [after0_10]
  obtain ⟨i, k, rfl⟩ : ∃ (i : Fin 128) (k : Fin 1024), y = ix2 i k := ⟨y 0, y 1, by idx_vars y⟩
  obtain ⟨g, k, rfl⟩ := lanes k
  rw [emb_g]
  refine (block_g m c t i k g).trans ?_
  unfold toGate
  rw [blk_u, blk_g, blk_d, block_mix]
  exact (ref_g _ _ _ _ _ _ t i g k).symm

theorem frame_reference : Cert.quiescent_SguSidesRefIdeal (hSguSidesRefIdeal := Cert.SguSidesRefIdeal.Gen.facts) := fun m ρ _ =>
  (θ_run Cert.SguSidesRefIdeal.defs _ _).mono (fun r h => ⟨fun c => (h c).2.2, sem_eq_zero_of_no_sems (by decide) r.2⟩)
    (Cert.SguSidesRefIdeal.Value.run (F := Ideal) m ρ)

/-- The call and the plain gradient end with equal arrays. -/
theorem algebraic : Cert.algebraic_SguSidesIdeal_SguSidesRefIdeal (hSguSidesIdeal := Cert.SguSidesIdeal.Gen.facts)
    (hSguSidesRefIdeal := Cert.SguSidesRefIdeal.Gen.facts) := by
  intro m ρ m' ρ' _ hag
  refine ⟨_, _, (θ_run defs _ _).mono (fun r h c => ⟨(h c).1, (h c).2.2.1, (h c).2.2.2.2.2.2.2⟩) (Cert.SguSidesIdeal.Value.run_blocks m ρ), (θ_run Cert.SguSidesRefIdeal.defs _ _).mono (fun r h c =>
    ⟨(h c).1.trans ?_, (h c).2.1.trans ?_, (h c).2.2⟩) (Cert.SguSidesRefIdeal.Value.run (F := Ideal) m' ρ')⟩ <;>
    obtain ⟨e0, e1, e2, e3, e4, e5⟩ := hag c
  · rw [arr_u m c, val_main_v48_eq, e0, e1, e2, e3, e4, e5, V_main_arg0, V_main_arg1, V_main_arg2, V_main_arg3, V_main_arg4, V_main_arg5]
  · rw [arr_g m c, val_main_v49_eq, e0, e1, e2, e3, e4, e5, V_main_arg0, V_main_arg1, V_main_arg2, V_main_arg3, V_main_arg4, V_main_arg5]

end Cert.SguSidesTie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.CrossTie
public import proofs.«01_k».proof.Proof.Gen.InAb
public import proofs.«01_k».proof.Proof.Gen.InAb.Frame
public import proofs.«01_k».proof.Proof.Gen.InAbIdeal
public import proofs.«01_k».proof.Proof.Gen.InAbIdeal.Frame
public import proofs.«01_k».proof.Proof.Gen.InAbIdeal.Value
public import proofs.«01_k».proof.Proof.Gen.InAbRefIdeal
public import proofs.«01_k».proof.Proof.Gen.InAbRefIdeal.Run
public import proofs.«01_k».proof.Proof.Gen.InAbRefIdeal.Read
public import proofs.«01_k».proof.Proof.Gen.InAbDx
public import proofs.«01_k».proof.Proof.Gen.InAbDx.Frame
public import proofs.«01_k».proof.Proof.Gen.InAbDxIdeal
public import proofs.«01_k».proof.Proof.Gen.InAbDxIdeal.Frame
public import proofs.«01_k».proof.Proof.Gen.InAbDxIdeal.Value
public import proofs.«01_k».proof.Proof.Gen.InAbDxRefIdeal
public import proofs.«01_k».proof.Proof.Gen.InAbDxRefIdeal.Run
public import proofs.«01_k».proof.Proof.Gen.InAbDxRefIdeal.Read
public import proofs.«01_k».proof.Proof.Gen.InAbDw
public import proofs.«01_k».proof.Proof.Gen.InAbDw.Frame
public import proofs.«01_k».proof.Proof.Gen.InAbDwIdeal
public import proofs.«01_k».proof.Proof.Gen.InAbDwIdeal.Frame
public import proofs.«01_k».proof.Proof.Gen.InAbDwIdeal.Value
public import proofs.«01_k».proof.Proof.Gen.InAbDwRefIdeal
public import proofs.«01_k».proof.Proof.Gen.InAbDwRefIdeal.Run
public import proofs.«01_k».proof.Proof.Gen.InAbDwRefIdeal.Read

public import proofs.«01_k».proof.Proof.Gen.InCd
public import proofs.«01_k».proof.Proof.Gen.InCd.Frame
public import proofs.«01_k».proof.Proof.Gen.InCdIdeal
public import proofs.«01_k».proof.Proof.Gen.InCdIdeal.Frame
public import proofs.«01_k».proof.Proof.Gen.InCdIdeal.Value
public import proofs.«01_k».proof.Proof.Gen.InCdRefIdeal
public import proofs.«01_k».proof.Proof.Gen.InCdRefIdeal.Run
public import proofs.«01_k».proof.Proof.Gen.InCdRefIdeal.Read
public import proofs.«01_k».proof.Proof.Gen.InCdDx
public import proofs.«01_k».proof.Proof.Gen.InCdDx.Frame
public import proofs.«01_k».proof.Proof.Gen.InCdDxIdeal
public import proofs.«01_k».proof.Proof.Gen.InCdDxIdeal.Frame
public import proofs.«01_k».proof.Proof.Gen.InCdDxIdeal.Value
public import proofs.«01_k».proof.Proof.Gen.InCdDxRefIdeal
public import proofs.«01_k».proof.Proof.Gen.InCdDxRefIdeal.Run
public import proofs.«01_k».proof.Proof.Gen.InCdDxRefIdeal.Read
public import proofs.«01_k».proof.Proof.Gen.InCdDw
public import proofs.«01_k».proof.Proof.Gen.InCdDw.Frame
public import proofs.«01_k».proof.Proof.Gen.InCdDwIdeal
public import proofs.«01_k».proof.Proof.Gen.InCdDwIdeal.Frame
public import proofs.«01_k».proof.Proof.Gen.InCdDwIdeal.Value
public import proofs.«01_k».proof.Proof.Gen.InCdDwRefIdeal
public import proofs.«01_k».proof.Proof.Gen.InCdDwRefIdeal.Run
public import proofs.«01_k».proof.Proof.Gen.InCdDwRefIdeal.Read
public import proofs.«01_k».proof.Proof.Gen.OutAb
public import proofs.«01_k».proof.Proof.Gen.OutAb.Frame
public import proofs.«01_k».proof.Proof.Gen.OutAbIdeal
public import proofs.«01_k».proof.Proof.Gen.OutAbIdeal.Frame
public import proofs.«01_k».proof.Proof.Gen.OutAbIdeal.Value
public import proofs.«01_k».proof.Proof.Gen.OutAbRefIdeal
public import proofs.«01_k».proof.Proof.Gen.OutAbRefIdeal.Run
public import proofs.«01_k».proof.Proof.Gen.OutAbRefIdeal.Read
public import proofs.«01_k».proof.Proof.Gen.OutAbDx
public import proofs.«01_k».proof.Proof.Gen.OutAbDx.Frame
public import proofs.«01_k».proof.Proof.Gen.OutAbDxIdeal
public import proofs.«01_k».proof.Proof.Gen.OutAbDxIdeal.Frame
public import proofs.«01_k».proof.Proof.Gen.OutAbDxIdeal.Value
public import proofs.«01_k».proof.Proof.Gen.OutAbDxRefIdeal
public import proofs.«01_k».proof.Proof.Gen.OutAbDxRefIdeal.Run
public import proofs.«01_k».proof.Proof.Gen.OutAbDxRefIdeal.Read
public import proofs.«01_k».proof.Proof.Gen.OutAbDw
public import proofs.«01_k».proof.Proof.Gen.OutAbDw.Frame
public import proofs.«01_k».proof.Proof.Gen.OutAbDwIdeal
public import proofs.«01_k».proof.Proof.Gen.OutAbDwIdeal.Frame
public import proofs.«01_k».proof.Proof.Gen.OutAbDwIdeal.Value
public import proofs.«01_k».proof.Proof.Gen.OutAbDwRefIdeal
public import proofs.«01_k».proof.Proof.Gen.OutAbDwRefIdeal.Run
public import proofs.«01_k».proof.Proof.Gen.OutAbDwRefIdeal.Read
public import proofs.«01_k».proof.Proof.Gen.OutCd
public import proofs.«01_k».proof.Proof.Gen.OutCd.Frame
public import proofs.«01_k».proof.Proof.Gen.OutCdIdeal
public import proofs.«01_k».proof.Proof.Gen.OutCdIdeal.Frame
public import proofs.«01_k».proof.Proof.Gen.OutCdIdeal.Value
public import proofs.«01_k».proof.Proof.Gen.OutCdRefIdeal
public import proofs.«01_k».proof.Proof.Gen.OutCdRefIdeal.Run
public import proofs.«01_k».proof.Proof.Gen.OutCdRefIdeal.Read
public import proofs.«01_k».proof.Proof.Gen.OutCdDx
public import proofs.«01_k».proof.Proof.Gen.OutCdDx.Frame
public import proofs.«01_k».proof.Proof.Gen.OutCdDxIdeal
public import proofs.«01_k».proof.Proof.Gen.OutCdDxIdeal.Frame
public import proofs.«01_k».proof.Proof.Gen.OutCdDxIdeal.Value
public import proofs.«01_k».proof.Proof.Gen.OutCdDxRefIdeal
public import proofs.«01_k».proof.Proof.Gen.OutCdDxRefIdeal.Run
public import proofs.«01_k».proof.Proof.Gen.OutCdDxRefIdeal.Read
public import proofs.«01_k».proof.Proof.Gen.OutCdDw
public import proofs.«01_k».proof.Proof.Gen.OutCdDw.Frame
public import proofs.«01_k».proof.Proof.Gen.OutCdDwIdeal
public import proofs.«01_k».proof.Proof.Gen.OutCdDwIdeal.Frame
public import proofs.«01_k».proof.Proof.Gen.OutCdDwIdeal.Value
public import proofs.«01_k».proof.Proof.Gen.OutCdDwRefIdeal
public import proofs.«01_k».proof.Proof.Gen.OutCdDwRefIdeal.Run
public import proofs.«01_k».proof.Proof.Gen.OutCdDwRefIdeal.Read
public import proofs.«01_k».proof.Proof.Gen.Xq
public import proofs.«01_k».proof.Proof.Gen.Xq.Frame
public import proofs.«01_k».proof.Proof.Gen.XqIdeal
public import proofs.«01_k».proof.Proof.Gen.XqIdeal.Frame
public import proofs.«01_k».proof.Proof.Gen.XqIdeal.Value
public import proofs.«01_k».proof.Proof.Gen.XqRefIdeal
public import proofs.«01_k».proof.Proof.Gen.XqRefIdeal.Run
public import proofs.«01_k».proof.Proof.Gen.XqRefIdeal.Read
public import proofs.«01_k».proof.Proof.Gen.XqDx
public import proofs.«01_k».proof.Proof.Gen.XqDx.Frame
public import proofs.«01_k».proof.Proof.Gen.XqDxIdeal
public import proofs.«01_k».proof.Proof.Gen.XqDxIdeal.Frame
public import proofs.«01_k».proof.Proof.Gen.XqDxIdeal.Value
public import proofs.«01_k».proof.Proof.Gen.XqDxRefIdeal
public import proofs.«01_k».proof.Proof.Gen.XqDxRefIdeal.Run
public import proofs.«01_k».proof.Proof.Gen.XqDxRefIdeal.Read
public import proofs.«01_k».proof.Proof.Gen.XqDw
public import proofs.«01_k».proof.Proof.Gen.XqDw.Frame
public import proofs.«01_k».proof.Proof.Gen.XqDwIdeal
public import proofs.«01_k».proof.Proof.Gen.XqDwIdeal.Frame
public import proofs.«01_k».proof.Proof.Gen.XqDwIdeal.Value
public import proofs.«01_k».proof.Proof.Gen.XqDwRefIdeal
public import proofs.«01_k».proof.Proof.Gen.XqDwRefIdeal.Run
public import proofs.«01_k».proof.Proof.Gen.XqDwRefIdeal.Read
public import proofs.«01_k».proof.Proof.Gen.Xo
public import proofs.«01_k».proof.Proof.Gen.Xo.Frame
public import proofs.«01_k».proof.Proof.Gen.XoIdeal
public import proofs.«01_k».proof.Proof.Gen.XoIdeal.Frame
public import proofs.«01_k».proof.Proof.Gen.XoIdeal.Value
public import proofs.«01_k».proof.Proof.Gen.XoRefIdeal
public import proofs.«01_k».proof.Proof.Gen.XoRefIdeal.Run
public import proofs.«01_k».proof.Proof.Gen.XoRefIdeal.Read
public import proofs.«01_k».proof.Proof.Gen.XoDx
public import proofs.«01_k».proof.Proof.Gen.XoDx.Frame
public import proofs.«01_k».proof.Proof.Gen.XoDxIdeal
public import proofs.«01_k».proof.Proof.Gen.XoDxIdeal.Frame
public import proofs.«01_k».proof.Proof.Gen.XoDxIdeal.Value
public import proofs.«01_k».proof.Proof.Gen.XoDxRefIdeal
public import proofs.«01_k».proof.Proof.Gen.XoDxRefIdeal.Run
public import proofs.«01_k».proof.Proof.Gen.XoDxRefIdeal.Read
public import proofs.«01_k».proof.Proof.Gen.XoDw
public import proofs.«01_k».proof.Proof.Gen.XoDw.Frame
public import proofs.«01_k».proof.Proof.Gen.XoDwIdeal
public import proofs.«01_k».proof.Proof.Gen.XoDwIdeal.Frame
public import proofs.«01_k».proof.Proof.Gen.XoDwIdeal.Value
public import proofs.«01_k».proof.Proof.Gen.XoDwRefIdeal
public import proofs.«01_k».proof.Proof.Gen.XoDwRefIdeal.Run
public import proofs.«01_k».proof.Proof.Gen.XoDwRefIdeal.Read
public import proofs.«01_k».proof.Proof.StackFwd
public import proofs.«01_k».proof.Proof.StackDx
public import proofs.«01_k».proof.Proof.StackDw
public import proofs.«01_k».proof.Proof.PlainFwd
public import proofs.«01_k».proof.Proof.PlainDx
public import proofs.«01_k».proof.Proof.PlainDw
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.GluDx
public import proofs.«01_k».proof.Proof.Gen.GluDx.Frame
public import proofs.«01_k».proof.Proof.Gen.GluDxIdeal
public import proofs.«01_k».proof.Proof.Gen.GluDxIdeal.Frame
public import proofs.«01_k».proof.Proof.Gen.GluDxIdeal.Value
public import proofs.«01_k».proof.Proof.Gen.GluDxRefIdeal
public import proofs.«01_k».proof.Proof.Gen.GluDxRefIdeal.Run
public import proofs.«01_k».proof.Proof.Gen.GluDxRefIdeal.Read
public import proofs.«01_k».proof.Proof.Gen.GluDw
public import proofs.«01_k».proof.Proof.Gen.GluDw.Frame
public import proofs.«01_k».proof.Proof.Gen.GluDwIdeal
public import proofs.«01_k».proof.Proof.Gen.GluDwIdeal.Frame
public import proofs.«01_k».proof.Proof.Gen.GluDwIdeal.Value
public import proofs.«01_k».proof.Proof.Gen.GluDwRefIdeal
public import proofs.«01_k».proof.Proof.Gen.GluDwRefIdeal.Run
public import proofs.«01_k».proof.Proof.Gen.GluDwRefIdeal.Read
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.PoolDx
public import proofs.«01_k».proof.Proof.Gen.PoolDx.Frame
public import proofs.«01_k».proof.Proof.Gen.PoolDxIdeal
public import proofs.«01_k».proof.Proof.Gen.PoolDxIdeal.Frame
public import proofs.«01_k».proof.Proof.Gen.PoolDxIdeal.Value
public import proofs.«01_k».proof.Proof.Gen.PoolDxRefIdeal
public import proofs.«01_k».proof.Proof.Gen.PoolDxRefIdeal.Run
public import proofs.«01_k».proof.Proof.Gen.PoolDxRefIdeal.Read
public import proofs.«01_k».proof.Proof.Gen.PoolDw
public import proofs.«01_k».proof.Proof.Gen.PoolDw.Frame
public import proofs.«01_k».proof.Proof.Gen.PoolDwIdeal
public import proofs.«01_k».proof.Proof.Gen.PoolDwIdeal.Frame
public import proofs.«01_k».proof.Proof.Gen.PoolDwIdeal.Value
public import proofs.«01_k».proof.Proof.Gen.PoolDwRefIdeal
public import proofs.«01_k».proof.Proof.Gen.PoolDwRefIdeal.Run
public import proofs.«01_k».proof.Proof.Gen.PoolDwRefIdeal.Read
public import proofs.«01_k».proof.Proof.Gen.Xkv
public import proofs.«01_k».proof.Proof.Gen.Xkv.Frame
public import proofs.«01_k».proof.Proof.Gen.XkvIdeal
public import proofs.«01_k».proof.Proof.Gen.XkvIdeal.Frame
public import proofs.«01_k».proof.Proof.Gen.XkvIdeal.Value
public import proofs.«01_k».proof.Proof.Gen.XkvRefIdeal
public import proofs.«01_k».proof.Proof.Gen.XkvRefIdeal.Run
public import proofs.«01_k».proof.Proof.Gen.XkvRefIdeal.Read
public import proofs.«01_k».proof.Proof.Gen.XkvDx
public import proofs.«01_k».proof.Proof.Gen.XkvDx.Frame
public import proofs.«01_k».proof.Proof.Gen.XkvDxIdeal
public import proofs.«01_k».proof.Proof.Gen.XkvDxIdeal.Frame
public import proofs.«01_k».proof.Proof.Gen.XkvDxIdeal.Value
public import proofs.«01_k».proof.Proof.Gen.XkvDxRefIdeal
public import proofs.«01_k».proof.Proof.Gen.XkvDxRefIdeal.Run
public import proofs.«01_k».proof.Proof.Gen.XkvDxRefIdeal.Read
public import proofs.«01_k».proof.Proof.Gen.XkvDw
public import proofs.«01_k».proof.Proof.Gen.XkvDw.Frame
public import proofs.«01_k».proof.Proof.Gen.XkvDwIdeal
public import proofs.«01_k».proof.Proof.Gen.XkvDwIdeal.Frame
public import proofs.«01_k».proof.Proof.Gen.XkvDwIdeal.Value
public import proofs.«01_k».proof.Proof.Gen.XkvDwRefIdeal
public import proofs.«01_k».proof.Proof.Gen.XkvDwRefIdeal.Run
public import proofs.«01_k».proof.Proof.Gen.XkvDwRefIdeal.Read
public import proofs.«01_k».proof.Proof.Gen.RmsDx
public import proofs.«01_k».proof.Proof.Gen.RmsDx.Frame
public import proofs.«01_k».proof.Proof.Gen.RmsDxIdeal
public import proofs.«01_k».proof.Proof.Gen.RmsDxIdeal.Frame
public import proofs.«01_k».proof.Proof.Gen.RmsDxIdeal.Value
public import proofs.«01_k».proof.Proof.Gen.RmsDxRefIdeal
public import proofs.«01_k».proof.Proof.Gen.RmsDxRefIdeal.Run
public import proofs.«01_k».proof.Proof.Gen.RmsDxRefIdeal.Read
public import proofs.«01_k».proof.Proof.Gen.MemNormDg
public import proofs.«01_k».proof.Proof.Gen.MemNormDg.Frame
public import proofs.«01_k».proof.Proof.Gen.MemNormDgIdeal
public import proofs.«01_k».proof.Proof.Gen.MemNormDgIdeal.Frame
public import proofs.«01_k».proof.Proof.Gen.MemNormDgIdeal.Value
public import proofs.«01_k».proof.Proof.Gen.MemNormDgRefIdeal
public import proofs.«01_k».proof.Proof.Gen.MemNormDgRefIdeal.Run
public import proofs.«01_k».proof.Proof.Gen.MemNormDgRefIdeal.Read
public import proofs.«01_k».proof.Proof.Gen.GateAb
public import proofs.«01_k».proof.Proof.Gen.GateAb.Frame
public import proofs.«01_k».proof.Proof.Gen.GateAbIdeal
public import proofs.«01_k».proof.Proof.Gen.GateAbIdeal.Frame
public import proofs.«01_k».proof.Proof.Gen.GateAbIdeal.Value
public import proofs.«01_k».proof.Proof.Gen.GateAbRefIdeal
public import proofs.«01_k».proof.Proof.Gen.GateAbRefIdeal.Run
public import proofs.«01_k».proof.Proof.Gen.GateAbRefIdeal.Read
public import proofs.«01_k».proof.Proof.Gen.GluGate
public import proofs.«01_k».proof.Proof.Gen.GluGate.Frame
public import proofs.«01_k».proof.Proof.Gen.GluGateIdeal
public import proofs.«01_k».proof.Proof.Gen.GluGateIdeal.Frame
public import proofs.«01_k».proof.Proof.Gen.GluGateIdeal.Value
public import proofs.«01_k».proof.Proof.Gen.GluGateRefIdeal
public import proofs.«01_k».proof.Proof.Gen.GluGateRefIdeal.Run
public import proofs.«01_k».proof.Proof.Gen.GluGateRefIdeal.Read
public import proofs.«01_k».proof.Proof.Gen.Gelu
public import proofs.«01_k».proof.Proof.Gen.Gelu.Frame
public import proofs.«01_k».proof.Proof.Gen.GeluIdeal
public import proofs.«01_k».proof.Proof.Gen.GeluIdeal.Frame
public import proofs.«01_k».proof.Proof.Gen.GeluIdeal.Value
public import proofs.«01_k».proof.Proof.Gen.GeluRefIdeal
public import proofs.«01_k».proof.Proof.Gen.GeluRefIdeal.Run
public import proofs.«01_k».proof.Proof.Gen.GeluRefIdeal.Read
public import proofs.«01_k».proof.Proof.Gen.Bbar
public import proofs.«01_k».proof.Proof.Gen.Bbar.Frame
public import proofs.«01_k».proof.Proof.Gen.BbarIdeal
public import proofs.«01_k».proof.Proof.Gen.BbarIdeal.Frame
public import proofs.«01_k».proof.Proof.Gen.BbarIdeal.Value
public import proofs.«01_k».proof.Proof.Gen.BbarRefIdeal
public import proofs.«01_k».proof.Proof.Gen.BbarRefIdeal.Run
public import proofs.«01_k».proof.Proof.Gen.BbarRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.BranchFwd
public import proofs.«01_k».proof.Proof.BranchBwd
public import proofs.«01_k».proof.Proof.Memory
public import proofs.«01_k».proof.Proof.UnitGate
public import proofs.«01_k».proof.Proof.BranchGate
public import proofs.«01_k».proof.Proof.Norms
public import proofs.«01_k».proof.Proof.SkipGelu
public import proofs.«01_k».proof.Proof.StateParams
public import proofs.«01_k».proof.Proof.Gen.UDx
public import proofs.«01_k».proof.Proof.Gen.UDx.Frame
public import proofs.«01_k».proof.Proof.Gen.UDxIdeal
public import proofs.«01_k».proof.Proof.Gen.UDxIdeal.Frame
public import proofs.«01_k».proof.Proof.Gen.UDxIdeal.Value
public import proofs.«01_k».proof.Proof.Gen.UDxRefIdeal
public import proofs.«01_k».proof.Proof.Gen.UDxRefIdeal.Run
public import proofs.«01_k».proof.Proof.Gen.UDxRefIdeal.Read
public import proofs.«01_k».proof.Proof.Gen.UDw
public import proofs.«01_k».proof.Proof.Gen.UDw.Frame
public import proofs.«01_k».proof.Proof.Gen.UDwIdeal
public import proofs.«01_k».proof.Proof.Gen.UDwIdeal.Frame
public import proofs.«01_k».proof.Proof.Gen.UDwIdeal.Value
public import proofs.«01_k».proof.Proof.Gen.UDwRefIdeal
public import proofs.«01_k».proof.Proof.Gen.UDwRefIdeal.Run
public import proofs.«01_k».proof.Proof.Gen.UDwRefIdeal.Read
public import proofs.«01_k».proof.Proof.Gen.YDx
public import proofs.«01_k».proof.Proof.Gen.YDx.Frame
public import proofs.«01_k».proof.Proof.Gen.YDxIdeal
public import proofs.«01_k».proof.Proof.Gen.YDxIdeal.Frame
public import proofs.«01_k».proof.Proof.Gen.YDxIdeal.Value
public import proofs.«01_k».proof.Proof.Gen.YDxRefIdeal
public import proofs.«01_k».proof.Proof.Gen.YDxRefIdeal.Run
public import proofs.«01_k».proof.Proof.Gen.YDxRefIdeal.Read
public import proofs.«01_k».proof.Proof.Gen.YDw
public import proofs.«01_k».proof.Proof.Gen.YDw.Frame
public import proofs.«01_k».proof.Proof.Gen.YDwIdeal
public import proofs.«01_k».proof.Proof.Gen.YDwIdeal.Frame
public import proofs.«01_k».proof.Proof.Gen.YDwIdeal.Value
public import proofs.«01_k».proof.Proof.Gen.YDwRefIdeal
public import proofs.«01_k».proof.Proof.Gen.YDwRefIdeal.Run
public import proofs.«01_k».proof.Proof.Gen.YDwRefIdeal.Read
public import proofs.«01_k».proof.Proof.Gen.U
public import proofs.«01_k».proof.Proof.Gen.U.Frame
public import proofs.«01_k».proof.Proof.Gen.UIdeal
public import proofs.«01_k».proof.Proof.Gen.UIdeal.Frame
public import proofs.«01_k».proof.Proof.Gen.UIdeal.Value
public import proofs.«01_k».proof.Proof.Gen.URefIdeal
public import proofs.«01_k».proof.Proof.Gen.URefIdeal.Run
public import proofs.«01_k».proof.Proof.Gen.URefIdeal.Read
public import proofs.«01_k».proof.Proof.Gen.Y
public import proofs.«01_k».proof.Proof.Gen.Y.Frame
public import proofs.«01_k».proof.Proof.Gen.YIdeal
public import proofs.«01_k».proof.Proof.Gen.YIdeal.Frame
public import proofs.«01_k».proof.Proof.Gen.YIdeal.Value
public import proofs.«01_k».proof.Proof.Gen.YRefIdeal
public import proofs.«01_k».proof.Proof.Gen.YRefIdeal.Run
public import proofs.«01_k».proof.Proof.Gen.YRefIdeal.Read
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.RmsRefIdeal.Read
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemNormRefIdeal.Read
public import proofs.«01_k».proof.Proof.Gen.GateAbFwd
public import proofs.«01_k».proof.Proof.Gen.GateAbFwd.Frame
public import proofs.«01_k».proof.Proof.Gen.GateAbFwdIdeal
public import proofs.«01_k».proof.Proof.Gen.GateAbFwdIdeal.Frame
public import proofs.«01_k».proof.Proof.Gen.GateAbFwdIdeal.Value
public import proofs.«01_k».proof.Proof.Gen.GateAbFwdRefIdeal
public import proofs.«01_k».proof.Proof.Gen.GateAbFwdRefIdeal.Run
public import proofs.«01_k».proof.Proof.Gen.GateAbFwdRefIdeal.Read
public import proofs.«01_k».proof.Proof.Gen.GluGateFwd
public import proofs.«01_k».proof.Proof.Gen.GluGateFwd.Frame
public import proofs.«01_k».proof.Proof.Gen.GluGateFwdIdeal
public import proofs.«01_k».proof.Proof.Gen.GluGateFwdIdeal.Frame
public import proofs.«01_k».proof.Proof.Gen.GluGateFwdIdeal.Value
public import proofs.«01_k».proof.Proof.Gen.GluGateFwdRefIdeal
public import proofs.«01_k».proof.Proof.Gen.GluGateFwdRefIdeal.Run
public import proofs.«01_k».proof.Proof.Gen.GluGateFwdRefIdeal.Read
public import proofs.«01_k».proof.Proof.Gen.GeluFwd
public import proofs.«01_k».proof.Proof.Gen.GeluFwd.Frame
public import proofs.«01_k».proof.Proof.Gen.GeluFwdIdeal
public import proofs.«01_k».proof.Proof.Gen.GeluFwdIdeal.Frame
public import proofs.«01_k».proof.Proof.Gen.GeluFwdIdeal.Value
public import proofs.«01_k».proof.Proof.Gen.GeluFwdRefIdeal
public import proofs.«01_k».proof.Proof.Gen.GeluFwdRefIdeal.Run
public import proofs.«01_k».proof.Proof.Gen.GeluFwdRefIdeal.Read
public import proofs.«01_k».proof.Proof.Gen.BbarFwd
public import proofs.«01_k».proof.Proof.Gen.BbarFwd.Frame
public import proofs.«01_k».proof.Proof.Gen.BbarFwdIdeal
public import proofs.«01_k».proof.Proof.Gen.BbarFwdIdeal.Frame
public import proofs.«01_k».proof.Proof.Gen.BbarFwdIdeal.Value
public import proofs.«01_k».proof.Proof.Gen.BbarFwdRefIdeal
public import proofs.«01_k».proof.Proof.Gen.BbarFwdRefIdeal.Run
public import proofs.«01_k».proof.Proof.Gen.BbarFwdRefIdeal.Read
public import proofs.«01_k».proof.Proof.Gen.PrepFwd
public import proofs.«01_k».proof.Proof.Gen.PrepFwd.Frame
public import proofs.«01_k».proof.Proof.Gen.PrepFwdIdeal
public import proofs.«01_k».proof.Proof.Gen.PrepFwdIdeal.Frame
public import proofs.«01_k».proof.Proof.Gen.PrepFwdIdeal.Value
public import proofs.«01_k».proof.Proof.Gen.PrepFwdRefIdeal
public import proofs.«01_k».proof.Proof.Gen.PrepFwdRefIdeal.Run
public import proofs.«01_k».proof.Proof.Gen.PrepFwdRefIdeal.Read
public import proofs.«01_k».proof.Proof.NormsFwd
public import proofs.«01_k».proof.Proof.GatesFwd
public import proofs.«01_k».proof.Proof.StateFwd
public import proofs.«01_k».proof.Proof.SlabDx
public import proofs.«01_k».proof.Proof.SlabDw
public import proofs.«01_k».proof.Proof.SlabFwd
public import proofs.«01_k».proof.Proof.Gen.SguFwd
public import proofs.«01_k».proof.Proof.Gen.SguFwd.Frame
public import proofs.«01_k».proof.Proof.Gen.SguFwdIdeal
public import proofs.«01_k».proof.Proof.Gen.SguFwdIdeal.Frame
public import proofs.«01_k».proof.Proof.Gen.SguFwdIdeal.Value
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.SpatialFwd
public import proofs.«01_k».proof.Proof.Gen.SguSides
public import proofs.«01_k».proof.Proof.Gen.SguSides.Frame
public import proofs.«01_k».proof.Proof.Gen.SguSidesIdeal
public import proofs.«01_k».proof.Proof.Gen.SguSidesIdeal.Frame
public import proofs.«01_k».proof.Proof.Gen.SguSidesIdeal.Value
public import proofs.«01_k».proof.Proof.Gen.SguSidesRefIdeal
public import proofs.«01_k».proof.Proof.Gen.SguSidesRefIdeal.Run
public import proofs.«01_k».proof.Proof.Gen.SguSidesRefIdeal.Read
public import proofs.«01_k».proof.Proof.SpatialBwd
public import Idealize.ShloMosaic.Adequacy
public import Idealize.ShloMosaic.Init

@[expose] public section

noncomputable section

namespace Cert.Proof

open Idealize.ShloMosaic Idealize.SL.Sem Cert.Kernel

/-- The reference's frame: its generated run read at the arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.InAb.Gen.facts, Cert.InAbIdeal.Gen.facts, Cert.InAbRefIdeal.Gen.facts,
  Cert.InAbDx.Gen.facts, Cert.InAbDxIdeal.Gen.facts, Cert.InAbDxRefIdeal.Gen.facts,
  Cert.InAbDw.Gen.facts, Cert.InAbDwIdeal.Gen.facts, Cert.InAbDwRefIdeal.Gen.facts,
  Cert.InCd.Gen.facts, Cert.InCdIdeal.Gen.facts, Cert.InCdRefIdeal.Gen.facts,
  Cert.InCdDx.Gen.facts, Cert.InCdDxIdeal.Gen.facts, Cert.InCdDxRefIdeal.Gen.facts,
  Cert.InCdDw.Gen.facts, Cert.InCdDwIdeal.Gen.facts, Cert.InCdDwRefIdeal.Gen.facts,
  Cert.OutAb.Gen.facts, Cert.OutAbIdeal.Gen.facts, Cert.OutAbRefIdeal.Gen.facts,
  Cert.OutAbDx.Gen.facts, Cert.OutAbDxIdeal.Gen.facts, Cert.OutAbDxRefIdeal.Gen.facts,
  Cert.OutAbDw.Gen.facts, Cert.OutAbDwIdeal.Gen.facts, Cert.OutAbDwRefIdeal.Gen.facts,
  Cert.OutCd.Gen.facts, Cert.OutCdIdeal.Gen.facts, Cert.OutCdRefIdeal.Gen.facts,
  Cert.OutCdDx.Gen.facts, Cert.OutCdDxIdeal.Gen.facts, Cert.OutCdDxRefIdeal.Gen.facts,
  Cert.OutCdDw.Gen.facts, Cert.OutCdDwIdeal.Gen.facts, Cert.OutCdDwRefIdeal.Gen.facts,
  Cert.Xq.Gen.facts, Cert.XqIdeal.Gen.facts, Cert.XqRefIdeal.Gen.facts,
  Cert.XqDx.Gen.facts, Cert.XqDxIdeal.Gen.facts, Cert.XqDxRefIdeal.Gen.facts,
  Cert.XqDw.Gen.facts, Cert.XqDwIdeal.Gen.facts, Cert.XqDwRefIdeal.Gen.facts,
  Cert.Xo.Gen.facts, Cert.XoIdeal.Gen.facts, Cert.XoRefIdeal.Gen.facts,
  Cert.XoDx.Gen.facts, Cert.XoDxIdeal.Gen.facts, Cert.XoDxRefIdeal.Gen.facts,
  Cert.XoDw.Gen.facts, Cert.XoDwIdeal.Gen.facts, Cert.XoDwRefIdeal.Gen.facts,
  Cert.Glu.Gen.facts, Cert.GluIdeal.Gen.facts, Cert.GluRefIdeal.Gen.facts,
  Cert.GluDx.Gen.facts, Cert.GluDxIdeal.Gen.facts, Cert.GluDxRefIdeal.Gen.facts,
  Cert.GluDw.Gen.facts, Cert.GluDwIdeal.Gen.facts, Cert.GluDwRefIdeal.Gen.facts,
  Cert.Pool.Gen.facts, Cert.PoolIdeal.Gen.facts, Cert.PoolRefIdeal.Gen.facts,
  Cert.PoolDx.Gen.facts, Cert.PoolDxIdeal.Gen.facts, Cert.PoolDxRefIdeal.Gen.facts,
  Cert.PoolDw.Gen.facts, Cert.PoolDwIdeal.Gen.facts, Cert.PoolDwRefIdeal.Gen.facts,
  Cert.Xkv.Gen.facts, Cert.XkvIdeal.Gen.facts, Cert.XkvRefIdeal.Gen.facts,
  Cert.XkvDx.Gen.facts, Cert.XkvDxIdeal.Gen.facts, Cert.XkvDxRefIdeal.Gen.facts,
  Cert.XkvDw.Gen.facts, Cert.XkvDwIdeal.Gen.facts, Cert.XkvDwRefIdeal.Gen.facts,
  Cert.RmsDx.Gen.facts, Cert.RmsDxIdeal.Gen.facts, Cert.RmsDxRefIdeal.Gen.facts,
  Cert.MemNormDg.Gen.facts, Cert.MemNormDgIdeal.Gen.facts, Cert.MemNormDgRefIdeal.Gen.facts,
  Cert.GateAb.Gen.facts, Cert.GateAbIdeal.Gen.facts, Cert.GateAbRefIdeal.Gen.facts,
  Cert.GluGate.Gen.facts, Cert.GluGateIdeal.Gen.facts, Cert.GluGateRefIdeal.Gen.facts,
  Cert.Gelu.Gen.facts, Cert.GeluIdeal.Gen.facts, Cert.GeluRefIdeal.Gen.facts,
  Cert.Bbar.Gen.facts, Cert.BbarIdeal.Gen.facts, Cert.BbarRefIdeal.Gen.facts,
  Cert.Prep.Gen.facts, Cert.PrepIdeal.Gen.facts, Cert.PrepRefIdeal.Gen.facts,
  Cert.UDx.Gen.facts, Cert.UDxIdeal.Gen.facts, Cert.UDxRefIdeal.Gen.facts,
  Cert.UDw.Gen.facts, Cert.UDwIdeal.Gen.facts, Cert.UDwRefIdeal.Gen.facts,
  Cert.YDx.Gen.facts, Cert.YDxIdeal.Gen.facts, Cert.YDxRefIdeal.Gen.facts,
  Cert.YDw.Gen.facts, Cert.YDwIdeal.Gen.facts, Cert.YDwRefIdeal.Gen.facts,
  Cert.U.Gen.facts, Cert.UIdeal.Gen.facts, Cert.URefIdeal.Gen.facts,
  Cert.Y.Gen.facts, Cert.YIdeal.Gen.facts, Cert.YRefIdeal.Gen.facts,
  Cert.Rms.Gen.facts, Cert.RmsIdeal.Gen.facts, Cert.RmsRefIdeal.Gen.facts,
  Cert.MemNorm.Gen.facts, Cert.MemNormIdeal.Gen.facts, Cert.MemNormRefIdeal.Gen.facts,
  Cert.GateAbFwd.Gen.facts, Cert.GateAbFwdIdeal.Gen.facts, Cert.GateAbFwdRefIdeal.Gen.facts,
  Cert.GluGateFwd.Gen.facts, Cert.GluGateFwdIdeal.Gen.facts, Cert.GluGateFwdRefIdeal.Gen.facts,
  Cert.GeluFwd.Gen.facts, Cert.GeluFwdIdeal.Gen.facts, Cert.GeluFwdRefIdeal.Gen.facts,
  Cert.BbarFwd.Gen.facts, Cert.BbarFwdIdeal.Gen.facts, Cert.BbarFwdRefIdeal.Gen.facts,
  Cert.PrepFwd.Gen.facts, Cert.PrepFwdIdeal.Gen.facts, Cert.PrepFwdRefIdeal.Gen.facts,
  Cert.SguFwd.Gen.facts, Cert.SguFwdIdeal.Gen.facts, Cert.SguFwdRefIdeal.Gen.facts,
  Cert.SguSides.Gen.facts, Cert.SguSidesIdeal.Gen.facts, Cert.SguSidesRefIdeal.Gen.facts,
  Cert.CrossTie.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.InAb.Gen.frame m ρ, fun m ρ _ => Cert.InAbIdeal.Gen.frame m ρ, Cert.InAbTie.frame_reference,
  fun m ρ _ => Cert.InAbDx.Gen.frame m ρ, fun m ρ _ => Cert.InAbDxIdeal.Gen.frame m ρ, Cert.InAbDxTie.frame_reference,
  fun m ρ _ => Cert.InAbDw.Gen.frame m ρ, fun m ρ _ => Cert.InAbDwIdeal.Gen.frame m ρ, Cert.InAbDwTie.frame_reference,
  fun m ρ _ => Cert.InCd.Gen.frame m ρ, fun m ρ _ => Cert.InCdIdeal.Gen.frame m ρ, Cert.InCdTie.frame_reference,
  fun m ρ _ => Cert.InCdDx.Gen.frame m ρ, fun m ρ _ => Cert.InCdDxIdeal.Gen.frame m ρ, Cert.InCdDxTie.frame_reference,
  fun m ρ _ => Cert.InCdDw.Gen.frame m ρ, fun m ρ _ => Cert.InCdDwIdeal.Gen.frame m ρ, Cert.InCdDwTie.frame_reference,
  fun m ρ _ => Cert.OutAb.Gen.frame m ρ, fun m ρ _ => Cert.OutAbIdeal.Gen.frame m ρ, Cert.OutAbTie.frame_reference,
  fun m ρ _ => Cert.OutAbDx.Gen.frame m ρ, fun m ρ _ => Cert.OutAbDxIdeal.Gen.frame m ρ, Cert.OutAbDxTie.frame_reference,
  fun m ρ _ => Cert.OutAbDw.Gen.frame m ρ, fun m ρ _ => Cert.OutAbDwIdeal.Gen.frame m ρ, Cert.OutAbDwTie.frame_reference,
  fun m ρ _ => Cert.OutCd.Gen.frame m ρ, fun m ρ _ => Cert.OutCdIdeal.Gen.frame m ρ, Cert.OutCdTie.frame_reference,
  fun m ρ _ => Cert.OutCdDx.Gen.frame m ρ, fun m ρ _ => Cert.OutCdDxIdeal.Gen.frame m ρ, Cert.OutCdDxTie.frame_reference,
  fun m ρ _ => Cert.OutCdDw.Gen.frame m ρ, fun m ρ _ => Cert.OutCdDwIdeal.Gen.frame m ρ, Cert.OutCdDwTie.frame_reference,
  fun m ρ _ => Cert.Xq.Gen.frame m ρ, fun m ρ _ => Cert.XqIdeal.Gen.frame m ρ, Cert.XqTie.frame_reference,
  fun m ρ _ => Cert.XqDx.Gen.frame m ρ, fun m ρ _ => Cert.XqDxIdeal.Gen.frame m ρ, Cert.XqDxTie.frame_reference,
  fun m ρ _ => Cert.XqDw.Gen.frame m ρ, fun m ρ _ => Cert.XqDwIdeal.Gen.frame m ρ, Cert.XqDwTie.frame_reference,
  fun m ρ _ => Cert.Xo.Gen.frame m ρ, fun m ρ _ => Cert.XoIdeal.Gen.frame m ρ, Cert.XoTie.frame_reference,
  fun m ρ _ => Cert.XoDx.Gen.frame m ρ, fun m ρ _ => Cert.XoDxIdeal.Gen.frame m ρ, Cert.XoDxTie.frame_reference,
  fun m ρ _ => Cert.XoDw.Gen.frame m ρ, fun m ρ _ => Cert.XoDwIdeal.Gen.frame m ρ, Cert.XoDwTie.frame_reference,
  fun m ρ _ => Cert.Glu.Gen.frame m ρ, fun m ρ _ => Cert.GluIdeal.Gen.frame m ρ, Cert.GluTie.frame_reference,
  fun m ρ _ => Cert.GluDx.Gen.frame m ρ, fun m ρ _ => Cert.GluDxIdeal.Gen.frame m ρ, Cert.GluDxTie.frame_reference,
  fun m ρ _ => Cert.GluDw.Gen.frame m ρ, fun m ρ _ => Cert.GluDwIdeal.Gen.frame m ρ, Cert.GluDwTie.frame_reference,
  fun m ρ _ => Cert.Pool.Gen.frame m ρ, fun m ρ _ => Cert.PoolIdeal.Gen.frame m ρ, Cert.PoolTie.frame_reference,
  fun m ρ _ => Cert.PoolDx.Gen.frame m ρ, fun m ρ _ => Cert.PoolDxIdeal.Gen.frame m ρ, Cert.PoolDxTie.frame_reference,
  fun m ρ _ => Cert.PoolDw.Gen.frame m ρ, fun m ρ _ => Cert.PoolDwIdeal.Gen.frame m ρ, Cert.PoolDwTie.frame_reference,
  fun m ρ _ => Cert.Xkv.Gen.frame m ρ, fun m ρ _ => Cert.XkvIdeal.Gen.frame m ρ, Cert.XkvTie.frame_reference,
  fun m ρ _ => Cert.XkvDx.Gen.frame m ρ, fun m ρ _ => Cert.XkvDxIdeal.Gen.frame m ρ, Cert.XkvDxTie.frame_reference,
  fun m ρ _ => Cert.XkvDw.Gen.frame m ρ, fun m ρ _ => Cert.XkvDwIdeal.Gen.frame m ρ, Cert.XkvDwTie.frame_reference,
  fun m ρ _ => Cert.RmsDx.Gen.frame m ρ, fun m ρ _ => Cert.RmsDxIdeal.Gen.frame m ρ, Cert.RmsDxTie.frame_reference,
  fun m ρ _ => Cert.MemNormDg.Gen.frame m ρ, fun m ρ _ => Cert.MemNormDgIdeal.Gen.frame m ρ, Cert.MemNormDgTie.frame_reference,
  fun m ρ _ => Cert.GateAb.Gen.frame m ρ, fun m ρ _ => Cert.GateAbIdeal.Gen.frame m ρ, Cert.GateAbTie.frame_reference,
  fun m ρ _ => Cert.GluGate.Gen.frame m ρ, fun m ρ _ => Cert.GluGateIdeal.Gen.frame m ρ, Cert.GluGateTie.frame_reference,
  fun m ρ _ => Cert.Gelu.Gen.frame m ρ, fun m ρ _ => Cert.GeluIdeal.Gen.frame m ρ, Cert.GeluTie.frame_reference,
  fun m ρ _ => Cert.Bbar.Gen.frame m ρ, fun m ρ _ => Cert.BbarIdeal.Gen.frame m ρ, Cert.BbarTie.frame_reference,
  fun m ρ _ => Cert.Prep.Gen.frame m ρ, fun m ρ _ => Cert.PrepIdeal.Gen.frame m ρ, Cert.PrepTie.frame_reference,
  fun m ρ _ => Cert.UDx.Gen.frame m ρ, fun m ρ _ => Cert.UDxIdeal.Gen.frame m ρ, Cert.UDxTie.frame_reference,
  fun m ρ _ => Cert.UDw.Gen.frame m ρ, fun m ρ _ => Cert.UDwIdeal.Gen.frame m ρ, Cert.UDwTie.frame_reference,
  fun m ρ _ => Cert.YDx.Gen.frame m ρ, fun m ρ _ => Cert.YDxIdeal.Gen.frame m ρ, Cert.YDxTie.frame_reference,
  fun m ρ _ => Cert.YDw.Gen.frame m ρ, fun m ρ _ => Cert.YDwIdeal.Gen.frame m ρ, Cert.YDwTie.frame_reference,
  fun m ρ _ => Cert.U.Gen.frame m ρ, fun m ρ _ => Cert.UIdeal.Gen.frame m ρ, Cert.UTie.frame_reference,
  fun m ρ _ => Cert.Y.Gen.frame m ρ, fun m ρ _ => Cert.YIdeal.Gen.frame m ρ, Cert.YTie.frame_reference,
  fun m ρ _ => Cert.Rms.Gen.frame m ρ, fun m ρ _ => Cert.RmsIdeal.Gen.frame m ρ, Cert.RmsTie.frame_reference,
  fun m ρ _ => Cert.MemNorm.Gen.frame m ρ, fun m ρ _ => Cert.MemNormIdeal.Gen.frame m ρ, Cert.MemNormTie.frame_reference,
  fun m ρ _ => Cert.GateAbFwd.Gen.frame m ρ, fun m ρ _ => Cert.GateAbFwdIdeal.Gen.frame m ρ, Cert.GateAbFwdTie.frame_reference,
  fun m ρ _ => Cert.GluGateFwd.Gen.frame m ρ, fun m ρ _ => Cert.GluGateFwdIdeal.Gen.frame m ρ, Cert.GluGateFwdTie.frame_reference,
  fun m ρ _ => Cert.GeluFwd.Gen.frame m ρ, fun m ρ _ => Cert.GeluFwdIdeal.Gen.frame m ρ, Cert.GeluFwdTie.frame_reference,
  fun m ρ _ => Cert.BbarFwd.Gen.frame m ρ, fun m ρ _ => Cert.BbarFwdIdeal.Gen.frame m ρ, Cert.BbarFwdTie.frame_reference,
  fun m ρ _ => Cert.PrepFwd.Gen.frame m ρ, fun m ρ _ => Cert.PrepFwdIdeal.Gen.frame m ρ, Cert.PrepFwdTie.frame_reference,
  fun m ρ _ => Cert.SguFwd.Gen.frame m ρ, fun m ρ _ => Cert.SguFwdIdeal.Gen.frame m ρ, Cert.SguFwdTie.frame_reference,
  fun m ρ _ => Cert.SguSides.Gen.frame m ρ, fun m ρ _ => Cert.SguSidesIdeal.Gen.frame m ρ, Cert.SguSidesTie.frame_reference,
  trivial, Cert.CrossTie.algebraic Cert.CrossTie.preFacts,
  trivial, Cert.InAbTie.algebraic,
  trivial, Cert.InAbDxTie.algebraic,
  trivial, Cert.InAbDwTie.algebraic,
  trivial, Cert.InCdTie.algebraic,
  trivial, Cert.InCdDxTie.algebraic,
  trivial, Cert.InCdDwTie.algebraic,
  trivial, Cert.OutAbTie.algebraic,
  trivial, Cert.OutAbDxTie.algebraic,
  trivial, Cert.OutAbDwTie.algebraic,
  trivial, Cert.OutCdTie.algebraic,
  trivial, Cert.OutCdDxTie.algebraic,
  trivial, Cert.OutCdDwTie.algebraic,
  trivial, Cert.XqTie.algebraic,
  trivial, Cert.XqDxTie.algebraic,
  trivial, Cert.XqDwTie.algebraic,
  trivial, Cert.XoTie.algebraic,
  trivial, Cert.XoDxTie.algebraic,
  trivial, Cert.XoDwTie.algebraic,
  trivial, Cert.GluTie.algebraic,
  trivial, Cert.GluDxTie.algebraic,
  trivial, Cert.GluDwTie.algebraic,
  trivial, Cert.PoolTie.algebraic,
  trivial, Cert.PoolDxTie.algebraic,
  trivial, Cert.PoolDwTie.algebraic,
  trivial, Cert.XkvTie.algebraic,
  trivial, Cert.XkvDxTie.algebraic,
  trivial, Cert.XkvDwTie.algebraic,
  trivial, Cert.RmsDxTie.algebraic,
  trivial, Cert.MemNormDgTie.algebraic,
  trivial, Cert.GateAbTie.algebraic,
  trivial, Cert.GluGateTie.algebraic,
  trivial, Cert.GeluTie.algebraic,
  trivial, Cert.BbarTie.algebraic,
  trivial, Cert.PrepTie.algebraic,
  trivial, Cert.UDxTie.algebraic,
  trivial, Cert.UDwTie.algebraic,
  trivial, Cert.YDxTie.algebraic,
  trivial, Cert.YDwTie.algebraic,
  trivial, Cert.UTie.algebraic,
  trivial, Cert.YTie.algebraic,
  trivial, Cert.RmsTie.algebraic,
  trivial, Cert.MemNormTie.algebraic,
  trivial, Cert.GateAbFwdTie.algebraic,
  trivial, Cert.GluGateFwdTie.algebraic,
  trivial, Cert.GeluFwdTie.algebraic,
  trivial, Cert.BbarFwdTie.algebraic,
  trivial, Cert.PrepFwdTie.algebraic,
  trivial, Cert.SguFwdTie.algebraic,
  trivial, Cert.SguSidesTie.algebraic⟩

end Cert.Proof

end
